-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3)
      ∧ r.2.mem ((c.tc : Thread Cert.Kernel30.nD Cert.Kernel30.τ).loc Cert.Kernel30.main_arg4) = m ((c.tc : Thread Cert.Kernel30.nD Cert.Kernel30.τ).loc Cert.Kernel30.main_arg4)
      ∧ r.2.mem ((c.tc : Thread Cert.Kernel30.nD Cert.Kernel30.τ).loc Cert.Kernel30.main_arg5) = m ((c.tc : Thread Cert.Kernel30.nD Cert.Kernel30.τ).loc Cert.Kernel30.main_arg5)
      ∧ r.2.mem ((c.tc : Thread Cert.Kernel30.nD Cert.Kernel30.τ).loc Cert.Kernel30.main_arg6) = m ((c.tc : Thread Cert.Kernel30.nD Cert.Kernel30.τ).loc Cert.Kernel30.main_arg6)
      ∧ r.2.mem ((c.tc : Thread Cert.Kernel30.nD Cert.Kernel30.τ).loc Cert.Kernel30.main_arg7) = m ((c.tc : Thread Cert.Kernel30.nD Cert.Kernel30.τ).loc Cert.Kernel30.main_arg7))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
      ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5)
      ∧ r.2.mem ((c.tc : Thread Cert.Kernel30Ideal.nD Cert.Kernel30Ideal.τ).loc Cert.Kernel30Ideal.main_arg6) = m ((c.tc : Thread Cert.Kernel30Ideal.nD Cert.Kernel30Ideal.τ).loc Cert.Kernel30Ideal.main_arg6)
      ∧ r.2.mem ((c.tc : Thread Cert.Kernel30Ideal.nD Cert.Kernel30Ideal.τ).loc Cert.Kernel30Ideal.main_arg7) = m ((c.tc : Thread Cert.Kernel30Ideal.nD Cert.Kernel30Ideal.τ).loc Cert.Kernel30Ideal.main_arg7))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4)
      ∧ r.2.mem ((c.tc : Thread Cert.Reference30Ideal.nD Cert.Reference30Ideal.τ).loc Cert.Reference30Ideal.main_arg5) = m ((c.tc : Thread Cert.Reference30Ideal.nD Cert.Reference30Ideal.τ).loc Cert.Reference30Ideal.main_arg5)
      ∧ r.2.mem ((c.tc : Thread Cert.Reference30Ideal.nD Cert.Reference30Ideal.τ).loc Cert.Reference30Ideal.main_arg6) = m ((c.tc : Thread Cert.Reference30Ideal.nD Cert.Reference30Ideal.τ).loc Cert.Reference30Ideal.main_arg6)
      ∧ r.2.mem ((c.tc : Thread Cert.Reference30Ideal.nD Cert.Reference30Ideal.τ).loc Cert.Reference30Ideal.main_arg7) = m ((c.tc : Thread Cert.Reference30Ideal.nD Cert.Reference30Ideal.τ).loc Cert.Reference30Ideal.main_arg7))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2)
      ∧ r.2.mem ((c.tc : Thread Cert.Kernel41.nD Cert.Kernel41.τ).loc Cert.Kernel41.main_arg3) = m ((c.tc : Thread Cert.Kernel41.nD Cert.Kernel41.τ).loc Cert.Kernel41.main_arg3))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
      ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2)
      ∧ r.2.mem ((c.tc : Thread Cert.Reference41Ideal.nD Cert.Reference41Ideal.τ).loc Cert.Reference41Ideal.main_arg3) = m ((c.tc : Thread Cert.Reference41Ideal.nD Cert.Reference41Ideal.τ).loc Cert.Reference41Ideal.main_arg3))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2)
      ∧ r.2.mem ((c.tc : Thread Cert.Kernel42.nD Cert.Kernel42.τ).loc Cert.Kernel42.main_arg3) = m ((c.tc : Thread Cert.Kernel42.nD Cert.Kernel42.τ).loc Cert.Kernel42.main_arg3))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
      ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2)
      ∧ r.2.mem ((c.tc : Thread Cert.Reference42Ideal.nD Cert.Reference42Ideal.τ).loc Cert.Reference42Ideal.main_arg3) = m ((c.tc : Thread Cert.Reference42Ideal.nD Cert.Reference42Ideal.τ).loc Cert.Reference42Ideal.main_arg3))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1)
      ∧ r.2.mem ((c.tc : Thread Cert.Kernel43.nD Cert.Kernel43.τ).loc Cert.Kernel43.main_arg2) = m ((c.tc : Thread Cert.Kernel43.nD Cert.Kernel43.τ).loc Cert.Kernel43.main_arg2)
      ∧ r.2.mem ((c.tc : Thread Cert.Kernel43.nD Cert.Kernel43.τ).loc Cert.Kernel43.main_arg3) = m ((c.tc : Thread Cert.Kernel43.nD Cert.Kernel43.τ).loc Cert.Kernel43.main_arg3))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
      ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
      ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1)
      ∧ r.2.mem ((c.tc : Thread Cert.Reference43Ideal.nD Cert.Reference43Ideal.τ).loc Cert.Reference43Ideal.main_arg2) = m ((c.tc : Thread Cert.Reference43Ideal.nD Cert.Reference43Ideal.τ).loc Cert.Reference43Ideal.main_arg2)
      ∧ r.2.mem ((c.tc : Thread Cert.Reference43Ideal.nD Cert.Reference43Ideal.τ).loc Cert.Reference43Ideal.main_arg3) = m ((c.tc : Thread Cert.Reference43Ideal.nD Cert.Reference43Ideal.τ).loc Cert.Reference43Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v9) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v1) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v61) = v0 c
          ∧ r.2.mem ((c.tc : Thread Cert.Reference25Ideal.nD Cert.Reference25Ideal.τ).loc Cert.Reference25Ideal.main_v62) = v1 c
          ∧ r.2.mem ((c.tc : Thread Cert.Reference25Ideal.nD Cert.Reference25Ideal.τ).loc Cert.Reference25Ideal.main_v35) = v2 c
          ∧ r.2.mem ((c.tc : Thread Cert.Reference25Ideal.nD Cert.Reference25Ideal.τ).loc Cert.Reference25Ideal.main_v32) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v69) = v0 c
          ∧ r.2.mem ((c.tc : Thread Cert.Reference26Ideal.nD Cert.Reference26Ideal.τ).loc Cert.Reference26Ideal.main_v68) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v49) = v0 c
          ∧ r.2.mem ((c.tc : Thread Cert.Reference27Ideal.nD Cert.Reference27Ideal.τ).loc Cert.Reference27Ideal.main_v27) = v1 c
          ∧ r.2.mem ((c.tc : Thread Cert.Reference27Ideal.nD Cert.Reference27Ideal.τ).loc Cert.Reference27Ideal.main_v34) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v22) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v22) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)
      ∧ m' ((c.tc : Thread Cert.Reference30Ideal.nD Cert.Reference30Ideal.τ).loc Cert.Reference30Ideal.main_arg4) = m ((c.tc : Thread Cert.Kernel30Ideal.nD Cert.Kernel30Ideal.τ).loc Cert.Kernel30Ideal.main_arg4)
      ∧ m' ((c.tc : Thread Cert.Reference30Ideal.nD Cert.Reference30Ideal.τ).loc Cert.Reference30Ideal.main_arg5) = m ((c.tc : Thread Cert.Kernel30Ideal.nD Cert.Kernel30Ideal.τ).loc Cert.Kernel30Ideal.main_arg5)
      ∧ m' ((c.tc : Thread Cert.Reference30Ideal.nD Cert.Reference30Ideal.τ).loc Cert.Reference30Ideal.main_arg6) = m ((c.tc : Thread Cert.Kernel30Ideal.nD Cert.Kernel30Ideal.τ).loc Cert.Kernel30Ideal.main_arg6)
      ∧ m' ((c.tc : Thread Cert.Reference30Ideal.nD Cert.Reference30Ideal.τ).loc Cert.Reference30Ideal.main_arg7) = m ((c.tc : Thread Cert.Kernel30Ideal.nD Cert.Kernel30Ideal.τ).loc Cert.Kernel30Ideal.main_arg7)) →
    ∃ (v0 : (c : Dev Cert.Kernel30Ideal.nD) → Buf (Elt Ideal) ((c.tc : Thread Cert.Kernel30Ideal.nD Cert.Kernel30Ideal.τ).loc Cert.Kernel30Ideal.main_v4_0)) (v1 : (c : Dev Cert.Kernel30Ideal.nD) → Buf (Elt Ideal) ((c.tc : Thread Cert.Kernel30Ideal.nD Cert.Kernel30Ideal.τ).loc Cert.Kernel30Ideal.main_v4_1)) (v2 : (c : Dev Cert.Kernel30Ideal.nD) → Buf (Elt Ideal) ((c.tc : Thread Cert.Kernel30Ideal.nD Cert.Kernel30Ideal.τ).loc Cert.Kernel30Ideal.main_v4_2)) (v3 : (c : Dev Cert.Kernel30Ideal.nD) → Buf (Elt Ideal) ((c.tc : Thread Cert.Kernel30Ideal.nD Cert.Kernel30Ideal.τ).loc Cert.Kernel30Ideal.main_v4_3)) (v4 : (c : Dev Cert.Kernel30Ideal.nD) → Buf (Elt Ideal) ((c.tc : Thread Cert.Kernel30Ideal.nD Cert.Kernel30Ideal.τ).loc Cert.Kernel30Ideal.main_v4_4)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v4_0) = v0 c
          ∧ r.2.mem ((c.tc : Thread Cert.Kernel30Ideal.nD Cert.Kernel30Ideal.τ).loc Cert.Kernel30Ideal.main_v4_1) = v1 c
          ∧ r.2.mem ((c.tc : Thread Cert.Kernel30Ideal.nD Cert.Kernel30Ideal.τ).loc Cert.Kernel30Ideal.main_v4_2) = v2 c
          ∧ r.2.mem ((c.tc : Thread Cert.Kernel30Ideal.nD Cert.Kernel30Ideal.τ).loc Cert.Kernel30Ideal.main_v4_3) = v3 c
          ∧ r.2.mem ((c.tc : Thread Cert.Kernel30Ideal.nD Cert.Kernel30Ideal.τ).loc Cert.Kernel30Ideal.main_v4_4) = v4 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
          ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
          ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5)
          ∧ r.2.mem ((c.tc : Thread Cert.Kernel30Ideal.nD Cert.Kernel30Ideal.τ).loc Cert.Kernel30Ideal.main_arg6) = m ((c.tc : Thread Cert.Kernel30Ideal.nD Cert.Kernel30Ideal.τ).loc Cert.Kernel30Ideal.main_arg6)
          ∧ r.2.mem ((c.tc : Thread Cert.Kernel30Ideal.nD Cert.Kernel30Ideal.τ).loc Cert.Kernel30Ideal.main_arg7) = m ((c.tc : Thread Cert.Kernel30Ideal.nD Cert.Kernel30Ideal.τ).loc Cert.Kernel30Ideal.main_arg7))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v83) = v0 c
          ∧ r.2.mem ((c.tc : Thread Cert.Reference30Ideal.nD Cert.Reference30Ideal.τ).loc Cert.Reference30Ideal.main_v64) = v1 c
          ∧ r.2.mem ((c.tc : Thread Cert.Reference30Ideal.nD Cert.Reference30Ideal.τ).loc Cert.Reference30Ideal.main_v100) = v2 c
          ∧ r.2.mem ((c.tc : Thread Cert.Reference30Ideal.nD Cert.Reference30Ideal.τ).loc Cert.Reference30Ideal.main_v67) = v3 c
          ∧ r.2.mem ((c.tc : Thread Cert.Reference30Ideal.nD Cert.Reference30Ideal.τ).loc Cert.Reference30Ideal.main_v48) = v4 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4)
          ∧ r.2.mem ((c.tc : Thread Cert.Reference30Ideal.nD Cert.Reference30Ideal.τ).loc Cert.Reference30Ideal.main_arg5) = m' ((c.tc : Thread Cert.Reference30Ideal.nD Cert.Reference30Ideal.τ).loc Cert.Reference30Ideal.main_arg5)
          ∧ r.2.mem ((c.tc : Thread Cert.Reference30Ideal.nD Cert.Reference30Ideal.τ).loc Cert.Reference30Ideal.main_arg6) = m' ((c.tc : Thread Cert.Reference30Ideal.nD Cert.Reference30Ideal.τ).loc Cert.Reference30Ideal.main_arg6)
          ∧ r.2.mem ((c.tc : Thread Cert.Reference30Ideal.nD Cert.Reference30Ideal.τ).loc Cert.Reference30Ideal.main_arg7) = m' ((c.tc : Thread Cert.Reference30Ideal.nD Cert.Reference30Ideal.τ).loc Cert.Reference30Ideal.main_arg7))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v24) = v0 c
          ∧ r.2.mem ((c.tc : Thread Cert.Reference31Ideal.nD Cert.Reference31Ideal.τ).loc Cert.Reference31Ideal.main_v25) = v1 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v18) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)) (v3 : (c : Dev Cert.Kernel34Ideal.nD) → Buf (Elt Ideal) ((c.tc : Thread Cert.Kernel34Ideal.nD Cert.Kernel34Ideal.τ).loc Cert.Kernel34Ideal.main_v0_3)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_v0_3) = v3 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v1) = v0 c
          ∧ r.2.mem ((c.tc : Thread Cert.Reference34Ideal.nD Cert.Reference34Ideal.τ).loc Cert.Reference34Ideal.main_v25) = v1 c
          ∧ r.2.mem ((c.tc : Thread Cert.Reference34Ideal.nD Cert.Reference34Ideal.τ).loc Cert.Reference34Ideal.main_v6) = v2 c
          ∧ r.2.mem ((c.tc : Thread Cert.Reference34Ideal.nD Cert.Reference34Ideal.τ).loc Cert.Reference34Ideal.main_v12) = v3 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)) (v3 : (c : Dev Cert.Kernel35Ideal.nD) → Buf (Elt Ideal) ((c.tc : Thread Cert.Kernel35Ideal.nD Cert.Kernel35Ideal.τ).loc Cert.Kernel35Ideal.main_v0_3)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_v0_3) = v3 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v1) = v0 c
          ∧ r.2.mem ((c.tc : Thread Cert.Reference35Ideal.nD Cert.Reference35Ideal.τ).loc Cert.Reference35Ideal.main_v25) = v1 c
          ∧ r.2.mem ((c.tc : Thread Cert.Reference35Ideal.nD Cert.Reference35Ideal.τ).loc Cert.Reference35Ideal.main_v6) = v2 c
          ∧ r.2.mem ((c.tc : Thread Cert.Reference35Ideal.nD Cert.Reference35Ideal.τ).loc Cert.Reference35Ideal.main_v12) = v3 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)) (v2 : (c : Dev Cert.Kernel36Ideal.nD) → Buf (Elt Ideal) ((c.tc : Thread Cert.Kernel36Ideal.nD Cert.Kernel36Ideal.τ).loc Cert.Kernel36Ideal.main_v0_2)) (v3 : (c : Dev Cert.Kernel36Ideal.nD) → Buf (Elt Ideal) ((c.tc : Thread Cert.Kernel36Ideal.nD Cert.Kernel36Ideal.τ).loc Cert.Kernel36Ideal.main_v0_3)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_v0_2) = v2 c
          ∧ r.2.mem ((c.tc : Thread Cert.Kernel36Ideal.nD Cert.Kernel36Ideal.τ).loc Cert.Kernel36Ideal.main_v0_3) = v3 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v1) = v0 c
          ∧ r.2.mem ((c.tc : Thread Cert.Reference36Ideal.nD Cert.Reference36Ideal.τ).loc Cert.Reference36Ideal.main_v25) = v1 c
          ∧ r.2.mem ((c.tc : Thread Cert.Reference36Ideal.nD Cert.Reference36Ideal.τ).loc Cert.Reference36Ideal.main_v6) = v2 c
          ∧ r.2.mem ((c.tc : Thread Cert.Reference36Ideal.nD Cert.Reference36Ideal.τ).loc Cert.Reference36Ideal.main_v12) = v3 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)) (v2 : (c : Dev Cert.Kernel37Ideal.nD) → Buf (Elt Ideal) ((c.tc : Thread Cert.Kernel37Ideal.nD Cert.Kernel37Ideal.τ).loc Cert.Kernel37Ideal.main_v0_2)) (v3 : (c : Dev Cert.Kernel37Ideal.nD) → Buf (Elt Ideal) ((c.tc : Thread Cert.Kernel37Ideal.nD Cert.Kernel37Ideal.τ).loc Cert.Kernel37Ideal.main_v0_3)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_v0_2) = v2 c
          ∧ r.2.mem ((c.tc : Thread Cert.Kernel37Ideal.nD Cert.Kernel37Ideal.τ).loc Cert.Kernel37Ideal.main_v0_3) = v3 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v1) = v0 c
          ∧ r.2.mem ((c.tc : Thread Cert.Reference37Ideal.nD Cert.Reference37Ideal.τ).loc Cert.Reference37Ideal.main_v25) = v1 c
          ∧ r.2.mem ((c.tc : Thread Cert.Reference37Ideal.nD Cert.Reference37Ideal.τ).loc Cert.Reference37Ideal.main_v6) = v2 c
          ∧ r.2.mem ((c.tc : Thread Cert.Reference37Ideal.nD Cert.Reference37Ideal.τ).loc Cert.Reference37Ideal.main_v12) = v3 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)) →
    ∃ (v0 : (c : Dev Cert.Kernel38Ideal.nD) → Buf (Elt Ideal) ((c.tc : Thread Cert.Kernel38Ideal.nD Cert.Kernel38Ideal.τ).loc Cert.Kernel38Ideal.main_v0_0)) (v1 : (c : Dev Cert.Kernel38Ideal.nD) → Buf (Elt Ideal) ((c.tc : Thread Cert.Kernel38Ideal.nD Cert.Kernel38Ideal.τ).loc Cert.Kernel38Ideal.main_v0_1)) (v2 : (c : Dev Cert.Kernel38Ideal.nD) → Buf (Elt Ideal) ((c.tc : Thread Cert.Kernel38Ideal.nD Cert.Kernel38Ideal.τ).loc Cert.Kernel38Ideal.main_v0_2)) (v3 : (c : Dev Cert.Kernel38Ideal.nD) → Buf (Elt Ideal) ((c.tc : Thread Cert.Kernel38Ideal.nD Cert.Kernel38Ideal.τ).loc Cert.Kernel38Ideal.main_v0_3)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0_0) = v0 c
          ∧ r.2.mem ((c.tc : Thread Cert.Kernel38Ideal.nD Cert.Kernel38Ideal.τ).loc Cert.Kernel38Ideal.main_v0_1) = v1 c
          ∧ r.2.mem ((c.tc : Thread Cert.Kernel38Ideal.nD Cert.Kernel38Ideal.τ).loc Cert.Kernel38Ideal.main_v0_2) = v2 c
          ∧ r.2.mem ((c.tc : Thread Cert.Kernel38Ideal.nD Cert.Kernel38Ideal.τ).loc Cert.Kernel38Ideal.main_v0_3) = v3 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v1) = v0 c
          ∧ r.2.mem ((c.tc : Thread Cert.Reference38Ideal.nD Cert.Reference38Ideal.τ).loc Cert.Reference38Ideal.main_v25) = v1 c
          ∧ r.2.mem ((c.tc : Thread Cert.Reference38Ideal.nD Cert.Reference38Ideal.τ).loc Cert.Reference38Ideal.main_v6) = v2 c
          ∧ r.2.mem ((c.tc : Thread Cert.Reference38Ideal.nD Cert.Reference38Ideal.τ).loc Cert.Reference38Ideal.main_v12) = v3 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)) →
    ∃ (v0 : (c : Dev Cert.Kernel39Ideal.nD) → Buf (Elt Ideal) ((c.tc : Thread Cert.Kernel39Ideal.nD Cert.Kernel39Ideal.τ).loc Cert.Kernel39Ideal.main_v0_0)) (v1 : (c : Dev Cert.Kernel39Ideal.nD) → Buf (Elt Ideal) ((c.tc : Thread Cert.Kernel39Ideal.nD Cert.Kernel39Ideal.τ).loc Cert.Kernel39Ideal.main_v0_1)) (v2 : (c : Dev Cert.Kernel39Ideal.nD) → Buf (Elt Ideal) ((c.tc : Thread Cert.Kernel39Ideal.nD Cert.Kernel39Ideal.τ).loc Cert.Kernel39Ideal.main_v0_2)) (v3 : (c : Dev Cert.Kernel39Ideal.nD) → Buf (Elt Ideal) ((c.tc : Thread Cert.Kernel39Ideal.nD Cert.Kernel39Ideal.τ).loc Cert.Kernel39Ideal.main_v0_3)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0_0) = v0 c
          ∧ r.2.mem ((c.tc : Thread Cert.Kernel39Ideal.nD Cert.Kernel39Ideal.τ).loc Cert.Kernel39Ideal.main_v0_1) = v1 c
          ∧ r.2.mem ((c.tc : Thread Cert.Kernel39Ideal.nD Cert.Kernel39Ideal.τ).loc Cert.Kernel39Ideal.main_v0_2) = v2 c
          ∧ r.2.mem ((c.tc : Thread Cert.Kernel39Ideal.nD Cert.Kernel39Ideal.τ).loc Cert.Kernel39Ideal.main_v0_3) = v3 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v1) = v0 c
          ∧ r.2.mem ((c.tc : Thread Cert.Reference39Ideal.nD Cert.Reference39Ideal.τ).loc Cert.Reference39Ideal.main_v25) = v1 c
          ∧ r.2.mem ((c.tc : Thread Cert.Reference39Ideal.nD Cert.Reference39Ideal.τ).loc Cert.Reference39Ideal.main_v6) = v2 c
          ∧ r.2.mem ((c.tc : Thread Cert.Reference39Ideal.nD Cert.Reference39Ideal.τ).loc Cert.Reference39Ideal.main_v12) = v3 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)) →
    ∃ (v0 : (c : Dev Cert.Kernel40Ideal.nD) → Buf (Elt Ideal) ((c.tc : Thread Cert.Kernel40Ideal.nD Cert.Kernel40Ideal.τ).loc Cert.Kernel40Ideal.main_v0_0)) (v1 : (c : Dev Cert.Kernel40Ideal.nD) → Buf (Elt Ideal) ((c.tc : Thread Cert.Kernel40Ideal.nD Cert.Kernel40Ideal.τ).loc Cert.Kernel40Ideal.main_v0_1)) (v2 : (c : Dev Cert.Kernel40Ideal.nD) → Buf (Elt Ideal) ((c.tc : Thread Cert.Kernel40Ideal.nD Cert.Kernel40Ideal.τ).loc Cert.Kernel40Ideal.main_v0_2)) (v3 : (c : Dev Cert.Kernel40Ideal.nD) → Buf (Elt Ideal) ((c.tc : Thread Cert.Kernel40Ideal.nD Cert.Kernel40Ideal.τ).loc Cert.Kernel40Ideal.main_v0_3)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0_0) = v0 c
          ∧ r.2.mem ((c.tc : Thread Cert.Kernel40Ideal.nD Cert.Kernel40Ideal.τ).loc Cert.Kernel40Ideal.main_v0_1) = v1 c
          ∧ r.2.mem ((c.tc : Thread Cert.Kernel40Ideal.nD Cert.Kernel40Ideal.τ).loc Cert.Kernel40Ideal.main_v0_2) = v2 c
          ∧ r.2.mem ((c.tc : Thread Cert.Kernel40Ideal.nD Cert.Kernel40Ideal.τ).loc Cert.Kernel40Ideal.main_v0_3) = v3 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v1) = v0 c
          ∧ r.2.mem ((c.tc : Thread Cert.Reference40Ideal.nD Cert.Reference40Ideal.τ).loc Cert.Reference40Ideal.main_v25) = v1 c
          ∧ r.2.mem ((c.tc : Thread Cert.Reference40Ideal.nD Cert.Reference40Ideal.τ).loc Cert.Reference40Ideal.main_v6) = v2 c
          ∧ r.2.mem ((c.tc : Thread Cert.Reference40Ideal.nD Cert.Reference40Ideal.τ).loc Cert.Reference40Ideal.main_v12) = v3 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)
      ∧ m' ((c.tc : Thread Cert.Reference41Ideal.nD Cert.Reference41Ideal.τ).loc Cert.Reference41Ideal.main_arg3) = m ((c.tc : Thread Cert.Kernel41Ideal.nD Cert.Kernel41Ideal.τ).loc Cert.Kernel41Ideal.main_arg3)) →
    ∃ (v0 : (c : Dev Cert.Kernel41Ideal.nD) → Buf (Elt Ideal) ((c.tc : Thread Cert.Kernel41Ideal.nD Cert.Kernel41Ideal.τ).loc Cert.Kernel41Ideal.main_v0_0)) (v1 : (c : Dev Cert.Kernel41Ideal.nD) → Buf (Elt Ideal) ((c.tc : Thread Cert.Kernel41Ideal.nD Cert.Kernel41Ideal.τ).loc Cert.Kernel41Ideal.main_v0_1)) (v2 : (c : Dev Cert.Kernel41Ideal.nD) → Buf (Elt Ideal) ((c.tc : Thread Cert.Kernel41Ideal.nD Cert.Kernel41Ideal.τ).loc Cert.Kernel41Ideal.main_v0_2)) (v3 : (c : Dev Cert.Kernel41Ideal.nD) → Buf (Elt Ideal) ((c.tc : Thread Cert.Kernel41Ideal.nD Cert.Kernel41Ideal.τ).loc Cert.Kernel41Ideal.main_v0_3)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0_0) = v0 c
          ∧ r.2.mem ((c.tc : Thread Cert.Kernel41Ideal.nD Cert.Kernel41Ideal.τ).loc Cert.Kernel41Ideal.main_v0_1) = v1 c
          ∧ r.2.mem ((c.tc : Thread Cert.Kernel41Ideal.nD Cert.Kernel41Ideal.τ).loc Cert.Kernel41Ideal.main_v0_2) = v2 c
          ∧ r.2.mem ((c.tc : Thread Cert.Kernel41Ideal.nD Cert.Kernel41Ideal.τ).loc Cert.Kernel41Ideal.main_v0_3) = v3 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
          ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v1) = v0 c
          ∧ r.2.mem ((c.tc : Thread Cert.Reference41Ideal.nD Cert.Reference41Ideal.τ).loc Cert.Reference41Ideal.main_v25) = v1 c
          ∧ r.2.mem ((c.tc : Thread Cert.Reference41Ideal.nD Cert.Reference41Ideal.τ).loc Cert.Reference41Ideal.main_v6) = v2 c
          ∧ r.2.mem ((c.tc : Thread Cert.Reference41Ideal.nD Cert.Reference41Ideal.τ).loc Cert.Reference41Ideal.main_v12) = v3 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2)
          ∧ r.2.mem ((c.tc : Thread Cert.Reference41Ideal.nD Cert.Reference41Ideal.τ).loc Cert.Reference41Ideal.main_arg3) = m' ((c.tc : Thread Cert.Reference41Ideal.nD Cert.Reference41Ideal.τ).loc Cert.Reference41Ideal.main_arg3))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)
      ∧ m' ((c.tc : Thread Cert.Reference42Ideal.nD Cert.Reference42Ideal.τ).loc Cert.Reference42Ideal.main_arg3) = m ((c.tc : Thread Cert.Kernel42Ideal.nD Cert.Kernel42Ideal.τ).loc Cert.Kernel42Ideal.main_arg3)) →
    ∃ (v0 : (c : Dev Cert.Kernel42Ideal.nD) → Buf (Elt Ideal) ((c.tc : Thread Cert.Kernel42Ideal.nD Cert.Kernel42Ideal.τ).loc Cert.Kernel42Ideal.main_v0_0)) (v1 : (c : Dev Cert.Kernel42Ideal.nD) → Buf (Elt Ideal) ((c.tc : Thread Cert.Kernel42Ideal.nD Cert.Kernel42Ideal.τ).loc Cert.Kernel42Ideal.main_v0_1)) (v2 : (c : Dev Cert.Kernel42Ideal.nD) → Buf (Elt Ideal) ((c.tc : Thread Cert.Kernel42Ideal.nD Cert.Kernel42Ideal.τ).loc Cert.Kernel42Ideal.main_v0_2)) (v3 : (c : Dev Cert.Kernel42Ideal.nD) → Buf (Elt Ideal) ((c.tc : Thread Cert.Kernel42Ideal.nD Cert.Kernel42Ideal.τ).loc Cert.Kernel42Ideal.main_v0_3)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0_0) = v0 c
          ∧ r.2.mem ((c.tc : Thread Cert.Kernel42Ideal.nD Cert.Kernel42Ideal.τ).loc Cert.Kernel42Ideal.main_v0_1) = v1 c
          ∧ r.2.mem ((c.tc : Thread Cert.Kernel42Ideal.nD Cert.Kernel42Ideal.τ).loc Cert.Kernel42Ideal.main_v0_2) = v2 c
          ∧ r.2.mem ((c.tc : Thread Cert.Kernel42Ideal.nD Cert.Kernel42Ideal.τ).loc Cert.Kernel42Ideal.main_v0_3) = v3 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
          ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v1) = v0 c
          ∧ r.2.mem ((c.tc : Thread Cert.Reference42Ideal.nD Cert.Reference42Ideal.τ).loc Cert.Reference42Ideal.main_v25) = v1 c
          ∧ r.2.mem ((c.tc : Thread Cert.Reference42Ideal.nD Cert.Reference42Ideal.τ).loc Cert.Reference42Ideal.main_v6) = v2 c
          ∧ r.2.mem ((c.tc : Thread Cert.Reference42Ideal.nD Cert.Reference42Ideal.τ).loc Cert.Reference42Ideal.main_v12) = v3 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2)
          ∧ r.2.mem ((c.tc : Thread Cert.Reference42Ideal.nD Cert.Reference42Ideal.τ).loc Cert.Reference42Ideal.main_arg3) = m' ((c.tc : Thread Cert.Reference42Ideal.nD Cert.Reference42Ideal.τ).loc Cert.Reference42Ideal.main_arg3))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)
      ∧ m' ((c.tc : Thread Cert.Reference43Ideal.nD Cert.Reference43Ideal.τ).loc Cert.Reference43Ideal.main_arg2) = m ((c.tc : Thread Cert.Kernel43Ideal.nD Cert.Kernel43Ideal.τ).loc Cert.Kernel43Ideal.main_arg2)
      ∧ m' ((c.tc : Thread Cert.Reference43Ideal.nD Cert.Reference43Ideal.τ).loc Cert.Reference43Ideal.main_arg3) = m ((c.tc : Thread Cert.Kernel43Ideal.nD Cert.Kernel43Ideal.τ).loc Cert.Kernel43Ideal.main_arg3)) →
    ∃ (v0 : (c : Dev Cert.Kernel43Ideal.nD) → Buf (Elt Ideal) ((c.tc : Thread Cert.Kernel43Ideal.nD Cert.Kernel43Ideal.τ).loc Cert.Kernel43Ideal.main_v0_0)) (v1 : (c : Dev Cert.Kernel43Ideal.nD) → Buf (Elt Ideal) ((c.tc : Thread Cert.Kernel43Ideal.nD Cert.Kernel43Ideal.τ).loc Cert.Kernel43Ideal.main_v0_1)) (v2 : (c : Dev Cert.Kernel43Ideal.nD) → Buf (Elt Ideal) ((c.tc : Thread Cert.Kernel43Ideal.nD Cert.Kernel43Ideal.τ).loc Cert.Kernel43Ideal.main_v0_2)) (v3 : (c : Dev Cert.Kernel43Ideal.nD) → Buf (Elt Ideal) ((c.tc : Thread Cert.Kernel43Ideal.nD Cert.Kernel43Ideal.τ).loc Cert.Kernel43Ideal.main_v0_3)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v0_0) = v0 c
          ∧ r.2.mem ((c.tc : Thread Cert.Kernel43Ideal.nD Cert.Kernel43Ideal.τ).loc Cert.Kernel43Ideal.main_v0_1) = v1 c
          ∧ r.2.mem ((c.tc : Thread Cert.Kernel43Ideal.nD Cert.Kernel43Ideal.τ).loc Cert.Kernel43Ideal.main_v0_2) = v2 c
          ∧ r.2.mem ((c.tc : Thread Cert.Kernel43Ideal.nD Cert.Kernel43Ideal.τ).loc Cert.Kernel43Ideal.main_v0_3) = v3 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
          ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
          ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v0) = v0 c
          ∧ r.2.mem ((c.tc : Thread Cert.Reference43Ideal.nD Cert.Reference43Ideal.τ).loc Cert.Reference43Ideal.main_v24) = v1 c
          ∧ r.2.mem ((c.tc : Thread Cert.Reference43Ideal.nD Cert.Reference43Ideal.τ).loc Cert.Reference43Ideal.main_v5) = v2 c
          ∧ r.2.mem ((c.tc : Thread Cert.Reference43Ideal.nD Cert.Reference43Ideal.τ).loc Cert.Reference43Ideal.main_v11) = v3 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1)
          ∧ r.2.mem ((c.tc : Thread Cert.Reference43Ideal.nD Cert.Reference43Ideal.τ).loc Cert.Reference43Ideal.main_arg2) = m' ((c.tc : Thread Cert.Reference43Ideal.nD Cert.Reference43Ideal.τ).loc Cert.Reference43Ideal.main_arg2)
          ∧ r.2.mem ((c.tc : Thread Cert.Reference43Ideal.nD Cert.Reference43Ideal.τ).loc Cert.Reference43Ideal.main_arg3) = m' ((c.tc : Thread Cert.Reference43Ideal.nD Cert.Reference43Ideal.τ).loc Cert.Reference43Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v15) = v0 c
          ∧ r.2.mem ((c.tc : Thread Cert.Reference33Ideal.nD Cert.Reference33Ideal.τ).loc Cert.Reference33Ideal.main_v14) = v1 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel33 : Cert.Kernel33.Facts) (hKernel33Ideal : Cert.Kernel33Ideal.Facts) (hReference33Ideal : Cert.Reference33Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel33 (hKernel33 := hKernel33)
    ∧ quiescent_Kernel33Ideal (hKernel33Ideal := hKernel33Ideal)
    ∧ quiescent_Reference33Ideal (hReference33Ideal := hReference33Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel33_Kernel33Ideal
    ∧ algebraic_Kernel33Ideal_Reference33Ideal (hKernel33Ideal := hKernel33Ideal) (hReference33Ideal := hReference33Ideal)
-- ==== Kernel.lean ====
abbrev S8192x1792 : Shape := ⟨2, ![8192, 1792]⟩
abbrev S256x1024 : Shape := ⟨2, ![256, 1024]⟩
abbrev S8192x2048 : Shape := ⟨2, ![8192, 2048]⟩
abbrev S8192x512 : Shape := ⟨2, ![8192, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x1792, .f32⟩
  | .hbm, ⟨1, _⟩ => ⟨S256x1024, .f32⟩
  | .hbm, ⟨2, _⟩ => ⟨S8192x2048, .f32⟩
  | .hbm, ⟨3, _⟩ => ⟨S8192x512, .f32⟩
  | .hbm, ⟨4, _⟩ => ⟨S256x1024, .f32⟩
  | .local _ .vmem, ⟨0, _⟩ => ⟨S512x512, .f32⟩
  | .local _ .vmem, ⟨1, _⟩ => ⟨S512x512, .f32⟩
  | .local _ .vmem, ⟨2, _⟩ => ⟨S256x1024, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S256x1024, .f32⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S8192x1792 : Shape := ⟨2, ![8192, 1792]⟩
abbrev S256x1024 : Shape := ⟨2, ![256, 1024]⟩
abbrev S8192x2048 : Shape := ⟨2, ![8192, 2048]⟩
abbrev S8192x512 : Shape := ⟨2, ![8192, 512]⟩
abbrev S8192x4x128 : Shape := ⟨3, ![8192, 4, 128]⟩
abbrev S256x512 : Shape := ⟨2, ![256, 512]⟩
abbrev S256x4x128 : Shape := ⟨3, ![256, 4, 128]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩
abbrev S4x128x256 : Shape := ⟨3, ![4, 128, 256]⟩
abbrev S4x256x128 : Shape := ⟨3, ![4, 256, 128]⟩
abbrev S4x8192x128 : Shape := ⟨3, ![4, 8192, 128]⟩

abbrev nBuf : Space → Nat
  | .hbm => 89
  | .vmem => 0
  | .smem => 0
  | _ => 0

abbrev bufTy : (tb : Table) → Fin (tcTables nBuf tb) → BufTy
  | .hbm, ⟨0, _⟩ => ⟨S8192x1792, .f32⟩
  | .hbm, ⟨1, _⟩ => ⟨S256x1024, .f32⟩
  | .hbm, ⟨2, _⟩ => ⟨S8192x2048, .f32⟩
  | .hbm, ⟨3, _⟩ => ⟨S8192x512, .f32⟩
  | .hbm, ⟨4, _⟩ => ⟨S8192x4x128, .f32⟩
  | .hbm, ⟨5, _⟩ => ⟨S256x512, .f32⟩
  | .hbm, ⟨6, _⟩ => ⟨S256x4x128, .f32⟩
  | .hbm, ⟨7, _⟩ => ⟨S256x512, .f32⟩
  | .hbm, ⟨8, _⟩ => ⟨S256x4x128, .f32⟩
  | .hbm, ⟨9, _⟩ => ⟨S4x8192x256, .f32⟩
  | .hbm, ⟨10, _⟩ => ⟨S_, .f32⟩
  | .hbm, ⟨11, _⟩ => ⟨S4x8192x256, .f32⟩
  | .hbm, ⟨12, _⟩ => ⟨S4x8192x256, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S4x8192x256, .f32⟩
  | .hbm, ⟨17, _⟩ => ⟨S4x8192x256, .i1⟩
  | .hbm, ⟨18, _⟩ => ⟨S4x8192x256, .f32⟩
  | .hbm, ⟨19, _⟩ => ⟨S_, .f32⟩
  | .hbm, ⟨20, _⟩ => ⟨S4x8192, .f32⟩
  | .hbm, ⟨21, _⟩ => ⟨S_, .f32⟩
  | .hbm, ⟨22, _⟩ => ⟨S4x8192, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S4x8192, .i1⟩
  | .hbm, ⟨27, _⟩ => ⟨S_, .f32⟩
  | .hbm, ⟨28, _⟩ => ⟨S4x8192, .f32⟩
  | .hbm, ⟨29, _⟩ => ⟨S4x8192, .i1⟩
  | .hbm, ⟨30, _⟩ => ⟨S_, .f32⟩
  | .hbm, ⟨31, _⟩ => ⟨S4x8192, .f32⟩
  | .hbm, ⟨32, _⟩ => ⟨S_, .f32⟩
  | .hbm, ⟨33, _⟩ => ⟨S4x8192, .f32⟩
  | .hbm, ⟨34, _⟩ => ⟨S_, .f32⟩
  | .hbm, ⟨35, _⟩ => ⟨S4x8192, .f32⟩
  | .hbm, ⟨36, _⟩ => ⟨S4x8192, .f32⟩
  | .hbm, ⟨37, _⟩ => ⟨S4x8192, .f32⟩
  | .hbm, ⟨38, _⟩ => ⟨S4x8192x1, .f32⟩
  | .hbm, ⟨39, _⟩ => ⟨S4x8192x256, .f32⟩
  | .hbm, ⟨40, _⟩ => ⟨S4x8192x256, .f32⟩
  | .hbm, ⟨41, _⟩ => ⟨S4x8192x256, .f32⟩
  | .hbm, ⟨42, _⟩ => ⟨S_, .f32⟩
  | .hbm, ⟨43, _⟩ => ⟨S4x8192, .f32⟩
  | .hbm, ⟨44, _⟩ => ⟨S4x8192x1, .f32⟩
  | .hbm, ⟨45, _⟩ => ⟨S4x8192x256, .f32⟩
  | .hbm, ⟨46, _⟩ => ⟨S4x8192x256, .f32⟩
  | .hbm, ⟨47, _⟩ => ⟨S4x8192x1, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S4x128x8192, .f32⟩
  | .hbm, ⟨52, _⟩ => ⟨S8192x4x128, .f32⟩
  | .hbm, ⟨53, _⟩ => ⟨S8192x512, .f32⟩
  | .hbm, ⟨54, _⟩ => ⟨S8192x512, .f32⟩
  | .hbm, ⟨55, _⟩ => ⟨S8192x4x128, .f32⟩
  | .hbm, ⟨56, _⟩ => ⟨S4x128x8192, .f32⟩
  | .hbm, ⟨57, _⟩ => ⟨S4x8192x256, .f32⟩
  | .hbm, ⟨58, _⟩ => ⟨S4x128x256, .f32⟩
  | .hbm, ⟨59, _⟩ => ⟨S256x4x128, .f32⟩
  | .hbm, ⟨60, _⟩ => ⟨S4x8192x256, .f32⟩
  | .hbm, ⟨61, _⟩ => ⟨S4x8192x256, .f32⟩
  | .hbm, ⟨62, _⟩ => ⟨S4x8192x256, .f32⟩
  | .hbm, ⟨63, _⟩ => ⟨S_, .f32⟩
  | .hbm, ⟨64, _⟩ => ⟨S4x8192, .f32⟩
  | .hbm, ⟨65, _⟩ => ⟨S4x8192x1, .f32⟩
  | .hbm, ⟨66, _⟩ => ⟨S4x8192x1, .f32⟩
  | .hbm, ⟨67, _⟩ => ⟨S4x8192x256, .f32⟩
  | .hbm, ⟨68, _⟩ => ⟨S4x8192x256, .f32⟩
  | .hbm, ⟨69, _⟩ => ⟨S_, .f32⟩
  | .hbm, ⟨70, _⟩ => ⟨S4x8192, .f32⟩
  | .hbm, ⟨71, _⟩ => ⟨S4x8192x256, .f32⟩
  | .hbm, ⟨72, _⟩ => ⟨S4x8192x256, .f32⟩
  | .hbm, ⟨73, _⟩ => ⟨S4x8192x256, .f32⟩
  | .hbm, ⟨74, _⟩ => ⟨S_, .f32⟩
  | .hbm, ⟨75, _⟩ => ⟨S4x8192x256, .f32⟩
  | .hbm, ⟨76, _⟩ => ⟨S4x8192x256, .f32⟩
  | .hbm, ⟨77, _⟩ => ⟨S4x256x128, .f32⟩
  | .hbm, ⟨78, _⟩ => ⟨S256x4x128, .f32⟩
  | .hbm, ⟨79, _⟩ => ⟨S4x8192x128, .f32⟩
  | .hbm, ⟨80, _⟩ => ⟨S8192x4x128, .f32⟩
  | .hbm, ⟨81, _⟩ => ⟨S256x512, .f32⟩
  | .hbm, ⟨82, _⟩ => ⟨S_, .f32⟩
  | .hbm, ⟨83, _⟩ => ⟨S256x1024, .f32⟩
  | .hbm, ⟨84, _⟩ => ⟨S256x512, .f32⟩
  | .hbm, ⟨85, _⟩ => ⟨S_, .f32⟩
  | .hbm, ⟨86, _⟩ => ⟨S256x1024, .f32⟩
  | .hbm, ⟨87, _⟩ => ⟨S256x1024, .f32⟩
  | .hbm, ⟨88, _⟩ => ⟨S8192x512, .f32⟩
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_13 : Ref sig .tc := ⟨.hbm, 82, rfl⟩
abbrev main_v65 : Ref sig .tc := ⟨.hbm, 83, rfl⟩
abbrev main_v66 : Ref sig .tc := ⟨.hbm, 84, rfl⟩
abbrev main_cst_14 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩

abbrev nD : Nat := 1
abbrev τ : Topo := Topo.v7x

variable {F : FTy → Type} [FloatOps F]
-- ==== Kernel2.lean ====
abbrev S8192x2048 : Shape := ⟨2, ![8192, 2048]⟩
abbrev S8192x8192 : Shape := ⟨2, ![8192, 8192]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x8192, .f32⟩
  | .hbm, ⟨3, _⟩ => ⟨S8192x8192, .bf16⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S8192x2048 : Shape := ⟨2, ![8192, 2048]⟩
abbrev S8192x8192 : Shape := ⟨2, ![8192, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x8192, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel3.lean ====
abbrev S8192x8192 : Shape := ⟨2, ![8192, 8192]⟩
abbrev S8192x2048 : Shape := ⟨2, ![8192, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S8192x2048, .bf16⟩
  | .hbm, ⟨2, _⟩ => ⟨S8192x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x8192 : Shape := ⟨2, ![8192, 8192]⟩
abbrev S8192x2048 : Shape := ⟨2, ![8192, 2048]⟩
abbrev S_ : Shape := ⟨0, ![]⟩
abbrev S2048x8192 : Shape := ⟨2, ![2048, 8192]⟩

abbrev nBuf : Space → Nat
  | .hbm => 13
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .bf16⟩
  | .hbm, ⟨2, _⟩ => ⟨S_, .f32⟩
  | .hbm, ⟨3, _⟩ => ⟨S8192x2048, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S8192x2048, .f32⟩
  | .hbm, ⟨9, _⟩ => ⟨S8192x2048, .f32⟩
  | .hbm, ⟨10, _⟩ => ⟨S2048x8192, .f32⟩
  | .hbm, ⟨11, _⟩ => ⟨S8192x2048, .f32⟩
  | .hbm, ⟨12, _⟩ => ⟨S8192x2048, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel4.lean ====
abbrev S8192x2048 : Shape := ⟨2, ![8192, 2048]⟩
abbrev S8192x8192 : Shape := ⟨2, ![8192, 8192]⟩
abbrev S2048x8192 : Shape := ⟨2, ![2048, 8192]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S2048x8192, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S8192x8192 : Shape := ⟨2, ![8192, 8192]⟩
abbrev S_ : Shape := ⟨0, ![]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S_, .f32⟩
  | .hbm, ⟨3, _⟩ => ⟨S2048x8192, .f32⟩
  | .hbm, ⟨4, _⟩ => ⟨S8192x2048, .f32⟩
  | .hbm, ⟨5, _⟩ => ⟨S8192x8192, .f32⟩
  | .hbm, ⟨6, _⟩ => ⟨S8192x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x8192 : Shape := ⟨2, ![8192, 8192]⟩
abbrev S2048x8192 : Shape := ⟨2, ![2048, 8192]⟩
abbrev S8192x2048 : Shape := ⟨2, ![8192, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x8192, .bf16⟩
  | .hbm, ⟨1, _⟩ => ⟨S2048x8192, .bf16⟩
  | .hbm, ⟨2, _⟩ => ⟨S8192x2048, .f32⟩
  | .hbm, ⟨3, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S8192x8192 : Shape := ⟨2, ![8192, 8192]⟩
abbrev S2048x8192 : Shape := ⟨2, ![2048, 8192]⟩
abbrev S8192x2048 : Shape := ⟨2, ![8192, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S2048x8192, .bf16⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S2048x8192, .f32⟩
  | .hbm, ⟨9, _⟩ => ⟨S8192x8192, .f32⟩
  | .hbm, ⟨10, _⟩ => ⟨S8192x8192, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel6.lean ====
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x2048 : Shape := ⟨2, ![8192, 2048]⟩
abbrev S2048x2048 : Shape := ⟨2, ![2048, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8192x2048 : Shape := ⟨2, ![8192, 2048]⟩
abbrev S8192x6912 : Shape := ⟨2, ![8192, 6912]⟩
abbrev S2048x6912 : Shape := ⟨2, ![2048, 6912]⟩
abbrev S1024x1024 : Shape := ⟨2, ![1024, 1024]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x6912, .bf16⟩
  | .hbm, ⟨2, _⟩ => ⟨S2048x6912, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S8192x6912 : Shape := ⟨2, ![8192, 6912]⟩
abbrev S_ : Shape := ⟨0, ![]⟩
abbrev S2048x6912 : Shape := ⟨2, ![2048, 6912]⟩
abbrev S6912x2048 : Shape := ⟨2, ![6912, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x6912, .bf16⟩
  | .hbm, ⟨2, _⟩ => ⟨S_, .f32⟩
  | .hbm, ⟨3, _⟩ => ⟨S2048x6912, .f32⟩
  | .hbm, ⟨4, _⟩ => ⟨S8192x2048, .f32⟩
  | .hbm, ⟨5, _⟩ => ⟨S8192x6912, .f32⟩
  | .hbm, ⟨6, _⟩ => ⟨S8192x6912, .f32⟩
  | .hbm, ⟨7, _⟩ => ⟨S6912x2048, .f32⟩
  | .hbm, ⟨8, _⟩ => ⟨S2048x6912, .f32⟩
  | .hbm, ⟨9, _⟩ => ⟨S2048x6912, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8192x6912 : Shape := ⟨2, ![8192, 6912]⟩
abbrev S2048x6912 : Shape := ⟨2, ![2048, 6912]⟩
abbrev S8192x2048 : Shape := ⟨2, ![8192, 2048]⟩
abbrev S1024x768 : Shape := ⟨2, ![1024, 768]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x6912, .bf16⟩
  | .hbm, ⟨1, _⟩ => ⟨S2048x6912, .bf16⟩
  | .hbm, ⟨2, _⟩ => ⟨S8192x2048, .f32⟩
  | .hbm, ⟨3, _⟩ => ⟨S8192x2048, .f32⟩
  | .local _ .vmem, ⟨0, _⟩ => ⟨S1024x768, .bf16⟩
  | .local _ .vmem, ⟨1, _⟩ => ⟨S1024x768, .bf16⟩
  | .local _ .vmem, ⟨2, _⟩ => ⟨S1024x768, .bf16⟩
  | .local _ .vmem, ⟨3, _⟩ => ⟨S1024x768, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 9], ![false, false, false]⟩

def k0_cond2 (i : grid0.Coords) : BitVec 1 :=
  let arg2 : BitVec 32 := BitVec.ofNat 32 (i 2).val
  let c8_i32 : BitVec 32 := 8#32
  let v11 : BitVec 1 := Scalar.cmpi .eq arg2 c8_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S8192x6912 : Shape := ⟨2, ![8192, 6912]⟩
abbrev S2048x6912 : Shape := ⟨2, ![2048, 6912]⟩
abbrev S8192x2048 : Shape := ⟨2, ![8192, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x6912, .bf16⟩
  | .hbm, ⟨1, _⟩ => ⟨S2048x6912, .bf16⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S2048x6912, .f32⟩
  | .hbm, ⟨9, _⟩ => ⟨S8192x6912, .f32⟩
  | .hbm, ⟨10, _⟩ => ⟨S8192x6912, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | _, _ => ⟨S8192x6912, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel10.lean ====
abbrev S8192x2048 : Shape := ⟨2, ![8192, 2048]⟩
abbrev S8192x1792 : Shape := ⟨2, ![8192, 1792]⟩
abbrev S2048x1792 : Shape := ⟨2, ![2048, 1792]⟩
abbrev S1024x1024 : Shape := ⟨2, ![1024, 1024]⟩
abbrev S1024x256 : Shape := ⟨2, ![1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1792, .bf16⟩
  | .hbm, ⟨2, _⟩ => ⟨S2048x1792, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S8192x1792 : Shape := ⟨2, ![8192, 1792]⟩
abbrev S_ : Shape := ⟨0, ![]⟩
abbrev S2048x1792 : Shape := ⟨2, ![2048, 1792]⟩
abbrev S1792x2048 : Shape := ⟨2, ![1792, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1792, .bf16⟩
  | .hbm, ⟨2, _⟩ => ⟨S_, .f32⟩
  | .hbm, ⟨3, _⟩ => ⟨S2048x1792, .f32⟩
  | .hbm, ⟨4, _⟩ => ⟨S8192x2048, .f32⟩
  | .hbm, ⟨5, _⟩ => ⟨S8192x1792, .f32⟩
  | .hbm, ⟨6, _⟩ => ⟨S8192x1792, .f32⟩
  | .hbm, ⟨7, _⟩ => ⟨S1792x2048, .f32⟩
  | .hbm, ⟨8, _⟩ => ⟨S2048x1792, .f32⟩
  | .hbm, ⟨9, _⟩ => ⟨S2048x1792, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S8192x1792 : Shape := ⟨2, ![8192, 1792]⟩
abbrev S2048x1792 : Shape := ⟨2, ![2048, 1792]⟩
abbrev S8192x2048 : Shape := ⟨2, ![8192, 2048]⟩
abbrev S512x1792 : Shape := ⟨2, ![512, 1792]⟩
abbrev S1024x1792 : Shape := ⟨2, ![1024, 1792]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x1792, .bf16⟩
  | .hbm, ⟨1, _⟩ => ⟨S2048x1792, .bf16⟩
  | .hbm, ⟨2, _⟩ => ⟨S8192x2048, .f32⟩
  | .hbm, ⟨3, _⟩ => ⟨S8192x2048, .f32⟩
  | .local _ .vmem, ⟨0, _⟩ => ⟨S512x1792, .bf16⟩
  | .local _ .vmem, ⟨1, _⟩ => ⟨S512x1792, .bf16⟩
  | .local _ .vmem, ⟨2, _⟩ => ⟨S1024x1792, .bf16⟩
  | .local _ .vmem, ⟨3, _⟩ => ⟨S1024x1792, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8192x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S8192x1792 : Shape := ⟨2, ![8192, 1792]⟩
abbrev S2048x1792 : Shape := ⟨2, ![2048, 1792]⟩
abbrev S8192x2048 : Shape := ⟨2, ![8192, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x1792, .bf16⟩
  | .hbm, ⟨1, _⟩ => ⟨S2048x1792, .bf16⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S2048x1792, .f32⟩
  | .hbm, ⟨9, _⟩ => ⟨S8192x1792, .f32⟩
  | .hbm, ⟨10, _⟩ => ⟨S8192x1792, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | _, _ => ⟨S8192x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel12.lean ====
abbrev S8192x512 : Shape := ⟨2, ![8192, 512]⟩
abbrev S8192x3072 : Shape := ⟨2, ![8192, 3072]⟩
abbrev S512x3072 : Shape := ⟨2, ![512, 3072]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S8192x3072, .bf16⟩
  | .hbm, ⟨2, _⟩ => ⟨S512x3072, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x512 : Shape := ⟨2, ![8192, 512]⟩
abbrev S8192x3072 : Shape := ⟨2, ![8192, 3072]⟩
abbrev S_ : Shape := ⟨0, ![]⟩
abbrev S512x3072 : Shape := ⟨2, ![512, 3072]⟩
abbrev S3072x512 : Shape := ⟨2, ![3072, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x3072, .bf16⟩
  | .hbm, ⟨2, _⟩ => ⟨S_, .f32⟩
  | .hbm, ⟨3, _⟩ => ⟨S512x3072, .f32⟩
  | .hbm, ⟨4, _⟩ => ⟨S8192x512, .f32⟩
  | .hbm, ⟨5, _⟩ => ⟨S8192x3072, .f32⟩
  | .hbm, ⟨6, _⟩ => ⟨S8192x3072, .f32⟩
  | .hbm, ⟨7, _⟩ => ⟨S3072x512, .f32⟩
  | .hbm, ⟨8, _⟩ => ⟨S512x3072, .f32⟩
  | .hbm, ⟨9, _⟩ => ⟨S512x3072, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S8192x3072 : Shape := ⟨2, ![8192, 3072]⟩
abbrev S512x3072 : Shape := ⟨2, ![512, 3072]⟩
abbrev S8192x512 : Shape := ⟨2, ![8192, 512]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S512x3072, .bf16⟩
  | .hbm, ⟨2, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x3072 : Shape := ⟨2, ![8192, 3072]⟩
abbrev S512x3072 : Shape := ⟨2, ![512, 3072]⟩
abbrev S_ : Shape := ⟨0, ![]⟩
abbrev S8192x512 : Shape := ⟨2, ![8192, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S512x3072, .bf16⟩
  | .hbm, ⟨2, _⟩ => ⟨S_, .f32⟩
  | .hbm, ⟨3, _⟩ => ⟨S8192x512, .f32⟩
  | .hbm, ⟨4, _⟩ => ⟨S512x3072, .f32⟩
  | .hbm, ⟨5, _⟩ => ⟨S8192x3072, .f32⟩
  | .hbm, ⟨6, _⟩ => ⟨S8192x3072, .f32⟩
  | .hbm, ⟨7, _⟩ => ⟨S8192x512, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S8192x512 : Shape := ⟨2, ![8192, 512]⟩
abbrev S8192x3072 : Shape := ⟨2, ![8192, 3072]⟩
abbrev S512x3072 : Shape := ⟨2, ![512, 3072]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S8192x3072, .bf16⟩
  | .hbm, ⟨2, _⟩ => ⟨S512x3072, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x512 : Shape := ⟨2, ![8192, 512]⟩
abbrev S8192x3072 : Shape := ⟨2, ![8192, 3072]⟩
abbrev S_ : Shape := ⟨0, ![]⟩
abbrev S512x3072 : Shape := ⟨2, ![512, 3072]⟩
abbrev S3072x512 : Shape := ⟨2, ![3072, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x3072, .bf16⟩
  | .hbm, ⟨2, _⟩ => ⟨S_, .f32⟩
  | .hbm, ⟨3, _⟩ => ⟨S512x3072, .f32⟩
  | .hbm, ⟨4, _⟩ => ⟨S8192x512, .f32⟩
  | .hbm, ⟨5, _⟩ => ⟨S8192x3072, .f32⟩
  | .hbm, ⟨6, _⟩ => ⟨S8192x3072, .f32⟩
  | .hbm, ⟨7, _⟩ => ⟨S3072x512, .f32⟩
  | .hbm, ⟨8, _⟩ => ⟨S512x3072, .f32⟩
  | .hbm, ⟨9, _⟩ => ⟨S512x3072, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S8192x3072 : Shape := ⟨2, ![8192, 3072]⟩
abbrev S512x3072 : Shape := ⟨2, ![512, 3072]⟩
abbrev S8192x512 : Shape := ⟨2, ![8192, 512]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S512x3072, .bf16⟩
  | .hbm, ⟨2, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x3072 : Shape := ⟨2, ![8192, 3072]⟩
abbrev S512x3072 : Shape := ⟨2, ![512, 3072]⟩
abbrev S_ : Shape := ⟨0, ![]⟩
abbrev S8192x512 : Shape := ⟨2, ![8192, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S512x3072, .bf16⟩
  | .hbm, ⟨2, _⟩ => ⟨S_, .f32⟩
  | .hbm, ⟨3, _⟩ => ⟨S8192x512, .f32⟩
  | .hbm, ⟨4, _⟩ => ⟨S512x3072, .f32⟩
  | .hbm, ⟨5, _⟩ => ⟨S8192x3072, .f32⟩
  | .hbm, ⟨6, _⟩ => ⟨S8192x3072, .f32⟩
  | .hbm, ⟨7, _⟩ => ⟨S8192x512, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S256x2048 : Shape := ⟨2, ![256, 2048]⟩
abbrev S256x1024 : Shape := ⟨2, ![256, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .f32⟩
  | .hbm, ⟨1, _⟩ => ⟨S256x1024, .f32⟩
  | .hbm, ⟨2, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S256x2048 : Shape := ⟨2, ![256, 2048]⟩
abbrev S256x1024 : Shape := ⟨2, ![256, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x1024, .f32⟩
  | .hbm, ⟨2, _⟩ => ⟨S_, .f32⟩
  | .hbm, ⟨3, _⟩ => ⟨S2048x1024, .f32⟩
  | .hbm, ⟨4, _⟩ => ⟨S256x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S8192x2048 : Shape := ⟨2, ![8192, 2048]⟩
abbrev S2048x8192 : Shape := ⟨2, ![2048, 8192]⟩
abbrev S8192x8192 : Shape := ⟨2, ![8192, 8192]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x8192, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x2048 : Shape := ⟨2, ![8192, 2048]⟩
abbrev S2048x8192 : Shape := ⟨2, ![2048, 8192]⟩
abbrev S8192x8192 : Shape := ⟨2, ![8192, 8192]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x2048, .f32⟩
  | .hbm, ⟨3, _⟩ => ⟨S2048x8192, .f32⟩
  | .hbm, ⟨4, _⟩ => ⟨S8192x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel18.lean ====
abbrev S8192x8192 : Shape := ⟨2, ![8192, 8192]⟩
abbrev S8192x2048 : Shape := ⟨2, ![8192, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S8192x2048, .bf16⟩
  | .hbm, ⟨2, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x8192 : Shape := ⟨2, ![8192, 8192]⟩
abbrev S8192x2048 : Shape := ⟨2, ![8192, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .bf16⟩
  | .hbm, ⟨2, _⟩ => ⟨S_, .f32⟩
  | .hbm, ⟨3, _⟩ => ⟨S8192x8192, .f32⟩
  | .hbm, ⟨4, _⟩ => ⟨S8192x8192, .f32⟩
  | .hbm, ⟨5, _⟩ => ⟨S8192x8192, .f32⟩
  | .hbm, ⟨6, _⟩ => ⟨S8192x2048, .f32⟩
  | .hbm, ⟨7, _⟩ => ⟨S8192x2048, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel19.lean ====
abbrev S8192x2048 : Shape := ⟨2, ![8192, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel20.lean ====
abbrev S8192x2048 : Shape := ⟨2, ![8192, 2048]⟩
abbrev S2048x6912 : Shape := ⟨2, ![2048, 6912]⟩
abbrev S8192x6912 : Shape := ⟨2, ![8192, 6912]⟩
abbrev S512x2048 : Shape := ⟨2, ![512, 2048]⟩
abbrev S2048x768 : Shape := ⟨2, ![2048, 768]⟩
abbrev S512x768 : Shape := ⟨2, ![512, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x6912, .bf16⟩
  | .hbm, ⟨2, _⟩ => ⟨S8192x6912, .f32⟩
  | .local _ .vmem, ⟨0, _⟩ => ⟨S512x2048, .bf16⟩
  | .local _ .vmem, ⟨1, _⟩ => ⟨S512x2048, .bf16⟩
  | .local _ .vmem, ⟨2, _⟩ => ⟨S2048x768, .bf16⟩
  | .local _ .vmem, ⟨3, _⟩ => ⟨S2048x768, .bf16⟩
  | .local _ .vmem, ⟨4, _⟩ => ⟨S512x768, .f32⟩
  | .local _ .vmem, ⟨5, _⟩ => ⟨S512x768, .f32⟩
  | .local _ .vmem, ⟨6, _⟩ => ⟨S512x768, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 9, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x2048 : Shape := ⟨2, ![8192, 2048]⟩
abbrev S2048x6912 : Shape := ⟨2, ![2048, 6912]⟩
abbrev S8192x6912 : Shape := ⟨2, ![8192, 6912]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6912, .bf16⟩
  | .hbm, ⟨2, _⟩ => ⟨S8192x2048, .f32⟩
  | .hbm, ⟨3, _⟩ => ⟨S2048x6912, .f32⟩
  | .hbm, ⟨4, _⟩ => ⟨S8192x6912, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel21.lean ====
abbrev S8192x2048 : Shape := ⟨2, ![8192, 2048]⟩
abbrev S2048x1792 : Shape := ⟨2, ![2048, 1792]⟩
abbrev S8192x1792 : Shape := ⟨2, ![8192, 1792]⟩
abbrev S512x2048 : Shape := ⟨2, ![512, 2048]⟩
abbrev S2048x256 : Shape := ⟨2, ![2048, 256]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x1792, .bf16⟩
  | .hbm, ⟨2, _⟩ => ⟨S8192x1792, .f32⟩
  | .local _ .vmem, ⟨0, _⟩ => ⟨S512x2048, .bf16⟩
  | .local _ .vmem, ⟨1, _⟩ => ⟨S512x2048, .bf16⟩
  | .local _ .vmem, ⟨2, _⟩ => ⟨S2048x256, .bf16⟩
  | .local _ .vmem, ⟨3, _⟩ => ⟨S2048x256, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 7, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8192x2048 : Shape := ⟨2, ![8192, 2048]⟩
abbrev S2048x1792 : Shape := ⟨2, ![2048, 1792]⟩
abbrev S8192x1792 : Shape := ⟨2, ![8192, 1792]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1792, .bf16⟩
  | .hbm, ⟨2, _⟩ => ⟨S8192x2048, .f32⟩
  | .hbm, ⟨3, _⟩ => ⟨S2048x1792, .f32⟩
  | .hbm, ⟨4, _⟩ => ⟨S8192x1792, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel22.lean ====
abbrev S8192x512 : Shape := ⟨2, ![8192, 512]⟩
abbrev S512x3072 : Shape := ⟨2, ![512, 3072]⟩
abbrev S8192x3072 : Shape := ⟨2, ![8192, 3072]⟩
abbrev S512x512 : Shape := ⟨2, ![512, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S512x3072, .bf16⟩
  | .hbm, ⟨2, _⟩ => ⟨S8192x3072, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 3, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S8192x512 : Shape := ⟨2, ![8192, 512]⟩
abbrev S512x3072 : Shape := ⟨2, ![512, 3072]⟩
abbrev S8192x3072 : Shape := ⟨2, ![8192, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x3072, .bf16⟩
  | .hbm, ⟨2, _⟩ => ⟨S8192x512, .f32⟩
  | .hbm, ⟨3, _⟩ => ⟨S512x3072, .f32⟩
  | .hbm, ⟨4, _⟩ => ⟨S8192x3072, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel23.lean ====
abbrev S8192x512 : Shape := ⟨2, ![8192, 512]⟩
abbrev S512x3072 : Shape := ⟨2, ![512, 3072]⟩
abbrev S8192x3072 : Shape := ⟨2, ![8192, 3072]⟩
abbrev S512x512 : Shape := ⟨2, ![512, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S512x3072, .bf16⟩
  | .hbm, ⟨2, _⟩ => ⟨S8192x3072, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 3, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S8192x512 : Shape := ⟨2, ![8192, 512]⟩
abbrev S512x3072 : Shape := ⟨2, ![512, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x3072, .bf16⟩
  | .hbm, ⟨2, _⟩ => ⟨S8192x512, .f32⟩
  | .hbm, ⟨3, _⟩ => ⟨S512x3072, .f32⟩
  | .hbm, ⟨4, _⟩ => ⟨S8192x3072, .f32⟩
  | .hbm, ⟨5, _⟩ => ⟨S8192x3072, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel24.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 3
  | .vmem => 4
  | .smem => 0
  | _ => 0

abbrev bufTy : (tb : Table) → Fin (tcTables nBuf tb) → BufTy
  | .hbm, ⟨0, _⟩ => ⟨S256x2048, .f32⟩
  | .hbm, ⟨1, _⟩ => ⟨S2048x1024, .bf16⟩
  | .hbm, ⟨2, _⟩ => ⟨S256x1024, .f32⟩
  | .local _ .vmem, ⟨0, _⟩ => ⟨S256x2048, .f32⟩
  | .local _ .vmem, ⟨1, _⟩ => ⟨S2048x1024, .bf16⟩
  | .local _ .vmem, ⟨2, _⟩ => ⟨S256x1024, .f32⟩
  | .local _ .vmem, ⟨3, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference24Ideal.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 4
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x1024, .bf16⟩
  | .hbm, ⟨2, _⟩ => ⟨S2048x1024, .f32⟩
  | .hbm, ⟨3, _⟩ => ⟨S256x1024, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel25.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .bf16⟩
  | .hbm, ⟨7, _⟩ => ⟨S1x2048, .f32⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | .local _ .vmem, ⟨13, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference25Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 85
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S8192x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x2048, .f32⟩
  | .hbm, ⟨58, _⟩ => ⟨S8192x2048, .f32⟩
  | .hbm, ⟨59, _⟩ => ⟨S8192x1, .f32⟩
  | .hbm, ⟨60, _⟩ => ⟨S8192x2048, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S8192x2048, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S8192, .f32⟩
  | .hbm, ⟨82, _⟩ => ⟨S8192x2048, .f32⟩
  | .hbm, ⟨83, _⟩ => ⟨S8192x2048, .f32⟩
  | .hbm, ⟨84, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_cst_11 : Ref sig .tc := ⟨.hbm, 64, rfl⟩
abbrev main_v47 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_14 : Ref sig .tc := ⟨.hbm, 77, rfl⟩
abbrev main_v57 : Ref sig .tc := ⟨.hbm, 78, rfl⟩
abbrev main_v58 : Ref sig .tc := ⟨.hbm, 79, rfl⟩
abbrev main_cst_15 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]
-- ==== Kernel26.lean ====
abbrev S8192x6912 : Shape := ⟨2, ![8192, 6912]⟩
abbrev S256x1024 : Shape := ⟨2, ![256, 1024]⟩
abbrev S8192x2048 : Shape := ⟨2, ![8192, 2048]⟩
abbrev S8192x512 : Shape := ⟨2, ![8192, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x6912, .f32⟩
  | .hbm, ⟨1, _⟩ => ⟨S256x1024, .f32⟩
  | .hbm, ⟨2, _⟩ => ⟨S8192x2048, .f32⟩
  | .hbm, ⟨3, _⟩ => ⟨S8192x512, .f32⟩
  | .hbm, ⟨4, _⟩ => ⟨S256x1024, .f32⟩
  | .local _ .vmem, ⟨0, _⟩ => ⟨S512x512, .f32⟩
  | .local _ .vmem, ⟨1, _⟩ => ⟨S512x512, .f32⟩
  | .local _ .vmem, ⟨2, _⟩ => ⟨S256x1024, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S256x1024, .f32⟩
  | _, _ => ⟨S8192x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference26Ideal.lean ====
abbrev S8192x6912 : Shape := ⟨2, ![8192, 6912]⟩
abbrev S256x1024 : Shape := ⟨2, ![256, 1024]⟩
abbrev S8192x2048 : Shape := ⟨2, ![8192, 2048]⟩
abbrev S8192x512 : Shape := ⟨2, ![8192, 512]⟩
abbrev S8192x4x128 : Shape := ⟨3, ![8192, 4, 128]⟩
abbrev S256x512 : Shape := ⟨2, ![256, 512]⟩
abbrev S256x4x128 : Shape := ⟨3, ![256, 4, 128]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩
abbrev S4x128x256 : Shape := ⟨3, ![4, 128, 256]⟩
abbrev S4x256x128 : Shape := ⟨3, ![4, 256, 128]⟩
abbrev S4x8192x128 : Shape := ⟨3, ![4, 8192, 128]⟩

abbrev nBuf : Space → Nat
  | .hbm => 89
  | .vmem => 0
  | .smem => 0
  | _ => 0

abbrev bufTy : (tb : Table) → Fin (tcTables nBuf tb) → BufTy
  | .hbm, ⟨0, _⟩ => ⟨S8192x6912, .f32⟩
  | .hbm, ⟨1, _⟩ => ⟨S256x1024, .f32⟩
  | .hbm, ⟨2, _⟩ => ⟨S8192x2048, .f32⟩
  | .hbm, ⟨3, _⟩ => ⟨S8192x512, .f32⟩
  | .hbm, ⟨4, _⟩ => ⟨S8192x4x128, .f32⟩
  | .hbm, ⟨5, _⟩ => ⟨S256x512, .f32⟩
  | .hbm, ⟨6, _⟩ => ⟨S256x4x128, .f32⟩
  | .hbm, ⟨7, _⟩ => ⟨S256x512, .f32⟩
  | .hbm, ⟨8, _⟩ => ⟨S256x4x128, .f32⟩
  | .hbm, ⟨9, _⟩ => ⟨S4x8192x256, .f32⟩
  | .hbm, ⟨10, _⟩ => ⟨S_, .f32⟩
  | .hbm, ⟨11, _⟩ => ⟨S4x8192x256, .f32⟩
  | .hbm, ⟨12, _⟩ => ⟨S4x8192x256, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S4x8192x256, .f32⟩
  | .hbm, ⟨17, _⟩ => ⟨S4x8192x256, .i1⟩
  | .hbm, ⟨18, _⟩ => ⟨S4x8192x256, .f32⟩
  | .hbm, ⟨19, _⟩ => ⟨S_, .f32⟩
  | .hbm, ⟨20, _⟩ => ⟨S4x8192, .f32⟩
  | .hbm, ⟨21, _⟩ => ⟨S_, .f32⟩
  | .hbm, ⟨22, _⟩ => ⟨S4x8192, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S4x8192, .i1⟩
  | .hbm, ⟨27, _⟩ => ⟨S_, .f32⟩
  | .hbm, ⟨28, _⟩ => ⟨S4x8192, .f32⟩
  | .hbm, ⟨29, _⟩ => ⟨S4x8192, .i1⟩
  | .hbm, ⟨30, _⟩ => ⟨S_, .f32⟩
  | .hbm, ⟨31, _⟩ => ⟨S4x8192, .f32⟩
  | .hbm, ⟨32, _⟩ => ⟨S_, .f32⟩
  | .hbm, ⟨33, _⟩ => ⟨S4x8192, .f32⟩
  | .hbm, ⟨34, _⟩ => ⟨S_, .f32⟩
  | .hbm, ⟨35, _⟩ => ⟨S4x8192, .f32⟩
  | .hbm, ⟨36, _⟩ => ⟨S4x8192, .f32⟩
  | .hbm, ⟨37, _⟩ => ⟨S4x8192, .f32⟩
  | .hbm, ⟨38, _⟩ => ⟨S4x8192x1, .f32⟩
  | .hbm, ⟨39, _⟩ => ⟨S4x8192x256, .f32⟩
  | .hbm, ⟨40, _⟩ => ⟨S4x8192x256, .f32⟩
  | .hbm, ⟨41, _⟩ => ⟨S4x8192x256, .f32⟩
  | .hbm, ⟨42, _⟩ => ⟨S_, .f32⟩
  | .hbm, ⟨43, _⟩ => ⟨S4x8192, .f32⟩
  | .hbm, ⟨44, _⟩ => ⟨S4x8192x1, .f32⟩
  | .hbm, ⟨45, _⟩ => ⟨S4x8192x256, .f32⟩
  | .hbm, ⟨46, _⟩ => ⟨S4x8192x256, .f32⟩
  | .hbm, ⟨47, _⟩ => ⟨S4x8192x1, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S4x128x8192, .f32⟩
  | .hbm, ⟨52, _⟩ => ⟨S8192x4x128, .f32⟩
  | .hbm, ⟨53, _⟩ => ⟨S8192x512, .f32⟩
  | .hbm, ⟨54, _⟩ => ⟨S8192x512, .f32⟩
  | .hbm, ⟨55, _⟩ => ⟨S8192x4x128, .f32⟩
  | .hbm, ⟨56, _⟩ => ⟨S4x128x8192, .f32⟩
  | .hbm, ⟨57, _⟩ => ⟨S4x8192x256, .f32⟩
  | .hbm, ⟨58, _⟩ => ⟨S4x128x256, .f32⟩
  | .hbm, ⟨59, _⟩ => ⟨S256x4x128, .f32⟩
  | .hbm, ⟨60, _⟩ => ⟨S4x8192x256, .f32⟩
  | .hbm, ⟨61, _⟩ => ⟨S4x8192x256, .f32⟩
  | .hbm, ⟨62, _⟩ => ⟨S4x8192x256, .f32⟩
  | .hbm, ⟨63, _⟩ => ⟨S_, .f32⟩
  | .hbm, ⟨64, _⟩ => ⟨S4x8192, .f32⟩
  | .hbm, ⟨65, _⟩ => ⟨S4x8192x1, .f32⟩
  | .hbm, ⟨66, _⟩ => ⟨S4x8192x1, .f32⟩
  | .hbm, ⟨67, _⟩ => ⟨S4x8192x256, .f32⟩
  | .hbm, ⟨68, _⟩ => ⟨S4x8192x256, .f32⟩
  | .hbm, ⟨69, _⟩ => ⟨S_, .f32⟩
  | .hbm, ⟨70, _⟩ => ⟨S4x8192, .f32⟩
  | .hbm, ⟨71, _⟩ => ⟨S4x8192x256, .f32⟩
  | .hbm, ⟨72, _⟩ => ⟨S4x8192x256, .f32⟩
  | .hbm, ⟨73, _⟩ => ⟨S4x8192x256, .f32⟩
  | .hbm, ⟨74, _⟩ => ⟨S_, .f32⟩
  | .hbm, ⟨75, _⟩ => ⟨S4x8192x256, .f32⟩
  | .hbm, ⟨76, _⟩ => ⟨S4x8192x256, .f32⟩
  | .hbm, ⟨77, _⟩ => ⟨S4x256x128, .f32⟩
  | .hbm, ⟨78, _⟩ => ⟨S256x4x128, .f32⟩
  | .hbm, ⟨79, _⟩ => ⟨S4x8192x128, .f32⟩
  | .hbm, ⟨80, _⟩ => ⟨S8192x4x128, .f32⟩
  | .hbm, ⟨81, _⟩ => ⟨S256x512, .f32⟩
  | .hbm, ⟨82, _⟩ => ⟨S_, .f32⟩
  | .hbm, ⟨83, _⟩ => ⟨S256x1024, .f32⟩
  | .hbm, ⟨84, _⟩ => ⟨S256x512, .f32⟩
  | .hbm, ⟨85, _⟩ => ⟨S_, .f32⟩
  | .hbm, ⟨86, _⟩ => ⟨S256x1024, .f32⟩
  | .hbm, ⟨87, _⟩ => ⟨S256x1024, .f32⟩
  | .hbm, ⟨88, _⟩ => ⟨S8192x512, .f32⟩
  | _, _ => ⟨S8192x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_13 : Ref sig .tc := ⟨.hbm, 82, rfl⟩
abbrev main_v65 : Ref sig .tc := ⟨.hbm, 83, rfl⟩
abbrev main_v66 : Ref sig .tc := ⟨.hbm, 84, rfl⟩
abbrev main_cst_14 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩

abbrev nD : Nat := 1
abbrev τ : Topo := Topo.v7x

variable {F : FTy → Type} [FloatOps F]
-- ==== Kernel27.lean ====
abbrev S8192x1536 : Shape := ⟨2, ![8192, 1536]⟩
abbrev S8192x6912 : Shape := ⟨2, ![8192, 6912]⟩
abbrev S1x128 : Shape := ⟨2, ![1, 128]⟩
abbrev S8192x2048 : Shape := ⟨2, ![8192, 2048]⟩
abbrev S256x1536 : Shape := ⟨2, ![256, 1536]⟩
abbrev S256x128 : Shape := ⟨2, ![256, 128]⟩
abbrev S256 : Shape := ⟨1, ![256]⟩
abbrev S256x1 : Shape := ⟨2, ![256, 1]⟩
abbrev S128 : Shape := ⟨1, ![128]⟩

abbrev nBuf : Space → Nat
  | .hbm => 7
  | .vmem => 12
  | .smem => 0
  | _ => 0

abbrev bufTy : (tb : Table) → Fin (tcTables nBuf tb) → BufTy
  | .hbm, ⟨0, _⟩ => ⟨S8192x1536, .f32⟩
  | .hbm, ⟨1, _⟩ => ⟨S8192x6912, .f32⟩
  | .hbm, ⟨2, _⟩ => ⟨S1x128, .f32⟩
  | .hbm, ⟨3, _⟩ => ⟨S8192x2048, .f32⟩
  | .hbm, ⟨4, _⟩ => ⟨S8192x1536, .f32⟩
  | .hbm, ⟨5, _⟩ => ⟨S8192x1536, .f32⟩
  | .hbm, ⟨6, _⟩ => ⟨S1x128, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S1x128, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S1x128, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference27Ideal.lean ====
abbrev S8192x1536 : Shape := ⟨2, ![8192, 1536]⟩
abbrev S8192x6912 : Shape := ⟨2, ![8192, 6912]⟩
abbrev S1x128 : Shape := ⟨2, ![1, 128]⟩
abbrev S8192x2048 : Shape := ⟨2, ![8192, 2048]⟩
abbrev S8192x12x128 : Shape := ⟨3, ![8192, 12, 128]⟩
abbrev S_ : Shape := ⟨0, ![]⟩
abbrev S8192x12 : Shape := ⟨2, ![8192, 12]⟩
abbrev S8192x12x1 : Shape := ⟨3, ![8192, 12, 1]⟩
abbrev S1x1x128 : Shape := ⟨3, ![1, 1, 128]⟩
abbrev S128 : Shape := ⟨1, ![128]⟩

abbrev nBuf : Space → Nat
  | .hbm => 78
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x6912, .f32⟩
  | .hbm, ⟨2, _⟩ => ⟨S1x128, .f32⟩
  | .hbm, ⟨3, _⟩ => ⟨S8192x2048, .f32⟩
  | .hbm, ⟨4, _⟩ => ⟨S8192x1536, .f32⟩
  | .hbm, ⟨5, _⟩ => ⟨S8192x12x128, .f32⟩
  | .hbm, ⟨6, _⟩ => ⟨S8192x12x128, .f32⟩
  | .hbm, ⟨7, _⟩ => ⟨S_, .f32⟩
  | .hbm, ⟨8, _⟩ => ⟨S8192x12, .f32⟩
  | .hbm, ⟨9, _⟩ => ⟨S8192x12x1, .f32⟩
  | .hbm, ⟨10, _⟩ => ⟨S_, .f32⟩
  | .hbm, ⟨11, _⟩ => ⟨S8192x12x1, .f32⟩
  | .hbm, ⟨12, _⟩ => ⟨S8192x12x1, .f32⟩
  | .hbm, ⟨13, _⟩ => ⟨S_, .f32⟩
  | .hbm, ⟨14, _⟩ => ⟨S8192x12x1, .f32⟩
  | .hbm, ⟨15, _⟩ => ⟨S8192x12x1, .f32⟩
  | .hbm, ⟨16, _⟩ => ⟨S8192x12x1, .f32⟩
  | .hbm, ⟨17, _⟩ => ⟨S8192x12x1, .f32⟩
  | .hbm, ⟨18, _⟩ => ⟨S_, .f32⟩
  | .hbm, ⟨19, _⟩ => ⟨S8192x12x1, .f32⟩
  | .hbm, ⟨20, _⟩ => ⟨S8192x12x1, .f32⟩
  | .hbm, ⟨21, _⟩ => ⟨S8192x12x128, .f32⟩
  | .hbm, ⟨22, _⟩ => ⟨S8192x12x128, .f32⟩
  | .hbm, ⟨23, _⟩ => ⟨S1x1x128, .f32⟩
  | .hbm, ⟨24, _⟩ => ⟨S8192x12x128, .f32⟩
  | .hbm, ⟨25, _⟩ => ⟨S8192x12x128, .f32⟩
  | .hbm, ⟨26, _⟩ => ⟨S8192x12x128, .f32⟩
  | .hbm, ⟨27, _⟩ => ⟨S8192x12x128, .f32⟩
  | .hbm, ⟨28, _⟩ => ⟨S8192x12x128, .f32⟩
  | .hbm, ⟨29, _⟩ => ⟨S_, .f32⟩
  | .hbm, ⟨30, _⟩ => ⟨S8192x12x128, .f32⟩
  | .hbm, ⟨31, _⟩ => ⟨S8192x12x128, .f32⟩
  | .hbm, ⟨32, _⟩ => ⟨S_, .f32⟩
  | .hbm, ⟨33, _⟩ => ⟨S8192x12x128, .f32⟩
  | .hbm, ⟨34, _⟩ => ⟨S8192x12x128, .f32⟩
  | .hbm, ⟨35, _⟩ => ⟨S_, .f32⟩
  | .hbm, ⟨36, _⟩ => ⟨S8192x12x128, .f32⟩
  | .hbm, ⟨37, _⟩ => ⟨S8192x12x128, .f32⟩
  | .hbm, ⟨38, _⟩ => ⟨S8192x12x128, .f32⟩
  | .hbm, ⟨39, _⟩ => ⟨S8192x12x128, .f32⟩
  | .hbm, ⟨40, _⟩ => ⟨S8192x12x128, .f32⟩
  | .hbm, ⟨41, _⟩ => ⟨S8192x1536, .f32⟩
  | .hbm, ⟨42, _⟩ => ⟨S8192x1536, .f32⟩
  | .hbm, ⟨43, _⟩ => ⟨S8192x12x128, .f32⟩
  | .hbm, ⟨44, _⟩ => ⟨S8192x12x128, .f32⟩
  | .hbm, ⟨45, _⟩ => ⟨S8192x12x128, .f32⟩
  | .hbm, ⟨46, _⟩ => ⟨S8192x12x128, .f32⟩
  | .hbm, ⟨47, _⟩ => ⟨S8192x12x128, .f32⟩
  | .hbm, ⟨48, _⟩ => ⟨S8192x12x128, .f32⟩
  | .hbm, ⟨49, _⟩ => ⟨S8192x12x128, .f32⟩
  | .hbm, ⟨50, _⟩ => ⟨S8192x1536, .f32⟩
  | .hbm, ⟨51, _⟩ => ⟨S8192x12x128, .f32⟩
  | .hbm, ⟨52, _⟩ => ⟨S_, .f32⟩
  | .hbm, ⟨53, _⟩ => ⟨S128, .f32⟩
  | .hbm, ⟨54, _⟩ => ⟨S1x1x128, .f32⟩
  | .hbm, ⟨55, _⟩ => ⟨S8192x12x128, .f32⟩
  | .hbm, ⟨56, _⟩ => ⟨S8192x12x128, .f32⟩
  | .hbm, ⟨57, _⟩ => ⟨S_, .f32⟩
  | .hbm, ⟨58, _⟩ => ⟨S128, .f32⟩
  | .hbm, ⟨59, _⟩ => ⟨S1x128, .f32⟩
  | .hbm, ⟨60, _⟩ => ⟨S8192x12x128, .f32⟩
  | .hbm, ⟨61, _⟩ => ⟨S_, .f32⟩
  | .hbm, ⟨62, _⟩ => ⟨S8192x12, .f32⟩
  | .hbm, ⟨63, _⟩ => ⟨S8192x12x1, .f32⟩
  | .hbm, ⟨64, _⟩ => ⟨S8192x12x128, .f32⟩
  | .hbm, ⟨65, _⟩ => ⟨S8192x12x128, .f32⟩
  | .hbm, ⟨66, _⟩ => ⟨S8192x12x1, .f32⟩
  | .hbm, ⟨67, _⟩ => ⟨S_, .f32⟩
  | .hbm, ⟨68, _⟩ => ⟨S8192x12x1, .f32⟩
  | .hbm, ⟨69, _⟩ => ⟨S8192x12x1, .f32⟩
  | .hbm, ⟨70, _⟩ => ⟨S_, .f32⟩
  | .hbm, ⟨71, _⟩ => ⟨S8192x12, .f32⟩
  | .hbm, ⟨72, _⟩ => ⟨S8192x12x128, .f32⟩
  | .hbm, ⟨73, _⟩ => ⟨S8192x12x128, .f32⟩
  | .hbm, ⟨74, _⟩ => ⟨S8192x12x128, .f32⟩
  | .hbm, ⟨75, _⟩ => ⟨S8192x12x128, .f32⟩
  | .hbm, ⟨76, _⟩ => ⟨S8192x12x128, .f32⟩
  | .hbm, ⟨77, _⟩ => ⟨S8192x1536, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v19_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v19_1 : Ref sig .tc := ⟨.hbm, 38, rfl⟩
abbrev main_v19_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_3 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_5 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_6 : Ref sig .tc := ⟨.hbm, 67, rfl⟩
abbrev main_v41 : Ref sig .tc := ⟨.hbm, 68, rfl⟩
abbrev main_v42 : Ref sig .tc := ⟨.hbm, 69, rfl⟩
abbrev main_cst_7 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩

abbrev nD : Nat := 1
abbrev τ : Topo := Topo.v7x

variable {F : FTy → Type} [FloatOps F]
-- ==== Kernel28.lean ====
abbrev S8192x1792 : Shape := ⟨2, ![8192, 1792]⟩
abbrev S256x1024 : Shape := ⟨2, ![256, 1024]⟩
abbrev S8192x512 : Shape := ⟨2, ![8192, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1792, .f32⟩
  | .hbm, ⟨1, _⟩ => ⟨S256x1024, .f32⟩
  | .hbm, ⟨2, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S256x1024, .f32⟩
  | .local _ .vmem, ⟨3, _⟩ => ⟨S512x512, .f32⟩
  | .local _ .vmem, ⟨4, _⟩ => ⟨S512x512, .f32⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference28Ideal.lean ====
abbrev S8192x1792 : Shape := ⟨2, ![8192, 1792]⟩
abbrev S256x1024 : Shape := ⟨2, ![256, 1024]⟩
abbrev S8192x512 : Shape := ⟨2, ![8192, 512]⟩
abbrev S8192x4x128 : Shape := ⟨3, ![8192, 4, 128]⟩
abbrev S256x512 : Shape := ⟨2, ![256, 512]⟩
abbrev S256x4x128 : Shape := ⟨3, ![256, 4, 128]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩

abbrev nBuf : Space → Nat
  | .hbm => 29
  | .vmem => 0
  | .smem => 0
  | _ => 0

abbrev bufTy : (tb : Table) → Fin (tcTables nBuf tb) → BufTy
  | .hbm, ⟨0, _⟩ => ⟨S8192x1792, .f32⟩
  | .hbm, ⟨1, _⟩ => ⟨S256x1024, .f32⟩
  | .hbm, ⟨2, _⟩ => ⟨S8192x512, .f32⟩
  | .hbm, ⟨3, _⟩ => ⟨S8192x4x128, .f32⟩
  | .hbm, ⟨4, _⟩ => ⟨S256x512, .f32⟩
  | .hbm, ⟨5, _⟩ => ⟨S256x4x128, .f32⟩
  | .hbm, ⟨6, _⟩ => ⟨S256x512, .f32⟩
  | .hbm, ⟨7, _⟩ => ⟨S256x4x128, .f32⟩
  | .hbm, ⟨8, _⟩ => ⟨S4x8192x256, .f32⟩
  | .hbm, ⟨9, _⟩ => ⟨S_, .f32⟩
  | .hbm, ⟨10, _⟩ => ⟨S4x8192x256, .f32⟩
  | .hbm, ⟨11, _⟩ => ⟨S4x8192x256, .f32⟩
  | .hbm, ⟨12, _⟩ => ⟨S_, .f32⟩
  | .hbm, ⟨13, _⟩ => ⟨S4x8192, .f32⟩
  | .hbm, ⟨14, _⟩ => ⟨S_, .f32⟩
  | .hbm, ⟨15, _⟩ => ⟨S4x8192, .f32⟩
  | .hbm, ⟨16, _⟩ => ⟨S4x8192, .f32⟩
  | .hbm, ⟨17, _⟩ => ⟨S4x8192x1, .f32⟩
  | .hbm, ⟨18, _⟩ => ⟨S4x8192x256, .f32⟩
  | .hbm, ⟨19, _⟩ => ⟨S4x8192x256, .f32⟩
  | .hbm, ⟨20, _⟩ => ⟨S4x8192x256, .f32⟩
  | .hbm, ⟨21, _⟩ => ⟨S_, .f32⟩
  | .hbm, ⟨22, _⟩ => ⟨S4x8192, .f32⟩
  | .hbm, ⟨23, _⟩ => ⟨S4x8192x1, .f32⟩
  | .hbm, ⟨24, _⟩ => ⟨S4x8192x256, .f32⟩
  | .hbm, ⟨25, _⟩ => ⟨S4x8192x256, .f32⟩
  | .hbm, ⟨26, _⟩ => ⟨S4x128x8192, .f32⟩
  | .hbm, ⟨27, _⟩ => ⟨S8192x4x128, .f32⟩
  | .hbm, ⟨28, _⟩ => ⟨S8192x512, .f32⟩
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Kernel29.lean ====
abbrev S8192x6912 : Shape := ⟨2, ![8192, 6912]⟩
abbrev S256x1024 : Shape := ⟨2, ![256, 1024]⟩
abbrev S8192x512 : Shape := ⟨2, ![8192, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x6912, .f32⟩
  | .hbm, ⟨1, _⟩ => ⟨S256x1024, .f32⟩
  | .hbm, ⟨2, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S256x1024, .f32⟩
  | .local _ .vmem, ⟨3, _⟩ => ⟨S512x512, .f32⟩
  | .local _ .vmem, ⟨4, _⟩ => ⟨S512x512, .f32⟩
  | _, _ => ⟨S8192x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference29Ideal.lean ====
abbrev S8192x6912 : Shape := ⟨2, ![8192, 6912]⟩
abbrev S256x1024 : Shape := ⟨2, ![256, 1024]⟩
abbrev S8192x512 : Shape := ⟨2, ![8192, 512]⟩
abbrev S8192x4x128 : Shape := ⟨3, ![8192, 4, 128]⟩
abbrev S256x512 : Shape := ⟨2, ![256, 512]⟩
abbrev S256x4x128 : Shape := ⟨3, ![256, 4, 128]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩

abbrev nBuf : Space → Nat
  | .hbm => 29
  | .vmem => 0
  | .smem => 0
  | _ => 0

abbrev bufTy : (tb : Table) → Fin (tcTables nBuf tb) → BufTy
  | .hbm, ⟨0, _⟩ => ⟨S8192x6912, .f32⟩
  | .hbm, ⟨1, _⟩ => ⟨S256x1024, .f32⟩
  | .hbm, ⟨2, _⟩ => ⟨S8192x512, .f32⟩
  | .hbm, ⟨3, _⟩ => ⟨S8192x4x128, .f32⟩
  | .hbm, ⟨4, _⟩ => ⟨S256x512, .f32⟩
  | .hbm, ⟨5, _⟩ => ⟨S256x4x128, .f32⟩
  | .hbm, ⟨6, _⟩ => ⟨S256x512, .f32⟩
  | .hbm, ⟨7, _⟩ => ⟨S256x4x128, .f32⟩
  | .hbm, ⟨8, _⟩ => ⟨S4x8192x256, .f32⟩
  | .hbm, ⟨9, _⟩ => ⟨S_, .f32⟩
  | .hbm, ⟨10, _⟩ => ⟨S4x8192x256, .f32⟩
  | .hbm, ⟨11, _⟩ => ⟨S4x8192x256, .f32⟩
  | .hbm, ⟨12, _⟩ => ⟨S_, .f32⟩
  | .hbm, ⟨13, _⟩ => ⟨S4x8192, .f32⟩
  | .hbm, ⟨14, _⟩ => ⟨S_, .f32⟩
  | .hbm, ⟨15, _⟩ => ⟨S4x8192, .f32⟩
  | .hbm, ⟨16, _⟩ => ⟨S4x8192, .f32⟩
  | .hbm, ⟨17, _⟩ => ⟨S4x8192x1, .f32⟩
  | .hbm, ⟨18, _⟩ => ⟨S4x8192x256, .f32⟩
  | .hbm, ⟨19, _⟩ => ⟨S4x8192x256, .f32⟩
  | .hbm, ⟨20, _⟩ => ⟨S4x8192x256, .f32⟩
  | .hbm, ⟨21, _⟩ => ⟨S_, .f32⟩
  | .hbm, ⟨22, _⟩ => ⟨S4x8192, .f32⟩
  | .hbm, ⟨23, _⟩ => ⟨S4x8192x1, .f32⟩
  | .hbm, ⟨24, _⟩ => ⟨S4x8192x256, .f32⟩
  | .hbm, ⟨25, _⟩ => ⟨S4x8192x256, .f32⟩
  | .hbm, ⟨26, _⟩ => ⟨S4x128x8192, .f32⟩
  | .hbm, ⟨27, _⟩ => ⟨S8192x4x128, .f32⟩
  | .hbm, ⟨28, _⟩ => ⟨S8192x512, .f32⟩
  | _, _ => ⟨S8192x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Kernel30.lean ====
abbrev S8192x1792 : Shape := ⟨2, ![8192, 1792]⟩
abbrev S1x512 : Shape := ⟨2, ![1, 512]⟩
abbrev S8192x32 : Shape := ⟨2, ![8192, 32]⟩
abbrev S8192x512 : Shape := ⟨2, ![8192, 512]⟩
abbrev S12x8192x128 : Shape := ⟨3, ![12, 8192, 128]⟩
abbrev S_ : Shape := ⟨0, ![]⟩
abbrev S8192x128 : Shape := ⟨2, ![8192, 128]⟩
abbrev S512x512 : Shape := ⟨2, ![512, 512]⟩
abbrev S512x128 : Shape := ⟨2, ![512, 128]⟩
abbrev S12x512x128 : Shape := ⟨3, ![12, 512, 128]⟩
abbrev S512 : Shape := ⟨1, ![512]⟩
abbrev S512x1 : Shape := ⟨2, ![512, 1]⟩
abbrev S1x512x128 : Shape := ⟨3, ![1, 512, 128]⟩

abbrev nBuf : Space → Nat
  | .hbm => 18
  | .vmem => 24
  | .smem => 0
  | _ => 0

abbrev bufTy : (tb : Table) → Fin (tcTables nBuf tb) → BufTy
  | .hbm, ⟨0, _⟩ => ⟨S8192x1792, .f32⟩
  | .hbm, ⟨1, _⟩ => ⟨S1x512, .f32⟩
  | .hbm, ⟨2, _⟩ => ⟨S1x512, .f32⟩
  | .hbm, ⟨3, _⟩ => ⟨S8192x32, .f32⟩
  | .hbm, ⟨4, _⟩ => ⟨S8192x32, .f32⟩
  | .hbm, ⟨5, _⟩ => ⟨S8192x512, .f32⟩
  | .hbm, ⟨6, _⟩ => ⟨S8192x512, .f32⟩
  | .hbm, ⟨7, _⟩ => ⟨S12x8192x128, .f32⟩
  | .hbm, ⟨8, _⟩ => ⟨S_, .f32⟩
  | .hbm, ⟨9, _⟩ => ⟨S8192x32, .f32⟩
  | .hbm, ⟨10, _⟩ => ⟨S8192x128, .f32⟩
  | .hbm, ⟨11, _⟩ => ⟨S8192x32, .f32⟩
  | .hbm, ⟨12, _⟩ => ⟨S8192x128, .f32⟩
  | .hbm, ⟨13, _⟩ => ⟨S8192x512, .f32⟩
  | .hbm, ⟨14, _⟩ => ⟨S8192x512, .f32⟩
  | .hbm, ⟨15, _⟩ => ⟨S8192x128, .f32⟩
  | .hbm, ⟨16, _⟩ => ⟨S1x512, .f32⟩
  | .hbm, ⟨17, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S12x512x128, .f32⟩
  | .local _ .vmem, ⟨15, _⟩ => ⟨S12x512x128, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x128, .f32⟩
  | .local _ .vmem, ⟨21, _⟩ => ⟨S512x128, .f32⟩
  | .local _ .vmem, ⟨22, _⟩ => ⟨S1x512, .f32⟩
  | .local _ .vmem, ⟨23, _⟩ => ⟨S1x512, .f32⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S12x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference30Ideal.lean ====
abbrev S8192x1792 : Shape := ⟨2, ![8192, 1792]⟩
abbrev S1x512 : Shape := ⟨2, ![1, 512]⟩
abbrev S8192x32 : Shape := ⟨2, ![8192, 32]⟩
abbrev S8192x512 : Shape := ⟨2, ![8192, 512]⟩
abbrev S12x8192x128 : Shape := ⟨3, ![12, 8192, 128]⟩
abbrev S12x8192x32 : Shape := ⟨3, ![12, 8192, 32]⟩
abbrev S12x8192x64 : Shape := ⟨3, ![12, 8192, 64]⟩
abbrev S_ : Shape := ⟨0, ![]⟩
abbrev S8192x64 : Shape := ⟨2, ![8192, 64]⟩
abbrev S8192 : Shape := ⟨1, ![8192]⟩
abbrev S8192x1 : Shape := ⟨2, ![8192, 1]⟩
abbrev S512 : Shape := ⟨1, ![512]⟩
abbrev S8192x128 : Shape := ⟨2, ![8192, 128]⟩

abbrev nBuf : Space → Nat
  | .hbm => 130
  | .vmem => 0
  | .smem => 0
  | _ => 0

abbrev hbmTy0_0 (i : Nat) : BufTy := match i % 128 with
  | 0 => ⟨S8192x1792, .f32⟩
  | 1 => ⟨S1x512, .f32⟩
  | 2 => ⟨S1x512, .f32⟩
  | 3 => ⟨S8192x32, .f32⟩
  | 4 => ⟨S8192x32, .f32⟩
  | 5 => ⟨S8192x512, .f32⟩
  | 6 => ⟨S8192x512, .f32⟩
  | 7 => ⟨S12x8192x128, .f32⟩
  | 8 => ⟨S12x8192x32, .f32⟩
  | 9 => ⟨S12x8192x32, .f32⟩
  | 10 => ⟨S12x8192x64, .f32⟩
  | 11 => ⟨S8192x512, .f32⟩
  | 12 => ⟨S8192x512, .f32⟩
  | 13 => ⟨S_, .f32⟩
  | 14 => ⟨S8192x64, .f32⟩
  | 15 => ⟨S8192x32, .f32⟩
  | 16 => ⟨S8192x32, .f32⟩
  | 17 => ⟨S8192x32, .f32⟩
  | 18 => ⟨S8192x32, .f32⟩
  | 19 => ⟨S8192x32, .f32⟩
  | 20 => ⟨S8192x32, .f32⟩
  | 21 => ⟨S8192x32, .f32⟩
  | 22 => ⟨S8192x32, .f32⟩
  | 23 => ⟨S8192x64, .f32⟩
  | 24 => ⟨S12x8192x64, .f32⟩
  | 25 => ⟨S8192x512, .f32⟩
  | 26 => ⟨S_, .f32⟩
  | 27 => ⟨S8192, .f32⟩
  | 28 => ⟨S8192x1, .f32⟩
  | 29 => ⟨S_, .f32⟩
  | 30 => ⟨S8192x1, .f32⟩
  | 31 => ⟨S8192x1, .f32⟩
  | 32 => ⟨S_, .f32⟩
  | 33 => ⟨S8192x1, .f32⟩
  | 34 => ⟨S8192x1, .f32⟩
  | 35 => ⟨S8192x1, .f32⟩
  | 36 => ⟨S8192x1, .f32⟩
  | 37 => ⟨S_, .f32⟩
  | 38 => ⟨S8192x1, .f32⟩
  | 39 => ⟨S8192x1, .f32⟩
  | 40 => ⟨S8192x512, .f32⟩
  | 41 => ⟨S8192x512, .f32⟩
  | 42 => ⟨S8192x512, .f32⟩
  | 43 => ⟨S8192x512, .f32⟩
  | 44 => ⟨S8192x512, .f32⟩
  | 45 => ⟨S_, .f32⟩
  | 46 => ⟨S8192, .f32⟩
  | 47 => ⟨S8192x1, .f32⟩
  | 48 => ⟨S_, .f32⟩
  | 49 => ⟨S8192x1, .f32⟩
  | 50 => ⟨S8192x1, .f32⟩
  | 51 => ⟨S_, .f32⟩
  | 52 => ⟨S8192x1, .f32⟩
  | 53 => ⟨S8192x1, .f32⟩
  | 54 => ⟨S8192x1, .f32⟩
  | 55 => ⟨S8192x1, .f32⟩
  | 56 => ⟨S_, .f32⟩
  | 57 => ⟨S8192x1, .f32⟩
  | 58 => ⟨S8192x1, .f32⟩
  | 59 => ⟨S8192x512, .f32⟩
  | 60 => ⟨S8192x512, .f32⟩
  | 61 => ⟨S8192x512, .f32⟩
  | 62 => ⟨S8192x512, .f32⟩
  | 63 => ⟨S8192x512, .f32⟩
  | 64 => ⟨S_, .f32⟩
  | 65 => ⟨S512, .f32⟩
  | 66 => ⟨S1x512, .f32⟩
  | 67 => ⟨S8192x512, .f32⟩
  | 68 => ⟨S8192x512, .f32⟩
  | 69 => ⟨S8192x512, .f32⟩
  | 70 => ⟨S_, .f32⟩
  | 71 => ⟨S8192, .f32⟩
  | 72 => ⟨S8192x1, .f32⟩
  | 73 => ⟨S8192x512, .f32⟩
  | 74 => ⟨S8192x512, .f32⟩
  | 75 => ⟨S8192x1, .f32⟩
  | 76 => ⟨S_, .f32⟩
  | 77 => ⟨S8192x1, .f32⟩
  | 78 => ⟨S8192x1, .f32⟩
  | 79 => ⟨S_, .f32⟩
  | 80 => ⟨S8192, .f32⟩
  | 81 => ⟨S8192x512, .f32⟩
  | 82 => ⟨S8192x512, .f32⟩
  | 83 => ⟨S8192x512, .f32⟩
  | 84 => ⟨S8192x512, .f32⟩
  | 85 => ⟨S8192x512, .f32⟩
  | 86 => ⟨S8192x512, .f32⟩
  | 87 => ⟨S_, .f32⟩
  | 88 => ⟨S512, .f32⟩
  | 89 => ⟨S1x512, .f32⟩
  | 90 => ⟨S8192x512, .f32⟩
  | 91 => ⟨S8192x512, .f32⟩
  | 92 => ⟨S8192x512, .f32⟩
  | 93 => ⟨S_, .f32⟩
  | 94 => ⟨S8192, .f32⟩
  | 95 => ⟨S8192x1, .f32⟩
  | 96 => ⟨S8192x512, .f32⟩
  | 97 => ⟨S8192x512, .f32⟩
  | 98 => ⟨S8192x1, .f32⟩
  | 99 => ⟨S_, .f32⟩
  | 100 => ⟨S8192x1, .f32⟩
  | 101 => ⟨S8192x1, .f32⟩
  | 102 => ⟨S_, .f32⟩
  | 103 => ⟨S8192, .f32⟩
  | 104 => ⟨S8192x512, .f32⟩
  | 105 => ⟨S8192x512, .f32⟩
  | 106 => ⟨S8192x512, .f32⟩
  | 107 => ⟨S8192x512, .f32⟩
  | 108 => ⟨S8192x512, .f32⟩
  | 109 => ⟨S_, .f32⟩
  | 110 => ⟨S8192x64, .f32⟩
  | 111 => ⟨S8192x32, .f32⟩
  | 112 => ⟨S8192x32, .f32⟩
  | 113 => ⟨S8192x32, .f32⟩
  | 114 => ⟨S8192x32, .f32⟩
  | 115 => ⟨S8192x32, .f32⟩
  | 116 => ⟨S8192x32, .f32⟩
  | 117 => ⟨S8192x32, .f32⟩
  | 118 => ⟨S8192x32, .f32⟩
  | 119 => ⟨S8192x32, .f32⟩
  | 120 => ⟨S_, .f32⟩
  | 121 => ⟨S8192x64, .f32⟩
  | 122 => ⟨S_, .f32⟩
  | 123 => ⟨S8192x64, .f32⟩
  | 124 => ⟨S8192x64, .f32⟩
  | 125 => ⟨S_, .f32⟩
  | 126 => ⟨S8192x32, .f32⟩
  | 127 => ⟨S8192x32, .f32⟩
  | _ => ⟨S8192x1792, .f32⟩

abbrev hbmTy0_1 (i : Nat) : BufTy := match i % 128 with
  | 0 => ⟨S8192x32, .f32⟩
  | 1 => ⟨S8192x128, .f32⟩
  | _ => ⟨S8192x1792, .f32⟩

abbrev hbmTy (i : Nat) : BufTy := match i / 128 with
  | 0 => hbmTy0_0 i
  | 1 => hbmTy0_1 i
  | _ => ⟨S8192x1792, .f32⟩

abbrev bufTy : (tb : Table) → Fin (tcTables nBuf tb) → BufTy
  | .hbm, ⟨i, _⟩ => hbmTy i
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_10 : Ref sig .tc := ⟨.hbm, 76, rfl⟩
abbrev main_v57 : Ref sig .tc := ⟨.hbm, 77, rfl⟩
abbrev main_v58 : Ref sig .tc := ⟨.hbm, 78, rfl⟩
abbrev main_cst_11 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_12 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_13 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_14 : Ref sig .tc := ⟨.hbm, 99, rfl⟩
abbrev main_v76 : Ref sig .tc := ⟨.hbm, 100, rfl⟩
abbrev main_v77 : Ref sig .tc := ⟨.hbm, 101, rfl⟩
abbrev main_cst_15 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_16 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_17 : Ref sig .tc := ⟨.hbm, 120, rfl⟩
abbrev main_v94 : Ref sig .tc := ⟨.hbm, 121, rfl⟩
abbrev main_cst_18 : Ref sig .tc := ⟨.hbm, 122, rfl⟩
abbrev main_v95 : Ref sig .tc := ⟨.hbm, 123, rfl⟩
abbrev main_v96 : Ref sig .tc := ⟨.hbm, 124, rfl⟩
abbrev main_cst_19 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩

abbrev nD : Nat := 1
abbrev τ : Topo := Topo.v7x

variable {F : FTy → Type} [FloatOps F]
-- ==== Kernel31.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference31Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel32.lean ====
abbrev S8192x1536 : Shape := ⟨2, ![8192, 1536]⟩
abbrev S8192x6912 : Shape := ⟨2, ![8192, 6912]⟩
abbrev S1x128 : Shape := ⟨2, ![1, 128]⟩
abbrev S256x1536 : Shape := ⟨2, ![256, 1536]⟩
abbrev S256x128 : Shape := ⟨2, ![256, 128]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1536, .f32⟩
  | .hbm, ⟨1, _⟩ => ⟨S8192x6912, .f32⟩
  | .hbm, ⟨2, _⟩ => ⟨S1x128, .f32⟩
  | .hbm, ⟨3, _⟩ => ⟨S8192x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S1x128, .f32⟩
  | .local _ .vmem, ⟨5, _⟩ => ⟨S256x1536, .f32⟩
  | .local _ .vmem, ⟨6, _⟩ => ⟨S256x1536, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference32Ideal.lean ====
abbrev S8192x1536 : Shape := ⟨2, ![8192, 1536]⟩
abbrev S8192x6912 : Shape := ⟨2, ![8192, 6912]⟩
abbrev S1x128 : Shape := ⟨2, ![1, 128]⟩
abbrev S8192x12x128 : Shape := ⟨3, ![8192, 12, 128]⟩
abbrev S_ : Shape := ⟨0, ![]⟩
abbrev S8192x12 : Shape := ⟨2, ![8192, 12]⟩
abbrev S8192x12x1 : Shape := ⟨3, ![8192, 12, 1]⟩
abbrev S1x1x128 : Shape := ⟨3, ![1, 1, 128]⟩

abbrev nBuf : Space → Nat
  | .hbm => 33
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x6912, .f32⟩
  | .hbm, ⟨2, _⟩ => ⟨S1x128, .f32⟩
  | .hbm, ⟨3, _⟩ => ⟨S8192x1536, .f32⟩
  | .hbm, ⟨4, _⟩ => ⟨S8192x12x128, .f32⟩
  | .hbm, ⟨5, _⟩ => ⟨S8192x12x128, .f32⟩
  | .hbm, ⟨6, _⟩ => ⟨S_, .f32⟩
  | .hbm, ⟨7, _⟩ => ⟨S8192x12, .f32⟩
  | .hbm, ⟨8, _⟩ => ⟨S8192x12x1, .f32⟩
  | .hbm, ⟨9, _⟩ => ⟨S_, .f32⟩
  | .hbm, ⟨10, _⟩ => ⟨S8192x12x1, .f32⟩
  | .hbm, ⟨11, _⟩ => ⟨S8192x12x1, .f32⟩
  | .hbm, ⟨12, _⟩ => ⟨S_, .f32⟩
  | .hbm, ⟨13, _⟩ => ⟨S8192x12x1, .f32⟩
  | .hbm, ⟨14, _⟩ => ⟨S8192x12x1, .f32⟩
  | .hbm, ⟨15, _⟩ => ⟨S8192x12x1, .f32⟩
  | .hbm, ⟨16, _⟩ => ⟨S8192x12x128, .f32⟩
  | .hbm, ⟨17, _⟩ => ⟨S8192x12x128, .f32⟩
  | .hbm, ⟨18, _⟩ => ⟨S1x1x128, .f32⟩
  | .hbm, ⟨19, _⟩ => ⟨S8192x12x128, .f32⟩
  | .hbm, ⟨20, _⟩ => ⟨S8192x12x128, .f32⟩
  | .hbm, ⟨21, _⟩ => ⟨S8192x12x128, .f32⟩
  | .hbm, ⟨22, _⟩ => ⟨S8192x12x128, .f32⟩
  | .hbm, ⟨23, _⟩ => ⟨S8192x12x128, .f32⟩
  | .hbm, ⟨24, _⟩ => ⟨S_, .f32⟩
  | .hbm, ⟨25, _⟩ => ⟨S8192x12x128, .f32⟩
  | .hbm, ⟨26, _⟩ => ⟨S8192x12x128, .f32⟩
  | .hbm, ⟨27, _⟩ => ⟨S_, .f32⟩
  | .hbm, ⟨28, _⟩ => ⟨S8192x12x128, .f32⟩
  | .hbm, ⟨29, _⟩ => ⟨S8192x12x128, .f32⟩
  | .hbm, ⟨30, _⟩ => ⟨S8192x12x128, .f32⟩
  | .hbm, ⟨31, _⟩ => ⟨S8192x12x128, .f32⟩
  | .hbm, ⟨32, _⟩ => ⟨S8192x1536, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== Kernel34.lean ====
abbrev S4x512x1600 : Shape := ⟨3, ![4, 512, 1600]⟩
abbrev S512x1600 : Shape := ⟨2, ![512, 1600]⟩
abbrev S4x128x1600 : Shape := ⟨3, ![4, 128, 1600]⟩
abbrev S128x1600 : Shape := ⟨2, ![128, 1600]⟩
abbrev S1x128x1600 : Shape := ⟨3, ![1, 128, 1600]⟩

abbrev nBuf : Space → Nat
  | .hbm => 8
  | .vmem => 16
  | .smem => 0
  | _ => 0

abbrev bufTy : (tb : Table) → Fin (tcTables nBuf tb) → BufTy
  | .hbm, ⟨0, _⟩ => ⟨S4x512x1600, .bf16⟩
  | .hbm, ⟨1, _⟩ => ⟨S512x1600, .f32⟩
  | .hbm, ⟨2, _⟩ => ⟨S512x1600, .f32⟩
  | .hbm, ⟨3, _⟩ => ⟨S512x1600, .f32⟩
  | .hbm, ⟨4, _⟩ => ⟨S512x1600, .f32⟩
  | .hbm, ⟨5, _⟩ => ⟨S512x1600, .f32⟩
  | .hbm, ⟨6, _⟩ => ⟨S512x1600, .f32⟩
  | .hbm, ⟨7, _⟩ => ⟨S512x1600, .f32⟩
  | .local _ .vmem, ⟨0, _⟩ => ⟨S4x128x1600, .bf16⟩
  | .local _ .vmem, ⟨1, _⟩ => ⟨S4x128x1600, .bf16⟩
  | .local _ .vmem, ⟨2, _⟩ => ⟨S128x1600, .f32⟩
  | .local _ .vmem, ⟨3, _⟩ => ⟨S128x1600, .f32⟩
  | .local _ .vmem, ⟨4, _⟩ => ⟨S128x1600, .f32⟩
  | .local _ .vmem, ⟨5, _⟩ => ⟨S128x1600, .f32⟩
  | .local _ .vmem, ⟨6, _⟩ => ⟨S128x1600, .f32⟩
  | .local _ .vmem, ⟨7, _⟩ => ⟨S128x1600, .f32⟩
  | .local _ .vmem, ⟨8, _⟩ => ⟨S128x1600, .f32⟩
  | .local _ .vmem, ⟨9, _⟩ => ⟨S128x1600, .f32⟩
  | .local _ .vmem, ⟨10, _⟩ => ⟨S128x1600, .f32⟩
  | .local _ .vmem, ⟨11, _⟩ => ⟨S128x1600, .f32⟩
  | .local _ .vmem, ⟨12, _⟩ => ⟨S128x1600, .f32⟩
  | .local _ .vmem, ⟨13, _⟩ => ⟨S128x1600, .f32⟩
  | .local _ .vmem, ⟨14, _⟩ => ⟨S128x1600, .f32⟩
  | .local _ .vmem, ⟨15, _⟩ => ⟨S128x1600, .f32⟩
  | _, _ => ⟨S4x512x1600, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1600 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1600 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1600 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1600 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1600 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1600 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1600 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference34Ideal.lean ====
abbrev S4x512x1600 : Shape := ⟨3, ![4, 512, 1600]⟩
abbrev S512x1600 : Shape := ⟨2, ![512, 1600]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x512x1600, .bf16⟩
  | .hbm, ⟨1, _⟩ => ⟨S512x1600, .f32⟩
  | .hbm, ⟨2, _⟩ => ⟨S512x1600, .f32⟩
  | .hbm, ⟨3, _⟩ => ⟨S512x1600, .f32⟩
  | .hbm, ⟨4, _⟩ => ⟨S4x512x1600, .f32⟩
  | .hbm, ⟨5, _⟩ => ⟨S_, .f32⟩
  | .hbm, ⟨6, _⟩ => ⟨S512x1600, .f32⟩
  | .hbm, ⟨7, _⟩ => ⟨S_, .f32⟩
  | .hbm, ⟨8, _⟩ => ⟨S512x1600, .f32⟩
  | .hbm, ⟨9, _⟩ => ⟨S512x1600, .f32⟩
  | .hbm, ⟨10, _⟩ => ⟨S_, .f32⟩
  | .hbm, ⟨11, _⟩ => ⟨S512x1600, .f32⟩
  | .hbm, ⟨12, _⟩ => ⟨S512x1600, .f32⟩
  | .hbm, ⟨13, _⟩ => ⟨S512x1600, .f32⟩
  | .hbm, ⟨14, _⟩ => ⟨S_, .f32⟩
  | .hbm, ⟨15, _⟩ => ⟨S512x1600, .f32⟩
  | .hbm, ⟨16, _⟩ => ⟨S512x1600, .f32⟩
  | .hbm, ⟨17, _⟩ => ⟨S512x1600, .f32⟩
  | .hbm, ⟨18, _⟩ => ⟨S_, .f32⟩
  | .hbm, ⟨19, _⟩ => ⟨S512x1600, .f32⟩
  | .hbm, ⟨20, _⟩ => ⟨S512x1600, .f32⟩
  | .hbm, ⟨21, _⟩ => ⟨S512x1600, .f32⟩
  | .hbm, ⟨22, _⟩ => ⟨S_, .f32⟩
  | .hbm, ⟨23, _⟩ => ⟨S512x1600, .f32⟩
  | .hbm, ⟨24, _⟩ => ⟨S512x1600, .f32⟩
  | .hbm, ⟨25, _⟩ => ⟨S_, .f32⟩
  | .hbm, ⟨26, _⟩ => ⟨S512x1600, .f32⟩
  | .hbm, ⟨27, _⟩ => ⟨S512x1600, .f32⟩
  | .hbm, ⟨28, _⟩ => ⟨S512x1600, .f32⟩
  | .hbm, ⟨29, _⟩ => ⟨S_, .f32⟩
  | .hbm, ⟨30, _⟩ => ⟨S512x1600, .f32⟩
  | .hbm, ⟨31, _⟩ => ⟨S512x1600, .f32⟩
  | .hbm, ⟨32, _⟩ => ⟨S512x1600, .f32⟩
  | .hbm, ⟨33, _⟩ => ⟨S_, .f32⟩
  | .hbm, ⟨34, _⟩ => ⟨S512x1600, .f32⟩
  | .hbm, ⟨35, _⟩ => ⟨S512x1600, .f32⟩
  | .hbm, ⟨36, _⟩ => ⟨S512x1600, .f32⟩
  | .hbm, ⟨37, _⟩ => ⟨S_, .f32⟩
  | .hbm, ⟨38, _⟩ => ⟨S512x1600, .f32⟩
  | .hbm, ⟨39, _⟩ => ⟨S512x1600, .f32⟩
  | _, _ => ⟨S4x512x1600, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel35.lean ====
abbrev S4x1024x288 : Shape := ⟨3, ![4, 1024, 288]⟩
abbrev S1024x288 : Shape := ⟨2, ![1024, 288]⟩
abbrev S4x256x288 : Shape := ⟨3, ![4, 256, 288]⟩
abbrev S256x288 : Shape := ⟨2, ![256, 288]⟩
abbrev S1x256x288 : Shape := ⟨3, ![1, 256, 288]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x288, .bf16⟩
  | .hbm, ⟨1, _⟩ => ⟨S1024x288, .f32⟩
  | .hbm, ⟨2, _⟩ => ⟨S1024x288, .f32⟩
  | .hbm, ⟨3, _⟩ => ⟨S1024x288, .f32⟩
  | .hbm, ⟨4, _⟩ => ⟨S1024x288, .f32⟩
  | .hbm, ⟨5, _⟩ => ⟨S1024x288, .f32⟩
  | .hbm, ⟨6, _⟩ => ⟨S1024x288, .f32⟩
  | .hbm, ⟨7, _⟩ => ⟨S1024x288, .f32⟩
  | .local _ .vmem, ⟨0, _⟩ => ⟨S4x256x288, .bf16⟩
  | .local _ .vmem, ⟨1, _⟩ => ⟨S4x256x288, .bf16⟩
  | .local _ .vmem, ⟨2, _⟩ => ⟨S256x288, .f32⟩
  | .local _ .vmem, ⟨3, _⟩ => ⟨S256x288, .f32⟩
  | .local _ .vmem, ⟨4, _⟩ => ⟨S256x288, .f32⟩
  | .local _ .vmem, ⟨5, _⟩ => ⟨S256x288, .f32⟩
  | .local _ .vmem, ⟨6, _⟩ => ⟨S256x288, .f32⟩
  | .local _ .vmem, ⟨7, _⟩ => ⟨S256x288, .f32⟩
  | .local _ .vmem, ⟨8, _⟩ => ⟨S256x288, .f32⟩
  | .local _ .vmem, ⟨9, _⟩ => ⟨S256x288, .f32⟩
  | .local _ .vmem, ⟨10, _⟩ => ⟨S256x288, .f32⟩
  | .local _ .vmem, ⟨11, _⟩ => ⟨S256x288, .f32⟩
  | .local _ .vmem, ⟨12, _⟩ => ⟨S256x288, .f32⟩
  | .local _ .vmem, ⟨13, _⟩ => ⟨S256x288, .f32⟩
  | .local _ .vmem, ⟨14, _⟩ => ⟨S256x288, .f32⟩
  | .local _ .vmem, ⟨15, _⟩ => ⟨S256x288, .f32⟩
  | _, _ => ⟨S4x1024x288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x288 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x288 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x288 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x288 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x288 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference35Ideal.lean ====
abbrev S4x1024x288 : Shape := ⟨3, ![4, 1024, 288]⟩
abbrev S1024x288 : Shape := ⟨2, ![1024, 288]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x288, .bf16⟩
  | .hbm, ⟨1, _⟩ => ⟨S1024x288, .f32⟩
  | .hbm, ⟨2, _⟩ => ⟨S1024x288, .f32⟩
  | .hbm, ⟨3, _⟩ => ⟨S1024x288, .f32⟩
  | .hbm, ⟨4, _⟩ => ⟨S4x1024x288, .f32⟩
  | .hbm, ⟨5, _⟩ => ⟨S_, .f32⟩
  | .hbm, ⟨6, _⟩ => ⟨S1024x288, .f32⟩
  | .hbm, ⟨7, _⟩ => ⟨S_, .f32⟩
  | .hbm, ⟨8, _⟩ => ⟨S1024x288, .f32⟩
  | .hbm, ⟨9, _⟩ => ⟨S1024x288, .f32⟩
  | .hbm, ⟨10, _⟩ => ⟨S_, .f32⟩
  | .hbm, ⟨11, _⟩ => ⟨S1024x288, .f32⟩
  | .hbm, ⟨12, _⟩ => ⟨S1024x288, .f32⟩
  | .hbm, ⟨13, _⟩ => ⟨S1024x288, .f32⟩
  | .hbm, ⟨14, _⟩ => ⟨S_, .f32⟩
  | .hbm, ⟨15, _⟩ => ⟨S1024x288, .f32⟩
  | .hbm, ⟨16, _⟩ => ⟨S1024x288, .f32⟩
  | .hbm, ⟨17, _⟩ => ⟨S1024x288, .f32⟩
  | .hbm, ⟨18, _⟩ => ⟨S_, .f32⟩
  | .hbm, ⟨19, _⟩ => ⟨S1024x288, .f32⟩
  | .hbm, ⟨20, _⟩ => ⟨S1024x288, .f32⟩
  | .hbm, ⟨21, _⟩ => ⟨S1024x288, .f32⟩
  | .hbm, ⟨22, _⟩ => ⟨S_, .f32⟩
  | .hbm, ⟨23, _⟩ => ⟨S1024x288, .f32⟩
  | .hbm, ⟨24, _⟩ => ⟨S1024x288, .f32⟩
  | .hbm, ⟨25, _⟩ => ⟨S_, .f32⟩
  | .hbm, ⟨26, _⟩ => ⟨S1024x288, .f32⟩
  | .hbm, ⟨27, _⟩ => ⟨S1024x288, .f32⟩
  | .hbm, ⟨28, _⟩ => ⟨S1024x288, .f32⟩
  | .hbm, ⟨29, _⟩ => ⟨S_, .f32⟩
  | .hbm, ⟨30, _⟩ => ⟨S1024x288, .f32⟩
  | .hbm, ⟨31, _⟩ => ⟨S1024x288, .f32⟩
  | .hbm, ⟨32, _⟩ => ⟨S1024x288, .f32⟩
  | .hbm, ⟨33, _⟩ => ⟨S_, .f32⟩
  | .hbm, ⟨34, _⟩ => ⟨S1024x288, .f32⟩
  | .hbm, ⟨35, _⟩ => ⟨S1024x288, .f32⟩
  | .hbm, ⟨36, _⟩ => ⟨S1024x288, .f32⟩
  | .hbm, ⟨37, _⟩ => ⟨S_, .f32⟩
  | .hbm, ⟨38, _⟩ => ⟨S1024x288, .f32⟩
  | .hbm, ⟨39, _⟩ => ⟨S1024x288, .f32⟩
  | _, _ => ⟨S4x1024x288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel36.lean ====
abbrev S4x1024x384 : Shape := ⟨3, ![4, 1024, 384]⟩
abbrev S1024x384 : Shape := ⟨2, ![1024, 384]⟩
abbrev S4x256x384 : Shape := ⟨3, ![4, 256, 384]⟩
abbrev S256x384 : Shape := ⟨2, ![256, 384]⟩
abbrev S1x256x384 : Shape := ⟨3, ![1, 256, 384]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x384, .bf16⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .hbm, ⟨7, _⟩ => ⟨S1024x384, .f32⟩
  | .local _ .vmem, ⟨0, _⟩ => ⟨S4x256x384, .bf16⟩
  | .local _ .vmem, ⟨1, _⟩ => ⟨S4x256x384, .bf16⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | _, _ => ⟨S4x1024x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference36Ideal.lean ====
abbrev S4x1024x384 : Shape := ⟨3, ![4, 1024, 384]⟩
abbrev S1024x384 : Shape := ⟨2, ![1024, 384]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x384, .bf16⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S4x1024x384, .f32⟩
  | .hbm, ⟨5, _⟩ => ⟨S_, .f32⟩
  | .hbm, ⟨6, _⟩ => ⟨S1024x384, .f32⟩
  | .hbm, ⟨7, _⟩ => ⟨S_, .f32⟩
  | .hbm, ⟨8, _⟩ => ⟨S1024x384, .f32⟩
  | .hbm, ⟨9, _⟩ => ⟨S1024x384, .f32⟩
  | .hbm, ⟨10, _⟩ => ⟨S_, .f32⟩
  | .hbm, ⟨11, _⟩ => ⟨S1024x384, .f32⟩
  | .hbm, ⟨12, _⟩ => ⟨S1024x384, .f32⟩
  | .hbm, ⟨13, _⟩ => ⟨S1024x384, .f32⟩
  | .hbm, ⟨14, _⟩ => ⟨S_, .f32⟩
  | .hbm, ⟨15, _⟩ => ⟨S1024x384, .f32⟩
  | .hbm, ⟨16, _⟩ => ⟨S1024x384, .f32⟩
  | .hbm, ⟨17, _⟩ => ⟨S1024x384, .f32⟩
  | .hbm, ⟨18, _⟩ => ⟨S_, .f32⟩
  | .hbm, ⟨19, _⟩ => ⟨S1024x384, .f32⟩
  | .hbm, ⟨20, _⟩ => ⟨S1024x384, .f32⟩
  | .hbm, ⟨21, _⟩ => ⟨S1024x384, .f32⟩
  | .hbm, ⟨22, _⟩ => ⟨S_, .f32⟩
  | .hbm, ⟨23, _⟩ => ⟨S1024x384, .f32⟩
  | .hbm, ⟨24, _⟩ => ⟨S1024x384, .f32⟩
  | .hbm, ⟨25, _⟩ => ⟨S_, .f32⟩
  | .hbm, ⟨26, _⟩ => ⟨S1024x384, .f32⟩
  | .hbm, ⟨27, _⟩ => ⟨S1024x384, .f32⟩
  | .hbm, ⟨28, _⟩ => ⟨S1024x384, .f32⟩
  | .hbm, ⟨29, _⟩ => ⟨S_, .f32⟩
  | .hbm, ⟨30, _⟩ => ⟨S1024x384, .f32⟩
  | .hbm, ⟨31, _⟩ => ⟨S1024x384, .f32⟩
  | .hbm, ⟨32, _⟩ => ⟨S1024x384, .f32⟩
  | .hbm, ⟨33, _⟩ => ⟨S_, .f32⟩
  | .hbm, ⟨34, _⟩ => ⟨S1024x384, .f32⟩
  | .hbm, ⟨35, _⟩ => ⟨S1024x384, .f32⟩
  | .hbm, ⟨36, _⟩ => ⟨S1024x384, .f32⟩
  | .hbm, ⟨37, _⟩ => ⟨S_, .f32⟩
  | .hbm, ⟨38, _⟩ => ⟨S1024x384, .f32⟩
  | .hbm, ⟨39, _⟩ => ⟨S1024x384, .f32⟩
  | _, _ => ⟨S4x1024x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel37.lean ====
abbrev S4x4096x835 : Shape := ⟨3, ![4, 4096, 835]⟩
abbrev S4096x835 : Shape := ⟨2, ![4096, 835]⟩
abbrev S4x256x835 : Shape := ⟨3, ![4, 256, 835]⟩
abbrev S256x835 : Shape := ⟨2, ![256, 835]⟩
abbrev S1x256x835 : Shape := ⟨3, ![1, 256, 835]⟩

abbrev nBuf : Space → Nat
  | .hbm => 8
  | .vmem => 16
  | .smem => 0
  | _ => 0

abbrev bufTy : (tb : Table) → Fin (tcTables nBuf tb) → BufTy
  | .hbm, ⟨0, _⟩ => ⟨S4x4096x835, .bf16⟩
  | .hbm, ⟨1, _⟩ => ⟨S4096x835, .f32⟩
  | .hbm, ⟨2, _⟩ => ⟨S4096x835, .f32⟩
  | .hbm, ⟨3, _⟩ => ⟨S4096x835, .f32⟩
  | .hbm, ⟨4, _⟩ => ⟨S4096x835, .f32⟩
  | .hbm, ⟨5, _⟩ => ⟨S4096x835, .f32⟩
  | .hbm, ⟨6, _⟩ => ⟨S4096x835, .f32⟩
  | .hbm, ⟨7, _⟩ => ⟨S4096x835, .f32⟩
  | .local _ .vmem, ⟨0, _⟩ => ⟨S4x256x835, .bf16⟩
  | .local _ .vmem, ⟨1, _⟩ => ⟨S4x256x835, .bf16⟩
  | .local _ .vmem, ⟨2, _⟩ => ⟨S256x835, .f32⟩
  | .local _ .vmem, ⟨3, _⟩ => ⟨S256x835, .f32⟩
  | .local _ .vmem, ⟨4, _⟩ => ⟨S256x835, .f32⟩
  | .local _ .vmem, ⟨5, _⟩ => ⟨S256x835, .f32⟩
  | .local _ .vmem, ⟨6, _⟩ => ⟨S256x835, .f32⟩
  | .local _ .vmem, ⟨7, _⟩ => ⟨S256x835, .f32⟩
  | .local _ .vmem, ⟨8, _⟩ => ⟨S256x835, .f32⟩
  | .local _ .vmem, ⟨9, _⟩ => ⟨S256x835, .f32⟩
  | .local _ .vmem, ⟨10, _⟩ => ⟨S256x835, .f32⟩
  | .local _ .vmem, ⟨11, _⟩ => ⟨S256x835, .f32⟩
  | .local _ .vmem, ⟨12, _⟩ => ⟨S256x835, .f32⟩
  | .local _ .vmem, ⟨13, _⟩ => ⟨S256x835, .f32⟩
  | .local _ .vmem, ⟨14, _⟩ => ⟨S256x835, .f32⟩
  | .local _ .vmem, ⟨15, _⟩ => ⟨S256x835, .f32⟩
  | _, _ => ⟨S4x4096x835, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x835 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x835 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x835 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x835 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x835 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x835 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x835 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x835 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference37Ideal.lean ====
abbrev S4x4096x835 : Shape := ⟨3, ![4, 4096, 835]⟩
abbrev S4096x835 : Shape := ⟨2, ![4096, 835]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x835, .bf16⟩
  | .hbm, ⟨1, _⟩ => ⟨S4096x835, .f32⟩
  | .hbm, ⟨2, _⟩ => ⟨S4096x835, .f32⟩
  | .hbm, ⟨3, _⟩ => ⟨S4096x835, .f32⟩
  | .hbm, ⟨4, _⟩ => ⟨S4x4096x835, .f32⟩
  | .hbm, ⟨5, _⟩ => ⟨S_, .f32⟩
  | .hbm, ⟨6, _⟩ => ⟨S4096x835, .f32⟩
  | .hbm, ⟨7, _⟩ => ⟨S_, .f32⟩
  | .hbm, ⟨8, _⟩ => ⟨S4096x835, .f32⟩
  | .hbm, ⟨9, _⟩ => ⟨S4096x835, .f32⟩
  | .hbm, ⟨10, _⟩ => ⟨S_, .f32⟩
  | .hbm, ⟨11, _⟩ => ⟨S4096x835, .f32⟩
  | .hbm, ⟨12, _⟩ => ⟨S4096x835, .f32⟩
  | .hbm, ⟨13, _⟩ => ⟨S4096x835, .f32⟩
  | .hbm, ⟨14, _⟩ => ⟨S_, .f32⟩
  | .hbm, ⟨15, _⟩ => ⟨S4096x835, .f32⟩
  | .hbm, ⟨16, _⟩ => ⟨S4096x835, .f32⟩
  | .hbm, ⟨17, _⟩ => ⟨S4096x835, .f32⟩
  | .hbm, ⟨18, _⟩ => ⟨S_, .f32⟩
  | .hbm, ⟨19, _⟩ => ⟨S4096x835, .f32⟩
  | .hbm, ⟨20, _⟩ => ⟨S4096x835, .f32⟩
  | .hbm, ⟨21, _⟩ => ⟨S4096x835, .f32⟩
  | .hbm, ⟨22, _⟩ => ⟨S_, .f32⟩
  | .hbm, ⟨23, _⟩ => ⟨S4096x835, .f32⟩
  | .hbm, ⟨24, _⟩ => ⟨S4096x835, .f32⟩
  | .hbm, ⟨25, _⟩ => ⟨S_, .f32⟩
  | .hbm, ⟨26, _⟩ => ⟨S4096x835, .f32⟩
  | .hbm, ⟨27, _⟩ => ⟨S4096x835, .f32⟩
  | .hbm, ⟨28, _⟩ => ⟨S4096x835, .f32⟩
  | .hbm, ⟨29, _⟩ => ⟨S_, .f32⟩
  | .hbm, ⟨30, _⟩ => ⟨S4096x835, .f32⟩
  | .hbm, ⟨31, _⟩ => ⟨S4096x835, .f32⟩
  | .hbm, ⟨32, _⟩ => ⟨S4096x835, .f32⟩
  | .hbm, ⟨33, _⟩ => ⟨S_, .f32⟩
  | .hbm, ⟨34, _⟩ => ⟨S4096x835, .f32⟩
  | .hbm, ⟨35, _⟩ => ⟨S4096x835, .f32⟩
  | .hbm, ⟨36, _⟩ => ⟨S4096x835, .f32⟩
  | .hbm, ⟨37, _⟩ => ⟨S_, .f32⟩
  | .hbm, ⟨38, _⟩ => ⟨S4096x835, .f32⟩
  | .hbm, ⟨39, _⟩ => ⟨S4096x835, .f32⟩
  | _, _ => ⟨S4x4096x835, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel38.lean ====
abbrev S4x8x576 : Shape := ⟨3, ![4, 8, 576]⟩
abbrev S8x576 : Shape := ⟨2, ![8, 576]⟩
abbrev S1x8x576 : Shape := ⟨3, ![1, 8, 576]⟩

abbrev nBuf : Space → Nat
  | .hbm => 8
  | .vmem => 8
  | .smem => 0
  | _ => 0

abbrev bufTy : (tb : Table) → Fin (tcTables nBuf tb) → BufTy
  | .hbm, ⟨0, _⟩ => ⟨S4x8x576, .bf16⟩
  | .hbm, ⟨1, _⟩ => ⟨S8x576, .f32⟩
  | .hbm, ⟨2, _⟩ => ⟨S8x576, .f32⟩
  | .hbm, ⟨3, _⟩ => ⟨S8x576, .f32⟩
  | .hbm, ⟨4, _⟩ => ⟨S8x576, .f32⟩
  | .hbm, ⟨5, _⟩ => ⟨S8x576, .f32⟩
  | .hbm, ⟨6, _⟩ => ⟨S8x576, .f32⟩
  | .hbm, ⟨7, _⟩ => ⟨S8x576, .f32⟩
  | .local _ .vmem, ⟨0, _⟩ => ⟨S4x8x576, .bf16⟩
  | .local _ .vmem, ⟨1, _⟩ => ⟨S8x576, .f32⟩
  | .local _ .vmem, ⟨2, _⟩ => ⟨S8x576, .f32⟩
  | .local _ .vmem, ⟨3, _⟩ => ⟨S8x576, .f32⟩
  | .local _ .vmem, ⟨4, _⟩ => ⟨S8x576, .f32⟩
  | .local _ .vmem, ⟨5, _⟩ => ⟨S8x576, .f32⟩
  | .local _ .vmem, ⟨6, _⟩ => ⟨S8x576, .f32⟩
  | .local _ .vmem, ⟨7, _⟩ => ⟨S8x576, .f32⟩
  | _, _ => ⟨S4x8x576, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x8x576 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x576 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x576 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x576 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x576 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x576 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x576 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x576 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference38Ideal.lean ====
abbrev S4x8x576 : Shape := ⟨3, ![4, 8, 576]⟩
abbrev S8x576 : Shape := ⟨2, ![8, 576]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x8x576, .bf16⟩
  | .hbm, ⟨1, _⟩ => ⟨S8x576, .f32⟩
  | .hbm, ⟨2, _⟩ => ⟨S8x576, .f32⟩
  | .hbm, ⟨3, _⟩ => ⟨S8x576, .f32⟩
  | .hbm, ⟨4, _⟩ => ⟨S4x8x576, .f32⟩
  | .hbm, ⟨5, _⟩ => ⟨S_, .f32⟩
  | .hbm, ⟨6, _⟩ => ⟨S8x576, .f32⟩
  | .hbm, ⟨7, _⟩ => ⟨S_, .f32⟩
  | .hbm, ⟨8, _⟩ => ⟨S8x576, .f32⟩
  | .hbm, ⟨9, _⟩ => ⟨S8x576, .f32⟩
  | .hbm, ⟨10, _⟩ => ⟨S_, .f32⟩
  | .hbm, ⟨11, _⟩ => ⟨S8x576, .f32⟩
  | .hbm, ⟨12, _⟩ => ⟨S8x576, .f32⟩
  | .hbm, ⟨13, _⟩ => ⟨S8x576, .f32⟩
  | .hbm, ⟨14, _⟩ => ⟨S_, .f32⟩
  | .hbm, ⟨15, _⟩ => ⟨S8x576, .f32⟩
  | .hbm, ⟨16, _⟩ => ⟨S8x576, .f32⟩
  | .hbm, ⟨17, _⟩ => ⟨S8x576, .f32⟩
  | .hbm, ⟨18, _⟩ => ⟨S_, .f32⟩
  | .hbm, ⟨19, _⟩ => ⟨S8x576, .f32⟩
  | .hbm, ⟨20, _⟩ => ⟨S8x576, .f32⟩
  | .hbm, ⟨21, _⟩ => ⟨S8x576, .f32⟩
  | .hbm, ⟨22, _⟩ => ⟨S_, .f32⟩
  | .hbm, ⟨23, _⟩ => ⟨S8x576, .f32⟩
  | .hbm, ⟨24, _⟩ => ⟨S8x576, .f32⟩
  | .hbm, ⟨25, _⟩ => ⟨S_, .f32⟩
  | .hbm, ⟨26, _⟩ => ⟨S8x576, .f32⟩
  | .hbm, ⟨27, _⟩ => ⟨S8x576, .f32⟩
  | .hbm, ⟨28, _⟩ => ⟨S8x576, .f32⟩
  | .hbm, ⟨29, _⟩ => ⟨S_, .f32⟩
  | .hbm, ⟨30, _⟩ => ⟨S8x576, .f32⟩
  | .hbm, ⟨31, _⟩ => ⟨S8x576, .f32⟩
  | .hbm, ⟨32, _⟩ => ⟨S8x576, .f32⟩
  | .hbm, ⟨33, _⟩ => ⟨S_, .f32⟩
  | .hbm, ⟨34, _⟩ => ⟨S8x576, .f32⟩
  | .hbm, ⟨35, _⟩ => ⟨S8x576, .f32⟩
  | .hbm, ⟨36, _⟩ => ⟨S8x576, .f32⟩
  | .hbm, ⟨37, _⟩ => ⟨S_, .f32⟩
  | .hbm, ⟨38, _⟩ => ⟨S8x576, .f32⟩
  | .hbm, ⟨39, _⟩ => ⟨S8x576, .f32⟩
  | _, _ => ⟨S4x8x576, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel39.lean ====
abbrev S4x1024x1024 : Shape := ⟨3, ![4, 1024, 1024]⟩
abbrev S1024x1024 : Shape := ⟨2, ![1024, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x1024, .bf16⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S4x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference39Ideal.lean ====
abbrev S4x1024x1024 : Shape := ⟨3, ![4, 1024, 1024]⟩
abbrev S1024x1024 : Shape := ⟨2, ![1024, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1024, .bf16⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x1024x1024, .f32⟩
  | .hbm, ⟨5, _⟩ => ⟨S_, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S_, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S_, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S_, .f32⟩
  | .hbm, ⟨38, _⟩ => ⟨S1024x1024, .f32⟩
  | .hbm, ⟨39, _⟩ => ⟨S1024x1024, .f32⟩
  | _, _ => ⟨S4x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel40.lean ====
abbrev S4x1024x2048 : Shape := ⟨3, ![4, 1024, 2048]⟩
abbrev S1024x2048 : Shape := ⟨2, ![1024, 2048]⟩
abbrev S4x128x2048 : Shape := ⟨3, ![4, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x2048, .bf16⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S4x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference40Ideal.lean ====
abbrev S4x1024x2048 : Shape := ⟨3, ![4, 1024, 2048]⟩
abbrev S1024x2048 : Shape := ⟨2, ![1024, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x2048, .bf16⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S4x1024x2048, .f32⟩
  | .hbm, ⟨5, _⟩ => ⟨S_, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S_, .f32⟩
  | .hbm, ⟨11, _⟩ => ⟨S1024x2048, .f32⟩
  | .hbm, ⟨12, _⟩ => ⟨S1024x2048, .f32⟩
  | .hbm, ⟨13, _⟩ => ⟨S1024x2048, .f32⟩
  | .hbm, ⟨14, _⟩ => ⟨S_, .f32⟩
  | .hbm, ⟨15, _⟩ => ⟨S1024x2048, .f32⟩
  | .hbm, ⟨16, _⟩ => ⟨S1024x2048, .f32⟩
  | .hbm, ⟨17, _⟩ => ⟨S1024x2048, .f32⟩
  | .hbm, ⟨18, _⟩ => ⟨S_, .f32⟩
  | .hbm, ⟨19, _⟩ => ⟨S1024x2048, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S_, .f32⟩
  | .hbm, ⟨26, _⟩ => ⟨S1024x2048, .f32⟩
  | .hbm, ⟨27, _⟩ => ⟨S1024x2048, .f32⟩
  | .hbm, ⟨28, _⟩ => ⟨S1024x2048, .f32⟩
  | .hbm, ⟨29, _⟩ => ⟨S_, .f32⟩
  | .hbm, ⟨30, _⟩ => ⟨S1024x2048, .f32⟩
  | .hbm, ⟨31, _⟩ => ⟨S1024x2048, .f32⟩
  | .hbm, ⟨32, _⟩ => ⟨S1024x2048, .f32⟩
  | .hbm, ⟨33, _⟩ => ⟨S_, .f32⟩
  | .hbm, ⟨34, _⟩ => ⟨S1024x2048, .f32⟩
  | .hbm, ⟨35, _⟩ => ⟨S1024x2048, .f32⟩
  | .hbm, ⟨36, _⟩ => ⟨S1024x2048, .f32⟩
  | .hbm, ⟨37, _⟩ => ⟨S_, .f32⟩
  | .hbm, ⟨38, _⟩ => ⟨S1024x2048, .f32⟩
  | .hbm, ⟨39, _⟩ => ⟨S1024x2048, .f32⟩
  | _, _ => ⟨S4x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel41.lean ====
abbrev S4x8192x1024 : Shape := ⟨3, ![4, 8192, 1024]⟩
abbrev S8192x1024 : Shape := ⟨2, ![8192, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x8192x1024, .bf16⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference41Ideal.lean ====
abbrev S4x8192x1024 : Shape := ⟨3, ![4, 8192, 1024]⟩
abbrev S8192x1024 : Shape := ⟨2, ![8192, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S4x8192x1024, .f32⟩
  | .hbm, ⟨5, _⟩ => ⟨S_, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel42.lean ====
abbrev S4x4096x2048 : Shape := ⟨3, ![4, 4096, 2048]⟩
abbrev S4096x2048 : Shape := ⟨2, ![4096, 2048]⟩
abbrev S4x128x2048 : Shape := ⟨3, ![4, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x4096x2048, .bf16⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference42Ideal.lean ====
abbrev S4x4096x2048 : Shape := ⟨3, ![4, 4096, 2048]⟩
abbrev S4096x2048 : Shape := ⟨2, ![4096, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4x4096x2048, .f32⟩
  | .hbm, ⟨5, _⟩ => ⟨S_, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel43.lean ====
abbrev S8x280x128 : Shape := ⟨3, ![8, 280, 128]⟩
abbrev S280x128 : Shape := ⟨2, ![280, 128]⟩
abbrev S8x8x128 : Shape := ⟨3, ![8, 8, 128]⟩
abbrev S8x128 : Shape := ⟨2, ![8, 128]⟩
abbrev S1x8x128 : Shape := ⟨3, ![1, 8, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x280x128, .f32⟩
  | .hbm, ⟨1, _⟩ => ⟨S280x128, .f32⟩
  | .hbm, ⟨2, _⟩ => ⟨S280x128, .f32⟩
  | .hbm, ⟨3, _⟩ => ⟨S280x128, .f32⟩
  | .hbm, ⟨4, _⟩ => ⟨S280x128, .f32⟩
  | .hbm, ⟨5, _⟩ => ⟨S280x128, .f32⟩
  | .hbm, ⟨6, _⟩ => ⟨S280x128, .f32⟩
  | .hbm, ⟨7, _⟩ => ⟨S280x128, .f32⟩
  | .local _ .vmem, ⟨0, _⟩ => ⟨S8x8x128, .f32⟩
  | .local _ .vmem, ⟨1, _⟩ => ⟨S8x8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | _, _ => ⟨S8x280x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![35], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference43Ideal.lean ====
abbrev S8x280x128 : Shape := ⟨3, ![8, 280, 128]⟩
abbrev S280x128 : Shape := ⟨2, ![280, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x280x128, .f32⟩
  | .hbm, ⟨1, _⟩ => ⟨S280x128, .f32⟩
  | .hbm, ⟨2, _⟩ => ⟨S280x128, .f32⟩
  | .hbm, ⟨3, _⟩ => ⟨S280x128, .f32⟩
  | .hbm, ⟨4, _⟩ => ⟨S_, .f32⟩
  | .hbm, ⟨5, _⟩ => ⟨S280x128, .f32⟩
  | .hbm, ⟨6, _⟩ => ⟨S_, .f32⟩
  | .hbm, ⟨7, _⟩ => ⟨S280x128, .f32⟩
  | .hbm, ⟨8, _⟩ => ⟨S280x128, .f32⟩
  | .hbm, ⟨9, _⟩ => ⟨S_, .f32⟩
  | .hbm, ⟨10, _⟩ => ⟨S280x128, .f32⟩
  | .hbm, ⟨11, _⟩ => ⟨S280x128, .f32⟩
  | .hbm, ⟨12, _⟩ => ⟨S280x128, .f32⟩
  | .hbm, ⟨13, _⟩ => ⟨S_, .f32⟩
  | .hbm, ⟨14, _⟩ => ⟨S280x128, .f32⟩
  | .hbm, ⟨15, _⟩ => ⟨S280x128, .f32⟩
  | .hbm, ⟨16, _⟩ => ⟨S280x128, .f32⟩
  | .hbm, ⟨17, _⟩ => ⟨S_, .f32⟩
  | .hbm, ⟨18, _⟩ => ⟨S280x128, .f32⟩
  | .hbm, ⟨19, _⟩ => ⟨S280x128, .f32⟩
  | .hbm, ⟨20, _⟩ => ⟨S280x128, .f32⟩
  | .hbm, ⟨21, _⟩ => ⟨S_, .f32⟩
  | .hbm, ⟨22, _⟩ => ⟨S280x128, .f32⟩
  | .hbm, ⟨23, _⟩ => ⟨S280x128, .f32⟩
  | .hbm, ⟨24, _⟩ => ⟨S_, .f32⟩
  | .hbm, ⟨25, _⟩ => ⟨S280x128, .f32⟩
  | .hbm, ⟨26, _⟩ => ⟨S280x128, .f32⟩
  | .hbm, ⟨27, _⟩ => ⟨S280x128, .f32⟩
  | .hbm, ⟨28, _⟩ => ⟨S_, .f32⟩
  | .hbm, ⟨29, _⟩ => ⟨S280x128, .f32⟩
  | .hbm, ⟨30, _⟩ => ⟨S280x128, .f32⟩
  | .hbm, ⟨31, _⟩ => ⟨S280x128, .f32⟩
  | .hbm, ⟨32, _⟩ => ⟨S_, .f32⟩
  | .hbm, ⟨33, _⟩ => ⟨S280x128, .f32⟩
  | .hbm, ⟨34, _⟩ => ⟨S280x128, .f32⟩
  | .hbm, ⟨35, _⟩ => ⟨S280x128, .f32⟩
  | .hbm, ⟨36, _⟩ => ⟨S_, .f32⟩
  | .hbm, ⟨37, _⟩ => ⟨S280x128, .f32⟩
  | .hbm, ⟨38, _⟩ => ⟨S280x128, .f32⟩
  | _, _ => ⟨S8x280x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel33.lean ====
abbrev S8192x2048 : Shape := ⟨2, ![8192, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x128, .f32⟩
  | .hbm, ⟨3, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x128, .f32⟩
  | .local _ .vmem, ⟨5, _⟩ => ⟨S256x2048, .f32⟩
  | .local _ .vmem, ⟨6, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference33Ideal.lean ====
abbrev S8192x2048 : Shape := ⟨2, ![8192, 2048]⟩
abbrev S_ : Shape := ⟨0, ![]⟩
abbrev S8192 : Shape := ⟨1, ![8192]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x2048, .f32⟩
  | .hbm, ⟨24, _⟩ => ⟨S8192x2048, .f32⟩
  | .hbm, ⟨25, _⟩ => ⟨S1x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Proof.MemRow.lean ====
module

public import proofs.«01_k».proof.Proof.Gen.KernelIdeal.Frame
public import Idealize.ShloMosaic.Lib.Pipeline.ValueKit

@[expose] public section

set_option maxRecDepth 16384

noncomputable section

namespace Cert.MemRow

open Idealize.ShloMosaic Idealize.ShloMosaic.TcCoe Idealize.SL.Sem

/-! One query row against the memory: the scores, their exponentials, and the gradient of the scores. -/

/-- The scale of the scores. -/
def sc : EReal := Ideal.ofBits .f32 0x3DB504F3#32

/-- The scaled score of one query row against key `j`. -/
def score (q : Fin 128 → EReal) (K : Fin 256 → Fin 128 → EReal) (j : Fin 256) : EReal :=
  (∑ d : Fin 128, q d * K j d) * sc

/-- The exponential of a score less the greatest score of the row. -/
def ex (q : Fin 128 → EReal) (K : Fin 256 → Fin 128 → EReal) (j : Fin 256) : EReal :=
  Ideal.exp (score q K j - Finset.univ.fold max (Ideal.ofBits .f32 0xFF800000#32) fun l => score q K l)

/-- The sum of the exponentials of a row. -/
def den (q : Fin 128 → EReal) (K : Fin 256 → Fin 128 → EReal) : EReal := ∑ j : Fin 256, ex q K j

/-- The gradient of the scores (before the scale) in one row. -/
def ds (q : Fin 128 → EReal) (K V : Fin 256 → Fin 128 → EReal) (g : Fin 128 → EReal) (j : Fin 256) : EReal :=
  (Ideal.div (∑ d : Fin 128, g d * V j d) (den q K)
    + -(∑ l : Fin 256, (∑ d : Fin 128, g d * V l d) * Ideal.div 1 (den q K * den q K) * ex q K l)) * ex q K j * sc

open Cert.KernelIdeal Cert.KernelIdeal.Gen

variable (q g : FVec Ideal S512x128 .f32) (k v : FVec Ideal S256x128 .f32)

/-- Row `r` of a block of queries (or of cotangents). -/
abbrev row {n : ℕ} (x : FVec Ideal ⟨2, ![n, 128]⟩ .f32) (r : Fin n) : Fin 128 → EReal := fun d => x (ix2 r d)

/-- A block of keys (or values) by rows. -/
abbrev mat (x : FVec Ideal S256x128 .f32) : Fin 256 → Fin 128 → EReal := fun j d => x (ix2 j d)

theorem zero_sub_neg (a : EReal) : (0 : EReal) - a = -a := by rw [sub_eq_add_neg, zero_add]

/-- The gradient of a block of queries. -/
def DQ (q g : FVec Ideal S512x128 .f32) (k v : FVec Ideal S256x128 .f32) (r : Fin 512) (d : Fin 128) : EReal :=
  ∑ j : Fin 256, ds (row q r) (mat k) (mat v) (row g r) j * k (ix2 j d)

/-- A block's part of the gradient of the keys. -/
def DK (q g : FVec Ideal S512x128 .f32) (k v : FVec Ideal S256x128 .f32) (j : Fin 256) (d : Fin 128) : EReal :=
  ∑ r : Fin 512, ds (row q r) (mat k) (mat v) (row g r) j * q (ix2 r d)

/-- A block's part of the gradient of the values. -/
def DV (q g : FVec Ideal S512x128 .f32) (k : FVec Ideal S256x128 .f32) (j : Fin 256) (d : Fin 128) : EReal :=
  ∑ r : Fin 512, Ideal.div (ex (row q r) (mat k) j) (den (row q r) (mat k)) * g (ix2 r d)

theorem dq0 (r : Fin 512) (d : Fin 128) :
    k0_pay11 (F := Ideal) k (k0_pay4 q k) (k0_pay8 q k v g) (k0_pay9 q k v g) (ix2 r d) = DQ q g k v r d := by
  pointwise [k0_pay4, k0_pay5, k0_pay6, k0_pay7, k0_pay8, k0_pay9, k0_pay10, k0_pay11, k0_pay12, k0_pay13, DQ, DK, DV, row, mat, ds, den, ex, score, sc, zero_sub_neg]
  simp only [Finset.univ_unique, Finset.sum_singleton]

theorem dk0 (a : FVec Ideal S256x128 .f32) (j : Fin 256) (d : Fin 128) :
    k0_pay12 (F := Ideal) q (k0_pay4 q k) (k0_pay8 q k v g) (k0_pay9 q k v g) a (ix2 j d) = a (ix2 j d) + DK q g k v j d := by
  pointwise [k0_pay4, k0_pay5, k0_pay6, k0_pay7, k0_pay8, k0_pay9, k0_pay10, k0_pay11, k0_pay12, k0_pay13, DQ, DK, DV, row, mat, ds, den, ex, score, sc, zero_sub_neg]
  simp only [Finset.univ_unique, Finset.sum_singleton]

theorem dv0 (a : FVec Ideal S256x128 .f32) (j : Fin 256) (d : Fin 128) :
    k0_pay13 (F := Ideal) (k0_pay7 q k g) a (ix2 j d) = a (ix2 j d) + DV q g k j d := by
  pointwise! [k0_pay4, k0_pay5, k0_pay6, k0_pay7, k0_pay8, k0_pay9, k0_pay10, k0_pay11, k0_pay12, k0_pay13, DQ, DK, DV, row, mat, ds, den, ex, score, sc, zero_sub_neg]

theorem dq1 (r : Fin 512) (d : Fin 128) :
    k0_pay19 (F := Ideal) k v (k0_pay14 q k) g (ix2 r d) = DQ q g k v r d := by
  pointwise [k0_pay14, k0_pay15, k0_pay16, k0_pay17, k0_pay18, k0_pay19, k0_pay20, k0_pay21, DQ, DK, DV, row, mat, ds, den, ex, score, sc, zero_sub_neg]
  simp only [Finset.univ_unique, Finset.sum_singleton]

theorem dk1 (a : FVec Ideal S256x128 .f32) (j : Fin 256) (d : Fin 128) :
    k0_pay20 (F := Ideal) q v (k0_pay14 q k) g a (ix2 j d) = a (ix2 j d) + DK q g k v j d := by
  pointwise [k0_pay14, k0_pay15, k0_pay16, k0_pay17, k0_pay18, k0_pay19, k0_pay20, k0_pay21, DQ, DK, DV, row, mat, ds, den, ex, score, sc, zero_sub_neg]
  simp only [Finset.univ_unique, Finset.sum_singleton]

theorem dv1 (a : FVec Ideal S256x128 .f32) (j : Fin 256) (d : Fin 128) :
    k0_pay21 (F := Ideal) (k0_pay17 (k0_pay14 q k) g) a (ix2 j d) = a (ix2 j d) + DV q g k j d := by
  pointwise! [k0_pay14, k0_pay15, k0_pay16, k0_pay17, k0_pay18, k0_pay19, k0_pay20, k0_pay21, DQ, DK, DV, row, mat, ds, den, ex, score, sc, zero_sub_neg]

theorem dq2 (r : Fin 512) (d : Fin 128) :
    k0_pay28 (F := Ideal) k (k0_pay22 q k) (k0_pay23 q k) (k0_pay24 v g) (k0_pay26 q k v g) (Scalar.ofBits .f32 0x00000000#32) (ix2 r d) = DQ q g k v r d := by
  pointwise [k0_pay22, k0_pay23, k0_pay24, k0_pay25, k0_pay26, k0_pay27, k0_pay28, k0_pay29, k0_pay30, DQ, DK, DV, row, mat, ds, den, ex, score, sc, zero_sub_neg]
  simp only [Finset.univ_unique, Finset.sum_singleton]

theorem dk2 (a : FVec Ideal S256x128 .f32) (j : Fin 256) (d : Fin 128) :
    k0_pay29 (F := Ideal) q (k0_pay22 q k) (k0_pay23 q k) (k0_pay24 v g) (k0_pay26 q k v g) (Scalar.ofBits .f32 0x00000000#32) a (ix2 j d) = a (ix2 j d) + DK q g k v j d := by
  pointwise [k0_pay22, k0_pay23, k0_pay24, k0_pay25, k0_pay26, k0_pay27, k0_pay28, k0_pay29, k0_pay30, DQ, DK, DV, row, mat, ds, den, ex, score, sc, zero_sub_neg]
  simp only [Finset.univ_unique, Finset.sum_singleton]

theorem dv2 (a : FVec Ideal S256x128 .f32) (j : Fin 256) (d : Fin 128) :
    k0_pay30 (F := Ideal) (k0_pay25 q k g) a (ix2 j d) = a (ix2 j d) + DV q g k j d := by
  pointwise! [k0_pay22, k0_pay23, k0_pay24, k0_pay25, k0_pay26, k0_pay27, k0_pay28, k0_pay29, k0_pay30, DQ, DK, DV, row, mat, ds, den, ex, score, sc, zero_sub_neg]

theorem dq3 (r : Fin 512) (d : Fin 128) :
    k0_pay36 (F := Ideal) k v (k0_pay31 q k) g (ix2 r d) = DQ q g k v r d := by
  pointwise [k0_pay1, k0_pay2, k0_pay31, k0_pay32, k0_pay33, k0_pay34, k0_pay35, k0_pay36, k0_pay37, DQ, DK, DV, row, mat, ds, den, ex, score, sc, zero_sub_neg]
  simp only [Finset.univ_unique, Finset.sum_singleton]

theorem dk3 (a : FVec Ideal S256x128 .f32) (j : Fin 256) (d : Fin 128) :
    k0_pay1 (F := Ideal) (k0_pay37 q v (k0_pay31 q k) g) a (ix2 j d) = a (ix2 j d) + DK q g k v j d := by
  pointwise [k0_pay1, k0_pay2, k0_pay31, k0_pay32, k0_pay33, k0_pay34, k0_pay35, k0_pay36, k0_pay37, DQ, DK, DV, row, mat, ds, den, ex, score, sc, zero_sub_neg]
  simp only [Finset.univ_unique, Finset.sum_singleton]

theorem dv3 (a : FVec Ideal S256x128 .f32) (j : Fin 256) (d : Fin 128) :
    k0_pay2 (F := Ideal) (k0_pay34 (k0_pay31 q k) g) a (ix2 j d) = a (ix2 j d) + DV q g k j d := by
  pointwise! [k0_pay1, k0_pay2, k0_pay31, k0_pay32, k0_pay33, k0_pay34, k0_pay35, k0_pay36, k0_pay37, DQ, DK, DV, row, mat, ds, den, ex, score, sc, zero_sub_neg]

end Cert.MemRow

end
-- ==== Proof.MemRef.lean ====
module

public import proofs.«01_k».proof.Proof.MemRow
public import proofs.«01_k».proof.Proof.Gen.ReferenceIdeal.Run

@[expose] public section

set_option maxRecDepth 16384

noncomputable section

namespace Cert.MemRef

open Idealize.ShloMosaic Idealize.ShloMosaic.TcCoe Idealize.SL.Sem
open Cert.MemRow
open Cert.ReferenceIdeal Cert.ReferenceIdeal.Gen Cert.ReferenceIdeal.Value

/-! The reference's composed term, cut into named pieces, and each piece read at an index. -/

section pieces
variable (X : FVec Ideal S8192x1792 .f32) (M : FVec Ideal S256x1024 .f32) (G : FVec Ideal S8192x2048 .f32)

/-- The queries by heads. -/
def Q3 : FVec Ideal S8192x4x128 .f32 :=
  shapeCast _ (extractStridedSlice S8192x512 ![0, 1024] X slices_S8192x1792_S8192x512_0_1024) shapeCasts_S8192x512_S8192x4x128
/-- The keys by heads. -/
def K3 : FVec Ideal S256x4x128 .f32 :=
  shapeCast _ (extractStridedSlice S256x512 ![0, 0] M slices_S256x1024_S256x512_0_0) shapeCasts_S256x512_S256x4x128
/-- The values by heads. -/
def V3 : FVec Ideal S256x4x128 .f32 :=
  shapeCast _ (extractStridedSlice S256x512 ![0, 512] M slices_S256x1024_S256x512_0_512) shapeCasts_S256x512_S256x4x128
/-- The cotangents by heads, transposed. -/
def G3 : FVec Ideal S4x128x8192 .f32 :=
  transpose S4x128x8192 [1, 2, 0] (shapeCast _ (extractStridedSlice S8192x512 ![0, 1536] G slices_S8192x2048_S8192x512_0_1536) shapeCasts_S8192x512_S8192x4x128) transposes_S8192x4x128_S4x128x8192_1_2_0
/-- The scaled scores. -/
def SC : FVec Ideal S4x8192x256 .f32 :=
  mulf (Host.dotGeneral dot_S8192x4x128_S256x4x128_S4x8192x256_2_2_0_0_1_1 none (Q3 X) (K3 M)) (broadcastInDim S4x8192x256 ![] bcast_S_S4x8192x256 (constant S_ .f32 0x3DB504F3#32))
/-- The greatest score of every row. -/
def MX0 : FVec Ideal S4x8192 .f32 :=
  Host.reduce FloatOps.maximumf (SC X M) (constant S_ .f32 0xFF800000#32) reducesTo_S4x8192x256_S4x8192_d2 h_S_
/-- The greatest score of every row, against the least value. -/
def MX : FVec Ideal S4x8192 .f32 :=
  maximumf (broadcastInDim S4x8192 ![] bcast_S_S4x8192 (constant S_ .f32 0xFF800000#32)) (MX0 X M)
/-- The exponentials. -/
def E : FVec Ideal S4x8192x256 .f32 :=
  Host.exp (subf (SC X M) (broadcastInDim S4x8192x256 ![0, 1, 2] bcast_S4x8192x1_S4x8192x256_0_1_2 (broadcastInDim S4x8192x1 ![0, 1] bcast_S4x8192_S4x8192x1_0_1 (MX X M))))
/-- The row sums. -/
def DEN : FVec Ideal S4x8192 .f32 := Host.reduceAdd (E X M) (constant S_ .f32 0x00000000#32) reducesTo_S4x8192x256_S4x8192_d2 h_S_
/-- The row sums along every row. -/
def DENB : FVec Ideal S4x8192x256 .f32 := broadcastInDim S4x8192x256 ![0, 1, 2] bcast_S4x8192x1_S4x8192x256_0_1_2 (broadcastInDim S4x8192x1 ![0, 1] bcast_S4x8192_S4x8192x1_0_1 (DEN X M))
/-- The gradient of the probabilities. -/
def DP : FVec Ideal S4x8192x256 .f32 := Host.dotGeneral dot_S4x128x8192_S256x4x128_S4x8192x256_1_2_2_0_0_1 none (G3 G) (V3 M)
/-- The gradient of the row sums. -/
def NS : FVec Ideal S4x8192 .f32 :=
  Host.reduceAdd (Host.negf (shapeCast _ (Host.reduceAdd (mulf (mulf (DP M G) (broadcastInDim S4x8192x256 ![0, 1, 2] bcast_S4x8192x1_S4x8192x256_0_1_2 (Host.divf (broadcastInDim S4x8192x1 ![] bcast_S_S4x8192x1 (constant S_ .f32 0x3F800000#32)) (mulf (broadcastInDim S4x8192x1 ![0, 1] bcast_S4x8192_S4x8192x1_0_1 (DEN X M)) (broadcastInDim S4x8192x1 ![0, 1] bcast_S4x8192_S4x8192x1_0_1 (DEN X M)))))) (E X M)) (constant S_ .f32 0x00000000#32) reducesTo_S4x8192x256_S4x8192_d2 h_S_) shapeCasts_S4x8192_S4x8192x1)) (constant S_ .f32 0x00000000#32) reducesTo_S4x8192x1_S4x8192_d2 h_S_
/-- The gradient of the scores. -/
def DS : FVec Ideal S4x8192x256 .f32 :=
  mulf (mulf (addf (Host.divf (DP M G) (DENB X M)) (broadcastInDim S4x8192x256 ![0, 1] bcast_S4x8192_S4x8192x256_0_1 (NS X M G))) (E X M)) (broadcastInDim S4x8192x256 ![] bcast_S_S4x8192x256 (constant S_ .f32 0x3DB504F3#32))
/-- The gradient of the queries. -/
def OQ : FVec Ideal S8192x512 .f32 :=
  shapeCast _ (transpose S8192x4x128 [1, 0, 2] (Host.dotGeneral dot_S4x8192x256_S256x4x128_S4x8192x128_2_0_1_2_0_1 none (DS X M G) (K3 M)) transposes_S4x8192x128_S8192x4x128_1_0_2) shapeCasts_S8192x4x128_S8192x512
/-- The gradient of the keys and the values. -/
def OKV : FVec Ideal S256x1024 .f32 :=
  addf (pad S256x1024 ![0, 512] ![0, 0] ![0, 0] (shapeCast _ (transpose S256x4x128 [2, 0, 1] (Host.dotGeneral dot_S4x128x8192_S4x8192x256_S4x128x256_2_1_1_2_0_0 none (G3 G) (Host.divf (E X M) (DENB X M))) transposes_S4x128x256_S256x4x128_2_0_1) shapeCasts_S256x4x128_S256x512) (constant S_ .f32 0x00000000#32) pads_S256x512_S256x1024_000_51200 h_S_) (pad S256x1024 ![0, 0] ![0, 512] ![0, 0] (shapeCast _ (transpose S256x4x128 [1, 0, 2] (Host.dotGeneral dot_S4x8192x256_S8192x4x128_S4x256x128_1_0_2_2_0_1 none (DS X M G) (Q3 X)) transposes_S4x256x128_S256x4x128_1_0_2) shapeCasts_S256x4x128_S256x512) (constant S_ .f32 0x00000000#32) pads_S256x512_S256x1024_000_05120 h_S_)

/-- Row `r` of head `a` of the queries. -/
abbrev qr (r : Fin 8192) (a : Fin 4) : Fin 128 → EReal := fun d => X (ix2 r ⟨1024 + (a.val * 128 + d.val), by omega⟩)
/-- Row `r` of head `a` of the cotangents. -/
abbrev gr (r : Fin 8192) (a : Fin 4) : Fin 128 → EReal := fun d => G (ix2 r ⟨1536 + (a.val * 128 + d.val), by omega⟩)
/-- The keys of head `a`. -/
abbrev km (a : Fin 4) : Fin 256 → Fin 128 → EReal := fun j d => M (ix2 j ⟨a.val * 128 + d.val, by omega⟩)
/-- The values of head `a`. -/
abbrev vm (a : Fin 4) : Fin 256 → Fin 128 → EReal := fun j d => M (ix2 j ⟨512 + (a.val * 128 + d.val), by omega⟩)

theorem max_fold (b : EReal) {n : Nat} (f : Fin n → EReal) : max b (Finset.univ.fold max b f) = Finset.univ.fold max b f :=
  max_eq_right ((Finset.le_fold_max _).2 (Or.inl le_rfl))

theorem Q_at (a : Fin 4) (r : Fin 8192) (d : Fin 128) : Q3 X (ix3 r a d) = qr X r a d := by
  pointwise [Q3]
theorem K_at (a : Fin 4) (j : Fin 256) (d : Fin 128) : K3 M (ix3 j a d) = km M a j d := by
  pointwise [K3]
theorem V_at (a : Fin 4) (j : Fin 256) (d : Fin 128) : V3 M (ix3 j a d) = vm M a j d := by
  pointwise [V3]
theorem G_at (a : Fin 4) (r : Fin 8192) (d : Fin 128) : G3 G (ix3 a d r) = gr G r a d := by
  pointwise [G3]

theorem SC_at (a : Fin 4) (r : Fin 8192) (j : Fin 256) : SC X M (ix3 a r j) = score (qr X r a) (km M a) j := by
  pointwise [SC, Q_at, K_at, score, sc]

theorem max_row (x : FVec Ideal S4x8192x256 .f32) (a : Fin 4) (r : Fin 8192) :
    Host.reduce FloatOps.maximumf x (constant S_ .f32 0xFF800000#32) reducesTo_S4x8192x256_S4x8192_d2 h_S_ (ix2 a r)
      = Finset.univ.fold max (Ideal.ofBits .f32 0xFF800000#32) fun k : Fin 256 => x (ix3 a r k) := by
  simp only [pointwise]

theorem MX0_at (a : Fin 4) (r : Fin 8192) :
    MX0 X M (ix2 a r) = Finset.univ.fold max (Ideal.ofBits .f32 0xFF800000#32) fun l => score (qr X r a) (km M a) l := by
  rw [MX0, max_row]
  simp only [SC_at]

theorem max_const (y : FVec Ideal S4x8192 .f32) (a : Fin 4) (r : Fin 8192) :
    maximumf (broadcastInDim S4x8192 ![] bcast_S_S4x8192 (constant (F := Ideal) S_ .f32 0xFF800000#32)) y (ix2 a r) = max (Ideal.ofBits .f32 0xFF800000#32) (y (ix2 a r)) := by
  rfl

theorem MX_at (a : Fin 4) (r : Fin 8192) :
    MX X M (ix2 a r) = Finset.univ.fold max (Ideal.ofBits .f32 0xFF800000#32) fun l => score (qr X r a) (km M a) l := by
  have h := MX0_at X M a r
  rw [MX, max_const]
  generalize MX0 X M (ix2 a r) = y at h
  subst h
  exact max_fold _ _

theorem E_at (a : Fin 4) (r : Fin 8192) (j : Fin 256) : E X M (ix3 a r j) = ex (qr X r a) (km M a) j := by
  pointwise [E, ex, SC_at, MX_at]

theorem DEN_at (a : Fin 4) (r : Fin 8192) : DEN X M (ix2 a r) = den (qr X r a) (km M a) := by
  pointwise [DEN, den, E_at]

theorem DENB_at (a : Fin 4) (r : Fin 8192) (j : Fin 256) : DENB X M (ix3 a r j) = den (qr X r a) (km M a) := by
  pointwise [DENB, DEN_at]

theorem DP_at (a : Fin 4) (r : Fin 8192) (j : Fin 256) : DP M G (ix3 a r j) = ∑ d : Fin 128, gr G r a d * vm M a j d := by
  pointwise [DP, G_at, V_at]

theorem NS_at (a : Fin 4) (r : Fin 8192) : NS X M G (ix2 a r)
    = -(∑ l : Fin 256, (∑ d : Fin 128, gr G r a d * vm M a l d) * Ideal.div 1 (den (qr X r a) (km M a) * den (qr X r a) (km M a)) * ex (qr X r a) (km M a) l) := by
  pointwise [NS, DP_at, DEN_at, E_at]
  simp only [Finset.univ_unique, Finset.sum_singleton]

theorem DS_at (a : Fin 4) (r : Fin 8192) (j : Fin 256) : DS X M G (ix3 a r j) = ds (qr X r a) (km M a) (vm M a) (gr G r a) j := by
  pointwise [DS, DP_at, DENB_at, NS_at, E_at, ds, sc]

theorem OQ_at (r : Fin 8192) (a : Fin 4) (d : Fin 128) :
    OQ X M G (ix2 r ⟨a.val * 128 + d.val, by omega⟩) = ∑ j : Fin 256, ds (qr X r a) (km M a) (vm M a) (gr G r a) j * km M a j d := by
  pointwise [OQ, DS_at, K_at]

theorem OKV_k (j : Fin 256) (a : Fin 4) (d : Fin 128) :
    OKV X M G (ix2 j ⟨a.val * 128 + d.val, by omega⟩) = ∑ r : Fin 8192, ds (qr X r a) (km M a) (vm M a) (gr G r a) j * qr X r a d := by
  pointwise [OKV, DS_at, E_at, DENB_at, Q_at, G_at]
  rw [dif_neg (by omega), dif_pos (by omega), zero_add]

theorem OKV_v (j : Fin 256) (a : Fin 4) (d : Fin 128) :
    OKV X M G (ix2 j ⟨512 + (a.val * 128 + d.val), by omega⟩)
      = ∑ r : Fin 8192, Ideal.div (ex (qr X r a) (km M a) j) (den (qr X r a) (km M a)) * gr G r a d := by
  pointwise [OKV, DS_at, E_at, DENB_at, Q_at, G_at]
  rw [dif_pos (by omega)]
  exact Finset.sum_congr rfl fun x _ => mul_comm _ _
end pieces

theorem out0_eq (m : (ℓ : Loc nD τ sig) → Buf (Elt Ideal) ℓ) (c : Dev nD) :
    res_out0 m c = OQ (m ((c.tc : Thread nD τ).loc main_arg0)) (m ((c.tc : Thread nD τ).loc main_arg1)) (m ((c.tc : Thread nD τ).loc main_arg2)) := rfl

theorem out1_eq (m : (ℓ : Loc nD τ sig) → Buf (Elt Ideal) ℓ) (c : Dev nD) :
    res_out1 m c = OKV (m ((c.tc : Thread nD τ).loc main_arg0)) (m ((c.tc : Thread nD τ).loc main_arg1)) (m ((c.tc : Thread nD τ).loc main_arg2)) := rfl

end Cert.MemRef

end
-- ==== Proof.MemValue.lean ====
module

public import proofs.«01_k».proof.Proof.MemRef
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.MemValue

open Idealize.ShloMosaic Idealize.ShloMosaic.TcCoe Idealize.SL.Sem
open Idealize.ShloMosaic.Pipeline (Dat)
open Cert.MemRow Cert.MemRef
open Cert.KernelIdeal Cert.KernelIdeal.Gen

variable (m : (ℓ : Loc nD τ sig) → Buf (Elt Ideal) ℓ)

/-- The query part of the projected input, as launched. -/
abbrev argX (c : Dev nD) : FVec Ideal S8192x1792 .f32 := m ((c : Thread nD τ).loc main_arg0)
/-- The memory's keys and values, as launched. -/
abbrev argM (c : Dev nD) : FVec Ideal S256x1024 .f32 := m ((c : Thread nD τ).loc main_arg1)
/-- The cotangent, as launched. -/
abbrev argG (c : Dev nD) : FVec Ideal S8192x2048 .f32 := m ((c : Thread nD τ).loc main_arg2)

theorem idx : ∀ t : Fin cfg0.N, win0_0.index t = ![t.val, 2] ∧ win0_1.index t = ![0, 0] ∧ win0_2.index t = ![t.val, 3]
    ∧ win0_3.index t = ![t.val, 0] ∧ win0_4.index t = ![0, 0] ∧ t.val < 16 :=
  (by decide +kernel : ∀ t : Fin grid0.N, _)

/-- The row of the array that row `r` of block `t` is. -/
abbrev rowOf (t : Fin cfg0.N) (r : Fin 512) : Fin 8192 := ⟨t.val * 512 + r.val, by have := (idx t).2.2.2.2.2; omega⟩

theorem x_at (c : Dev nD) (t : Fin cfg0.N) (r l : Fin 512) :
    (show FVec Ideal S512x512 .f32 from X0_0 m c t) (ix2 r l) = argX m c (ix2 (rowOf t r) ⟨1024 + l.val, by omega⟩) := by
  show (cfg0.win 0).fill (cfg0.grid.coords t) dflt0_0 (iblk m c 0 t) (ix2 r l) = _
  unfold Pipeline.Window.fill
  rw [dif_pos (moved0_0 t (ix2 r l))]
  blk_ext [iblk, V, idx t]

theorem m_at (c : Dev nD) (t : Fin cfg0.N) (j : Fin 256) (l : Fin 1024) :
    (show FVec Ideal S256x1024 .f32 from iblk m c 1 t) (ix2 j l) = argM m c (ix2 j l) := by
  blk_ext [iblk, V, idx t]

theorem g_at (c : Dev nD) (t : Fin cfg0.N) (r l : Fin 512) :
    (show FVec Ideal S512x512 .f32 from iblk m c 2 t) (ix2 r l) = argG m c (ix2 (rowOf t r) ⟨1536 + l.val, by omega⟩) := by
  blk_ext [iblk, V, idx t]

/-- The tiles a head of block `t` reads hold the head's queries, cotangents, keys and values. -/
structure Tiles (c : Dev nD) (t : Fin cfg0.N) (a : Fin 4) (q g : FVec Ideal S512x128 .f32) (k v : FVec Ideal S256x128 .f32) : Prop where
  hq : ∀ r, row q r = qr (argX m c) (rowOf t r) a
  hg : ∀ r, row g r = gr (argG m c) (rowOf t r) a
  hk : mat k = km (argM m c) a
  hv : mat v = vm (argM m c) a

theorem ld_rows (B : Vec Ideal S512x512 .f32) (o : ℕ) (ho : o + 128 ≤ 512) (inb) (r : Fin 512) (d : Fin 128) :
    View.ld B (Rect.unit ![0, o] ![512, 128] inb) (ix2 r d) = B (ix2 r ⟨o + d.val, by omega⟩) := by
  pointwise

theorem ld_mem (B : Vec Ideal S256x1024 .f32) (o : ℕ) (ho : o + 128 ≤ 1024) (inb) (j : Fin 256) (d : Fin 128) :
    View.ld B (Rect.unit ![0, o] ![256, 128] inb) (ix2 j d) = B (ix2 j ⟨o + d.val, by omega⟩) := by
  pointwise

theorem ld_at (B : Vec Ideal S256x1024 .f32) (o : ℕ) (inb) (x : S256x128.Idx) (y : S256x1024.Idx) (h0 : (y 0 : ℕ) = (x 0 : ℕ)) (h1 : (y 1 : ℕ) = o + (x 1 : ℕ)) :
    View.ld B (Rect.unit ![0, o] ![256, 128] inb) x = B y := by
  idx_vars x
  idx_vars y
  rw [ld_mem B o (by have := inb 1; simpa using this)]
  blk_ext

theorem tiles (c : Dev nD) (t : Fin cfg0.N) (a : Fin 4) (o p : ℕ) (ho : o = a.val * 128) (hp : p = 512 + o) (i0 i1 i2 i3) :
    Tiles m c t a (View.ld (X0_0 m c t) (Rect.unit ![0, o] ![512, 128] i0)) (View.ld (iblk m c 2 t) (Rect.unit ![0, o] ![512, 128] i1))
      (View.ld (iblk m c 1 t) (Rect.unit ![0, o] ![256, 128] i2)) (View.ld (iblk m c 1 t) (Rect.unit ![0, p] ![256, 128] i3)) := by
  subst ho hp
  constructor
  · intro r; funext d
    exact (ld_rows _ _ (by omega) _ r d).trans (x_at m c t r _)
  · intro r; funext d
    exact (ld_rows _ _ (by omega) _ r d).trans (g_at m c t r _)
  · funext j d
    exact (ld_mem _ _ (by omega) _ j d).trans (m_at m c t j _)
  · funext j d
    refine (ld_mem _ _ (by omega) _ j d).trans ((m_at m c t j _).trans (congrArg (argM m c) ?_))
    blk_ext

variable {m}

/-- A head's part of the query gradient at a block's row is the reference's at the array's row. -/
theorem Tiles.dq {c : Dev nD} {t : Fin cfg0.N} {a : Fin 4} {q g k v} (h : Tiles m c t a q g k v) (r : Fin 512) (d : Fin 128) :
    DQ q g k v r d = OQ (argX m c) (argM m c) (argG m c) (ix2 (rowOf t r) ⟨a.val * 128 + d.val, by omega⟩) := by
  rw [OQ_at]
  unfold DQ
  rw [h.hq, h.hg, h.hk, h.hv]
  exact Finset.sum_congr rfl fun j _ => congrArg _ (congrFun (congrFun h.hk j) d)

variable (m)

theorem point3 (c : Dev nD) (t : Fin cfg0.N) (a : Fin 4) {q g k v} (h : Tiles m c t a q g k v) (f : FVec Ideal S512x128 .f32)
    (hf : ∀ r d, f (ix2 r d) = DQ q g k v r d) (x : S512x128.Idx) (j : S8192x512.Idx)
    (h0 : (j 0 : ℕ) = t.val * 512 + (x 0 : ℕ)) (h1 : (j 1 : ℕ) = a.val * 128 + (x 1 : ℕ)) :
    f x = OQ (argX m c) (argM m c) (argG m c) j := by
  idx_vars x
  rw [hf, h.dq]
  congr 1
  blk_ext

theorem final3 (c : Dev nD) : (dats m 0 c).arrAt 3 (cfgs 0).N = OQ (argX m c) (argM m c) (argG m c) := by
  refine (dats m 0 c).arrAt_eq_of_covers 3 _ (by decide +kernel) fun t _ y => ?_
  blk_simp
  rw [after0_3]
  by_cases h0 : t.val % 16 = 0
  · rw [outsAt0_A m c t h0]
    frame_out
    canon_tiles x h
    case piece0 =>
      refine point3 m c t 3 (tiles m c t 3 384 896 rfl rfl _ _ _ _) _ (fun r d => dq3 _ _ _ _ r d) x _ ?_ ?_ <;> (blk_simp [idx t] <;> try omega)
    case piece1 =>
      refine point3 m c t 2 (tiles m c t 2 256 768 rfl rfl _ _ _ _) _ (fun r d => dq2 _ _ _ _ r d) x _ ?_ ?_ <;> (blk_simp [idx t] <;> try omega)
    case piece2 =>
      refine point3 m c t 1 (tiles m c t 1 128 640 rfl rfl _ _ _ _) _ (fun r d => dq1 _ _ _ _ r d) x _ ?_ ?_ <;> (blk_simp [idx t] <;> try omega)
    case piece3 =>
      refine point3 m c t 0 (tiles m c t 0 0 512 rfl rfl _ _ _ _) _ (fun r d => dq0 _ _ _ _ r d) x _ ?_ ?_ <;> (blk_simp [idx t] <;> try omega)
  · rw [outsAt0_B m c t h0]
    frame_out
    canon_tiles x h
    case piece0 =>
      refine point3 m c t 3 (tiles m c t 3 384 896 rfl rfl _ _ _ _) _ (fun r d => dq3 _ _ _ _ r d) x _ ?_ ?_ <;> (blk_simp [idx t] <;> try omega)
    case piece1 =>
      refine point3 m c t 2 (tiles m c t 2 256 768 rfl rfl _ _ _ _) _ (fun r d => dq2 _ _ _ _ r d) x _ ?_ ?_ <;> (blk_simp [idx t] <;> try omega)
    case piece2 =>
      refine point3 m c t 1 (tiles m c t 1 128 640 rfl rfl _ _ _ _) _ (fun r d => dq1 _ _ _ _ r d) x _ ?_ ?_ <;> (blk_simp [idx t] <;> try omega)
    case piece3 =>
      refine point3 m c t 0 (tiles m c t 0 0 512 rfl rfl _ _ _ _) _ (fun r d => dq0 _ _ _ _ r d) x _ ?_ ?_ <;> (blk_simp [idx t] <;> try omega)

/-- What one row gives to an entry of the gradient of the memory: a key's entry in the first half of the columns, a value's in the second. -/
def kvRow (X : FVec Ideal S8192x1792 .f32) (M : FVec Ideal S256x1024 .f32) (G : FVec Ideal S8192x2048 .f32) (j : Fin 256) (l : Fin 1024) (r : Fin 8192) : EReal :=
  if h : l.val < 512 then
    ds (qr X r ⟨l.val / 128, by omega⟩) (km M ⟨l.val / 128, by omega⟩) (vm M ⟨l.val / 128, by omega⟩) (gr G r ⟨l.val / 128, by omega⟩) j
      * qr X r ⟨l.val / 128, by omega⟩ ⟨l.val % 128, by omega⟩
  else
    Ideal.div (ex (qr X r ⟨(l.val - 512) / 128, by omega⟩) (km M ⟨(l.val - 512) / 128, by omega⟩) j)
        (den (qr X r ⟨(l.val - 512) / 128, by omega⟩) (km M ⟨(l.val - 512) / 128, by omega⟩))
      * gr G r ⟨(l.val - 512) / 128, by omega⟩ ⟨(l.val - 512) % 128, by omega⟩

theorem kvRow_k (X M G) (j : Fin 256) (a : Fin 4) (d : Fin 128) (l : Fin 1024) (hl : l.val = a.val * 128 + d.val) (r : Fin 8192) :
    kvRow X M G j l r = ds (qr X r a) (km M a) (vm M a) (gr G r a) j * qr X r a d := by
  obtain ⟨l, hl'⟩ := l
  subst hl
  have ha : (⟨(a.val * 128 + d.val) / 128, by omega⟩ : Fin 4) = a := Fin.ext (by show _ / 128 = _; omega)
  have hd : (⟨(a.val * 128 + d.val) % 128, by omega⟩ : Fin 128) = d := Fin.ext (by show _ % 128 = _; omega)
  unfold kvRow
  rw [dif_pos (by show a.val * 128 + d.val < 512; omega)]
  simp only [ha, hd]

theorem kvRow_v (X M G) (j : Fin 256) (a : Fin 4) (d : Fin 128) (l : Fin 1024) (hl : l.val = 512 + (a.val * 128 + d.val)) (r : Fin 8192) :
    kvRow X M G j l r = Ideal.div (ex (qr X r a) (km M a) j) (den (qr X r a) (km M a)) * gr G r a d := by
  obtain ⟨l, hl'⟩ := l
  subst hl
  have ha : (⟨(512 + (a.val * 128 + d.val) - 512) / 128, by omega⟩ : Fin 4) = a := Fin.ext (by show _ / 128 = _; omega)
  have hd : (⟨(512 + (a.val * 128 + d.val) - 512) % 128, by omega⟩ : Fin 128) = d := Fin.ext (by show _ % 128 = _; omega)
  unfold kvRow
  rw [dif_neg (by show ¬ 512 + (a.val * 128 + d.val) < 512; omega)]
  simp only [ha, hd]

theorem OKV_rows (X M G) (j : Fin 256) (l : Fin 1024) : OKV X M G (ix2 j l) = ∑ r : Fin 8192, kvRow X M G j l r := by
  by_cases h : l.val < 512
  · have hl : l = ⟨(⟨l.val / 128, by omega⟩ : Fin 4).val * 128 + (⟨l.val % 128, by omega⟩ : Fin 128).val, by show l.val / 128 * 128 + l.val % 128 < 1024; omega⟩ :=
      Fin.ext (by show l.val = l.val / 128 * 128 + l.val % 128; omega)
    rw [hl, OKV_k]
    exact Finset.sum_congr rfl fun r _ => (kvRow_k X M G j _ _ _ rfl r).symm
  · have hl : l = ⟨512 + ((⟨(l.val - 512) / 128, by omega⟩ : Fin 4).val * 128 + (⟨(l.val - 512) % 128, by omega⟩ : Fin 128).val), by
        show 512 + ((l.val - 512) / 128 * 128 + (l.val - 512) % 128) < 1024; omega⟩ :=
      Fin.ext (by show l.val = 512 + ((l.val - 512) / 128 * 128 + (l.val - 512) % 128); omega)
    rw [hl, OKV_v]
    exact Finset.sum_congr rfl fun r _ => (kvRow_v X M G j _ _ _ rfl r).symm

/-- A block's part of the gradient of the memory. -/
def part (c : Dev nD) (t : Fin cfg0.N) (j : S256x1024.Idx) : EReal :=
  ∑ r : Fin 512, kvRow (argX m c) (argM m c) (argG m c) (j 0) (j 1) (rowOf t r)

theorem pointk (c : Dev nD) (t : Fin cfg0.N) (a : Fin 4) {q g k v} (h : Tiles m c t a q g k v) (f base : FVec Ideal S256x128 .f32)
    (hf : ∀ j d, f (ix2 j d) = base (ix2 j d) + DK q g k v j d) (x : S256x128.Idx) (j : S256x1024.Idx)
    (h0 : (j 0 : ℕ) = (x 0 : ℕ)) (h1 : (j 1 : ℕ) = a.val * 128 + (x 1 : ℕ)) (b : EReal) (hb : base x = b) : f x = b + part m c t j := by
  subst hb
  idx_vars x
  idx_vars j
  rw [hf]
  unfold DK part
  rw [h.hk, h.hv]
  refine congrArg _ (Finset.sum_congr rfl fun r _ => ?_)
  show _ = kvRow _ _ _ j0 j1 _
  rw [h.hq, h.hg, kvRow_k _ _ _ _ a x1 _ h1, show j0 = x0 from Fin.ext h0]
  exact congrArg _ (congrFun (h.hq r) x1)

theorem pointv (c : Dev nD) (t : Fin cfg0.N) (a : Fin 4) {q g k v} (h : Tiles m c t a q g k v) (f base : FVec Ideal S256x128 .f32)
    (hf : ∀ j d, f (ix2 j d) = base (ix2 j d) + DV q g k j d) (x : S256x128.Idx) (j : S256x1024.Idx)
    (h0 : (j 0 : ℕ) = (x 0 : ℕ)) (h1 : (j 1 : ℕ) = 512 + (a.val * 128 + (x 1 : ℕ))) (b : EReal) (hb : base x = b) : f x = b + part m c t j := by
  subst hb
  idx_vars x
  idx_vars j
  rw [hf]
  unfold DV part
  rw [h.hk]
  refine congrArg _ (Finset.sum_congr rfl fun r _ => ?_)
  show _ = kvRow _ _ _ j0 j1 _
  rw [h.hq, kvRow_v _ _ _ _ a x1 _ h1, show j0 = x0 from Fin.ext h0]
  exact congrArg _ (congrFun (h.hg r) x1)

theorem first (c : Dev nD) (t : Fin cfg0.N) (h : t.val % 16 = 0) (y : S256x1024.Idx) : (outsAt0 m c t.val t.isLt).2 y = 0 + part m c t y := by
  rw [outsAt0_A m c t h]
  frame_open
  simp (disch := decide) only [↓ View.readCov_skip, ↓ View.readCov_cons_toLoadRect, ↓ View.readCov_fill]
  frame_out
  refine View.canon_append_of_piecesOf (Val := Elt Ideal) (e := .f32) (s := S256x1024) (fun y => 0 + part m c t y) [_] [_, _, _, _, _, _, _, _] ⟨fun x => ?_, fun x => ?_, fun x => ?_, fun x => ?_, fun x => ?_, fun x => ?_, fun x => ?_, fun x => ?_, trivial⟩ y ?_
  · refine pointv m c t 3 (tiles m c t 3 384 896 rfl rfl inb_S512x512_S512x128_0_384 inb_S512x512_S512x128_0_384 inb_S256x1024_S256x128_0_384 inb_S256x1024_S256x128_0_896) _ _ (fun j d => dv3 _ _ _ _ j d) x _ ?_ ?_ _ ?_
    · show 0 + 1 * _ = _
      omega
    · show 896 + 1 * _ = _
      omega
    · pointwise [k0_pay3]
  · refine pointk m c t 3 (tiles m c t 3 384 896 rfl rfl inb_S512x512_S512x128_0_384 inb_S512x512_S512x128_0_384 inb_S256x1024_S256x128_0_384 inb_S256x1024_S256x128_0_896) _ _ (fun j d => dk3 _ _ _ _ _ j d) x _ ?_ ?_ _ ?_
    · show 0 + 1 * _ = _
      omega
    · show 384 + 1 * _ = _
      omega
    · pointwise [k0_pay3]
  · refine pointv m c t 2 (tiles m c t 2 256 768 rfl rfl inb_S512x512_S512x128_0_256 inb_S512x512_S512x128_0_256 inb_S256x1024_S256x128_0_256 inb_S256x1024_S256x128_0_768) _ _ (fun j d => dv2 _ _ _ _ j d) x _ ?_ ?_ _ ?_
    · show 0 + 1 * _ = _
      omega
    · show 768 + 1 * _ = _
      omega
    · pointwise [k0_pay3]
  · refine pointk m c t 2 (tiles m c t 2 256 768 rfl rfl inb_S512x512_S512x128_0_256 inb_S512x512_S512x128_0_256 inb_S256x1024_S256x128_0_256 inb_S256x1024_S256x128_0_768) _ _ (fun j d => dk2 _ _ _ _ _ j d) x _ ?_ ?_ _ ?_
    · show 0 + 1 * _ = _
      omega
    · show 256 + 1 * _ = _
      omega
    · pointwise [k0_pay3]
  · refine pointv m c t 1 (tiles m c t 1 128 640 rfl rfl inb_S512x512_S512x128_0_128 inb_S512x512_S512x128_0_128 inb_S256x1024_S256x128_0_128 inb_S256x1024_S256x128_0_640) _ _ (fun j d => dv1 _ _ _ _ j d) x _ ?_ ?_ _ ?_
    · show 0 + 1 * _ = _
      omega
    · show 640 + 1 * _ = _
      omega
    · pointwise [k0_pay3]
  · refine pointk m c t 1 (tiles m c t 1 128 640 rfl rfl inb_S512x512_S512x128_0_128 inb_S512x512_S512x128_0_128 inb_S256x1024_S256x128_0_128 inb_S256x1024_S256x128_0_640) _ _ (fun j d => dk1 _ _ _ _ _ j d) x _ ?_ ?_ _ ?_
    · show 0 + 1 * _ = _
      omega
    · show 128 + 1 * _ = _
      omega
    · pointwise [k0_pay3]
  · refine pointv m c t 0 (tiles m c t 0 0 512 rfl rfl inb_S512x512_S512x128_0_0 inb_S512x512_S512x128_0_0 inb_S256x1024_S256x128_0_0 inb_S256x1024_S256x128_0_512) _ _ (fun j d => dv0 _ _ _ _ j d) x _ ?_ ?_ _ ?_
    · show 0 + 1 * _ = _
      omega
    · show 512 + 1 * _ = _
      omega
    · pointwise [k0_pay3]
  · refine pointk m c t 0 (tiles m c t 0 0 512 rfl rfl inb_S512x512_S512x128_0_0 inb_S512x512_S512x128_0_0 inb_S256x1024_S256x128_0_0 inb_S256x1024_S256x128_0_512) _ _ (fun j d => dk0 _ _ _ _ _ j d) x _ ?_ ?_ _ ?_
    · show 0 + 1 * _ = _
      omega
    · show 0 + 1 * _ = _
      omega
    · pointwise [k0_pay3]
  · refine View.cover_of_tiledL (s := S256x1024) _ S256x128.size ?_ y
    sl_kernel_rfl

theorem later (c : Dev nD) (t : Fin cfg0.N) (h : ¬ t.val % 16 = 0) (y : S256x1024.Idx) :
    (outsAt0 m c t.val t.isLt).2 y = (outsAt0 m c (t.val - 1) (Nat.lt_of_le_of_lt (Nat.sub_le _ _) t.isLt)).2 y + part m c t y := by
  rw [outsAt0_B m c t h]
  frame_out
  canon_tiles x h
  case piece0 =>
    refine pointv m c t 3 (tiles m c t 3 384 896 rfl rfl inb_S512x512_S512x128_0_384 inb_S512x512_S512x128_0_384 inb_S256x1024_S256x128_0_384 inb_S256x1024_S256x128_0_896) _ _ (fun j d => dv3 _ _ _ _ j d) x _ ?_ ?_ _ ?_
    · omega
    · omega
    · exact ld_at _ 896 _ x y (by omega) (by omega)
  case piece1 =>
    refine pointk m c t 3 (tiles m c t 3 384 896 rfl rfl inb_S512x512_S512x128_0_384 inb_S512x512_S512x128_0_384 inb_S256x1024_S256x128_0_384 inb_S256x1024_S256x128_0_896) _ _ (fun j d => dk3 _ _ _ _ _ j d) x _ ?_ ?_ _ ?_
    · omega
    · omega
    · exact ld_at _ 384 _ x y (by omega) (by omega)
  case piece2 =>
    refine pointv m c t 2 (tiles m c t 2 256 768 rfl rfl inb_S512x512_S512x128_0_256 inb_S512x512_S512x128_0_256 inb_S256x1024_S256x128_0_256 inb_S256x1024_S256x128_0_768) _ _ (fun j d => dv2 _ _ _ _ j d) x _ ?_ ?_ _ ?_
    · omega
    · omega
    · exact ld_at _ 768 _ x y (by omega) (by omega)
  case piece3 =>
    refine pointk m c t 2 (tiles m c t 2 256 768 rfl rfl inb_S512x512_S512x128_0_256 inb_S512x512_S512x128_0_256 inb_S256x1024_S256x128_0_256 inb_S256x1024_S256x128_0_768) _ _ (fun j d => dk2 _ _ _ _ _ j d) x _ ?_ ?_ _ ?_
    · omega
    · omega
    · exact ld_at _ 256 _ x y (by omega) (by omega)
  case piece4 =>
    refine pointv m c t 1 (tiles m c t 1 128 640 rfl rfl inb_S512x512_S512x128_0_128 inb_S512x512_S512x128_0_128 inb_S256x1024_S256x128_0_128 inb_S256x1024_S256x128_0_640) _ _ (fun j d => dv1 _ _ _ _ j d) x _ ?_ ?_ _ ?_
    · omega
    · omega
    · exact ld_at _ 640 _ x y (by omega) (by omega)
  case piece5 =>
    refine pointk m c t 1 (tiles m c t 1 128 640 rfl rfl inb_S512x512_S512x128_0_128 inb_S512x512_S512x128_0_128 inb_S256x1024_S256x128_0_128 inb_S256x1024_S256x128_0_640) _ _ (fun j d => dk1 _ _ _ _ _ j d) x _ ?_ ?_ _ ?_
    · omega
    · omega
    · exact ld_at _ 128 _ x y (by omega) (by omega)
  case piece6 =>
    refine pointv m c t 0 (tiles m c t 0 0 512 rfl rfl inb_S512x512_S512x128_0_0 inb_S512x512_S512x128_0_0 inb_S256x1024_S256x128_0_0 inb_S256x1024_S256x128_0_512) _ _ (fun j d => dv0 _ _ _ _ j d) x _ ?_ ?_ _ ?_
    · omega
    · omega
    · exact ld_at _ 512 _ x y (by omega) (by omega)
  case piece7 =>
    refine pointk m c t 0 (tiles m c t 0 0 512 rfl rfl inb_S512x512_S512x128_0_0 inb_S512x512_S512x128_0_0 inb_S256x1024_S256x128_0_0 inb_S256x1024_S256x128_0_512) _ _ (fun j d => dk0 _ _ _ _ _ j d) x _ ?_ ?_ _ ?_
    · omega
    · omega
    · exact ld_at _ 0 _ x y (by omega) (by omega)

theorem final4 (c : Dev nD) : (dats m 0 c).arrAt 4 (cfgs 0).N = OKV (argX m c) (argM m c) (argG m c) := by
  refine (dats m 0 c).arrAt_eq_of_after_last 4 t0_15 (by decide +kernel) _ fun j => ?_
  blk_simp
  rw [after0_4, Pipeline.eq_sum_fin_of_reset_step_apply_last (fun n h => (outsAt0 m c n h).2) 16 (fun _ => 0) (fun t j => part m c t j)
    (fun t h j => first m c t h j) (fun t h j => later m c t h j) (le_of_eq N_0) t0_15 rfl j, zero_add]
  idx_vars j
  rw [OKV_rows]
  exact Fin.sum_mul_add_congr fun t r hr => rfl

end Cert.MemValue

end
-- ==== Proof.Dh1Value.lean ====
module

public import proofs.«01_k».proof.Proof.Gen.Kernel2Ideal.Value
public import Idealize.ShloMosaic.Lib.Pipeline.ValueKit
public import Idealize.ShloMosaic.Lib.Pipeline.ReadBack

@[expose] public section

set_option maxRecDepth 16384

noncomputable section

namespace Cert.Dh1Value

open Idealize.ShloMosaic Idealize.ShloMosaic.TcCoe Idealize.SL.Sem
open Idealize.ShloMosaic.Pipeline (Dat)
open Cert.Kernel2Ideal Cert.Kernel2Ideal.Gen

/-- One summand: the product of the two operands. -/
def term (a g : EReal) : EReal := a * g

/-- The factor two of the derivative of a square. -/
def two : EReal := Ideal.ofBits .f32 0x40000000#32

/-- The cotangent of the hidden values, entry by entry. -/
def Out (A : FVec Ideal S8192x2048 .bf16) (B : FVec Ideal S8192x2048 .bf16) (E : FVec Ideal S8192x8192 .f32) : FVec Ideal S8192x8192 .bf16 :=
  fun i => (∑ r : Fin 2048, term (A (ix2 (i 0) r)) (B (ix2 (i 1) r))) * (two * max (E (ix2 (i 0) (i 1))) 0)

theorem pay1_at (i : Fin 512) (j : Fin 1024) : k0_pay1 (F := Ideal) (ix2 i j) = 0 := by
  pointwise [k0_pay1]

theorem pay2_at (a : FVec Ideal S512x2048 .bf16) (acc : FVec Ideal S512x1024 .f32) (g : FVec Ideal S1024x2048 .bf16) (i : Fin 512) (j : Fin 1024) :
    k0_pay2 a acc g (ix2 i j) = acc (ix2 i j) + ∑ r : Fin 2048, term (a (ix2 i r)) (g (ix2 j r)) := by
  unfold term
  pointwise [k0_pay2]

theorem pay3_at (a e : FVec Ideal S512x1024 .f32) (i : Fin 512) (j : Fin 1024) :
    k0_pay3 (F := Ideal) a e (ix2 i j) = ((show EReal from a (ix2 i j))) * (two * max (show EReal from e (ix2 i j)) 0) := by
  unfold two
  pointwise [k0_pay3]

variable (m : (ℓ : Loc nD τ sig) → Buf (Elt Ideal) ℓ)

/-- The cotangent of the layer's output, as launched. -/
abbrev argA (c : Dev nD) : FVec Ideal S8192x2048 .bf16 := m ((c : Thread nD τ).loc main_arg0)
/-- The second matrix, as launched. -/
abbrev argB (c : Dev nD) : FVec Ideal S8192x2048 .bf16 := m ((c : Thread nD τ).loc main_arg1)
/-- The hidden values, as launched. -/
abbrev argE (c : Dev nD) : FVec Ideal S8192x8192 .f32 := m ((c : Thread nD τ).loc main_arg2)

theorem idx : ∀ t : Fin cfg0.N, win0_0.index t = ![t.val / 8, 0] ∧ win0_1.index t = ![t.val % 8, 0] ∧ win0_2.index t = ![t.val / 8, t.val % 8] ∧ win0_3.index t = ![t.val / 8, t.val % 8] ∧ t.val < 128 :=
  (by decide +kernel : ∀ t : Fin grid0.N, _)

theorem a_at (c : Dev nD) (t : Fin cfg0.N) (r : Fin 2048) (i : Fin 512) :
    (show FVec Ideal S512x2048 .bf16 from iblk m c 0 t) (ix2 i r) = argA m c (ix2 ⟨t.val / 8 * 512 + i.val, by have := (idx t).2.2.2.2; omega⟩ r) := by
  blk_ext [iblk, V, idx t]

theorem b_at (c : Dev nD) (t : Fin cfg0.N) (r : Fin 2048) (j : Fin 1024) :
    (show FVec Ideal S1024x2048 .bf16 from iblk m c 1 t) (ix2 j r) = argB m c (ix2 ⟨t.val % 8 * 1024 + j.val, by have := (idx t).2.2.2.2; omega⟩ r) := by
  blk_ext [iblk, V, idx t]

theorem e_at (c : Dev nD) (t : Fin cfg0.N) (i : Fin 512) (j : Fin 1024) :
    (show FVec Ideal S512x1024 .f32 from iblk m c 2 t) (ix2 i j) = argE m c (ix2 ⟨t.val / 8 * 512 + i.val, by have := (idx t).2.2.2.2; omega⟩ ⟨t.val % 8 * 1024 + j.val, by have := (idx t).2.2.2.2; omega⟩) := by
  blk_ext [iblk, V, idx t]

/-- One step's part of a block of the sum. -/
def part (c : Dev nD) (t : Fin cfg0.N) (y : S512x1024.Idx) : EReal :=
  ∑ r : Fin 2048, term (argA m c (ix2 ⟨t.val / 8 * 512 + (y 0).val, by have := (idx t).2.2.2.2; have : (y 0).val < 512 := (y 0).isLt; omega⟩ r))
    (argB m c (ix2 ⟨t.val % 8 * 1024 + (y 1).val, by have := (idx t).2.2.2.2; have : (y 1).val < 1024 := (y 1).isLt; omega⟩ r))

theorem step (c : Dev nD) (t : Fin cfg0.N) (acc : FVec Ideal S512x1024 .f32) (y : S512x1024.Idx) :
    k0_pay2 (iblk m c 0 t) acc (iblk m c 1 t) y = acc y + part m c t y := by
  idx_vars y
  rw [pay2_at]
  unfold part
  exact congrArg _ (Finset.sum_congr rfl fun r _ => congrArg₂ term (a_at m c t r y0) (b_at m c t r y1))

/-- The parts of a block make up the whole entry. -/
theorem parts (c : Dev nD) (t : Fin cfg0.N) (z : S8192x8192.Idx) (i : Fin 512) (j : Fin 1024) (h0 : (z 0).val = t.val / 8 * 512 + i.val) (h1 : (z 1).val = t.val % 8 * 1024 + j.val) :
    (part m c t (ix2 i j)) * (two * max ((show FVec Ideal S512x1024 .f32 from iblk m c 2 t) (ix2 i j)) 0) = Out (argA m c) (argB m c) (argE m c) z := by
  rw [e_at]
  unfold part Out
  refine congrArg₂ (fun p q : EReal => p * (two * max q 0)) (Finset.sum_congr rfl fun r _ => ?_) (congrArg (argE m c) (congrArg₂ ix2 (Fin.ext h0.symm) (Fin.ext h1.symm)))
  refine congrArg₂ term (congrArg (argA m c) (congrArg₂ ix2 (Fin.ext ?_) (Fin.ext ?_))) (congrArg (argB m c) (congrArg₂ ix2 (Fin.ext ?_) (Fin.ext ?_)))
  · exact h0.symm
  · rfl
  · exact h1.symm
  · rfl

theorem point (c : Dev nD) (t : Fin cfg0.N) : outsAt0 m c t = k0_pay3 (k0_pay2 (iblk m c 0 t) (k0_pay1 (F := Ideal)) (iblk m c 1 t)) (iblk m c 2 t) := by
  unfold outsAt0
  funext y
  frame_out

theorem final (c : Dev nD) : (dats m 0 c).arrAt 3 (cfgs 0).N = Out (argA m c) (argB m c) (argE m c) := by
  refine (dats m 0 c).arrAt_eq_of_covers 3 _ (by decide +kernel) fun t hf y => ?_
  blk_simp
  rw [after0_3, point]
  idx_vars y
  rw [pay3_at, step, pay1_at, zero_add]
  refine parts m c t _ y0 y1 ?_ ?_ <;> (blk_simp [idx t] <;> try omega)

end Cert.Dh1Value

end
-- ==== Proof.Dh1Ref.lean ====
module

public import proofs.«01_k».proof.Proof.Gen.Reference2Ideal.Run
public import proofs.«01_k».proof.Proof.Dh1Value

@[expose] public section

set_option maxRecDepth 16384

noncomputable section

namespace Cert.Dh1Value.Ref

open Idealize.ShloMosaic Idealize.ShloMosaic.TcCoe
open Cert.Reference2Ideal Cert.Reference2Ideal.Gen

/-- The derivative of the square, cut off where the hidden value is not positive, is the same product uncut: there it is zero. -/
theorem cut (p h : EReal) : (if 0 < h then p * (two * max h 0) else 0) = p * (two * max h 0) := by
  by_cases hp : 0 < h
  · rw [if_pos hp]
  · rw [if_neg hp, max_eq_right (not_lt.mp hp), mul_zero, mul_zero]

/-- The reference's cotangent of the hidden values, entry by entry. -/
theorem ref_eq (a : FVec Ideal S8192x2048 .bf16) (b : FVec Ideal S8192x2048 .bf16) (e : FVec Ideal S8192x8192 .f32) :
    truncf .bf16 (select (cmpf .ogt e (broadcastInDim S8192x8192 ![] bcast_S_S8192x8192 (constant S_ .f32 0x00000000#32))) (mulf (Host.dotGeneral dot_S8192x2048_S8192x2048_S8192x8192_1_1_0_0_n_n none (extf .f32 a bitsLt_bf16_f32) (extf .f32 b bitsLt_bf16_f32)) (mulf (broadcastInDim S8192x8192 ![] bcast_S_S8192x8192 (constant S_ .f32 0x40000000#32)) (maximumf e (broadcastInDim S8192x8192 ![] bcast_S_S8192x8192 (constant S_ .f32 0x00000000#32))))) (broadcastInDim S8192x8192 ![] bcast_S_S8192x8192 (constant S_ .f32 0x00000000#32))) bitsLt_bf16_f32
      = Out a b e := by
  funext y
  idx_vars y
  unfold Out
  refine Eq.trans ?_ (cut _ _)
  unfold term two
  pointwise

end Cert.Dh1Value.Ref

end
-- ==== Proof.Dw2Value.lean ====
module

public import proofs.«01_k».proof.Proof.Gen.Kernel3Ideal.Value
public import Idealize.ShloMosaic.Lib.Pipeline.ValueKit
public import Idealize.ShloMosaic.Lib.Pipeline.ReadBack

@[expose] public section

set_option maxRecDepth 16384

noncomputable section

namespace Cert.Dw2Value

open Idealize.ShloMosaic Idealize.ShloMosaic.TcCoe Idealize.SL.Sem
open Idealize.ShloMosaic.Pipeline (Dat)
open Cert.Kernel3Ideal Cert.Kernel3Ideal.Gen

/-- One summand: the squared positive part of the first operand, times the second. -/
def term (a g : EReal) : EReal := max a 0 * max a 0 * g

/-- The gradient of the second matrix, entry by entry. -/
def Out (A : FVec Ideal S8192x8192 .f32) (B : FVec Ideal S8192x2048 .bf16) : FVec Ideal S8192x2048 .bf16 :=
  fun i => ∑ r : Fin 8192, term (A (ix2 r (i 0))) (B (ix2 r (i 1)))

theorem pay1_at (i : Fin 1024) (j : Fin 1024) : k0_pay1 (F := Ideal) (ix2 i j) = 0 := by
  pointwise [k0_pay1]

theorem pay2_at (a : FVec Ideal S1024x1024 .f32) (acc : FVec Ideal S1024x1024 .f32) (g : FVec Ideal S1024x1024 .bf16) (i : Fin 1024) (j : Fin 1024) :
    k0_pay2 a acc g (ix2 i j) = acc (ix2 i j) + ∑ r : Fin 1024, term (a (ix2 r i)) (g (ix2 r j)) := by
  unfold term
  pointwise [k0_pay2]

theorem pay3_at (a : FVec Ideal S1024x1024 .f32) (i : Fin 1024) (j : Fin 1024) :
    k0_pay3 (F := Ideal) a (ix2 i j) = (show EReal from a (ix2 i j)) := by
  pointwise [k0_pay3]

variable (m : (ℓ : Loc nD τ sig) → Buf (Elt Ideal) ℓ)

/-- The hidden values, as launched. -/
abbrev argA (c : Dev nD) : FVec Ideal S8192x8192 .f32 := m ((c : Thread nD τ).loc main_arg0)
/-- The cotangent of the layer's output, as launched. -/
abbrev argB (c : Dev nD) : FVec Ideal S8192x2048 .bf16 := m ((c : Thread nD τ).loc main_arg1)

theorem idx : ∀ t : Fin cfg0.N, win0_0.index t = ![t.val % 8, t.val / 16] ∧ win0_1.index t = ![t.val % 8, t.val / 8 % 2] ∧ win0_2.index t = ![t.val / 16, t.val / 8 % 2] ∧ t.val < 128 :=
  (by decide +kernel : ∀ t : Fin grid0.N, _)

theorem a_at (c : Dev nD) (t : Fin cfg0.N) (r : Fin 1024) (i : Fin 1024) :
    (show FVec Ideal S1024x1024 .f32 from iblk m c 0 t) (ix2 r i) = argA m c (ix2 ⟨t.val % 8 * 1024 + r.val, by have := (idx t).2.2.2; omega⟩ ⟨t.val / 16 * 1024 + i.val, by have := (idx t).2.2.2; omega⟩) := by
  blk_ext [iblk, V, idx t]

theorem b_at (c : Dev nD) (t : Fin cfg0.N) (r : Fin 1024) (j : Fin 1024) :
    (show FVec Ideal S1024x1024 .bf16 from iblk m c 1 t) (ix2 r j) = argB m c (ix2 ⟨t.val % 8 * 1024 + r.val, by have := (idx t).2.2.2; omega⟩ ⟨t.val / 8 % 2 * 1024 + j.val, by have := (idx t).2.2.2; omega⟩) := by
  blk_ext [iblk, V, idx t]

/-- One step's part of a block of the sum. -/
def part (c : Dev nD) (t : Fin cfg0.N) (y : S1024x1024.Idx) : EReal :=
  ∑ r : Fin 1024, term (argA m c (ix2 ⟨t.val % 8 * 1024 + r.val, by have := (idx t).2.2.2; omega⟩ ⟨t.val / 16 * 1024 + (y 0).val, by have := (idx t).2.2.2; have : (y 0).val < 1024 := (y 0).isLt; omega⟩))
    (argB m c (ix2 ⟨t.val % 8 * 1024 + r.val, by have := (idx t).2.2.2; omega⟩ ⟨t.val / 8 % 2 * 1024 + (y 1).val, by have := (idx t).2.2.2; have : (y 1).val < 1024 := (y 1).isLt; omega⟩))

theorem step (c : Dev nD) (t : Fin cfg0.N) (acc : FVec Ideal S1024x1024 .f32) (y : S1024x1024.Idx) :
    k0_pay2 (iblk m c 0 t) acc (iblk m c 1 t) y = acc y + part m c t y := by
  idx_vars y
  rw [pay2_at]
  unfold part
  exact congrArg _ (Finset.sum_congr rfl fun r _ => congrArg₂ term (a_at m c t r y0) (b_at m c t r y1))

theorem first (c : Dev nD) (t : Fin cfg0.N) (h : t.val % 8 = 0) (y : S1024x1024.Idx) : (outsAt0 m c t.val t.isLt).2 y = 0 + part m c t y := by
  rw [outsAt0_A m c t h (by omega)]
  frame_out
  rw [step]
  idx_vars y
  rw [pay1_at]

theorem later (c : Dev nD) (t : Fin cfg0.N) (h : ¬ t.val % 8 = 0) (y : S1024x1024.Idx) :
    (outsAt0 m c t.val t.isLt).2 y = (outsAt0 m c (t.val - 1) (Nat.lt_of_le_of_lt (Nat.sub_le _ _) t.isLt)).2 y + part m c t y := by
  by_cases h1 : t.val % 8 = 7
  · rw [outsAt0_C m c t h h1]
    frame_out
    rw [step, read_unread_whole]
  · rw [outsAt0_B m c t h h1]
    frame_out
    rw [step, read_unread_whole]

theorem last (c : Dev nD) (t : Fin cfg0.N) (h : t.val % 8 = 7) (y : S1024x1024.Idx) :
    (outsAt0 m c t.val t.isLt).1 y = k0_pay3 (outsAt0 m c t.val t.isLt).2 y := by
  rw [outsAt0_C m c t (by omega) h]
  frame_out

/-- The parts of a block make up the whole entry. -/
theorem parts (c : Dev nD) (t : Fin cfg0.N) (z : S8192x2048.Idx) (i : Fin 1024) (j : Fin 1024) (h0 : (z 0).val = t.val / 16 * 1024 + i.val) (h1 : (z 1).val = t.val / 8 % 2 * 1024 + j.val) :
    ∑ s : Fin 8, part m c ⟨8 * (t.val / 8) + s.val, by have := (idx t).2.2.2; show _ < 128; omega⟩ (ix2 i j) = Out (argA m c) (argB m c) z := by
  unfold part Out
  refine Fin.sum_mul_add_congr fun s r hr => ?_
  have hs : (8 * (t.val / 8) + s.val) % 8 = s.val := by omega
  refine congrArg₂ term (congrArg (argA m c) (congrArg₂ ix2 (Fin.ext ?_) (Fin.ext ?_))) (congrArg (argB m c) (congrArg₂ ix2 (Fin.ext ?_) (Fin.ext ?_)))
  · show (8 * (t.val / 8) + s.val) % 8 * 1024 + r.val = _
    rw [hs]
  · show (8 * (t.val / 8) + s.val) / 16 * 1024 + i.val = _
    rw [h0]
    omega
  · show (8 * (t.val / 8) + s.val) % 8 * 1024 + r.val = _
    rw [hs]
  · show (8 * (t.val / 8) + s.val) / 8 % 2 * 1024 + j.val = _
    rw [h1]
    omega

theorem final (c : Dev nD) : (dats m 0 c).arrAt 2 (cfgs 0).N = Out (argA m c) (argB m c) := by
  refine (dats m 0 c).arrAt_eq_of_covers 2 _ (by decide +kernel) fun t hf y => ?_
  blk_simp
  have hl : t.val % 8 = 7 := (flush0_2 t).mp hf
  rw [after0_2, last m c t hl]
  idx_vars y
  rw [pay3_at, Pipeline.eq_sum_fin_of_reset_step_apply_of_flush (fun n h => (outsAt0 m c n h).2) 8 (fun _ => 0) (fun t j => part m c t j)
    (fun t h j => first m c t h j) (fun t h j => later m c t h j) t hl, zero_add]
  refine parts m c t _ y0 y1 ?_ ?_ <;> (blk_simp [idx t] <;> try omega)

end Cert.Dw2Value

end
-- ==== Proof.Dw2Ref.lean ====
module

public import proofs.«01_k».proof.Proof.Gen.Reference3Ideal.Run
public import proofs.«01_k».proof.Proof.Dw2Value

@[expose] public section

set_option maxRecDepth 16384

noncomputable section

namespace Cert.Dw2Value.Ref

open Idealize.ShloMosaic Idealize.ShloMosaic.TcCoe
open Cert.Reference3Ideal Cert.Reference3Ideal.Gen

/-- The reference's gradient of the second matrix, entry by entry. -/
theorem ref_eq (a : FVec Ideal S8192x8192 .f32) (b : FVec Ideal S8192x2048 .bf16) :
    truncf .bf16 (transpose S8192x2048 [1, 0] (Host.dotGeneral dot_S8192x2048_S8192x8192_S2048x8192_0_0_1_1_n_n none (extf .f32 b bitsLt_bf16_f32) (mulf (maximumf a (broadcastInDim S8192x8192 ![] bcast_S_S8192x8192 (constant S_ .f32 0x00000000#32))) (maximumf a (broadcastInDim S8192x8192 ![] bcast_S_S8192x8192 (constant S_ .f32 0x00000000#32))))) transposes_S2048x8192_S8192x2048_1_0) bitsLt_bf16_f32
      = Out a b := by
  funext y
  idx_vars y
  unfold Out term
  refine Eq.trans ?_ (Finset.sum_congr rfl fun r _ => mul_comm (show EReal from b (ix2 r y1)) (max (show EReal from a (ix2 r y0)) 0 * max (show EReal from a (ix2 r y0)) 0))
  pointwise

end Cert.Dw2Value.Ref

end
-- ==== Proof.Dw1Value.lean ====
module

public import proofs.«01_k».proof.Proof.Gen.Kernel4Ideal.Value
public import Idealize.ShloMosaic.Lib.Pipeline.ValueKit
public import Idealize.ShloMosaic.Lib.Pipeline.ReadBack

@[expose] public section

set_option maxRecDepth 16384

noncomputable section

namespace Cert.Dw1Value

open Idealize.ShloMosaic Idealize.ShloMosaic.TcCoe Idealize.SL.Sem
open Idealize.ShloMosaic.Pipeline (Dat)
open Cert.Kernel4Ideal Cert.Kernel4Ideal.Gen

/-- One summand: the product of the two operands. -/
def term (a g : EReal) : EReal := a * g

/-- The gradient of the first matrix, entry by entry. -/
def Out (A : FVec Ideal S8192x2048 .bf16) (B : FVec Ideal S8192x8192 .bf16) : FVec Ideal S2048x8192 .bf16 :=
  fun i => ∑ r : Fin 8192, term (A (ix2 r (i 0))) (B (ix2 r (i 1)))

theorem pay1_at (i : Fin 1024) (j : Fin 1024) : k0_pay1 (F := Ideal) (ix2 i j) = 0 := by
  pointwise [k0_pay1]

theorem pay2_at (a : FVec Ideal S1024x1024 .bf16) (acc : FVec Ideal S1024x1024 .f32) (g : FVec Ideal S1024x1024 .bf16) (i : Fin 1024) (j : Fin 1024) :
    k0_pay2 a acc g (ix2 i j) = acc (ix2 i j) + ∑ r : Fin 1024, term (a (ix2 r i)) (g (ix2 r j)) := by
  unfold term
  pointwise [k0_pay2]

theorem pay3_at (a : FVec Ideal S1024x1024 .f32) (i : Fin 1024) (j : Fin 1024) :
    k0_pay3 (F := Ideal) a (ix2 i j) = (show EReal from a (ix2 i j)) := by
  pointwise [k0_pay3]

variable (m : (ℓ : Loc nD τ sig) → Buf (Elt Ideal) ℓ)

/-- The layer's input, as launched. -/
abbrev argA (c : Dev nD) : FVec Ideal S8192x2048 .bf16 := m ((c : Thread nD τ).loc main_arg0)
/-- The cotangent of the hidden values, as launched. -/
abbrev argB (c : Dev nD) : FVec Ideal S8192x8192 .bf16 := m ((c : Thread nD τ).loc main_arg1)

theorem idx : ∀ t : Fin cfg0.N, win0_0.index t = ![t.val % 8, t.val / 64] ∧ win0_1.index t = ![t.val % 8, t.val / 8 % 8] ∧ win0_2.index t = ![t.val / 64, t.val / 8 % 8] ∧ t.val < 128 :=
  (by decide +kernel : ∀ t : Fin grid0.N, _)

theorem a_at (c : Dev nD) (t : Fin cfg0.N) (r : Fin 1024) (i : Fin 1024) :
    (show FVec Ideal S1024x1024 .bf16 from iblk m c 0 t) (ix2 r i) = argA m c (ix2 ⟨t.val % 8 * 1024 + r.val, by have := (idx t).2.2.2; omega⟩ ⟨t.val / 64 * 1024 + i.val, by have := (idx t).2.2.2; omega⟩) := by
  blk_ext [iblk, V, idx t]

theorem b_at (c : Dev nD) (t : Fin cfg0.N) (r : Fin 1024) (j : Fin 1024) :
    (show FVec Ideal S1024x1024 .bf16 from iblk m c 1 t) (ix2 r j) = argB m c (ix2 ⟨t.val % 8 * 1024 + r.val, by have := (idx t).2.2.2; omega⟩ ⟨t.val / 8 % 8 * 1024 + j.val, by have := (idx t).2.2.2; omega⟩) := by
  blk_ext [iblk, V, idx t]

/-- One step's part of a block of the sum. -/
def part (c : Dev nD) (t : Fin cfg0.N) (y : S1024x1024.Idx) : EReal :=
  ∑ r : Fin 1024, term (argA m c (ix2 ⟨t.val % 8 * 1024 + r.val, by have := (idx t).2.2.2; omega⟩ ⟨t.val / 64 * 1024 + (y 0).val, by have := (idx t).2.2.2; have : (y 0).val < 1024 := (y 0).isLt; omega⟩))
    (argB m c (ix2 ⟨t.val % 8 * 1024 + r.val, by have := (idx t).2.2.2; omega⟩ ⟨t.val / 8 % 8 * 1024 + (y 1).val, by have := (idx t).2.2.2; have : (y 1).val < 1024 := (y 1).isLt; omega⟩))

theorem step (c : Dev nD) (t : Fin cfg0.N) (acc : FVec Ideal S1024x1024 .f32) (y : S1024x1024.Idx) :
    k0_pay2 (iblk m c 0 t) acc (iblk m c 1 t) y = acc y + part m c t y := by
  idx_vars y
  rw [pay2_at]
  unfold part
  exact congrArg _ (Finset.sum_congr rfl fun r _ => congrArg₂ term (a_at m c t r y0) (b_at m c t r y1))

theorem first (c : Dev nD) (t : Fin cfg0.N) (h : t.val % 8 = 0) (y : S1024x1024.Idx) : (outsAt0 m c t.val t.isLt).2 y = 0 + part m c t y := by
  rw [outsAt0_A m c t h (by omega)]
  frame_out
  rw [step]
  idx_vars y
  rw [pay1_at]

theorem later (c : Dev nD) (t : Fin cfg0.N) (h : ¬ t.val % 8 = 0) (y : S1024x1024.Idx) :
    (outsAt0 m c t.val t.isLt).2 y = (outsAt0 m c (t.val - 1) (Nat.lt_of_le_of_lt (Nat.sub_le _ _) t.isLt)).2 y + part m c t y := by
  by_cases h1 : t.val % 8 = 7
  · rw [outsAt0_C m c t h h1]
    frame_out
    rw [step, read_unread_whole]
  · rw [outsAt0_B m c t h h1]
    frame_out
    rw [step, read_unread_whole]

theorem last (c : Dev nD) (t : Fin cfg0.N) (h : t.val % 8 = 7) (y : S1024x1024.Idx) :
    (outsAt0 m c t.val t.isLt).1 y = k0_pay3 (outsAt0 m c t.val t.isLt).2 y := by
  rw [outsAt0_C m c t (by omega) h]
  frame_out

/-- The parts of a block make up the whole entry. -/
theorem parts (c : Dev nD) (t : Fin cfg0.N) (z : S2048x8192.Idx) (i : Fin 1024) (j : Fin 1024) (h0 : (z 0).val = t.val / 64 * 1024 + i.val) (h1 : (z 1).val = t.val / 8 % 8 * 1024 + j.val) :
    ∑ s : Fin 8, part m c ⟨8 * (t.val / 8) + s.val, by have := (idx t).2.2.2; show _ < 128; omega⟩ (ix2 i j) = Out (argA m c) (argB m c) z := by
  unfold part Out
  refine Fin.sum_mul_add_congr fun s r hr => ?_
  have hs : (8 * (t.val / 8) + s.val) % 8 = s.val := by omega
  refine congrArg₂ term (congrArg (argA m c) (congrArg₂ ix2 (Fin.ext ?_) (Fin.ext ?_))) (congrArg (argB m c) (congrArg₂ ix2 (Fin.ext ?_) (Fin.ext ?_)))
  · show (8 * (t.val / 8) + s.val) % 8 * 1024 + r.val = _
    rw [hs]
  · show (8 * (t.val / 8) + s.val) / 64 * 1024 + i.val = _
    rw [h0]
    omega
  · show (8 * (t.val / 8) + s.val) % 8 * 1024 + r.val = _
    rw [hs]
  · show (8 * (t.val / 8) + s.val) / 8 % 8 * 1024 + j.val = _
    rw [h1]
    omega

theorem final (c : Dev nD) : (dats m 0 c).arrAt 2 (cfgs 0).N = Out (argA m c) (argB m c) := by
  refine (dats m 0 c).arrAt_eq_of_covers 2 _ (by decide +kernel) fun t hf y => ?_
  blk_simp
  have hl : t.val % 8 = 7 := (flush0_2 t).mp hf
  rw [after0_2, last m c t hl]
  idx_vars y
  rw [pay3_at, Pipeline.eq_sum_fin_of_reset_step_apply_of_flush (fun n h => (outsAt0 m c n h).2) 8 (fun _ => 0) (fun t j => part m c t j)
    (fun t h j => first m c t h j) (fun t h j => later m c t h j) t hl, zero_add]
  refine parts m c t _ y0 y1 ?_ ?_ <;> (blk_simp [idx t] <;> try omega)

end Cert.Dw1Value

end
-- ==== Proof.Dw1Ref.lean ====
module

public import proofs.«01_k».proof.Proof.Gen.Reference4Ideal.Run
public import proofs.«01_k».proof.Proof.Dw1Value

@[expose] public section

set_option maxRecDepth 16384

noncomputable section

namespace Cert.Dw1Value.Ref

open Idealize.ShloMosaic Idealize.ShloMosaic.TcCoe
open Cert.Reference4Ideal Cert.Reference4Ideal.Gen

/-- The reference's gradient of the first matrix, entry by entry. -/
theorem ref_eq (a : FVec Ideal S8192x2048 .bf16) (b : FVec Ideal S8192x8192 .bf16) :
    truncf .bf16 (transpose S2048x8192 [1, 0] (Host.dotGeneral dot_S8192x8192_S8192x2048_S8192x2048_0_0_1_1_n_n none (extf .f32 b bitsLt_bf16_f32) (extf .f32 a bitsLt_bf16_f32)) transposes_S8192x2048_S2048x8192_1_0) bitsLt_bf16_f32
      = Out a b := by
  funext y
  idx_vars y
  unfold Out term
  refine Eq.trans ?_ (Finset.sum_congr rfl fun r _ => mul_comm (show EReal from b (ix2 r y1)) ((show EReal from a (ix2 r y0))))
  pointwise

end Cert.Dw1Value.Ref

end
-- ==== Proof.Dx1Value.lean ====
module

public import proofs.«01_k».proof.Proof.Gen.Kernel5Ideal.Value
public import Idealize.ShloMosaic.Lib.Pipeline.ValueKit
public import Idealize.ShloMosaic.Lib.Pipeline.ReadBack

@[expose] public section

set_option maxRecDepth 16384

noncomputable section

namespace Cert.Dx1Value

open Idealize.ShloMosaic Idealize.ShloMosaic.TcCoe Idealize.SL.Sem
open Idealize.ShloMosaic.Pipeline (Dat)
open Cert.Kernel5Ideal Cert.Kernel5Ideal.Gen

/-- One summand: the product of the two operands. -/
def term (a g : EReal) : EReal := a * g

/-- The scale of the residual branch. -/
def alpha : EReal := Ideal.ofBits .f32 0x3FD744FD#32

/-- The cotangent of the layer's input, entry by entry. -/
def Out (A : FVec Ideal S8192x8192 .bf16) (B : FVec Ideal S2048x8192 .bf16) (E : FVec Ideal S8192x2048 .f32) : FVec Ideal S8192x2048 .f32 :=
  fun i => (∑ r : Fin 8192, term (A (ix2 (i 0) r)) (B (ix2 (i 1) r))) + alpha * E (ix2 (i 0) (i 1))

theorem pay1_at (i : Fin 1024) (j : Fin 1024) : k0_pay1 (F := Ideal) (ix2 i j) = 0 := by
  pointwise [k0_pay1]

theorem pay2_at (a : FVec Ideal S1024x1024 .bf16) (acc : FVec Ideal S1024x1024 .f32) (g : FVec Ideal S1024x1024 .bf16) (i : Fin 1024) (j : Fin 1024) :
    k0_pay2 a acc g (ix2 i j) = acc (ix2 i j) + ∑ r : Fin 1024, term (a (ix2 i r)) (g (ix2 j r)) := by
  unfold term
  pointwise [k0_pay2]

theorem pay3_at (a e : FVec Ideal S1024x1024 .f32) (i : Fin 1024) (j : Fin 1024) :
    k0_pay3 (F := Ideal) a e (ix2 i j) = ((show EReal from a (ix2 i j))) + alpha * (show EReal from e (ix2 i j)) := by
  unfold alpha
  pointwise [k0_pay3]

variable (m : (ℓ : Loc nD τ sig) → Buf (Elt Ideal) ℓ)

/-- The cotangent of the hidden values, as launched. -/
abbrev argA (c : Dev nD) : FVec Ideal S8192x8192 .bf16 := m ((c : Thread nD τ).loc main_arg0)
/-- The first matrix, as launched. -/
abbrev argB (c : Dev nD) : FVec Ideal S2048x8192 .bf16 := m ((c : Thread nD τ).loc main_arg1)
/-- The cotangent of the residual sum, as launched. -/
abbrev argE (c : Dev nD) : FVec Ideal S8192x2048 .f32 := m ((c : Thread nD τ).loc main_arg2)

theorem idx : ∀ t : Fin cfg0.N, win0_0.index t = ![t.val / 16, t.val % 8] ∧ win0_1.index t = ![t.val / 8 % 2, t.val % 8] ∧ win0_2.index t = ![t.val / 16, t.val / 8 % 2] ∧ win0_3.index t = ![t.val / 16, t.val / 8 % 2] ∧ t.val < 128 :=
  (by decide +kernel : ∀ t : Fin grid0.N, _)

theorem a_at (c : Dev nD) (t : Fin cfg0.N) (r : Fin 1024) (i : Fin 1024) :
    (show FVec Ideal S1024x1024 .bf16 from iblk m c 0 t) (ix2 i r) = argA m c (ix2 ⟨t.val / 16 * 1024 + i.val, by have := (idx t).2.2.2.2; omega⟩ ⟨t.val % 8 * 1024 + r.val, by have := (idx t).2.2.2.2; omega⟩) := by
  blk_ext [iblk, V, idx t]

theorem b_at (c : Dev nD) (t : Fin cfg0.N) (r : Fin 1024) (j : Fin 1024) :
    (show FVec Ideal S1024x1024 .bf16 from iblk m c 1 t) (ix2 j r) = argB m c (ix2 ⟨t.val / 8 % 2 * 1024 + j.val, by have := (idx t).2.2.2.2; omega⟩ ⟨t.val % 8 * 1024 + r.val, by have := (idx t).2.2.2.2; omega⟩) := by
  blk_ext [iblk, V, idx t]

theorem e_at (c : Dev nD) (t : Fin cfg0.N) (i : Fin 1024) (j : Fin 1024) :
    (show FVec Ideal S1024x1024 .f32 from iblk m c 2 t) (ix2 i j) = argE m c (ix2 ⟨t.val / 16 * 1024 + i.val, by have := (idx t).2.2.2.2; omega⟩ ⟨t.val / 8 % 2 * 1024 + j.val, by have := (idx t).2.2.2.2; omega⟩) := by
  blk_ext [iblk, V, idx t]

/-- One step's part of a block of the sum. -/
def part (c : Dev nD) (t : Fin cfg0.N) (y : S1024x1024.Idx) : EReal :=
  ∑ r : Fin 1024, term (argA m c (ix2 ⟨t.val / 16 * 1024 + (y 0).val, by have := (idx t).2.2.2.2; have : (y 0).val < 1024 := (y 0).isLt; omega⟩ ⟨t.val % 8 * 1024 + r.val, by have := (idx t).2.2.2.2; omega⟩))
    (argB m c (ix2 ⟨t.val / 8 % 2 * 1024 + (y 1).val, by have := (idx t).2.2.2.2; have : (y 1).val < 1024 := (y 1).isLt; omega⟩ ⟨t.val % 8 * 1024 + r.val, by have := (idx t).2.2.2.2; omega⟩))

theorem step (c : Dev nD) (t : Fin cfg0.N) (acc : FVec Ideal S1024x1024 .f32) (y : S1024x1024.Idx) :
    k0_pay2 (iblk m c 0 t) acc (iblk m c 1 t) y = acc y + part m c t y := by
  idx_vars y
  rw [pay2_at]
  unfold part
  exact congrArg _ (Finset.sum_congr rfl fun r _ => congrArg₂ term (a_at m c t r y0) (b_at m c t r y1))

theorem first (c : Dev nD) (t : Fin cfg0.N) (h : t.val % 8 = 0) (y : S1024x1024.Idx) : (outsAt0 m c t.val t.isLt).2 y = 0 + part m c t y := by
  rw [outsAt0_A m c t h (by omega)]
  frame_out
  rw [step]
  idx_vars y
  rw [pay1_at]

theorem later (c : Dev nD) (t : Fin cfg0.N) (h : ¬ t.val % 8 = 0) (y : S1024x1024.Idx) :
    (outsAt0 m c t.val t.isLt).2 y = (outsAt0 m c (t.val - 1) (Nat.lt_of_le_of_lt (Nat.sub_le _ _) t.isLt)).2 y + part m c t y := by
  by_cases h1 : t.val % 8 = 7
  · rw [outsAt0_C m c t h h1]
    frame_out
    rw [step, read_unread_whole]
  · rw [outsAt0_B m c t h h1]
    frame_out
    rw [step, read_unread_whole]

theorem last (c : Dev nD) (t : Fin cfg0.N) (h : t.val % 8 = 7) (y : S1024x1024.Idx) :
    (outsAt0 m c t.val t.isLt).1 y = k0_pay3 (outsAt0 m c t.val t.isLt).2 (iblk m c 2 t) y := by
  rw [outsAt0_C m c t (by omega) h]
  frame_out

/-- The parts of a block make up the whole entry. -/
theorem parts (c : Dev nD) (t : Fin cfg0.N) (z : S8192x2048.Idx) (i : Fin 1024) (j : Fin 1024) (h0 : (z 0).val = t.val / 16 * 1024 + i.val) (h1 : (z 1).val = t.val / 8 % 2 * 1024 + j.val) :
    (∑ s : Fin 8, part m c ⟨8 * (t.val / 8) + s.val, by have := (idx t).2.2.2.2; show _ < 128; omega⟩ (ix2 i j)) + alpha * (show FVec Ideal S1024x1024 .f32 from iblk m c 2 t) (ix2 i j) = Out (argA m c) (argB m c) (argE m c) z := by
  rw [e_at]
  unfold part Out
  refine congrArg₂ (fun p q : EReal => p + alpha * q) (Fin.sum_mul_add_congr fun s r hr => ?_) (congrArg (argE m c) (congrArg₂ ix2 (Fin.ext h0.symm) (Fin.ext h1.symm)))
  have hs : (8 * (t.val / 8) + s.val) % 8 = s.val := by omega
  refine congrArg₂ term (congrArg (argA m c) (congrArg₂ ix2 (Fin.ext ?_) (Fin.ext ?_))) (congrArg (argB m c) (congrArg₂ ix2 (Fin.ext ?_) (Fin.ext ?_)))
  · show (8 * (t.val / 8) + s.val) / 16 * 1024 + i.val = _
    rw [h0]
    omega
  · show (8 * (t.val / 8) + s.val) % 8 * 1024 + r.val = _
    rw [hs]
  · show (8 * (t.val / 8) + s.val) / 8 % 2 * 1024 + j.val = _
    rw [h1]
    omega
  · show (8 * (t.val / 8) + s.val) % 8 * 1024 + r.val = _
    rw [hs]

theorem final (c : Dev nD) : (dats m 0 c).arrAt 3 (cfgs 0).N = Out (argA m c) (argB m c) (argE m c) := by
  refine (dats m 0 c).arrAt_eq_of_covers 3 _ (by decide +kernel) fun t hf y => ?_
  blk_simp
  have hl : t.val % 8 = 7 := (flush0_3 t).mp hf
  rw [after0_3, last m c t hl]
  idx_vars y
  rw [pay3_at, Pipeline.eq_sum_fin_of_reset_step_apply_of_flush (fun n h => (outsAt0 m c n h).2) 8 (fun _ => 0) (fun t j => part m c t j)
    (fun t h j => first m c t h j) (fun t h j => later m c t h j) t hl, zero_add]
  refine parts m c t _ y0 y1 ?_ ?_ <;> (blk_simp [idx t] <;> try omega)

end Cert.Dx1Value

end
-- ==== Proof.Dx1Ref.lean ====
module

public import proofs.«01_k».proof.Proof.Gen.Reference5Ideal.Run
public import proofs.«01_k».proof.Proof.Dx1Value

@[expose] public section

set_option maxRecDepth 16384

noncomputable section

namespace Cert.Dx1Value.Ref

open Idealize.ShloMosaic Idealize.ShloMosaic.TcCoe
open Cert.Reference5Ideal Cert.Reference5Ideal.Gen

/-- The reference's cotangent of the layer's input, entry by entry. -/
theorem ref_eq (a : FVec Ideal S8192x8192 .bf16) (b : FVec Ideal S2048x8192 .bf16) (e : FVec Ideal S8192x2048 .f32) :
    addf (Host.dotGeneral dot_S8192x8192_S2048x8192_S8192x2048_1_1_0_0_n_n none (extf .f32 a bitsLt_bf16_f32) (extf .f32 b bitsLt_bf16_f32)) (mulf (broadcastInDim S8192x2048 ![] bcast_S_S8192x2048 (constant S_ .f32 0x3FD744FD#32)) e)
      = Out a b e := by
  funext y
  idx_vars y
  unfold Out term
  unfold alpha
  pointwise

end Cert.Dx1Value.Ref

end
-- ==== Proof.DWoutValue.lean ====
module

public import proofs.«01_k».proof.Proof.Gen.Kernel6Ideal.Value
public import Idealize.ShloMosaic.Lib.Pipeline.ValueKit
public import Idealize.ShloMosaic.Lib.Pipeline.ReadBack

@[expose] public section

set_option maxRecDepth 16384

noncomputable section

namespace Cert.DWoutValue

open Idealize.ShloMosaic Idealize.ShloMosaic.TcCoe Idealize.SL.Sem
open Idealize.ShloMosaic.Pipeline (Dat)
open Cert.Kernel6Ideal Cert.Kernel6Ideal.Gen

/-- One summand: the product of the two operands. -/
def term (a g : EReal) : EReal := a * g

/-- The gradient of the output projection's matrix, entry by entry. -/
def Out (A : FVec Ideal S8192x2048 .bf16) (B : FVec Ideal S8192x2048 .bf16) : FVec Ideal S2048x2048 .bf16 :=
  fun i => ∑ r : Fin 8192, term (A (ix2 r (i 0))) (B (ix2 r (i 1)))

theorem pay1_at (i : Fin 1024) (j : Fin 1024) : k0_pay1 (F := Ideal) (ix2 i j) = 0 := by
  pointwise [k0_pay1]

theorem pay2_at (a : FVec Ideal S1024x1024 .bf16) (acc : FVec Ideal S1024x1024 .f32) (g : FVec Ideal S1024x1024 .bf16) (i : Fin 1024) (j : Fin 1024) :
    k0_pay2 a acc g (ix2 i j) = acc (ix2 i j) + ∑ r : Fin 1024, term (a (ix2 r i)) (g (ix2 r j)) := by
  unfold term
  pointwise [k0_pay2]

theorem pay3_at (a : FVec Ideal S1024x1024 .f32) (i : Fin 1024) (j : Fin 1024) :
    k0_pay3 (F := Ideal) a (ix2 i j) = (show EReal from a (ix2 i j)) := by
  pointwise [k0_pay3]

variable (m : (ℓ : Loc nD τ sig) → Buf (Elt Ideal) ℓ)

/-- The mixed heads, as launched. -/
abbrev argA (c : Dev nD) : FVec Ideal S8192x2048 .bf16 := m ((c : Thread nD τ).loc main_arg0)
/-- The cotangent of the projection, as launched. -/
abbrev argB (c : Dev nD) : FVec Ideal S8192x2048 .bf16 := m ((c : Thread nD τ).loc main_arg1)

theorem idx : ∀ t : Fin cfg0.N, win0_0.index t = ![t.val % 8, t.val / 16] ∧ win0_1.index t = ![t.val % 8, t.val / 8 % 2] ∧ win0_2.index t = ![t.val / 16, t.val / 8 % 2] ∧ t.val < 32 :=
  (by decide +kernel : ∀ t : Fin grid0.N, _)

theorem a_at (c : Dev nD) (t : Fin cfg0.N) (r : Fin 1024) (i : Fin 1024) :
    (show FVec Ideal S1024x1024 .bf16 from iblk m c 0 t) (ix2 r i) = argA m c (ix2 ⟨t.val % 8 * 1024 + r.val, by have := (idx t).2.2.2; omega⟩ ⟨t.val / 16 * 1024 + i.val, by have := (idx t).2.2.2; omega⟩) := by
  blk_ext [iblk, V, idx t]

theorem b_at (c : Dev nD) (t : Fin cfg0.N) (r : Fin 1024) (j : Fin 1024) :
    (show FVec Ideal S1024x1024 .bf16 from iblk m c 1 t) (ix2 r j) = argB m c (ix2 ⟨t.val % 8 * 1024 + r.val, by have := (idx t).2.2.2; omega⟩ ⟨t.val / 8 % 2 * 1024 + j.val, by have := (idx t).2.2.2; omega⟩) := by
  blk_ext [iblk, V, idx t]

/-- One step's part of a block of the sum. -/
def part (c : Dev nD) (t : Fin cfg0.N) (y : S1024x1024.Idx) : EReal :=
  ∑ r : Fin 1024, term (argA m c (ix2 ⟨t.val % 8 * 1024 + r.val, by have := (idx t).2.2.2; omega⟩ ⟨t.val / 16 * 1024 + (y 0).val, by have := (idx t).2.2.2; have : (y 0).val < 1024 := (y 0).isLt; omega⟩))
    (argB m c (ix2 ⟨t.val % 8 * 1024 + r.val, by have := (idx t).2.2.2; omega⟩ ⟨t.val / 8 % 2 * 1024 + (y 1).val, by have := (idx t).2.2.2; have : (y 1).val < 1024 := (y 1).isLt; omega⟩))

theorem step (c : Dev nD) (t : Fin cfg0.N) (acc : FVec Ideal S1024x1024 .f32) (y : S1024x1024.Idx) :
    k0_pay2 (iblk m c 0 t) acc (iblk m c 1 t) y = acc y + part m c t y := by
  idx_vars y
  rw [pay2_at]
  unfold part
  exact congrArg _ (Finset.sum_congr rfl fun r _ => congrArg₂ term (a_at m c t r y0) (b_at m c t r y1))

theorem first (c : Dev nD) (t : Fin cfg0.N) (h : t.val % 8 = 0) (y : S1024x1024.Idx) : (outsAt0 m c t.val t.isLt).2 y = 0 + part m c t y := by
  rw [outsAt0_A m c t h (by omega)]
  frame_out
  rw [step]
  idx_vars y
  rw [pay1_at]

theorem later (c : Dev nD) (t : Fin cfg0.N) (h : ¬ t.val % 8 = 0) (y : S1024x1024.Idx) :
    (outsAt0 m c t.val t.isLt).2 y = (outsAt0 m c (t.val - 1) (Nat.lt_of_le_of_lt (Nat.sub_le _ _) t.isLt)).2 y + part m c t y := by
  by_cases h1 : t.val % 8 = 7
  · rw [outsAt0_C m c t h h1]
    frame_out
    rw [step, read_unread_whole]
  · rw [outsAt0_B m c t h h1]
    frame_out
    rw [step, read_unread_whole]

theorem last (c : Dev nD) (t : Fin cfg0.N) (h : t.val % 8 = 7) (y : S1024x1024.Idx) :
    (outsAt0 m c t.val t.isLt).1 y = k0_pay3 (outsAt0 m c t.val t.isLt).2 y := by
  rw [outsAt0_C m c t (by omega) h]
  frame_out

/-- The parts of a block make up the whole entry. -/
theorem parts (c : Dev nD) (t : Fin cfg0.N) (z : S2048x2048.Idx) (i : Fin 1024) (j : Fin 1024) (h0 : (z 0).val = t.val / 16 * 1024 + i.val) (h1 : (z 1).val = t.val / 8 % 2 * 1024 + j.val) :
    ∑ s : Fin 8, part m c ⟨8 * (t.val / 8) + s.val, by have := (idx t).2.2.2; show _ < 32; omega⟩ (ix2 i j) = Out (argA m c) (argB m c) z := by
  unfold part Out
  refine Fin.sum_mul_add_congr fun s r hr => ?_
  have hs : (8 * (t.val / 8) + s.val) % 8 = s.val := by omega
  refine congrArg₂ term (congrArg (argA m c) (congrArg₂ ix2 (Fin.ext ?_) (Fin.ext ?_))) (congrArg (argB m c) (congrArg₂ ix2 (Fin.ext ?_) (Fin.ext ?_)))
  · show (8 * (t.val / 8) + s.val) % 8 * 1024 + r.val = _
    rw [hs]
  · show (8 * (t.val / 8) + s.val) / 16 * 1024 + i.val = _
    rw [h0]
    omega
  · show (8 * (t.val / 8) + s.val) % 8 * 1024 + r.val = _
    rw [hs]
  · show (8 * (t.val / 8) + s.val) / 8 % 2 * 1024 + j.val = _
    rw [h1]
    omega

theorem final (c : Dev nD) : (dats m 0 c).arrAt 2 (cfgs 0).N = Out (argA m c) (argB m c) := by
  refine (dats m 0 c).arrAt_eq_of_covers 2 _ (by decide +kernel) fun t hf y => ?_
  blk_simp
  have hl : t.val % 8 = 7 := (flush0_2 t).mp hf
  rw [after0_2, last m c t hl]
  idx_vars y
  rw [pay3_at, Pipeline.eq_sum_fin_of_reset_step_apply_of_flush (fun n h => (outsAt0 m c n h).2) 8 (fun _ => 0) (fun t j => part m c t j)
    (fun t h j => first m c t h j) (fun t h j => later m c t h j) t hl, zero_add]
  refine parts m c t _ y0 y1 ?_ ?_ <;> (blk_simp [idx t] <;> try omega)

end Cert.DWoutValue

end
-- ==== Proof.DWoutRef.lean ====
module

public import proofs.«01_k».proof.Proof.Gen.Reference6Ideal.Run
public import proofs.«01_k».proof.Proof.DWoutValue

@[expose] public section

set_option maxRecDepth 16384

noncomputable section

namespace Cert.DWoutValue.Ref

open Idealize.ShloMosaic Idealize.ShloMosaic.TcCoe
open Cert.Reference6Ideal Cert.Reference6Ideal.Gen

/-- The reference's gradient of the output projection's matrix, entry by entry. -/
theorem ref_eq (a : FVec Ideal S8192x2048 .bf16) (b : FVec Ideal S8192x2048 .bf16) :
    truncf .bf16 (transpose S2048x2048 [1, 0] (Host.dotGeneral dot_S8192x2048_S8192x2048_S2048x2048_0_0_1_1_n_n none (extf .f32 b bitsLt_bf16_f32) (extf .f32 a bitsLt_bf16_f32)) transposes_S2048x2048_S2048x2048_1_0) bitsLt_bf16_f32
      = Out a b := by
  funext y
  idx_vars y
  unfold Out term
  refine Eq.trans ?_ (Finset.sum_congr rfl fun r _ => mul_comm (show EReal from b (ix2 r y1)) ((show EReal from a (ix2 r y0))))
  pointwise

end Cert.DWoutValue.Ref

end
-- ==== Proof.DCatValue.lean ====
module

public import proofs.«01_k».proof.Proof.Gen.Kernel7Ideal.Value
public import Idealize.ShloMosaic.Lib.Pipeline.ValueKit
public import Idealize.ShloMosaic.Lib.Pipeline.ReadBack

@[expose] public section

set_option maxRecDepth 16384

noncomputable section

namespace Cert.DCatValue

open Idealize.ShloMosaic Idealize.ShloMosaic.TcCoe Idealize.SL.Sem
open Idealize.ShloMosaic.Pipeline (Dat)
open Cert.Kernel7Ideal Cert.Kernel7Ideal.Gen

/-- One summand: the product of the two operands. -/
def term (a g : EReal) : EReal := a * g

/-- The cotangent of the mixed heads, entry by entry. -/
def Out (A : FVec Ideal S8192x2048 .bf16) (B : FVec Ideal S2048x2048 .bf16) : FVec Ideal S8192x2048 .f32 :=
  fun i => ∑ r : Fin 2048, term (A (ix2 (i 0) r)) (B (ix2 (i 1) r))

theorem pay1_at (i : Fin 512) (j : Fin 1024) : k0_pay1 (F := Ideal) (ix2 i j) = 0 := by
  pointwise [k0_pay1]

theorem pay2_at (a : FVec Ideal S512x2048 .bf16) (acc : FVec Ideal S512x1024 .f32) (g : FVec Ideal S1024x2048 .bf16) (i : Fin 512) (j : Fin 1024) :
    k0_pay2 a acc g (ix2 i j) = acc (ix2 i j) + ∑ r : Fin 2048, term (a (ix2 i r)) (g (ix2 j r)) := by
  unfold term
  pointwise [k0_pay2]

variable (m : (ℓ : Loc nD τ sig) → Buf (Elt Ideal) ℓ)

/-- The cotangent of the projection, as launched. -/
abbrev argA (c : Dev nD) : FVec Ideal S8192x2048 .bf16 := m ((c : Thread nD τ).loc main_arg0)
/-- The output projection's matrix, as launched. -/
abbrev argB (c : Dev nD) : FVec Ideal S2048x2048 .bf16 := m ((c : Thread nD τ).loc main_arg1)

theorem idx : ∀ t : Fin cfg0.N, win0_0.index t = ![t.val / 2, 0] ∧ win0_1.index t = ![t.val % 2, 0] ∧ win0_2.index t = ![t.val / 2, t.val % 2] ∧ t.val < 32 :=
  (by decide +kernel : ∀ t : Fin grid0.N, _)

theorem a_at (c : Dev nD) (t : Fin cfg0.N) (r : Fin 2048) (i : Fin 512) :
    (show FVec Ideal S512x2048 .bf16 from iblk m c 0 t) (ix2 i r) = argA m c (ix2 ⟨t.val / 2 * 512 + i.val, by have := (idx t).2.2.2; omega⟩ r) := by
  blk_ext [iblk, V, idx t]

theorem b_at (c : Dev nD) (t : Fin cfg0.N) (r : Fin 2048) (j : Fin 1024) :
    (show FVec Ideal S1024x2048 .bf16 from iblk m c 1 t) (ix2 j r) = argB m c (ix2 ⟨t.val % 2 * 1024 + j.val, by have := (idx t).2.2.2; omega⟩ r) := by
  blk_ext [iblk, V, idx t]

/-- One step's part of a block of the sum. -/
def part (c : Dev nD) (t : Fin cfg0.N) (y : S512x1024.Idx) : EReal :=
  ∑ r : Fin 2048, term (argA m c (ix2 ⟨t.val / 2 * 512 + (y 0).val, by have := (idx t).2.2.2; have : (y 0).val < 512 := (y 0).isLt; omega⟩ r))
    (argB m c (ix2 ⟨t.val % 2 * 1024 + (y 1).val, by have := (idx t).2.2.2; have : (y 1).val < 1024 := (y 1).isLt; omega⟩ r))

theorem step (c : Dev nD) (t : Fin cfg0.N) (acc : FVec Ideal S512x1024 .f32) (y : S512x1024.Idx) :
    k0_pay2 (iblk m c 0 t) acc (iblk m c 1 t) y = acc y + part m c t y := by
  idx_vars y
  rw [pay2_at]
  unfold part
  exact congrArg _ (Finset.sum_congr rfl fun r _ => congrArg₂ term (a_at m c t r y0) (b_at m c t r y1))

/-- The parts of a block make up the whole entry. -/
theorem parts (c : Dev nD) (t : Fin cfg0.N) (z : S8192x2048.Idx) (i : Fin 512) (j : Fin 1024) (h0 : (z 0).val = t.val / 2 * 512 + i.val) (h1 : (z 1).val = t.val % 2 * 1024 + j.val) :
    part m c t (ix2 i j) = Out (argA m c) (argB m c) z := by
  unfold part Out
  refine Finset.sum_congr rfl fun r _ => ?_
  refine congrArg₂ term (congrArg (argA m c) (congrArg₂ ix2 (Fin.ext ?_) (Fin.ext ?_))) (congrArg (argB m c) (congrArg₂ ix2 (Fin.ext ?_) (Fin.ext ?_)))
  · exact h0.symm
  · rfl
  · exact h1.symm
  · rfl

theorem point (c : Dev nD) (t : Fin cfg0.N) : outsAt0 m c t = k0_pay2 (iblk m c 0 t) (k0_pay1 (F := Ideal)) (iblk m c 1 t) := by
  unfold outsAt0
  funext y
  frame_out

theorem final (c : Dev nD) : (dats m 0 c).arrAt 2 (cfgs 0).N = Out (argA m c) (argB m c) := by
  refine (dats m 0 c).arrAt_eq_of_covers 2 _ (by decide +kernel) fun t hf y => ?_
  blk_simp
  rw [after0_2, point]
  idx_vars y
  rw [step, pay1_at, zero_add]
  refine parts m c t _ y0 y1 ?_ ?_ <;> (blk_simp [idx t] <;> try omega)

end Cert.DCatValue

end
-- ==== Proof.DCatRef.lean ====
module

public import proofs.«01_k».proof.Proof.Gen.Reference7Ideal.Run
public import proofs.«01_k».proof.Proof.DCatValue

@[expose] public section

set_option maxRecDepth 16384

noncomputable section

namespace Cert.DCatValue.Ref

open Idealize.ShloMosaic Idealize.ShloMosaic.TcCoe
open Cert.Reference7Ideal Cert.Reference7Ideal.Gen

/-- The reference's cotangent of the mixed heads, entry by entry. -/
theorem ref_eq (a : FVec Ideal S8192x2048 .bf16) (b : FVec Ideal S2048x2048 .bf16) :
    Host.dotGeneral dot_S8192x2048_S2048x2048_S8192x2048_1_1_0_0_n_n none (extf .f32 a bitsLt_bf16_f32) (extf .f32 b bitsLt_bf16_f32)
      = Out a b := by
  funext y
  idx_vars y
  unfold Out term
  pointwise

end Cert.DCatValue.Ref

end
-- ==== Proof.DWinGdnValue.lean ====
module

public import proofs.«01_k».proof.Proof.Gen.Kernel8Ideal.Value
public import Idealize.ShloMosaic.Lib.Pipeline.ValueKit
public import Idealize.ShloMosaic.Lib.Pipeline.ReadBack

@[expose] public section

set_option maxRecDepth 16384

noncomputable section

namespace Cert.DWinGdnValue

open Idealize.ShloMosaic Idealize.ShloMosaic.TcCoe Idealize.SL.Sem
open Idealize.ShloMosaic.Pipeline (Dat)
open Cert.Kernel8Ideal Cert.Kernel8Ideal.Gen

/-- One summand: the product of the two operands. -/
def term (a g : EReal) : EReal := a * g

/-- The gradient of the delta layer's input projection, entry by entry. -/
def Out (A : FVec Ideal S8192x2048 .bf16) (B : FVec Ideal S8192x6912 .bf16) : FVec Ideal S2048x6912 .bf16 :=
  fun i => ∑ r : Fin 8192, term (A (ix2 r (i 0))) (B (ix2 r (i 1)))

theorem pay1_at (i : Fin 1024) (j : Fin 768) : k0_pay1 (F := Ideal) (ix2 i j) = 0 := by
  pointwise [k0_pay1]

theorem pay2_at (a : FVec Ideal S1024x1024 .bf16) (acc : FVec Ideal S1024x768 .f32) (g : FVec Ideal S1024x768 .bf16) (i : Fin 1024) (j : Fin 768) :
    k0_pay2 a acc g (ix2 i j) = acc (ix2 i j) + ∑ r : Fin 1024, term (a (ix2 r i)) (g (ix2 r j)) := by
  unfold term
  pointwise [k0_pay2]

theorem pay3_at (a : FVec Ideal S1024x768 .f32) (i : Fin 1024) (j : Fin 768) :
    k0_pay3 (F := Ideal) a (ix2 i j) = (show EReal from a (ix2 i j)) := by
  pointwise [k0_pay3]

variable (m : (ℓ : Loc nD τ sig) → Buf (Elt Ideal) ℓ)

/-- The layer's input, as launched. -/
abbrev argA (c : Dev nD) : FVec Ideal S8192x2048 .bf16 := m ((c : Thread nD τ).loc main_arg0)
/-- The cotangent of the projection, as launched. -/
abbrev argB (c : Dev nD) : FVec Ideal S8192x6912 .bf16 := m ((c : Thread nD τ).loc main_arg1)

theorem idx : ∀ t : Fin cfg0.N, win0_0.index t = ![t.val % 8, t.val / 72] ∧ win0_1.index t = ![t.val % 8, t.val / 8 % 9] ∧ win0_2.index t = ![t.val / 72, t.val / 8 % 9] ∧ t.val < 144 :=
  (by decide +kernel : ∀ t : Fin grid0.N, _)

theorem a_at (c : Dev nD) (t : Fin cfg0.N) (r : Fin 1024) (i : Fin 1024) :
    (show FVec Ideal S1024x1024 .bf16 from iblk m c 0 t) (ix2 r i) = argA m c (ix2 ⟨t.val % 8 * 1024 + r.val, by have := (idx t).2.2.2; omega⟩ ⟨t.val / 72 * 1024 + i.val, by have := (idx t).2.2.2; omega⟩) := by
  blk_ext [iblk, V, idx t]

theorem b_at (c : Dev nD) (t : Fin cfg0.N) (r : Fin 1024) (j : Fin 768) :
    (show FVec Ideal S1024x768 .bf16 from iblk m c 1 t) (ix2 r j) = argB m c (ix2 ⟨t.val % 8 * 1024 + r.val, by have := (idx t).2.2.2; omega⟩ ⟨t.val / 8 % 9 * 768 + j.val, by have := (idx t).2.2.2; omega⟩) := by
  blk_ext [iblk, V, idx t]

/-- One step's part of a block of the sum. -/
def part (c : Dev nD) (t : Fin cfg0.N) (y : S1024x768.Idx) : EReal :=
  ∑ r : Fin 1024, term (argA m c (ix2 ⟨t.val % 8 * 1024 + r.val, by have := (idx t).2.2.2; omega⟩ ⟨t.val / 72 * 1024 + (y 0).val, by have := (idx t).2.2.2; have : (y 0).val < 1024 := (y 0).isLt; omega⟩))
    (argB m c (ix2 ⟨t.val % 8 * 1024 + r.val, by have := (idx t).2.2.2; omega⟩ ⟨t.val / 8 % 9 * 768 + (y 1).val, by have := (idx t).2.2.2; have : (y 1).val < 768 := (y 1).isLt; omega⟩))

theorem step (c : Dev nD) (t : Fin cfg0.N) (acc : FVec Ideal S1024x768 .f32) (y : S1024x768.Idx) :
    k0_pay2 (iblk m c 0 t) acc (iblk m c 1 t) y = acc y + part m c t y := by
  idx_vars y
  rw [pay2_at]
  unfold part
  exact congrArg _ (Finset.sum_congr rfl fun r _ => congrArg₂ term (a_at m c t r y0) (b_at m c t r y1))

theorem first (c : Dev nD) (t : Fin cfg0.N) (h : t.val % 8 = 0) (y : S1024x768.Idx) : (outsAt0 m c t.val t.isLt).2 y = 0 + part m c t y := by
  rw [outsAt0_A m c t h (by omega)]
  frame_out
  rw [step]
  idx_vars y
  rw [pay1_at]

theorem later (c : Dev nD) (t : Fin cfg0.N) (h : ¬ t.val % 8 = 0) (y : S1024x768.Idx) :
    (outsAt0 m c t.val t.isLt).2 y = (outsAt0 m c (t.val - 1) (Nat.lt_of_le_of_lt (Nat.sub_le _ _) t.isLt)).2 y + part m c t y := by
  by_cases h1 : t.val % 8 = 7
  · rw [outsAt0_C m c t h h1]
    frame_out
    rw [step, read_unread_whole]
  · rw [outsAt0_B m c t h h1]
    frame_out
    rw [step, read_unread_whole]

theorem last (c : Dev nD) (t : Fin cfg0.N) (h : t.val % 8 = 7) (y : S1024x768.Idx) :
    (outsAt0 m c t.val t.isLt).1 y = k0_pay3 (outsAt0 m c t.val t.isLt).2 y := by
  rw [outsAt0_C m c t (by omega) h]
  frame_out

/-- The parts of a block make up the whole entry. -/
theorem parts (c : Dev nD) (t : Fin cfg0.N) (z : S2048x6912.Idx) (i : Fin 1024) (j : Fin 768) (h0 : (z 0).val = t.val / 72 * 1024 + i.val) (h1 : (z 1).val = t.val / 8 % 9 * 768 + j.val) :
    ∑ s : Fin 8, part m c ⟨8 * (t.val / 8) + s.val, by have := (idx t).2.2.2; show _ < 144; omega⟩ (ix2 i j) = Out (argA m c) (argB m c) z := by
  unfold part Out
  refine Fin.sum_mul_add_congr fun s r hr => ?_
  have hs : (8 * (t.val / 8) + s.val) % 8 = s.val := by omega
  refine congrArg₂ term (congrArg (argA m c) (congrArg₂ ix2 (Fin.ext ?_) (Fin.ext ?_))) (congrArg (argB m c) (congrArg₂ ix2 (Fin.ext ?_) (Fin.ext ?_)))
  · show (8 * (t.val / 8) + s.val) % 8 * 1024 + r.val = _
    rw [hs]
  · show (8 * (t.val / 8) + s.val) / 72 * 1024 + i.val = _
    rw [h0]
    omega
  · show (8 * (t.val / 8) + s.val) % 8 * 1024 + r.val = _
    rw [hs]
  · show (8 * (t.val / 8) + s.val) / 8 % 9 * 768 + j.val = _
    rw [h1]
    omega

theorem final (c : Dev nD) : (dats m 0 c).arrAt 2 (cfgs 0).N = Out (argA m c) (argB m c) := by
  refine (dats m 0 c).arrAt_eq_of_covers 2 _ (by decide +kernel) fun t hf y => ?_
  blk_simp
  have hl : t.val % 8 = 7 := (flush0_2 t).mp hf
  rw [after0_2, last m c t hl]
  idx_vars y
  rw [pay3_at, Pipeline.eq_sum_fin_of_reset_step_apply_of_flush (fun n h => (outsAt0 m c n h).2) 8 (fun _ => 0) (fun t j => part m c t j)
    (fun t h j => first m c t h j) (fun t h j => later m c t h j) t hl, zero_add]
  refine parts m c t _ y0 y1 ?_ ?_ <;> (blk_simp [idx t] <;> try omega)

end Cert.DWinGdnValue

end
-- ==== Proof.DWinGdnRef.lean ====
module

public import proofs.«01_k».proof.Proof.Gen.Reference8Ideal.Run
public import proofs.«01_k».proof.Proof.DWinGdnValue

@[expose] public section

set_option maxRecDepth 16384

noncomputable section

namespace Cert.DWinGdnValue.Ref

open Idealize.ShloMosaic Idealize.ShloMosaic.TcCoe
open Cert.Reference8Ideal Cert.Reference8Ideal.Gen

/-- The reference's gradient of the delta layer's input projection, entry by entry. -/
theorem ref_eq (a : FVec Ideal S8192x2048 .bf16) (b : FVec Ideal S8192x6912 .bf16) :
    truncf .bf16 (transpose S2048x6912 [1, 0] (Host.dotGeneral dot_S8192x6912_S8192x2048_S6912x2048_0_0_1_1_n_n none (extf .f32 b bitsLt_bf16_f32) (extf .f32 a bitsLt_bf16_f32)) transposes_S6912x2048_S2048x6912_1_0) bitsLt_bf16_f32
      = Out a b := by
  funext y
  idx_vars y
  unfold Out term
  refine Eq.trans ?_ (Finset.sum_congr rfl fun r _ => mul_comm (show EReal from b (ix2 r y1)) ((show EReal from a (ix2 r y0))))
  pointwise

end Cert.DWinGdnValue.Ref

end
-- ==== Proof.DxGdnValue.lean ====
module

public import proofs.«01_k».proof.Proof.Gen.Kernel9Ideal.Value
public import Idealize.ShloMosaic.Lib.Pipeline.ValueKit
public import Idealize.ShloMosaic.Lib.Pipeline.ReadBack

@[expose] public section

set_option maxRecDepth 16384

noncomputable section

namespace Cert.DxGdnValue

open Idealize.ShloMosaic Idealize.ShloMosaic.TcCoe Idealize.SL.Sem
open Idealize.ShloMosaic.Pipeline (Dat)
open Cert.Kernel9Ideal Cert.Kernel9Ideal.Gen

/-- One summand: the product of the two operands. -/
def term (a g : EReal) : EReal := a * g

/-- The scale of the residual branch. -/
def alpha : EReal := Ideal.ofBits .f32 0x3FD744FD#32

/-- The cotangent of the delta layer's input, entry by entry. -/
def Out (A : FVec Ideal S8192x6912 .bf16) (B : FVec Ideal S2048x6912 .bf16) (E : FVec Ideal S8192x2048 .f32) : FVec Ideal S8192x2048 .f32 :=
  fun i => (∑ r : Fin 6912, term (A (ix2 (i 0) r)) (B (ix2 (i 1) r))) + alpha * E (ix2 (i 0) (i 1))

theorem pay1_at (i : Fin 1024) (j : Fin 1024) : k0_pay1 (F := Ideal) (ix2 i j) = 0 := by
  pointwise [k0_pay1]

theorem pay2_at (a : FVec Ideal S1024x768 .bf16) (acc : FVec Ideal S1024x1024 .f32) (g : FVec Ideal S1024x768 .bf16) (i : Fin 1024) (j : Fin 1024) :
    k0_pay2 a acc g (ix2 i j) = acc (ix2 i j) + ∑ r : Fin 768, term (a (ix2 i r)) (g (ix2 j r)) := by
  unfold term
  pointwise [k0_pay2]

theorem pay3_at (a e : FVec Ideal S1024x1024 .f32) (i : Fin 1024) (j : Fin 1024) :
    k0_pay3 (F := Ideal) a e (ix2 i j) = ((show EReal from a (ix2 i j))) + alpha * (show EReal from e (ix2 i j)) := by
  unfold alpha
  pointwise [k0_pay3]

variable (m : (ℓ : Loc nD τ sig) → Buf (Elt Ideal) ℓ)

/-- The cotangent of the projection, as launched. -/
abbrev argA (c : Dev nD) : FVec Ideal S8192x6912 .bf16 := m ((c : Thread nD τ).loc main_arg0)
/-- The input projection's matrix, as launched. -/
abbrev argB (c : Dev nD) : FVec Ideal S2048x6912 .bf16 := m ((c : Thread nD τ).loc main_arg1)
/-- The cotangent of the residual sum, as launched. -/
abbrev argE (c : Dev nD) : FVec Ideal S8192x2048 .f32 := m ((c : Thread nD τ).loc main_arg2)

theorem idx : ∀ t : Fin cfg0.N, win0_0.index t = ![t.val / 18, t.val % 9] ∧ win0_1.index t = ![t.val / 9 % 2, t.val % 9] ∧ win0_2.index t = ![t.val / 18, t.val / 9 % 2] ∧ win0_3.index t = ![t.val / 18, t.val / 9 % 2] ∧ t.val < 144 :=
  (by decide +kernel : ∀ t : Fin grid0.N, _)

theorem a_at (c : Dev nD) (t : Fin cfg0.N) (r : Fin 768) (i : Fin 1024) :
    (show FVec Ideal S1024x768 .bf16 from iblk m c 0 t) (ix2 i r) = argA m c (ix2 ⟨t.val / 18 * 1024 + i.val, by have := (idx t).2.2.2.2; omega⟩ ⟨t.val % 9 * 768 + r.val, by have := (idx t).2.2.2.2; omega⟩) := by
  blk_ext [iblk, V, idx t]

theorem b_at (c : Dev nD) (t : Fin cfg0.N) (r : Fin 768) (j : Fin 1024) :
    (show FVec Ideal S1024x768 .bf16 from iblk m c 1 t) (ix2 j r) = argB m c (ix2 ⟨t.val / 9 % 2 * 1024 + j.val, by have := (idx t).2.2.2.2; omega⟩ ⟨t.val % 9 * 768 + r.val, by have := (idx t).2.2.2.2; omega⟩) := by
  blk_ext [iblk, V, idx t]

theorem e_at (c : Dev nD) (t : Fin cfg0.N) (i : Fin 1024) (j : Fin 1024) :
    (show FVec Ideal S1024x1024 .f32 from iblk m c 2 t) (ix2 i j) = argE m c (ix2 ⟨t.val / 18 * 1024 + i.val, by have := (idx t).2.2.2.2; omega⟩ ⟨t.val / 9 % 2 * 1024 + j.val, by have := (idx t).2.2.2.2; omega⟩) := by
  blk_ext [iblk, V, idx t]

/-- One step's part of a block of the sum. -/
def part (c : Dev nD) (t : Fin cfg0.N) (y : S1024x1024.Idx) : EReal :=
  ∑ r : Fin 768, term (argA m c (ix2 ⟨t.val / 18 * 1024 + (y 0).val, by have := (idx t).2.2.2.2; have : (y 0).val < 1024 := (y 0).isLt; omega⟩ ⟨t.val % 9 * 768 + r.val, by have := (idx t).2.2.2.2; omega⟩))
    (argB m c (ix2 ⟨t.val / 9 % 2 * 1024 + (y 1).val, by have := (idx t).2.2.2.2; have : (y 1).val < 1024 := (y 1).isLt; omega⟩ ⟨t.val % 9 * 768 + r.val, by have := (idx t).2.2.2.2; omega⟩))

theorem step (c : Dev nD) (t : Fin cfg0.N) (acc : FVec Ideal S1024x1024 .f32) (y : S1024x1024.Idx) :
    k0_pay2 (iblk m c 0 t) acc (iblk m c 1 t) y = acc y + part m c t y := by
  idx_vars y
  rw [pay2_at]
  unfold part
  exact congrArg _ (Finset.sum_congr rfl fun r _ => congrArg₂ term (a_at m c t r y0) (b_at m c t r y1))

theorem first (c : Dev nD) (t : Fin cfg0.N) (h : t.val % 9 = 0) (y : S1024x1024.Idx) : (outsAt0 m c t.val t.isLt).2 y = 0 + part m c t y := by
  rw [outsAt0_A m c t h (by omega)]
  frame_out
  rw [step]
  idx_vars y
  rw [pay1_at]

theorem later (c : Dev nD) (t : Fin cfg0.N) (h : ¬ t.val % 9 = 0) (y : S1024x1024.Idx) :
    (outsAt0 m c t.val t.isLt).2 y = (outsAt0 m c (t.val - 1) (Nat.lt_of_le_of_lt (Nat.sub_le _ _) t.isLt)).2 y + part m c t y := by
  by_cases h1 : t.val % 9 = 8
  · rw [outsAt0_C m c t h h1]
    frame_out
    rw [step, read_unread_whole]
  · rw [outsAt0_B m c t h h1]
    frame_out
    rw [step, read_unread_whole]

theorem last (c : Dev nD) (t : Fin cfg0.N) (h : t.val % 9 = 8) (y : S1024x1024.Idx) :
    (outsAt0 m c t.val t.isLt).1 y = k0_pay3 (outsAt0 m c t.val t.isLt).2 (iblk m c 2 t) y := by
  rw [outsAt0_C m c t (by omega) h]
  frame_out

/-- The parts of a block make up the whole entry. -/
theorem parts (c : Dev nD) (t : Fin cfg0.N) (z : S8192x2048.Idx) (i : Fin 1024) (j : Fin 1024) (h0 : (z 0).val = t.val / 18 * 1024 + i.val) (h1 : (z 1).val = t.val / 9 % 2 * 1024 + j.val) :
    (∑ s : Fin 9, part m c ⟨9 * (t.val / 9) + s.val, by have := (idx t).2.2.2.2; show _ < 144; omega⟩ (ix2 i j)) + alpha * (show FVec Ideal S1024x1024 .f32 from iblk m c 2 t) (ix2 i j) = Out (argA m c) (argB m c) (argE m c) z := by
  rw [e_at]
  unfold part Out
  refine congrArg₂ (fun p q : EReal => p + alpha * q) (Fin.sum_mul_add_congr fun s r hr => ?_) (congrArg (argE m c) (congrArg₂ ix2 (Fin.ext h0.symm) (Fin.ext h1.symm)))
  have hs : (9 * (t.val / 9) + s.val) % 9 = s.val := by omega
  refine congrArg₂ term (congrArg (argA m c) (congrArg₂ ix2 (Fin.ext ?_) (Fin.ext ?_))) (congrArg (argB m c) (congrArg₂ ix2 (Fin.ext ?_) (Fin.ext ?_)))
  · show (9 * (t.val / 9) + s.val) / 18 * 1024 + i.val = _
    rw [h0]
    omega
  · show (9 * (t.val / 9) + s.val) % 9 * 768 + r.val = _
    rw [hs]
  · show (9 * (t.val / 9) + s.val) / 9 % 2 * 1024 + j.val = _
    rw [h1]
    omega
  · show (9 * (t.val / 9) + s.val) % 9 * 768 + r.val = _
    rw [hs]

theorem final (c : Dev nD) : (dats m 0 c).arrAt 3 (cfgs 0).N = Out (argA m c) (argB m c) (argE m c) := by
  refine (dats m 0 c).arrAt_eq_of_covers 3 _ (by decide +kernel) fun t hf y => ?_
  blk_simp
  have hl : t.val % 9 = 8 := (flush0_3 t).mp hf
  rw [after0_3, last m c t hl]
  idx_vars y
  rw [pay3_at, Pipeline.eq_sum_fin_of_reset_step_apply_of_flush (fun n h => (outsAt0 m c n h).2) 9 (fun _ => 0) (fun t j => part m c t j)
    (fun t h j => first m c t h j) (fun t h j => later m c t h j) t hl, zero_add]
  refine parts m c t _ y0 y1 ?_ ?_ <;> (blk_simp [idx t] <;> try omega)

end Cert.DxGdnValue

end
-- ==== Proof.DxGdnRef.lean ====
module

public import proofs.«01_k».proof.Proof.Gen.Reference9Ideal.Run
public import proofs.«01_k».proof.Proof.DxGdnValue

@[expose] public section

set_option maxRecDepth 16384

noncomputable section

namespace Cert.DxGdnValue.Ref

open Idealize.ShloMosaic Idealize.ShloMosaic.TcCoe
open Cert.Reference9Ideal Cert.Reference9Ideal.Gen

/-- The reference's cotangent of the delta layer's input, entry by entry. -/
theorem ref_eq (a : FVec Ideal S8192x6912 .bf16) (b : FVec Ideal S2048x6912 .bf16) (e : FVec Ideal S8192x2048 .f32) :
    addf (Host.dotGeneral dot_S8192x6912_S2048x6912_S8192x2048_1_1_0_0_n_n none (extf .f32 a bitsLt_bf16_f32) (extf .f32 b bitsLt_bf16_f32)) (mulf (broadcastInDim S8192x2048 ![] bcast_S_S8192x2048 (constant S_ .f32 0x3FD744FD#32)) e)
      = Out a b e := by
  funext y
  idx_vars y
  unfold Out term
  unfold alpha
  pointwise

end Cert.DxGdnValue.Ref

end
-- ==== Proof.DWinMlaValue.lean ====
module

public import proofs.«01_k».proof.Proof.Gen.Kernel10Ideal.Value
public import Idealize.ShloMosaic.Lib.Pipeline.ValueKit
public import Idealize.ShloMosaic.Lib.Pipeline.ReadBack

@[expose] public section

set_option maxRecDepth 16384

noncomputable section

namespace Cert.DWinMlaValue

open Idealize.ShloMosaic Idealize.ShloMosaic.TcCoe Idealize.SL.Sem
open Idealize.ShloMosaic.Pipeline (Dat)
open Cert.Kernel10Ideal Cert.Kernel10Ideal.Gen

/-- One summand: the product of the two operands. -/
def term (a g : EReal) : EReal := a * g

/-- The gradient of the latent layer's input projection, entry by entry. -/
def Out (A : FVec Ideal S8192x2048 .bf16) (B : FVec Ideal S8192x1792 .bf16) : FVec Ideal S2048x1792 .bf16 :=
  fun i => ∑ r : Fin 8192, term (A (ix2 r (i 0))) (B (ix2 r (i 1)))

theorem pay1_at (i : Fin 1024) (j : Fin 256) : k0_pay1 (F := Ideal) (ix2 i j) = 0 := by
  pointwise [k0_pay1]

theorem pay2_at (a : FVec Ideal S1024x1024 .bf16) (acc : FVec Ideal S1024x256 .f32) (g : FVec Ideal S1024x256 .bf16) (i : Fin 1024) (j : Fin 256) :
    k0_pay2 a acc g (ix2 i j) = acc (ix2 i j) + ∑ r : Fin 1024, term (a (ix2 r i)) (g (ix2 r j)) := by
  unfold term
  pointwise [k0_pay2]

theorem pay3_at (a : FVec Ideal S1024x256 .f32) (i : Fin 1024) (j : Fin 256) :
    k0_pay3 (F := Ideal) a (ix2 i j) = (show EReal from a (ix2 i j)) := by
  pointwise [k0_pay3]

variable (m : (ℓ : Loc nD τ sig) → Buf (Elt Ideal) ℓ)

/-- The layer's input, as launched. -/
abbrev argA (c : Dev nD) : FVec Ideal S8192x2048 .bf16 := m ((c : Thread nD τ).loc main_arg0)
/-- The cotangent of the projection, as launched. -/
abbrev argB (c : Dev nD) : FVec Ideal S8192x1792 .bf16 := m ((c : Thread nD τ).loc main_arg1)

theorem idx : ∀ t : Fin cfg0.N, win0_0.index t = ![t.val % 8, t.val / 56] ∧ win0_1.index t = ![t.val % 8, t.val / 8 % 7] ∧ win0_2.index t = ![t.val / 56, t.val / 8 % 7] ∧ t.val < 112 :=
  (by decide +kernel : ∀ t : Fin grid0.N, _)

theorem a_at (c : Dev nD) (t : Fin cfg0.N) (r : Fin 1024) (i : Fin 1024) :
    (show FVec Ideal S1024x1024 .bf16 from iblk m c 0 t) (ix2 r i) = argA m c (ix2 ⟨t.val % 8 * 1024 + r.val, by have := (idx t).2.2.2; omega⟩ ⟨t.val / 56 * 1024 + i.val, by have := (idx t).2.2.2; omega⟩) := by
  blk_ext [iblk, V, idx t]

theorem b_at (c : Dev nD) (t : Fin cfg0.N) (r : Fin 1024) (j : Fin 256) :
    (show FVec Ideal S1024x256 .bf16 from iblk m c 1 t) (ix2 r j) = argB m c (ix2 ⟨t.val % 8 * 1024 + r.val, by have := (idx t).2.2.2; omega⟩ ⟨t.val / 8 % 7 * 256 + j.val, by have := (idx t).2.2.2; omega⟩) := by
  blk_ext [iblk, V, idx t]

/-- One step's part of a block of the sum. -/
def part (c : Dev nD) (t : Fin cfg0.N) (y : S1024x256.Idx) : EReal :=
  ∑ r : Fin 1024, term (argA m c (ix2 ⟨t.val % 8 * 1024 + r.val, by have := (idx t).2.2.2; omega⟩ ⟨t.val / 56 * 1024 + (y 0).val, by have := (idx t).2.2.2; have : (y 0).val < 1024 := (y 0).isLt; omega⟩))
    (argB m c (ix2 ⟨t.val % 8 * 1024 + r.val, by have := (idx t).2.2.2; omega⟩ ⟨t.val / 8 % 7 * 256 + (y 1).val, by have := (idx t).2.2.2; have : (y 1).val < 256 := (y 1).isLt; omega⟩))

theorem step (c : Dev nD) (t : Fin cfg0.N) (acc : FVec Ideal S1024x256 .f32) (y : S1024x256.Idx) :
    k0_pay2 (iblk m c 0 t) acc (iblk m c 1 t) y = acc y + part m c t y := by
  idx_vars y
  rw [pay2_at]
  unfold part
  exact congrArg _ (Finset.sum_congr rfl fun r _ => congrArg₂ term (a_at m c t r y0) (b_at m c t r y1))

theorem first (c : Dev nD) (t : Fin cfg0.N) (h : t.val % 8 = 0) (y : S1024x256.Idx) : (outsAt0 m c t.val t.isLt).2 y = 0 + part m c t y := by
  rw [outsAt0_A m c t h (by omega)]
  frame_out
  rw [step]
  idx_vars y
  rw [pay1_at]

theorem later (c : Dev nD) (t : Fin cfg0.N) (h : ¬ t.val % 8 = 0) (y : S1024x256.Idx) :
    (outsAt0 m c t.val t.isLt).2 y = (outsAt0 m c (t.val - 1) (Nat.lt_of_le_of_lt (Nat.sub_le _ _) t.isLt)).2 y + part m c t y := by
  by_cases h1 : t.val % 8 = 7
  · rw [outsAt0_C m c t h h1]
    frame_out
    rw [step, read_unread_whole]
  · rw [outsAt0_B m c t h h1]
    frame_out
    rw [step, read_unread_whole]

theorem last (c : Dev nD) (t : Fin cfg0.N) (h : t.val % 8 = 7) (y : S1024x256.Idx) :
    (outsAt0 m c t.val t.isLt).1 y = k0_pay3 (outsAt0 m c t.val t.isLt).2 y := by
  rw [outsAt0_C m c t (by omega) h]
  frame_out

/-- The parts of a block make up the whole entry. -/
theorem parts (c : Dev nD) (t : Fin cfg0.N) (z : S2048x1792.Idx) (i : Fin 1024) (j : Fin 256) (h0 : (z 0).val = t.val / 56 * 1024 + i.val) (h1 : (z 1).val = t.val / 8 % 7 * 256 + j.val) :
    ∑ s : Fin 8, part m c ⟨8 * (t.val / 8) + s.val, by have := (idx t).2.2.2; show _ < 112; omega⟩ (ix2 i j) = Out (argA m c) (argB m c) z := by
  unfold part Out
  refine Fin.sum_mul_add_congr fun s r hr => ?_
  have hs : (8 * (t.val / 8) + s.val) % 8 = s.val := by omega
  refine congrArg₂ term (congrArg (argA m c) (congrArg₂ ix2 (Fin.ext ?_) (Fin.ext ?_))) (congrArg (argB m c) (congrArg₂ ix2 (Fin.ext ?_) (Fin.ext ?_)))
  · show (8 * (t.val / 8) + s.val) % 8 * 1024 + r.val = _
    rw [hs]
  · show (8 * (t.val / 8) + s.val) / 56 * 1024 + i.val = _
    rw [h0]
    omega
  · show (8 * (t.val / 8) + s.val) % 8 * 1024 + r.val = _
    rw [hs]
  · show (8 * (t.val / 8) + s.val) / 8 % 7 * 256 + j.val = _
    rw [h1]
    omega

theorem final (c : Dev nD) : (dats m 0 c).arrAt 2 (cfgs 0).N = Out (argA m c) (argB m c) := by
  refine (dats m 0 c).arrAt_eq_of_covers 2 _ (by decide +kernel) fun t hf y => ?_
  blk_simp
  have hl : t.val % 8 = 7 := (flush0_2 t).mp hf
  rw [after0_2, last m c t hl]
  idx_vars y
  rw [pay3_at, Pipeline.eq_sum_fin_of_reset_step_apply_of_flush (fun n h => (outsAt0 m c n h).2) 8 (fun _ => 0) (fun t j => part m c t j)
    (fun t h j => first m c t h j) (fun t h j => later m c t h j) t hl, zero_add]
  refine parts m c t _ y0 y1 ?_ ?_ <;> (blk_simp [idx t] <;> try omega)

end Cert.DWinMlaValue

end
-- ==== Proof.DWinMlaRef.lean ====
module

public import proofs.«01_k».proof.Proof.Gen.Reference10Ideal.Run
public import proofs.«01_k».proof.Proof.DWinMlaValue

@[expose] public section

set_option maxRecDepth 16384

noncomputable section

namespace Cert.DWinMlaValue.Ref

open Idealize.ShloMosaic Idealize.ShloMosaic.TcCoe
open Cert.Reference10Ideal Cert.Reference10Ideal.Gen

/-- The reference's gradient of the latent layer's input projection, entry by entry. -/
theorem ref_eq (a : FVec Ideal S8192x2048 .bf16) (b : FVec Ideal S8192x1792 .bf16) :
    truncf .bf16 (transpose S2048x1792 [1, 0] (Host.dotGeneral dot_S8192x1792_S8192x2048_S1792x2048_0_0_1_1_n_n none (extf .f32 b bitsLt_bf16_f32) (extf .f32 a bitsLt_bf16_f32)) transposes_S1792x2048_S2048x1792_1_0) bitsLt_bf16_f32
      = Out a b := by
  funext y
  idx_vars y
  unfold Out term
  refine Eq.trans ?_ (Finset.sum_congr rfl fun r _ => mul_comm (show EReal from b (ix2 r y1)) ((show EReal from a (ix2 r y0))))
  pointwise

end Cert.DWinMlaValue.Ref

end
-- ==== Proof.DxMlaValue.lean ====
module

public import proofs.«01_k».proof.Proof.Gen.Kernel11Ideal.Value
public import Idealize.ShloMosaic.Lib.Pipeline.ValueKit
public import Idealize.ShloMosaic.Lib.Pipeline.ReadBack

@[expose] public section

set_option maxRecDepth 16384

noncomputable section

namespace Cert.DxMlaValue

open Idealize.ShloMosaic Idealize.ShloMosaic.TcCoe Idealize.SL.Sem
open Idealize.ShloMosaic.Pipeline (Dat)
open Cert.Kernel11Ideal Cert.Kernel11Ideal.Gen

/-- One summand: the product of the two operands. -/
def term (a g : EReal) : EReal := a * g

/-- The scale of the residual branch. -/
def alpha : EReal := Ideal.ofBits .f32 0x3FD744FD#32

/-- The cotangent of the latent layer's input, entry by entry. -/
def Out (A : FVec Ideal S8192x1792 .bf16) (B : FVec Ideal S2048x1792 .bf16) (E : FVec Ideal S8192x2048 .f32) : FVec Ideal S8192x2048 .f32 :=
  fun i => (∑ r : Fin 1792, term (A (ix2 (i 0) r)) (B (ix2 (i 1) r))) + alpha * E (ix2 (i 0) (i 1))

theorem pay1_at (i : Fin 512) (j : Fin 1024) : k0_pay1 (F := Ideal) (ix2 i j) = 0 := by
  pointwise [k0_pay1]

theorem pay2_at (a : FVec Ideal S512x1792 .bf16) (acc : FVec Ideal S512x1024 .f32) (g : FVec Ideal S1024x1792 .bf16) (i : Fin 512) (j : Fin 1024) :
    k0_pay2 a acc g (ix2 i j) = acc (ix2 i j) + ∑ r : Fin 1792, term (a (ix2 i r)) (g (ix2 j r)) := by
  unfold term
  pointwise [k0_pay2]

theorem pay3_at (a e : FVec Ideal S512x1024 .f32) (i : Fin 512) (j : Fin 1024) :
    k0_pay3 (F := Ideal) a e (ix2 i j) = ((show EReal from a (ix2 i j))) + alpha * (show EReal from e (ix2 i j)) := by
  unfold alpha
  pointwise [k0_pay3]

variable (m : (ℓ : Loc nD τ sig) → Buf (Elt Ideal) ℓ)

/-- The cotangent of the projection, as launched. -/
abbrev argA (c : Dev nD) : FVec Ideal S8192x1792 .bf16 := m ((c : Thread nD τ).loc main_arg0)
/-- The input projection's matrix, as launched. -/
abbrev argB (c : Dev nD) : FVec Ideal S2048x1792 .bf16 := m ((c : Thread nD τ).loc main_arg1)
/-- The cotangent of the residual sum, as launched. -/
abbrev argE (c : Dev nD) : FVec Ideal S8192x2048 .f32 := m ((c : Thread nD τ).loc main_arg2)

theorem idx : ∀ t : Fin cfg0.N, win0_0.index t = ![t.val / 2, 0] ∧ win0_1.index t = ![t.val % 2, 0] ∧ win0_2.index t = ![t.val / 2, t.val % 2] ∧ win0_3.index t = ![t.val / 2, t.val % 2] ∧ t.val < 32 :=
  (by decide +kernel : ∀ t : Fin grid0.N, _)

theorem a_at (c : Dev nD) (t : Fin cfg0.N) (r : Fin 1792) (i : Fin 512) :
    (show FVec Ideal S512x1792 .bf16 from iblk m c 0 t) (ix2 i r) = argA m c (ix2 ⟨t.val / 2 * 512 + i.val, by have := (idx t).2.2.2.2; omega⟩ r) := by
  blk_ext [iblk, V, idx t]

theorem b_at (c : Dev nD) (t : Fin cfg0.N) (r : Fin 1792) (j : Fin 1024) :
    (show FVec Ideal S1024x1792 .bf16 from iblk m c 1 t) (ix2 j r) = argB m c (ix2 ⟨t.val % 2 * 1024 + j.val, by have := (idx t).2.2.2.2; omega⟩ r) := by
  blk_ext [iblk, V, idx t]

theorem e_at (c : Dev nD) (t : Fin cfg0.N) (i : Fin 512) (j : Fin 1024) :
    (show FVec Ideal S512x1024 .f32 from iblk m c 2 t) (ix2 i j) = argE m c (ix2 ⟨t.val / 2 * 512 + i.val, by have := (idx t).2.2.2.2; omega⟩ ⟨t.val % 2 * 1024 + j.val, by have := (idx t).2.2.2.2; omega⟩) := by
  blk_ext [iblk, V, idx t]

/-- One step's part of a block of the sum. -/
def part (c : Dev nD) (t : Fin cfg0.N) (y : S512x1024.Idx) : EReal :=
  ∑ r : Fin 1792, term (argA m c (ix2 ⟨t.val / 2 * 512 + (y 0).val, by have := (idx t).2.2.2.2; have : (y 0).val < 512 := (y 0).isLt; omega⟩ r))
    (argB m c (ix2 ⟨t.val % 2 * 1024 + (y 1).val, by have := (idx t).2.2.2.2; have : (y 1).val < 1024 := (y 1).isLt; omega⟩ r))

theorem step (c : Dev nD) (t : Fin cfg0.N) (acc : FVec Ideal S512x1024 .f32) (y : S512x1024.Idx) :
    k0_pay2 (iblk m c 0 t) acc (iblk m c 1 t) y = acc y + part m c t y := by
  idx_vars y
  rw [pay2_at]
  unfold part
  exact congrArg _ (Finset.sum_congr rfl fun r _ => congrArg₂ term (a_at m c t r y0) (b_at m c t r y1))

/-- The parts of a block make up the whole entry. -/
theorem parts (c : Dev nD) (t : Fin cfg0.N) (z : S8192x2048.Idx) (i : Fin 512) (j : Fin 1024) (h0 : (z 0).val = t.val / 2 * 512 + i.val) (h1 : (z 1).val = t.val % 2 * 1024 + j.val) :
    (part m c t (ix2 i j)) + alpha * (show FVec Ideal S512x1024 .f32 from iblk m c 2 t) (ix2 i j) = Out (argA m c) (argB m c) (argE m c) z := by
  rw [e_at]
  unfold part Out
  refine congrArg₂ (fun p q : EReal => p + alpha * q) (Finset.sum_congr rfl fun r _ => ?_) (congrArg (argE m c) (congrArg₂ ix2 (Fin.ext h0.symm) (Fin.ext h1.symm)))
  refine congrArg₂ term (congrArg (argA m c) (congrArg₂ ix2 (Fin.ext ?_) (Fin.ext ?_))) (congrArg (argB m c) (congrArg₂ ix2 (Fin.ext ?_) (Fin.ext ?_)))
  · exact h0.symm
  · rfl
  · exact h1.symm
  · rfl

theorem point (c : Dev nD) (t : Fin cfg0.N) : outsAt0 m c t = k0_pay3 (k0_pay2 (iblk m c 0 t) (k0_pay1 (F := Ideal)) (iblk m c 1 t)) (iblk m c 2 t) := by
  unfold outsAt0
  funext y
  frame_out

theorem final (c : Dev nD) : (dats m 0 c).arrAt 3 (cfgs 0).N = Out (argA m c) (argB m c) (argE m c) := by
  refine (dats m 0 c).arrAt_eq_of_covers 3 _ (by decide +kernel) fun t hf y => ?_
  blk_simp
  rw [after0_3, point]
  idx_vars y
  rw [pay3_at, step, pay1_at, zero_add]
  refine parts m c t _ y0 y1 ?_ ?_ <;> (blk_simp [idx t] <;> try omega)

end Cert.DxMlaValue

end
-- ==== Proof.DxMlaRef.lean ====
module

public import proofs.«01_k».proof.Proof.Gen.Reference11Ideal.Run
public import proofs.«01_k».proof.Proof.DxMlaValue

@[expose] public section

set_option maxRecDepth 16384

noncomputable section

namespace Cert.DxMlaValue.Ref

open Idealize.ShloMosaic Idealize.ShloMosaic.TcCoe
open Cert.Reference11Ideal Cert.Reference11Ideal.Gen

/-- The reference's cotangent of the latent layer's input, entry by entry. -/
theorem ref_eq (a : FVec Ideal S8192x1792 .bf16) (b : FVec Ideal S2048x1792 .bf16) (e : FVec Ideal S8192x2048 .f32) :
    addf (Host.dotGeneral dot_S8192x1792_S2048x1792_S8192x2048_1_1_0_0_n_n none (extf .f32 a bitsLt_bf16_f32) (extf .f32 b bitsLt_bf16_f32)) (mulf (broadcastInDim S8192x2048 ![] bcast_S_S8192x2048 (constant S_ .f32 0x3FD744FD#32)) e)
      = Out a b e := by
  funext y
  idx_vars y
  unfold Out term
  unfold alpha
  pointwise

end Cert.DxMlaValue.Ref

end
-- ==== Proof.DWukvValue.lean ====
module

public import proofs.«01_k».proof.Proof.Gen.Kernel12Ideal.Value
public import Idealize.ShloMosaic.Lib.Pipeline.ValueKit
public import Idealize.ShloMosaic.Lib.Pipeline.ReadBack

@[expose] public section

set_option maxRecDepth 16384

noncomputable section

namespace Cert.DWukvValue

open Idealize.ShloMosaic Idealize.ShloMosaic.TcCoe Idealize.SL.Sem
open Idealize.ShloMosaic.Pipeline (Dat)
open Cert.Kernel12Ideal Cert.Kernel12Ideal.Gen

/-- One summand: the product of the two operands. -/
def term (a g : EReal) : EReal := a * g

/-- The gradient of the keys' and values' projection, entry by entry. -/
def Out (A : FVec Ideal S8192x512 .bf16) (B : FVec Ideal S8192x3072 .bf16) : FVec Ideal S512x3072 .bf16 :=
  fun i => ∑ r : Fin 8192, term (A (ix2 r (i 0))) (B (ix2 r (i 1)))

theorem pay1_at (i : Fin 512) (j : Fin 1024) : k0_pay1 (F := Ideal) (ix2 i j) = 0 := by
  pointwise [k0_pay1]

theorem pay2_at (a : FVec Ideal S1024x512 .bf16) (acc : FVec Ideal S512x1024 .f32) (g : FVec Ideal S1024x1024 .bf16) (i : Fin 512) (j : Fin 1024) :
    k0_pay2 a acc g (ix2 i j) = acc (ix2 i j) + ∑ r : Fin 1024, term (a (ix2 r i)) (g (ix2 r j)) := by
  unfold term
  pointwise [k0_pay2]

theorem pay3_at (a : FVec Ideal S512x1024 .f32) (i : Fin 512) (j : Fin 1024) :
    k0_pay3 (F := Ideal) a (ix2 i j) = (show EReal from a (ix2 i j)) := by
  pointwise [k0_pay3]

variable (m : (ℓ : Loc nD τ sig) → Buf (Elt Ideal) ℓ)

/-- The normed latent, as launched. -/
abbrev argA (c : Dev nD) : FVec Ideal S8192x512 .bf16 := m ((c : Thread nD τ).loc main_arg0)
/-- The cotangent of the keys and values, as launched. -/
abbrev argB (c : Dev nD) : FVec Ideal S8192x3072 .bf16 := m ((c : Thread nD τ).loc main_arg1)

theorem idx : ∀ t : Fin cfg0.N, win0_0.index t = ![t.val % 8, 0] ∧ win0_1.index t = ![t.val % 8, t.val / 8] ∧ win0_2.index t = ![0, t.val / 8] ∧ t.val < 24 :=
  (by decide +kernel : ∀ t : Fin grid0.N, _)

theorem a_at (c : Dev nD) (t : Fin cfg0.N) (r : Fin 1024) (i : Fin 512) :
    (show FVec Ideal S1024x512 .bf16 from iblk m c 0 t) (ix2 r i) = argA m c (ix2 ⟨t.val % 8 * 1024 + r.val, by have := (idx t).2.2.2; omega⟩ i) := by
  blk_ext [iblk, V, idx t]

theorem b_at (c : Dev nD) (t : Fin cfg0.N) (r : Fin 1024) (j : Fin 1024) :
    (show FVec Ideal S1024x1024 .bf16 from iblk m c 1 t) (ix2 r j) = argB m c (ix2 ⟨t.val % 8 * 1024 + r.val, by have := (idx t).2.2.2; omega⟩ ⟨t.val / 8 * 1024 + j.val, by have := (idx t).2.2.2; omega⟩) := by
  blk_ext [iblk, V, idx t]

/-- One step's part of a block of the sum. -/
def part (c : Dev nD) (t : Fin cfg0.N) (y : S512x1024.Idx) : EReal :=
  ∑ r : Fin 1024, term (argA m c (ix2 ⟨t.val % 8 * 1024 + r.val, by have := (idx t).2.2.2; omega⟩ (y 0)))
    (argB m c (ix2 ⟨t.val % 8 * 1024 + r.val, by have := (idx t).2.2.2; omega⟩ ⟨t.val / 8 * 1024 + (y 1).val, by have := (idx t).2.2.2; have : (y 1).val < 1024 := (y 1).isLt; omega⟩))

theorem step (c : Dev nD) (t : Fin cfg0.N) (acc : FVec Ideal S512x1024 .f32) (y : S512x1024.Idx) :
    k0_pay2 (iblk m c 0 t) acc (iblk m c 1 t) y = acc y + part m c t y := by
  idx_vars y
  rw [pay2_at]
  unfold part
  exact congrArg _ (Finset.sum_congr rfl fun r _ => congrArg₂ term (a_at m c t r y0) (b_at m c t r y1))

theorem first (c : Dev nD) (t : Fin cfg0.N) (h : t.val % 8 = 0) (y : S512x1024.Idx) : (outsAt0 m c t.val t.isLt).2 y = 0 + part m c t y := by
  rw [outsAt0_A m c t h (by omega)]
  frame_out
  rw [step]
  idx_vars y
  rw [pay1_at]

theorem later (c : Dev nD) (t : Fin cfg0.N) (h : ¬ t.val % 8 = 0) (y : S512x1024.Idx) :
    (outsAt0 m c t.val t.isLt).2 y = (outsAt0 m c (t.val - 1) (Nat.lt_of_le_of_lt (Nat.sub_le _ _) t.isLt)).2 y + part m c t y := by
  by_cases h1 : t.val % 8 = 7
  · rw [outsAt0_C m c t h h1]
    frame_out
    rw [step, read_unread_whole]
  · rw [outsAt0_B m c t h h1]
    frame_out
    rw [step, read_unread_whole]

theorem last (c : Dev nD) (t : Fin cfg0.N) (h : t.val % 8 = 7) (y : S512x1024.Idx) :
    (outsAt0 m c t.val t.isLt).1 y = k0_pay3 (outsAt0 m c t.val t.isLt).2 y := by
  rw [outsAt0_C m c t (by omega) h]
  frame_out

/-- The parts of a block make up the whole entry. -/
theorem parts (c : Dev nD) (t : Fin cfg0.N) (z : S512x3072.Idx) (i : Fin 512) (j : Fin 1024) (h0 : (z 0).val = i.val) (h1 : (z 1).val = t.val / 8 * 1024 + j.val) :
    ∑ s : Fin 8, part m c ⟨8 * (t.val / 8) + s.val, by have := (idx t).2.2.2; show _ < 24; omega⟩ (ix2 i j) = Out (argA m c) (argB m c) z := by
  unfold part Out
  refine Fin.sum_mul_add_congr fun s r hr => ?_
  have hs : (8 * (t.val / 8) + s.val) % 8 = s.val := by omega
  refine congrArg₂ term (congrArg (argA m c) (congrArg₂ ix2 (Fin.ext ?_) (Fin.ext ?_))) (congrArg (argB m c) (congrArg₂ ix2 (Fin.ext ?_) (Fin.ext ?_)))
  · show (8 * (t.val / 8) + s.val) % 8 * 1024 + r.val = _
    rw [hs]
  · show i.val = _
    rw [h0]
  · show (8 * (t.val / 8) + s.val) % 8 * 1024 + r.val = _
    rw [hs]
  · show (8 * (t.val / 8) + s.val) / 8 * 1024 + j.val = _
    rw [h1]
    omega

theorem final (c : Dev nD) : (dats m 0 c).arrAt 2 (cfgs 0).N = Out (argA m c) (argB m c) := by
  refine (dats m 0 c).arrAt_eq_of_covers 2 _ (by decide +kernel) fun t hf y => ?_
  blk_simp
  have hl : t.val % 8 = 7 := (flush0_2 t).mp hf
  rw [after0_2, last m c t hl]
  idx_vars y
  rw [pay3_at, Pipeline.eq_sum_fin_of_reset_step_apply_of_flush (fun n h => (outsAt0 m c n h).2) 8 (fun _ => 0) (fun t j => part m c t j)
    (fun t h j => first m c t h j) (fun t h j => later m c t h j) t hl, zero_add]
  refine parts m c t _ y0 y1 ?_ ?_ <;> (blk_simp [idx t] <;> try omega)

end Cert.DWukvValue

end
-- ==== Proof.DWukvRef.lean ====
module

public import proofs.«01_k».proof.Proof.Gen.Reference12Ideal.Run
public import proofs.«01_k».proof.Proof.DWukvValue

@[expose] public section

set_option maxRecDepth 16384

noncomputable section

namespace Cert.DWukvValue.Ref

open Idealize.ShloMosaic Idealize.ShloMosaic.TcCoe
open Cert.Reference12Ideal Cert.Reference12Ideal.Gen

/-- The reference's gradient of the keys' and values' projection, entry by entry. -/
theorem ref_eq (a : FVec Ideal S8192x512 .bf16) (b : FVec Ideal S8192x3072 .bf16) :
    truncf .bf16 (transpose S512x3072 [1, 0] (Host.dotGeneral dot_S8192x3072_S8192x512_S3072x512_0_0_1_1_n_n none (extf .f32 b bitsLt_bf16_f32) (extf .f32 a bitsLt_bf16_f32)) transposes_S3072x512_S512x3072_1_0) bitsLt_bf16_f32
      = Out a b := by
  funext y
  idx_vars y
  unfold Out term
  refine Eq.trans ?_ (Finset.sum_congr rfl fun r _ => mul_comm (show EReal from b (ix2 r y1)) ((show EReal from a (ix2 r y0))))
  pointwise

end Cert.DWukvValue.Ref

end
-- ==== Proof.DCkvnValue.lean ====
module

public import proofs.«01_k».proof.Proof.Gen.Kernel13Ideal.Value
public import Idealize.ShloMosaic.Lib.Pipeline.ValueKit
public import Idealize.ShloMosaic.Lib.Pipeline.ReadBack

@[expose] public section

set_option maxRecDepth 16384

noncomputable section

namespace Cert.DCkvnValue

open Idealize.ShloMosaic Idealize.ShloMosaic.TcCoe Idealize.SL.Sem
open Idealize.ShloMosaic.Pipeline (Dat)
open Cert.Kernel13Ideal Cert.Kernel13Ideal.Gen

/-- One summand: the product of the two operands. -/
def term (a g : EReal) : EReal := a * g

/-- The cotangent of the normed latent of the keys and values, entry by entry. -/
def Out (A : FVec Ideal S8192x3072 .bf16) (B : FVec Ideal S512x3072 .bf16) : FVec Ideal S8192x512 .f32 :=
  fun i => ∑ r : Fin 3072, term (A (ix2 (i 0) r)) (B (ix2 (i 1) r))

theorem pay1_at (i : Fin 1024) (j : Fin 512) : k0_pay1 (F := Ideal) (ix2 i j) = 0 := by
  pointwise [k0_pay1]

theorem pay2_at (a : FVec Ideal S1024x1024 .bf16) (acc : FVec Ideal S1024x512 .f32) (g : FVec Ideal S512x1024 .bf16) (i : Fin 1024) (j : Fin 512) :
    k0_pay2 a acc g (ix2 i j) = acc (ix2 i j) + ∑ r : Fin 1024, term (a (ix2 i r)) (g (ix2 j r)) := by
  unfold term
  pointwise [k0_pay2]

variable (m : (ℓ : Loc nD τ sig) → Buf (Elt Ideal) ℓ)

/-- The cotangent of the keys and values, as launched. -/
abbrev argA (c : Dev nD) : FVec Ideal S8192x3072 .bf16 := m ((c : Thread nD τ).loc main_arg0)
/-- The keys' and values' projection, as launched. -/
abbrev argB (c : Dev nD) : FVec Ideal S512x3072 .bf16 := m ((c : Thread nD τ).loc main_arg1)

theorem idx : ∀ t : Fin cfg0.N, win0_0.index t = ![t.val / 3, t.val % 3] ∧ win0_1.index t = ![0, t.val % 3] ∧ win0_2.index t = ![t.val / 3, 0] ∧ t.val < 24 :=
  (by decide +kernel : ∀ t : Fin grid0.N, _)

theorem a_at (c : Dev nD) (t : Fin cfg0.N) (r : Fin 1024) (i : Fin 1024) :
    (show FVec Ideal S1024x1024 .bf16 from iblk m c 0 t) (ix2 i r) = argA m c (ix2 ⟨t.val / 3 * 1024 + i.val, by have := (idx t).2.2.2; omega⟩ ⟨t.val % 3 * 1024 + r.val, by have := (idx t).2.2.2; omega⟩) := by
  blk_ext [iblk, V, idx t]

theorem b_at (c : Dev nD) (t : Fin cfg0.N) (r : Fin 1024) (j : Fin 512) :
    (show FVec Ideal S512x1024 .bf16 from iblk m c 1 t) (ix2 j r) = argB m c (ix2 j ⟨t.val % 3 * 1024 + r.val, by have := (idx t).2.2.2; omega⟩) := by
  blk_ext [iblk, V, idx t]

/-- One step's part of a block of the sum. -/
def part (c : Dev nD) (t : Fin cfg0.N) (y : S1024x512.Idx) : EReal :=
  ∑ r : Fin 1024, term (argA m c (ix2 ⟨t.val / 3 * 1024 + (y 0).val, by have := (idx t).2.2.2; have : (y 0).val < 1024 := (y 0).isLt; omega⟩ ⟨t.val % 3 * 1024 + r.val, by have := (idx t).2.2.2; omega⟩))
    (argB m c (ix2 (y 1) ⟨t.val % 3 * 1024 + r.val, by have := (idx t).2.2.2; omega⟩))

theorem step (c : Dev nD) (t : Fin cfg0.N) (acc : FVec Ideal S1024x512 .f32) (y : S1024x512.Idx) :
    k0_pay2 (iblk m c 0 t) acc (iblk m c 1 t) y = acc y + part m c t y := by
  idx_vars y
  rw [pay2_at]
  unfold part
  exact congrArg _ (Finset.sum_congr rfl fun r _ => congrArg₂ term (a_at m c t r y0) (b_at m c t r y1))

theorem first (c : Dev nD) (t : Fin cfg0.N) (h : t.val % 3 = 0) (y : S1024x512.Idx) : (outsAt0 m c t.val t.isLt).2 y = 0 + part m c t y := by
  rw [outsAt0_A m c t h (by omega)]
  frame_out
  rw [step]
  idx_vars y
  rw [pay1_at]

theorem later (c : Dev nD) (t : Fin cfg0.N) (h : ¬ t.val % 3 = 0) (y : S1024x512.Idx) :
    (outsAt0 m c t.val t.isLt).2 y = (outsAt0 m c (t.val - 1) (Nat.lt_of_le_of_lt (Nat.sub_le _ _) t.isLt)).2 y + part m c t y := by
  by_cases h1 : t.val % 3 = 2
  · rw [outsAt0_C m c t h h1]
    frame_out
    rw [step, read_unread_whole]
  · rw [outsAt0_B m c t h h1]
    frame_out
    rw [step, read_unread_whole]

theorem last (c : Dev nD) (t : Fin cfg0.N) (h : t.val % 3 = 2) (y : S1024x512.Idx) :
    (outsAt0 m c t.val t.isLt).1 y = (outsAt0 m c t.val t.isLt).2 y := by
  rw [outsAt0_C m c t (by omega) h]
  frame_out

/-- The parts of a block make up the whole entry. -/
theorem parts (c : Dev nD) (t : Fin cfg0.N) (z : S8192x512.Idx) (i : Fin 1024) (j : Fin 512) (h0 : (z 0).val = t.val / 3 * 1024 + i.val) (h1 : (z 1).val = j.val) :
    ∑ s : Fin 3, part m c ⟨3 * (t.val / 3) + s.val, by have := (idx t).2.2.2; show _ < 24; omega⟩ (ix2 i j) = Out (argA m c) (argB m c) z := by
  unfold part Out
  refine Fin.sum_mul_add_congr fun s r hr => ?_
  have hs : (3 * (t.val / 3) + s.val) % 3 = s.val := by omega
  refine congrArg₂ term (congrArg (argA m c) (congrArg₂ ix2 (Fin.ext ?_) (Fin.ext ?_))) (congrArg (argB m c) (congrArg₂ ix2 (Fin.ext ?_) (Fin.ext ?_)))
  · show (3 * (t.val / 3) + s.val) / 3 * 1024 + i.val = _
    rw [h0]
    omega
  · show (3 * (t.val / 3) + s.val) % 3 * 1024 + r.val = _
    rw [hs]
  · show j.val = _
    rw [h1]
  · show (3 * (t.val / 3) + s.val) % 3 * 1024 + r.val = _
    rw [hs]

theorem final (c : Dev nD) : (dats m 0 c).arrAt 2 (cfgs 0).N = Out (argA m c) (argB m c) := by
  refine (dats m 0 c).arrAt_eq_of_covers 2 _ (by decide +kernel) fun t hf y => ?_
  blk_simp
  have hl : t.val % 3 = 2 := (flush0_2 t).mp hf
  rw [after0_2, last m c t hl]
  idx_vars y
  rw [Pipeline.eq_sum_fin_of_reset_step_apply_of_flush (fun n h => (outsAt0 m c n h).2) 3 (fun _ => 0) (fun t j => part m c t j)
    (fun t h j => first m c t h j) (fun t h j => later m c t h j) t hl, zero_add]
  refine parts m c t _ y0 y1 ?_ ?_ <;> (blk_simp [idx t] <;> try omega)

end Cert.DCkvnValue

end
-- ==== Proof.DCkvnRef.lean ====
module

public import proofs.«01_k».proof.Proof.Gen.Reference13Ideal.Run
public import proofs.«01_k».proof.Proof.DCkvnValue

@[expose] public section

set_option maxRecDepth 16384

noncomputable section

namespace Cert.DCkvnValue.Ref

open Idealize.ShloMosaic Idealize.ShloMosaic.TcCoe
open Cert.Reference13Ideal Cert.Reference13Ideal.Gen

/-- The reference's cotangent of the normed latent of the keys and values, entry by entry. -/
theorem ref_eq (a : FVec Ideal S8192x3072 .bf16) (b : FVec Ideal S512x3072 .bf16) :
    Host.dotGeneral dot_S8192x3072_S512x3072_S8192x512_1_1_0_0_n_n none (extf .f32 a bitsLt_bf16_f32) (extf .f32 b bitsLt_bf16_f32)
      = Out a b := by
  funext y
  idx_vars y
  unfold Out term
  pointwise

end Cert.DCkvnValue.Ref

end
-- ==== Proof.DWuqValue.lean ====
module

public import proofs.«01_k».proof.Proof.Gen.Kernel14Ideal.Value
public import Idealize.ShloMosaic.Lib.Pipeline.ValueKit
public import Idealize.ShloMosaic.Lib.Pipeline.ReadBack

@[expose] public section

set_option maxRecDepth 16384

noncomputable section

namespace Cert.DWuqValue

open Idealize.ShloMosaic Idealize.ShloMosaic.TcCoe Idealize.SL.Sem
open Idealize.ShloMosaic.Pipeline (Dat)
open Cert.Kernel14Ideal Cert.Kernel14Ideal.Gen

/-- One summand: the product of the two operands. -/
def term (a g : EReal) : EReal := a * g

/-- The gradient of the queries' projection, entry by entry. -/
def Out (A : FVec Ideal S8192x512 .bf16) (B : FVec Ideal S8192x3072 .bf16) : FVec Ideal S512x3072 .bf16 :=
  fun i => ∑ r : Fin 8192, term (A (ix2 r (i 0))) (B (ix2 r (i 1)))

theorem pay1_at (i : Fin 512) (j : Fin 1024) : k0_pay1 (F := Ideal) (ix2 i j) = 0 := by
  pointwise [k0_pay1]

theorem pay2_at (a : FVec Ideal S1024x512 .bf16) (acc : FVec Ideal S512x1024 .f32) (g : FVec Ideal S1024x1024 .bf16) (i : Fin 512) (j : Fin 1024) :
    k0_pay2 a acc g (ix2 i j) = acc (ix2 i j) + ∑ r : Fin 1024, term (a (ix2 r i)) (g (ix2 r j)) := by
  unfold term
  pointwise [k0_pay2]

theorem pay3_at (a : FVec Ideal S512x1024 .f32) (i : Fin 512) (j : Fin 1024) :
    k0_pay3 (F := Ideal) a (ix2 i j) = (show EReal from a (ix2 i j)) := by
  pointwise [k0_pay3]

variable (m : (ℓ : Loc nD τ sig) → Buf (Elt Ideal) ℓ)

/-- The normed latent, as launched. -/
abbrev argA (c : Dev nD) : FVec Ideal S8192x512 .bf16 := m ((c : Thread nD τ).loc main_arg0)
/-- The cotangent of the queries, as launched. -/
abbrev argB (c : Dev nD) : FVec Ideal S8192x3072 .bf16 := m ((c : Thread nD τ).loc main_arg1)

theorem idx : ∀ t : Fin cfg0.N, win0_0.index t = ![t.val % 8, 0] ∧ win0_1.index t = ![t.val % 8, t.val / 8] ∧ win0_2.index t = ![0, t.val / 8] ∧ t.val < 24 :=
  (by decide +kernel : ∀ t : Fin grid0.N, _)

theorem a_at (c : Dev nD) (t : Fin cfg0.N) (r : Fin 1024) (i : Fin 512) :
    (show FVec Ideal S1024x512 .bf16 from iblk m c 0 t) (ix2 r i) = argA m c (ix2 ⟨t.val % 8 * 1024 + r.val, by have := (idx t).2.2.2; omega⟩ i) := by
  blk_ext [iblk, V, idx t]

theorem b_at (c : Dev nD) (t : Fin cfg0.N) (r : Fin 1024) (j : Fin 1024) :
    (show FVec Ideal S1024x1024 .bf16 from iblk m c 1 t) (ix2 r j) = argB m c (ix2 ⟨t.val % 8 * 1024 + r.val, by have := (idx t).2.2.2; omega⟩ ⟨t.val / 8 * 1024 + j.val, by have := (idx t).2.2.2; omega⟩) := by
  blk_ext [iblk, V, idx t]

/-- One step's part of a block of the sum. -/
def part (c : Dev nD) (t : Fin cfg0.N) (y : S512x1024.Idx) : EReal :=
  ∑ r : Fin 1024, term (argA m c (ix2 ⟨t.val % 8 * 1024 + r.val, by have := (idx t).2.2.2; omega⟩ (y 0)))
    (argB m c (ix2 ⟨t.val % 8 * 1024 + r.val, by have := (idx t).2.2.2; omega⟩ ⟨t.val / 8 * 1024 + (y 1).val, by have := (idx t).2.2.2; have : (y 1).val < 1024 := (y 1).isLt; omega⟩))

theorem step (c : Dev nD) (t : Fin cfg0.N) (acc : FVec Ideal S512x1024 .f32) (y : S512x1024.Idx) :
    k0_pay2 (iblk m c 0 t) acc (iblk m c 1 t) y = acc y + part m c t y := by
  idx_vars y
  rw [pay2_at]
  unfold part
  exact congrArg _ (Finset.sum_congr rfl fun r _ => congrArg₂ term (a_at m c t r y0) (b_at m c t r y1))

theorem first (c : Dev nD) (t : Fin cfg0.N) (h : t.val % 8 = 0) (y : S512x1024.Idx) : (outsAt0 m c t.val t.isLt).2 y = 0 + part m c t y := by
  rw [outsAt0_A m c t h (by omega)]
  frame_out
  rw [step]
  idx_vars y
  rw [pay1_at]

theorem later (c : Dev nD) (t : Fin cfg0.N) (h : ¬ t.val % 8 = 0) (y : S512x1024.Idx) :
    (outsAt0 m c t.val t.isLt).2 y = (outsAt0 m c (t.val - 1) (Nat.lt_of_le_of_lt (Nat.sub_le _ _) t.isLt)).2 y + part m c t y := by
  by_cases h1 : t.val % 8 = 7
  · rw [outsAt0_C m c t h h1]
    frame_out
    rw [step, read_unread_whole]
  · rw [outsAt0_B m c t h h1]
    frame_out
    rw [step, read_unread_whole]

theorem last (c : Dev nD) (t : Fin cfg0.N) (h : t.val % 8 = 7) (y : S512x1024.Idx) :
    (outsAt0 m c t.val t.isLt).1 y = k0_pay3 (outsAt0 m c t.val t.isLt).2 y := by
  rw [outsAt0_C m c t (by omega) h]
  frame_out

/-- The parts of a block make up the whole entry. -/
theorem parts (c : Dev nD) (t : Fin cfg0.N) (z : S512x3072.Idx) (i : Fin 512) (j : Fin 1024) (h0 : (z 0).val = i.val) (h1 : (z 1).val = t.val / 8 * 1024 + j.val) :
    ∑ s : Fin 8, part m c ⟨8 * (t.val / 8) + s.val, by have := (idx t).2.2.2; show _ < 24; omega⟩ (ix2 i j) = Out (argA m c) (argB m c) z := by
  unfold part Out
  refine Fin.sum_mul_add_congr fun s r hr => ?_
  have hs : (8 * (t.val / 8) + s.val) % 8 = s.val := by omega
  refine congrArg₂ term (congrArg (argA m c) (congrArg₂ ix2 (Fin.ext ?_) (Fin.ext ?_))) (congrArg (argB m c) (congrArg₂ ix2 (Fin.ext ?_) (Fin.ext ?_)))
  · show (8 * (t.val / 8) + s.val) % 8 * 1024 + r.val = _
    rw [hs]
  · show i.val = _
    rw [h0]
  · show (8 * (t.val / 8) + s.val) % 8 * 1024 + r.val = _
    rw [hs]
  · show (8 * (t.val / 8) + s.val) / 8 * 1024 + j.val = _
    rw [h1]
    omega

theorem final (c : Dev nD) : (dats m 0 c).arrAt 2 (cfgs 0).N = Out (argA m c) (argB m c) := by
  refine (dats m 0 c).arrAt_eq_of_covers 2 _ (by decide +kernel) fun t hf y => ?_
  blk_simp
  have hl : t.val % 8 = 7 := (flush0_2 t).mp hf
  rw [after0_2, last m c t hl]
  idx_vars y
  rw [pay3_at, Pipeline.eq_sum_fin_of_reset_step_apply_of_flush (fun n h => (outsAt0 m c n h).2) 8 (fun _ => 0) (fun t j => part m c t j)
    (fun t h j => first m c t h j) (fun t h j => later m c t h j) t hl, zero_add]
  refine parts m c t _ y0 y1 ?_ ?_ <;> (blk_simp [idx t] <;> try omega)

end Cert.DWuqValue

end
-- ==== Proof.DWuqRef.lean ====
module

public import proofs.«01_k».proof.Proof.Gen.Reference14Ideal.Run
public import proofs.«01_k».proof.Proof.DWuqValue

@[expose] public section

set_option maxRecDepth 16384

noncomputable section

namespace Cert.DWuqValue.Ref

open Idealize.ShloMosaic Idealize.ShloMosaic.TcCoe
open Cert.Reference14Ideal Cert.Reference14Ideal.Gen

/-- The reference's gradient of the queries' projection, entry by entry. -/
theorem ref_eq (a : FVec Ideal S8192x512 .bf16) (b : FVec Ideal S8192x3072 .bf16) :
    truncf .bf16 (transpose S512x3072 [1, 0] (Host.dotGeneral dot_S8192x3072_S8192x512_S3072x512_0_0_1_1_n_n none (extf .f32 b bitsLt_bf16_f32) (extf .f32 a bitsLt_bf16_f32)) transposes_S3072x512_S512x3072_1_0) bitsLt_bf16_f32
      = Out a b := by
  funext y
  idx_vars y
  unfold Out term
  refine Eq.trans ?_ (Finset.sum_congr rfl fun r _ => mul_comm (show EReal from b (ix2 r y1)) ((show EReal from a (ix2 r y0))))
  pointwise

end Cert.DWuqValue.Ref

end
-- ==== Proof.DCqnValue.lean ====
module

public import proofs.«01_k».proof.Proof.Gen.Kernel15Ideal.Value
public import Idealize.ShloMosaic.Lib.Pipeline.ValueKit
public import Idealize.ShloMosaic.Lib.Pipeline.ReadBack

@[expose] public section

set_option maxRecDepth 16384

noncomputable section

namespace Cert.DCqnValue

open Idealize.ShloMosaic Idealize.ShloMosaic.TcCoe Idealize.SL.Sem
open Idealize.ShloMosaic.Pipeline (Dat)
open Cert.Kernel15Ideal Cert.Kernel15Ideal.Gen

/-- One summand: the product of the two operands. -/
def term (a g : EReal) : EReal := a * g

/-- The cotangent of the normed latent of the queries, entry by entry. -/
def Out (A : FVec Ideal S8192x3072 .bf16) (B : FVec Ideal S512x3072 .bf16) : FVec Ideal S8192x512 .f32 :=
  fun i => ∑ r : Fin 3072, term (A (ix2 (i 0) r)) (B (ix2 (i 1) r))

theorem pay1_at (i : Fin 1024) (j : Fin 512) : k0_pay1 (F := Ideal) (ix2 i j) = 0 := by
  pointwise [k0_pay1]

theorem pay2_at (a : FVec Ideal S1024x1024 .bf16) (acc : FVec Ideal S1024x512 .f32) (g : FVec Ideal S512x1024 .bf16) (i : Fin 1024) (j : Fin 512) :
    k0_pay2 a acc g (ix2 i j) = acc (ix2 i j) + ∑ r : Fin 1024, term (a (ix2 i r)) (g (ix2 j r)) := by
  unfold term
  pointwise [k0_pay2]

variable (m : (ℓ : Loc nD τ sig) → Buf (Elt Ideal) ℓ)

/-- The cotangent of the queries, as launched. -/
abbrev argA (c : Dev nD) : FVec Ideal S8192x3072 .bf16 := m ((c : Thread nD τ).loc main_arg0)
/-- The queries' projection, as launched. -/
abbrev argB (c : Dev nD) : FVec Ideal S512x3072 .bf16 := m ((c : Thread nD τ).loc main_arg1)

theorem idx : ∀ t : Fin cfg0.N, win0_0.index t = ![t.val / 3, t.val % 3] ∧ win0_1.index t = ![0, t.val % 3] ∧ win0_2.index t = ![t.val / 3, 0] ∧ t.val < 24 :=
  (by decide +kernel : ∀ t : Fin grid0.N, _)

theorem a_at (c : Dev nD) (t : Fin cfg0.N) (r : Fin 1024) (i : Fin 1024) :
    (show FVec Ideal S1024x1024 .bf16 from iblk m c 0 t) (ix2 i r) = argA m c (ix2 ⟨t.val / 3 * 1024 + i.val, by have := (idx t).2.2.2; omega⟩ ⟨t.val % 3 * 1024 + r.val, by have := (idx t).2.2.2; omega⟩) := by
  blk_ext [iblk, V, idx t]

theorem b_at (c : Dev nD) (t : Fin cfg0.N) (r : Fin 1024) (j : Fin 512) :
    (show FVec Ideal S512x1024 .bf16 from iblk m c 1 t) (ix2 j r) = argB m c (ix2 j ⟨t.val % 3 * 1024 + r.val, by have := (idx t).2.2.2; omega⟩) := by
  blk_ext [iblk, V, idx t]

/-- One step's part of a block of the sum. -/
def part (c : Dev nD) (t : Fin cfg0.N) (y : S1024x512.Idx) : EReal :=
  ∑ r : Fin 1024, term (argA m c (ix2 ⟨t.val / 3 * 1024 + (y 0).val, by have := (idx t).2.2.2; have : (y 0).val < 1024 := (y 0).isLt; omega⟩ ⟨t.val % 3 * 1024 + r.val, by have := (idx t).2.2.2; omega⟩))
    (argB m c (ix2 (y 1) ⟨t.val % 3 * 1024 + r.val, by have := (idx t).2.2.2; omega⟩))

theorem step (c : Dev nD) (t : Fin cfg0.N) (acc : FVec Ideal S1024x512 .f32) (y : S1024x512.Idx) :
    k0_pay2 (iblk m c 0 t) acc (iblk m c 1 t) y = acc y + part m c t y := by
  idx_vars y
  rw [pay2_at]
  unfold part
  exact congrArg _ (Finset.sum_congr rfl fun r _ => congrArg₂ term (a_at m c t r y0) (b_at m c t r y1))

theorem first (c : Dev nD) (t : Fin cfg0.N) (h : t.val % 3 = 0) (y : S1024x512.Idx) : (outsAt0 m c t.val t.isLt).2 y = 0 + part m c t y := by
  rw [outsAt0_A m c t h (by omega)]
  frame_out
  rw [step]
  idx_vars y
  rw [pay1_at]

theorem later (c : Dev nD) (t : Fin cfg0.N) (h : ¬ t.val % 3 = 0) (y : S1024x512.Idx) :
    (outsAt0 m c t.val t.isLt).2 y = (outsAt0 m c (t.val - 1) (Nat.lt_of_le_of_lt (Nat.sub_le _ _) t.isLt)).2 y + part m c t y := by
  by_cases h1 : t.val % 3 = 2
  · rw [outsAt0_C m c t h h1]
    frame_out
    rw [step, read_unread_whole]
  · rw [outsAt0_B m c t h h1]
    frame_out
    rw [step, read_unread_whole]

theorem last (c : Dev nD) (t : Fin cfg0.N) (h : t.val % 3 = 2) (y : S1024x512.Idx) :
    (outsAt0 m c t.val t.isLt).1 y = (outsAt0 m c t.val t.isLt).2 y := by
  rw [outsAt0_C m c t (by omega) h]
  frame_out

/-- The parts of a block make up the whole entry. -/
theorem parts (c : Dev nD) (t : Fin cfg0.N) (z : S8192x512.Idx) (i : Fin 1024) (j : Fin 512) (h0 : (z 0).val = t.val / 3 * 1024 + i.val) (h1 : (z 1).val = j.val) :
    ∑ s : Fin 3, part m c ⟨3 * (t.val / 3) + s.val, by have := (idx t).2.2.2; show _ < 24; omega⟩ (ix2 i j) = Out (argA m c) (argB m c) z := by
  unfold part Out
  refine Fin.sum_mul_add_congr fun s r hr => ?_
  have hs : (3 * (t.val / 3) + s.val) % 3 = s.val := by omega
  refine congrArg₂ term (congrArg (argA m c) (congrArg₂ ix2 (Fin.ext ?_) (Fin.ext ?_))) (congrArg (argB m c) (congrArg₂ ix2 (Fin.ext ?_) (Fin.ext ?_)))
  · show (3 * (t.val / 3) + s.val) / 3 * 1024 + i.val = _
    rw [h0]
    omega
  · show (3 * (t.val / 3) + s.val) % 3 * 1024 + r.val = _
    rw [hs]
  · show j.val = _
    rw [h1]
  · show (3 * (t.val / 3) + s.val) % 3 * 1024 + r.val = _
    rw [hs]

theorem final (c : Dev nD) : (dats m 0 c).arrAt 2 (cfgs 0).N = Out (argA m c) (argB m c) := by
  refine (dats m 0 c).arrAt_eq_of_covers 2 _ (by decide +kernel) fun t hf y => ?_
  blk_simp
  have hl : t.val % 3 = 2 := (flush0_2 t).mp hf
  rw [after0_2, last m c t hl]
  idx_vars y
  rw [Pipeline.eq_sum_fin_of_reset_step_apply_of_flush (fun n h => (outsAt0 m c n h).2) 3 (fun _ => 0) (fun t j => part m c t j)
    (fun t h j => first m c t h j) (fun t h j => later m c t h j) t hl, zero_add]
  refine parts m c t _ y0 y1 ?_ ?_ <;> (blk_simp [idx t] <;> try omega)

end Cert.DCqnValue

end
-- ==== Proof.DCqnRef.lean ====
module

public import proofs.«01_k».proof.Proof.Gen.Reference15Ideal.Run
public import proofs.«01_k».proof.Proof.DCqnValue

@[expose] public section

set_option maxRecDepth 16384

noncomputable section

namespace Cert.DCqnValue.Ref

open Idealize.ShloMosaic Idealize.ShloMosaic.TcCoe
open Cert.Reference15Ideal Cert.Reference15Ideal.Gen

/-- The reference's cotangent of the normed latent of the queries, entry by entry. -/
theorem ref_eq (a : FVec Ideal S8192x3072 .bf16) (b : FVec Ideal S512x3072 .bf16) :
    Host.dotGeneral dot_S8192x3072_S512x3072_S8192x512_1_1_0_0_n_n none (extf .f32 a bitsLt_bf16_f32) (extf .f32 b bitsLt_bf16_f32)
      = Out a b := by
  funext y
  idx_vars y
  unfold Out term
  pointwise

end Cert.DCqnValue.Ref

end
-- ==== Proof.DWmemValue.lean ====
module

public import proofs.«01_k».proof.Proof.Gen.Kernel16Ideal.Value
public import Idealize.ShloMosaic.Lib.Pipeline.ValueKit
public import Idealize.ShloMosaic.Lib.Pipeline.ReadBack

@[expose] public section

set_option maxRecDepth 16384

noncomputable section

namespace Cert.DWmemValue

open Idealize.ShloMosaic Idealize.ShloMosaic.TcCoe Idealize.SL.Sem
open Idealize.ShloMosaic.Pipeline (Dat)
open Cert.Kernel16Ideal Cert.Kernel16Ideal.Gen

/-- One summand: the product of the two operands. -/
def term (a g : EReal) : EReal := a * g

/-- The gradient of the memory's projection, entry by entry. -/
def Out (A : FVec Ideal S256x2048 .f32) (B : FVec Ideal S256x1024 .f32) : FVec Ideal S2048x1024 .bf16 :=
  fun i => ∑ r : Fin 256, term (A (ix2 r (i 0))) (B (ix2 r (i 1)))

theorem pay1_at (i : Fin 1024) (j : Fin 1024) : k0_pay1 (F := Ideal) (ix2 i j) = 0 := by
  pointwise [k0_pay1]

theorem pay2_at (a : FVec Ideal S256x1024 .f32) (acc : FVec Ideal S1024x1024 .f32) (g : FVec Ideal S256x1024 .f32) (i : Fin 1024) (j : Fin 1024) :
    k0_pay2 a acc g (ix2 i j) = acc (ix2 i j) + ∑ r : Fin 256, term (a (ix2 r i)) (g (ix2 r j)) := by
  unfold term
  pointwise [k0_pay2]

theorem pay3_at (a : FVec Ideal S1024x1024 .f32) (i : Fin 1024) (j : Fin 1024) :
    k0_pay3 (F := Ideal) a (ix2 i j) = (show EReal from a (ix2 i j)) := by
  pointwise [k0_pay3]

variable (m : (ℓ : Loc nD τ sig) → Buf (Elt Ideal) ℓ)

/-- The memory, as launched. -/
abbrev argA (c : Dev nD) : FVec Ideal S256x2048 .f32 := m ((c : Thread nD τ).loc main_arg0)
/-- The cotangent of the memory's keys and values, as launched. -/
abbrev argB (c : Dev nD) : FVec Ideal S256x1024 .f32 := m ((c : Thread nD τ).loc main_arg1)

theorem idx : ∀ t : Fin cfg0.N, win0_0.index t = ![0, t.val] ∧ win0_1.index t = ![0, 0] ∧ win0_2.index t = ![t.val, 0] ∧ t.val < 2 :=
  (by decide +kernel : ∀ t : Fin grid0.N, _)

theorem a_at (c : Dev nD) (t : Fin cfg0.N) (r : Fin 256) (i : Fin 1024) :
    (show FVec Ideal S256x1024 .f32 from iblk m c 0 t) (ix2 r i) = argA m c (ix2 r ⟨t.val * 1024 + i.val, by have := (idx t).2.2.2; omega⟩) := by
  blk_ext [iblk, V, idx t]

theorem b_at (c : Dev nD) (t : Fin cfg0.N) (r : Fin 256) (j : Fin 1024) :
    (show FVec Ideal S256x1024 .f32 from iblk m c 1 t) (ix2 r j) = argB m c (ix2 r j) := by
  blk_ext [iblk, V, idx t]

/-- One step's part of a block of the sum. -/
def part (c : Dev nD) (t : Fin cfg0.N) (y : S1024x1024.Idx) : EReal :=
  ∑ r : Fin 256, term (argA m c (ix2 r ⟨t.val * 1024 + (y 0).val, by have := (idx t).2.2.2; have : (y 0).val < 1024 := (y 0).isLt; omega⟩))
    (argB m c (ix2 r (y 1)))

theorem step (c : Dev nD) (t : Fin cfg0.N) (acc : FVec Ideal S1024x1024 .f32) (y : S1024x1024.Idx) :
    k0_pay2 (iblk m c 0 t) acc (iblk m c 1 t) y = acc y + part m c t y := by
  idx_vars y
  rw [pay2_at]
  unfold part
  exact congrArg _ (Finset.sum_congr rfl fun r _ => congrArg₂ term (a_at m c t r y0) (b_at m c t r y1))

/-- The parts of a block make up the whole entry. -/
theorem parts (c : Dev nD) (t : Fin cfg0.N) (z : S2048x1024.Idx) (i : Fin 1024) (j : Fin 1024) (h0 : (z 0).val = t.val * 1024 + i.val) (h1 : (z 1).val = j.val) :
    part m c t (ix2 i j) = Out (argA m c) (argB m c) z := by
  unfold part Out
  refine Finset.sum_congr rfl fun r _ => ?_
  refine congrArg₂ term (congrArg (argA m c) (congrArg₂ ix2 (Fin.ext ?_) (Fin.ext ?_))) (congrArg (argB m c) (congrArg₂ ix2 (Fin.ext ?_) (Fin.ext ?_)))
  · rfl
  · exact h0.symm
  · rfl
  · exact h1.symm

theorem point (c : Dev nD) (t : Fin cfg0.N) : outsAt0 m c t = k0_pay3 (k0_pay2 (iblk m c 0 t) (k0_pay1 (F := Ideal)) (iblk m c 1 t)) := by
  unfold outsAt0
  funext y
  frame_out

theorem final (c : Dev nD) : (dats m 0 c).arrAt 2 (cfgs 0).N = Out (argA m c) (argB m c) := by
  refine (dats m 0 c).arrAt_eq_of_covers 2 _ (by decide +kernel) fun t hf y => ?_
  blk_simp
  rw [after0_2, point]
  idx_vars y
  rw [pay3_at, step, pay1_at, zero_add]
  refine parts m c t _ y0 y1 ?_ ?_ <;> (blk_simp [idx t] <;> try omega)

end Cert.DWmemValue

end
-- ==== Proof.DWmemRef.lean ====
module

public import proofs.«01_k».proof.Proof.Gen.Reference16Ideal.Run
public import proofs.«01_k».proof.Proof.DWmemValue

@[expose] public section

set_option maxRecDepth 16384

noncomputable section

namespace Cert.DWmemValue.Ref

open Idealize.ShloMosaic Idealize.ShloMosaic.TcCoe
open Cert.Reference16Ideal Cert.Reference16Ideal.Gen

/-- The reference's gradient of the memory's projection, entry by entry. -/
theorem ref_eq (a : FVec Ideal S256x2048 .f32) (b : FVec Ideal S256x1024 .f32) :
    truncf .bf16 (transpose S2048x1024 [1, 0] (Host.dotGeneral dot_S256x1024_S256x2048_S1024x2048_0_0_1_1_n_n none b a) transposes_S1024x2048_S2048x1024_1_0) bitsLt_bf16_f32
      = Out a b := by
  funext y
  idx_vars y
  unfold Out term
  refine Eq.trans ?_ (Finset.sum_congr rfl fun r _ => mul_comm (show EReal from b (ix2 r y1)) ((show EReal from a (ix2 r y0))))
  pointwise

end Cert.DWmemValue.Ref

end
-- ==== Proof.FW1Value.lean ====
module

public import proofs.«01_k».proof.Proof.Gen.Kernel17Ideal.Value
public import Idealize.ShloMosaic.Lib.Pipeline.ValueKit
public import Idealize.ShloMosaic.Lib.Pipeline.ReadBack

@[expose] public section

set_option maxRecDepth 16384

noncomputable section

namespace Cert.FW1Value

open Idealize.ShloMosaic Idealize.ShloMosaic.TcCoe Idealize.SL.Sem
open Idealize.ShloMosaic.Pipeline (Dat)
open Cert.Kernel17Ideal Cert.Kernel17Ideal.Gen

/-- One summand: the product of the two operands. -/
def term (a g : EReal) : EReal := a * g

/-- The hidden values, entry by entry. -/
def Out (A : FVec Ideal S8192x2048 .bf16) (B : FVec Ideal S2048x8192 .bf16) : FVec Ideal S8192x8192 .f32 :=
  fun i => ∑ r : Fin 2048, term (A (ix2 (i 0) r)) (B (ix2 r (i 1)))

theorem pay1_at (i : Fin 512) (j : Fin 1024) : k0_pay1 (F := Ideal) (ix2 i j) = 0 := by
  pointwise [k0_pay1]

theorem pay2_at (a : FVec Ideal S512x2048 .bf16) (acc : FVec Ideal S512x1024 .f32) (g : FVec Ideal S2048x1024 .bf16) (i : Fin 512) (j : Fin 1024) :
    k0_pay2 a acc g (ix2 i j) = acc (ix2 i j) + ∑ r : Fin 2048, term (a (ix2 i r)) (g (ix2 r j)) := by
  unfold term
  pointwise [k0_pay2]

variable (m : (ℓ : Loc nD τ sig) → Buf (Elt Ideal) ℓ)

/-- The layer's input, as launched. -/
abbrev argA (c : Dev nD) : FVec Ideal S8192x2048 .bf16 := m ((c : Thread nD τ).loc main_arg0)
/-- The first matrix, as launched. -/
abbrev argB (c : Dev nD) : FVec Ideal S2048x8192 .bf16 := m ((c : Thread nD τ).loc main_arg1)

theorem idx : ∀ t : Fin cfg0.N, win0_0.index t = ![t.val / 8, 0] ∧ win0_1.index t = ![0, t.val % 8] ∧ win0_2.index t = ![t.val / 8, t.val % 8] ∧ t.val < 128 :=
  (by decide +kernel : ∀ t : Fin grid0.N, _)

theorem a_at (c : Dev nD) (t : Fin cfg0.N) (r : Fin 2048) (i : Fin 512) :
    (show FVec Ideal S512x2048 .bf16 from iblk m c 0 t) (ix2 i r) = argA m c (ix2 ⟨t.val / 8 * 512 + i.val, by have := (idx t).2.2.2; omega⟩ r) := by
  blk_ext [iblk, V, idx t]

theorem b_at (c : Dev nD) (t : Fin cfg0.N) (r : Fin 2048) (j : Fin 1024) :
    (show FVec Ideal S2048x1024 .bf16 from iblk m c 1 t) (ix2 r j) = argB m c (ix2 r ⟨t.val % 8 * 1024 + j.val, by have := (idx t).2.2.2; omega⟩) := by
  blk_ext [iblk, V, idx t]

/-- One step's part of a block of the sum. -/
def part (c : Dev nD) (t : Fin cfg0.N) (y : S512x1024.Idx) : EReal :=
  ∑ r : Fin 2048, term (argA m c (ix2 ⟨t.val / 8 * 512 + (y 0).val, by have := (idx t).2.2.2; have : (y 0).val < 512 := (y 0).isLt; omega⟩ r))
    (argB m c (ix2 r ⟨t.val % 8 * 1024 + (y 1).val, by have := (idx t).2.2.2; have : (y 1).val < 1024 := (y 1).isLt; omega⟩))

theorem step (c : Dev nD) (t : Fin cfg0.N) (acc : FVec Ideal S512x1024 .f32) (y : S512x1024.Idx) :
    k0_pay2 (iblk m c 0 t) acc (iblk m c 1 t) y = acc y + part m c t y := by
  idx_vars y
  rw [pay2_at]
  unfold part
  exact congrArg _ (Finset.sum_congr rfl fun r _ => congrArg₂ term (a_at m c t r y0) (b_at m c t r y1))

/-- The parts of a block make up the whole entry. -/
theorem parts (c : Dev nD) (t : Fin cfg0.N) (z : S8192x8192.Idx) (i : Fin 512) (j : Fin 1024) (h0 : (z 0).val = t.val / 8 * 512 + i.val) (h1 : (z 1).val = t.val % 8 * 1024 + j.val) :
    part m c t (ix2 i j) = Out (argA m c) (argB m c) z := by
  unfold part Out
  refine Finset.sum_congr rfl fun r _ => ?_
  refine congrArg₂ term (congrArg (argA m c) (congrArg₂ ix2 (Fin.ext ?_) (Fin.ext ?_))) (congrArg (argB m c) (congrArg₂ ix2 (Fin.ext ?_) (Fin.ext ?_)))
  · exact h0.symm
  · rfl
  · rfl
  · exact h1.symm

theorem point (c : Dev nD) (t : Fin cfg0.N) : outsAt0 m c t = k0_pay2 (iblk m c 0 t) (k0_pay1 (F := Ideal)) (iblk m c 1 t) := by
  unfold outsAt0
  funext y
  frame_out

theorem final (c : Dev nD) : (dats m 0 c).arrAt 2 (cfgs 0).N = Out (argA m c) (argB m c) := by
  refine (dats m 0 c).arrAt_eq_of_covers 2 _ (by decide +kernel) fun t hf y => ?_
  blk_simp
  rw [after0_2, point]
  idx_vars y
  rw [step, pay1_at, zero_add]
  refine parts m c t _ y0 y1 ?_ ?_ <;> (blk_simp [idx t] <;> try omega)

end Cert.FW1Value

end
-- ==== Proof.FW1Ref.lean ====
module

public import proofs.«01_k».proof.Proof.Gen.Reference17Ideal.Run
public import proofs.«01_k».proof.Proof.FW1Value

@[expose] public section

set_option maxRecDepth 16384

noncomputable section

namespace Cert.FW1Value.Ref

open Idealize.ShloMosaic Idealize.ShloMosaic.TcCoe
open Cert.Reference17Ideal Cert.Reference17Ideal.Gen

/-- The reference's hidden values, entry by entry. -/
theorem ref_eq (a : FVec Ideal S8192x2048 .bf16) (b : FVec Ideal S2048x8192 .bf16) :
    Host.dotGeneral dot_S8192x2048_S2048x8192_S8192x8192_1_0_0_1_n_n none (extf .f32 a bitsLt_bf16_f32) (extf .f32 b bitsLt_bf16_f32)
      = Out a b := by
  funext y
  idx_vars y
  unfold Out term
  pointwise

end Cert.FW1Value.Ref

end
-- ==== Proof.FW2Value.lean ====
module

public import proofs.«01_k».proof.Proof.Gen.Kernel18Ideal.Value
public import Idealize.ShloMosaic.Lib.Pipeline.ValueKit
public import Idealize.ShloMosaic.Lib.Pipeline.ReadBack

@[expose] public section

set_option maxRecDepth 16384

noncomputable section

namespace Cert.FW2Value

open Idealize.ShloMosaic Idealize.ShloMosaic.TcCoe Idealize.SL.Sem
open Idealize.ShloMosaic.Pipeline (Dat)
open Cert.Kernel18Ideal Cert.Kernel18Ideal.Gen

/-- One summand: the squared positive part of the first operand, times the second. -/
def term (a g : EReal) : EReal := max a 0 * max a 0 * g

/-- The output of the squared-ReLU layer, entry by entry. -/
def Out (A : FVec Ideal S8192x8192 .f32) (B : FVec Ideal S8192x2048 .bf16) : FVec Ideal S8192x2048 .f32 :=
  fun i => ∑ r : Fin 8192, term (A (ix2 (i 0) r)) (B (ix2 r (i 1)))

theorem pay1_at (i : Fin 1024) (j : Fin 1024) : k0_pay1 (F := Ideal) (ix2 i j) = 0 := by
  pointwise [k0_pay1]

theorem pay2_at (a : FVec Ideal S1024x1024 .f32) (acc : FVec Ideal S1024x1024 .f32) (g : FVec Ideal S1024x1024 .bf16) (i : Fin 1024) (j : Fin 1024) :
    k0_pay2 a acc g (ix2 i j) = acc (ix2 i j) + ∑ r : Fin 1024, term (a (ix2 i r)) (g (ix2 r j)) := by
  unfold term
  pointwise [k0_pay2]

variable (m : (ℓ : Loc nD τ sig) → Buf (Elt Ideal) ℓ)

/-- The hidden values, as launched. -/
abbrev argA (c : Dev nD) : FVec Ideal S8192x8192 .f32 := m ((c : Thread nD τ).loc main_arg0)
/-- The second matrix, as launched. -/
abbrev argB (c : Dev nD) : FVec Ideal S8192x2048 .bf16 := m ((c : Thread nD τ).loc main_arg1)

theorem idx : ∀ t : Fin cfg0.N, win0_0.index t = ![t.val / 16, t.val % 8] ∧ win0_1.index t = ![t.val % 8, t.val / 8 % 2] ∧ win0_2.index t = ![t.val / 16, t.val / 8 % 2] ∧ t.val < 128 :=
  (by decide +kernel : ∀ t : Fin grid0.N, _)

theorem a_at (c : Dev nD) (t : Fin cfg0.N) (r : Fin 1024) (i : Fin 1024) :
    (show FVec Ideal S1024x1024 .f32 from iblk m c 0 t) (ix2 i r) = argA m c (ix2 ⟨t.val / 16 * 1024 + i.val, by have := (idx t).2.2.2; omega⟩ ⟨t.val % 8 * 1024 + r.val, by have := (idx t).2.2.2; omega⟩) := by
  blk_ext [iblk, V, idx t]

theorem b_at (c : Dev nD) (t : Fin cfg0.N) (r : Fin 1024) (j : Fin 1024) :
    (show FVec Ideal S1024x1024 .bf16 from iblk m c 1 t) (ix2 r j) = argB m c (ix2 ⟨t.val % 8 * 1024 + r.val, by have := (idx t).2.2.2; omega⟩ ⟨t.val / 8 % 2 * 1024 + j.val, by have := (idx t).2.2.2; omega⟩) := by
  blk_ext [iblk, V, idx t]

/-- One step's part of a block of the sum. -/
def part (c : Dev nD) (t : Fin cfg0.N) (y : S1024x1024.Idx) : EReal :=
  ∑ r : Fin 1024, term (argA m c (ix2 ⟨t.val / 16 * 1024 + (y 0).val, by have := (idx t).2.2.2; have : (y 0).val < 1024 := (y 0).isLt; omega⟩ ⟨t.val % 8 * 1024 + r.val, by have := (idx t).2.2.2; omega⟩))
    (argB m c (ix2 ⟨t.val % 8 * 1024 + r.val, by have := (idx t).2.2.2; omega⟩ ⟨t.val / 8 % 2 * 1024 + (y 1).val, by have := (idx t).2.2.2; have : (y 1).val < 1024 := (y 1).isLt; omega⟩))

theorem step (c : Dev nD) (t : Fin cfg0.N) (acc : FVec Ideal S1024x1024 .f32) (y : S1024x1024.Idx) :
    k0_pay2 (iblk m c 0 t) acc (iblk m c 1 t) y = acc y + part m c t y := by
  idx_vars y
  rw [pay2_at]
  unfold part
  exact congrArg _ (Finset.sum_congr rfl fun r _ => congrArg₂ term (a_at m c t r y0) (b_at m c t r y1))

theorem first (c : Dev nD) (t : Fin cfg0.N) (h : t.val % 8 = 0) (y : S1024x1024.Idx) : (outsAt0 m c t.val t.isLt).2 y = 0 + part m c t y := by
  rw [outsAt0_A m c t h (by omega)]
  frame_out
  rw [step]
  idx_vars y
  rw [pay1_at]

theorem later (c : Dev nD) (t : Fin cfg0.N) (h : ¬ t.val % 8 = 0) (y : S1024x1024.Idx) :
    (outsAt0 m c t.val t.isLt).2 y = (outsAt0 m c (t.val - 1) (Nat.lt_of_le_of_lt (Nat.sub_le _ _) t.isLt)).2 y + part m c t y := by
  by_cases h1 : t.val % 8 = 7
  · rw [outsAt0_C m c t h h1]
    frame_out
    rw [step, read_unread_whole]
  · rw [outsAt0_B m c t h h1]
    frame_out
    rw [step, read_unread_whole]

theorem last (c : Dev nD) (t : Fin cfg0.N) (h : t.val % 8 = 7) (y : S1024x1024.Idx) :
    (outsAt0 m c t.val t.isLt).1 y = (outsAt0 m c t.val t.isLt).2 y := by
  rw [outsAt0_C m c t (by omega) h]
  frame_out

/-- The parts of a block make up the whole entry. -/
theorem parts (c : Dev nD) (t : Fin cfg0.N) (z : S8192x2048.Idx) (i : Fin 1024) (j : Fin 1024) (h0 : (z 0).val = t.val / 16 * 1024 + i.val) (h1 : (z 1).val = t.val / 8 % 2 * 1024 + j.val) :
    ∑ s : Fin 8, part m c ⟨8 * (t.val / 8) + s.val, by have := (idx t).2.2.2; show _ < 128; omega⟩ (ix2 i j) = Out (argA m c) (argB m c) z := by
  unfold part Out
  refine Fin.sum_mul_add_congr fun s r hr => ?_
  have hs : (8 * (t.val / 8) + s.val) % 8 = s.val := by omega
  refine congrArg₂ term (congrArg (argA m c) (congrArg₂ ix2 (Fin.ext ?_) (Fin.ext ?_))) (congrArg (argB m c) (congrArg₂ ix2 (Fin.ext ?_) (Fin.ext ?_)))
  · show (8 * (t.val / 8) + s.val) / 16 * 1024 + i.val = _
    rw [h0]
    omega
  · show (8 * (t.val / 8) + s.val) % 8 * 1024 + r.val = _
    rw [hs]
  · show (8 * (t.val / 8) + s.val) % 8 * 1024 + r.val = _
    rw [hs]
  · show (8 * (t.val / 8) + s.val) / 8 % 2 * 1024 + j.val = _
    rw [h1]
    omega

theorem final (c : Dev nD) : (dats m 0 c).arrAt 2 (cfgs 0).N = Out (argA m c) (argB m c) := by
  refine (dats m 0 c).arrAt_eq_of_covers 2 _ (by decide +kernel) fun t hf y => ?_
  blk_simp
  have hl : t.val % 8 = 7 := (flush0_2 t).mp hf
  rw [after0_2, last m c t hl]
  idx_vars y
  rw [Pipeline.eq_sum_fin_of_reset_step_apply_of_flush (fun n h => (outsAt0 m c n h).2) 8 (fun _ => 0) (fun t j => part m c t j)
    (fun t h j => first m c t h j) (fun t h j => later m c t h j) t hl, zero_add]
  refine parts m c t _ y0 y1 ?_ ?_ <;> (blk_simp [idx t] <;> try omega)

end Cert.FW2Value

end
-- ==== Proof.FW2Ref.lean ====
module

public import proofs.«01_k».proof.Proof.Gen.Reference18Ideal.Run
public import proofs.«01_k».proof.Proof.FW2Value

@[expose] public section

set_option maxRecDepth 16384

noncomputable section

namespace Cert.FW2Value.Ref

open Idealize.ShloMosaic Idealize.ShloMosaic.TcCoe
open Cert.Reference18Ideal Cert.Reference18Ideal.Gen

/-- The reference's output of the squared-ReLU layer, entry by entry. -/
theorem ref_eq (a : FVec Ideal S8192x8192 .f32) (b : FVec Ideal S8192x2048 .bf16) :
    Host.dotGeneral dot_S8192x8192_S8192x2048_S8192x2048_1_0_0_1_n_n none (mulf (maximumf a (broadcastInDim S8192x8192 ![] bcast_S_S8192x8192 (constant S_ .f32 0x00000000#32))) (maximumf a (broadcastInDim S8192x8192 ![] bcast_S_S8192x8192 (constant S_ .f32 0x00000000#32)))) (extf .f32 b bitsLt_bf16_f32)
      = Out a b := by
  funext y
  idx_vars y
  unfold Out term
  pointwise

end Cert.FW2Value.Ref

end
-- ==== Proof.FOutValue.lean ====
module

public import proofs.«01_k».proof.Proof.Gen.Kernel19Ideal.Value
public import Idealize.ShloMosaic.Lib.Pipeline.ValueKit
public import Idealize.ShloMosaic.Lib.Pipeline.ReadBack

@[expose] public section

set_option maxRecDepth 16384

noncomputable section

namespace Cert.FOutValue

open Idealize.ShloMosaic Idealize.ShloMosaic.TcCoe Idealize.SL.Sem
open Idealize.ShloMosaic.Pipeline (Dat)
open Cert.Kernel19Ideal Cert.Kernel19Ideal.Gen

/-- One summand: the product of the two operands. -/
def term (a g : EReal) : EReal := a * g

/-- The output projection, entry by entry. -/
def Out (A : FVec Ideal S8192x2048 .bf16) (B : FVec Ideal S2048x2048 .bf16) : FVec Ideal S8192x2048 .f32 :=
  fun i => ∑ r : Fin 2048, term (A (ix2 (i 0) r)) (B (ix2 r (i 1)))

theorem pay1_at (i : Fin 512) (j : Fin 1024) : k0_pay1 (F := Ideal) (ix2 i j) = 0 := by
  pointwise [k0_pay1]

theorem pay2_at (a : FVec Ideal S512x2048 .bf16) (acc : FVec Ideal S512x1024 .f32) (g : FVec Ideal S2048x1024 .bf16) (i : Fin 512) (j : Fin 1024) :
    k0_pay2 a acc g (ix2 i j) = acc (ix2 i j) + ∑ r : Fin 2048, term (a (ix2 i r)) (g (ix2 r j)) := by
  unfold term
  pointwise [k0_pay2]

variable (m : (ℓ : Loc nD τ sig) → Buf (Elt Ideal) ℓ)

/-- The mixed heads, as launched. -/
abbrev argA (c : Dev nD) : FVec Ideal S8192x2048 .bf16 := m ((c : Thread nD τ).loc main_arg0)
/-- The projection's matrix, as launched. -/
abbrev argB (c : Dev nD) : FVec Ideal S2048x2048 .bf16 := m ((c : Thread nD τ).loc main_arg1)

theorem idx : ∀ t : Fin cfg0.N, win0_0.index t = ![t.val / 2, 0] ∧ win0_1.index t = ![0, t.val % 2] ∧ win0_2.index t = ![t.val / 2, t.val % 2] ∧ t.val < 32 :=
  (by decide +kernel : ∀ t : Fin grid0.N, _)

theorem a_at (c : Dev nD) (t : Fin cfg0.N) (r : Fin 2048) (i : Fin 512) :
    (show FVec Ideal S512x2048 .bf16 from iblk m c 0 t) (ix2 i r) = argA m c (ix2 ⟨t.val / 2 * 512 + i.val, by have := (idx t).2.2.2; omega⟩ r) := by
  blk_ext [iblk, V, idx t]

theorem b_at (c : Dev nD) (t : Fin cfg0.N) (r : Fin 2048) (j : Fin 1024) :
    (show FVec Ideal S2048x1024 .bf16 from iblk m c 1 t) (ix2 r j) = argB m c (ix2 r ⟨t.val % 2 * 1024 + j.val, by have := (idx t).2.2.2; omega⟩) := by
  blk_ext [iblk, V, idx t]

/-- One step's part of a block of the sum. -/
def part (c : Dev nD) (t : Fin cfg0.N) (y : S512x1024.Idx) : EReal :=
  ∑ r : Fin 2048, term (argA m c (ix2 ⟨t.val / 2 * 512 + (y 0).val, by have := (idx t).2.2.2; have : (y 0).val < 512 := (y 0).isLt; omega⟩ r))
    (argB m c (ix2 r ⟨t.val % 2 * 1024 + (y 1).val, by have := (idx t).2.2.2; have : (y 1).val < 1024 := (y 1).isLt; omega⟩))

theorem step (c : Dev nD) (t : Fin cfg0.N) (acc : FVec Ideal S512x1024 .f32) (y : S512x1024.Idx) :
    k0_pay2 (iblk m c 0 t) acc (iblk m c 1 t) y = acc y + part m c t y := by
  idx_vars y
  rw [pay2_at]
  unfold part
  exact congrArg _ (Finset.sum_congr rfl fun r _ => congrArg₂ term (a_at m c t r y0) (b_at m c t r y1))

/-- The parts of a block make up the whole entry. -/
theorem parts (c : Dev nD) (t : Fin cfg0.N) (z : S8192x2048.Idx) (i : Fin 512) (j : Fin 1024) (h0 : (z 0).val = t.val / 2 * 512 + i.val) (h1 : (z 1).val = t.val % 2 * 1024 + j.val) :
    part m c t (ix2 i j) = Out (argA m c) (argB m c) z := by
  unfold part Out
  refine Finset.sum_congr rfl fun r _ => ?_
  refine congrArg₂ term (congrArg (argA m c) (congrArg₂ ix2 (Fin.ext ?_) (Fin.ext ?_))) (congrArg (argB m c) (congrArg₂ ix2 (Fin.ext ?_) (Fin.ext ?_)))
  · exact h0.symm
  · rfl
  · rfl
  · exact h1.symm

theorem point (c : Dev nD) (t : Fin cfg0.N) : outsAt0 m c t = k0_pay2 (iblk m c 0 t) (k0_pay1 (F := Ideal)) (iblk m c 1 t) := by
  unfold outsAt0
  funext y
  frame_out

theorem final (c : Dev nD) : (dats m 0 c).arrAt 2 (cfgs 0).N = Out (argA m c) (argB m c) := by
  refine (dats m 0 c).arrAt_eq_of_covers 2 _ (by decide +kernel) fun t hf y => ?_
  blk_simp
  rw [after0_2, point]
  idx_vars y
  rw [step, pay1_at, zero_add]
  refine parts m c t _ y0 y1 ?_ ?_ <;> (blk_simp [idx t] <;> try omega)

end Cert.FOutValue

end
-- ==== Proof.FOutRef.lean ====
module

public import proofs.«01_k».proof.Proof.Gen.Reference19Ideal.Run
public import proofs.«01_k».proof.Proof.FOutValue

@[expose] public section

set_option maxRecDepth 16384

noncomputable section

namespace Cert.FOutValue.Ref

open Idealize.ShloMosaic Idealize.ShloMosaic.TcCoe
open Cert.Reference19Ideal Cert.Reference19Ideal.Gen

/-- The reference's output projection, entry by entry. -/
theorem ref_eq (a : FVec Ideal S8192x2048 .bf16) (b : FVec Ideal S2048x2048 .bf16) :
    Host.dotGeneral dot_S8192x2048_S2048x2048_S8192x2048_1_0_0_1_n_n none (extf .f32 a bitsLt_bf16_f32) (extf .f32 b bitsLt_bf16_f32)
      = Out a b := by
  funext y
  idx_vars y
  unfold Out term
  pointwise

end Cert.FOutValue.Ref

end
-- ==== Proof.FInGdnValue.lean ====
module

public import proofs.«01_k».proof.Proof.Gen.Kernel20Ideal.Value
public import Idealize.ShloMosaic.Lib.Pipeline.ValueKit
public import Idealize.ShloMosaic.Lib.Pipeline.ReadBack

@[expose] public section

set_option maxRecDepth 16384

noncomputable section

namespace Cert.FInGdnValue

open Idealize.ShloMosaic Idealize.ShloMosaic.TcCoe Idealize.SL.Sem
open Idealize.ShloMosaic.Pipeline (Dat)
open Cert.Kernel20Ideal Cert.Kernel20Ideal.Gen

/-- One summand: the product of the two operands. -/
def term (a g : EReal) : EReal := a * g

/-- The delta layer's input projection, entry by entry. -/
def Out (A : FVec Ideal S8192x2048 .bf16) (B : FVec Ideal S2048x6912 .bf16) : FVec Ideal S8192x6912 .f32 :=
  fun i => ∑ r : Fin 2048, term (A (ix2 (i 0) r)) (B (ix2 r (i 1)))

theorem pay1_at (i : Fin 512) (j : Fin 768) : k0_pay1 (F := Ideal) (ix2 i j) = 0 := by
  pointwise [k0_pay1]

theorem pay2_at (a : FVec Ideal S512x2048 .bf16) (acc : FVec Ideal S512x768 .f32) (g : FVec Ideal S2048x768 .bf16) (i : Fin 512) (j : Fin 768) :
    k0_pay2 a acc g (ix2 i j) = acc (ix2 i j) + ∑ r : Fin 2048, term (a (ix2 i r)) (g (ix2 r j)) := by
  unfold term
  pointwise [k0_pay2]

variable (m : (ℓ : Loc nD τ sig) → Buf (Elt Ideal) ℓ)

/-- The layer's input, as launched. -/
abbrev argA (c : Dev nD) : FVec Ideal S8192x2048 .bf16 := m ((c : Thread nD τ).loc main_arg0)
/-- The projection's matrix, as launched. -/
abbrev argB (c : Dev nD) : FVec Ideal S2048x6912 .bf16 := m ((c : Thread nD τ).loc main_arg1)

theorem idx : ∀ t : Fin cfg0.N, win0_0.index t = ![t.val / 9, 0] ∧ win0_1.index t = ![0, t.val % 9] ∧ win0_2.index t = ![t.val / 9, t.val % 9] ∧ t.val < 144 :=
  (by decide +kernel : ∀ t : Fin grid0.N, _)

theorem a_at (c : Dev nD) (t : Fin cfg0.N) (r : Fin 2048) (i : Fin 512) :
    (show FVec Ideal S512x2048 .bf16 from iblk m c 0 t) (ix2 i r) = argA m c (ix2 ⟨t.val / 9 * 512 + i.val, by have := (idx t).2.2.2; omega⟩ r) := by
  blk_ext [iblk, V, idx t]

theorem b_at (c : Dev nD) (t : Fin cfg0.N) (r : Fin 2048) (j : Fin 768) :
    (show FVec Ideal S2048x768 .bf16 from iblk m c 1 t) (ix2 r j) = argB m c (ix2 r ⟨t.val % 9 * 768 + j.val, by have := (idx t).2.2.2; omega⟩) := by
  blk_ext [iblk, V, idx t]

/-- One step's part of a block of the sum. -/
def part (c : Dev nD) (t : Fin cfg0.N) (y : S512x768.Idx) : EReal :=
  ∑ r : Fin 2048, term (argA m c (ix2 ⟨t.val / 9 * 512 + (y 0).val, by have := (idx t).2.2.2; have : (y 0).val < 512 := (y 0).isLt; omega⟩ r))
    (argB m c (ix2 r ⟨t.val % 9 * 768 + (y 1).val, by have := (idx t).2.2.2; have : (y 1).val < 768 := (y 1).isLt; omega⟩))

theorem step (c : Dev nD) (t : Fin cfg0.N) (acc : FVec Ideal S512x768 .f32) (y : S512x768.Idx) :
    k0_pay2 (iblk m c 0 t) acc (iblk m c 1 t) y = acc y + part m c t y := by
  idx_vars y
  rw [pay2_at]
  unfold part
  exact congrArg _ (Finset.sum_congr rfl fun r _ => congrArg₂ term (a_at m c t r y0) (b_at m c t r y1))

/-- The parts of a block make up the whole entry. -/
theorem parts (c : Dev nD) (t : Fin cfg0.N) (z : S8192x6912.Idx) (i : Fin 512) (j : Fin 768) (h0 : (z 0).val = t.val / 9 * 512 + i.val) (h1 : (z 1).val = t.val % 9 * 768 + j.val) :
    part m c t (ix2 i j) = Out (argA m c) (argB m c) z := by
  unfold part Out
  refine Finset.sum_congr rfl fun r _ => ?_
  refine congrArg₂ term (congrArg (argA m c) (congrArg₂ ix2 (Fin.ext ?_) (Fin.ext ?_))) (congrArg (argB m c) (congrArg₂ ix2 (Fin.ext ?_) (Fin.ext ?_)))
  · exact h0.symm
  · rfl
  · rfl
  · exact h1.symm

theorem point (c : Dev nD) (t : Fin cfg0.N) : outsAt0 m c t = k0_pay2 (iblk m c 0 t) (k0_pay1 (F := Ideal)) (iblk m c 1 t) := by
  unfold outsAt0
  funext y
  frame_out

theorem final (c : Dev nD) : (dats m 0 c).arrAt 2 (cfgs 0).N = Out (argA m c) (argB m c) := by
  refine (dats m 0 c).arrAt_eq_of_covers 2 _ (by decide +kernel) fun t hf y => ?_
  blk_simp
  rw [after0_2, point]
  idx_vars y
  rw [step, pay1_at, zero_add]
  refine parts m c t _ y0 y1 ?_ ?_ <;> (blk_simp [idx t] <;> try omega)

end Cert.FInGdnValue

end
-- ==== Proof.FInGdnRef.lean ====
module

public import proofs.«01_k».proof.Proof.Gen.Reference20Ideal.Run
public import proofs.«01_k».proof.Proof.FInGdnValue

@[expose] public section

set_option maxRecDepth 16384

noncomputable section

namespace Cert.FInGdnValue.Ref

open Idealize.ShloMosaic Idealize.ShloMosaic.TcCoe
open Cert.Reference20Ideal Cert.Reference20Ideal.Gen

/-- The reference's delta layer's input projection, entry by entry. -/
theorem ref_eq (a : FVec Ideal S8192x2048 .bf16) (b : FVec Ideal S2048x6912 .bf16) :
    Host.dotGeneral dot_S8192x2048_S2048x6912_S8192x6912_1_0_0_1_n_n none (extf .f32 a bitsLt_bf16_f32) (extf .f32 b bitsLt_bf16_f32)
      = Out a b := by
  funext y
  idx_vars y
  unfold Out term
  pointwise

end Cert.FInGdnValue.Ref

end
-- ==== Proof.FInMlaValue.lean ====
module

public import proofs.«01_k».proof.Proof.Gen.Kernel21Ideal.Value
public import Idealize.ShloMosaic.Lib.Pipeline.ValueKit
public import Idealize.ShloMosaic.Lib.Pipeline.ReadBack

@[expose] public section

set_option maxRecDepth 16384

noncomputable section

namespace Cert.FInMlaValue

open Idealize.ShloMosaic Idealize.ShloMosaic.TcCoe Idealize.SL.Sem
open Idealize.ShloMosaic.Pipeline (Dat)
open Cert.Kernel21Ideal Cert.Kernel21Ideal.Gen

/-- One summand: the product of the two operands. -/
def term (a g : EReal) : EReal := a * g

/-- The latent layer's input projection, entry by entry. -/
def Out (A : FVec Ideal S8192x2048 .bf16) (B : FVec Ideal S2048x1792 .bf16) : FVec Ideal S8192x1792 .f32 :=
  fun i => ∑ r : Fin 2048, term (A (ix2 (i 0) r)) (B (ix2 r (i 1)))

theorem pay1_at (i : Fin 512) (j : Fin 256) : k0_pay1 (F := Ideal) (ix2 i j) = 0 := by
  pointwise [k0_pay1]

theorem pay2_at (a : FVec Ideal S512x2048 .bf16) (acc : FVec Ideal S512x256 .f32) (g : FVec Ideal S2048x256 .bf16) (i : Fin 512) (j : Fin 256) :
    k0_pay2 a acc g (ix2 i j) = acc (ix2 i j) + ∑ r : Fin 2048, term (a (ix2 i r)) (g (ix2 r j)) := by
  unfold term
  pointwise [k0_pay2]

variable (m : (ℓ : Loc nD τ sig) → Buf (Elt Ideal) ℓ)

/-- The layer's input, as launched. -/
abbrev argA (c : Dev nD) : FVec Ideal S8192x2048 .bf16 := m ((c : Thread nD τ).loc main_arg0)
/-- The projection's matrix, as launched. -/
abbrev argB (c : Dev nD) : FVec Ideal S2048x1792 .bf16 := m ((c : Thread nD τ).loc main_arg1)

theorem idx : ∀ t : Fin cfg0.N, win0_0.index t = ![t.val / 7, 0] ∧ win0_1.index t = ![0, t.val % 7] ∧ win0_2.index t = ![t.val / 7, t.val % 7] ∧ t.val < 112 :=
  (by decide +kernel : ∀ t : Fin grid0.N, _)

theorem a_at (c : Dev nD) (t : Fin cfg0.N) (r : Fin 2048) (i : Fin 512) :
    (show FVec Ideal S512x2048 .bf16 from iblk m c 0 t) (ix2 i r) = argA m c (ix2 ⟨t.val / 7 * 512 + i.val, by have := (idx t).2.2.2; omega⟩ r) := by
  blk_ext [iblk, V, idx t]

theorem b_at (c : Dev nD) (t : Fin cfg0.N) (r : Fin 2048) (j : Fin 256) :
    (show FVec Ideal S2048x256 .bf16 from iblk m c 1 t) (ix2 r j) = argB m c (ix2 r ⟨t.val % 7 * 256 + j.val, by have := (idx t).2.2.2; omega⟩) := by
  blk_ext [iblk, V, idx t]

/-- One step's part of a block of the sum. -/
def part (c : Dev nD) (t : Fin cfg0.N) (y : S512x256.Idx) : EReal :=
  ∑ r : Fin 2048, term (argA m c (ix2 ⟨t.val / 7 * 512 + (y 0).val, by have := (idx t).2.2.2; have : (y 0).val < 512 := (y 0).isLt; omega⟩ r))
    (argB m c (ix2 r ⟨t.val % 7 * 256 + (y 1).val, by have := (idx t).2.2.2; have : (y 1).val < 256 := (y 1).isLt; omega⟩))

theorem step (c : Dev nD) (t : Fin cfg0.N) (acc : FVec Ideal S512x256 .f32) (y : S512x256.Idx) :
    k0_pay2 (iblk m c 0 t) acc (iblk m c 1 t) y = acc y + part m c t y := by
  idx_vars y
  rw [pay2_at]
  unfold part
  exact congrArg _ (Finset.sum_congr rfl fun r _ => congrArg₂ term (a_at m c t r y0) (b_at m c t r y1))

/-- The parts of a block make up the whole entry. -/
theorem parts (c : Dev nD) (t : Fin cfg0.N) (z : S8192x1792.Idx) (i : Fin 512) (j : Fin 256) (h0 : (z 0).val = t.val / 7 * 512 + i.val) (h1 : (z 1).val = t.val % 7 * 256 + j.val) :
    part m c t (ix2 i j) = Out (argA m c) (argB m c) z := by
  unfold part Out
  refine Finset.sum_congr rfl fun r _ => ?_
  refine congrArg₂ term (congrArg (argA m c) (congrArg₂ ix2 (Fin.ext ?_) (Fin.ext ?_))) (congrArg (argB m c) (congrArg₂ ix2 (Fin.ext ?_) (Fin.ext ?_)))
  · exact h0.symm
  · rfl
  · rfl
  · exact h1.symm

theorem point (c : Dev nD) (t : Fin cfg0.N) : outsAt0 m c t = k0_pay2 (iblk m c 0 t) (k0_pay1 (F := Ideal)) (iblk m c 1 t) := by
  unfold outsAt0
  funext y
  frame_out

theorem final (c : Dev nD) : (dats m 0 c).arrAt 2 (cfgs 0).N = Out (argA m c) (argB m c) := by
  refine (dats m 0 c).arrAt_eq_of_covers 2 _ (by decide +kernel) fun t hf y => ?_
  blk_simp
  rw [after0_2, point]
  idx_vars y
  rw [step, pay1_at, zero_add]
  refine parts m c t _ y0 y1 ?_ ?_ <;> (blk_simp [idx t] <;> try omega)

end Cert.FInMlaValue

end
-- ==== Proof.FInMlaRef.lean ====
module

public import proofs.«01_k».proof.Proof.Gen.Reference21Ideal.Run
public import proofs.«01_k».proof.Proof.FInMlaValue

@[expose] public section

set_option maxRecDepth 16384

noncomputable section

namespace Cert.FInMlaValue.Ref

open Idealize.ShloMosaic Idealize.ShloMosaic.TcCoe
open Cert.Reference21Ideal Cert.Reference21Ideal.Gen

/-- The reference's latent layer's input projection, entry by entry. -/
theorem ref_eq (a : FVec Ideal S8192x2048 .bf16) (b : FVec Ideal S2048x1792 .bf16) :
    Host.dotGeneral dot_S8192x2048_S2048x1792_S8192x1792_1_0_0_1_n_n none (extf .f32 a bitsLt_bf16_f32) (extf .f32 b bitsLt_bf16_f32)
      = Out a b := by
  funext y
  idx_vars y
  unfold Out term
  pointwise

end Cert.FInMlaValue.Ref

end
-- ==== Proof.FUqValue.lean ====
module

public import proofs.«01_k».proof.Proof.Gen.Kernel22Ideal.Value
public import Idealize.ShloMosaic.Lib.Pipeline.ValueKit
public import Idealize.ShloMosaic.Lib.Pipeline.ReadBack

@[expose] public section

set_option maxRecDepth 16384

noncomputable section

namespace Cert.FUqValue

open Idealize.ShloMosaic Idealize.ShloMosaic.TcCoe Idealize.SL.Sem
open Idealize.ShloMosaic.Pipeline (Dat)
open Cert.Kernel22Ideal Cert.Kernel22Ideal.Gen

/-- One summand: the product of the two operands. -/
def term (a g : EReal) : EReal := a * g

/-- The queries, entry by entry. -/
def Out (A : FVec Ideal S8192x512 .bf16) (B : FVec Ideal S512x3072 .bf16) : FVec Ideal S8192x3072 .f32 :=
  fun i => ∑ r : Fin 512, term (A (ix2 (i 0) r)) (B (ix2 r (i 1)))

theorem pay1_at (i : Fin 512) (j : Fin 1024) : k0_pay1 (F := Ideal) (ix2 i j) = 0 := by
  pointwise [k0_pay1]

theorem pay2_at (a : FVec Ideal S512x512 .bf16) (acc : FVec Ideal S512x1024 .f32) (g : FVec Ideal S512x1024 .bf16) (i : Fin 512) (j : Fin 1024) :
    k0_pay2 a acc g (ix2 i j) = acc (ix2 i j) + ∑ r : Fin 512, term (a (ix2 i r)) (g (ix2 r j)) := by
  unfold term
  pointwise [k0_pay2]

variable (m : (ℓ : Loc nD τ sig) → Buf (Elt Ideal) ℓ)

/-- The normed latent, as launched. -/
abbrev argA (c : Dev nD) : FVec Ideal S8192x512 .bf16 := m ((c : Thread nD τ).loc main_arg0)
/-- The queries' projection, as launched. -/
abbrev argB (c : Dev nD) : FVec Ideal S512x3072 .bf16 := m ((c : Thread nD τ).loc main_arg1)

theorem idx : ∀ t : Fin cfg0.N, win0_0.index t = ![t.val / 3, 0] ∧ win0_1.index t = ![0, t.val % 3] ∧ win0_2.index t = ![t.val / 3, t.val % 3] ∧ t.val < 48 :=
  (by decide +kernel : ∀ t : Fin grid0.N, _)

theorem a_at (c : Dev nD) (t : Fin cfg0.N) (r : Fin 512) (i : Fin 512) :
    (show FVec Ideal S512x512 .bf16 from iblk m c 0 t) (ix2 i r) = argA m c (ix2 ⟨t.val / 3 * 512 + i.val, by have := (idx t).2.2.2; omega⟩ r) := by
  blk_ext [iblk, V, idx t]

theorem b_at (c : Dev nD) (t : Fin cfg0.N) (r : Fin 512) (j : Fin 1024) :
    (show FVec Ideal S512x1024 .bf16 from iblk m c 1 t) (ix2 r j) = argB m c (ix2 r ⟨t.val % 3 * 1024 + j.val, by have := (idx t).2.2.2; omega⟩) := by
  blk_ext [iblk, V, idx t]

/-- One step's part of a block of the sum. -/
def part (c : Dev nD) (t : Fin cfg0.N) (y : S512x1024.Idx) : EReal :=
  ∑ r : Fin 512, term (argA m c (ix2 ⟨t.val / 3 * 512 + (y 0).val, by have := (idx t).2.2.2; have : (y 0).val < 512 := (y 0).isLt; omega⟩ r))
    (argB m c (ix2 r ⟨t.val % 3 * 1024 + (y 1).val, by have := (idx t).2.2.2; have : (y 1).val < 1024 := (y 1).isLt; omega⟩))

theorem step (c : Dev nD) (t : Fin cfg0.N) (acc : FVec Ideal S512x1024 .f32) (y : S512x1024.Idx) :
    k0_pay2 (iblk m c 0 t) acc (iblk m c 1 t) y = acc y + part m c t y := by
  idx_vars y
  rw [pay2_at]
  unfold part
  exact congrArg _ (Finset.sum_congr rfl fun r _ => congrArg₂ term (a_at m c t r y0) (b_at m c t r y1))

/-- The parts of a block make up the whole entry. -/
theorem parts (c : Dev nD) (t : Fin cfg0.N) (z : S8192x3072.Idx) (i : Fin 512) (j : Fin 1024) (h0 : (z 0).val = t.val / 3 * 512 + i.val) (h1 : (z 1).val = t.val % 3 * 1024 + j.val) :
    part m c t (ix2 i j) = Out (argA m c) (argB m c) z := by
  unfold part Out
  refine Finset.sum_congr rfl fun r _ => ?_
  refine congrArg₂ term (congrArg (argA m c) (congrArg₂ ix2 (Fin.ext ?_) (Fin.ext ?_))) (congrArg (argB m c) (congrArg₂ ix2 (Fin.ext ?_) (Fin.ext ?_)))
  · exact h0.symm
  · rfl
  · rfl
  · exact h1.symm

theorem point (c : Dev nD) (t : Fin cfg0.N) : outsAt0 m c t = k0_pay2 (iblk m c 0 t) (k0_pay1 (F := Ideal)) (iblk m c 1 t) := by
  unfold outsAt0
  funext y
  frame_out

theorem final (c : Dev nD) : (dats m 0 c).arrAt 2 (cfgs 0).N = Out (argA m c) (argB m c) := by
  refine (dats m 0 c).arrAt_eq_of_covers 2 _ (by decide +kernel) fun t hf y => ?_
  blk_simp
  rw [after0_2, point]
  idx_vars y
  rw [step, pay1_at, zero_add]
  refine parts m c t _ y0 y1 ?_ ?_ <;> (blk_simp [idx t] <;> try omega)

end Cert.FUqValue

end
-- ==== Proof.FUqRef.lean ====
module

public import proofs.«01_k».proof.Proof.Gen.Reference22Ideal.Run
public import proofs.«01_k».proof.Proof.FUqValue

@[expose] public section

set_option maxRecDepth 16384

noncomputable section

namespace Cert.FUqValue.Ref

open Idealize.ShloMosaic Idealize.ShloMosaic.TcCoe
open Cert.Reference22Ideal Cert.Reference22Ideal.Gen

/-- The reference's queries, entry by entry. -/
theorem ref_eq (a : FVec Ideal S8192x512 .bf16) (b : FVec Ideal S512x3072 .bf16) :
    Host.dotGeneral dot_S8192x512_S512x3072_S8192x3072_1_0_0_1_n_n none (extf .f32 a bitsLt_bf16_f32) (extf .f32 b bitsLt_bf16_f32)
      = Out a b := by
  funext y
  idx_vars y
  unfold Out term
  pointwise

end Cert.FUqValue.Ref

end
-- ==== Proof.FUkvValue.lean ====
module

public import proofs.«01_k».proof.Proof.Gen.Kernel23Ideal.Value
public import Idealize.ShloMosaic.Lib.Pipeline.ValueKit
public import Idealize.ShloMosaic.Lib.Pipeline.ReadBack

@[expose] public section

set_option maxRecDepth 16384

noncomputable section

namespace Cert.FUkvValue

open Idealize.ShloMosaic Idealize.ShloMosaic.TcCoe Idealize.SL.Sem
open Idealize.ShloMosaic.Pipeline (Dat)
open Cert.Kernel23Ideal Cert.Kernel23Ideal.Gen

/-- One summand: the product of the two operands. -/
def term (a g : EReal) : EReal := a * g

/-- The keys and values, entry by entry. -/
def Out (A : FVec Ideal S8192x512 .bf16) (B : FVec Ideal S512x3072 .bf16) : FVec Ideal S8192x3072 .bf16 :=
  fun i => ∑ r : Fin 512, term (A (ix2 (i 0) r)) (B (ix2 r (i 1)))

theorem pay1_at (i : Fin 512) (j : Fin 1024) : k0_pay1 (F := Ideal) (ix2 i j) = 0 := by
  pointwise [k0_pay1]

theorem pay2_at (a : FVec Ideal S512x512 .bf16) (acc : FVec Ideal S512x1024 .f32) (g : FVec Ideal S512x1024 .bf16) (i : Fin 512) (j : Fin 1024) :
    k0_pay2 a acc g (ix2 i j) = acc (ix2 i j) + ∑ r : Fin 512, term (a (ix2 i r)) (g (ix2 r j)) := by
  unfold term
  pointwise [k0_pay2]

theorem pay3_at (a : FVec Ideal S512x1024 .f32) (i : Fin 512) (j : Fin 1024) :
    k0_pay3 (F := Ideal) a (ix2 i j) = (show EReal from a (ix2 i j)) := by
  pointwise [k0_pay3]

variable (m : (ℓ : Loc nD τ sig) → Buf (Elt Ideal) ℓ)

/-- The normed latent, as launched. -/
abbrev argA (c : Dev nD) : FVec Ideal S8192x512 .bf16 := m ((c : Thread nD τ).loc main_arg0)
/-- The keys' and values' projection, as launched. -/
abbrev argB (c : Dev nD) : FVec Ideal S512x3072 .bf16 := m ((c : Thread nD τ).loc main_arg1)

theorem idx : ∀ t : Fin cfg0.N, win0_0.index t = ![t.val / 3, 0] ∧ win0_1.index t = ![0, t.val % 3] ∧ win0_2.index t = ![t.val / 3, t.val % 3] ∧ t.val < 48 :=
  (by decide +kernel : ∀ t : Fin grid0.N, _)

theorem a_at (c : Dev nD) (t : Fin cfg0.N) (r : Fin 512) (i : Fin 512) :
    (show FVec Ideal S512x512 .bf16 from iblk m c 0 t) (ix2 i r) = argA m c (ix2 ⟨t.val / 3 * 512 + i.val, by have := (idx t).2.2.2; omega⟩ r) := by
  blk_ext [iblk, V, idx t]

theorem b_at (c : Dev nD) (t : Fin cfg0.N) (r : Fin 512) (j : Fin 1024) :
    (show FVec Ideal S512x1024 .bf16 from iblk m c 1 t) (ix2 r j) = argB m c (ix2 r ⟨t.val % 3 * 1024 + j.val, by have := (idx t).2.2.2; omega⟩) := by
  blk_ext [iblk, V, idx t]

/-- One step's part of a block of the sum. -/
def part (c : Dev nD) (t : Fin cfg0.N) (y : S512x1024.Idx) : EReal :=
  ∑ r : Fin 512, term (argA m c (ix2 ⟨t.val / 3 * 512 + (y 0).val, by have := (idx t).2.2.2; have : (y 0).val < 512 := (y 0).isLt; omega⟩ r))
    (argB m c (ix2 r ⟨t.val % 3 * 1024 + (y 1).val, by have := (idx t).2.2.2; have : (y 1).val < 1024 := (y 1).isLt; omega⟩))

theorem step (c : Dev nD) (t : Fin cfg0.N) (acc : FVec Ideal S512x1024 .f32) (y : S512x1024.Idx) :
    k0_pay2 (iblk m c 0 t) acc (iblk m c 1 t) y = acc y + part m c t y := by
  idx_vars y
  rw [pay2_at]
  unfold part
  exact congrArg _ (Finset.sum_congr rfl fun r _ => congrArg₂ term (a_at m c t r y0) (b_at m c t r y1))

/-- The parts of a block make up the whole entry. -/
theorem parts (c : Dev nD) (t : Fin cfg0.N) (z : S8192x3072.Idx) (i : Fin 512) (j : Fin 1024) (h0 : (z 0).val = t.val / 3 * 512 + i.val) (h1 : (z 1).val = t.val % 3 * 1024 + j.val) :
    part m c t (ix2 i j) = Out (argA m c) (argB m c) z := by
  unfold part Out
  refine Finset.sum_congr rfl fun r _ => ?_
  refine congrArg₂ term (congrArg (argA m c) (congrArg₂ ix2 (Fin.ext ?_) (Fin.ext ?_))) (congrArg (argB m c) (congrArg₂ ix2 (Fin.ext ?_) (Fin.ext ?_)))
  · exact h0.symm
  · rfl
  · rfl
  · exact h1.symm

theorem point (c : Dev nD) (t : Fin cfg0.N) : outsAt0 m c t = k0_pay3 (k0_pay2 (iblk m c 0 t) (k0_pay1 (F := Ideal)) (iblk m c 1 t)) := by
  unfold outsAt0
  funext y
  frame_out

theorem final (c : Dev nD) : (dats m 0 c).arrAt 2 (cfgs 0).N = Out (argA m c) (argB m c) := by
  refine (dats m 0 c).arrAt_eq_of_covers 2 _ (by decide +kernel) fun t hf y => ?_
  blk_simp
  rw [after0_2, point]
  idx_vars y
  rw [pay3_at, step, pay1_at, zero_add]
  refine parts m c t _ y0 y1 ?_ ?_ <;> (blk_simp [idx t] <;> try omega)

end Cert.FUkvValue

end
-- ==== Proof.FUkvRef.lean ====
module

public import proofs.«01_k».proof.Proof.Gen.Reference23Ideal.Run
public import proofs.«01_k».proof.Proof.FUkvValue

@[expose] public section

set_option maxRecDepth 16384

noncomputable section

namespace Cert.FUkvValue.Ref

open Idealize.ShloMosaic Idealize.ShloMosaic.TcCoe
open Cert.Reference23Ideal Cert.Reference23Ideal.Gen

/-- The reference's keys and values, entry by entry. -/
theorem ref_eq (a : FVec Ideal S8192x512 .bf16) (b : FVec Ideal S512x3072 .bf16) :
    truncf .bf16 (Host.dotGeneral dot_S8192x512_S512x3072_S8192x3072_1_0_0_1_n_n none (extf .f32 a bitsLt_bf16_f32) (extf .f32 b bitsLt_bf16_f32)) bitsLt_bf16_f32
      = Out a b := by
  funext y
  idx_vars y
  unfold Out term
  pointwise

end Cert.FUkvValue.Ref

end
-- ==== Proof.FMemkvValue.lean ====
module

public import proofs.«01_k».proof.Proof.Gen.Kernel24Ideal.Value
public import Idealize.ShloMosaic.Lib.Pipeline.ValueKit
public import Idealize.ShloMosaic.Lib.Pipeline.ReadBack

@[expose] public section

set_option maxRecDepth 16384

noncomputable section

namespace Cert.FMemkvValue

open Idealize.ShloMosaic Idealize.ShloMosaic.TcCoe Idealize.SL.Sem
open Idealize.ShloMosaic.Pipeline (Dat)
open Cert.Kernel24Ideal Cert.Kernel24Ideal.Gen

/-- One summand: the product of the two operands. -/
def term (a g : EReal) : EReal := a * g

/-- The memory's keys and values, entry by entry. -/
def Out (A : FVec Ideal S256x2048 .f32) (B : FVec Ideal S2048x1024 .bf16) : FVec Ideal S256x1024 .f32 :=
  fun i => ∑ r : Fin 2048, term (A (ix2 (i 0) r)) (B (ix2 r (i 1)))

theorem pay1_at (i : Fin 256) (j : Fin 1024) : k0_pay1 (F := Ideal) (ix2 i j) = 0 := by
  pointwise [k0_pay1]

theorem pay2_at (a : FVec Ideal S256x2048 .f32) (acc : FVec Ideal S256x1024 .f32) (g : FVec Ideal S2048x1024 .bf16) (i : Fin 256) (j : Fin 1024) :
    k0_pay2 a acc g (ix2 i j) = acc (ix2 i j) + ∑ r : Fin 2048, term (a (ix2 i r)) (g (ix2 r j)) := by
  unfold term
  pointwise [k0_pay2]

variable (m : (ℓ : Loc nD τ sig) → Buf (Elt Ideal) ℓ)

/-- The memory, as launched. -/
abbrev argA (c : Dev nD) : FVec Ideal S256x2048 .f32 := m ((c : Thread nD τ).loc main_arg0)
/-- The memory's projection, as launched. -/
abbrev argB (c : Dev nD) : FVec Ideal S2048x1024 .bf16 := m ((c : Thread nD τ).loc main_arg1)

theorem idx : ∀ t : Fin cfg0.N, win0_0.index t = ![0, 0] ∧ win0_1.index t = ![0, 0] ∧ win0_2.index t = ![0, 0] ∧ t.val < 1 :=
  (by decide +kernel : ∀ t : Fin grid0.N, _)

theorem a_at (c : Dev nD) (t : Fin cfg0.N) (r : Fin 2048) (i : Fin 256) :
    (show FVec Ideal S256x2048 .f32 from iblk m c 0 t) (ix2 i r) = argA m c (ix2 i r) := by
  blk_ext [iblk, V, idx t]

theorem b_at (c : Dev nD) (t : Fin cfg0.N) (r : Fin 2048) (j : Fin 1024) :
    (show FVec Ideal S2048x1024 .bf16 from iblk m c 1 t) (ix2 r j) = argB m c (ix2 r j) := by
  blk_ext [iblk, V, idx t]

/-- One step's part of a block of the sum. -/
def part (c : Dev nD) (t : Fin cfg0.N) (y : S256x1024.Idx) : EReal :=
  ∑ r : Fin 2048, term (argA m c (ix2 (y 0) r))
    (argB m c (ix2 r (y 1)))

theorem step (c : Dev nD) (t : Fin cfg0.N) (acc : FVec Ideal S256x1024 .f32) (y : S256x1024.Idx) :
    k0_pay2 (iblk m c 0 t) acc (iblk m c 1 t) y = acc y + part m c t y := by
  idx_vars y
  rw [pay2_at]
  unfold part
  exact congrArg _ (Finset.sum_congr rfl fun r _ => congrArg₂ term (a_at m c t r y0) (b_at m c t r y1))

/-- The parts of a block make up the whole entry. -/
theorem parts (c : Dev nD) (t : Fin cfg0.N) (z : S256x1024.Idx) (i : Fin 256) (j : Fin 1024) (h0 : (z 0).val = i.val) (h1 : (z 1).val = j.val) :
    part m c t (ix2 i j) = Out (argA m c) (argB m c) z := by
  unfold part Out
  refine Finset.sum_congr rfl fun r _ => ?_
  refine congrArg₂ term (congrArg (argA m c) (congrArg₂ ix2 (Fin.ext ?_) (Fin.ext ?_))) (congrArg (argB m c) (congrArg₂ ix2 (Fin.ext ?_) (Fin.ext ?_)))
  · exact h0.symm
  · rfl
  · rfl
  · exact h1.symm

theorem point (c : Dev nD) (t : Fin cfg0.N) : outsAt0 m c t = k0_pay2 (iblk m c 0 t) (k0_pay1 (F := Ideal)) (iblk m c 1 t) := by
  unfold outsAt0
  funext y
  frame_out

theorem final (c : Dev nD) : (dats m 0 c).arrAt 2 (cfgs 0).N = Out (argA m c) (argB m c) := by
  refine (dats m 0 c).arrAt_eq_of_covers 2 _ (by decide +kernel) fun t hf y => ?_
  blk_simp
  rw [after0_2, point]
  idx_vars y
  rw [step, pay1_at, zero_add]
  refine parts m c t _ y0 y1 ?_ ?_ <;> (blk_simp [idx t] <;> try omega)

end Cert.FMemkvValue

end
-- ==== Proof.FMemkvRef.lean ====
module

public import proofs.«01_k».proof.Proof.Gen.Reference24Ideal.Run
public import proofs.«01_k».proof.Proof.FMemkvValue

@[expose] public section

set_option maxRecDepth 16384

noncomputable section

namespace Cert.FMemkvValue.Ref

open Idealize.ShloMosaic Idealize.ShloMosaic.TcCoe
open Cert.Reference24Ideal Cert.Reference24Ideal.Gen

/-- The reference's memory's keys and values, entry by entry. -/
theorem ref_eq (a : FVec Ideal S256x2048 .f32) (b : FVec Ideal S2048x1024 .bf16) :
    Host.dotGeneral dot_S256x2048_S2048x1024_S256x1024_1_0_0_1_n_n none a (extf .f32 b bitsLt_bf16_f32)
      = Out a b := by
  funext y
  idx_vars y
  unfold Out term
  pointwise

end Cert.FMemkvValue.Ref

end
-- ==== Proof.LnbRow.lean ====
module

public import proofs.«01_k».proof.Proof.Gen.Kernel25Ideal.Frame
public import proofs.«01_k».proof.Proof.Gen.Reference25Ideal.Run
public import Idealize.ShloMosaic.Lib.Pipeline.ValueKit

@[expose] public section

set_option maxRecDepth 16384

noncomputable section

namespace Cert.LnbRow

open Idealize.ShloMosaic Idealize.ShloMosaic.TcCoe Idealize.SL.Sem

/-! One row of the layer norm of the scaled residual sum, and its cotangent. -/

/-- One row. -/
abbrev Row := Fin 2048 → EReal

/-- The scale of the residual branch. -/
def al : EReal := Ideal.ofBits .f32 0x3FD744FD#32
/-- The length of a row. -/
def len : EReal := Ideal.ofBits .f32 0x45000000#32
/-- The small term under the root. -/
def eps : EReal := Ideal.ofBits .f32 0x3727C5AC#32
/-- Minus one half. -/
def half : EReal := Ideal.ofBits .f32 0xBF000000#32
/-- Two. -/
def two : EReal := Ideal.ofBits .f32 0x40000000#32

/-- The normalised sum. -/
def rr (x y : Row) (k : Fin 2048) : EReal := al * x k + y k
/-- Its mean. -/
def mu (x y : Row) : EReal := Ideal.div (∑ k : Fin 2048, rr x y k) len
/-- Its centred entries. -/
def ce (x y : Row) (k : Fin 2048) : EReal := rr x y k - mu x y
/-- Its variance and the small term. -/
def va (x y : Row) : EReal := Ideal.div (∑ k : Fin 2048, ce x y k * ce x y k) len + eps
/-- The inverse root of the variance. -/
def rs (x y : Row) : EReal := Ideal.rsqrt (va x y)
/-- The derivative of the inverse root. -/
def hf (x y : Row) : EReal := half * Ideal.div (rs x y) (va x y)
/-- The cotangent times the gain. -/
def gd (g d : Row) (k : Fin 2048) : EReal := d k * g k
/-- The part of the cotangent past the inverse root. -/
def p1 (x y g d : Row) (k : Fin 2048) : EReal := gd g d k * rs x y
/-- The part of the cotangent through the variance. -/
def p2 (x y g d : Row) (k : Fin 2048) : EReal :=
  Ideal.div ((∑ l : Fin 2048, ce x y l * gd g d l) * hf x y) len * (two * ce x y k)
/-- The cotangent of the sum. -/
def DR (x y g d : Row) (k : Fin 2048) : EReal :=
  p1 x y g d k + p2 x y g d k + Ideal.div ((∑ l : Fin 2048, -(p1 x y g d l)) + ∑ l : Fin 2048, -(p2 x y g d l)) len
/-- A row's part of the gradient of the gain. -/
def DG (x y d : Row) (k : Fin 2048) : EReal := ce x y k * rs x y * d k

theorem zero_sub_neg (a : EReal) : (0 : EReal) - a = -a := by rw [sub_eq_add_neg, zero_add]

/-- Row `r` of an array. -/
abbrev row {n : ℕ} (x : FVec Ideal ⟨2, ![n, 2048]⟩ .f32) (r : Fin n) : Row := fun d => x (ix2 r d)

namespace K
open Cert.Kernel25Ideal Cert.Kernel25Ideal.Gen
variable (x y d : FVec Ideal S256x2048 .f32) (g : FVec Ideal S1x2048 .f32)

theorem q4 (r : Fin 256) (k : Fin 2048) : k0_pay4 (F := Ideal) x y (ix2 r k) = rr (row x r) (row y r) k := by
  pointwise [k0_pay4, rr, al, row]
theorem q5 (r : Fin 256) (u : Fin 1) : k0_pay5 (F := Ideal) x y (ix2 r u) = mu (row x r) (row y r) := by
  pointwise [k0_pay5, q4, mu, len]
theorem q6 (r : Fin 256) (k : Fin 2048) : k0_pay6 (F := Ideal) x y (ix2 r k) = ce (row x r) (row y r) k := by
  pointwise [k0_pay6, q4, q5, ce]
theorem q7 (r : Fin 256) (k : Fin 2048) : k0_pay7 (F := Ideal) x y (ix2 r k) = two * ce (row x r) (row y r) k := by
  pointwise [k0_pay7, q6, two]
theorem q8 (r : Fin 256) (k : Fin 2048) : k0_pay8 (F := Ideal) x y (ix2 r k) = ce (row x r) (row y r) k := by
  pointwise [k0_pay8, q4, q5, ce]
theorem q9 (r : Fin 256) (u : Fin 1) : k0_pay9 (F := Ideal) x y (ix2 r u) = va (row x r) (row y r) := by
  pointwise [k0_pay9, q6, va, len, eps]
theorem q10 (r : Fin 256) (u : Fin 1) : k0_pay10 (F := Ideal) x y (ix2 r u) = rs (row x r) (row y r) := by
  pointwise [k0_pay10, q9, rs]
theorem q11 (r : Fin 256) (u : Fin 1) : k0_pay11 (F := Ideal) x y (ix2 r u) = hf (row x r) (row y r) := by
  pointwise [k0_pay11, q9, q10, hf, half]
theorem q15 (r : Fin 256) (k : Fin 2048) :
    k0_pay15 (F := Ideal) g (k0_pay7 x y) (k0_pay8 x y) (k0_pay10 x y) (k0_pay11 x y) (k0_pay12 d) (ix2 r k) = DR (row x r) (row y r) (row g 0) (row d r) k := by
  pointwise [k0_pay15, k0_pay12, q7, q8, q10, q11, DR, p1, p2, gd, len, row, zero_sub_neg]
  simp only [Finset.univ_unique, Finset.sum_singleton]
theorem q16 (r : Fin 256) (k : Fin 2048) :
    k0_pay16 (F := Ideal) g (k0_pay7 x y) (k0_pay8 x y) (k0_pay10 x y) (k0_pay11 x y) (k0_pay12 d) (ix2 r k) = DR (row x r) (row y r) (row g 0) (row d r) k := by
  rw [← q15]
  rfl
theorem q17 (a : FVec Ideal S1x2048 .f32) (u : Fin 1) (k : Fin 2048) :
    k0_pay17 (F := Ideal) (k0_pay14 x y d) a (ix2 u k) = a (ix2 u k) + ∑ r : Fin 256, DG (row x r) (row y r) (row d r) k := by
  pointwise [k0_pay17, k0_pay14, k0_pay12, q8, q10, DG, row]
theorem q1 (a : FVec Ideal S1x2048 .f32) (u : Fin 1) (k : Fin 2048) :
    k0_pay1 (F := Ideal) (k0_pay13 d) a (ix2 u k) = a (ix2 u k) + ∑ r : Fin 256, d (ix2 r k) := by
  pointwise [k0_pay1, k0_pay13]
end K

end Cert.LnbRow

end
-- ==== Proof.LnbRef.lean ====
module

public import proofs.«01_k».proof.Proof.LnbRow
public import proofs.«01_k».proof.Proof.Gen.Reference25Ideal.Run

@[expose] public section

set_option maxRecDepth 16384

noncomputable section

namespace Cert.LnbRef

open Idealize.ShloMosaic Idealize.ShloMosaic.TcCoe Idealize.SL.Sem
open Cert.LnbRow
open Cert.Reference25Ideal Cert.Reference25Ideal.Gen Cert.Reference25Ideal.Value

/-! The reference's results, cut into named pieces, and each piece read at an index. -/

/-- The normalised sum. -/
def R (X : FVec Ideal S8192x2048 .f32) (Y : FVec Ideal S8192x2048 .f32) : FVec Ideal S8192x2048 .f32 :=
  addf (mulf (broadcastInDim S8192x2048 ![] bcast_S_S8192x2048 (constant S_ .f32 0x3FD744FD#32)) X) Y
/-- The means of the rows. -/
def MU (X : FVec Ideal S8192x2048 .f32) (Y : FVec Ideal S8192x2048 .f32) : FVec Ideal S8192x1 .f32 :=
  Host.divf (broadcastInDim S8192x1 ![0] bcast_S8192_S8192x1_0 (Host.reduceAdd (R X Y) (constant S_ .f32 0x00000000#32) reducesTo_S8192x2048_S8192_d1 h_S_)) (broadcastInDim S8192x1 ![] bcast_S_S8192x1 (constant S_ .f32 0x45000000#32))
/-- The centred rows. -/
def CE (X : FVec Ideal S8192x2048 .f32) (Y : FVec Ideal S8192x2048 .f32) : FVec Ideal S8192x2048 .f32 :=
  subf (R X Y) (broadcastInDim S8192x2048 ![0, 1] bcast_S8192x1_S8192x2048_0_1 (MU X Y))
/-- The variances and the small term. -/
def VA (X : FVec Ideal S8192x2048 .f32) (Y : FVec Ideal S8192x2048 .f32) : FVec Ideal S8192x1 .f32 :=
  addf (Host.divf (broadcastInDim S8192x1 ![0] bcast_S8192_S8192x1_0 (Host.reduceAdd (mulf (CE X Y) (CE X Y)) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32))
/-- The inverse roots. -/
def RS (X : FVec Ideal S8192x2048 .f32) (Y : FVec Ideal S8192x2048 .f32) : FVec Ideal S8192x1 .f32 :=
  Host.rsqrt (VA X Y)
/-- The derivatives of the inverse roots. -/
def HF (X : FVec Ideal S8192x2048 .f32) (Y : FVec Ideal S8192x2048 .f32) : FVec Ideal S8192x1 .f32 :=
  mulf (broadcastInDim S8192x1 ![] bcast_S_S8192x1 (constant S_ .f32 0xBF000000#32)) (Host.divf (RS X Y) (VA X Y))
/-- The cotangent times the gain. -/
def GD (G : FVec Ideal S1x2048 .f32) (D : FVec Ideal S8192x2048 .f32) : FVec Ideal S8192x2048 .f32 :=
  mulf (shapeCast _ D shapeCasts_S8192x2048_S8192x2048) (broadcastInDim S8192x2048 ![0, 1] bcast_S1x2048_S8192x2048_0_1 G)
/-- The part of the cotangent past the inverse root. -/
def P1 (X : FVec Ideal S8192x2048 .f32) (Y : FVec Ideal S8192x2048 .f32) (G : FVec Ideal S1x2048 .f32) (D : FVec Ideal S8192x2048 .f32) : FVec Ideal S8192x2048 .f32 :=
  mulf (GD G D) (broadcastInDim S8192x2048 ![0, 1] bcast_S8192x1_S8192x2048_0_1 (RS X Y))
/-- The part of the cotangent through the variance. -/
def P2 (X : FVec Ideal S8192x2048 .f32) (Y : FVec Ideal S8192x2048 .f32) (G : FVec Ideal S1x2048 .f32) (D : FVec Ideal S8192x2048 .f32) : FVec Ideal S8192x2048 .f32 :=
  mulf (broadcastInDim S8192x2048 ![0] bcast_S8192_S8192x2048_0 (Host.reduceAdd (Host.divf (mulf (shapeCast _ (Host.reduceAdd (mulf (CE X Y) (GD G D)) (constant S_ .f32 0x00000000#32) reducesTo_S8192x2048_S8192_d1 h_S_) shapeCasts_S8192_S8192x1) (HF X Y)) (broadcastInDim S8192x1 ![] bcast_S_S8192x1 (constant S_ .f32 0x45000000#32))) (constant S_ .f32 0x00000000#32) reducesTo_S8192x1_S8192_d1 h_S_)) (mulf (broadcastInDim S8192x2048 ![] bcast_S_S8192x2048 (constant S_ .f32 0x40000000#32)) (CE X Y))
/-- The cotangent of the sum. -/
def O0 (X : FVec Ideal S8192x2048 .f32) (Y : FVec Ideal S8192x2048 .f32) (G : FVec Ideal S1x2048 .f32) (D : FVec Ideal S8192x2048 .f32) : FVec Ideal S8192x2048 .f32 :=
  addf (addf (P1 X Y G D) (P2 X Y G D)) (broadcastInDim S8192x2048 ![0] bcast_S8192_S8192x2048_0 (Host.reduceAdd (Host.divf (addf (shapeCast _ (Host.reduceAdd (Host.negf (P1 X Y G D)) (constant S_ .f32 0x00000000#32) reducesTo_S8192x2048_S8192_d1 h_S_) shapeCasts_S8192_S8192x1) (shapeCast _ (Host.reduceAdd (Host.negf (P2 X Y G D)) (constant S_ .f32 0x00000000#32) reducesTo_S8192x2048_S8192_d1 h_S_) shapeCasts_S8192_S8192x1)) (broadcastInDim S8192x1 ![] bcast_S_S8192x1 (constant S_ .f32 0x45000000#32))) (constant S_ .f32 0x00000000#32) reducesTo_S8192x1_S8192_d1 h_S_))
/-- The gradient of the gain. -/
def O2 (X : FVec Ideal S8192x2048 .f32) (Y : FVec Ideal S8192x2048 .f32) (D : FVec Ideal S8192x2048 .f32) : FVec Ideal S1x2048 .f32 :=
  shapeCast _ (Host.reduceAdd (mulf (mulf (CE X Y) (broadcastInDim S8192x2048 ![0, 1] bcast_S8192x1_S8192x2048_0_1 (RS X Y))) (shapeCast _ D shapeCasts_S8192x2048_S8192x2048)) (constant S_ .f32 0x00000000#32) reducesTo_S8192x2048_S2048_d0 h_S_) shapeCasts_S2048_S1x2048
/-- The gradient of the offset. -/
def O3 (D : FVec Ideal S8192x2048 .f32) : FVec Ideal S1x2048 .f32 :=
  shapeCast _ (Host.reduceAdd D (constant S_ .f32 0x00000000#32) reducesTo_S8192x2048_S2048_d0 h_S_) shapeCasts_S2048_S1x2048
/-- The cotangent of the sum, narrowed. -/
def O1 (X : FVec Ideal S8192x2048 .f32) (Y : FVec Ideal S8192x2048 .f32) (G : FVec Ideal S1x2048 .f32) (D : FVec Ideal S8192x2048 .f32) : FVec Ideal S8192x2048 .bf16 :=
  truncf .bf16 (O0 X Y G D) bitsLt_bf16_f32

section
variable (X Y D : FVec Ideal S8192x2048 .f32) (G : FVec Ideal S1x2048 .f32)

theorem R_at (r : Fin 8192) (k : Fin 2048) : R X Y (ix2 r k) = rr (row X r) (row Y r) k := by
  pointwise [R, rr, al, row]
theorem MU_at (r : Fin 8192) (u : Fin 1) : MU X Y (ix2 r u) = mu (row X r) (row Y r) := by
  pointwise [MU, R_at, mu, len]
theorem CE_at (r : Fin 8192) (k : Fin 2048) : CE X Y (ix2 r k) = ce (row X r) (row Y r) k := by
  pointwise [CE, R_at, MU_at, ce]
theorem VA_at (r : Fin 8192) (u : Fin 1) : VA X Y (ix2 r u) = va (row X r) (row Y r) := by
  pointwise [VA, CE_at, va, len, eps]
theorem RS_at (r : Fin 8192) (u : Fin 1) : RS X Y (ix2 r u) = rs (row X r) (row Y r) := by
  pointwise [RS, VA_at, rs]
theorem HF_at (r : Fin 8192) (u : Fin 1) : HF X Y (ix2 r u) = hf (row X r) (row Y r) := by
  pointwise [HF, RS_at, VA_at, hf, half]
theorem GD_at (r : Fin 8192) (k : Fin 2048) : GD G D (ix2 r k) = gd (row G 0) (row D r) k := by
  pointwise [GD, gd, row]
theorem P1_at (r : Fin 8192) (k : Fin 2048) : P1 X Y G D (ix2 r k) = p1 (row X r) (row Y r) (row G 0) (row D r) k := by
  pointwise [P1, GD_at, RS_at, p1]
theorem P2_at (r : Fin 8192) (k : Fin 2048) : P2 X Y G D (ix2 r k) = p2 (row X r) (row Y r) (row G 0) (row D r) k := by
  pointwise [P2, GD_at, CE_at, HF_at, p2, len, two]
  simp only [Finset.univ_unique, Finset.sum_singleton]
theorem O0_at (r : Fin 8192) (k : Fin 2048) : O0 X Y G D (ix2 r k) = DR (row X r) (row Y r) (row G 0) (row D r) k := by
  pointwise [O0, P1_at, P2_at, DR, len]
  simp only [Finset.univ_unique, Finset.sum_singleton]
theorem O2_at (u : Fin 1) (k : Fin 2048) : O2 X Y D (ix2 u k) = ∑ r : Fin 8192, DG (row X r) (row Y r) (row D r) k := by
  pointwise [O2, CE_at, RS_at, DG, row]
theorem O3_at (u : Fin 1) (k : Fin 2048) : O3 D (ix2 u k) = ∑ r : Fin 8192, D (ix2 r k) := by
  pointwise [O3]
end

variable (m : (ℓ : Loc nD τ sig) → Buf (Elt Ideal) ℓ) (c : Dev nD)

theorem out0_eq : res_out0 m c = O0 (m ((c.tc : Thread nD τ).loc main_arg0)) (m ((c.tc : Thread nD τ).loc main_arg1)) (m ((c.tc : Thread nD τ).loc main_arg2)) (m ((c.tc : Thread nD τ).loc main_arg4)) := rfl

theorem out1_eq : res_out1 m c = O1 (m ((c.tc : Thread nD τ).loc main_arg0)) (m ((c.tc : Thread nD τ).loc main_arg1)) (m ((c.tc : Thread nD τ).loc main_arg2)) (m ((c.tc : Thread nD τ).loc main_arg4)) := rfl

end Cert.LnbRef

end
-- ==== Proof.LnbValue.lean ====
module

public import proofs.«01_k».proof.Proof.LnbRef
public import proofs.«01_k».proof.Proof.Gen.Kernel25Ideal.Value
public import Idealize.ShloMosaic.Lib.Pipeline.ValueKit
public import Idealize.ShloMosaic.Lib.Pipeline.ReadBack

@[expose] public section

set_option maxRecDepth 16384

noncomputable section

namespace Cert.LnbValue

open Idealize.ShloMosaic Idealize.ShloMosaic.TcCoe Idealize.SL.Sem
open Idealize.ShloMosaic.Pipeline (Dat)
open Cert.LnbRow Cert.LnbRow.K Cert.LnbRef
open Cert.Kernel25Ideal Cert.Kernel25Ideal.Gen

variable (m : (ℓ : Loc nD τ sig) → Buf (Elt Ideal) ℓ)

/-- The residual branch, as launched. -/
abbrev argX (c : Dev nD) : FVec Ideal S8192x2048 .f32 := m ((c : Thread nD τ).loc main_arg0)
/-- The other branch, as launched. -/
abbrev argY (c : Dev nD) : FVec Ideal S8192x2048 .f32 := m ((c : Thread nD τ).loc main_arg1)
/-- The gain, as launched. -/
abbrev argG (c : Dev nD) : FVec Ideal S1x2048 .f32 := m ((c : Thread nD τ).loc main_arg2)
/-- The cotangent, as launched. -/
abbrev argD (c : Dev nD) : FVec Ideal S8192x2048 .f32 := m ((c : Thread nD τ).loc main_arg4)

theorem idx : ∀ t : Fin cfg0.N, win0_0.index t = ![t.val, 0] ∧ win0_1.index t = ![t.val, 0] ∧ win0_2.index t = ![0, 0]
    ∧ win0_4.index t = ![t.val, 0] ∧ win0_5.index t = ![t.val, 0] ∧ win0_6.index t = ![t.val, 0] ∧ win0_7.index t = ![0, 0]
    ∧ win0_8.index t = ![0, 0] ∧ t.val < 32 :=
  (by decide +kernel : ∀ t : Fin grid0.N, _)

/-- The row of the array that row `r` of block `t` is. -/
abbrev rowOf (t : Fin cfg0.N) (r : Fin 256) : Fin 8192 := ⟨t.val * 256 + r.val, by have := (idx t).2.2.2.2.2.2.2.2; omega⟩

theorem x_at (c : Dev nD) (t : Fin cfg0.N) (r : Fin 256) :
    row (show FVec Ideal S256x2048 .f32 from iblk m c 0 t) r = row (argX m c) (rowOf t r) := by
  funext k
  show (show FVec Ideal S256x2048 .f32 from iblk m c 0 t) (ix2 r k) = argX m c (ix2 (rowOf t r) k)
  blk_ext [iblk, V, idx t]
theorem y_at (c : Dev nD) (t : Fin cfg0.N) (r : Fin 256) :
    row (show FVec Ideal S256x2048 .f32 from iblk m c 1 t) r = row (argY m c) (rowOf t r) := by
  funext k
  show (show FVec Ideal S256x2048 .f32 from iblk m c 1 t) (ix2 r k) = argY m c (ix2 (rowOf t r) k)
  blk_ext [iblk, V, idx t]
theorem g_at (c : Dev nD) (t : Fin cfg0.N) :
    row (show FVec Ideal S1x2048 .f32 from iblk m c 2 t) 0 = row (argG m c) 0 := by
  funext k
  show (show FVec Ideal S1x2048 .f32 from iblk m c 2 t) (ix2 0 k) = argG m c (ix2 0 k)
  blk_ext [iblk, V, idx t]
theorem d_at (c : Dev nD) (t : Fin cfg0.N) (r : Fin 256) :
    row (show FVec Ideal S256x2048 .f32 from iblk m c 4 t) r = row (argD m c) (rowOf t r) := by
  funext k
  show (show FVec Ideal S256x2048 .f32 from iblk m c 4 t) (ix2 r k) = argD m c (ix2 (rowOf t r) k)
  blk_ext [iblk, V, idx t]

/-- What point `t` writes of the cotangent. -/
theorem block (c : Dev nD) (t : Fin cfg0.N) (r : Fin 256) (k : Fin 2048) :
    DR (row (show FVec Ideal S256x2048 .f32 from iblk m c 0 t) r) (row (show FVec Ideal S256x2048 .f32 from iblk m c 1 t) r)
      (row (show FVec Ideal S1x2048 .f32 from iblk m c 2 t) 0) (row (show FVec Ideal S256x2048 .f32 from iblk m c 4 t) r) k
      = O0 (argX m c) (argY m c) (argG m c) (argD m c) (ix2 (rowOf t r) k) := by
  rw [x_at, y_at, g_at, d_at, O0_at]

theorem out5 (c : Dev nD) (t : Fin cfg0.N) : (outsAt0 m c t.val t.isLt).1
    = k0_pay15 (F := Ideal) (iblk m c 2 t) (k0_pay7 (iblk m c 0 t) (iblk m c 1 t)) (k0_pay8 (iblk m c 0 t) (iblk m c 1 t)) (k0_pay10 (iblk m c 0 t) (iblk m c 1 t)) (k0_pay11 (iblk m c 0 t) (iblk m c 1 t)) (k0_pay12 (iblk m c 4 t)) := by
  by_cases h0 : t.val % 32 = 0
  · rw [outsAt0_A m c t h0]
    funext y
    frame_out
  · rw [outsAt0_B m c t h0]
    funext y
    frame_out

theorem out6 (c : Dev nD) (t : Fin cfg0.N) : (outsAt0 m c t.val t.isLt).2.1
    = k0_pay16 (F := Ideal) (iblk m c 2 t) (k0_pay7 (iblk m c 0 t) (iblk m c 1 t)) (k0_pay8 (iblk m c 0 t) (iblk m c 1 t)) (k0_pay10 (iblk m c 0 t) (iblk m c 1 t)) (k0_pay11 (iblk m c 0 t) (iblk m c 1 t)) (k0_pay12 (iblk m c 4 t)) := by
  by_cases h0 : t.val % 32 = 0
  · rw [outsAt0_A m c t h0]
    funext y
    frame_out
  · rw [outsAt0_B m c t h0]
    funext y
    frame_out

theorem final5 (c : Dev nD) : (dats m 0 c).arrAt 5 (cfgs 0).N = O0 (argX m c) (argY m c) (argG m c) (argD m c) := by
  refine (dats m 0 c).arrAt_eq_of_covers 5 _ (by decide +kernel) fun t _ y => ?_
  blk_simp
  rw [after0_5, out5]
  idx_vars y
  rw [q15]
  refine (block m c t y0 y1).trans (congrArg _ ?_)
  blk_ext [idx t]

theorem final6 (c : Dev nD) : (dats m 0 c).arrAt 6 (cfgs 0).N = O1 (argX m c) (argY m c) (argG m c) (argD m c) := by
  refine (dats m 0 c).arrAt_eq_of_covers 6 _ (by decide +kernel) fun t _ y => ?_
  blk_simp
  rw [after0_6, out6]
  idx_vars y
  rw [q16]
  refine (block m c t y0 y1).trans (congrArg (O0 (argX m c) (argY m c) (argG m c) (argD m c)) ?_)
  blk_ext [idx t]

/-- A block's part of the gradient of the gain. -/
def partG (c : Dev nD) (t : Fin cfg0.N) (j : S1x2048.Idx) : EReal :=
  ∑ r : Fin 256, DG (row (argX m c) (rowOf t r)) (row (argY m c) (rowOf t r)) (row (argD m c) (rowOf t r)) (j 1)
/-- A block's part of the gradient of the offset. -/
def partB (c : Dev nD) (t : Fin cfg0.N) (j : S1x2048.Idx) : EReal := ∑ r : Fin 256, row (argD m c) (rowOf t r) (j 1)

theorem stepG (c : Dev nD) (t : Fin cfg0.N) (a : FVec Ideal S1x2048 .f32) (j : S1x2048.Idx) :
    k0_pay17 (F := Ideal) (k0_pay14 (iblk m c 0 t) (iblk m c 1 t) (iblk m c 4 t)) a j = a j + partG m c t j := by
  idx_vars j
  rw [q17]
  refine congrArg _ (Finset.sum_congr rfl fun r _ => ?_)
  rw [x_at, y_at, d_at]
  rfl

theorem stepB (c : Dev nD) (t : Fin cfg0.N) (a : FVec Ideal S1x2048 .f32) (j : S1x2048.Idx) :
    k0_pay1 (F := Ideal) (k0_pay13 (iblk m c 4 t)) a j = a j + partB m c t j := by
  idx_vars j
  rw [q1]
  exact congrArg _ (Finset.sum_congr rfl fun r _ => congrFun (d_at m c t r) j1)

theorem firstG (c : Dev nD) (t : Fin cfg0.N) (h : t.val % 32 = 0) (y : S1x2048.Idx) : (outsAt0 m c t.val t.isLt).2.2.1 y = 0 + partG m c t y := by
  have e : (outsAt0 m c t.val t.isLt).2.2.1 = k0_pay17 (F := Ideal) (k0_pay14 (iblk m c 0 t) (iblk m c 1 t) (iblk m c 4 t)) (k0_pay2 (F := Ideal)) := by
    rw [outsAt0_A m c t h]
    funext y
    frame_out
  rw [e, stepG]
  congr 1
  idx_vars y
  pointwise [k0_pay2]

theorem laterG (c : Dev nD) (t : Fin cfg0.N) (h : ¬ t.val % 32 = 0) (y : S1x2048.Idx) :
    (outsAt0 m c t.val t.isLt).2.2.1 y = (outsAt0 m c (t.val - 1) (Nat.lt_of_le_of_lt (Nat.sub_le _ _) t.isLt)).2.2.1 y + partG m c t y := by
  refine Eq.trans (congrFun ?_ y) (stepG m c t _ y)
  rw [outsAt0_B m c t h]
  funext y
  frame_out

theorem firstB (c : Dev nD) (t : Fin cfg0.N) (h : t.val % 32 = 0) (y : S1x2048.Idx) : (outsAt0 m c t.val t.isLt).2.2.2 y = 0 + partB m c t y := by
  have e : (outsAt0 m c t.val t.isLt).2.2.2 = k0_pay1 (F := Ideal) (k0_pay13 (iblk m c 4 t)) (k0_pay3 (F := Ideal)) := by
    rw [outsAt0_A m c t h]
    funext y
    frame_out
  rw [e, stepB]
  congr 1
  idx_vars y
  pointwise [k0_pay3]

theorem laterB (c : Dev nD) (t : Fin cfg0.N) (h : ¬ t.val % 32 = 0) (y : S1x2048.Idx) :
    (outsAt0 m c t.val t.isLt).2.2.2 y = (outsAt0 m c (t.val - 1) (Nat.lt_of_le_of_lt (Nat.sub_le _ _) t.isLt)).2.2.2 y + partB m c t y := by
  refine Eq.trans (congrFun ?_ y) (stepB m c t _ y)
  rw [outsAt0_B m c t h]
  funext y
  frame_out

/-- The last grid point. -/
abbrev tLast : Fin cfg0.N := ⟨31, by decide⟩

theorem final7 (c : Dev nD) : (dats m 0 c).arrAt 7 (cfgs 0).N = O2 (argX m c) (argY m c) (argD m c) := by
  refine (dats m 0 c).arrAt_eq_of_after_last 7 tLast (by decide +kernel) _ fun j => ?_
  blk_simp
  rw [after0_7, Pipeline.eq_sum_fin_of_reset_step_apply_last (fun n h => (outsAt0 m c n h).2.2.1) 32 (fun _ => 0) (fun t j => partG m c t j)
    (fun t h j => firstG m c t h j) (fun t h j => laterG m c t h j) (le_of_eq N_0) tLast rfl j, zero_add]
  idx_vars j
  rw [O2_at]
  exact Fin.sum_mul_add_congr fun t r hr => rfl

theorem final8 (c : Dev nD) : (dats m 0 c).arrAt 8 (cfgs 0).N = O3 (argD m c) := by
  refine (dats m 0 c).arrAt_eq_of_after_last 8 tLast (by decide +kernel) _ fun j => ?_
  blk_simp
  rw [after0_8, Pipeline.eq_sum_fin_of_reset_step_apply_last (fun n h => (outsAt0 m c n h).2.2.2) 32 (fun _ => 0) (fun t j => partB m c t j)
    (fun t h j => firstB m c t h j) (fun t h j => laterB m c t h j) (le_of_eq N_0) tLast rfl j, zero_add]
  idx_vars j
  rw [O3_at]
  exact Fin.sum_mul_add_congr fun t r hr => rfl

end Cert.LnbValue

end
-- ==== Proof.MemGRow.lean ====
module

public import proofs.«01_k».proof.Proof.Gen.Kernel26Ideal.Frame
public import Idealize.ShloMosaic.Lib.Pipeline.ValueKit

@[expose] public section

set_option maxRecDepth 16384

noncomputable section

namespace Cert.MemGRow

open Idealize.ShloMosaic Idealize.ShloMosaic.TcCoe Idealize.SL.Sem

/-! One query row against the memory: the scores, their exponentials, and the gradient of the scores. -/

/-- The scale of the scores. -/
def sc : EReal := Ideal.ofBits .f32 0x3DB504F3#32

/-- The scaled score of one query row against key `j`. -/
def score (q : Fin 128 → EReal) (K : Fin 256 → Fin 128 → EReal) (j : Fin 256) : EReal :=
  (∑ d : Fin 128, q d * K j d) * sc

/-- The exponential of a score less the greatest score of the row. -/
def ex (q : Fin 128 → EReal) (K : Fin 256 → Fin 128 → EReal) (j : Fin 256) : EReal :=
  Ideal.exp (score q K j - Finset.univ.fold max (Ideal.ofBits .f32 0xFF800000#32) fun l => score q K l)

/-- The sum of the exponentials of a row. -/
def den (q : Fin 128 → EReal) (K : Fin 256 → Fin 128 → EReal) : EReal := ∑ j : Fin 256, ex q K j

/-- The gradient of the scores (before the scale) in one row. -/
def ds (q : Fin 128 → EReal) (K V : Fin 256 → Fin 128 → EReal) (g : Fin 128 → EReal) (j : Fin 256) : EReal :=
  (Ideal.div (∑ d : Fin 128, g d * V j d) (den q K)
    + -(∑ l : Fin 256, (∑ d : Fin 128, g d * V l d) * Ideal.div 1 (den q K * den q K) * ex q K l)) * ex q K j * sc

open Cert.Kernel26Ideal Cert.Kernel26Ideal.Gen

variable (q g : FVec Ideal S512x128 .f32) (k v : FVec Ideal S256x128 .f32)

/-- Row `r` of a block of queries (or of cotangents). -/
abbrev row {n : ℕ} (x : FVec Ideal ⟨2, ![n, 128]⟩ .f32) (r : Fin n) : Fin 128 → EReal := fun d => x (ix2 r d)

/-- A block of keys (or values) by rows. -/
abbrev mat (x : FVec Ideal S256x128 .f32) : Fin 256 → Fin 128 → EReal := fun j d => x (ix2 j d)

theorem zero_sub_neg (a : EReal) : (0 : EReal) - a = -a := by rw [sub_eq_add_neg, zero_add]

/-- The gradient of a block of queries. -/
def DQ (q g : FVec Ideal S512x128 .f32) (k v : FVec Ideal S256x128 .f32) (r : Fin 512) (d : Fin 128) : EReal :=
  ∑ j : Fin 256, ds (row q r) (mat k) (mat v) (row g r) j * k (ix2 j d)

/-- A block's part of the gradient of the keys. -/
def DK (q g : FVec Ideal S512x128 .f32) (k v : FVec Ideal S256x128 .f32) (j : Fin 256) (d : Fin 128) : EReal :=
  ∑ r : Fin 512, ds (row q r) (mat k) (mat v) (row g r) j * q (ix2 r d)

/-- A block's part of the gradient of the values. -/
def DV (q g : FVec Ideal S512x128 .f32) (k : FVec Ideal S256x128 .f32) (j : Fin 256) (d : Fin 128) : EReal :=
  ∑ r : Fin 512, Ideal.div (ex (row q r) (mat k) j) (den (row q r) (mat k)) * g (ix2 r d)

theorem dq0 (r : Fin 512) (d : Fin 128) :
    k0_pay11 (F := Ideal) k (k0_pay4 q k) (k0_pay8 q k v g) (k0_pay9 q k v g) (ix2 r d) = DQ q g k v r d := by
  pointwise [k0_pay4, k0_pay5, k0_pay6, k0_pay7, k0_pay8, k0_pay9, k0_pay10, k0_pay11, k0_pay12, k0_pay13, DQ, DK, DV, row, mat, ds, den, ex, score, sc, zero_sub_neg]
  simp only [Finset.univ_unique, Finset.sum_singleton]

theorem dk0 (a : FVec Ideal S256x128 .f32) (j : Fin 256) (d : Fin 128) :
    k0_pay12 (F := Ideal) q (k0_pay4 q k) (k0_pay8 q k v g) (k0_pay9 q k v g) a (ix2 j d) = a (ix2 j d) + DK q g k v j d := by
  pointwise [k0_pay4, k0_pay5, k0_pay6, k0_pay7, k0_pay8, k0_pay9, k0_pay10, k0_pay11, k0_pay12, k0_pay13, DQ, DK, DV, row, mat, ds, den, ex, score, sc, zero_sub_neg]
  simp only [Finset.univ_unique, Finset.sum_singleton]

theorem dv0 (a : FVec Ideal S256x128 .f32) (j : Fin 256) (d : Fin 128) :
    k0_pay13 (F := Ideal) (k0_pay7 q k g) a (ix2 j d) = a (ix2 j d) + DV q g k j d := by
  pointwise! [k0_pay4, k0_pay5, k0_pay6, k0_pay7, k0_pay8, k0_pay9, k0_pay10, k0_pay11, k0_pay12, k0_pay13, DQ, DK, DV, row, mat, ds, den, ex, score, sc, zero_sub_neg]

theorem dq1 (r : Fin 512) (d : Fin 128) :
    k0_pay19 (F := Ideal) k v (k0_pay14 q k) g (ix2 r d) = DQ q g k v r d := by
  pointwise [k0_pay14, k0_pay15, k0_pay16, k0_pay17, k0_pay18, k0_pay19, k0_pay20, k0_pay21, DQ, DK, DV, row, mat, ds, den, ex, score, sc, zero_sub_neg]
  simp only [Finset.univ_unique, Finset.sum_singleton]

theorem dk1 (a : FVec Ideal S256x128 .f32) (j : Fin 256) (d : Fin 128) :
    k0_pay20 (F := Ideal) q v (k0_pay14 q k) g a (ix2 j d) = a (ix2 j d) + DK q g k v j d := by
  pointwise [k0_pay14, k0_pay15, k0_pay16, k0_pay17, k0_pay18, k0_pay19, k0_pay20, k0_pay21, DQ, DK, DV, row, mat, ds, den, ex, score, sc, zero_sub_neg]
  simp only [Finset.univ_unique, Finset.sum_singleton]

theorem dv1 (a : FVec Ideal S256x128 .f32) (j : Fin 256) (d : Fin 128) :
    k0_pay21 (F := Ideal) (k0_pay17 (k0_pay14 q k) g) a (ix2 j d) = a (ix2 j d) + DV q g k j d := by
  pointwise! [k0_pay14, k0_pay15, k0_pay16, k0_pay17, k0_pay18, k0_pay19, k0_pay20, k0_pay21, DQ, DK, DV, row, mat, ds, den, ex, score, sc, zero_sub_neg]

theorem dq2 (r : Fin 512) (d : Fin 128) :
    k0_pay28 (F := Ideal) k (k0_pay22 q k) (k0_pay23 q k) (k0_pay24 v g) (k0_pay26 q k v g) (Scalar.ofBits .f32 0x00000000#32) (ix2 r d) = DQ q g k v r d := by
  pointwise [k0_pay22, k0_pay23, k0_pay24, k0_pay25, k0_pay26, k0_pay27, k0_pay28, k0_pay29, k0_pay30, DQ, DK, DV, row, mat, ds, den, ex, score, sc, zero_sub_neg]
  simp only [Finset.univ_unique, Finset.sum_singleton]

theorem dk2 (a : FVec Ideal S256x128 .f32) (j : Fin 256) (d : Fin 128) :
    k0_pay29 (F := Ideal) q (k0_pay22 q k) (k0_pay23 q k) (k0_pay24 v g) (k0_pay26 q k v g) (Scalar.ofBits .f32 0x00000000#32) a (ix2 j d) = a (ix2 j d) + DK q g k v j d := by
  pointwise [k0_pay22, k0_pay23, k0_pay24, k0_pay25, k0_pay26, k0_pay27, k0_pay28, k0_pay29, k0_pay30, DQ, DK, DV, row, mat, ds, den, ex, score, sc, zero_sub_neg]
  simp only [Finset.univ_unique, Finset.sum_singleton]

theorem dv2 (a : FVec Ideal S256x128 .f32) (j : Fin 256) (d : Fin 128) :
    k0_pay30 (F := Ideal) (k0_pay25 q k g) a (ix2 j d) = a (ix2 j d) + DV q g k j d := by
  pointwise! [k0_pay22, k0_pay23, k0_pay24, k0_pay25, k0_pay26, k0_pay27, k0_pay28, k0_pay29, k0_pay30, DQ, DK, DV, row, mat, ds, den, ex, score, sc, zero_sub_neg]

theorem dq3 (r : Fin 512) (d : Fin 128) :
    k0_pay36 (F := Ideal) k v (k0_pay31 q k) g (ix2 r d) = DQ q g k v r d := by
  pointwise [k0_pay1, k0_pay2, k0_pay31, k0_pay32, k0_pay33, k0_pay34, k0_pay35, k0_pay36, k0_pay37, DQ, DK, DV, row, mat, ds, den, ex, score, sc, zero_sub_neg]
  simp only [Finset.univ_unique, Finset.sum_singleton]

theorem dk3 (a : FVec Ideal S256x128 .f32) (j : Fin 256) (d : Fin 128) :
    k0_pay1 (F := Ideal) (k0_pay37 q v (k0_pay31 q k) g) a (ix2 j d) = a (ix2 j d) + DK q g k v j d := by
  pointwise [k0_pay1, k0_pay2, k0_pay31, k0_pay32, k0_pay33, k0_pay34, k0_pay35, k0_pay36, k0_pay37, DQ, DK, DV, row, mat, ds, den, ex, score, sc, zero_sub_neg]
  simp only [Finset.univ_unique, Finset.sum_singleton]

theorem dv3 (a : FVec Ideal S256x128 .f32) (j : Fin 256) (d : Fin 128) :
    k0_pay2 (F := Ideal) (k0_pay34 (k0_pay31 q k) g) a (ix2 j d) = a (ix2 j d) + DV q g k j d := by
  pointwise! [k0_pay1, k0_pay2, k0_pay31, k0_pay32, k0_pay33, k0_pay34, k0_pay35, k0_pay36, k0_pay37, DQ, DK, DV, row, mat, ds, den, ex, score, sc, zero_sub_neg]

end Cert.MemGRow

end
-- ==== Proof.MemGRef.lean ====
module

public import proofs.«01_k».proof.Proof.MemGRow
public import proofs.«01_k».proof.Proof.Gen.Reference26Ideal.Run

@[expose] public section

set_option maxRecDepth 16384

noncomputable section

namespace Cert.MemGRef

open Idealize.ShloMosaic Idealize.ShloMosaic.TcCoe Idealize.SL.Sem
open Cert.MemGRow
open Cert.Reference26Ideal Cert.Reference26Ideal.Gen Cert.Reference26Ideal.Value

/-! The reference's composed term, cut into named pieces, and each piece read at an index. -/

section pieces
variable (X : FVec Ideal S8192x6912 .f32) (M : FVec Ideal S256x1024 .f32) (G : FVec Ideal S8192x2048 .f32)

/-- The queries by heads. -/
def Q3 : FVec Ideal S8192x4x128 .f32 :=
  shapeCast _ (extractStridedSlice S8192x512 ![0, 6144] X slices_S8192x6912_S8192x512_0_6144) shapeCasts_S8192x512_S8192x4x128
/-- The keys by heads. -/
def K3 : FVec Ideal S256x4x128 .f32 :=
  shapeCast _ (extractStridedSlice S256x512 ![0, 0] M slices_S256x1024_S256x512_0_0) shapeCasts_S256x512_S256x4x128
/-- The values by heads. -/
def V3 : FVec Ideal S256x4x128 .f32 :=
  shapeCast _ (extractStridedSlice S256x512 ![0, 512] M slices_S256x1024_S256x512_0_512) shapeCasts_S256x512_S256x4x128
/-- The cotangents by heads, transposed. -/
def G3 : FVec Ideal S4x128x8192 .f32 :=
  transpose S4x128x8192 [1, 2, 0] (shapeCast _ (extractStridedSlice S8192x512 ![0, 1536] G slices_S8192x2048_S8192x512_0_1536) shapeCasts_S8192x512_S8192x4x128) transposes_S8192x4x128_S4x128x8192_1_2_0
/-- The scaled scores. -/
def SC : FVec Ideal S4x8192x256 .f32 :=
  mulf (Host.dotGeneral dot_S8192x4x128_S256x4x128_S4x8192x256_2_2_0_0_1_1 none (Q3 X) (K3 M)) (broadcastInDim S4x8192x256 ![] bcast_S_S4x8192x256 (constant S_ .f32 0x3DB504F3#32))
/-- The greatest score of every row. -/
def MX0 : FVec Ideal S4x8192 .f32 :=
  Host.reduce FloatOps.maximumf (SC X M) (constant S_ .f32 0xFF800000#32) reducesTo_S4x8192x256_S4x8192_d2 h_S_
/-- The greatest score of every row, against the least value. -/
def MX : FVec Ideal S4x8192 .f32 :=
  maximumf (broadcastInDim S4x8192 ![] bcast_S_S4x8192 (constant S_ .f32 0xFF800000#32)) (MX0 X M)
/-- The exponentials. -/
def E : FVec Ideal S4x8192x256 .f32 :=
  Host.exp (subf (SC X M) (broadcastInDim S4x8192x256 ![0, 1, 2] bcast_S4x8192x1_S4x8192x256_0_1_2 (broadcastInDim S4x8192x1 ![0, 1] bcast_S4x8192_S4x8192x1_0_1 (MX X M))))
/-- The row sums. -/
def DEN : FVec Ideal S4x8192 .f32 := Host.reduceAdd (E X M) (constant S_ .f32 0x00000000#32) reducesTo_S4x8192x256_S4x8192_d2 h_S_
/-- The row sums along every row. -/
def DENB : FVec Ideal S4x8192x256 .f32 := broadcastInDim S4x8192x256 ![0, 1, 2] bcast_S4x8192x1_S4x8192x256_0_1_2 (broadcastInDim S4x8192x1 ![0, 1] bcast_S4x8192_S4x8192x1_0_1 (DEN X M))
/-- The gradient of the probabilities. -/
def DP : FVec Ideal S4x8192x256 .f32 := Host.dotGeneral dot_S4x128x8192_S256x4x128_S4x8192x256_1_2_2_0_0_1 none (G3 G) (V3 M)
/-- The gradient of the row sums. -/
def NS : FVec Ideal S4x8192 .f32 :=
  Host.reduceAdd (Host.negf (shapeCast _ (Host.reduceAdd (mulf (mulf (DP M G) (broadcastInDim S4x8192x256 ![0, 1, 2] bcast_S4x8192x1_S4x8192x256_0_1_2 (Host.divf (broadcastInDim S4x8192x1 ![] bcast_S_S4x8192x1 (constant S_ .f32 0x3F800000#32)) (mulf (broadcastInDim S4x8192x1 ![0, 1] bcast_S4x8192_S4x8192x1_0_1 (DEN X M)) (broadcastInDim S4x8192x1 ![0, 1] bcast_S4x8192_S4x8192x1_0_1 (DEN X M)))))) (E X M)) (constant S_ .f32 0x00000000#32) reducesTo_S4x8192x256_S4x8192_d2 h_S_) shapeCasts_S4x8192_S4x8192x1)) (constant S_ .f32 0x00000000#32) reducesTo_S4x8192x1_S4x8192_d2 h_S_
/-- The gradient of the scores. -/
def DS : FVec Ideal S4x8192x256 .f32 :=
  mulf (mulf (addf (Host.divf (DP M G) (DENB X M)) (broadcastInDim S4x8192x256 ![0, 1] bcast_S4x8192_S4x8192x256_0_1 (NS X M G))) (E X M)) (broadcastInDim S4x8192x256 ![] bcast_S_S4x8192x256 (constant S_ .f32 0x3DB504F3#32))
/-- The gradient of the queries. -/
def OQ : FVec Ideal S8192x512 .f32 :=
  shapeCast _ (transpose S8192x4x128 [1, 0, 2] (Host.dotGeneral dot_S4x8192x256_S256x4x128_S4x8192x128_2_0_1_2_0_1 none (DS X M G) (K3 M)) transposes_S4x8192x128_S8192x4x128_1_0_2) shapeCasts_S8192x4x128_S8192x512
/-- The gradient of the keys and the values. -/
def OKV : FVec Ideal S256x1024 .f32 :=
  addf (pad S256x1024 ![0, 512] ![0, 0] ![0, 0] (shapeCast _ (transpose S256x4x128 [2, 0, 1] (Host.dotGeneral dot_S4x128x8192_S4x8192x256_S4x128x256_2_1_1_2_0_0 none (G3 G) (Host.divf (E X M) (DENB X M))) transposes_S4x128x256_S256x4x128_2_0_1) shapeCasts_S256x4x128_S256x512) (constant S_ .f32 0x00000000#32) pads_S256x512_S256x1024_000_51200 h_S_) (pad S256x1024 ![0, 0] ![0, 512] ![0, 0] (shapeCast _ (transpose S256x4x128 [1, 0, 2] (Host.dotGeneral dot_S4x8192x256_S8192x4x128_S4x256x128_1_0_2_2_0_1 none (DS X M G) (Q3 X)) transposes_S4x256x128_S256x4x128_1_0_2) shapeCasts_S256x4x128_S256x512) (constant S_ .f32 0x00000000#32) pads_S256x512_S256x1024_000_05120 h_S_)

/-- Row `r` of head `a` of the queries. -/
abbrev qr (r : Fin 8192) (a : Fin 4) : Fin 128 → EReal := fun d => X (ix2 r ⟨6144 + (a.val * 128 + d.val), by omega⟩)
/-- Row `r` of head `a` of the cotangents. -/
abbrev gr (r : Fin 8192) (a : Fin 4) : Fin 128 → EReal := fun d => G (ix2 r ⟨1536 + (a.val * 128 + d.val), by omega⟩)
/-- The keys of head `a`. -/
abbrev km (a : Fin 4) : Fin 256 → Fin 128 → EReal := fun j d => M (ix2 j ⟨a.val * 128 + d.val, by omega⟩)
/-- The values of head `a`. -/
abbrev vm (a : Fin 4) : Fin 256 → Fin 128 → EReal := fun j d => M (ix2 j ⟨512 + (a.val * 128 + d.val), by omega⟩)

theorem max_fold (b : EReal) {n : Nat} (f : Fin n → EReal) : max b (Finset.univ.fold max b f) = Finset.univ.fold max b f :=
  max_eq_right ((Finset.le_fold_max _).2 (Or.inl le_rfl))

theorem Q_at (a : Fin 4) (r : Fin 8192) (d : Fin 128) : Q3 X (ix3 r a d) = qr X r a d := by
  pointwise [Q3]
theorem K_at (a : Fin 4) (j : Fin 256) (d : Fin 128) : K3 M (ix3 j a d) = km M a j d := by
  pointwise [K3]
theorem V_at (a : Fin 4) (j : Fin 256) (d : Fin 128) : V3 M (ix3 j a d) = vm M a j d := by
  pointwise [V3]
theorem G_at (a : Fin 4) (r : Fin 8192) (d : Fin 128) : G3 G (ix3 a d r) = gr G r a d := by
  pointwise [G3]

theorem SC_at (a : Fin 4) (r : Fin 8192) (j : Fin 256) : SC X M (ix3 a r j) = score (qr X r a) (km M a) j := by
  pointwise [SC, Q_at, K_at, score, sc]

theorem max_row (x : FVec Ideal S4x8192x256 .f32) (a : Fin 4) (r : Fin 8192) :
    Host.reduce FloatOps.maximumf x (constant S_ .f32 0xFF800000#32) reducesTo_S4x8192x256_S4x8192_d2 h_S_ (ix2 a r)
      = Finset.univ.fold max (Ideal.ofBits .f32 0xFF800000#32) fun k : Fin 256 => x (ix3 a r k) := by
  simp only [pointwise]

theorem MX0_at (a : Fin 4) (r : Fin 8192) :
    MX0 X M (ix2 a r) = Finset.univ.fold max (Ideal.ofBits .f32 0xFF800000#32) fun l => score (qr X r a) (km M a) l := by
  rw [MX0, max_row]
  simp only [SC_at]

theorem max_const (y : FVec Ideal S4x8192 .f32) (a : Fin 4) (r : Fin 8192) :
    maximumf (broadcastInDim S4x8192 ![] bcast_S_S4x8192 (constant (F := Ideal) S_ .f32 0xFF800000#32)) y (ix2 a r) = max (Ideal.ofBits .f32 0xFF800000#32) (y (ix2 a r)) := by
  rfl

theorem MX_at (a : Fin 4) (r : Fin 8192) :
    MX X M (ix2 a r) = Finset.univ.fold max (Ideal.ofBits .f32 0xFF800000#32) fun l => score (qr X r a) (km M a) l := by
  have h := MX0_at X M a r
  rw [MX, max_const]
  generalize MX0 X M (ix2 a r) = y at h
  subst h
  exact max_fold _ _

theorem E_at (a : Fin 4) (r : Fin 8192) (j : Fin 256) : E X M (ix3 a r j) = ex (qr X r a) (km M a) j := by
  pointwise [E, ex, SC_at, MX_at]

theorem DEN_at (a : Fin 4) (r : Fin 8192) : DEN X M (ix2 a r) = den (qr X r a) (km M a) := by
  pointwise [DEN, den, E_at]

theorem DENB_at (a : Fin 4) (r : Fin 8192) (j : Fin 256) : DENB X M (ix3 a r j) = den (qr X r a) (km M a) := by
  pointwise [DENB, DEN_at]

theorem DP_at (a : Fin 4) (r : Fin 8192) (j : Fin 256) : DP M G (ix3 a r j) = ∑ d : Fin 128, gr G r a d * vm M a j d := by
  pointwise [DP, G_at, V_at]

theorem NS_at (a : Fin 4) (r : Fin 8192) : NS X M G (ix2 a r)
    = -(∑ l : Fin 256, (∑ d : Fin 128, gr G r a d * vm M a l d) * Ideal.div 1 (den (qr X r a) (km M a) * den (qr X r a) (km M a)) * ex (qr X r a) (km M a) l) := by
  pointwise [NS, DP_at, DEN_at, E_at]
  simp only [Finset.univ_unique, Finset.sum_singleton]

theorem DS_at (a : Fin 4) (r : Fin 8192) (j : Fin 256) : DS X M G (ix3 a r j) = ds (qr X r a) (km M a) (vm M a) (gr G r a) j := by
  pointwise [DS, DP_at, DENB_at, NS_at, E_at, ds, sc]

theorem OQ_at (r : Fin 8192) (a : Fin 4) (d : Fin 128) :
    OQ X M G (ix2 r ⟨a.val * 128 + d.val, by omega⟩) = ∑ j : Fin 256, ds (qr X r a) (km M a) (vm M a) (gr G r a) j * km M a j d := by
  pointwise [OQ, DS_at, K_at]

theorem OKV_k (j : Fin 256) (a : Fin 4) (d : Fin 128) :
    OKV X M G (ix2 j ⟨a.val * 128 + d.val, by omega⟩) = ∑ r : Fin 8192, ds (qr X r a) (km M a) (vm M a) (gr G r a) j * qr X r a d := by
  pointwise [OKV, DS_at, E_at, DENB_at, Q_at, G_at]
  rw [dif_neg (by omega), dif_pos (by omega), zero_add]

theorem OKV_v (j : Fin 256) (a : Fin 4) (d : Fin 128) :
    OKV X M G (ix2 j ⟨512 + (a.val * 128 + d.val), by omega⟩)
      = ∑ r : Fin 8192, Ideal.div (ex (qr X r a) (km M a) j) (den (qr X r a) (km M a)) * gr G r a d := by
  pointwise [OKV, DS_at, E_at, DENB_at, Q_at, G_at]
  rw [dif_pos (by omega)]
  exact Finset.sum_congr rfl fun x _ => mul_comm _ _
end pieces

theorem out0_eq (m : (ℓ : Loc nD τ sig) → Buf (Elt Ideal) ℓ) (c : Dev nD) :
    res_out0 m c = OQ (m ((c.tc : Thread nD τ).loc main_arg0)) (m ((c.tc : Thread nD τ).loc main_arg1)) (m ((c.tc : Thread nD τ).loc main_arg2)) := rfl

theorem out1_eq (m : (ℓ : Loc nD τ sig) → Buf (Elt Ideal) ℓ) (c : Dev nD) :
    res_out1 m c = OKV (m ((c.tc : Thread nD τ).loc main_arg0)) (m ((c.tc : Thread nD τ).loc main_arg1)) (m ((c.tc : Thread nD τ).loc main_arg2)) := rfl

end Cert.MemGRef

end
-- ==== Proof.MemGValue.lean ====
module

public import proofs.«01_k».proof.Proof.MemGRef
public import proofs.«01_k».proof.Proof.Gen.Kernel26Ideal.Value
public import Idealize.ShloMosaic.Lib.Pipeline.ValueKit
public import Idealize.ShloMosaic.Lib.Pipeline.ReadBack

@[expose] public section

set_option maxRecDepth 16384

noncomputable section

namespace Cert.MemGValue

open Idealize.ShloMosaic Idealize.ShloMosaic.TcCoe Idealize.SL.Sem
open Idealize.ShloMosaic.Pipeline (Dat)
open Cert.MemGRow Cert.MemGRef
open Cert.Kernel26Ideal Cert.Kernel26Ideal.Gen

variable (m : (ℓ : Loc nD τ sig) → Buf (Elt Ideal) ℓ)

/-- The query part of the projected input, as launched. -/
abbrev argX (c : Dev nD) : FVec Ideal S8192x6912 .f32 := m ((c : Thread nD τ).loc main_arg0)
/-- The memory's keys and values, as launched. -/
abbrev argM (c : Dev nD) : FVec Ideal S256x1024 .f32 := m ((c : Thread nD τ).loc main_arg1)
/-- The cotangent, as launched. -/
abbrev argG (c : Dev nD) : FVec Ideal S8192x2048 .f32 := m ((c : Thread nD τ).loc main_arg2)

theorem idx : ∀ t : Fin cfg0.N, win0_0.index t = ![t.val, 12] ∧ win0_1.index t = ![0, 0] ∧ win0_2.index t = ![t.val, 3]
    ∧ win0_3.index t = ![t.val, 0] ∧ win0_4.index t = ![0, 0] ∧ t.val < 16 :=
  (by decide +kernel : ∀ t : Fin grid0.N, _)

/-- The row of the array that row `r` of block `t` is. -/
abbrev rowOf (t : Fin cfg0.N) (r : Fin 512) : Fin 8192 := ⟨t.val * 512 + r.val, by have := (idx t).2.2.2.2.2; omega⟩

theorem x_at (c : Dev nD) (t : Fin cfg0.N) (r l : Fin 512) :
    (show FVec Ideal S512x512 .f32 from X0_0 m c t) (ix2 r l) = argX m c (ix2 (rowOf t r) ⟨6144 + l.val, by omega⟩) := by
  show (cfg0.win 0).fill (cfg0.grid.coords t) dflt0_0 (iblk m c 0 t) (ix2 r l) = _
  unfold Pipeline.Window.fill
  rw [dif_pos (moved0_0 t (ix2 r l))]
  blk_ext [iblk, V, idx t]

theorem m_at (c : Dev nD) (t : Fin cfg0.N) (j : Fin 256) (l : Fin 1024) :
    (show FVec Ideal S256x1024 .f32 from iblk m c 1 t) (ix2 j l) = argM m c (ix2 j l) := by
  blk_ext [iblk, V, idx t]

theorem g_at (c : Dev nD) (t : Fin cfg0.N) (r l : Fin 512) :
    (show FVec Ideal S512x512 .f32 from iblk m c 2 t) (ix2 r l) = argG m c (ix2 (rowOf t r) ⟨1536 + l.val, by omega⟩) := by
  blk_ext [iblk, V, idx t]

/-- The tiles a head of block `t` reads hold the head's queries, cotangents, keys and values. -/
structure Tiles (c : Dev nD) (t : Fin cfg0.N) (a : Fin 4) (q g : FVec Ideal S512x128 .f32) (k v : FVec Ideal S256x128 .f32) : Prop where
  hq : ∀ r, row q r = qr (argX m c) (rowOf t r) a
  hg : ∀ r, row g r = gr (argG m c) (rowOf t r) a
  hk : mat k = km (argM m c) a
  hv : mat v = vm (argM m c) a

theorem ld_rows (B : Vec Ideal S512x512 .f32) (o : ℕ) (ho : o + 128 ≤ 512) (inb) (r : Fin 512) (d : Fin 128) :
    View.ld B (Rect.unit ![0, o] ![512, 128] inb) (ix2 r d) = B (ix2 r ⟨o + d.val, by omega⟩) := by
  pointwise

theorem ld_mem (B : Vec Ideal S256x1024 .f32) (o : ℕ) (ho : o + 128 ≤ 1024) (inb) (j : Fin 256) (d : Fin 128) :
    View.ld B (Rect.unit ![0, o] ![256, 128] inb) (ix2 j d) = B (ix2 j ⟨o + d.val, by omega⟩) := by
  pointwise

theorem ld_at (B : Vec Ideal S256x1024 .f32) (o : ℕ) (inb) (x : S256x128.Idx) (y : S256x1024.Idx) (h0 : (y 0 : ℕ) = (x 0 : ℕ)) (h1 : (y 1 : ℕ) = o + (x 1 : ℕ)) :
    View.ld B (Rect.unit ![0, o] ![256, 128] inb) x = B y := by
  idx_vars x
  idx_vars y
  rw [ld_mem B o (by have := inb 1; simpa using this)]
  blk_ext

theorem tiles (c : Dev nD) (t : Fin cfg0.N) (a : Fin 4) (o p : ℕ) (ho : o = a.val * 128) (hp : p = 512 + o) (i0 i1 i2 i3) :
    Tiles m c t a (View.ld (X0_0 m c t) (Rect.unit ![0, o] ![512, 128] i0)) (View.ld (iblk m c 2 t) (Rect.unit ![0, o] ![512, 128] i1))
      (View.ld (iblk m c 1 t) (Rect.unit ![0, o] ![256, 128] i2)) (View.ld (iblk m c 1 t) (Rect.unit ![0, p] ![256, 128] i3)) := by
  subst ho hp
  constructor
  · intro r; funext d
    exact (ld_rows _ _ (by omega) _ r d).trans (x_at m c t r _)
  · intro r; funext d
    exact (ld_rows _ _ (by omega) _ r d).trans (g_at m c t r _)
  · funext j d
    exact (ld_mem _ _ (by omega) _ j d).trans (m_at m c t j _)
  · funext j d
    refine (ld_mem _ _ (by omega) _ j d).trans ((m_at m c t j _).trans (congrArg (argM m c) ?_))
    blk_ext

variable {m}

/-- A head's part of the query gradient at a block's row is the reference's at the array's row. -/
theorem Tiles.dq {c : Dev nD} {t : Fin cfg0.N} {a : Fin 4} {q g k v} (h : Tiles m c t a q g k v) (r : Fin 512) (d : Fin 128) :
    DQ q g k v r d = OQ (argX m c) (argM m c) (argG m c) (ix2 (rowOf t r) ⟨a.val * 128 + d.val, by omega⟩) := by
  rw [OQ_at]
  unfold DQ
  rw [h.hq, h.hg, h.hk, h.hv]
  exact Finset.sum_congr rfl fun j _ => congrArg _ (congrFun (congrFun h.hk j) d)

variable (m)

theorem point3 (c : Dev nD) (t : Fin cfg0.N) (a : Fin 4) {q g k v} (h : Tiles m c t a q g k v) (f : FVec Ideal S512x128 .f32)
    (hf : ∀ r d, f (ix2 r d) = DQ q g k v r d) (x : S512x128.Idx) (j : S8192x512.Idx)
    (h0 : (j 0 : ℕ) = t.val * 512 + (x 0 : ℕ)) (h1 : (j 1 : ℕ) = a.val * 128 + (x 1 : ℕ)) :
    f x = OQ (argX m c) (argM m c) (argG m c) j := by
  idx_vars x
  rw [hf, h.dq]
  congr 1
  blk_ext

theorem final3 (c : Dev nD) : (dats m 0 c).arrAt 3 (cfgs 0).N = OQ (argX m c) (argM m c) (argG m c) := by
  refine (dats m 0 c).arrAt_eq_of_covers 3 _ (by decide +kernel) fun t _ y => ?_
  blk_simp
  rw [after0_3]
  by_cases h0 : t.val % 16 = 0
  · rw [outsAt0_A m c t h0]
    frame_out
    canon_tiles x h
    case piece0 =>
      refine point3 m c t 3 (tiles m c t 3 384 896 rfl rfl _ _ _ _) _ (fun r d => dq3 _ _ _ _ r d) x _ ?_ ?_ <;> (blk_simp [idx t] <;> try omega)
    case piece1 =>
      refine point3 m c t 2 (tiles m c t 2 256 768 rfl rfl _ _ _ _) _ (fun r d => dq2 _ _ _ _ r d) x _ ?_ ?_ <;> (blk_simp [idx t] <;> try omega)
    case piece2 =>
      refine point3 m c t 1 (tiles m c t 1 128 640 rfl rfl _ _ _ _) _ (fun r d => dq1 _ _ _ _ r d) x _ ?_ ?_ <;> (blk_simp [idx t] <;> try omega)
    case piece3 =>
      refine point3 m c t 0 (tiles m c t 0 0 512 rfl rfl _ _ _ _) _ (fun r d => dq0 _ _ _ _ r d) x _ ?_ ?_ <;> (blk_simp [idx t] <;> try omega)
  · rw [outsAt0_B m c t h0]
    frame_out
    canon_tiles x h
    case piece0 =>
      refine point3 m c t 3 (tiles m c t 3 384 896 rfl rfl _ _ _ _) _ (fun r d => dq3 _ _ _ _ r d) x _ ?_ ?_ <;> (blk_simp [idx t] <;> try omega)
    case piece1 =>
      refine point3 m c t 2 (tiles m c t 2 256 768 rfl rfl _ _ _ _) _ (fun r d => dq2 _ _ _ _ r d) x _ ?_ ?_ <;> (blk_simp [idx t] <;> try omega)
    case piece2 =>
      refine point3 m c t 1 (tiles m c t 1 128 640 rfl rfl _ _ _ _) _ (fun r d => dq1 _ _ _ _ r d) x _ ?_ ?_ <;> (blk_simp [idx t] <;> try omega)
    case piece3 =>
      refine point3 m c t 0 (tiles m c t 0 0 512 rfl rfl _ _ _ _) _ (fun r d => dq0 _ _ _ _ r d) x _ ?_ ?_ <;> (blk_simp [idx t] <;> try omega)

/-- What one row gives to an entry of the gradient of the memory: a key's entry in the first half of the columns, a value's in the second. -/
def kvRow (X : FVec Ideal S8192x6912 .f32) (M : FVec Ideal S256x1024 .f32) (G : FVec Ideal S8192x2048 .f32) (j : Fin 256) (l : Fin 1024) (r : Fin 8192) : EReal :=
  if h : l.val < 512 then
    ds (qr X r ⟨l.val / 128, by omega⟩) (km M ⟨l.val / 128, by omega⟩) (vm M ⟨l.val / 128, by omega⟩) (gr G r ⟨l.val / 128, by omega⟩) j
      * qr X r ⟨l.val / 128, by omega⟩ ⟨l.val % 128, by omega⟩
  else
    Ideal.div (ex (qr X r ⟨(l.val - 512) / 128, by omega⟩) (km M ⟨(l.val - 512) / 128, by omega⟩) j)
        (den (qr X r ⟨(l.val - 512) / 128, by omega⟩) (km M ⟨(l.val - 512) / 128, by omega⟩))
      * gr G r ⟨(l.val - 512) / 128, by omega⟩ ⟨(l.val - 512) % 128, by omega⟩

theorem kvRow_k (X M G) (j : Fin 256) (a : Fin 4) (d : Fin 128) (l : Fin 1024) (hl : l.val = a.val * 128 + d.val) (r : Fin 8192) :
    kvRow X M G j l r = ds (qr X r a) (km M a) (vm M a) (gr G r a) j * qr X r a d := by
  obtain ⟨l, hl'⟩ := l
  subst hl
  have ha : (⟨(a.val * 128 + d.val) / 128, by omega⟩ : Fin 4) = a := Fin.ext (by show _ / 128 = _; omega)
  have hd : (⟨(a.val * 128 + d.val) % 128, by omega⟩ : Fin 128) = d := Fin.ext (by show _ % 128 = _; omega)
  unfold kvRow
  rw [dif_pos (by show a.val * 128 + d.val < 512; omega)]
  simp only [ha, hd]

theorem kvRow_v (X M G) (j : Fin 256) (a : Fin 4) (d : Fin 128) (l : Fin 1024) (hl : l.val = 512 + (a.val * 128 + d.val)) (r : Fin 8192) :
    kvRow X M G j l r = Ideal.div (ex (qr X r a) (km M a) j) (den (qr X r a) (km M a)) * gr G r a d := by
  obtain ⟨l, hl'⟩ := l
  subst hl
  have ha : (⟨(512 + (a.val * 128 + d.val) - 512) / 128, by omega⟩ : Fin 4) = a := Fin.ext (by show _ / 128 = _; omega)
  have hd : (⟨(512 + (a.val * 128 + d.val) - 512) % 128, by omega⟩ : Fin 128) = d := Fin.ext (by show _ % 128 = _; omega)
  unfold kvRow
  rw [dif_neg (by show ¬ 512 + (a.val * 128 + d.val) < 512; omega)]
  simp only [ha, hd]

theorem OKV_rows (X M G) (j : Fin 256) (l : Fin 1024) : OKV X M G (ix2 j l) = ∑ r : Fin 8192, kvRow X M G j l r := by
  by_cases h : l.val < 512
  · have hl : l = ⟨(⟨l.val / 128, by omega⟩ : Fin 4).val * 128 + (⟨l.val % 128, by omega⟩ : Fin 128).val, by show l.val / 128 * 128 + l.val % 128 < 1024; omega⟩ :=
      Fin.ext (by show l.val = l.val / 128 * 128 + l.val % 128; omega)
    rw [hl, OKV_k]
    exact Finset.sum_congr rfl fun r _ => (kvRow_k X M G j _ _ _ rfl r).symm
  · have hl : l = ⟨512 + ((⟨(l.val - 512) / 128, by omega⟩ : Fin 4).val * 128 + (⟨(l.val - 512) % 128, by omega⟩ : Fin 128).val), by
        show 512 + ((l.val - 512) / 128 * 128 + (l.val - 512) % 128) < 1024; omega⟩ :=
      Fin.ext (by show l.val = 512 + ((l.val - 512) / 128 * 128 + (l.val - 512) % 128); omega)
    rw [hl, OKV_v]
    exact Finset.sum_congr rfl fun r _ => (kvRow_v X M G j _ _ _ rfl r).symm

/-- A block's part of the gradient of the memory. -/
def part (c : Dev nD) (t : Fin cfg0.N) (j : S256x1024.Idx) : EReal :=
  ∑ r : Fin 512, kvRow (argX m c) (argM m c) (argG m c) (j 0) (j 1) (rowOf t r)

theorem pointk (c : Dev nD) (t : Fin cfg0.N) (a : Fin 4) {q g k v} (h : Tiles m c t a q g k v) (f base : FVec Ideal S256x128 .f32)
    (hf : ∀ j d, f (ix2 j d) = base (ix2 j d) + DK q g k v j d) (x : S256x128.Idx) (j : S256x1024.Idx)
    (h0 : (j 0 : ℕ) = (x 0 : ℕ)) (h1 : (j 1 : ℕ) = a.val * 128 + (x 1 : ℕ)) (b : EReal) (hb : base x = b) : f x = b + part m c t j := by
  subst hb
  idx_vars x
  idx_vars j
  rw [hf]
  unfold DK part
  rw [h.hk, h.hv]
  refine congrArg _ (Finset.sum_congr rfl fun r _ => ?_)
  show _ = kvRow _ _ _ j0 j1 _
  rw [h.hq, h.hg, kvRow_k _ _ _ _ a x1 _ h1, show j0 = x0 from Fin.ext h0]
  exact congrArg _ (congrFun (h.hq r) x1)

theorem pointv (c : Dev nD) (t : Fin cfg0.N) (a : Fin 4) {q g k v} (h : Tiles m c t a q g k v) (f base : FVec Ideal S256x128 .f32)
    (hf : ∀ j d, f (ix2 j d) = base (ix2 j d) + DV q g k j d) (x : S256x128.Idx) (j : S256x1024.Idx)
    (h0 : (j 0 : ℕ) = (x 0 : ℕ)) (h1 : (j 1 : ℕ) = 512 + (a.val * 128 + (x 1 : ℕ))) (b : EReal) (hb : base x = b) : f x = b + part m c t j := by
  subst hb
  idx_vars x
  idx_vars j
  rw [hf]
  unfold DV part
  rw [h.hk]
  refine congrArg _ (Finset.sum_congr rfl fun r _ => ?_)
  show _ = kvRow _ _ _ j0 j1 _
  rw [h.hq, kvRow_v _ _ _ _ a x1 _ h1, show j0 = x0 from Fin.ext h0]
  exact congrArg _ (congrFun (h.hg r) x1)

theorem first (c : Dev nD) (t : Fin cfg0.N) (h : t.val % 16 = 0) (y : S256x1024.Idx) : (outsAt0 m c t.val t.isLt).2 y = 0 + part m c t y := by
  rw [outsAt0_A m c t h]
  frame_open
  simp (disch := decide) only [↓ View.readCov_skip, ↓ View.readCov_cons_toLoadRect, ↓ View.readCov_fill]
  frame_out
  refine View.canon_append_of_piecesOf (Val := Elt Ideal) (e := .f32) (s := S256x1024) (fun y => 0 + part m c t y) [_] [_, _, _, _, _, _, _, _] ⟨fun x => ?_, fun x => ?_, fun x => ?_, fun x => ?_, fun x => ?_, fun x => ?_, fun x => ?_, fun x => ?_, trivial⟩ y ?_
  · refine pointv m c t 3 (tiles m c t 3 384 896 rfl rfl inb_S512x512_S512x128_0_384 inb_S512x512_S512x128_0_384 inb_S256x1024_S256x128_0_384 inb_S256x1024_S256x128_0_896) _ _ (fun j d => dv3 _ _ _ _ j d) x _ ?_ ?_ _ ?_
    · show 0 + 1 * _ = _
      omega
    · show 896 + 1 * _ = _
      omega
    · pointwise [k0_pay3]
  · refine pointk m c t 3 (tiles m c t 3 384 896 rfl rfl inb_S512x512_S512x128_0_384 inb_S512x512_S512x128_0_384 inb_S256x1024_S256x128_0_384 inb_S256x1024_S256x128_0_896) _ _ (fun j d => dk3 _ _ _ _ _ j d) x _ ?_ ?_ _ ?_
    · show 0 + 1 * _ = _
      omega
    · show 384 + 1 * _ = _
      omega
    · pointwise [k0_pay3]
  · refine pointv m c t 2 (tiles m c t 2 256 768 rfl rfl inb_S512x512_S512x128_0_256 inb_S512x512_S512x128_0_256 inb_S256x1024_S256x128_0_256 inb_S256x1024_S256x128_0_768) _ _ (fun j d => dv2 _ _ _ _ j d) x _ ?_ ?_ _ ?_
    · show 0 + 1 * _ = _
      omega
    · show 768 + 1 * _ = _
      omega
    · pointwise [k0_pay3]
  · refine pointk m c t 2 (tiles m c t 2 256 768 rfl rfl inb_S512x512_S512x128_0_256 inb_S512x512_S512x128_0_256 inb_S256x1024_S256x128_0_256 inb_S256x1024_S256x128_0_768) _ _ (fun j d => dk2 _ _ _ _ _ j d) x _ ?_ ?_ _ ?_
    · show 0 + 1 * _ = _
      omega
    · show 256 + 1 * _ = _
      omega
    · pointwise [k0_pay3]
  · refine pointv m c t 1 (tiles m c t 1 128 640 rfl rfl inb_S512x512_S512x128_0_128 inb_S512x512_S512x128_0_128 inb_S256x1024_S256x128_0_128 inb_S256x1024_S256x128_0_640) _ _ (fun j d => dv1 _ _ _ _ j d) x _ ?_ ?_ _ ?_
    · show 0 + 1 * _ = _
      omega
    · show 640 + 1 * _ = _
      omega
    · pointwise [k0_pay3]
  · refine pointk m c t 1 (tiles m c t 1 128 640 rfl rfl inb_S512x512_S512x128_0_128 inb_S512x512_S512x128_0_128 inb_S256x1024_S256x128_0_128 inb_S256x1024_S256x128_0_640) _ _ (fun j d => dk1 _ _ _ _ _ j d) x _ ?_ ?_ _ ?_
    · show 0 + 1 * _ = _
      omega
    · show 128 + 1 * _ = _
      omega
    · pointwise [k0_pay3]
  · refine pointv m c t 0 (tiles m c t 0 0 512 rfl rfl inb_S512x512_S512x128_0_0 inb_S512x512_S512x128_0_0 inb_S256x1024_S256x128_0_0 inb_S256x1024_S256x128_0_512) _ _ (fun j d => dv0 _ _ _ _ j d) x _ ?_ ?_ _ ?_
    · show 0 + 1 * _ = _
      omega
    · show 512 + 1 * _ = _
      omega
    · pointwise [k0_pay3]
  · refine pointk m c t 0 (tiles m c t 0 0 512 rfl rfl inb_S512x512_S512x128_0_0 inb_S512x512_S512x128_0_0 inb_S256x1024_S256x128_0_0 inb_S256x1024_S256x128_0_512) _ _ (fun j d => dk0 _ _ _ _ _ j d) x _ ?_ ?_ _ ?_
    · show 0 + 1 * _ = _
      omega
    · show 0 + 1 * _ = _
      omega
    · pointwise [k0_pay3]
  · refine View.cover_of_tiledL (s := S256x1024) _ S256x128.size ?_ y
    sl_kernel_rfl

theorem later (c : Dev nD) (t : Fin cfg0.N) (h : ¬ t.val % 16 = 0) (y : S256x1024.Idx) :
    (outsAt0 m c t.val t.isLt).2 y = (outsAt0 m c (t.val - 1) (Nat.lt_of_le_of_lt (Nat.sub_le _ _) t.isLt)).2 y + part m c t y := by
  rw [outsAt0_B m c t h]
  frame_out
  canon_tiles x h
  case piece0 =>
    refine pointv m c t 3 (tiles m c t 3 384 896 rfl rfl inb_S512x512_S512x128_0_384 inb_S512x512_S512x128_0_384 inb_S256x1024_S256x128_0_384 inb_S256x1024_S256x128_0_896) _ _ (fun j d => dv3 _ _ _ _ j d) x _ ?_ ?_ _ ?_
    · omega
    · omega
    · exact ld_at _ 896 _ x y (by omega) (by omega)
  case piece1 =>
    refine pointk m c t 3 (tiles m c t 3 384 896 rfl rfl inb_S512x512_S512x128_0_384 inb_S512x512_S512x128_0_384 inb_S256x1024_S256x128_0_384 inb_S256x1024_S256x128_0_896) _ _ (fun j d => dk3 _ _ _ _ _ j d) x _ ?_ ?_ _ ?_
    · omega
    · omega
    · exact ld_at _ 384 _ x y (by omega) (by omega)
  case piece2 =>
    refine pointv m c t 2 (tiles m c t 2 256 768 rfl rfl inb_S512x512_S512x128_0_256 inb_S512x512_S512x128_0_256 inb_S256x1024_S256x128_0_256 inb_S256x1024_S256x128_0_768) _ _ (fun j d => dv2 _ _ _ _ j d) x _ ?_ ?_ _ ?_
    · omega
    · omega
    · exact ld_at _ 768 _ x y (by omega) (by omega)
  case piece3 =>
    refine pointk m c t 2 (tiles m c t 2 256 768 rfl rfl inb_S512x512_S512x128_0_256 inb_S512x512_S512x128_0_256 inb_S256x1024_S256x128_0_256 inb_S256x1024_S256x128_0_768) _ _ (fun j d => dk2 _ _ _ _ _ j d) x _ ?_ ?_ _ ?_
    · omega
    · omega
    · exact ld_at _ 256 _ x y (by omega) (by omega)
  case piece4 =>
    refine pointv m c t 1 (tiles m c t 1 128 640 rfl rfl inb_S512x512_S512x128_0_128 inb_S512x512_S512x128_0_128 inb_S256x1024_S256x128_0_128 inb_S256x1024_S256x128_0_640) _ _ (fun j d => dv1 _ _ _ _ j d) x _ ?_ ?_ _ ?_
    · omega
    · omega
    · exact ld_at _ 640 _ x y (by omega) (by omega)
  case piece5 =>
    refine pointk m c t 1 (tiles m c t 1 128 640 rfl rfl inb_S512x512_S512x128_0_128 inb_S512x512_S512x128_0_128 inb_S256x1024_S256x128_0_128 inb_S256x1024_S256x128_0_640) _ _ (fun j d => dk1 _ _ _ _ _ j d) x _ ?_ ?_ _ ?_
    · omega
    · omega
    · exact ld_at _ 128 _ x y (by omega) (by omega)
  case piece6 =>
    refine pointv m c t 0 (tiles m c t 0 0 512 rfl rfl inb_S512x512_S512x128_0_0 inb_S512x512_S512x128_0_0 inb_S256x1024_S256x128_0_0 inb_S256x1024_S256x128_0_512) _ _ (fun j d => dv0 _ _ _ _ j d) x _ ?_ ?_ _ ?_
    · omega
    · omega
    · exact ld_at _ 512 _ x y (by omega) (by omega)
  case piece7 =>
    refine pointk m c t 0 (tiles m c t 0 0 512 rfl rfl inb_S512x512_S512x128_0_0 inb_S512x512_S512x128_0_0 inb_S256x1024_S256x128_0_0 inb_S256x1024_S256x128_0_512) _ _ (fun j d => dk0 _ _ _ _ _ j d) x _ ?_ ?_ _ ?_
    · omega
    · omega
    · exact ld_at _ 0 _ x y (by omega) (by omega)

theorem final4 (c : Dev nD) : (dats m 0 c).arrAt 4 (cfgs 0).N = OKV (argX m c) (argM m c) (argG m c) := by
  refine (dats m 0 c).arrAt_eq_of_after_last 4 t0_15 (by decide +kernel) _ fun j => ?_
  blk_simp
  rw [after0_4, Pipeline.eq_sum_fin_of_reset_step_apply_last (fun n h => (outsAt0 m c n h).2) 16 (fun _ => 0) (fun t j => part m c t j)
    (fun t h j => first m c t h j) (fun t h j => later m c t h j) (le_of_eq N_0) t0_15 rfl j, zero_add]
  idx_vars j
  rw [OKV_rows]
  exact Fin.sum_mul_add_congr fun t r hr => rfl

end Cert.MemGValue

end
-- ==== Proof.GobRow.lean ====
module

public import proofs.«01_k».proof.Proof.Gen.Kernel27Ideal.Frame
public import Idealize.ShloMosaic.Lib.Pipeline.ValueKit

@[expose] public section

set_option maxRecDepth 16384

noncomputable section

namespace Cert.GobRow

open Idealize.ShloMosaic Idealize.ShloMosaic.TcCoe Idealize.SL.Sem

/-! One row of one head: the normalised output times the gate, and its cotangents. -/

/-- One row of a head. -/
abbrev Row := Fin 128 → EReal

/-- The length of a row. -/
def len : EReal := Ideal.ofBits .f32 0x43000000#32
/-- The small term under the root. -/
def eps : EReal := Ideal.ofBits .f32 0x358637BD#32
/-- Minus one half. -/
def half : EReal := Ideal.ofBits .f32 0xBF000000#32

/-- The mean square of a row and the small term. -/
def ms (o : Row) : EReal := Ideal.div (∑ k : Fin 128, o k * o k) len + eps
/-- Its inverse root. -/
def rs (o : Row) : EReal := Ideal.rsqrt (ms o)
/-- The derivative of the inverse root. -/
def hf (o : Row) : EReal := half * Ideal.div (rs o) (ms o)
/-- The logistic function of the gate. -/
def sg (z : Row) (k : Fin 128) : EReal := Ideal.logistic (z k)
/-- The cotangent times the gate's value. -/
def gs (z d : Row) (k : Fin 128) : EReal := d k * (z k * sg z k)
/-- The cotangent of the normalised row. -/
def dn (z n d : Row) (k : Fin 128) : EReal := gs z d k * n k
/-- What reaches the row through its mean square. -/
def thr (o z n d : Row) : EReal := Ideal.div ((∑ k : Fin 128, o k * dn z n d k) * hf o) len
/-- The cotangent of the row. -/
def DO (o z n d : Row) (k : Fin 128) : EReal := dn z n d k * rs o + o k * thr o z n d + thr o z n d * o k
/-- The cotangent times the normalised row. -/
def gy (o n d : Row) (k : Fin 128) : EReal := o k * rs o * n k * d k
/-- The cotangent of the gate. -/
def DZ (o z n d : Row) (k : Fin 128) : EReal := gy o n d k * sg z k + z k * gy o n d k * (sg z k * (1 - sg z k))
/-- A row's part of the gradient of the gain. -/
def DG (o z d : Row) (k : Fin 128) : EReal := o k * rs o * gs z d k

/-- Row `r` of a block. -/
abbrev row {n : ℕ} (x : FVec Ideal ⟨2, ![n, 128]⟩ .f32) (r : Fin n) : Row := fun d => x (ix2 r d)

section
open Cert.Kernel27Ideal Cert.Kernel27Ideal.Gen
variable (o z d : FVec Ideal S256x128 .f32) (n : FVec Ideal S1x128 .f32)

/-- A head's cotangent of its block of outputs. -/
def TO : FVec Ideal S256x128 .f32 := k0_pay15 o (k0_pay6 o) (k0_pay7 o) (k0_pay13 z n d) (k0_pay14 o z n d)
/-- A head's cotangent of its block of gates. -/
def TZ : FVec Ideal S256x128 .f32 := k0_pay11 o z n d
/-- A head's part, over a block, of the gradient of the gain. -/
def TG : FVec Ideal S1x128 .f32 := k0_pay12 o z d

theorem q5 (r : Fin 256) (u : Fin 1) : k0_pay5 (F := Ideal) o (ix2 r u) = ms (row o r) := by
  pointwise [k0_pay5, ms, len, eps, row]
theorem q6 (r : Fin 256) (u : Fin 1) : k0_pay6 (F := Ideal) o (ix2 r u) = rs (row o r) := by
  pointwise [k0_pay6, q5, rs]
theorem q7 (r : Fin 256) (u : Fin 1) : k0_pay7 (F := Ideal) o (ix2 r u) = hf (row o r) := by
  pointwise [k0_pay7, q5, q6, hf, half]
theorem q8 (r : Fin 256) (k : Fin 128) : k0_pay8 (F := Ideal) o (ix2 r k) = o (ix2 r k) * rs (row o r) := by
  pointwise [k0_pay8, q6]
theorem q9 (r : Fin 256) (k : Fin 128) : k0_pay9 (F := Ideal) z (ix2 r k) = sg (row z r) k := by
  pointwise [k0_pay9, sg, row]
theorem q10 (r : Fin 256) (k : Fin 128) : k0_pay10 (F := Ideal) z d (ix2 r k) = gs (row z r) (row d r) k := by
  pointwise [k0_pay10, q9, gs, row]
theorem q13 (r : Fin 256) (k : Fin 128) : k0_pay13 (F := Ideal) z n d (ix2 r k) = dn (row z r) (row n 0) (row d r) k := by
  pointwise [k0_pay13, q10, dn, row]
theorem q14 (r : Fin 256) (k : Fin 128) : k0_pay14 (F := Ideal) o z n d (ix2 r k) = o (ix2 r k) * dn (row z r) (row n 0) (row d r) k := by
  pointwise [k0_pay14, q13]
theorem TO_at (r : Fin 256) (k : Fin 128) : TO o z d n (ix2 r k) = DO (row o r) (row z r) (row n 0) (row d r) k := by
  pointwise [TO, k0_pay15, q6, q7, q13, q14, DO, thr, len, row]
  simp only [Finset.univ_unique, Finset.sum_singleton]
theorem TZ_at (r : Fin 256) (k : Fin 128) : TZ o z d n (ix2 r k) = DZ (row o r) (row z r) (row n 0) (row d r) k := by
  pointwise [TZ, k0_pay11, q8, q9, DZ, gy, row]
theorem TG_at (u : Fin 1) (k : Fin 128) : TG o z d (ix2 u k) = ∑ r : Fin 256, DG (row o r) (row z r) (row d r) k := by
  pointwise [TG, k0_pay12, q8, q10, DG, row]
end

end Cert.GobRow

end
-- ==== Proof.GobRef.lean ====
module

public import proofs.«01_k».proof.Proof.GobRow
public import proofs.«01_k».proof.Proof.Gen.Reference27Ideal.Run

@[expose] public section

set_option maxRecDepth 16384

noncomputable section

namespace Cert.GobRef

open Idealize.ShloMosaic Idealize.ShloMosaic.TcCoe Idealize.SL.Sem
open Cert.GobRow
open Cert.Reference27Ideal Cert.Reference27Ideal.Gen Cert.Reference27Ideal.Value

/-- A sum over the first two axes is a double sum. -/
theorem red01 {n0 n1 n2 : ℕ} (h : (⟨3, ![n0, n1, n2]⟩ : Shape).ReducesTo [0, 1] ⟨1, ![n2]⟩) (v : (⟨3, ![n0, n1, n2]⟩ : Shape).Idx → EReal) (c : EReal) (k : Fin n2) :
    Ideal.hostReduceAdd h v c (ix1 k) = c + ∑ a : Fin n0, ∑ b : Fin n1, v (ix3 a b k) := by
  unfold Ideal.hostReduceAdd
  rw [← Finset.sum_product', Finset.univ_product_univ]
  congr 1
  have key : ∀ i : (⟨3, ![n0, n1, n2]⟩ : Shape).Idx, h.drop i = ix1 k ↔ i 2 = k := by
    intro i
    constructor
    · intro e
      have := congrArg Fin.val (congrFun e 0)
      exact Fin.ext this
    · intro e
      funext b
      refine Fin.ext ?_
      have hb : b = 0 := Subsingleton.elim _ _
      subst hb
      exact congrArg Fin.val e
  have eta : ∀ i : (⟨3, ![n0, n1, n2]⟩ : Shape).Idx, i 2 = k → ix3 (i 0) (i 1) k = i := by
    intro i e
    funext a
    match a with
    | ⟨0, _⟩ => rfl
    | ⟨1, _⟩ => rfl
    | ⟨2, _⟩ => exact e.symm
  refine Finset.sum_nbij' (fun i => (i 0, i 1)) (fun p => ix3 p.1 p.2 k) ?_ ?_ ?_ ?_ ?_
  · intro i _; exact Finset.mem_univ _
  · intro p _; exact Finset.mem_filter.2 ⟨Finset.mem_univ _, (key _).2 rfl⟩
  · intro i hi
    have e := (key i).1 (Finset.mem_filter.1 hi).2
    exact eta i e
  · intro p _; rfl
  · intro i hi
    have e := (key i).1 (Finset.mem_filter.1 hi).2
    exact congrArg v (eta i e).symm

/-! The reference's composed terms, cut into named pieces, and each piece read at an index. -/

section
variable (O : FVec Ideal S8192x1536 .f32) (H : FVec Ideal S8192x6912 .f32) (N : FVec Ideal S1x128 .f32) (D : FVec Ideal S8192x2048 .f32)

/-- The outputs by heads. -/
def O3 : FVec Ideal S8192x12x128 .f32 := shapeCast _ O shapeCasts_S8192x1536_S8192x12x128
/-- The gates by heads. -/
def Z3 : FVec Ideal S8192x12x128 .f32 :=
  shapeCast _ (extractStridedSlice S8192x1536 ![0, 4608] H slices_S8192x6912_S8192x1536_0_4608) shapeCasts_S8192x1536_S8192x12x128
/-- The cotangents by heads. -/
def D3 : FVec Ideal S8192x12x128 .f32 :=
  shapeCast _ (extractStridedSlice S8192x1536 ![0, 0] D slices_S8192x2048_S8192x1536_0_0) shapeCasts_S8192x1536_S8192x12x128
/-- The gain along every row. -/
def N3 : FVec Ideal S8192x12x128 .f32 :=
  broadcastInDim S8192x12x128 ![0, 1, 2] bcast_S1x1x128_S8192x12x128_0_1_2 (broadcastInDim S1x1x128 ![1, 2] bcast_S1x128_S1x1x128_1_2 N)
/-- Ones. -/
def ONE : FVec Ideal S8192x12x128 .f32 := broadcastInDim S8192x12x128 ![] bcast_S_S8192x12x128 (constant S_ .f32 0x3F800000#32)
/-- The logistic function of the gates. -/
def SG : FVec Ideal S8192x12x128 .f32 := Host.divf ONE (addf ONE (Host.exp (Host.negf (Z3 H))))
/-- The mean squares and the small term. -/
def MS : FVec Ideal S8192x12x1 .f32 :=
  addf (Host.divf (broadcastInDim S8192x12x1 ![0, 1] bcast_S8192x12_S8192x12x1_0_1 (Host.reduceAdd (mulf (O3 O) (O3 O)) (constant S_ .f32 0x00000000#32) reducesTo_S8192x12x128_S8192x12_d2 h_S_)) (broadcastInDim S8192x12x1 ![] bcast_S_S8192x12x1 (constant S_ .f32 0x43000000#32))) (broadcastInDim S8192x12x1 ![] bcast_S_S8192x12x1 (constant S_ .f32 0x358637BD#32))
/-- The inverse roots along every row. -/
def RS : FVec Ideal S8192x12x128 .f32 := broadcastInDim S8192x12x128 ![0, 1, 2] bcast_S8192x12x1_S8192x12x128_0_1_2 (Host.rsqrt (MS O))
/-- The derivatives of the inverse roots. -/
def HF : FVec Ideal S8192x12x1 .f32 := mulf (broadcastInDim S8192x12x1 ![] bcast_S_S8192x12x1 (constant S_ .f32 0xBF000000#32)) (Host.divf (Host.rsqrt (MS O)) (MS O))
/-- The cotangents times the gates' values. -/
def GS : FVec Ideal S8192x12x128 .f32 := mulf (D3 D) (mulf (Z3 H) (SG H))
/-- The cotangents of the normalised rows. -/
def DN : FVec Ideal S8192x12x128 .f32 := mulf (GS H D) (N3 N)
/-- What reaches the rows through their mean squares, before the last sum. -/
def TH0 : FVec Ideal S8192x12x1 .f32 :=
  Host.divf (mulf (shapeCast _ (Host.reduceAdd (mulf (O3 O) (DN H N D)) (constant S_ .f32 0x00000000#32) reducesTo_S8192x12x128_S8192x12_d2 h_S_) shapeCasts_S8192x12_S8192x12x1) (HF O)) (broadcastInDim S8192x12x1 ![] bcast_S_S8192x12x1 (constant S_ .f32 0x43000000#32))
/-- What reaches the rows through their mean squares. -/
def TH : FVec Ideal S8192x12x128 .f32 :=
  broadcastInDim S8192x12x128 ![0, 1] bcast_S8192x12_S8192x12x128_0_1 (Host.reduceAdd (TH0 O H N D) (constant S_ .f32 0x00000000#32) reducesTo_S8192x12x1_S8192x12_d2 h_S_)
/-- The normalised rows before the gain. -/
def NO : FVec Ideal S8192x12x128 .f32 := mulf (O3 O) (RS O)
/-- The cotangents times the normalised rows. -/
def GY : FVec Ideal S8192x12x128 .f32 := mulf (mulf (NO O) (N3 N)) (D3 D)
/-- The gradient of the outputs. -/
def O0 : FVec Ideal S8192x1536 .f32 :=
  shapeCast _ (addf (addf (mulf (DN H N D) (RS O)) (mulf (O3 O) (TH O H N D))) (mulf (TH O H N D) (O3 O))) shapeCasts_S8192x12x128_S8192x1536
/-- The gradient of the gates. -/
def O1 : FVec Ideal S8192x1536 .f32 :=
  shapeCast _ (addf (mulf (GY O N D) (SG H)) (mulf (mulf (Z3 H) (GY O N D)) (mulf (SG H) (subf ONE (SG H))))) shapeCasts_S8192x12x128_S8192x1536
/-- The gradient of the gain. -/
def O2 : FVec Ideal S1x128 .f32 :=
  broadcastInDim S1x128 ![1] bcast_S128_S1x128_1 (Host.reduceAdd (shapeCast _ (Host.reduceAdd (mulf (NO O) (GS H D)) (constant S_ .f32 0x00000000#32) reducesTo_S8192x12x128_S128_d0_1 h_S_) shapeCasts_S128_S1x1x128) (constant S_ .f32 0x00000000#32) reducesTo_S1x1x128_S128_d0_1 h_S_)

/-- Row `r` of head `a` of the outputs. -/
abbrev orow (r : Fin 8192) (a : Fin 12) : Row := fun k => O (ix2 r ⟨a.val * 128 + k.val, by omega⟩)
/-- Row `r` of head `a` of the gates. -/
abbrev zrow (r : Fin 8192) (a : Fin 12) : Row := fun k => H (ix2 r ⟨4608 + (a.val * 128 + k.val), by omega⟩)
/-- Row `r` of head `a` of the cotangents. -/
abbrev drow (r : Fin 8192) (a : Fin 12) : Row := fun k => D (ix2 r ⟨a.val * 128 + k.val, by omega⟩)

theorem O3_at (r : Fin 8192) (a : Fin 12) (k : Fin 128) : O3 O (ix3 r a k) = orow O r a k := by
  pointwise [O3]
theorem Z3_at (r : Fin 8192) (a : Fin 12) (k : Fin 128) : Z3 H (ix3 r a k) = zrow H r a k := by
  pointwise [Z3]
theorem D3_at (r : Fin 8192) (a : Fin 12) (k : Fin 128) : D3 D (ix3 r a k) = drow D r a k := by
  pointwise [D3]
theorem N3_at (r : Fin 8192) (a : Fin 12) (k : Fin 128) : N3 N (ix3 r a k) = row N 0 k := by
  pointwise [N3, row]
theorem ONE_at (r : Fin 8192) (a : Fin 12) (k : Fin 128) : ONE (ix3 r a k) = 1 := by
  pointwise [ONE]
theorem SG_at (r : Fin 8192) (a : Fin 12) (k : Fin 128) : SG H (ix3 r a k) = sg (zrow H r a) k := by
  pointwise [SG, ONE_at, Z3_at, sg, Ideal.logistic]
theorem MS_at (r : Fin 8192) (a : Fin 12) (u : Fin 1) : MS O (ix3 r a u) = ms (orow O r a) := by
  pointwise [MS, O3_at, ms, len, eps]
theorem RS_at (r : Fin 8192) (a : Fin 12) (k : Fin 128) : RS O (ix3 r a k) = rs (orow O r a) := by
  pointwise [RS, MS_at, rs]
theorem HF_at (r : Fin 8192) (a : Fin 12) (u : Fin 1) : HF O (ix3 r a u) = hf (orow O r a) := by
  pointwise [HF, MS_at, rs, hf, half]
theorem GS_at (r : Fin 8192) (a : Fin 12) (k : Fin 128) : GS H D (ix3 r a k) = gs (zrow H r a) (drow D r a) k := by
  pointwise [GS, D3_at, Z3_at, SG_at, gs]
theorem DN_at (r : Fin 8192) (a : Fin 12) (k : Fin 128) : DN H N D (ix3 r a k) = dn (zrow H r a) (row N 0) (drow D r a) k := by
  pointwise [DN, GS_at, N3_at, dn]
theorem TH0_at (r : Fin 8192) (a : Fin 12) (u : Fin 1) : TH0 O H N D (ix3 r a u) = thr (orow O r a) (zrow H r a) (row N 0) (drow D r a) := by
  pointwise [TH0, O3_at, DN_at, HF_at, thr, len]
theorem TH_at (r : Fin 8192) (a : Fin 12) (k : Fin 128) : TH O H N D (ix3 r a k) = thr (orow O r a) (zrow H r a) (row N 0) (drow D r a) := by
  pointwise [TH, TH0_at]
  simp only [Finset.univ_unique, Finset.sum_singleton]
theorem NO_at (r : Fin 8192) (a : Fin 12) (k : Fin 128) : NO O (ix3 r a k) = orow O r a k * rs (orow O r a) := by
  pointwise [NO, O3_at, RS_at]
theorem GY_at (r : Fin 8192) (a : Fin 12) (k : Fin 128) : GY O N D (ix3 r a k) = gy (orow O r a) (row N 0) (drow D r a) k := by
  pointwise [GY, NO_at, N3_at, D3_at, gy]
theorem O0_at (r : Fin 8192) (a : Fin 12) (k : Fin 128) :
    O0 O H N D (ix2 r ⟨a.val * 128 + k.val, by omega⟩) = DO (orow O r a) (zrow H r a) (row N 0) (drow D r a) k := by
  pointwise [O0, DN_at, RS_at, O3_at, TH_at, DO]
theorem O1_at (r : Fin 8192) (a : Fin 12) (k : Fin 128) :
    O1 O H N D (ix2 r ⟨a.val * 128 + k.val, by omega⟩) = DZ (orow O r a) (zrow H r a) (row N 0) (drow D r a) k := by
  pointwise [O1, GY_at, SG_at, Z3_at, ONE_at, DZ]
theorem O2_at (u : Fin 1) (k : Fin 128) :
    O2 O H D (ix2 u k) = ∑ r : Fin 8192, ∑ a : Fin 12, DG (orow O r a) (zrow H r a) (drow D r a) k := by
  pointwise [O2, red01, NO_at, GS_at, DG]
  simp only [Finset.univ_unique, Finset.sum_singleton]
end

end Cert.GobRef

end
-- ==== Proof.GobValue.lean ====
module

public import proofs.«01_k».proof.Proof.GobRef
public import proofs.«01_k».proof.Proof.Gen.Kernel27Ideal.Value
public import Idealize.ShloMosaic.Lib.Pipeline.ValueKit
public import Idealize.ShloMosaic.Lib.Pipeline.ReadBack

@[expose] public section

set_option maxRecDepth 16384

noncomputable section

namespace Cert.GobValue

open Idealize.ShloMosaic Idealize.ShloMosaic.TcCoe Idealize.SL.Sem
open Idealize.ShloMosaic.Pipeline (Dat)
open Cert.GobRow Cert.GobRef
open Cert.Kernel27Ideal Cert.Kernel27Ideal.Gen

variable (m : (ℓ : Loc nD τ sig) → Buf (Elt Ideal) ℓ)

/-- The recurrence's outputs, as launched. -/
abbrev argO (c : Dev nD) : FVec Ideal S8192x1536 .f32 := m ((c : Thread nD τ).loc main_arg0)
/-- The projected input, as launched. -/
abbrev argH (c : Dev nD) : FVec Ideal S8192x6912 .f32 := m ((c : Thread nD τ).loc main_arg1)
/-- The gain, as launched. -/
abbrev argN (c : Dev nD) : FVec Ideal S1x128 .f32 := m ((c : Thread nD τ).loc main_arg2)
/-- The cotangent, as launched. -/
abbrev argD (c : Dev nD) : FVec Ideal S8192x2048 .f32 := m ((c : Thread nD τ).loc main_arg3)

theorem idx : ∀ t : Fin cfg0.N, win0_0.index t = ![t.val, 0] ∧ win0_1.index t = ![t.val, 3] ∧ win0_2.index t = ![0, 0]
    ∧ win0_3.index t = ![t.val, 0] ∧ win0_4.index t = ![t.val, 0] ∧ win0_5.index t = ![t.val, 0] ∧ win0_6.index t = ![0, 0] ∧ t.val < 32 :=
  (by decide +kernel : ∀ t : Fin grid0.N, _)

/-- The row of the array that row `r` of block `t` is. -/
abbrev rowOf (t : Fin cfg0.N) (r : Fin 256) : Fin 8192 := ⟨t.val * 256 + r.val, by have := (idx t).2.2.2.2.2.2.2; omega⟩

theorem o_at (c : Dev nD) (t : Fin cfg0.N) (r : Fin 256) (l : Fin 1536) :
    (show FVec Ideal S256x1536 .f32 from iblk m c 0 t) (ix2 r l) = argO m c (ix2 (rowOf t r) l) := by
  blk_ext [iblk, V, idx t]

theorem z_at (c : Dev nD) (t : Fin cfg0.N) (r : Fin 256) (l : Fin 1536) :
    (show FVec Ideal S256x1536 .f32 from X0_1 m c t) (ix2 r l) = argH m c (ix2 (rowOf t r) ⟨4608 + l.val, by omega⟩) := by
  show (cfg0.win 1).fill (cfg0.grid.coords t) dflt0_1 (iblk m c 1 t) (ix2 r l) = _
  unfold Pipeline.Window.fill
  rw [dif_pos (moved0_1 t (ix2 r l))]
  blk_ext [iblk, V, idx t]

theorem n_at (c : Dev nD) (t : Fin cfg0.N) (u : Fin 1) (l : Fin 128) :
    (show FVec Ideal S1x128 .f32 from iblk m c 2 t) (ix2 u l) = argN m c (ix2 u l) := by
  blk_ext [iblk, V, idx t]

theorem d_at (c : Dev nD) (t : Fin cfg0.N) (r : Fin 256) (l : Fin 1536) :
    (show FVec Ideal S256x1536 .f32 from X0_3 m c t) (ix2 r l) = argD m c (ix2 (rowOf t r) ⟨l.val, by omega⟩) := by
  show (cfg0.win 3).fill (cfg0.grid.coords t) dflt0_3 (iblk m c 3 t) (ix2 r l) = _
  unfold Pipeline.Window.fill
  rw [dif_pos (moved0_3 t (ix2 r l))]
  blk_ext [iblk, V, idx t]

theorem ld_rows (B : Vec Ideal S256x1536 .f32) (o : ℕ) (ho : o + 128 ≤ 1536) (inb) (r : Fin 256) (d : Fin 128) :
    View.ld B (Rect.unit ![0, o] ![256, 128] inb) (ix2 r d) = B (ix2 r ⟨o + d.val, by omega⟩) := by
  pointwise

/-- The tiles a head of block `t` reads hold the head's outputs, gates and cotangents, and the gain. -/
structure Tiles (c : Dev nD) (t : Fin cfg0.N) (a : Fin 12) (o z d : FVec Ideal S256x128 .f32) (n : FVec Ideal S1x128 .f32) : Prop where
  ho : ∀ r, row o r = orow (argO m c) (rowOf t r) a
  hz : ∀ r, row z r = zrow (argH m c) (rowOf t r) a
  hd : ∀ r, row d r = drow (argD m c) (rowOf t r) a
  hn : row n 0 = row (argN m c) 0

theorem tiles (c : Dev nD) (t : Fin cfg0.N) (a : Fin 12) (o : ℕ) (ho : o = a.val * 128) (i0 i1 i2) :
    Tiles m c t a (View.ld (iblk m c 0 t) (Rect.unit ![0, o] ![256, 128] i0)) (View.ld (X0_1 m c t) (Rect.unit ![0, o] ![256, 128] i1))
      (View.ld (X0_3 m c t) (Rect.unit ![0, o] ![256, 128] i2)) (iblk m c 2 t) := by
  subst ho
  constructor
  · intro r; funext d
    exact (ld_rows _ _ (by omega) _ r d).trans (o_at m c t r _)
  · intro r; funext d
    exact (ld_rows _ _ (by omega) _ r d).trans (z_at m c t r _)
  · intro r; funext d
    exact (ld_rows _ _ (by omega) _ r d).trans (d_at m c t r _)
  · funext d
    exact n_at m c t 0 d

theorem point4 (c : Dev nD) (t : Fin cfg0.N) (a : Fin 12) {o z d n} (h : Tiles m c t a o z d n) (x : S256x128.Idx) (j : S8192x1536.Idx)
    (h0 : (j 0 : ℕ) = t.val * 256 + (x 0 : ℕ)) (h1 : (j 1 : ℕ) = a.val * 128 + (x 1 : ℕ)) :
    TO o z d n x = O0 (argO m c) (argH m c) (argN m c) (argD m c) j := by
  idx_vars x
  rw [TO_at, h.ho, h.hz, h.hd, h.hn, ← O0_at]
  congr 1
  blk_ext

theorem point5 (c : Dev nD) (t : Fin cfg0.N) (a : Fin 12) {o z d n} (h : Tiles m c t a o z d n) (x : S256x128.Idx) (j : S8192x1536.Idx)
    (h0 : (j 0 : ℕ) = t.val * 256 + (x 0 : ℕ)) (h1 : (j 1 : ℕ) = a.val * 128 + (x 1 : ℕ)) :
    TZ o z d n x = O1 (argO m c) (argH m c) (argN m c) (argD m c) j := by
  idx_vars x
  rw [TZ_at, h.ho, h.hz, h.hd, h.hn, ← O1_at]
  congr 1
  blk_ext

theorem final4 (c : Dev nD) : (dats m 0 c).arrAt 4 (cfgs 0).N = O0 (argO m c) (argH m c) (argN m c) (argD m c) := by
  refine (dats m 0 c).arrAt_eq_of_covers 4 _ (by decide +kernel) fun t _ y => ?_
  blk_simp
  rw [after0_4]
  by_cases h0 : t.val % 32 = 0
  · rw [outsAt0_A m c t h0]
    frame_out
    canon_tiles x h
    case piece0 =>
      refine point4 m c t 11 (tiles m c t 11 1408 rfl _ _ _) x _ ?_ ?_ <;> (blk_simp [idx t] <;> try omega)
    case piece1 =>
      refine point4 m c t 10 (tiles m c t 10 1280 rfl _ _ _) x _ ?_ ?_ <;> (blk_simp [idx t] <;> try omega)
    case piece2 =>
      refine point4 m c t 9 (tiles m c t 9 1152 rfl _ _ _) x _ ?_ ?_ <;> (blk_simp [idx t] <;> try omega)
    case piece3 =>
      refine point4 m c t 8 (tiles m c t 8 1024 rfl _ _ _) x _ ?_ ?_ <;> (blk_simp [idx t] <;> try omega)
    case piece4 =>
      refine point4 m c t 7 (tiles m c t 7 896 rfl _ _ _) x _ ?_ ?_ <;> (blk_simp [idx t] <;> try omega)
    case piece5 =>
      refine point4 m c t 6 (tiles m c t 6 768 rfl _ _ _) x _ ?_ ?_ <;> (blk_simp [idx t] <;> try omega)
    case piece6 =>
      refine point4 m c t 5 (tiles m c t 5 640 rfl _ _ _) x _ ?_ ?_ <;> (blk_simp [idx t] <;> try omega)
    case piece7 =>
      refine point4 m c t 4 (tiles m c t 4 512 rfl _ _ _) x _ ?_ ?_ <;> (blk_simp [idx t] <;> try omega)
    case piece8 =>
      refine point4 m c t 3 (tiles m c t 3 384 rfl _ _ _) x _ ?_ ?_ <;> (blk_simp [idx t] <;> try omega)
    case piece9 =>
      refine point4 m c t 2 (tiles m c t 2 256 rfl _ _ _) x _ ?_ ?_ <;> (blk_simp [idx t] <;> try omega)
    case piece10 =>
      refine point4 m c t 1 (tiles m c t 1 128 rfl _ _ _) x _ ?_ ?_ <;> (blk_simp [idx t] <;> try omega)
    case piece11 =>
      refine point4 m c t 0 (tiles m c t 0 0 rfl _ _ _) x _ ?_ ?_ <;> (blk_simp [idx t] <;> try omega)
  · rw [outsAt0_B m c t h0]
    frame_out
    canon_tiles x h
    case piece0 =>
      refine point4 m c t 11 (tiles m c t 11 1408 rfl _ _ _) x _ ?_ ?_ <;> (blk_simp [idx t] <;> try omega)
    case piece1 =>
      refine point4 m c t 10 (tiles m c t 10 1280 rfl _ _ _) x _ ?_ ?_ <;> (blk_simp [idx t] <;> try omega)
    case piece2 =>
      refine point4 m c t 9 (tiles m c t 9 1152 rfl _ _ _) x _ ?_ ?_ <;> (blk_simp [idx t] <;> try omega)
    case piece3 =>
      refine point4 m c t 8 (tiles m c t 8 1024 rfl _ _ _) x _ ?_ ?_ <;> (blk_simp [idx t] <;> try omega)
    case piece4 =>
      refine point4 m c t 7 (tiles m c t 7 896 rfl _ _ _) x _ ?_ ?_ <;> (blk_simp [idx t] <;> try omega)
    case piece5 =>
      refine point4 m c t 6 (tiles m c t 6 768 rfl _ _ _) x _ ?_ ?_ <;> (blk_simp [idx t] <;> try omega)
    case piece6 =>
      refine point4 m c t 5 (tiles m c t 5 640 rfl _ _ _) x _ ?_ ?_ <;> (blk_simp [idx t] <;> try omega)
    case piece7 =>
      refine point4 m c t 4 (tiles m c t 4 512 rfl _ _ _) x _ ?_ ?_ <;> (blk_simp [idx t] <;> try omega)
    case piece8 =>
      refine point4 m c t 3 (tiles m c t 3 384 rfl _ _ _) x _ ?_ ?_ <;> (blk_simp [idx t] <;> try omega)
    case piece9 =>
      refine point4 m c t 2 (tiles m c t 2 256 rfl _ _ _) x _ ?_ ?_ <;> (blk_simp [idx t] <;> try omega)
    case piece10 =>
      refine point4 m c t 1 (tiles m c t 1 128 rfl _ _ _) x _ ?_ ?_ <;> (blk_simp [idx t] <;> try omega)
    case piece11 =>
      refine point4 m c t 0 (tiles m c t 0 0 rfl _ _ _) x _ ?_ ?_ <;> (blk_simp [idx t] <;> try omega)

theorem final5 (c : Dev nD) : (dats m 0 c).arrAt 5 (cfgs 0).N = O1 (argO m c) (argH m c) (argN m c) (argD m c) := by
  refine (dats m 0 c).arrAt_eq_of_covers 5 _ (by decide +kernel) fun t _ y => ?_
  blk_simp
  rw [after0_5]
  by_cases h0 : t.val % 32 = 0
  · rw [outsAt0_A m c t h0]
    frame_out
    canon_tiles x h
    case piece0 =>
      refine point5 m c t 11 (tiles m c t 11 1408 rfl _ _ _) x _ ?_ ?_ <;> (blk_simp [idx t] <;> try omega)
    case piece1 =>
      refine point5 m c t 10 (tiles m c t 10 1280 rfl _ _ _) x _ ?_ ?_ <;> (blk_simp [idx t] <;> try omega)
    case piece2 =>
      refine point5 m c t 9 (tiles m c t 9 1152 rfl _ _ _) x _ ?_ ?_ <;> (blk_simp [idx t] <;> try omega)
    case piece3 =>
      refine point5 m c t 8 (tiles m c t 8 1024 rfl _ _ _) x _ ?_ ?_ <;> (blk_simp [idx t] <;> try omega)
    case piece4 =>
      refine point5 m c t 7 (tiles m c t 7 896 rfl _ _ _) x _ ?_ ?_ <;> (blk_simp [idx t] <;> try omega)
    case piece5 =>
      refine point5 m c t 6 (tiles m c t 6 768 rfl _ _ _) x _ ?_ ?_ <;> (blk_simp [idx t] <;> try omega)
    case piece6 =>
      refine point5 m c t 5 (tiles m c t 5 640 rfl _ _ _) x _ ?_ ?_ <;> (blk_simp [idx t] <;> try omega)
    case piece7 =>
      refine point5 m c t 4 (tiles m c t 4 512 rfl _ _ _) x _ ?_ ?_ <;> (blk_simp [idx t] <;> try omega)
    case piece8 =>
      refine point5 m c t 3 (tiles m c t 3 384 rfl _ _ _) x _ ?_ ?_ <;> (blk_simp [idx t] <;> try omega)
    case piece9 =>
      refine point5 m c t 2 (tiles m c t 2 256 rfl _ _ _) x _ ?_ ?_ <;> (blk_simp [idx t] <;> try omega)
    case piece10 =>
      refine point5 m c t 1 (tiles m c t 1 128 rfl _ _ _) x _ ?_ ?_ <;> (blk_simp [idx t] <;> try omega)
    case piece11 =>
      refine point5 m c t 0 (tiles m c t 0 0 rfl _ _ _) x _ ?_ ?_ <;> (blk_simp [idx t] <;> try omega)
  · rw [outsAt0_B m c t h0]
    frame_out
    canon_tiles x h
    case piece0 =>
      refine point5 m c t 11 (tiles m c t 11 1408 rfl _ _ _) x _ ?_ ?_ <;> (blk_simp [idx t] <;> try omega)
    case piece1 =>
      refine point5 m c t 10 (tiles m c t 10 1280 rfl _ _ _) x _ ?_ ?_ <;> (blk_simp [idx t] <;> try omega)
    case piece2 =>
      refine point5 m c t 9 (tiles m c t 9 1152 rfl _ _ _) x _ ?_ ?_ <;> (blk_simp [idx t] <;> try omega)
    case piece3 =>
      refine point5 m c t 8 (tiles m c t 8 1024 rfl _ _ _) x _ ?_ ?_ <;> (blk_simp [idx t] <;> try omega)
    case piece4 =>
      refine point5 m c t 7 (tiles m c t 7 896 rfl _ _ _) x _ ?_ ?_ <;> (blk_simp [idx t] <;> try omega)
    case piece5 =>
      refine point5 m c t 6 (tiles m c t 6 768 rfl _ _ _) x _ ?_ ?_ <;> (blk_simp [idx t] <;> try omega)
    case piece6 =>
      refine point5 m c t 5 (tiles m c t 5 640 rfl _ _ _) x _ ?_ ?_ <;> (blk_simp [idx t] <;> try omega)
    case piece7 =>
      refine point5 m c t 4 (tiles m c t 4 512 rfl _ _ _) x _ ?_ ?_ <;> (blk_simp [idx t] <;> try omega)
    case piece8 =>
      refine point5 m c t 3 (tiles m c t 3 384 rfl _ _ _) x _ ?_ ?_ <;> (blk_simp [idx t] <;> try omega)
    case piece9 =>
      refine point5 m c t 2 (tiles m c t 2 256 rfl _ _ _) x _ ?_ ?_ <;> (blk_simp [idx t] <;> try omega)
    case piece10 =>
      refine point5 m c t 1 (tiles m c t 1 128 rfl _ _ _) x _ ?_ ?_ <;> (blk_simp [idx t] <;> try omega)
    case piece11 =>
      refine point5 m c t 0 (tiles m c t 0 0 rfl _ _ _) x _ ?_ ?_ <;> (blk_simp [idx t] <;> try omega)

theorem inb (a : Fin 12) : ∀ d : Fin 2, (![0, a.val * 128] : Fin 2 → ℕ) d + (![256, 128] : Fin 2 → ℕ) d ≤ S256x1536.size d := by
  intro d
  fin_cases d
  · show 0 + 256 ≤ 256; omega
  · show a.val * 128 + 128 ≤ 1536; omega

/-- What head `a` of block `t` gives to the gradient of the gain. -/
def hpart (c : Dev nD) (t : Fin cfg0.N) (a : Fin 12) : FVec Ideal S1x128 .f32 :=
  TG (View.ld (iblk m c 0 t) (Rect.unit ![0, a.val * 128] ![256, 128] (inb a))) (View.ld (X0_1 m c t) (Rect.unit ![0, a.val * 128] ![256, 128] (inb a)))
    (View.ld (X0_3 m c t) (Rect.unit ![0, a.val * 128] ![256, 128] (inb a)))

theorem hpart_at (c : Dev nD) (t : Fin cfg0.N) (a : Fin 12) (u : Fin 1) (k : Fin 128) : hpart m c t a (ix2 u k)
    = ∑ r : Fin 256, DG (orow (argO m c) (rowOf t r) a) (zrow (argH m c) (rowOf t r) a) (drow (argD m c) (rowOf t r) a) k := by
  have h := tiles m c t a _ rfl (inb a) (inb a) (inb a)
  unfold hpart
  rw [TG_at]
  refine Finset.sum_congr rfl fun r _ => ?_
  rw [h.ho, h.hz, h.hd]

/-- The heads' parts of block `t` but the last, added from zero. -/
def hsum (c : Dev nD) (t : Fin cfg0.N) : FVec Ideal S1x128 .f32 :=
  (addf (addf (addf (addf (addf (addf (addf (addf (addf (addf (addf (k0_pay4 (F := Ideal)) (hpart m c t 0)) (hpart m c t 1)) (hpart m c t 2)) (hpart m c t 3)) (hpart m c t 4)) (hpart m c t 5)) (hpart m c t 6)) (hpart m c t 7)) (hpart m c t 8)) (hpart m c t 9)) (hpart m c t 10))

/-- A block's part of the gradient of the gain. -/
def part (c : Dev nD) (t : Fin cfg0.N) (j : S1x128.Idx) : EReal :=
  ∑ r : Fin 256, ∑ a : Fin 12, DG (orow (argO m c) (rowOf t r) a) (zrow (argH m c) (rowOf t r) a) (drow (argD m c) (rowOf t r) a) (j 1)

theorem sum12 (f : Fin 12 → EReal) : ∑ a : Fin 12, f a = f 0 + f 1 + f 2 + f 3 + f 4 + f 5 + f 6 + f 7 + f 8 + f 9 + f 10 + f 11 := by
  simp only [Fin.sum_univ_castSucc, Fin.sum_univ_zero, zero_add]
  rfl

theorem stepG (c : Dev nD) (t : Fin cfg0.N) (b : FVec Ideal S1x128 .f32) (j : S1x128.Idx) :
    k0_pay2 (F := Ideal) (hsum m c t) (hpart m c t 11) b j = b j + part m c t j := by
  idx_vars j
  pointwise [k0_pay2, hsum, k0_pay4]
  refine congrArg _ ?_
  show _ = ∑ r : Fin 256, ∑ a : Fin 12, DG (orow (argO m c) (rowOf t r) a) (zrow (argH m c) (rowOf t r) a) (drow (argD m c) (rowOf t r) a) j1
  rw [Finset.sum_comm, sum12]
  simp only [← hpart_at m c t _ j0]

theorem firstG (c : Dev nD) (t : Fin cfg0.N) (h : t.val % 32 = 0) (y : S1x128.Idx) : (outsAt0 m c t.val t.isLt).2.2 y = 0 + part m c t y := by
  have e : (outsAt0 m c t.val t.isLt).2.2 = k0_pay2 (F := Ideal) (hsum m c t) (hpart m c t 11) (k0_pay3 (F := Ideal)) := by
    rw [outsAt0_A m c t h]
    funext y
    frame_out
    rfl
  rw [e, stepG]
  congr 1
  idx_vars y
  pointwise [k0_pay3]

theorem laterG (c : Dev nD) (t : Fin cfg0.N) (h : ¬ t.val % 32 = 0) (y : S1x128.Idx) :
    (outsAt0 m c t.val t.isLt).2.2 y = (outsAt0 m c (t.val - 1) (Nat.lt_of_le_of_lt (Nat.sub_le _ _) t.isLt)).2.2 y + part m c t y := by
  refine Eq.trans (congrFun ?_ y) (stepG m c t _ y)
  rw [outsAt0_B m c t h]
  funext y
  frame_out
  rfl

/-- The last grid point. -/
abbrev tLast : Fin cfg0.N := ⟨31, by decide⟩

theorem final6 (c : Dev nD) : (dats m 0 c).arrAt 6 (cfgs 0).N = O2 (argO m c) (argH m c) (argD m c) := by
  refine (dats m 0 c).arrAt_eq_of_after_last 6 tLast (by decide +kernel) _ fun j => ?_
  blk_simp
  rw [after0_6, Pipeline.eq_sum_fin_of_reset_step_apply_last (fun n h => (outsAt0 m c n h).2.2) 32 (fun _ => 0) (fun t j => part m c t j)
    (fun t h j => firstG m c t h j) (fun t h j => laterG m c t h j) (le_of_eq N_0) tLast rfl j, zero_add]
  idx_vars j
  rw [O2_at]
  exact Fin.sum_mul_add_congr fun t r hr => rfl

end Cert.GobValue

end
-- ==== Proof.MfRow.lean ====
module

public import proofs.«01_k».proof.Proof.Gen.Kernel28Ideal.Frame
public import Idealize.ShloMosaic.Lib.Pipeline.ValueKit

@[expose] public section

set_option maxRecDepth 16384

noncomputable section

namespace Cert.MfRow

open Idealize.ShloMosaic Idealize.ShloMosaic.TcCoe Idealize.SL.Sem

/-! One query row against the memory: the scores, their exponentials, and the weighted mean of the values. -/

/-- The scale of the scores. -/
def sc : EReal := Ideal.ofBits .f32 0x3DB504F3#32

/-- The scaled score of one query row against key `j`. -/
def score (q : Fin 128 → EReal) (K : Fin 256 → Fin 128 → EReal) (j : Fin 256) : EReal :=
  (∑ d : Fin 128, q d * K j d) * sc

/-- The exponential of a score less the greatest score of the row. -/
def ex (q : Fin 128 → EReal) (K : Fin 256 → Fin 128 → EReal) (j : Fin 256) : EReal :=
  Ideal.exp (score q K j - Finset.univ.fold max (Ideal.ofBits .f32 0xFF800000#32) fun l => score q K l)

/-- The sum of the exponentials of a row. -/
def den (q : Fin 128 → EReal) (K : Fin 256 → Fin 128 → EReal) : EReal := ∑ j : Fin 256, ex q K j

/-- The mean of the values, weighted by the exponentials over their sum. -/
def mean (q : Fin 128 → EReal) (K V : Fin 256 → Fin 128 → EReal) (d : Fin 128) : EReal :=
  ∑ j : Fin 256, Ideal.div (ex q K j) (den q K) * V j d

open Cert.Kernel28Ideal Cert.Kernel28Ideal.Gen

variable (q : FVec Ideal S512x128 .f32) (k v : FVec Ideal S256x128 .f32)

/-- Row `r` of a block of queries. -/
abbrev row {n : ℕ} (x : FVec Ideal ⟨2, ![n, 128]⟩ .f32) (r : Fin n) : Fin 128 → EReal := fun d => x (ix2 r d)

/-- A block of keys (or values) by rows. -/
abbrev mat (x : FVec Ideal S256x128 .f32) : Fin 256 → Fin 128 → EReal := fun j d => x (ix2 j d)

theorem o0 (r : Fin 512) (d : Fin 128) : k0_pay2 (F := Ideal) q k v (ix2 r d) = mean (row q r) (mat k) (mat v) d := by
  pointwise! [k0_pay2, row, mat, mean, den, ex, score, sc]

theorem o1 (r : Fin 512) (d : Fin 128) : k0_pay5 (F := Ideal) v (k0_pay3 q k) (k0_pay4 q k) (ix2 r d) = mean (row q r) (mat k) (mat v) d := by
  pointwise! [k0_pay5, k0_pay3, k0_pay4, row, mat, mean, den, ex, score, sc]

theorem o2 (r : Fin 512) (d : Fin 128) : k0_pay6 (F := Ideal) q k v (ix2 r d) = mean (row q r) (mat k) (mat v) d := by
  pointwise! [k0_pay6, row, mat, mean, den, ex, score, sc]

theorem o3 (r : Fin 512) (d : Fin 128) : k0_pay1 (F := Ideal) v (k0_pay7 q k) (Scalar.ofBits .f32 0x3DB504F3#32) (ix2 r d) = mean (row q r) (mat k) (mat v) d := by
  pointwise! [k0_pay1, k0_pay7, row, mat, mean, den, ex, score, sc]

end Cert.MfRow

end
-- ==== Proof.MfRef.lean ====
module

public import proofs.«01_k».proof.Proof.MfRow
public import proofs.«01_k».proof.Proof.Gen.Reference28Ideal.Run

@[expose] public section

set_option maxRecDepth 16384

noncomputable section

namespace Cert.MfRef

open Idealize.ShloMosaic Idealize.ShloMosaic.TcCoe Idealize.SL.Sem
open Cert.MfRow
open Cert.Reference28Ideal Cert.Reference28Ideal.Gen Cert.Reference28Ideal.Value

/-! The reference's composed term, cut into named pieces, and each piece read at an index. -/

section pieces
variable (X : FVec Ideal S8192x1792 .f32) (M : FVec Ideal S256x1024 .f32)

/-- The queries by heads. -/
def Q3 : FVec Ideal S8192x4x128 .f32 :=
  shapeCast _ (extractStridedSlice S8192x512 ![0, 1024] X slices_S8192x1792_S8192x512_0_1024) shapeCasts_S8192x512_S8192x4x128
/-- The keys by heads. -/
def K3 : FVec Ideal S256x4x128 .f32 :=
  shapeCast _ (extractStridedSlice S256x512 ![0, 0] M slices_S256x1024_S256x512_0_0) shapeCasts_S256x512_S256x4x128
/-- The values by heads. -/
def V3 : FVec Ideal S256x4x128 .f32 :=
  shapeCast _ (extractStridedSlice S256x512 ![0, 512] M slices_S256x1024_S256x512_0_512) shapeCasts_S256x512_S256x4x128
/-- The scaled scores. -/
def SC : FVec Ideal S4x8192x256 .f32 :=
  mulf (Host.dotGeneral dot_S8192x4x128_S256x4x128_S4x8192x256_2_2_0_0_1_1 none (Q3 X) (K3 M)) (broadcastInDim S4x8192x256 ![] bcast_S_S4x8192x256 (constant S_ .f32 0x3DB504F3#32))
/-- The greatest score of every row. -/
def MX0 : FVec Ideal S4x8192 .f32 :=
  Host.reduce FloatOps.maximumf (SC X M) (constant S_ .f32 0xFF800000#32) reducesTo_S4x8192x256_S4x8192_d2 h_S_
/-- The greatest score of every row, against the least value. -/
def MX : FVec Ideal S4x8192 .f32 :=
  maximumf (broadcastInDim S4x8192 ![] bcast_S_S4x8192 (constant S_ .f32 0xFF800000#32)) (MX0 X M)
/-- The exponentials. -/
def E : FVec Ideal S4x8192x256 .f32 :=
  Host.exp (subf (SC X M) (broadcastInDim S4x8192x256 ![0, 1, 2] bcast_S4x8192x1_S4x8192x256_0_1_2 (broadcastInDim S4x8192x1 ![0, 1] bcast_S4x8192_S4x8192x1_0_1 (MX X M))))
/-- The row sums. -/
def DEN : FVec Ideal S4x8192 .f32 := Host.reduceAdd (E X M) (constant S_ .f32 0x00000000#32) reducesTo_S4x8192x256_S4x8192_d2 h_S_
/-- The row sums along every row. -/
def DENB : FVec Ideal S4x8192x256 .f32 := broadcastInDim S4x8192x256 ![0, 1, 2] bcast_S4x8192x1_S4x8192x256_0_1_2 (broadcastInDim S4x8192x1 ![0, 1] bcast_S4x8192_S4x8192x1_0_1 (DEN X M))
/-- The outputs of the heads, side by side. -/
def Out : FVec Ideal S8192x512 .f32 :=
  shapeCast _ (transpose S8192x4x128 [2, 0, 1] (Host.dotGeneral dot_S256x4x128_S4x8192x256_S4x128x8192_0_2_2_1_1_0 none (V3 M) (Host.divf (E X M) (DENB X M))) transposes_S4x128x8192_S8192x4x128_2_0_1) shapeCasts_S8192x4x128_S8192x512

/-- Row `r` of head `a` of the queries. -/
abbrev qr (r : Fin 8192) (a : Fin 4) : Fin 128 → EReal := fun d => X (ix2 r ⟨1024 + (a.val * 128 + d.val), by omega⟩)
/-- The keys of head `a`. -/
abbrev km (a : Fin 4) : Fin 256 → Fin 128 → EReal := fun j d => M (ix2 j ⟨a.val * 128 + d.val, by omega⟩)
/-- The values of head `a`. -/
abbrev vm (a : Fin 4) : Fin 256 → Fin 128 → EReal := fun j d => M (ix2 j ⟨512 + (a.val * 128 + d.val), by omega⟩)

theorem max_fold (b : EReal) {n : Nat} (f : Fin n → EReal) : max b (Finset.univ.fold max b f) = Finset.univ.fold max b f :=
  max_eq_right ((Finset.le_fold_max _).2 (Or.inl le_rfl))

theorem Q_at (a : Fin 4) (r : Fin 8192) (d : Fin 128) : Q3 X (ix3 r a d) = qr X r a d := by
  pointwise [Q3]
theorem K_at (a : Fin 4) (j : Fin 256) (d : Fin 128) : K3 M (ix3 j a d) = km M a j d := by
  pointwise [K3]
theorem V_at (a : Fin 4) (j : Fin 256) (d : Fin 128) : V3 M (ix3 j a d) = vm M a j d := by
  pointwise [V3]
theorem SC_at (a : Fin 4) (r : Fin 8192) (j : Fin 256) : SC X M (ix3 a r j) = score (qr X r a) (km M a) j := by
  pointwise [SC, Q_at, K_at, score, sc]

theorem max_row (x : FVec Ideal S4x8192x256 .f32) (a : Fin 4) (r : Fin 8192) :
    Host.reduce FloatOps.maximumf x (constant S_ .f32 0xFF800000#32) reducesTo_S4x8192x256_S4x8192_d2 h_S_ (ix2 a r)
      = Finset.univ.fold max (Ideal.ofBits .f32 0xFF800000#32) fun k : Fin 256 => x (ix3 a r k) := by
  simp only [pointwise]

theorem MX0_at (a : Fin 4) (r : Fin 8192) :
    MX0 X M (ix2 a r) = Finset.univ.fold max (Ideal.ofBits .f32 0xFF800000#32) fun l => score (qr X r a) (km M a) l := by
  rw [MX0, max_row]
  simp only [SC_at]

theorem max_const (y : FVec Ideal S4x8192 .f32) (a : Fin 4) (r : Fin 8192) :
    maximumf (broadcastInDim S4x8192 ![] bcast_S_S4x8192 (constant (F := Ideal) S_ .f32 0xFF800000#32)) y (ix2 a r) = max (Ideal.ofBits .f32 0xFF800000#32) (y (ix2 a r)) := by
  rfl

theorem MX_at (a : Fin 4) (r : Fin 8192) :
    MX X M (ix2 a r) = Finset.univ.fold max (Ideal.ofBits .f32 0xFF800000#32) fun l => score (qr X r a) (km M a) l := by
  have h := MX0_at X M a r
  rw [MX, max_const]
  generalize MX0 X M (ix2 a r) = y at h
  subst h
  exact max_fold _ _

theorem E_at (a : Fin 4) (r : Fin 8192) (j : Fin 256) : E X M (ix3 a r j) = ex (qr X r a) (km M a) j := by
  pointwise [E, ex, SC_at, MX_at]

theorem DEN_at (a : Fin 4) (r : Fin 8192) : DEN X M (ix2 a r) = den (qr X r a) (km M a) := by
  pointwise [DEN, den, E_at]

theorem DENB_at (a : Fin 4) (r : Fin 8192) (j : Fin 256) : DENB X M (ix3 a r j) = den (qr X r a) (km M a) := by
  pointwise [DENB, DEN_at]

theorem Out_at (r : Fin 8192) (a : Fin 4) (d : Fin 128) :
    Out X M (ix2 r ⟨a.val * 128 + d.val, by omega⟩) = mean (qr X r a) (km M a) (vm M a) d := by
  pointwise [Out, E_at, DENB_at, V_at, mean]
  exact Finset.sum_congr rfl fun x _ => mul_comm _ _
end pieces

end Cert.MfRef

end
-- ==== Proof.MfValue.lean ====
module

public import proofs.«01_k».proof.Proof.MfRef
public import proofs.«01_k».proof.Proof.Gen.Kernel28Ideal.Value
public import Idealize.ShloMosaic.Lib.Pipeline.ValueKit
public import Idealize.ShloMosaic.Lib.Pipeline.ReadBack

@[expose] public section

set_option maxRecDepth 16384

noncomputable section

namespace Cert.MfValue

open Idealize.ShloMosaic Idealize.ShloMosaic.TcCoe Idealize.SL.Sem
open Idealize.ShloMosaic.Pipeline (Dat)
open Cert.MfRow Cert.MfRef
open Cert.Kernel28Ideal Cert.Kernel28Ideal.Gen

variable (m : (ℓ : Loc nD τ sig) → Buf (Elt Ideal) ℓ)

/-- The query part of the projected input, as launched. -/
abbrev argX (c : Dev nD) : FVec Ideal S8192x1792 .f32 := m ((c : Thread nD τ).loc main_arg0)
/-- The memory's keys and values, as launched. -/
abbrev argM (c : Dev nD) : FVec Ideal S256x1024 .f32 := m ((c : Thread nD τ).loc main_arg1)
theorem idx : ∀ t : Fin cfg0.N, win0_0.index t = ![t.val, 2] ∧ win0_1.index t = ![0, 0] ∧ win0_2.index t = ![t.val, 0] ∧ t.val < 16 :=
  (by decide +kernel : ∀ t : Fin grid0.N, _)

/-- The row of the array that row `r` of block `t` is. -/
abbrev rowOf (t : Fin cfg0.N) (r : Fin 512) : Fin 8192 := ⟨t.val * 512 + r.val, by have := (idx t).2.2.2; omega⟩

theorem x_at (c : Dev nD) (t : Fin cfg0.N) (r l : Fin 512) :
    (show FVec Ideal S512x512 .f32 from X0_0 m c t) (ix2 r l) = argX m c (ix2 (rowOf t r) ⟨1024 + l.val, by omega⟩) := by
  show (cfg0.win 0).fill (cfg0.grid.coords t) dflt0_0 (iblk m c 0 t) (ix2 r l) = _
  unfold Pipeline.Window.fill
  rw [dif_pos (moved0_0 t (ix2 r l))]
  blk_ext [iblk, V, idx t]

theorem m_at (c : Dev nD) (t : Fin cfg0.N) (j : Fin 256) (l : Fin 1024) :
    (show FVec Ideal S256x1024 .f32 from iblk m c 1 t) (ix2 j l) = argM m c (ix2 j l) := by
  blk_ext [iblk, V, idx t]

/-- The tiles a head of block `t` reads hold the head's queries, keys and values. -/
structure Tiles (c : Dev nD) (t : Fin cfg0.N) (a : Fin 4) (q : FVec Ideal S512x128 .f32) (k v : FVec Ideal S256x128 .f32) : Prop where
  hq : ∀ r, row q r = qr (argX m c) (rowOf t r) a
  hk : mat k = km (argM m c) a
  hv : mat v = vm (argM m c) a

theorem ld_rows (B : Vec Ideal S512x512 .f32) (o : ℕ) (ho : o + 128 ≤ 512) (inb) (r : Fin 512) (d : Fin 128) :
    View.ld B (Rect.unit ![0, o] ![512, 128] inb) (ix2 r d) = B (ix2 r ⟨o + d.val, by omega⟩) := by
  pointwise

theorem ld_mem (B : Vec Ideal S256x1024 .f32) (o : ℕ) (ho : o + 128 ≤ 1024) (inb) (j : Fin 256) (d : Fin 128) :
    View.ld B (Rect.unit ![0, o] ![256, 128] inb) (ix2 j d) = B (ix2 j ⟨o + d.val, by omega⟩) := by
  pointwise

theorem ld_at (B : Vec Ideal S256x1024 .f32) (o : ℕ) (inb) (x : S256x128.Idx) (y : S256x1024.Idx) (h0 : (y 0 : ℕ) = (x 0 : ℕ)) (h1 : (y 1 : ℕ) = o + (x 1 : ℕ)) :
    View.ld B (Rect.unit ![0, o] ![256, 128] inb) x = B y := by
  idx_vars x
  idx_vars y
  rw [ld_mem B o (by have := inb 1; simpa using this)]
  blk_ext

theorem tiles (c : Dev nD) (t : Fin cfg0.N) (a : Fin 4) (o p : ℕ) (ho : o = a.val * 128) (hp : p = 512 + o) (i0 i2 i3) :
    Tiles m c t a (View.ld (X0_0 m c t) (Rect.unit ![0, o] ![512, 128] i0))
      (View.ld (iblk m c 1 t) (Rect.unit ![0, o] ![256, 128] i2)) (View.ld (iblk m c 1 t) (Rect.unit ![0, p] ![256, 128] i3)) := by
  subst ho hp
  constructor
  · intro r; funext d
    exact (ld_rows _ _ (by omega) _ r d).trans (x_at m c t r _)
  · funext j d
    exact (ld_mem _ _ (by omega) _ j d).trans (m_at m c t j _)
  · funext j d
    refine (ld_mem _ _ (by omega) _ j d).trans ((m_at m c t j _).trans (congrArg (argM m c) ?_))
    blk_ext

variable {m}

/-- A head's weighted mean at a block's row is the reference's at the array's row. -/
theorem Tiles.out {c : Dev nD} {t : Fin cfg0.N} {a : Fin 4} {q k v} (h : Tiles m c t a q k v) (r : Fin 512) (d : Fin 128) :
    mean (row q r) (mat k) (mat v) d = Out (argX m c) (argM m c) (ix2 (rowOf t r) ⟨a.val * 128 + d.val, by omega⟩) := by
  rw [Out_at, h.hq, h.hk, h.hv]

variable (m)

theorem point (c : Dev nD) (t : Fin cfg0.N) (a : Fin 4) {q k v} (h : Tiles m c t a q k v) (f : FVec Ideal S512x128 .f32)
    (hf : ∀ r d, f (ix2 r d) = mean (row q r) (mat k) (mat v) d) (x : S512x128.Idx) (j : S8192x512.Idx)
    (h0 : (j 0 : ℕ) = t.val * 512 + (x 0 : ℕ)) (h1 : (j 1 : ℕ) = a.val * 128 + (x 1 : ℕ)) :
    f x = Out (argX m c) (argM m c) j := by
  idx_vars x
  rw [hf, h.out]
  congr 1
  blk_ext

theorem final (c : Dev nD) : (dats m 0 c).arrAt 2 (cfgs 0).N = Out (argX m c) (argM m c) := by
  refine (dats m 0 c).arrAt_eq_of_covers 2 _ (by decide +kernel) fun t _ y => ?_
  blk_simp
  rw [after0_2, outsAt0]
  frame_out
  canon_tiles x h
  case piece0 =>
    refine point m c t 3 (tiles m c t 3 384 896 rfl rfl _ _ _) _ (fun r d => o3 _ _ _ r d) x _ ?_ ?_ <;> (blk_simp [idx t] <;> try omega)
  case piece1 =>
    refine point m c t 2 (tiles m c t 2 256 768 rfl rfl _ _ _) _ (fun r d => o2 _ _ _ r d) x _ ?_ ?_ <;> (blk_simp [idx t] <;> try omega)
  case piece2 =>
    refine point m c t 1 (tiles m c t 1 128 640 rfl rfl _ _ _) _ (fun r d => o1 _ _ _ r d) x _ ?_ ?_ <;> (blk_simp [idx t] <;> try omega)
  case piece3 =>
    refine point m c t 0 (tiles m c t 0 0 512 rfl rfl _ _ _) _ (fun r d => o0 _ _ _ r d) x _ ?_ ?_ <;> (blk_simp [idx t] <;> try omega)

end Cert.MfValue

end
-- ==== Proof.MfGRow.lean ====
module

public import proofs.«01_k».proof.Proof.Gen.Kernel29Ideal.Frame
public import Idealize.ShloMosaic.Lib.Pipeline.ValueKit

@[expose] public section

set_option maxRecDepth 16384

noncomputable section

namespace Cert.MfGRow

open Idealize.ShloMosaic Idealize.ShloMosaic.TcCoe Idealize.SL.Sem

/-! One query row against the memory: the scores, their exponentials, and the weighted mean of the values. -/

/-- The scale of the scores. -/
def sc : EReal := Ideal.ofBits .f32 0x3DB504F3#32

/-- The scaled score of one query row against key `j`. -/
def score (q : Fin 128 → EReal) (K : Fin 256 → Fin 128 → EReal) (j : Fin 256) : EReal :=
  (∑ d : Fin 128, q d * K j d) * sc

/-- The exponential of a score less the greatest score of the row. -/
def ex (q : Fin 128 → EReal) (K : Fin 256 → Fin 128 → EReal) (j : Fin 256) : EReal :=
  Ideal.exp (score q K j - Finset.univ.fold max (Ideal.ofBits .f32 0xFF800000#32) fun l => score q K l)

/-- The sum of the exponentials of a row. -/
def den (q : Fin 128 → EReal) (K : Fin 256 → Fin 128 → EReal) : EReal := ∑ j : Fin 256, ex q K j

/-- The mean of the values, weighted by the exponentials over their sum. -/
def mean (q : Fin 128 → EReal) (K V : Fin 256 → Fin 128 → EReal) (d : Fin 128) : EReal :=
  ∑ j : Fin 256, Ideal.div (ex q K j) (den q K) * V j d

open Cert.Kernel29Ideal Cert.Kernel29Ideal.Gen

variable (q : FVec Ideal S512x128 .f32) (k v : FVec Ideal S256x128 .f32)

/-- Row `r` of a block of queries. -/
abbrev row {n : ℕ} (x : FVec Ideal ⟨2, ![n, 128]⟩ .f32) (r : Fin n) : Fin 128 → EReal := fun d => x (ix2 r d)

/-- A block of keys (or values) by rows. -/
abbrev mat (x : FVec Ideal S256x128 .f32) : Fin 256 → Fin 128 → EReal := fun j d => x (ix2 j d)

theorem o0 (r : Fin 512) (d : Fin 128) : k0_pay2 (F := Ideal) q k v (ix2 r d) = mean (row q r) (mat k) (mat v) d := by
  pointwise! [k0_pay2, row, mat, mean, den, ex, score, sc]

theorem o1 (r : Fin 512) (d : Fin 128) : k0_pay5 (F := Ideal) v (k0_pay3 q k) (k0_pay4 q k) (ix2 r d) = mean (row q r) (mat k) (mat v) d := by
  pointwise! [k0_pay5, k0_pay3, k0_pay4, row, mat, mean, den, ex, score, sc]

theorem o2 (r : Fin 512) (d : Fin 128) : k0_pay6 (F := Ideal) q k v (ix2 r d) = mean (row q r) (mat k) (mat v) d := by
  pointwise! [k0_pay6, row, mat, mean, den, ex, score, sc]

theorem o3 (r : Fin 512) (d : Fin 128) : k0_pay1 (F := Ideal) v (k0_pay7 q k) (Scalar.ofBits .f32 0x3DB504F3#32) (ix2 r d) = mean (row q r) (mat k) (mat v) d := by
  pointwise! [k0_pay1, k0_pay7, row, mat, mean, den, ex, score, sc]

end Cert.MfGRow

end
-- ==== Proof.MfGRef.lean ====
module

public import proofs.«01_k».proof.Proof.MfGRow
public import proofs.«01_k».proof.Proof.Gen.Reference29Ideal.Run

@[expose] public section

set_option maxRecDepth 16384

noncomputable section

namespace Cert.MfGRef

open Idealize.ShloMosaic Idealize.ShloMosaic.TcCoe Idealize.SL.Sem
open Cert.MfGRow
open Cert.Reference29Ideal Cert.Reference29Ideal.Gen Cert.Reference29Ideal.Value

/-! The reference's composed term, cut into named pieces, and each piece read at an index. -/

section pieces
variable (X : FVec Ideal S8192x6912 .f32) (M : FVec Ideal S256x1024 .f32)

/-- The queries by heads. -/
def Q3 : FVec Ideal S8192x4x128 .f32 :=
  shapeCast _ (extractStridedSlice S8192x512 ![0, 6144] X slices_S8192x6912_S8192x512_0_6144) shapeCasts_S8192x512_S8192x4x128
/-- The keys by heads. -/
def K3 : FVec Ideal S256x4x128 .f32 :=
  shapeCast _ (extractStridedSlice S256x512 ![0, 0] M slices_S256x1024_S256x512_0_0) shapeCasts_S256x512_S256x4x128
/-- The values by heads. -/
def V3 : FVec Ideal S256x4x128 .f32 :=
  shapeCast _ (extractStridedSlice S256x512 ![0, 512] M slices_S256x1024_S256x512_0_512) shapeCasts_S256x512_S256x4x128
/-- The scaled scores. -/
def SC : FVec Ideal S4x8192x256 .f32 :=
  mulf (Host.dotGeneral dot_S8192x4x128_S256x4x128_S4x8192x256_2_2_0_0_1_1 none (Q3 X) (K3 M)) (broadcastInDim S4x8192x256 ![] bcast_S_S4x8192x256 (constant S_ .f32 0x3DB504F3#32))
/-- The greatest score of every row. -/
def MX0 : FVec Ideal S4x8192 .f32 :=
  Host.reduce FloatOps.maximumf (SC X M) (constant S_ .f32 0xFF800000#32) reducesTo_S4x8192x256_S4x8192_d2 h_S_
/-- The greatest score of every row, against the least value. -/
def MX : FVec Ideal S4x8192 .f32 :=
  maximumf (broadcastInDim S4x8192 ![] bcast_S_S4x8192 (constant S_ .f32 0xFF800000#32)) (MX0 X M)
/-- The exponentials. -/
def E : FVec Ideal S4x8192x256 .f32 :=
  Host.exp (subf (SC X M) (broadcastInDim S4x8192x256 ![0, 1, 2] bcast_S4x8192x1_S4x8192x256_0_1_2 (broadcastInDim S4x8192x1 ![0, 1] bcast_S4x8192_S4x8192x1_0_1 (MX X M))))
/-- The row sums. -/
def DEN : FVec Ideal S4x8192 .f32 := Host.reduceAdd (E X M) (constant S_ .f32 0x00000000#32) reducesTo_S4x8192x256_S4x8192_d2 h_S_
/-- The row sums along every row. -/
def DENB : FVec Ideal S4x8192x256 .f32 := broadcastInDim S4x8192x256 ![0, 1, 2] bcast_S4x8192x1_S4x8192x256_0_1_2 (broadcastInDim S4x8192x1 ![0, 1] bcast_S4x8192_S4x8192x1_0_1 (DEN X M))
/-- The outputs of the heads, side by side. -/
def Out : FVec Ideal S8192x512 .f32 :=
  shapeCast _ (transpose S8192x4x128 [2, 0, 1] (Host.dotGeneral dot_S256x4x128_S4x8192x256_S4x128x8192_0_2_2_1_1_0 none (V3 M) (Host.divf (E X M) (DENB X M))) transposes_S4x128x8192_S8192x4x128_2_0_1) shapeCasts_S8192x4x128_S8192x512

/-- Row `r` of head `a` of the queries. -/
abbrev qr (r : Fin 8192) (a : Fin 4) : Fin 128 → EReal := fun d => X (ix2 r ⟨6144 + (a.val * 128 + d.val), by omega⟩)
/-- The keys of head `a`. -/
abbrev km (a : Fin 4) : Fin 256 → Fin 128 → EReal := fun j d => M (ix2 j ⟨a.val * 128 + d.val, by omega⟩)
/-- The values of head `a`. -/
abbrev vm (a : Fin 4) : Fin 256 → Fin 128 → EReal := fun j d => M (ix2 j ⟨512 + (a.val * 128 + d.val), by omega⟩)

theorem max_fold (b : EReal) {n : Nat} (f : Fin n → EReal) : max b (Finset.univ.fold max b f) = Finset.univ.fold max b f :=
  max_eq_right ((Finset.le_fold_max _).2 (Or.inl le_rfl))

theorem Q_at (a : Fin 4) (r : Fin 8192) (d : Fin 128) : Q3 X (ix3 r a d) = qr X r a d := by
  pointwise [Q3]
theorem K_at (a : Fin 4) (j : Fin 256) (d : Fin 128) : K3 M (ix3 j a d) = km M a j d := by
  pointwise [K3]
theorem V_at (a : Fin 4) (j : Fin 256) (d : Fin 128) : V3 M (ix3 j a d) = vm M a j d := by
  pointwise [V3]
theorem SC_at (a : Fin 4) (r : Fin 8192) (j : Fin 256) : SC X M (ix3 a r j) = score (qr X r a) (km M a) j := by
  pointwise [SC, Q_at, K_at, score, sc]

theorem max_row (x : FVec Ideal S4x8192x256 .f32) (a : Fin 4) (r : Fin 8192) :
    Host.reduce FloatOps.maximumf x (constant S_ .f32 0xFF800000#32) reducesTo_S4x8192x256_S4x8192_d2 h_S_ (ix2 a r)
      = Finset.univ.fold max (Ideal.ofBits .f32 0xFF800000#32) fun k : Fin 256 => x (ix3 a r k) := by
  simp only [pointwise]

theorem MX0_at (a : Fin 4) (r : Fin 8192) :
    MX0 X M (ix2 a r) = Finset.univ.fold max (Ideal.ofBits .f32 0xFF800000#32) fun l => score (qr X r a) (km M a) l := by
  rw [MX0, max_row]
  simp only [SC_at]

theorem max_const (y : FVec Ideal S4x8192 .f32) (a : Fin 4) (r : Fin 8192) :
    maximumf (broadcastInDim S4x8192 ![] bcast_S_S4x8192 (constant (F := Ideal) S_ .f32 0xFF800000#32)) y (ix2 a r) = max (Ideal.ofBits .f32 0xFF800000#32) (y (ix2 a r)) := by
  rfl

theorem MX_at (a : Fin 4) (r : Fin 8192) :
    MX X M (ix2 a r) = Finset.univ.fold max (Ideal.ofBits .f32 0xFF800000#32) fun l => score (qr X r a) (km M a) l := by
  have h := MX0_at X M a r
  rw [MX, max_const]
  generalize MX0 X M (ix2 a r) = y at h
  subst h
  exact max_fold _ _

theorem E_at (a : Fin 4) (r : Fin 8192) (j : Fin 256) : E X M (ix3 a r j) = ex (qr X r a) (km M a) j := by
  pointwise [E, ex, SC_at, MX_at]

theorem DEN_at (a : Fin 4) (r : Fin 8192) : DEN X M (ix2 a r) = den (qr X r a) (km M a) := by
  pointwise [DEN, den, E_at]

theorem DENB_at (a : Fin 4) (r : Fin 8192) (j : Fin 256) : DENB X M (ix3 a r j) = den (qr X r a) (km M a) := by
  pointwise [DENB, DEN_at]

theorem Out_at (r : Fin 8192) (a : Fin 4) (d : Fin 128) :
    Out X M (ix2 r ⟨a.val * 128 + d.val, by omega⟩) = mean (qr X r a) (km M a) (vm M a) d := by
  pointwise [Out, E_at, DENB_at, V_at, mean]
  exact Finset.sum_congr rfl fun x _ => mul_comm _ _
end pieces

end Cert.MfGRef

end
-- ==== Proof.MfGValue.lean ====
module

public import proofs.«01_k».proof.Proof.MfGRef
public import proofs.«01_k».proof.Proof.Gen.Kernel29Ideal.Value
public import Idealize.ShloMosaic.Lib.Pipeline.ValueKit
public import Idealize.ShloMosaic.Lib.Pipeline.ReadBack

@[expose] public section

set_option maxRecDepth 16384

noncomputable section

namespace Cert.MfGValue

open Idealize.ShloMosaic Idealize.ShloMosaic.TcCoe Idealize.SL.Sem
open Idealize.ShloMosaic.Pipeline (Dat)
open Cert.MfGRow Cert.MfGRef
open Cert.Kernel29Ideal Cert.Kernel29Ideal.Gen

variable (m : (ℓ : Loc nD τ sig) → Buf (Elt Ideal) ℓ)

/-- The query part of the projected input, as launched. -/
abbrev argX (c : Dev nD) : FVec Ideal S8192x6912 .f32 := m ((c : Thread nD τ).loc main_arg0)
/-- The memory's keys and values, as launched. -/
abbrev argM (c : Dev nD) : FVec Ideal S256x1024 .f32 := m ((c : Thread nD τ).loc main_arg1)
theorem idx : ∀ t : Fin cfg0.N, win0_0.index t = ![t.val, 12] ∧ win0_1.index t = ![0, 0] ∧ win0_2.index t = ![t.val, 0] ∧ t.val < 16 :=
  (by decide +kernel : ∀ t : Fin grid0.N, _)

/-- The row of the array that row `r` of block `t` is. -/
abbrev rowOf (t : Fin cfg0.N) (r : Fin 512) : Fin 8192 := ⟨t.val * 512 + r.val, by have := (idx t).2.2.2; omega⟩

theorem x_at (c : Dev nD) (t : Fin cfg0.N) (r l : Fin 512) :
    (show FVec Ideal S512x512 .f32 from X0_0 m c t) (ix2 r l) = argX m c (ix2 (rowOf t r) ⟨6144 + l.val, by omega⟩) := by
  show (cfg0.win 0).fill (cfg0.grid.coords t) dflt0_0 (iblk m c 0 t) (ix2 r l) = _
  unfold Pipeline.Window.fill
  rw [dif_pos (moved0_0 t (ix2 r l))]
  blk_ext [iblk, V, idx t]

theorem m_at (c : Dev nD) (t : Fin cfg0.N) (j : Fin 256) (l : Fin 1024) :
    (show FVec Ideal S256x1024 .f32 from iblk m c 1 t) (ix2 j l) = argM m c (ix2 j l) := by
  blk_ext [iblk, V, idx t]

/-- The tiles a head of block `t` reads hold the head's queries, keys and values. -/
structure Tiles (c : Dev nD) (t : Fin cfg0.N) (a : Fin 4) (q : FVec Ideal S512x128 .f32) (k v : FVec Ideal S256x128 .f32) : Prop where
  hq : ∀ r, row q r = qr (argX m c) (rowOf t r) a
  hk : mat k = km (argM m c) a
  hv : mat v = vm (argM m c) a

theorem ld_rows (B : Vec Ideal S512x512 .f32) (o : ℕ) (ho : o + 128 ≤ 512) (inb) (r : Fin 512) (d : Fin 128) :
    View.ld B (Rect.unit ![0, o] ![512, 128] inb) (ix2 r d) = B (ix2 r ⟨o + d.val, by omega⟩) := by
  pointwise

theorem ld_mem (B : Vec Ideal S256x1024 .f32) (o : ℕ) (ho : o + 128 ≤ 1024) (inb) (j : Fin 256) (d : Fin 128) :
    View.ld B (Rect.unit ![0, o] ![256, 128] inb) (ix2 j d) = B (ix2 j ⟨o + d.val, by omega⟩) := by
  pointwise

theorem ld_at (B : Vec Ideal S256x1024 .f32) (o : ℕ) (inb) (x : S256x128.Idx) (y : S256x1024.Idx) (h0 : (y 0 : ℕ) = (x 0 : ℕ)) (h1 : (y 1 : ℕ) = o + (x 1 : ℕ)) :
    View.ld B (Rect.unit ![0, o] ![256, 128] inb) x = B y := by
  idx_vars x
  idx_vars y
  rw [ld_mem B o (by have := inb 1; simpa using this)]
  blk_ext

theorem tiles (c : Dev nD) (t : Fin cfg0.N) (a : Fin 4) (o p : ℕ) (ho : o = a.val * 128) (hp : p = 512 + o) (i0 i2 i3) :
    Tiles m c t a (View.ld (X0_0 m c t) (Rect.unit ![0, o] ![512, 128] i0))
      (View.ld (iblk m c 1 t) (Rect.unit ![0, o] ![256, 128] i2)) (View.ld (iblk m c 1 t) (Rect.unit ![0, p] ![256, 128] i3)) := by
  subst ho hp
  constructor
  · intro r; funext d
    exact (ld_rows _ _ (by omega) _ r d).trans (x_at m c t r _)
  · funext j d
    exact (ld_mem _ _ (by omega) _ j d).trans (m_at m c t j _)
  · funext j d
    refine (ld_mem _ _ (by omega) _ j d).trans ((m_at m c t j _).trans (congrArg (argM m c) ?_))
    blk_ext

variable {m}

/-- A head's weighted mean at a block's row is the reference's at the array's row. -/
theorem Tiles.out {c : Dev nD} {t : Fin cfg0.N} {a : Fin 4} {q k v} (h : Tiles m c t a q k v) (r : Fin 512) (d : Fin 128) :
    mean (row q r) (mat k) (mat v) d = Out (argX m c) (argM m c) (ix2 (rowOf t r) ⟨a.val * 128 + d.val, by omega⟩) := by
  rw [Out_at, h.hq, h.hk, h.hv]

variable (m)

theorem point (c : Dev nD) (t : Fin cfg0.N) (a : Fin 4) {q k v} (h : Tiles m c t a q k v) (f : FVec Ideal S512x128 .f32)
    (hf : ∀ r d, f (ix2 r d) = mean (row q r) (mat k) (mat v) d) (x : S512x128.Idx) (j : S8192x512.Idx)
    (h0 : (j 0 : ℕ) = t.val * 512 + (x 0 : ℕ)) (h1 : (j 1 : ℕ) = a.val * 128 + (x 1 : ℕ)) :
    f x = Out (argX m c) (argM m c) j := by
  idx_vars x
  rw [hf, h.out]
  congr 1
  blk_ext

theorem final (c : Dev nD) : (dats m 0 c).arrAt 2 (cfgs 0).N = Out (argX m c) (argM m c) := by
  refine (dats m 0 c).arrAt_eq_of_covers 2 _ (by decide +kernel) fun t _ y => ?_
  blk_simp
  rw [after0_2, outsAt0]
  frame_out
  canon_tiles x h
  case piece0 =>
    refine point m c t 3 (tiles m c t 3 384 896 rfl rfl _ _ _) _ (fun r d => o3 _ _ _ r d) x _ ?_ ?_ <;> (blk_simp [idx t] <;> try omega)
  case piece1 =>
    refine point m c t 2 (tiles m c t 2 256 768 rfl rfl _ _ _) _ (fun r d => o2 _ _ _ r d) x _ ?_ ?_ <;> (blk_simp [idx t] <;> try omega)
  case piece2 =>
    refine point m c t 1 (tiles m c t 1 128 640 rfl rfl _ _ _) _ (fun r d => o1 _ _ _ r d) x _ ?_ ?_ <;> (blk_simp [idx t] <;> try omega)
  case piece3 =>
    refine point m c t 0 (tiles m c t 0 0 512 rfl rfl _ _ _) _ (fun r d => o0 _ _ _ r d) x _ ?_ ?_ <;> (blk_simp [idx t] <;> try omega)

end Cert.MfGValue

end
-- ==== Proof.PrpRow.lean ====
module

public import proofs.«01_k».proof.Proof.Gen.Kernel30Ideal.Frame
public import Idealize.ShloMosaic.Lib.Pipeline.ValueKit

@[expose] public section

set_option maxRecDepth 16384

noncomputable section

namespace Cert.PrpRow

open Idealize.ShloMosaic Idealize.ShloMosaic.TcCoe Idealize.SL.Sem

/-! One row of a root mean square norm's cotangent, and one row of the rotation's. -/

/-- One row of a latent. -/
abbrev Row := Fin 512 → EReal

/-- The length of a row. -/
def len : EReal := Ideal.ofBits .f32 0x44000000#32
/-- The small term under the root. -/
def eps : EReal := Ideal.ofBits .f32 0x358637BD#32
/-- Minus one half. -/
def half : EReal := Ideal.ofBits .f32 0xBF000000#32
/-- The mean square and the small term. -/
def ms (x : Row) : EReal := Ideal.div (∑ k : Fin 512, x k * x k) len + eps
/-- The inverse root. -/
def rs (x : Row) : EReal := Ideal.rsqrt (ms x)
/-- The derivative of the inverse root. -/
def hf (x : Row) : EReal := half * Ideal.div (rs x) (ms x)
/-- The cotangent times the gain. -/
def gd (g d : Row) (k : Fin 512) : EReal := d k * g k
/-- What reaches the row through its mean square. -/
def thr (x g d : Row) : EReal := Ideal.div ((∑ k : Fin 512, x k * gd g d k) * hf x) len
/-- The cotangent of the row. -/
def DX (x g d : Row) (k : Fin 512) : EReal := gd g d k * rs x + x k * thr x g d + thr x g d * x k
/-- The row's part of the gradient of the gain. -/
def DG (x d : Row) (k : Fin 512) : EReal := x k * rs x * d k

/-- Row `r` of an array of rows. -/
abbrev row {n : ℕ} (x : FVec Ideal ⟨2, ![n, 512]⟩ .f32) (r : Fin n) : Row := fun d => x (ix2 r d)

/-- Four quarters of a row of 128 entries. -/
def cat4 (a b c d : Fin 32 → EReal) (l : Fin 128) : EReal :=
  if h : l.val < 32 then a ⟨l.val, h⟩ else if h : l.val - 32 < 32 then b ⟨l.val - 32, h⟩
    else if h : l.val - 32 - 32 < 32 then c ⟨l.val - 32 - 32, h⟩ else d ⟨l.val - 32 - 32 - 32, by omega⟩

/-- The rotation's cotangent as the kernel takes it: the second product moved round by half a row. -/
def rot (D cs sn : Fin 128 → EReal) (l : Fin 128) : EReal :=
  D l * cs l + D ⟨(l.val + 128 - 64) % 128, by omega⟩ * sn ⟨(l.val + 128 - 64) % 128, by omega⟩

/-- The rotation's cotangent, first half. -/
def wl (D : Fin 128 → EReal) (C S : Fin 32 → EReal) (j : Fin 32) : EReal := D ⟨64 + j.val, by omega⟩ * S j + D ⟨j.val, by omega⟩ * C j
/-- The rotation's cotangent, second half. -/
def wr (D : Fin 128 → EReal) (C S : Fin 32 → EReal) (j : Fin 32) : EReal := D ⟨64 + j.val, by omega⟩ * C j + -(D ⟨j.val, by omega⟩) * S j

theorem rot_eq (D : Fin 128 → EReal) (C S : Fin 32 → EReal) (l : Fin 128) :
    rot D (cat4 C (fun _ => 0) C fun _ => 0) (cat4 (fun j => -(S j)) (fun _ => 0) S fun _ => 0) l
      = cat4 (wl D C S) (fun _ => 0) (wr D C S) (fun _ => 0) l := by
  obtain ⟨v, hv⟩ := l
  unfold rot cat4 wl wr
  by_cases h1 : v < 32
  · have e : (v + 128 - 64) % 128 = 64 + v := by omega
    have i1 : ¬ 64 + v < 32 := by omega
    have i2 : ¬ 64 + v - 32 < 32 := by omega
    have i3 : 64 + v - 32 - 32 < 32 := by omega
    have i4 : 64 + v - 32 - 32 = v := by omega
    simp only [h1, e, i1, i2, i3, i4, dite_true, dite_false]
    exact add_comm _ _
  · by_cases h2 : v - 32 < 32
    · have i1 : ¬ (v + 128 - 64) % 128 < 32 := by omega
      have i2 : ¬ (v + 128 - 64) % 128 - 32 < 32 := by omega
      have i3 : ¬ (v + 128 - 64) % 128 - 32 - 32 < 32 := by omega
      simp only [h1, h2, i1, i2, i3, dite_true, dite_false, mul_zero, add_zero]
    · by_cases h3 : v - 32 - 32 < 32
      · have e : (v + 128 - 64) % 128 = v - 32 - 32 := by omega
        have i4 : 64 + (v - 32 - 32) = v := by omega
        simp only [h1, h2, h3, e, i4, dite_true, dite_false]
        rw [neg_mul, mul_neg]
      · have i1 : ¬ (v + 128 - 64) % 128 < 32 := by omega
        have i2 : (v + 128 - 64) % 128 - 32 < 32 := by omega
        simp only [h1, h2, h3, i1, i2, dite_true, dite_false, mul_zero, add_zero]

theorem sum12 (f : Fin 12 → EReal) : ∑ a : Fin 12, f a = f 0 + f 1 + f 2 + f 3 + f 4 + f 5 + f 6 + f 7 + f 8 + f 9 + f 10 + f 11 := by
  simp only [Fin.sum_univ_castSucc, Fin.sum_univ_zero, zero_add]
  rfl

namespace K
open Cert.Kernel30Ideal Cert.Kernel30Ideal.Gen

section
variable (x d : FVec Ideal S512x512 .f32) (g : FVec Ideal S1x512 .f32)
theorem q4 (r : Fin 512) (u : Fin 1) : k0_pay4 (F := Ideal) x (ix2 r u) = ms (row x r) := by
  pointwise [k0_pay4, ms, len, eps]
theorem q5 (r : Fin 512) (u : Fin 1) : k0_pay5 (F := Ideal) x (ix2 r u) = rs (row x r) := by
  pointwise [k0_pay5, q4, rs]
theorem q6 (u : Fin 1) (k : Fin 512) : k0_pay6 (F := Ideal) x d (ix2 u k) = ∑ r : Fin 512, DG (row x r) (row d r) k := by
  pointwise [k0_pay6, q5, DG, row]
theorem q7 (r k : Fin 512) : k0_pay7 (F := Ideal) x g d (ix2 r k) = DX (row x r) (row g 0) (row d r) k := by
  pointwise [k0_pay7, q5, q4, DX, thr, gd, hf, half, len, row]
  simp only [Finset.univ_unique, Finset.sum_singleton]
theorem q9 (r : Fin 512) (u : Fin 1) : k0_pay9 (F := Ideal) x (ix2 r u) = ms (row x r) := by
  pointwise [k0_pay9, ms, len, eps]
theorem q10 (r : Fin 512) (u : Fin 1) : k0_pay10 (F := Ideal) x (ix2 r u) = rs (row x r) := by
  pointwise [k0_pay10, q9, rs]
theorem q11 (u : Fin 1) (k : Fin 512) : k0_pay11 (F := Ideal) x d (ix2 u k) = ∑ r : Fin 512, DG (row x r) (row d r) k := by
  pointwise [k0_pay11, q10, DG, row]
theorem q12 (r k : Fin 512) : k0_pay12 (F := Ideal) x g d (ix2 r k) = DX (row x r) (row g 0) (row d r) k := by
  pointwise [k0_pay12, q10, q9, DX, thr, gd, hf, half, len, row]
  simp only [Finset.univ_unique, Finset.sum_singleton]
theorem q8 (a b : FVec Ideal S1x512 .f32) (u : Fin 1) (k : Fin 512) : k0_pay8 (F := Ideal) a b (ix2 u k) = b (ix2 u k) + a (ix2 u k) := by
  pointwise [k0_pay8]
theorem q13 (a b : FVec Ideal S1x512 .f32) (u : Fin 1) (k : Fin 512) : k0_pay13 (F := Ideal) a b (ix2 u k) = b (ix2 u k) + a (ix2 u k) := by
  pointwise [k0_pay13]
end

section
variable (p : Fin 12 → FVec Ideal S1x512x128 .f32) (cs sn : FVec Ideal S512x128 .f32)
theorem q1 (r : Fin 512) (l : Fin 128) :
    k0_pay1 (F := Ideal) (k0_pay14 (p 0) (p 1) (p 2) (p 3) (p 4) (p 5) (p 6) (p 7)) (p 8) (p 9) (p 10) (p 11) cs sn (ix2 r l)
      = rot (fun l => ∑ a : Fin 12, p a (ix3 0 r l)) (fun l => cs (ix2 r l)) (fun l => sn (ix2 r l)) l := by
  pointwise [k0_pay1, k0_pay14, rot]
  simp only [sum12]
end
end K

end Cert.PrpRow

end
-- ==== Proof.PrpRef.lean ====
module

public import proofs.«01_k».proof.Proof.PrpRow
public import proofs.«01_k».proof.Proof.Gen.Reference30Ideal.Run

@[expose] public section

set_option maxRecDepth 16384

noncomputable section

namespace Cert.PrpRef

open Idealize.ShloMosaic Idealize.ShloMosaic.TcCoe Idealize.SL.Sem
open Cert.PrpRow
open Cert.Reference30Ideal Cert.Reference30Ideal.Gen Cert.Reference30Ideal.Value

/-! The reference's results, cut into named pieces, and each piece read at an index. -/

section
variable (X D : FVec Ideal S8192x512 .f32) (G : FVec Ideal S1x512 .f32)

/-- The mean squares and the small term. -/
def MS : FVec Ideal S8192x1 .f32 := (addf (Host.divf (broadcastInDim S8192x1 ![0] bcast_S8192_S8192x1_0 (Host.reduceAdd (mulf X X) (constant S_ .f32 0x00000000#32) reducesTo_S8192x512_S8192_d1 h_S_)) (broadcastInDim S8192x1 ![] bcast_S_S8192x1 (constant S_ .f32 0x44000000#32))) (broadcastInDim S8192x1 ![] bcast_S_S8192x1 (constant S_ .f32 0x358637BD#32)))
/-- The inverse roots. -/
def RS : FVec Ideal S8192x1 .f32 := Host.rsqrt (MS X)
/-- The derivatives of the inverse roots. -/
def HF : FVec Ideal S8192x1 .f32 := (mulf (broadcastInDim S8192x1 ![] bcast_S_S8192x1 (constant S_ .f32 0xBF000000#32)) (Host.divf (RS X) (MS X)))
/-- The cotangent times the gain. -/
def GD : FVec Ideal S8192x512 .f32 := (mulf D (broadcastInDim S8192x512 ![0, 1] bcast_S1x512_S8192x512_0_1 G))
/-- What reaches the rows through their mean squares. -/
def TH : FVec Ideal S8192x512 .f32 := (broadcastInDim S8192x512 ![0] bcast_S8192_S8192x512_0 (Host.reduceAdd (Host.divf (mulf (shapeCast _ (Host.reduceAdd (mulf X (GD D G)) (constant S_ .f32 0x00000000#32) reducesTo_S8192x512_S8192_d1 h_S_) shapeCasts_S8192_S8192x1) (HF X)) (broadcastInDim S8192x1 ![] bcast_S_S8192x1 (constant S_ .f32 0x44000000#32))) (constant S_ .f32 0x00000000#32) reducesTo_S8192x1_S8192_d1 h_S_))
/-- The cotangent of the rows. -/
def OX : FVec Ideal S8192x512 .f32 := addf (addf (mulf (GD D G) (broadcastInDim S8192x512 ![0, 1] bcast_S8192x1_S8192x512_0_1 (RS X))) (mulf X (TH X D G))) (mulf (TH X D G) X)
/-- The gradient of the gain. -/
def OG : FVec Ideal S1x512 .f32 := shapeCast _ (Host.reduceAdd (mulf (mulf X (broadcastInDim S8192x512 ![0, 1] bcast_S8192x1_S8192x512_0_1 (RS X))) D) (constant S_ .f32 0x00000000#32) reducesTo_S8192x512_S512_d0 h_S_) shapeCasts_S512_S1x512

theorem MS_at (r : Fin 8192) (u : Fin 1) : MS X (ix2 r u) = ms (row X r) := by
  pointwise [MS, ms, len, eps]
theorem RS_at (r : Fin 8192) (u : Fin 1) : RS X (ix2 r u) = rs (row X r) := by
  pointwise [RS, MS_at, rs]
theorem HF_at (r : Fin 8192) (u : Fin 1) : HF X (ix2 r u) = hf (row X r) := by
  pointwise [HF, RS_at, MS_at, hf, half]
theorem GD_at (r : Fin 8192) (k : Fin 512) : GD D G (ix2 r k) = gd (row G 0) (row D r) k := by
  pointwise [GD, gd, row]
theorem TH_at (r : Fin 8192) (k : Fin 512) : TH X D G (ix2 r k) = thr (row X r) (row G 0) (row D r) := by
  pointwise [TH, GD_at, HF_at, thr, len]
  simp only [Finset.univ_unique, Finset.sum_singleton]
theorem OX_at (r : Fin 8192) (k : Fin 512) : OX X D G (ix2 r k) = DX (row X r) (row G 0) (row D r) k := by
  pointwise [OX, GD_at, RS_at, TH_at, DX, row]
theorem OG_at (u : Fin 1) (k : Fin 512) : OG X D (ix2 u k) = ∑ r : Fin 8192, DG (row X r) (row D r) k := by
  pointwise [OG, RS_at, DG, row]
end

section
variable (H : FVec Ideal S8192x1792 .f32) (Q KV : FVec Ideal S1x512 .f32) (C S : FVec Ideal S8192x32 .f32) (DQ DKV : FVec Ideal S8192x512 .f32) (DK : FVec Ideal S12x8192x128 .f32)
/-- The latent of the queries. -/
def XQ : FVec Ideal S8192x512 .f32 := (extractStridedSlice S8192x512 ![0, 0] H slices_S8192x1792_S8192x512_0_0)
/-- The latent of the keys and values. -/
def XK : FVec Ideal S8192x512 .f32 := (extractStridedSlice S8192x512 ![0, 512] H slices_S8192x1792_S8192x512_0_512)
theorem XQ_at (r : Fin 8192) (k : Fin 512) : XQ H (ix2 r k) = H (ix2 r ⟨k.val, by omega⟩) := by
  pointwise [XQ]
theorem XK_at (r : Fin 8192) (k : Fin 512) : XK H (ix2 r k) = H (ix2 r ⟨512 + k.val, by omega⟩) := by
  pointwise [XK]
/-- The cotangent of the latent of the queries. -/
def O0 : FVec Ideal S8192x512 .f32 := OX (XQ H) DQ Q
/-- The cotangent of the latent of the keys and values. -/
def O1 : FVec Ideal S8192x512 .f32 := OX (XK H) DKV KV
/-- The gradient of the first gain. -/
def O3 : FVec Ideal S1x512 .f32 := OG (XQ H) DQ
/-- The gradient of the second gain. -/
def O4 : FVec Ideal S1x512 .f32 := OG (XK H) DKV
/-- The heads' sum. -/
def E : FVec Ideal S8192x64 .f32 := (Host.reduceAdd (concatenate S12x8192x64 2 [⟨S12x8192x32, (extractStridedSlice S12x8192x32 ![0, 0, 0] DK slices_S12x8192x128_S12x8192x32_0_0_0)⟩, ⟨S12x8192x32, (extractStridedSlice S12x8192x32 ![0, 0, 64] DK slices_S12x8192x128_S12x8192x32_0_0_64)⟩] concatenates_S12x8192x32_S12x8192x32_S12x8192x64_d2) (constant S_ .f32 0x00000000#32) reducesTo_S12x8192x64_S8192x64_d0 h_S_)
/-- The rotation's cotangent. -/
def W : FVec Ideal S8192x64 .f32 := (addf (pad S8192x64 ![0, 32] ![0, 0] ![0, 0] (addf (mulf (extractStridedSlice S8192x32 ![0, 32] (E DK) slices_S8192x64_S8192x32_0_32) C) (mulf (Host.negf (extractStridedSlice S8192x32 ![0, 0] (E DK) slices_S8192x64_S8192x32_0_0)) S)) (constant S_ .f32 0x00000000#32) pads_S8192x32_S8192x64_000_3200 h_S_) (pad S8192x64 ![0, 0] ![0, 32] ![0, 0] (addf (mulf (extractStridedSlice S8192x32 ![0, 32] (E DK) slices_S8192x64_S8192x32_0_32) S) (mulf (extractStridedSlice S8192x32 ![0, 0] (E DK) slices_S8192x64_S8192x32_0_0) C)) (constant S_ .f32 0x00000000#32) pads_S8192x32_S8192x64_000_0320 h_S_))
/-- Zeros. -/
def ZR : FVec Ideal S8192x32 .f32 := broadcastInDim S8192x32 ![] bcast_S_S8192x32 (constant S_ .f32 0x00000000#32)
/-- The same, in the padded layout. -/
def O2 : FVec Ideal S8192x128 .f32 := (concatenate S8192x128 1 [⟨S8192x32, ((extractStridedSlice S8192x32 ![0, 0] (W C S DK) slices_S8192x64_S8192x32_0_0))⟩, ⟨S8192x32, ZR⟩, ⟨S8192x32, ((extractStridedSlice S8192x32 ![0, 32] (W C S DK) slices_S8192x64_S8192x32_0_32))⟩, ⟨S8192x32, ZR⟩] concatenates_S8192x32_S8192x32_S8192x32_S8192x32_S8192x128_d1)

/-- The heads' sum at a row of the padded layout. -/
abbrev hs (r : Fin 8192) (l : Fin 128) : EReal := ∑ a : Fin 12, DK (ix3 a r l)

theorem E_l (r : Fin 8192) (j : Fin 32) : E DK (ix2 r ⟨j.val, by omega⟩) = hs DK r ⟨j.val, by omega⟩ := by
  pointwise [E, hs]
theorem E_r (r : Fin 8192) (j : Fin 32) : E DK (ix2 r ⟨32 + j.val, by omega⟩) = hs DK r ⟨64 + j.val, by omega⟩ := by
  pointwise [E, hs]
theorem W_l (r : Fin 8192) (j : Fin 32) : W C S DK (ix2 r ⟨j.val, by omega⟩) = wl (hs DK r) (fun j => C (ix2 r j)) (fun j => S (ix2 r j)) j := by
  pointwise [W, wl, E_l, E_r]
  simp only [false_and, dite_false, zero_add]
theorem W_r (r : Fin 8192) (j : Fin 32) : W C S DK (ix2 r ⟨32 + j.val, by omega⟩) = wr (hs DK r) (fun j => C (ix2 r j)) (fun j => S (ix2 r j)) j := by
  pointwise [W, wr, E_l, E_r]
theorem cat_at (a b c d : FVec Ideal S8192x32 .f32) (h) (r : Fin 8192) (l : Fin 128) : (concatenate S8192x128 1 [⟨S8192x32, a⟩, ⟨S8192x32, b⟩, ⟨S8192x32, c⟩, ⟨S8192x32, d⟩] h : FVec Ideal S8192x128 .f32) (ix2 r l)
    = cat4 (fun j => a (ix2 r j)) (fun j => b (ix2 r j)) (fun j => c (ix2 r j)) (fun j => d (ix2 r j)) l := by
  pointwise [cat4]
theorem O2_at (r : Fin 8192) (l : Fin 128) : O2 C S DK (ix2 r l)
    = cat4 (wl (hs DK r) (fun j => C (ix2 r j)) fun j => S (ix2 r j)) (fun _ => 0) (wr (hs DK r) (fun j => C (ix2 r j)) fun j => S (ix2 r j)) (fun _ => 0) l := by
  unfold O2
  rw [cat_at]
  congr 1
  · funext j
    rw [← W_l]
    pointwise
  · funext j
    pointwise [ZR]
  · funext j
    rw [← W_r]
    pointwise
  · funext j
    pointwise [ZR]
end

end Cert.PrpRef

end
-- ==== Proof.PrpValue.lean ====
module

public import proofs.«01_k».proof.Proof.PrpRef
public import proofs.«01_k».proof.Proof.Gen.Kernel30Ideal.Value
public import Idealize.ShloMosaic.Lib.Pipeline.ValueKit
public import Idealize.ShloMosaic.Lib.Pipeline.ReadBack

@[expose] public section

set_option maxRecDepth 16384

noncomputable section

namespace Cert.PrpValue

open Idealize.ShloMosaic Idealize.ShloMosaic.TcCoe Idealize.SL.Sem
open Idealize.ShloMosaic.Pipeline (Dat)
open Idealize.ShloMosaic.StableHlo
open Cert.PrpRow Cert.PrpRow.K Cert.PrpRef
open Cert.Kernel30Ideal Cert.Kernel30Ideal.Gen

variable (m : (ℓ : Loc nD τ sig) → Buf (Elt Ideal) ℓ)

/-- The projected input, as launched. -/
abbrev argH (c : Dev nD) : FVec Ideal S8192x1792 .f32 := m ((c : Thread nD τ).loc main_arg0)
/-- The first gain, as launched. -/
abbrev argQ (c : Dev nD) : FVec Ideal S1x512 .f32 := m ((c : Thread nD τ).loc main_arg1)
/-- The second gain, as launched. -/
abbrev argKV (c : Dev nD) : FVec Ideal S1x512 .f32 := m ((c : Thread nD τ).loc main_arg2)
/-- The cosine table, as launched. -/
abbrev argC (c : Dev nD) : FVec Ideal S8192x32 .f32 := m ((c : Thread nD τ).loc main_arg3)
/-- The sine table, as launched. -/
abbrev argS (c : Dev nD) : FVec Ideal S8192x32 .f32 := m ((c : Thread nD τ).loc main_arg4)
/-- The first cotangent, as launched. -/
abbrev argDQ (c : Dev nD) : FVec Ideal S8192x512 .f32 := m ((c : Thread nD τ).loc main_arg5)
/-- The second cotangent, as launched. -/
abbrev argDKV (c : Dev nD) : FVec Ideal S8192x512 .f32 := m ((c : Thread nD τ).loc main_arg6)
/-- The heads' cotangents, as launched. -/
abbrev argDK (c : Dev nD) : FVec Ideal S12x8192x128 .f32 := m ((c : Thread nD τ).loc main_arg7)

theorem idx : ∀ t : Fin cfg0.N, win0_0.index t = ![t.val, 0] ∧ win0_1.index t = ![t.val, 1] ∧ win0_2.index t = ![0, 0] ∧ win0_3.index t = ![0, 0]
    ∧ win0_4.index t = ![t.val, 0] ∧ win0_5.index t = ![t.val, 0] ∧ win0_6.index t = ![t.val, 0] ∧ win0_7.index t = ![t.val, 0]
    ∧ win0_8.index t = ![0, t.val, 0] ∧ win0_9.index t = ![t.val, 0] ∧ win0_10.index t = ![t.val, 0] ∧ win0_11.index t = ![t.val, 0]
    ∧ win0_12.index t = ![0, 0] ∧ win0_13.index t = ![0, 0] ∧ t.val < 16 :=
  (by decide +kernel : ∀ t : Fin grid0.N, _)

/-- The row of the array that row `r` of block `t` is. -/
abbrev rowOf (t : Fin cfg0.N) (r : Fin 512) : Fin 8192 := ⟨t.val * 512 + r.val, by have := (idx t).2.2.2.2.2.2.2.2.2.2.2.2.2.2; omega⟩

/-- The cosine table, laid out along the padded row. -/
def csA (c : Dev nD) : FVec Ideal S8192x128 .f32 :=
  concatenate S8192x128 1 [⟨S8192x32, (argC m c)⟩, ⟨S8192x32, (broadcastInDim S8192x32 ![] bcast_S_S8192x32 (constant S_ .f32 0x00000000#32))⟩, ⟨S8192x32, (argC m c)⟩, ⟨S8192x32, (broadcastInDim S8192x32 ![] bcast_S_S8192x32 (constant S_ .f32 0x00000000#32))⟩] concatenates_S8192x32_S8192x32_S8192x32_S8192x32_S8192x128_d1
theorem V_csA (c : Dev nD) : V m c main_v1 = csA m c := by
  show StableHlo.after hostOps0 (fun b => m (c, b)) main_v1 = _
  unfold hostOps0
  after_results_simp <;> (try dsimp only [Matrix.cons_val]) <;> (try after_results_simp) <;> rfl
theorem csA_at (c : Dev nD) (r : Fin 8192) (l : Fin 128) : csA m c (ix2 r l)
    = cat4 (fun j => argC m c (ix2 r j)) (fun _ => 0) (fun j => argC m c (ix2 r j)) (fun _ => 0) l := by
  pointwise [csA, cat4]
/-- The sine table, laid out along the padded row. -/
def snA (c : Dev nD) : FVec Ideal S8192x128 .f32 :=
  concatenate S8192x128 1 [⟨S8192x32, (Host.negf (argS m c))⟩, ⟨S8192x32, (broadcastInDim S8192x32 ![] bcast_S_S8192x32 (constant S_ .f32 0x00000000#32))⟩, ⟨S8192x32, (argS m c)⟩, ⟨S8192x32, (broadcastInDim S8192x32 ![] bcast_S_S8192x32 (constant S_ .f32 0x00000000#32))⟩] concatenates_S8192x32_S8192x32_S8192x32_S8192x32_S8192x128_d1
theorem V_snA (c : Dev nD) : V m c main_v3 = snA m c := by
  show StableHlo.after hostOps0 (fun b => m (c, b)) main_v3 = _
  unfold hostOps0
  after_results_simp <;> (try dsimp only [Matrix.cons_val]) <;> (try after_results_simp) <;> rfl
theorem snA_at (c : Dev nD) (r : Fin 8192) (l : Fin 128) : snA m c (ix2 r l)
    = cat4 (fun j => -(argS m c (ix2 r j))) (fun _ => 0) (fun j => argS m c (ix2 r j)) (fun _ => 0) l := by
  pointwise [snA, cat4]

theorem blk0 (c : Dev nD) (t : Fin cfg0.N) : iblk m c 0 t = ((cfg0.win 0).blk t).view.read (Elt Ideal) (argH m c) :=
  congrArg (((cfg0.win 0).blk t).view.read (Elt Ideal)) (V_main_arg0 m c)
theorem blk1 (c : Dev nD) (t : Fin cfg0.N) : iblk m c 1 t = ((cfg0.win 1).blk t).view.read (Elt Ideal) (argH m c) :=
  congrArg (((cfg0.win 1).blk t).view.read (Elt Ideal)) (V_main_arg0 m c)
theorem blk2 (c : Dev nD) (t : Fin cfg0.N) : iblk m c 2 t = ((cfg0.win 2).blk t).view.read (Elt Ideal) (argQ m c) :=
  congrArg (((cfg0.win 2).blk t).view.read (Elt Ideal)) (V_main_arg1 m c)
theorem blk3 (c : Dev nD) (t : Fin cfg0.N) : iblk m c 3 t = ((cfg0.win 3).blk t).view.read (Elt Ideal) (argKV m c) :=
  congrArg (((cfg0.win 3).blk t).view.read (Elt Ideal)) (V_main_arg2 m c)
theorem blk4 (c : Dev nD) (t : Fin cfg0.N) : iblk m c 4 t = ((cfg0.win 4).blk t).view.read (Elt Ideal) (csA m c) :=
  congrArg (((cfg0.win 4).blk t).view.read (Elt Ideal)) (V_csA m c)
theorem blk5 (c : Dev nD) (t : Fin cfg0.N) : iblk m c 5 t = ((cfg0.win 5).blk t).view.read (Elt Ideal) (snA m c) :=
  congrArg (((cfg0.win 5).blk t).view.read (Elt Ideal)) (V_snA m c)
theorem blk6 (c : Dev nD) (t : Fin cfg0.N) : iblk m c 6 t = ((cfg0.win 6).blk t).view.read (Elt Ideal) (argDQ m c) :=
  congrArg (((cfg0.win 6).blk t).view.read (Elt Ideal)) (V_main_arg5 m c)
theorem blk7 (c : Dev nD) (t : Fin cfg0.N) : iblk m c 7 t = ((cfg0.win 7).blk t).view.read (Elt Ideal) (argDKV m c) :=
  congrArg (((cfg0.win 7).blk t).view.read (Elt Ideal)) (V_main_arg6 m c)
theorem blk8 (c : Dev nD) (t : Fin cfg0.N) : iblk m c 8 t = ((cfg0.win 8).blk t).view.read (Elt Ideal) (argDK m c) :=
  congrArg (((cfg0.win 8).blk t).view.read (Elt Ideal)) (V_main_arg7 m c)

theorem xq (c : Dev nD) (t : Fin cfg0.N) (r : Fin 512) : row (n := 512) (X0_0 m c t) r = row (XQ (argH m c)) (rowOf t r) := by
  funext k
  show (show FVec Ideal S512x512 .f32 from X0_0 m c t) (ix2 r k) = _
  show (cfg0.win 0).fill (cfg0.grid.coords t) dflt0_0 (iblk m c 0 t) (ix2 r k) = _
  unfold Pipeline.Window.fill
  rw [dif_pos (moved0_0 t (ix2 r k))]
  rw [blk0]
  refine Eq.trans ?_ (XQ_at _ _ _).symm
  blk_ext [idx t]
theorem xk (c : Dev nD) (t : Fin cfg0.N) (r : Fin 512) : row (n := 512) (X0_1 m c t) r = row (XK (argH m c)) (rowOf t r) := by
  funext k
  show (show FVec Ideal S512x512 .f32 from X0_1 m c t) (ix2 r k) = _
  show (cfg0.win 1).fill (cfg0.grid.coords t) dflt0_1 (iblk m c 1 t) (ix2 r k) = _
  unfold Pipeline.Window.fill
  rw [dif_pos (moved0_1 t (ix2 r k))]
  rw [blk1]
  refine Eq.trans ?_ (XK_at _ _ _).symm
  blk_ext [idx t]
theorem gq (c : Dev nD) (t : Fin cfg0.N) : row (n := 1) (iblk m c 2 t) 0 = row (argQ m c) 0 := by
  funext k
  show (show FVec Ideal S1x512 .f32 from iblk m c 2 t) (ix2 0 k) = _
  rw [blk2]
  show _ = argQ m c (ix2 0 k)
  blk_ext [idx t]
theorem gk (c : Dev nD) (t : Fin cfg0.N) : row (n := 1) (iblk m c 3 t) 0 = row (argKV m c) 0 := by
  funext k
  show (show FVec Ideal S1x512 .f32 from iblk m c 3 t) (ix2 0 k) = _
  rw [blk3]
  show _ = argKV m c (ix2 0 k)
  blk_ext [idx t]
theorem dq (c : Dev nD) (t : Fin cfg0.N) (r : Fin 512) : row (n := 512) (iblk m c 6 t) r = row (argDQ m c) (rowOf t r) := by
  funext k
  show (show FVec Ideal S512x512 .f32 from iblk m c 6 t) (ix2 r k) = _
  rw [blk6]
  show _ = argDQ m c (ix2 (rowOf t r) k)
  blk_ext [idx t]
theorem dk (c : Dev nD) (t : Fin cfg0.N) (r : Fin 512) : row (n := 512) (iblk m c 7 t) r = row (argDKV m c) (rowOf t r) := by
  funext k
  show (show FVec Ideal S512x512 .f32 from iblk m c 7 t) (ix2 r k) = _
  rw [blk7]
  show _ = argDKV m c (ix2 (rowOf t r) k)
  blk_ext [idx t]

theorem cs_at (c : Dev nD) (t : Fin cfg0.N) (r : Fin 512) (l : Fin 128) :
    (show FVec Ideal S512x128 .f32 from iblk m c 4 t) (ix2 r l) = csA m c (ix2 (rowOf t r) l) := by
  rw [blk4]
  blk_ext [idx t]
theorem sn_at (c : Dev nD) (t : Fin cfg0.N) (r : Fin 512) (l : Fin 128) :
    (show FVec Ideal S512x128 .f32 from iblk m c 5 t) (ix2 r l) = snA m c (ix2 (rowOf t r) l) := by
  rw [blk5]
  blk_ext [idx t]
theorem h_at (c : Dev nD) (t : Fin cfg0.N) (a : Fin 12) (r : Fin 512) (l : Fin 128) :
    (show FVec Ideal S12x512x128 .f32 from iblk m c 8 t) (ix3 a r l) = argDK m c (ix3 a (rowOf t r) l) := by
  rw [blk8]
  blk_ext [idx t]

theorem inb (a : Fin 12) : ∀ d : Fin 3, (![a.val, 0, 0] : Fin 3 → ℕ) d + (![1, 512, 128] : Fin 3 → ℕ) d ≤ S12x512x128.size d := by
  intro d
  fin_cases d
  · show a.val + 1 ≤ 12; omega
  · show 0 + 512 ≤ 512; omega
  · show 0 + 128 ≤ 128; omega

theorem ld_h (B : Vec Ideal S12x512x128 .f32) (a : Fin 12) (u : Fin 1) (r : Fin 512) (l : Fin 128) :
    View.ld B (Rect.unit ![a.val, 0, 0] ![1, 512, 128] (inb a)) (ix3 u r l) = B (ix3 a r l) := by
  pointwise

/-- Head `a`'s part of block `t`. -/
def hp (c : Dev nD) (t : Fin cfg0.N) (a : Fin 12) : FVec Ideal S1x512x128 .f32 :=
  View.ld (iblk m c 8 t) (Rect.unit ![a.val, 0, 0] ![1, 512, 128] (inb a))

theorem hp_at (c : Dev nD) (t : Fin cfg0.N) (a : Fin 12) (u : Fin 1) (r : Fin 512) (l : Fin 128) : hp m c t a (ix3 u r l) = argDK m c (ix3 a (rowOf t r) l) :=
  (ld_h _ a u r l).trans (h_at m c t a r l)

theorem out9 (c : Dev nD) (t : Fin cfg0.N) : (outsAt0 m c t.val t.isLt).1 = k0_pay7 (F := Ideal) (X0_0 m c t) (iblk m c 2 t) (iblk m c 6 t) := by
  by_cases h0 : t.val % 16 = 0
  · rw [outsAt0_A m c t h0]
    funext y
    frame_out
  · rw [outsAt0_B m c t h0]
    funext y
    frame_out

theorem final9 (c : Dev nD) : (dats m 0 c).arrAt 9 (cfgs 0).N = O0 (argH m c) (argQ m c) (argDQ m c) := by
  refine (dats m 0 c).arrAt_eq_of_covers 9 _ (by decide +kernel) fun t _ y => ?_
  blk_simp
  rw [after0_9, out9]
  idx_vars y
  refine (q7 _ _ _ y0 y1).trans ?_
  refine (congr (congr (congr (congrArg DX (xq m c t y0)) (gq m c t)) (dq m c t y0)) rfl).trans ?_
  rw [← OX_at]
  refine congrArg _ ?_
  blk_ext [idx t]

theorem out10 (c : Dev nD) (t : Fin cfg0.N) : (outsAt0 m c t.val t.isLt).2.1 = k0_pay12 (F := Ideal) (X0_1 m c t) (iblk m c 3 t) (iblk m c 7 t) := by
  by_cases h0 : t.val % 16 = 0
  · rw [outsAt0_A m c t h0]
    funext y
    frame_out
  · rw [outsAt0_B m c t h0]
    funext y
    frame_out

theorem final10 (c : Dev nD) : (dats m 0 c).arrAt 10 (cfgs 0).N = O1 (argH m c) (argKV m c) (argDKV m c) := by
  refine (dats m 0 c).arrAt_eq_of_covers 10 _ (by decide +kernel) fun t _ y => ?_
  blk_simp
  rw [after0_10, out10]
  idx_vars y
  refine (q12 _ _ _ y0 y1).trans ?_
  refine (congr (congr (congr (congrArg DX (xk m c t y0)) (gk m c t)) (dk m c t y0)) rfl).trans ?_
  rw [← OX_at]
  refine congrArg _ ?_
  blk_ext [idx t]

theorem out11 (c : Dev nD) (t : Fin cfg0.N) : (outsAt0 m c t.val t.isLt).2.2.1 = k0_pay1 (F := Ideal) (k0_pay14 (hp m c t 0) (hp m c t 1) (hp m c t 2) (hp m c t 3) (hp m c t 4) (hp m c t 5) (hp m c t 6) (hp m c t 7)) (hp m c t 8) (hp m c t 9) (hp m c t 10) (hp m c t 11) (iblk m c 4 t) (iblk m c 5 t) := by
  by_cases h0 : t.val % 16 = 0
  · rw [outsAt0_A m c t h0]
    funext y
    frame_out
    rfl
  · rw [outsAt0_B m c t h0]
    funext y
    frame_out
    rfl

theorem rows11 (c : Dev nD) (t : Fin cfg0.N) (r : Fin 512) :
    (fun l => ∑ a : Fin 12, hp m c t a (ix3 0 r l)) = hs (argDK m c) (rowOf t r) := by
  funext l
  exact Finset.sum_congr rfl fun a _ => hp_at m c t a 0 r l
theorem cs11 (c : Dev nD) (t : Fin cfg0.N) (r : Fin 512) : (fun l => (show FVec Ideal S512x128 .f32 from iblk m c 4 t) (ix2 r l))
    = cat4 (fun j => argC m c (ix2 (rowOf t r) j)) (fun _ => 0) (fun j => argC m c (ix2 (rowOf t r) j)) fun _ => 0 := by
  funext l
  exact (cs_at m c t r l).trans (csA_at m c _ l)
theorem sn11 (c : Dev nD) (t : Fin cfg0.N) (r : Fin 512) : (fun l => (show FVec Ideal S512x128 .f32 from iblk m c 5 t) (ix2 r l))
    = cat4 (fun j => -(argS m c (ix2 (rowOf t r) j))) (fun _ => 0) (fun j => argS m c (ix2 (rowOf t r) j)) fun _ => 0 := by
  funext l
  exact (sn_at m c t r l).trans (snA_at m c _ l)

theorem final11 (c : Dev nD) : (dats m 0 c).arrAt 11 (cfgs 0).N = O2 (argC m c) (argS m c) (argDK m c) := by
  refine (dats m 0 c).arrAt_eq_of_covers 11 _ (by decide +kernel) fun t _ y => ?_
  blk_simp
  rw [after0_11, out11]
  idx_vars y
  refine (q1 (hp m c t) _ _ y0 y1).trans ?_
  refine (congr (congr (congr (congrArg rot (rows11 m c t y0)) (cs11 m c t y0)) (sn11 m c t y0)) rfl).trans ?_
  rw [rot_eq, ← O2_at]
  refine congrArg _ ?_
  blk_ext [idx t]

/-- The last grid point. -/
abbrev tLast : Fin cfg0.N := ⟨15, by decide⟩

/-- A block's part of the gradient of the gain. -/
def part12 (c : Dev nD) (t : Fin cfg0.N) (j : S1x512.Idx) : EReal :=
  ∑ r : Fin 512, DG (row (XQ (argH m c)) (rowOf t r)) (row (argDQ m c) (rowOf t r)) (j 1)

theorem step12 (c : Dev nD) (t : Fin cfg0.N) (a : FVec Ideal S1x512 .f32) (j : S1x512.Idx) :
    k0_pay8 (F := Ideal) (k0_pay6 (X0_0 m c t) (iblk m c 6 t)) a j = a j + part12 m c t j := by
  idx_vars j
  rw [q8, q6]
  refine congrArg _ (Finset.sum_congr rfl fun r _ => ?_)
  exact congr (congr (congrArg DG (xq m c t r)) (dq m c t r)) rfl

theorem first12 (c : Dev nD) (t : Fin cfg0.N) (h : t.val % 16 = 0) (y : S1x512.Idx) : (outsAt0 m c t.val t.isLt).2.2.2.1 y = 0 + part12 m c t y := by
  have e : (outsAt0 m c t.val t.isLt).2.2.2.1 = k0_pay8 (F := Ideal) (k0_pay6 (X0_0 m c t) (iblk m c 6 t)) (k0_pay2 (F := Ideal)) := by
    rw [outsAt0_A m c t h]
    funext y
    frame_out
  rw [e, step12]
  congr 1
  idx_vars y
  pointwise [k0_pay2]

theorem later12 (c : Dev nD) (t : Fin cfg0.N) (h : ¬ t.val % 16 = 0) (y : S1x512.Idx) :
    (outsAt0 m c t.val t.isLt).2.2.2.1 y = (outsAt0 m c (t.val - 1) (Nat.lt_of_le_of_lt (Nat.sub_le _ _) t.isLt)).2.2.2.1 y + part12 m c t y := by
  refine Eq.trans (congrFun ?_ y) (step12 m c t _ y)
  rw [outsAt0_B m c t h]
  funext y
  frame_out

theorem final12 (c : Dev nD) : (dats m 0 c).arrAt 12 (cfgs 0).N = O3 (argH m c) (argDQ m c) := by
  refine (dats m 0 c).arrAt_eq_of_after_last 12 tLast (by decide +kernel) _ fun j => ?_
  blk_simp
  rw [after0_12, Pipeline.eq_sum_fin_of_reset_step_apply_last (fun n h => (outsAt0 m c n h).2.2.2.1) 16 (fun _ => 0) (fun t j => part12 m c t j)
    (fun t h j => first12 m c t h j) (fun t h j => later12 m c t h j) (le_of_eq N_0) tLast rfl j, zero_add]
  idx_vars j
  unfold O3
  rw [OG_at]
  exact Fin.sum_mul_add_congr fun t r hr => rfl

/-- A block's part of the gradient of the gain. -/
def part13 (c : Dev nD) (t : Fin cfg0.N) (j : S1x512.Idx) : EReal :=
  ∑ r : Fin 512, DG (row (XK (argH m c)) (rowOf t r)) (row (argDKV m c) (rowOf t r)) (j 1)

theorem step13 (c : Dev nD) (t : Fin cfg0.N) (a : FVec Ideal S1x512 .f32) (j : S1x512.Idx) :
    k0_pay13 (F := Ideal) (k0_pay11 (X0_1 m c t) (iblk m c 7 t)) a j = a j + part13 m c t j := by
  idx_vars j
  rw [q13, q11]
  refine congrArg _ (Finset.sum_congr rfl fun r _ => ?_)
  exact congr (congr (congrArg DG (xk m c t r)) (dk m c t r)) rfl

theorem first13 (c : Dev nD) (t : Fin cfg0.N) (h : t.val % 16 = 0) (y : S1x512.Idx) : (outsAt0 m c t.val t.isLt).2.2.2.2 y = 0 + part13 m c t y := by
  have e : (outsAt0 m c t.val t.isLt).2.2.2.2 = k0_pay13 (F := Ideal) (k0_pay11 (X0_1 m c t) (iblk m c 7 t)) (k0_pay3 (F := Ideal)) := by
    rw [outsAt0_A m c t h]
    funext y
    frame_out
  rw [e, step13]
  congr 1
  idx_vars y
  pointwise [k0_pay3]

theorem later13 (c : Dev nD) (t : Fin cfg0.N) (h : ¬ t.val % 16 = 0) (y : S1x512.Idx) :
    (outsAt0 m c t.val t.isLt).2.2.2.2 y = (outsAt0 m c (t.val - 1) (Nat.lt_of_le_of_lt (Nat.sub_le _ _) t.isLt)).2.2.2.2 y + part13 m c t y := by
  refine Eq.trans (congrFun ?_ y) (step13 m c t _ y)
  rw [outsAt0_B m c t h]
  funext y
  frame_out

theorem final13 (c : Dev nD) : (dats m 0 c).arrAt 13 (cfgs 0).N = O4 (argH m c) (argDKV m c) := by
  refine (dats m 0 c).arrAt_eq_of_after_last 13 tLast (by decide +kernel) _ fun j => ?_
  blk_simp
  rw [after0_13, Pipeline.eq_sum_fin_of_reset_step_apply_last (fun n h => (outsAt0 m c n h).2.2.2.2) 16 (fun _ => 0) (fun t j => part13 m c t j)
    (fun t h j => first13 m c t h j) (fun t h j => later13 m c t h j) (le_of_eq N_0) tLast rfl j, zero_add]
  idx_vars j
  unfold O4
  rw [OG_at]
  exact Fin.sum_mul_add_congr fun t r hr => rfl

end Cert.PrpValue

end
-- ==== Proof.LnfRef.lean ====
module

public import proofs.«01_k».proof.Proof.LnbRow
public import proofs.«01_k».proof.Proof.Gen.Reference31Ideal.Run

@[expose] public section

set_option maxRecDepth 16384

noncomputable section

namespace Cert.LnfRef

open Idealize.ShloMosaic Idealize.ShloMosaic.TcCoe Idealize.SL.Sem
open Cert.LnbRow
open Cert.Reference31Ideal Cert.Reference31Ideal.Gen Cert.Reference31Ideal.Value

/-! The reference's results, cut into named pieces, and each piece read at an index. -/

/-- One entry of a normalised row, with gain and offset. -/
def ln (x y g b : Row) (k : Fin 2048) : EReal := ce x y k * rs x y * g k + b k

/-- The normalised sum. -/
def R (X : FVec Ideal S8192x2048 .f32) (Y : FVec Ideal S8192x2048 .f32) : FVec Ideal S8192x2048 .f32 :=
  addf (mulf (broadcastInDim S8192x2048 ![] bcast_S_S8192x2048 (constant S_ .f32 0x3FD744FD#32)) X) Y
/-- The means of the rows. -/
def MU (X : FVec Ideal S8192x2048 .f32) (Y : FVec Ideal S8192x2048 .f32) : FVec Ideal S8192x1 .f32 :=
  Host.divf (broadcastInDim S8192x1 ![0] bcast_S8192_S8192x1_0 (Host.reduceAdd (R X Y) (constant S_ .f32 0x00000000#32) reducesTo_S8192x2048_S8192_d1 h_S_)) (broadcastInDim S8192x1 ![] bcast_S_S8192x1 (constant S_ .f32 0x45000000#32))
/-- The centred rows. -/
def CE (X : FVec Ideal S8192x2048 .f32) (Y : FVec Ideal S8192x2048 .f32) : FVec Ideal S8192x2048 .f32 :=
  subf (R X Y) (broadcastInDim S8192x2048 ![0, 1] bcast_S8192x1_S8192x2048_0_1 (MU X Y))
/-- The variances and the small term. -/
def VA (X : FVec Ideal S8192x2048 .f32) (Y : FVec Ideal S8192x2048 .f32) : FVec Ideal S8192x1 .f32 :=
  addf (Host.divf (broadcastInDim S8192x1 ![0] bcast_S8192_S8192x1_0 (Host.reduceAdd (mulf (CE X Y) (CE X Y)) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32))
/-- The inverse roots. -/
def RS (X : FVec Ideal S8192x2048 .f32) (Y : FVec Ideal S8192x2048 .f32) : FVec Ideal S8192x1 .f32 :=
  Host.rsqrt (VA X Y)
/-- The normalised rows, with gain and offset. -/
def O0 (X : FVec Ideal S8192x2048 .f32) (Y : FVec Ideal S8192x2048 .f32) (G : FVec Ideal S1x2048 .f32) (B : FVec Ideal S1x2048 .f32) : FVec Ideal S8192x2048 .f32 :=
  addf (mulf (mulf (CE X Y) (broadcastInDim S8192x2048 ![0, 1] bcast_S8192x1_S8192x2048_0_1 (RS X Y))) (broadcastInDim S8192x2048 ![0, 1] bcast_S1x2048_S8192x2048_0_1 G)) (broadcastInDim S8192x2048 ![0, 1] bcast_S1x2048_S8192x2048_0_1 B)
/-- The same, narrowed. -/
def O1 (X : FVec Ideal S8192x2048 .f32) (Y : FVec Ideal S8192x2048 .f32) (G : FVec Ideal S1x2048 .f32) (B : FVec Ideal S1x2048 .f32) : FVec Ideal S8192x2048 .bf16 :=
  truncf .bf16 (O0 X Y G B) bitsLt_bf16_f32

section
variable (X Y : FVec Ideal S8192x2048 .f32) (G B : FVec Ideal S1x2048 .f32)

theorem R_at (r : Fin 8192) (k : Fin 2048) : R X Y (ix2 r k) = rr (row X r) (row Y r) k := by
  pointwise [R, rr, al, row]
theorem MU_at (r : Fin 8192) (u : Fin 1) : MU X Y (ix2 r u) = mu (row X r) (row Y r) := by
  pointwise [MU, R_at, mu, len]
theorem CE_at (r : Fin 8192) (k : Fin 2048) : CE X Y (ix2 r k) = ce (row X r) (row Y r) k := by
  pointwise [CE, R_at, MU_at, ce]
theorem VA_at (r : Fin 8192) (u : Fin 1) : VA X Y (ix2 r u) = va (row X r) (row Y r) := by
  pointwise [VA, CE_at, va, len, eps]
theorem RS_at (r : Fin 8192) (u : Fin 1) : RS X Y (ix2 r u) = rs (row X r) (row Y r) := by
  pointwise [RS, VA_at, rs]
theorem O0_at (r : Fin 8192) (k : Fin 2048) : O0 X Y G B (ix2 r k) = ln (row X r) (row Y r) (row G 0) (row B 0) k := by
  pointwise [O0, CE_at, RS_at, ln, row]
theorem O1_at (r : Fin 8192) (k : Fin 2048) : O1 X Y G B (ix2 r k) = ln (row X r) (row Y r) (row G 0) (row B 0) k := by
  pointwise [O1, O0_at]
end

end Cert.LnfRef

end
-- ==== Proof.LnfValue.lean ====
module

public import proofs.«01_k».proof.Proof.LnfRef
public import proofs.«01_k».proof.Proof.Gen.Kernel31Ideal.Value
public import Idealize.ShloMosaic.Lib.Pipeline.ValueKit
public import Idealize.ShloMosaic.Lib.Pipeline.ReadBack

@[expose] public section

set_option maxRecDepth 16384

noncomputable section

namespace Cert.LnfValue

open Idealize.ShloMosaic Idealize.ShloMosaic.TcCoe Idealize.SL.Sem
open Idealize.ShloMosaic.Pipeline (Dat)
open Cert.LnbRow Cert.LnfRef
open Cert.Kernel31Ideal Cert.Kernel31Ideal.Gen

variable (m : (ℓ : Loc nD τ sig) → Buf (Elt Ideal) ℓ)

/-- The residual, as launched. -/
abbrev argX (c : Dev nD) : FVec Ideal S8192x2048 .f32 := m ((c : Thread nD τ).loc main_arg0)
/-- The branch, as launched. -/
abbrev argY (c : Dev nD) : FVec Ideal S8192x2048 .f32 := m ((c : Thread nD τ).loc main_arg1)
/-- The gain, as launched. -/
abbrev argG (c : Dev nD) : FVec Ideal S1x2048 .f32 := m ((c : Thread nD τ).loc main_arg2)
/-- The offset, as launched. -/
abbrev argB (c : Dev nD) : FVec Ideal S1x2048 .f32 := m ((c : Thread nD τ).loc main_arg3)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ t.val < 32 :=
  (by decide +kernel : ∀ t : Fin grid0.N, _)

/-- The row of the array that row `r` of block `t` is. -/
abbrev rowOf (t : Fin cfg0.N) (r : Fin 256) : Fin 8192 := ⟨t.val * 256 + r.val, by have := (idx t).2.2.2.2.2.2; omega⟩

theorem xrow (c : Dev nD) (t : Fin cfg0.N) (r : Fin 256) : row (n := 256) (iblk m c 0 t) r = row (argX m c) (rowOf t r) := by
  funext k
  show (show FVec Ideal S256x2048 .f32 from iblk m c 0 t) (ix2 r k) = argX m c (ix2 (rowOf t r) k)
  blk_ext [iblk, V, idx t]
theorem yrow (c : Dev nD) (t : Fin cfg0.N) (r : Fin 256) : row (n := 256) (iblk m c 1 t) r = row (argY m c) (rowOf t r) := by
  funext k
  show (show FVec Ideal S256x2048 .f32 from iblk m c 1 t) (ix2 r k) = argY m c (ix2 (rowOf t r) k)
  blk_ext [iblk, V, idx t]
theorem grow (c : Dev nD) (t : Fin cfg0.N) : row (n := 1) (iblk m c 2 t) 0 = row (argG m c) 0 := by
  funext k
  show (show FVec Ideal S1x2048 .f32 from iblk m c 2 t) (ix2 0 k) = argG m c (ix2 0 k)
  blk_ext [iblk, V, idx t]
theorem brow (c : Dev nD) (t : Fin cfg0.N) : row (n := 1) (iblk m c 3 t) 0 = row (argB m c) 0 := by
  funext k
  show (show FVec Ideal S1x2048 .f32 from iblk m c 3 t) (ix2 0 k) = argB m c (ix2 0 k)
  blk_ext [iblk, V, idx t]

section
variable (x y : FVec Ideal S256x2048 .f32) (g b : FVec Ideal S1x2048 .f32) (r : Fin 256) (k : Fin 2048)
theorem k1 : k0_pay1 (F := Ideal) x y g b (ix2 r k) = ln (row x r) (row y r) (row g 0) (row b 0) k := by
  pointwise [k0_pay1, ln, rs, va, ce, mu, rr, al, len, eps, row]
theorem k2 : k0_pay2 (F := Ideal) x y g b (ix2 r k) = ln (row x r) (row y r) (row g 0) (row b 0) k := by
  pointwise [k0_pay2, k1]
end

theorem final4 (c : Dev nD) : (dats m 0 c).arrAt 4 (cfgs 0).N = O0 (argX m c) (argY m c) (argG m c) (argB m c) := by
  refine (dats m 0 c).arrAt_eq_of_covers 4 _ (by decide +kernel) fun t _ y => ?_
  blk_simp
  rw [after0_4]
  idx_vars y
  unfold out0_4
  frame_out
  refine (k1 _ _ _ _ y0 y1).trans ?_
  refine (congr (congr (congr (congr (congrArg ln (xrow m c t y0)) (yrow m c t y0)) (grow m c t)) (brow m c t)) rfl).trans ?_
  rw [← O0_at]
  refine congrArg _ ?_
  blk_ext [idx t]

theorem final5 (c : Dev nD) : (dats m 0 c).arrAt 5 (cfgs 0).N = O1 (argX m c) (argY m c) (argG m c) (argB m c) := by
  refine (dats m 0 c).arrAt_eq_of_covers 5 _ (by decide +kernel) fun t _ y => ?_
  blk_simp
  rw [after0_5]
  idx_vars y
  unfold out0_5
  frame_out
  refine (k2 _ _ _ _ y0 y1).trans ?_
  refine (congr (congr (congr (congr (congrArg ln (xrow m c t y0)) (yrow m c t y0)) (grow m c t)) (brow m c t)) rfl).trans ?_
  rw [← O1_at]
  refine congrArg _ ?_
  blk_ext [idx t]

end Cert.LnfValue

end
-- ==== Proof.GofRef.lean ====
module

public import proofs.«01_k».proof.Proof.GobRow
public import proofs.«01_k».proof.Proof.Gen.Reference32Ideal.Run

@[expose] public section

set_option maxRecDepth 16384

noncomputable section

namespace Cert.GofRef

open Idealize.ShloMosaic Idealize.ShloMosaic.TcCoe Idealize.SL.Sem
open Cert.GobRow
open Cert.Reference32Ideal Cert.Reference32Ideal.Gen Cert.Reference32Ideal.Value

/-! The reference's result, cut into named pieces, and each piece read at an index. -/

/-- One entry of a head's gated, normalised output. -/
def gout (o z n : Row) (k : Fin 128) : EReal := o k * rs o * n k * (z k * sg z k)

section
variable (O : FVec Ideal S8192x1536 .f32) (H : FVec Ideal S8192x6912 .f32) (N : FVec Ideal S1x128 .f32)

/-- The head's outputs at a row. -/
abbrev orow (r : Fin 8192) (a : Fin 12) : Row := fun d => O (ix2 r ⟨a.val * 128 + d.val, by omega⟩)
/-- The head's gates at a row. -/
abbrev zrow (r : Fin 8192) (a : Fin 12) : Row := fun d => H (ix2 r ⟨4608 + (a.val * 128 + d.val), by omega⟩)

/-- The outputs by heads. -/
def O3 : FVec Ideal S8192x12x128 .f32 := shapeCast _ O shapeCasts_S8192x1536_S8192x12x128
/-- The gates by heads. -/
def Z3 : FVec Ideal S8192x12x128 .f32 :=
  shapeCast _ (extractStridedSlice S8192x1536 ![0, 4608] H slices_S8192x6912_S8192x1536_0_4608) shapeCasts_S8192x1536_S8192x12x128
/-- The gain along every row. -/
def N3 : FVec Ideal S8192x12x128 .f32 :=
  broadcastInDim S8192x12x128 ![0, 1, 2] bcast_S1x1x128_S8192x12x128_0_1_2 (broadcastInDim S1x1x128 ![1, 2] bcast_S1x128_S1x1x128_1_2 N)
/-- Ones. -/
def ONE : FVec Ideal S8192x12x128 .f32 := broadcastInDim S8192x12x128 ![] bcast_S_S8192x12x128 (constant S_ .f32 0x3F800000#32)
/-- The logistic function of the gates. -/
def SG : FVec Ideal S8192x12x128 .f32 := Host.divf ONE (addf ONE (Host.exp (Host.negf (Z3 H))))
/-- The mean squares and the small term. -/
def MS : FVec Ideal S8192x12x1 .f32 :=
  addf (Host.divf (broadcastInDim S8192x12x1 ![0, 1] bcast_S8192x12_S8192x12x1_0_1 (Host.reduceAdd (mulf (O3 O) (O3 O)) (constant S_ .f32 0x00000000#32) reducesTo_S8192x12x128_S8192x12_d2 h_S_)) (broadcastInDim S8192x12x1 ![] bcast_S_S8192x12x1 (constant S_ .f32 0x43000000#32))) (broadcastInDim S8192x12x1 ![] bcast_S_S8192x12x1 (constant S_ .f32 0x358637BD#32))
/-- The inverse roots along every row. -/
def RS : FVec Ideal S8192x12x128 .f32 := broadcastInDim S8192x12x128 ![0, 1, 2] bcast_S8192x12x1_S8192x12x128_0_1_2 (Host.rsqrt (MS O))
/-- The gated, normalised outputs. -/
def G : FVec Ideal S8192x1536 .f32 :=
  shapeCast _ (mulf (mulf (mulf (O3 O) (RS O)) (N3 N)) (mulf (Z3 H) (SG H))) shapeCasts_S8192x12x128_S8192x1536

theorem O3_at (r : Fin 8192) (a : Fin 12) (k : Fin 128) : O3 O (ix3 r a k) = orow O r a k := by
  pointwise [O3]
theorem Z3_at (r : Fin 8192) (a : Fin 12) (k : Fin 128) : Z3 H (ix3 r a k) = zrow H r a k := by
  pointwise [Z3]
theorem N3_at (r : Fin 8192) (a : Fin 12) (k : Fin 128) : N3 N (ix3 r a k) = row N 0 k := by
  pointwise [N3, row]
theorem ONE_at (r : Fin 8192) (a : Fin 12) (k : Fin 128) : ONE (ix3 r a k) = 1 := by
  pointwise [ONE]
theorem SG_at (r : Fin 8192) (a : Fin 12) (k : Fin 128) : SG H (ix3 r a k) = sg (zrow H r a) k := by
  pointwise [SG, ONE_at, Z3_at, sg, Ideal.logistic]
theorem MS_at (r : Fin 8192) (a : Fin 12) (u : Fin 1) : MS O (ix3 r a u) = ms (orow O r a) := by
  pointwise [MS, O3_at, ms, len, eps]
theorem RS_at (r : Fin 8192) (a : Fin 12) (k : Fin 128) : RS O (ix3 r a k) = rs (orow O r a) := by
  pointwise [RS, MS_at, rs]
theorem G_at (r : Fin 8192) (a : Fin 12) (k : Fin 128) :
    G O H N (ix2 r ⟨a.val * 128 + k.val, by omega⟩) = gout (orow O r a) (zrow H r a) (row N 0) k := by
  pointwise [G, O3_at, Z3_at, RS_at, N3_at, SG_at, gout, row]
end

end Cert.GofRef

end
-- ==== Proof.GofValue.lean ====
module

public import proofs.«01_k».proof.Proof.GofRef
public import proofs.«01_k».proof.Proof.Gen.Kernel32Ideal.Value
public import Idealize.ShloMosaic.Lib.Pipeline.ValueKit
public import Idealize.ShloMosaic.Lib.Pipeline.ReadBack

@[expose] public section

set_option maxRecDepth 16384

noncomputable section

namespace Cert.GofValue

open Idealize.ShloMosaic Idealize.ShloMosaic.TcCoe Idealize.SL.Sem
open Idealize.ShloMosaic.Pipeline (Dat)
open Cert.GobRow Cert.GofRef
open Cert.Kernel32Ideal Cert.Kernel32Ideal.Gen

variable (m : (ℓ : Loc nD τ sig) → Buf (Elt Ideal) ℓ)

/-- The recurrence's outputs, as launched. -/
abbrev argO (c : Dev nD) : FVec Ideal S8192x1536 .f32 := m ((c : Thread nD τ).loc main_arg0)
/-- The projected input, as launched. -/
abbrev argH (c : Dev nD) : FVec Ideal S8192x6912 .f32 := m ((c : Thread nD τ).loc main_arg1)
/-- The gain, as launched. -/
abbrev argN (c : Dev nD) : FVec Ideal S1x128 .f32 := m ((c : Thread nD τ).loc main_arg2)
theorem idx : ∀ t : Fin cfg0.N, win0_0.index t = ![t.val, 0] ∧ win0_1.index t = ![t.val, 3] ∧ win0_2.index t = ![0, 0]
    ∧ win0_3.index t = ![t.val, 0] ∧ t.val < 32 :=
  (by decide +kernel : ∀ t : Fin grid0.N, _)

/-- The row of the array that row `r` of block `t` is. -/
abbrev rowOf (t : Fin cfg0.N) (r : Fin 256) : Fin 8192 := ⟨t.val * 256 + r.val, by have := (idx t).2.2.2.2; omega⟩

theorem o_at (c : Dev nD) (t : Fin cfg0.N) (r : Fin 256) (l : Fin 1536) :
    (show FVec Ideal S256x1536 .f32 from iblk m c 0 t) (ix2 r l) = argO m c (ix2 (rowOf t r) l) := by
  blk_ext [iblk, V, idx t]

theorem z_at (c : Dev nD) (t : Fin cfg0.N) (r : Fin 256) (l : Fin 1536) :
    (show FVec Ideal S256x1536 .f32 from X0_1 m c t) (ix2 r l) = argH m c (ix2 (rowOf t r) ⟨4608 + l.val, by omega⟩) := by
  show (cfg0.win 1).fill (cfg0.grid.coords t) dflt0_1 (iblk m c 1 t) (ix2 r l) = _
  unfold Pipeline.Window.fill
  rw [dif_pos (moved0_1 t (ix2 r l))]
  blk_ext [iblk, V, idx t]

theorem n_at (c : Dev nD) (t : Fin cfg0.N) (u : Fin 1) (l : Fin 128) :
    (show FVec Ideal S1x128 .f32 from iblk m c 2 t) (ix2 u l) = argN m c (ix2 u l) := by
  blk_ext [iblk, V, idx t]

theorem ld_rows (B : Vec Ideal S256x1536 .f32) (o : ℕ) (ho : o + 128 ≤ 1536) (inb) (r : Fin 256) (d : Fin 128) :
    View.ld B (Rect.unit ![0, o] ![256, 128] inb) (ix2 r d) = B (ix2 r ⟨o + d.val, by omega⟩) := by
  pointwise

/-- The tiles a head of block `t` reads hold the head's outputs and gates, and the gain. -/
structure Tiles (c : Dev nD) (t : Fin cfg0.N) (a : Fin 12) (o z : FVec Ideal S256x128 .f32) (n : FVec Ideal S1x128 .f32) : Prop where
  ho : ∀ r, row o r = orow (argO m c) (rowOf t r) a
  hz : ∀ r, row z r = zrow (argH m c) (rowOf t r) a
  hn : row n 0 = row (argN m c) 0

theorem tiles (c : Dev nD) (t : Fin cfg0.N) (a : Fin 12) (o : ℕ) (ho : o = a.val * 128) (i0 i1) :
    Tiles m c t a (View.ld (iblk m c 0 t) (Rect.unit ![0, o] ![256, 128] i0)) (View.ld (X0_1 m c t) (Rect.unit ![0, o] ![256, 128] i1)) (iblk m c 2 t) := by
  subst ho
  constructor
  · intro r; funext d
    exact (ld_rows _ _ (by omega) _ r d).trans (o_at m c t r _)
  · intro r; funext d
    exact (ld_rows _ _ (by omega) _ r d).trans (z_at m c t r _)
  · funext d
    exact n_at m c t 0 d

theorem k2 (o z : FVec Ideal S256x128 .f32) (n : FVec Ideal S1x128 .f32) (r : Fin 256) (k : Fin 128) :
    k0_pay2 (F := Ideal) o z n (ix2 r k) = gout (row o r) (row z r) (row n 0) k := by
  pointwise [k0_pay2, gout, rs, ms, sg, len, eps, row]

theorem point (c : Dev nD) (t : Fin cfg0.N) (a : Fin 12) {o z n} (h : Tiles m c t a o z n) (x : S256x128.Idx) (j : S8192x1536.Idx)
    (h0 : (j 0 : ℕ) = t.val * 256 + (x 0 : ℕ)) (h1 : (j 1 : ℕ) = a.val * 128 + (x 1 : ℕ)) :
    k0_pay2 (F := Ideal) o z n x = G (argO m c) (argH m c) (argN m c) j := by
  idx_vars x
  rw [k2, h.ho, h.hz, h.hn, ← G_at]
  congr 1
  blk_ext

theorem final (c : Dev nD) : (dats m 0 c).arrAt 3 (cfgs 0).N = G (argO m c) (argH m c) (argN m c) := by
  refine (dats m 0 c).arrAt_eq_of_covers 3 _ (by decide +kernel) fun t _ y => ?_
  blk_simp
  rw [after0_3, outsAt0]
  frame_out
  canon_tiles x h
  case piece0 =>
    refine point m c t 11 (tiles m c t 11 1408 rfl _ _) x _ ?_ ?_ <;> (blk_simp [idx t] <;> try omega)
  case piece1 =>
    refine point m c t 10 (tiles m c t 10 1280 rfl _ _) x _ ?_ ?_ <;> (blk_simp [idx t] <;> try omega)
  case piece2 =>
    refine point m c t 9 (tiles m c t 9 1152 rfl _ _) x _ ?_ ?_ <;> (blk_simp [idx t] <;> try omega)
  case piece3 =>
    refine point m c t 8 (tiles m c t 8 1024 rfl _ _) x _ ?_ ?_ <;> (blk_simp [idx t] <;> try omega)
  case piece4 =>
    refine point m c t 7 (tiles m c t 7 896 rfl _ _) x _ ?_ ?_ <;> (blk_simp [idx t] <;> try omega)
  case piece5 =>
    refine point m c t 6 (tiles m c t 6 768 rfl _ _) x _ ?_ ?_ <;> (blk_simp [idx t] <;> try omega)
  case piece6 =>
    refine point m c t 5 (tiles m c t 5 640 rfl _ _) x _ ?_ ?_ <;> (blk_simp [idx t] <;> try omega)
  case piece7 =>
    refine point m c t 4 (tiles m c t 4 512 rfl _ _) x _ ?_ ?_ <;> (blk_simp [idx t] <;> try omega)
  case piece8 =>
    refine point m c t 3 (tiles m c t 3 384 rfl _ _) x _ ?_ ?_ <;> (blk_simp [idx t] <;> try omega)
  case piece9 =>
    refine point m c t 2 (tiles m c t 2 256 rfl _ _) x _ ?_ ?_ <;> (blk_simp [idx t] <;> try omega)
  case piece10 =>
    refine point m c t 1 (tiles m c t 1 128 rfl _ _) x _ ?_ ?_ <;> (blk_simp [idx t] <;> try omega)
  case piece11 =>
    refine point m c t 0 (tiles m c t 0 0 rfl _ _) x _ ?_ ?_ <;> (blk_simp [idx t] <;> try omega)

end Cert.GofValue

end
-- ==== Proof.AdRow.lean ====
module

public import Idealize.ShloMosaic.Lib.Pipeline.ValueKit

@[expose] public section

noncomputable section

namespace Cert.AdRow

open Idealize.ShloMosaic

/-! One entry of the optimiser's step. -/

/-- The gradient: the sum of its four parts. -/
def gr (p : Fin 4 → EReal) : EReal := p 0 + p 1 + p 2 + p 3
/-- The first moment. -/
def nm (g m : EReal) : EReal := Ideal.ofBits .f32 0x3F666666#32 * m + Ideal.ofBits .f32 0x3DCCCCCD#32 * g
/-- The second moment. -/
def nv (g v : EReal) : EReal := Ideal.ofBits .f32 0x3F7FBE77#32 * v + Ideal.ofBits .f32 0x3A83126F#32 * (g * g)
/-- The change of the weight. -/
def dl (g w m v : EReal) : EReal :=
  Ideal.ofBits .f32 0xBA83126F#32 * (Ideal.div (Ideal.div (nm g m) (Ideal.ofBits .f32 0x3F26BD02#32))
    (Ideal.sqrt (Ideal.div (nv g v) (Ideal.ofBits .f32 0x3C231ACC#32)) + Ideal.ofBits .f32 0x322BCC77#32) + Ideal.ofBits .f32 0x3C23D70A#32 * w)

theorem gr_sum (p : Fin 4 → EReal) : ∑ a : Fin 4, p a = gr p := Fin.sum_univ_four p

end Cert.AdRow

end
-- ==== Proof.Ad34Ref.lean ====
module

public import proofs.«01_k».proof.Proof.AdRow
public import proofs.«01_k».proof.Proof.Gen.Reference34Ideal.Run

@[expose] public section

set_option maxRecDepth 16384

noncomputable section

namespace Cert.Ad34Ref

open Idealize.ShloMosaic Idealize.ShloMosaic.TcCoe Idealize.SL.Sem
open Cert.AdRow
open Cert.Reference34Ideal Cert.Reference34Ideal.Gen Cert.Reference34Ideal.Value

/-! The reference's results, and each read at an index. -/

section
variable (P : FVec Ideal S4x512x1600 .bf16) (W M V : FVec Ideal S512x1600 .f32)

/-- The gradient. -/
def G : FVec Ideal S512x1600 .f32 := Host.reduceAdd (extf .f32 P bitsLt_bf16_f32) (constant S_ .f32 0x00000000#32) reducesTo_S4x512x1600_S512x1600_d0 h_S_
/-- The first moment. -/
def NM : FVec Ideal S512x1600 .f32 := addf (mulf (broadcastInDim S512x1600 ![] bcast_S_S512x1600 (constant S_ .f32 0x3F666666#32)) M) (mulf (broadcastInDim S512x1600 ![] bcast_S_S512x1600 (constant S_ .f32 0x3DCCCCCD#32)) (G P))
/-- The second moment. -/
def NV : FVec Ideal S512x1600 .f32 := addf (mulf (broadcastInDim S512x1600 ![] bcast_S_S512x1600 (constant S_ .f32 0x3F7FBE77#32)) V) (mulf (broadcastInDim S512x1600 ![] bcast_S_S512x1600 (constant S_ .f32 0x3A83126F#32)) (mulf (G P) (G P)))
/-- The change of the weight. -/
def D : FVec Ideal S512x1600 .f32 := mulf (broadcastInDim S512x1600 ![] bcast_S_S512x1600 (constant S_ .f32 0xBA83126F#32)) (addf (Host.divf (Host.divf (NM P M) (broadcastInDim S512x1600 ![] bcast_S_S512x1600 (constant S_ .f32 0x3F26BD02#32))) (addf (Host.sqrt (Host.divf (NV P V) (broadcastInDim S512x1600 ![] bcast_S_S512x1600 (constant S_ .f32 0x3C231ACC#32)))) (broadcastInDim S512x1600 ![] bcast_S_S512x1600 (constant S_ .f32 0x322BCC77#32)))) (mulf (broadcastInDim S512x1600 ![] bcast_S_S512x1600 (constant S_ .f32 0x3C23D70A#32)) W))

theorem G_at (r : Fin 512) (k : Fin 1600) : G P (ix2 r k) = gr fun a => P (ix3 a r k) := by
  pointwise [G]
  exact gr_sum _
theorem NM_at (r : Fin 512) (k : Fin 1600) : NM P M (ix2 r k) = nm (gr fun a => P (ix3 a r k)) (M (ix2 r k)) := by
  pointwise [NM, G_at, nm]
theorem NV_at (r : Fin 512) (k : Fin 1600) : NV P V (ix2 r k) = nv (gr fun a => P (ix3 a r k)) (V (ix2 r k)) := by
  pointwise [NV, G_at, nv]
theorem D_at (r : Fin 512) (k : Fin 1600) : D P W M V (ix2 r k) = dl (gr fun a => P (ix3 a r k)) (W (ix2 r k)) (M (ix2 r k)) (V (ix2 r k)) := by
  pointwise [D, NM_at, NV_at, dl]
end

end Cert.Ad34Ref

end
-- ==== Proof.Ad34Value.lean ====
module

public import proofs.«01_k».proof.Proof.Ad34Ref
public import proofs.«01_k».proof.Proof.Gen.Kernel34Ideal.Value
public import Idealize.ShloMosaic.Lib.Pipeline.ValueKit
public import Idealize.ShloMosaic.Lib.Pipeline.ReadBack

@[expose] public section

set_option maxRecDepth 16384

noncomputable section

namespace Cert.Ad34Value

open Idealize.ShloMosaic Idealize.ShloMosaic.TcCoe Idealize.SL.Sem
open Idealize.ShloMosaic.Pipeline (Dat)
open Cert.AdRow Cert.Ad34Ref
open Cert.Kernel34Ideal Cert.Kernel34Ideal.Gen

variable (m : (ℓ : Loc nD τ sig) → Buf (Elt Ideal) ℓ)

/-- The parts of the gradient, as launched. -/
abbrev argP (c : Dev nD) : FVec Ideal S4x512x1600 .bf16 := m ((c : Thread nD τ).loc main_arg0)
/-- The weight, as launched. -/
abbrev argW (c : Dev nD) : FVec Ideal S512x1600 .f32 := m ((c : Thread nD τ).loc main_arg1)
/-- The first moment, as launched. -/
abbrev argM (c : Dev nD) : FVec Ideal S512x1600 .f32 := m ((c : Thread nD τ).loc main_arg2)
/-- The second moment, as launched. -/
abbrev argV (c : Dev nD) : FVec Ideal S512x1600 .f32 := m ((c : Thread nD τ).loc main_arg3)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ t.val < 4 :=
  (by decide +kernel : ∀ t : Fin grid0.N, _)

/-- The row of the array that row `r` of block `t` is. -/
abbrev rowOf (t : Fin cfg0.N) (r : Fin 128) : Fin 512 := ⟨t.val * 128 + r.val, by have := (idx t).2.2.2.2.2.2.2.2; omega⟩

theorem p_at (c : Dev nD) (t : Fin cfg0.N) (a : Fin 4) (r : Fin 128) (k : Fin 1600) :
    (show FVec Ideal S4x128x1600 .bf16 from iblk m c 0 t) (ix3 a r k) = argP m c (ix3 a (rowOf t r) k) := by
  blk_ext [iblk, V, idx t]
theorem w_at (c : Dev nD) (t : Fin cfg0.N) (r : Fin 128) (k : Fin 1600) :
    (show FVec Ideal S128x1600 .f32 from iblk m c 1 t) (ix2 r k) = argW m c (ix2 (rowOf t r) k) := by
  blk_ext [iblk, V, idx t]
theorem m_at (c : Dev nD) (t : Fin cfg0.N) (r : Fin 128) (k : Fin 1600) :
    (show FVec Ideal S128x1600 .f32 from iblk m c 2 t) (ix2 r k) = argM m c (ix2 (rowOf t r) k) := by
  blk_ext [iblk, V, idx t]
theorem v_at (c : Dev nD) (t : Fin cfg0.N) (r : Fin 128) (k : Fin 1600) :
    (show FVec Ideal S128x1600 .f32 from iblk m c 3 t) (ix2 r k) = argV m c (ix2 (rowOf t r) k) := by
  blk_ext [iblk, V, idx t]

theorem inb (a : ℕ) (ha : a < 4) : ∀ d : Fin 3, (![a, 0, 0] : Fin 3 → ℕ) d + (![1, 128, 1600] : Fin 3 → ℕ) d ≤ S4x128x1600.size d := by
  intro d
  fin_cases d
  · show a + 1 ≤ 4; omega
  · show 0 + 128 ≤ 128; omega
  · show 0 + 1600 ≤ 1600; omega

theorem ld_p (B : Vec Ideal S4x128x1600 .bf16) (a : ℕ) (ha : a < 4) (u : Fin 1) (r : Fin 128) (k : Fin 1600) :
    View.ld B (Rect.unit ![a, 0, 0] ![1, 128, 1600] (inb a ha)) (ix3 u r k) = B (ix3 ⟨a, ha⟩ r k) := by
  pointwise

/-- The four parts of the gradient in block `t`. -/
abbrev p0 (c : Dev nD) (t : Fin cfg0.N) (a : ℕ) (ha : a < 4) : FVec Ideal S1x128x1600 .bf16 :=
  View.ld (iblk m c 0 t) (Rect.unit ![a, 0, 0] ![1, 128, 1600] (inb a ha))

/-- The gradient's block. -/
def g0 (c : Dev nD) (t : Fin cfg0.N) : FVec Ideal S128x1600 .f32 :=
  k0_pay2 (F := Ideal) (p0 m c t 0 (by decide)) (p0 m c t 1 (by decide)) (p0 m c t 2 (by decide)) (p0 m c t 3 (by decide))

theorem pp (c : Dev nD) (t : Fin cfg0.N) (a : ℕ) (ha : a < 4) (u : Fin 1) (r : Fin 128) (k : Fin 1600) :
    p0 m c t a ha (ix3 u r k) = argP m c (ix3 ⟨a, ha⟩ (rowOf t r) k) :=
  (ld_p _ a ha u r k).trans (p_at m c t _ r k)

theorem g0_at (c : Dev nD) (t : Fin cfg0.N) (r : Fin 128) (k : Fin 1600) : g0 m c t (ix2 r k) = gr fun a => argP m c (ix3 a (rowOf t r) k) := by
  pointwise [g0, k0_pay2, pp, gr]

section
variable (q0 q1 q2 q3 : FVec Ideal S1x128x1600 .bf16) (w mm v : FVec Ideal S128x1600 .f32) (r : Fin 128) (k : Fin 1600)
theorem k3 : k0_pay3 (F := Ideal) q0 q1 q2 q3 mm (ix2 r k) = nm (k0_pay2 (F := Ideal) q0 q1 q2 q3 (ix2 r k)) (mm (ix2 r k)) := by
  pointwise [k0_pay3, nm]
theorem k4 : k0_pay4 (F := Ideal) q0 q1 q2 q3 v (ix2 r k) = nv (k0_pay2 (F := Ideal) q0 q1 q2 q3 (ix2 r k)) (v (ix2 r k)) := by
  pointwise [k0_pay4, nv]
theorem k1 : k0_pay1 (F := Ideal) (k0_pay5 q0 q1 q2 q3 mm) (k0_pay6 q0 q1 q2 q3 v) w (ix2 r k)
    = dl (k0_pay2 (F := Ideal) q0 q1 q2 q3 (ix2 r k)) (w (ix2 r k)) (mm (ix2 r k)) (v (ix2 r k)) := by
  pointwise [k0_pay1, k0_pay5, k0_pay6, k3, k4, dl]
end

theorem final4 (c : Dev nD) : (dats m 0 c).arrAt 4 (cfgs 0).N = G (argP m c) := by
  refine (dats m 0 c).arrAt_eq_of_covers 4 _ (by decide +kernel) fun t _ y => ?_
  blk_simp
  rw [after0_4]
  idx_vars y
  unfold out0_4
  frame_out
  refine (g0_at m c t y0 y1).trans ?_
  rw [← G_at]
  refine congrArg _ ?_
  blk_ext [idx t]

theorem final5 (c : Dev nD) : (dats m 0 c).arrAt 5 (cfgs 0).N = D (argP m c) (argW m c) (argM m c) (argV m c) := by
  refine (dats m 0 c).arrAt_eq_of_covers 5 _ (by decide +kernel) fun t _ y => ?_
  blk_simp
  rw [after0_5]
  idx_vars y
  unfold out0_5
  frame_out
  refine (k1 _ _ _ _ _ _ _ y0 y1).trans ?_
  refine Eq.trans (b := dl (g0 m c t (ix2 y0 y1)) _ _ _) rfl ?_
  rw [g0_at]
  refine (congr (congr (congrArg (dl _) (w_at m c t y0 y1)) (m_at m c t y0 y1)) (v_at m c t y0 y1)).trans ?_
  rw [← D_at]
  refine congrArg _ ?_
  blk_ext [idx t]

theorem final6 (c : Dev nD) : (dats m 0 c).arrAt 6 (cfgs 0).N = NM (argP m c) (argM m c) := by
  refine (dats m 0 c).arrAt_eq_of_covers 6 _ (by decide +kernel) fun t _ y => ?_
  blk_simp
  rw [after0_6]
  idx_vars y
  unfold out0_6
  frame_out
  refine (k3 _ _ _ _ _ y0 y1).trans ?_
  refine Eq.trans (b := nm (g0 m c t (ix2 y0 y1)) _) rfl ?_
  rw [g0_at]
  refine (congrArg (nm _) (m_at m c t y0 y1)).trans ?_
  rw [← NM_at]
  refine congrArg _ ?_
  blk_ext [idx t]

theorem final7 (c : Dev nD) : (dats m 0 c).arrAt 7 (cfgs 0).N = NV (argP m c) (argV m c) := by
  refine (dats m 0 c).arrAt_eq_of_covers 7 _ (by decide +kernel) fun t _ y => ?_
  blk_simp
  rw [after0_7]
  idx_vars y
  unfold out0_7
  frame_out
  refine (k4 _ _ _ _ _ y0 y1).trans ?_
  refine Eq.trans (b := nv (g0 m c t (ix2 y0 y1)) _) rfl ?_
  rw [g0_at]
  refine (congrArg (nv _) (v_at m c t y0 y1)).trans ?_
  rw [← NV_at]
  refine congrArg _ ?_
  blk_ext [idx t]

end Cert.Ad34Value

end
-- ==== Proof.Ad35Ref.lean ====
module

public import proofs.«01_k».proof.Proof.AdRow
public import proofs.«01_k».proof.Proof.Gen.Reference35Ideal.Run

@[expose] public section

set_option maxRecDepth 16384

noncomputable section

namespace Cert.Ad35Ref

open Idealize.ShloMosaic Idealize.ShloMosaic.TcCoe Idealize.SL.Sem
open Cert.AdRow
open Cert.Reference35Ideal Cert.Reference35Ideal.Gen Cert.Reference35Ideal.Value

/-! The reference's results, and each read at an index. -/

section
variable (P : FVec Ideal S4x1024x288 .bf16) (W M V : FVec Ideal S1024x288 .f32)

/-- The gradient. -/
def G : FVec Ideal S1024x288 .f32 := Host.reduceAdd (extf .f32 P bitsLt_bf16_f32) (constant S_ .f32 0x00000000#32) reducesTo_S4x1024x288_S1024x288_d0 h_S_
/-- The first moment. -/
def NM : FVec Ideal S1024x288 .f32 := addf (mulf (broadcastInDim S1024x288 ![] bcast_S_S1024x288 (constant S_ .f32 0x3F666666#32)) M) (mulf (broadcastInDim S1024x288 ![] bcast_S_S1024x288 (constant S_ .f32 0x3DCCCCCD#32)) (G P))
/-- The second moment. -/
def NV : FVec Ideal S1024x288 .f32 := addf (mulf (broadcastInDim S1024x288 ![] bcast_S_S1024x288 (constant S_ .f32 0x3F7FBE77#32)) V) (mulf (broadcastInDim S1024x288 ![] bcast_S_S1024x288 (constant S_ .f32 0x3A83126F#32)) (mulf (G P) (G P)))
/-- The change of the weight. -/
def D : FVec Ideal S1024x288 .f32 := mulf (broadcastInDim S1024x288 ![] bcast_S_S1024x288 (constant S_ .f32 0xBA83126F#32)) (addf (Host.divf (Host.divf (NM P M) (broadcastInDim S1024x288 ![] bcast_S_S1024x288 (constant S_ .f32 0x3F26BD02#32))) (addf (Host.sqrt (Host.divf (NV P V) (broadcastInDim S1024x288 ![] bcast_S_S1024x288 (constant S_ .f32 0x3C231ACC#32)))) (broadcastInDim S1024x288 ![] bcast_S_S1024x288 (constant S_ .f32 0x322BCC77#32)))) (mulf (broadcastInDim S1024x288 ![] bcast_S_S1024x288 (constant S_ .f32 0x3C23D70A#32)) W))

theorem G_at (r : Fin 1024) (k : Fin 288) : G P (ix2 r k) = gr fun a => P (ix3 a r k) := by
  pointwise [G]
  exact gr_sum _
theorem NM_at (r : Fin 1024) (k : Fin 288) : NM P M (ix2 r k) = nm (gr fun a => P (ix3 a r k)) (M (ix2 r k)) := by
  pointwise [NM, G_at, nm]
theorem NV_at (r : Fin 1024) (k : Fin 288) : NV P V (ix2 r k) = nv (gr fun a => P (ix3 a r k)) (V (ix2 r k)) := by
  pointwise [NV, G_at, nv]
theorem D_at (r : Fin 1024) (k : Fin 288) : D P W M V (ix2 r k) = dl (gr fun a => P (ix3 a r k)) (W (ix2 r k)) (M (ix2 r k)) (V (ix2 r k)) := by
  pointwise [D, NM_at, NV_at, dl]
end

end Cert.Ad35Ref

end
-- ==== Proof.Ad35Value.lean ====
module

public import proofs.«01_k».proof.Proof.Ad35Ref
public import proofs.«01_k».proof.Proof.Gen.Kernel35Ideal.Value
public import Idealize.ShloMosaic.Lib.Pipeline.ValueKit
public import Idealize.ShloMosaic.Lib.Pipeline.ReadBack

@[expose] public section

set_option maxRecDepth 16384

noncomputable section

namespace Cert.Ad35Value

open Idealize.ShloMosaic Idealize.ShloMosaic.TcCoe Idealize.SL.Sem
open Idealize.ShloMosaic.Pipeline (Dat)
open Cert.AdRow Cert.Ad35Ref
open Cert.Kernel35Ideal Cert.Kernel35Ideal.Gen

variable (m : (ℓ : Loc nD τ sig) → Buf (Elt Ideal) ℓ)

/-- The parts of the gradient, as launched. -/
abbrev argP (c : Dev nD) : FVec Ideal S4x1024x288 .bf16 := m ((c : Thread nD τ).loc main_arg0)
/-- The weight, as launched. -/
abbrev argW (c : Dev nD) : FVec Ideal S1024x288 .f32 := m ((c : Thread nD τ).loc main_arg1)
/-- The first moment, as launched. -/
abbrev argM (c : Dev nD) : FVec Ideal S1024x288 .f32 := m ((c : Thread nD τ).loc main_arg2)
/-- The second moment, as launched. -/
abbrev argV (c : Dev nD) : FVec Ideal S1024x288 .f32 := m ((c : Thread nD τ).loc main_arg3)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ t.val < 4 :=
  (by decide +kernel : ∀ t : Fin grid0.N, _)

/-- The row of the array that row `r` of block `t` is. -/
abbrev rowOf (t : Fin cfg0.N) (r : Fin 256) : Fin 1024 := ⟨t.val * 256 + r.val, by have := (idx t).2.2.2.2.2.2.2.2; omega⟩

theorem p_at (c : Dev nD) (t : Fin cfg0.N) (a : Fin 4) (r : Fin 256) (k : Fin 288) :
    (show FVec Ideal S4x256x288 .bf16 from iblk m c 0 t) (ix3 a r k) = argP m c (ix3 a (rowOf t r) k) := by
  blk_ext [iblk, V, idx t]
theorem w_at (c : Dev nD) (t : Fin cfg0.N) (r : Fin 256) (k : Fin 288) :
    (show FVec Ideal S256x288 .f32 from iblk m c 1 t) (ix2 r k) = argW m c (ix2 (rowOf t r) k) := by
  blk_ext [iblk, V, idx t]
theorem m_at (c : Dev nD) (t : Fin cfg0.N) (r : Fin 256) (k : Fin 288) :
    (show FVec Ideal S256x288 .f32 from iblk m c 2 t) (ix2 r k) = argM m c (ix2 (rowOf t r) k) := by
  blk_ext [iblk, V, idx t]
theorem v_at (c : Dev nD) (t : Fin cfg0.N) (r : Fin 256) (k : Fin 288) :
    (show FVec Ideal S256x288 .f32 from iblk m c 3 t) (ix2 r k) = argV m c (ix2 (rowOf t r) k) := by
  blk_ext [iblk, V, idx t]

theorem inb (a : ℕ) (ha : a < 4) : ∀ d : Fin 3, (![a, 0, 0] : Fin 3 → ℕ) d + (![1, 256, 288] : Fin 3 → ℕ) d ≤ S4x256x288.size d := by
  intro d
  fin_cases d
  · show a + 1 ≤ 4; omega
  · show 0 + 256 ≤ 256; omega
  · show 0 + 288 ≤ 288; omega

theorem ld_p (B : Vec Ideal S4x256x288 .bf16) (a : ℕ) (ha : a < 4) (u : Fin 1) (r : Fin 256) (k : Fin 288) :
    View.ld B (Rect.unit ![a, 0, 0] ![1, 256, 288] (inb a ha)) (ix3 u r k) = B (ix3 ⟨a, ha⟩ r k) := by
  pointwise

/-- The four parts of the gradient in block `t`. -/
abbrev p0 (c : Dev nD) (t : Fin cfg0.N) (a : ℕ) (ha : a < 4) : FVec Ideal S1x256x288 .bf16 :=
  View.ld (iblk m c 0 t) (Rect.unit ![a, 0, 0] ![1, 256, 288] (inb a ha))

/-- The gradient's block. -/
def g0 (c : Dev nD) (t : Fin cfg0.N) : FVec Ideal S256x288 .f32 :=
  k0_pay2 (F := Ideal) (p0 m c t 0 (by decide)) (p0 m c t 1 (by decide)) (p0 m c t 2 (by decide)) (p0 m c t 3 (by decide))

theorem pp (c : Dev nD) (t : Fin cfg0.N) (a : ℕ) (ha : a < 4) (u : Fin 1) (r : Fin 256) (k : Fin 288) :
    p0 m c t a ha (ix3 u r k) = argP m c (ix3 ⟨a, ha⟩ (rowOf t r) k) :=
  (ld_p _ a ha u r k).trans (p_at m c t _ r k)

theorem g0_at (c : Dev nD) (t : Fin cfg0.N) (r : Fin 256) (k : Fin 288) : g0 m c t (ix2 r k) = gr fun a => argP m c (ix3 a (rowOf t r) k) := by
  pointwise [g0, k0_pay2, pp, gr]

section
variable (q0 q1 q2 q3 : FVec Ideal S1x256x288 .bf16) (w mm v : FVec Ideal S256x288 .f32) (r : Fin 256) (k : Fin 288)
theorem k3 : k0_pay3 (F := Ideal) q0 q1 q2 q3 mm (ix2 r k) = nm (k0_pay2 (F := Ideal) q0 q1 q2 q3 (ix2 r k)) (mm (ix2 r k)) := by
  pointwise [k0_pay3, nm]
theorem k4 : k0_pay4 (F := Ideal) q0 q1 q2 q3 v (ix2 r k) = nv (k0_pay2 (F := Ideal) q0 q1 q2 q3 (ix2 r k)) (v (ix2 r k)) := by
  pointwise [k0_pay4, nv]
theorem k1 : k0_pay1 (F := Ideal) (k0_pay5 q0 q1 q2 q3 mm) (k0_pay6 q0 q1 q2 q3 v) w (ix2 r k)
    = dl (k0_pay2 (F := Ideal) q0 q1 q2 q3 (ix2 r k)) (w (ix2 r k)) (mm (ix2 r k)) (v (ix2 r k)) := by
  pointwise [k0_pay1, k0_pay5, k0_pay6, k3, k4, dl]
end

theorem final4 (c : Dev nD) : (dats m 0 c).arrAt 4 (cfgs 0).N = G (argP m c) := by
  refine (dats m 0 c).arrAt_eq_of_covers 4 _ (by decide +kernel) fun t _ y => ?_
  blk_simp
  rw [after0_4]
  idx_vars y
  unfold out0_4
  frame_out
  refine (g0_at m c t y0 y1).trans ?_
  rw [← G_at]
  refine congrArg _ ?_
  blk_ext [idx t]

theorem final5 (c : Dev nD) : (dats m 0 c).arrAt 5 (cfgs 0).N = D (argP m c) (argW m c) (argM m c) (argV m c) := by
  refine (dats m 0 c).arrAt_eq_of_covers 5 _ (by decide +kernel) fun t _ y => ?_
  blk_simp
  rw [after0_5]
  idx_vars y
  unfold out0_5
  frame_out
  refine (k1 _ _ _ _ _ _ _ y0 y1).trans ?_
  refine Eq.trans (b := dl (g0 m c t (ix2 y0 y1)) _ _ _) rfl ?_
  rw [g0_at]
  refine (congr (congr (congrArg (dl _) (w_at m c t y0 y1)) (m_at m c t y0 y1)) (v_at m c t y0 y1)).trans ?_
  rw [← D_at]
  refine congrArg _ ?_
  blk_ext [idx t]

theorem final6 (c : Dev nD) : (dats m 0 c).arrAt 6 (cfgs 0).N = NM (argP m c) (argM m c) := by
  refine (dats m 0 c).arrAt_eq_of_covers 6 _ (by decide +kernel) fun t _ y => ?_
  blk_simp
  rw [after0_6]
  idx_vars y
  unfold out0_6
  frame_out
  refine (k3 _ _ _ _ _ y0 y1).trans ?_
  refine Eq.trans (b := nm (g0 m c t (ix2 y0 y1)) _) rfl ?_
  rw [g0_at]
  refine (congrArg (nm _) (m_at m c t y0 y1)).trans ?_
  rw [← NM_at]
  refine congrArg _ ?_
  blk_ext [idx t]

theorem final7 (c : Dev nD) : (dats m 0 c).arrAt 7 (cfgs 0).N = NV (argP m c) (argV m c) := by
  refine (dats m 0 c).arrAt_eq_of_covers 7 _ (by decide +kernel) fun t _ y => ?_
  blk_simp
  rw [after0_7]
  idx_vars y
  unfold out0_7
  frame_out
  refine (k4 _ _ _ _ _ y0 y1).trans ?_
  refine Eq.trans (b := nv (g0 m c t (ix2 y0 y1)) _) rfl ?_
  rw [g0_at]
  refine (congrArg (nv _) (v_at m c t y0 y1)).trans ?_
  rw [← NV_at]
  refine congrArg _ ?_
  blk_ext [idx t]

end Cert.Ad35Value

end
-- ==== Proof.Ad36Ref.lean ====
module

public import proofs.«01_k».proof.Proof.AdRow
public import proofs.«01_k».proof.Proof.Gen.Reference36Ideal.Run

@[expose] public section

set_option maxRecDepth 16384

noncomputable section

namespace Cert.Ad36Ref

open Idealize.ShloMosaic Idealize.ShloMosaic.TcCoe Idealize.SL.Sem
open Cert.AdRow
open Cert.Reference36Ideal Cert.Reference36Ideal.Gen Cert.Reference36Ideal.Value

/-! The reference's results, and each read at an index. -/

section
variable (P : FVec Ideal S4x1024x384 .bf16) (W M V : FVec Ideal S1024x384 .f32)

/-- The gradient. -/
def G : FVec Ideal S1024x384 .f32 := Host.reduceAdd (extf .f32 P bitsLt_bf16_f32) (constant S_ .f32 0x00000000#32) reducesTo_S4x1024x384_S1024x384_d0 h_S_
/-- The first moment. -/
def NM : FVec Ideal S1024x384 .f32 := addf (mulf (broadcastInDim S1024x384 ![] bcast_S_S1024x384 (constant S_ .f32 0x3F666666#32)) M) (mulf (broadcastInDim S1024x384 ![] bcast_S_S1024x384 (constant S_ .f32 0x3DCCCCCD#32)) (G P))
/-- The second moment. -/
def NV : FVec Ideal S1024x384 .f32 := addf (mulf (broadcastInDim S1024x384 ![] bcast_S_S1024x384 (constant S_ .f32 0x3F7FBE77#32)) V) (mulf (broadcastInDim S1024x384 ![] bcast_S_S1024x384 (constant S_ .f32 0x3A83126F#32)) (mulf (G P) (G P)))
/-- The change of the weight. -/
def D : FVec Ideal S1024x384 .f32 := mulf (broadcastInDim S1024x384 ![] bcast_S_S1024x384 (constant S_ .f32 0xBA83126F#32)) (addf (Host.divf (Host.divf (NM P M) (broadcastInDim S1024x384 ![] bcast_S_S1024x384 (constant S_ .f32 0x3F26BD02#32))) (addf (Host.sqrt (Host.divf (NV P V) (broadcastInDim S1024x384 ![] bcast_S_S1024x384 (constant S_ .f32 0x3C231ACC#32)))) (broadcastInDim S1024x384 ![] bcast_S_S1024x384 (constant S_ .f32 0x322BCC77#32)))) (mulf (broadcastInDim S1024x384 ![] bcast_S_S1024x384 (constant S_ .f32 0x3C23D70A#32)) W))

theorem G_at (r : Fin 1024) (k : Fin 384) : G P (ix2 r k) = gr fun a => P (ix3 a r k) := by
  pointwise [G]
  exact gr_sum _
theorem NM_at (r : Fin 1024) (k : Fin 384) : NM P M (ix2 r k) = nm (gr fun a => P (ix3 a r k)) (M (ix2 r k)) := by
  pointwise [NM, G_at, nm]
theorem NV_at (r : Fin 1024) (k : Fin 384) : NV P V (ix2 r k) = nv (gr fun a => P (ix3 a r k)) (V (ix2 r k)) := by
  pointwise [NV, G_at, nv]
theorem D_at (r : Fin 1024) (k : Fin 384) : D P W M V (ix2 r k) = dl (gr fun a => P (ix3 a r k)) (W (ix2 r k)) (M (ix2 r k)) (V (ix2 r k)) := by
  pointwise [D, NM_at, NV_at, dl]
end

end Cert.Ad36Ref

end
-- ==== Proof.Ad36Value.lean ====
module

public import proofs.«01_k».proof.Proof.Ad36Ref
public import proofs.«01_k».proof.Proof.Gen.Kernel36Ideal.Value
public import Idealize.ShloMosaic.Lib.Pipeline.ValueKit
public import Idealize.ShloMosaic.Lib.Pipeline.ReadBack

@[expose] public section

set_option maxRecDepth 16384

noncomputable section

namespace Cert.Ad36Value

open Idealize.ShloMosaic Idealize.ShloMosaic.TcCoe Idealize.SL.Sem
open Idealize.ShloMosaic.Pipeline (Dat)
open Cert.AdRow Cert.Ad36Ref
open Cert.Kernel36Ideal Cert.Kernel36Ideal.Gen

variable (m : (ℓ : Loc nD τ sig) → Buf (Elt Ideal) ℓ)

/-- The parts of the gradient, as launched. -/
abbrev argP (c : Dev nD) : FVec Ideal S4x1024x384 .bf16 := m ((c : Thread nD τ).loc main_arg0)
/-- The weight, as launched. -/
abbrev argW (c : Dev nD) : FVec Ideal S1024x384 .f32 := m ((c : Thread nD τ).loc main_arg1)
/-- The first moment, as launched. -/
abbrev argM (c : Dev nD) : FVec Ideal S1024x384 .f32 := m ((c : Thread nD τ).loc main_arg2)
/-- The second moment, as launched. -/
abbrev argV (c : Dev nD) : FVec Ideal S1024x384 .f32 := m ((c : Thread nD τ).loc main_arg3)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ t.val < 4 :=
  (by decide +kernel : ∀ t : Fin grid0.N, _)

/-- The row of the array that row `r` of block `t` is. -/
abbrev rowOf (t : Fin cfg0.N) (r : Fin 256) : Fin 1024 := ⟨t.val * 256 + r.val, by have := (idx t).2.2.2.2.2.2.2.2; omega⟩

theorem p_at (c : Dev nD) (t : Fin cfg0.N) (a : Fin 4) (r : Fin 256) (k : Fin 384) :
    (show FVec Ideal S4x256x384 .bf16 from iblk m c 0 t) (ix3 a r k) = argP m c (ix3 a (rowOf t r) k) := by
  blk_ext [iblk, V, idx t]
theorem w_at (c : Dev nD) (t : Fin cfg0.N) (r : Fin 256) (k : Fin 384) :
    (show FVec Ideal S256x384 .f32 from iblk m c 1 t) (ix2 r k) = argW m c (ix2 (rowOf t r) k) := by
  blk_ext [iblk, V, idx t]
theorem m_at (c : Dev nD) (t : Fin cfg0.N) (r : Fin 256) (k : Fin 384) :
    (show FVec Ideal S256x384 .f32 from iblk m c 2 t) (ix2 r k) = argM m c (ix2 (rowOf t r) k) := by
  blk_ext [iblk, V, idx t]
theorem v_at (c : Dev nD) (t : Fin cfg0.N) (r : Fin 256) (k : Fin 384) :
    (show FVec Ideal S256x384 .f32 from iblk m c 3 t) (ix2 r k) = argV m c (ix2 (rowOf t r) k) := by
  blk_ext [iblk, V, idx t]

theorem inb (a : ℕ) (ha : a < 4) : ∀ d : Fin 3, (![a, 0, 0] : Fin 3 → ℕ) d + (![1, 256, 384] : Fin 3 → ℕ) d ≤ S4x256x384.size d := by
  intro d
  fin_cases d
  · show a + 1 ≤ 4; omega
  · show 0 + 256 ≤ 256; omega
  · show 0 + 384 ≤ 384; omega

theorem ld_p (B : Vec Ideal S4x256x384 .bf16) (a : ℕ) (ha : a < 4) (u : Fin 1) (r : Fin 256) (k : Fin 384) :
    View.ld B (Rect.unit ![a, 0, 0] ![1, 256, 384] (inb a ha)) (ix3 u r k) = B (ix3 ⟨a, ha⟩ r k) := by
  pointwise

/-- The four parts of the gradient in block `t`. -/
abbrev p0 (c : Dev nD) (t : Fin cfg0.N) (a : ℕ) (ha : a < 4) : FVec Ideal S1x256x384 .bf16 :=
  View.ld (iblk m c 0 t) (Rect.unit ![a, 0, 0] ![1, 256, 384] (inb a ha))

/-- The gradient's block. -/
def g0 (c : Dev nD) (t : Fin cfg0.N) : FVec Ideal S256x384 .f32 :=
  k0_pay2 (F := Ideal) (p0 m c t 0 (by decide)) (p0 m c t 1 (by decide)) (p0 m c t 2 (by decide)) (p0 m c t 3 (by decide))

theorem pp (c : Dev nD) (t : Fin cfg0.N) (a : ℕ) (ha : a < 4) (u : Fin 1) (r : Fin 256) (k : Fin 384) :
    p0 m c t a ha (ix3 u r k) = argP m c (ix3 ⟨a, ha⟩ (rowOf t r) k) :=
  (ld_p _ a ha u r k).trans (p_at m c t _ r k)

theorem g0_at (c : Dev nD) (t : Fin cfg0.N) (r : Fin 256) (k : Fin 384) : g0 m c t (ix2 r k) = gr fun a => argP m c (ix3 a (rowOf t r) k) := by
  pointwise [g0, k0_pay2, pp, gr]

section
variable (q0 q1 q2 q3 : FVec Ideal S1x256x384 .bf16) (w mm v : FVec Ideal S256x384 .f32) (r : Fin 256) (k : Fin 384)
theorem k3 : k0_pay3 (F := Ideal) q0 q1 q2 q3 mm (ix2 r k) = nm (k0_pay2 (F := Ideal) q0 q1 q2 q3 (ix2 r k)) (mm (ix2 r k)) := by
  pointwise [k0_pay3, nm]
theorem k4 : k0_pay4 (F := Ideal) q0 q1 q2 q3 v (ix2 r k) = nv (k0_pay2 (F := Ideal) q0 q1 q2 q3 (ix2 r k)) (v (ix2 r k)) := by
  pointwise [k0_pay4, nv]
theorem k1 : k0_pay1 (F := Ideal) (k0_pay5 q0 q1 q2 q3 mm) (k0_pay6 q0 q1 q2 q3 v) w (ix2 r k)
    = dl (k0_pay2 (F := Ideal) q0 q1 q2 q3 (ix2 r k)) (w (ix2 r k)) (mm (ix2 r k)) (v (ix2 r k)) := by
  pointwise [k0_pay1, k0_pay5, k0_pay6, k3, k4, dl]
end

theorem final4 (c : Dev nD) : (dats m 0 c).arrAt 4 (cfgs 0).N = G (argP m c) := by
  refine (dats m 0 c).arrAt_eq_of_covers 4 _ (by decide +kernel) fun t _ y => ?_
  blk_simp
  rw [after0_4]
  idx_vars y
  unfold out0_4
  frame_out
  refine (g0_at m c t y0 y1).trans ?_
  rw [← G_at]
  refine congrArg _ ?_
  blk_ext [idx t]

theorem final5 (c : Dev nD) : (dats m 0 c).arrAt 5 (cfgs 0).N = D (argP m c) (argW m c) (argM m c) (argV m c) := by
  refine (dats m 0 c).arrAt_eq_of_covers 5 _ (by decide +kernel) fun t _ y => ?_
  blk_simp
  rw [after0_5]
  idx_vars y
  unfold out0_5
  frame_out
  refine (k1 _ _ _ _ _ _ _ y0 y1).trans ?_
  refine Eq.trans (b := dl (g0 m c t (ix2 y0 y1)) _ _ _) rfl ?_
  rw [g0_at]
  refine (congr (congr (congrArg (dl _) (w_at m c t y0 y1)) (m_at m c t y0 y1)) (v_at m c t y0 y1)).trans ?_
  rw [← D_at]
  refine congrArg _ ?_
  blk_ext [idx t]

theorem final6 (c : Dev nD) : (dats m 0 c).arrAt 6 (cfgs 0).N = NM (argP m c) (argM m c) := by
  refine (dats m 0 c).arrAt_eq_of_covers 6 _ (by decide +kernel) fun t _ y => ?_
  blk_simp
  rw [after0_6]
  idx_vars y
  unfold out0_6
  frame_out
  refine (k3 _ _ _ _ _ y0 y1).trans ?_
  refine Eq.trans (b := nm (g0 m c t (ix2 y0 y1)) _) rfl ?_
  rw [g0_at]
  refine (congrArg (nm _) (m_at m c t y0 y1)).trans ?_
  rw [← NM_at]
  refine congrArg _ ?_
  blk_ext [idx t]

theorem final7 (c : Dev nD) : (dats m 0 c).arrAt 7 (cfgs 0).N = NV (argP m c) (argV m c) := by
  refine (dats m 0 c).arrAt_eq_of_covers 7 _ (by decide +kernel) fun t _ y => ?_
  blk_simp
  rw [after0_7]
  idx_vars y
  unfold out0_7
  frame_out
  refine (k4 _ _ _ _ _ y0 y1).trans ?_
  refine Eq.trans (b := nv (g0 m c t (ix2 y0 y1)) _) rfl ?_
  rw [g0_at]
  refine (congrArg (nv _) (v_at m c t y0 y1)).trans ?_
  rw [← NV_at]
  refine congrArg _ ?_
  blk_ext [idx t]

end Cert.Ad36Value

end
-- ==== Proof.Ad37Ref.lean ====
module

public import proofs.«01_k».proof.Proof.AdRow
public import proofs.«01_k».proof.Proof.Gen.Reference37Ideal.Run

@[expose] public section

set_option maxRecDepth 16384

noncomputable section

namespace Cert.Ad37Ref

open Idealize.ShloMosaic Idealize.ShloMosaic.TcCoe Idealize.SL.Sem
open Cert.AdRow
open Cert.Reference37Ideal Cert.Reference37Ideal.Gen Cert.Reference37Ideal.Value

/-! The reference's results, and each read at an index. -/

section
variable (P : FVec Ideal S4x4096x835 .bf16) (W M V : FVec Ideal S4096x835 .f32)

/-- The gradient. -/
def G : FVec Ideal S4096x835 .f32 := Host.reduceAdd (extf .f32 P bitsLt_bf16_f32) (constant S_ .f32 0x00000000#32) reducesTo_S4x4096x835_S4096x835_d0 h_S_
/-- The first moment. -/
def NM : FVec Ideal S4096x835 .f32 := addf (mulf (broadcastInDim S4096x835 ![] bcast_S_S4096x835 (constant S_ .f32 0x3F666666#32)) M) (mulf (broadcastInDim S4096x835 ![] bcast_S_S4096x835 (constant S_ .f32 0x3DCCCCCD#32)) (G P))
/-- The second moment. -/
def NV : FVec Ideal S4096x835 .f32 := addf (mulf (broadcastInDim S4096x835 ![] bcast_S_S4096x835 (constant S_ .f32 0x3F7FBE77#32)) V) (mulf (broadcastInDim S4096x835 ![] bcast_S_S4096x835 (constant S_ .f32 0x3A83126F#32)) (mulf (G P) (G P)))
/-- The change of the weight. -/
def D : FVec Ideal S4096x835 .f32 := mulf (broadcastInDim S4096x835 ![] bcast_S_S4096x835 (constant S_ .f32 0xBA83126F#32)) (addf (Host.divf (Host.divf (NM P M) (broadcastInDim S4096x835 ![] bcast_S_S4096x835 (constant S_ .f32 0x3F26BD02#32))) (addf (Host.sqrt (Host.divf (NV P V) (broadcastInDim S4096x835 ![] bcast_S_S4096x835 (constant S_ .f32 0x3C231ACC#32)))) (broadcastInDim S4096x835 ![] bcast_S_S4096x835 (constant S_ .f32 0x322BCC77#32)))) (mulf (broadcastInDim S4096x835 ![] bcast_S_S4096x835 (constant S_ .f32 0x3C23D70A#32)) W))

theorem G_at (r : Fin 4096) (k : Fin 835) : G P (ix2 r k) = gr fun a => P (ix3 a r k) := by
  pointwise [G]
  exact gr_sum _
theorem NM_at (r : Fin 4096) (k : Fin 835) : NM P M (ix2 r k) = nm (gr fun a => P (ix3 a r k)) (M (ix2 r k)) := by
  pointwise [NM, G_at, nm]
theorem NV_at (r : Fin 4096) (k : Fin 835) : NV P V (ix2 r k) = nv (gr fun a => P (ix3 a r k)) (V (ix2 r k)) := by
  pointwise [NV, G_at, nv]
theorem D_at (r : Fin 4096) (k : Fin 835) : D P W M V (ix2 r k) = dl (gr fun a => P (ix3 a r k)) (W (ix2 r k)) (M (ix2 r k)) (V (ix2 r k)) := by
  pointwise [D, NM_at, NV_at, dl]
end

end Cert.Ad37Ref

end
-- ==== Proof.Ad37Value.lean ====
module

public import proofs.«01_k».proof.Proof.Ad37Ref
public import proofs.«01_k».proof.Proof.Gen.Kernel37Ideal.Value
public import Idealize.ShloMosaic.Lib.Pipeline.ValueKit
public import Idealize.ShloMosaic.Lib.Pipeline.ReadBack

@[expose] public section

set_option maxRecDepth 16384

noncomputable section

namespace Cert.Ad37Value

open Idealize.ShloMosaic Idealize.ShloMosaic.TcCoe Idealize.SL.Sem
open Idealize.ShloMosaic.Pipeline (Dat)
open Cert.AdRow Cert.Ad37Ref
open Cert.Kernel37Ideal Cert.Kernel37Ideal.Gen

variable (m : (ℓ : Loc nD τ sig) → Buf (Elt Ideal) ℓ)

/-- The parts of the gradient, as launched. -/
abbrev argP (c : Dev nD) : FVec Ideal S4x4096x835 .bf16 := m ((c : Thread nD τ).loc main_arg0)
/-- The weight, as launched. -/
abbrev argW (c : Dev nD) : FVec Ideal S4096x835 .f32 := m ((c : Thread nD τ).loc main_arg1)
/-- The first moment, as launched. -/
abbrev argM (c : Dev nD) : FVec Ideal S4096x835 .f32 := m ((c : Thread nD τ).loc main_arg2)
/-- The second moment, as launched. -/
abbrev argV (c : Dev nD) : FVec Ideal S4096x835 .f32 := m ((c : Thread nD τ).loc main_arg3)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ t.val < 16 :=
  (by decide +kernel : ∀ t : Fin grid0.N, _)

/-- The row of the array that row `r` of block `t` is. -/
abbrev rowOf (t : Fin cfg0.N) (r : Fin 256) : Fin 4096 := ⟨t.val * 256 + r.val, by have := (idx t).2.2.2.2.2.2.2.2; omega⟩

theorem p_at (c : Dev nD) (t : Fin cfg0.N) (a : Fin 4) (r : Fin 256) (k : Fin 835) :
    (show FVec Ideal S4x256x835 .bf16 from iblk m c 0 t) (ix3 a r k) = argP m c (ix3 a (rowOf t r) k) := by
  blk_ext [iblk, V, idx t]
theorem w_at (c : Dev nD) (t : Fin cfg0.N) (r : Fin 256) (k : Fin 835) :
    (show FVec Ideal S256x835 .f32 from iblk m c 1 t) (ix2 r k) = argW m c (ix2 (rowOf t r) k) := by
  blk_ext [iblk, V, idx t]
theorem m_at (c : Dev nD) (t : Fin cfg0.N) (r : Fin 256) (k : Fin 835) :
    (show FVec Ideal S256x835 .f32 from iblk m c 2 t) (ix2 r k) = argM m c (ix2 (rowOf t r) k) := by
  blk_ext [iblk, V, idx t]
theorem v_at (c : Dev nD) (t : Fin cfg0.N) (r : Fin 256) (k : Fin 835) :
    (show FVec Ideal S256x835 .f32 from iblk m c 3 t) (ix2 r k) = argV m c (ix2 (rowOf t r) k) := by
  blk_ext [iblk, V, idx t]

theorem inb (a : ℕ) (ha : a < 4) : ∀ d : Fin 3, (![a, 0, 0] : Fin 3 → ℕ) d + (![1, 256, 835] : Fin 3 → ℕ) d ≤ S4x256x835.size d := by
  intro d
  fin_cases d
  · show a + 1 ≤ 4; omega
  · show 0 + 256 ≤ 256; omega
  · show 0 + 835 ≤ 835; omega

theorem ld_p (B : Vec Ideal S4x256x835 .bf16) (a : ℕ) (ha : a < 4) (u : Fin 1) (r : Fin 256) (k : Fin 835) :
    View.ld B (Rect.unit ![a, 0, 0] ![1, 256, 835] (inb a ha)) (ix3 u r k) = B (ix3 ⟨a, ha⟩ r k) := by
  pointwise

/-- The four parts of the gradient in block `t`. -/
abbrev p0 (c : Dev nD) (t : Fin cfg0.N) (a : ℕ) (ha : a < 4) : FVec Ideal S1x256x835 .bf16 :=
  View.ld (iblk m c 0 t) (Rect.unit ![a, 0, 0] ![1, 256, 835] (inb a ha))

/-- The gradient's block. -/
def g0 (c : Dev nD) (t : Fin cfg0.N) : FVec Ideal S256x835 .f32 :=
  k0_pay2 (F := Ideal) (p0 m c t 0 (by decide)) (p0 m c t 1 (by decide)) (p0 m c t 2 (by decide)) (p0 m c t 3 (by decide))

theorem pp (c : Dev nD) (t : Fin cfg0.N) (a : ℕ) (ha : a < 4) (u : Fin 1) (r : Fin 256) (k : Fin 835) :
    p0 m c t a ha (ix3 u r k) = argP m c (ix3 ⟨a, ha⟩ (rowOf t r) k) :=
  (ld_p _ a ha u r k).trans (p_at m c t _ r k)

theorem g0_at (c : Dev nD) (t : Fin cfg0.N) (r : Fin 256) (k : Fin 835) : g0 m c t (ix2 r k) = gr fun a => argP m c (ix3 a (rowOf t r) k) := by
  pointwise [g0, k0_pay2, pp, gr]

section
variable (q0 q1 q2 q3 : FVec Ideal S1x256x835 .bf16) (w mm v : FVec Ideal S256x835 .f32) (r : Fin 256) (k : Fin 835)
theorem k3 : k0_pay3 (F := Ideal) q0 q1 q2 q3 mm (ix2 r k) = nm (k0_pay2 (F := Ideal) q0 q1 q2 q3 (ix2 r k)) (mm (ix2 r k)) := by
  pointwise [k0_pay3, nm]
theorem k4 : k0_pay4 (F := Ideal) q0 q1 q2 q3 v (ix2 r k) = nv (k0_pay2 (F := Ideal) q0 q1 q2 q3 (ix2 r k)) (v (ix2 r k)) := by
  pointwise [k0_pay4, nv]
theorem k1 : k0_pay1 (F := Ideal) (k0_pay5 q0 q1 q2 q3 mm) (k0_pay6 q0 q1 q2 q3 v) w (ix2 r k)
    = dl (k0_pay2 (F := Ideal) q0 q1 q2 q3 (ix2 r k)) (w (ix2 r k)) (mm (ix2 r k)) (v (ix2 r k)) := by
  pointwise [k0_pay1, k0_pay5, k0_pay6, k3, k4, dl]
end

theorem final4 (c : Dev nD) : (dats m 0 c).arrAt 4 (cfgs 0).N = G (argP m c) := by
  refine (dats m 0 c).arrAt_eq_of_covers 4 _ (by decide +kernel) fun t _ y => ?_
  blk_simp
  rw [after0_4]
  idx_vars y
  unfold out0_4
  frame_out
  refine (g0_at m c t y0 y1).trans ?_
  rw [← G_at]
  refine congrArg _ ?_
  blk_ext [idx t]

theorem final5 (c : Dev nD) : (dats m 0 c).arrAt 5 (cfgs 0).N = D (argP m c) (argW m c) (argM m c) (argV m c) := by
  refine (dats m 0 c).arrAt_eq_of_covers 5 _ (by decide +kernel) fun t _ y => ?_
  blk_simp
  rw [after0_5]
  idx_vars y
  unfold out0_5
  frame_out
  refine (k1 _ _ _ _ _ _ _ y0 y1).trans ?_
  refine Eq.trans (b := dl (g0 m c t (ix2 y0 y1)) _ _ _) rfl ?_
  rw [g0_at]
  refine (congr (congr (congrArg (dl _) (w_at m c t y0 y1)) (m_at m c t y0 y1)) (v_at m c t y0 y1)).trans ?_
  rw [← D_at]
  refine congrArg _ ?_
  blk_ext [idx t]

theorem final6 (c : Dev nD) : (dats m 0 c).arrAt 6 (cfgs 0).N = NM (argP m c) (argM m c) := by
  refine (dats m 0 c).arrAt_eq_of_covers 6 _ (by decide +kernel) fun t _ y => ?_
  blk_simp
  rw [after0_6]
  idx_vars y
  unfold out0_6
  frame_out
  refine (k3 _ _ _ _ _ y0 y1).trans ?_
  refine Eq.trans (b := nm (g0 m c t (ix2 y0 y1)) _) rfl ?_
  rw [g0_at]
  refine (congrArg (nm _) (m_at m c t y0 y1)).trans ?_
  rw [← NM_at]
  refine congrArg _ ?_
  blk_ext [idx t]

theorem final7 (c : Dev nD) : (dats m 0 c).arrAt 7 (cfgs 0).N = NV (argP m c) (argV m c) := by
  refine (dats m 0 c).arrAt_eq_of_covers 7 _ (by decide +kernel) fun t _ y => ?_
  blk_simp
  rw [after0_7]
  idx_vars y
  unfold out0_7
  frame_out
  refine (k4 _ _ _ _ _ y0 y1).trans ?_
  refine Eq.trans (b := nv (g0 m c t (ix2 y0 y1)) _) rfl ?_
  rw [g0_at]
  refine (congrArg (nv _) (v_at m c t y0 y1)).trans ?_
  rw [← NV_at]
  refine congrArg _ ?_
  blk_ext [idx t]

end Cert.Ad37Value

end
-- ==== Proof.Ad38Ref.lean ====
module

public import proofs.«01_k».proof.Proof.AdRow
public import proofs.«01_k».proof.Proof.Gen.Reference38Ideal.Run

@[expose] public section

set_option maxRecDepth 16384

noncomputable section

namespace Cert.Ad38Ref

open Idealize.ShloMosaic Idealize.ShloMosaic.TcCoe Idealize.SL.Sem
open Cert.AdRow
open Cert.Reference38Ideal Cert.Reference38Ideal.Gen Cert.Reference38Ideal.Value

/-! The reference's results, and each read at an index. -/

section
variable (P : FVec Ideal S4x8x576 .bf16) (W M V : FVec Ideal S8x576 .f32)

/-- The gradient. -/
def G : FVec Ideal S8x576 .f32 := Host.reduceAdd (extf .f32 P bitsLt_bf16_f32) (constant S_ .f32 0x00000000#32) reducesTo_S4x8x576_S8x576_d0 h_S_
/-- The first moment. -/
def NM : FVec Ideal S8x576 .f32 := addf (mulf (broadcastInDim S8x576 ![] bcast_S_S8x576 (constant S_ .f32 0x3F666666#32)) M) (mulf (broadcastInDim S8x576 ![] bcast_S_S8x576 (constant S_ .f32 0x3DCCCCCD#32)) (G P))
/-- The second moment. -/
def NV : FVec Ideal S8x576 .f32 := addf (mulf (broadcastInDim S8x576 ![] bcast_S_S8x576 (constant S_ .f32 0x3F7FBE77#32)) V) (mulf (broadcastInDim S8x576 ![] bcast_S_S8x576 (constant S_ .f32 0x3A83126F#32)) (mulf (G P) (G P)))
/-- The change of the weight. -/
def D : FVec Ideal S8x576 .f32 := mulf (broadcastInDim S8x576 ![] bcast_S_S8x576 (constant S_ .f32 0xBA83126F#32)) (addf (Host.divf (Host.divf (NM P M) (broadcastInDim S8x576 ![] bcast_S_S8x576 (constant S_ .f32 0x3F26BD02#32))) (addf (Host.sqrt (Host.divf (NV P V) (broadcastInDim S8x576 ![] bcast_S_S8x576 (constant S_ .f32 0x3C231ACC#32)))) (broadcastInDim S8x576 ![] bcast_S_S8x576 (constant S_ .f32 0x322BCC77#32)))) (mulf (broadcastInDim S8x576 ![] bcast_S_S8x576 (constant S_ .f32 0x3C23D70A#32)) W))

theorem G_at (r : Fin 8) (k : Fin 576) : G P (ix2 r k) = gr fun a => P (ix3 a r k) := by
  pointwise [G]
  exact gr_sum _
theorem NM_at (r : Fin 8) (k : Fin 576) : NM P M (ix2 r k) = nm (gr fun a => P (ix3 a r k)) (M (ix2 r k)) := by
  pointwise [NM, G_at, nm]
theorem NV_at (r : Fin 8) (k : Fin 576) : NV P V (ix2 r k) = nv (gr fun a => P (ix3 a r k)) (V (ix2 r k)) := by
  pointwise [NV, G_at, nv]
theorem D_at (r : Fin 8) (k : Fin 576) : D P W M V (ix2 r k) = dl (gr fun a => P (ix3 a r k)) (W (ix2 r k)) (M (ix2 r k)) (V (ix2 r k)) := by
  pointwise [D, NM_at, NV_at, dl]
end

end Cert.Ad38Ref

end
-- ==== Proof.Ad38Value.lean ====
module

public import proofs.«01_k».proof.Proof.Ad38Ref
public import proofs.«01_k».proof.Proof.Gen.Kernel38Ideal.Value
public import Idealize.ShloMosaic.Lib.Pipeline.ValueKit
public import Idealize.ShloMosaic.Lib.Pipeline.ReadBack

@[expose] public section

set_option maxRecDepth 16384

noncomputable section

namespace Cert.Ad38Value

open Idealize.ShloMosaic Idealize.ShloMosaic.TcCoe Idealize.SL.Sem
open Idealize.ShloMosaic.Pipeline (Dat)
open Cert.AdRow Cert.Ad38Ref
open Cert.Kernel38Ideal Cert.Kernel38Ideal.Gen

variable (m : (ℓ : Loc nD τ sig) → Buf (Elt Ideal) ℓ)

/-- The parts of the gradient, as launched. -/
abbrev argP (c : Dev nD) : FVec Ideal S4x8x576 .bf16 := m ((c : Thread nD τ).loc main_arg0)
/-- The weight, as launched. -/
abbrev argW (c : Dev nD) : FVec Ideal S8x576 .f32 := m ((c : Thread nD τ).loc main_arg1)
/-- The first moment, as launched. -/
abbrev argM (c : Dev nD) : FVec Ideal S8x576 .f32 := m ((c : Thread nD τ).loc main_arg2)
/-- The second moment, as launched. -/
abbrev argV (c : Dev nD) : FVec Ideal S8x576 .f32 := m ((c : Thread nD τ).loc main_arg3)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ t.val < 1 :=
  (by decide +kernel : ∀ t : Fin grid0.N, _)

/-- The row of the array that row `r` of block `t` is. -/
abbrev rowOf (t : Fin cfg0.N) (r : Fin 8) : Fin 8 := ⟨t.val * 8 + r.val, by have := (idx t).2.2.2.2.2.2.2.2; omega⟩

theorem p_at (c : Dev nD) (t : Fin cfg0.N) (a : Fin 4) (r : Fin 8) (k : Fin 576) :
    (show FVec Ideal S4x8x576 .bf16 from iblk m c 0 t) (ix3 a r k) = argP m c (ix3 a (rowOf t r) k) := by
  blk_ext [iblk, V, idx t]
theorem w_at (c : Dev nD) (t : Fin cfg0.N) (r : Fin 8) (k : Fin 576) :
    (show FVec Ideal S8x576 .f32 from iblk m c 1 t) (ix2 r k) = argW m c (ix2 (rowOf t r) k) := by
  blk_ext [iblk, V, idx t]
theorem m_at (c : Dev nD) (t : Fin cfg0.N) (r : Fin 8) (k : Fin 576) :
    (show FVec Ideal S8x576 .f32 from iblk m c 2 t) (ix2 r k) = argM m c (ix2 (rowOf t r) k) := by
  blk_ext [iblk, V, idx t]
theorem v_at (c : Dev nD) (t : Fin cfg0.N) (r : Fin 8) (k : Fin 576) :
    (show FVec Ideal S8x576 .f32 from iblk m c 3 t) (ix2 r k) = argV m c (ix2 (rowOf t r) k) := by
  blk_ext [iblk, V, idx t]

theorem inb (a : ℕ) (ha : a < 4) : ∀ d : Fin 3, (![a, 0, 0] : Fin 3 → ℕ) d + (![1, 8, 576] : Fin 3 → ℕ) d ≤ S4x8x576.size d := by
  intro d
  fin_cases d
  · show a + 1 ≤ 4; omega
  · show 0 + 8 ≤ 8; omega
  · show 0 + 576 ≤ 576; omega

theorem ld_p (B : Vec Ideal S4x8x576 .bf16) (a : ℕ) (ha : a < 4) (u : Fin 1) (r : Fin 8) (k : Fin 576) :
    View.ld B (Rect.unit ![a, 0, 0] ![1, 8, 576] (inb a ha)) (ix3 u r k) = B (ix3 ⟨a, ha⟩ r k) := by
  pointwise

/-- The four parts of the gradient in block `t`. -/
abbrev p0 (c : Dev nD) (t : Fin cfg0.N) (a : ℕ) (ha : a < 4) : FVec Ideal S1x8x576 .bf16 :=
  View.ld (iblk m c 0 t) (Rect.unit ![a, 0, 0] ![1, 8, 576] (inb a ha))

/-- The gradient's block. -/
def g0 (c : Dev nD) (t : Fin cfg0.N) : FVec Ideal S8x576 .f32 :=
  k0_pay2 (F := Ideal) (p0 m c t 0 (by decide)) (p0 m c t 1 (by decide)) (p0 m c t 2 (by decide)) (p0 m c t 3 (by decide))

theorem pp (c : Dev nD) (t : Fin cfg0.N) (a : ℕ) (ha : a < 4) (u : Fin 1) (r : Fin 8) (k : Fin 576) :
    p0 m c t a ha (ix3 u r k) = argP m c (ix3 ⟨a, ha⟩ (rowOf t r) k) :=
  (ld_p _ a ha u r k).trans (p_at m c t _ r k)

theorem g0_at (c : Dev nD) (t : Fin cfg0.N) (r : Fin 8) (k : Fin 576) : g0 m c t (ix2 r k) = gr fun a => argP m c (ix3 a (rowOf t r) k) := by
  pointwise [g0, k0_pay2, pp, gr]

section
variable (q0 q1 q2 q3 : FVec Ideal S1x8x576 .bf16) (w mm v : FVec Ideal S8x576 .f32) (r : Fin 8) (k : Fin 576)
theorem k3 : k0_pay3 (F := Ideal) q0 q1 q2 q3 mm (ix2 r k) = nm (k0_pay2 (F := Ideal) q0 q1 q2 q3 (ix2 r k)) (mm (ix2 r k)) := by
  pointwise [k0_pay3, nm]
theorem k4 : k0_pay4 (F := Ideal) q0 q1 q2 q3 v (ix2 r k) = nv (k0_pay2 (F := Ideal) q0 q1 q2 q3 (ix2 r k)) (v (ix2 r k)) := by
  pointwise [k0_pay4, nv]
theorem k1 : k0_pay1 (F := Ideal) (k0_pay5 q0 q1 q2 q3 mm) (k0_pay6 q0 q1 q2 q3 v) w (ix2 r k)
    = dl (k0_pay2 (F := Ideal) q0 q1 q2 q3 (ix2 r k)) (w (ix2 r k)) (mm (ix2 r k)) (v (ix2 r k)) := by
  pointwise [k0_pay1, k0_pay5, k0_pay6, k3, k4, dl]
end

theorem final4 (c : Dev nD) : (dats m 0 c).arrAt 4 (cfgs 0).N = G (argP m c) := by
  refine (dats m 0 c).arrAt_eq_of_covers 4 _ (by decide +kernel) fun t _ y => ?_
  blk_simp
  rw [after0_4]
  idx_vars y
  unfold out0_4
  frame_out
  refine (g0_at m c t y0 y1).trans ?_
  rw [← G_at]
  refine congrArg _ ?_
  blk_ext [idx t]

theorem final5 (c : Dev nD) : (dats m 0 c).arrAt 5 (cfgs 0).N = D (argP m c) (argW m c) (argM m c) (argV m c) := by
  refine (dats m 0 c).arrAt_eq_of_covers 5 _ (by decide +kernel) fun t _ y => ?_
  blk_simp
  rw [after0_5]
  idx_vars y
  unfold out0_5
  frame_out
  refine (k1 _ _ _ _ _ _ _ y0 y1).trans ?_
  refine Eq.trans (b := dl (g0 m c t (ix2 y0 y1)) _ _ _) rfl ?_
  rw [g0_at]
  refine (congr (congr (congrArg (dl _) (w_at m c t y0 y1)) (m_at m c t y0 y1)) (v_at m c t y0 y1)).trans ?_
  rw [← D_at]
  refine congrArg _ ?_
  blk_ext [idx t]

theorem final6 (c : Dev nD) : (dats m 0 c).arrAt 6 (cfgs 0).N = NM (argP m c) (argM m c) := by
  refine (dats m 0 c).arrAt_eq_of_covers 6 _ (by decide +kernel) fun t _ y => ?_
  blk_simp
  rw [after0_6]
  idx_vars y
  unfold out0_6
  frame_out
  refine (k3 _ _ _ _ _ y0 y1).trans ?_
  refine Eq.trans (b := nm (g0 m c t (ix2 y0 y1)) _) rfl ?_
  rw [g0_at]
  refine (congrArg (nm _) (m_at m c t y0 y1)).trans ?_
  rw [← NM_at]
  refine congrArg _ ?_
  blk_ext [idx t]

theorem final7 (c : Dev nD) : (dats m 0 c).arrAt 7 (cfgs 0).N = NV (argP m c) (argV m c) := by
  refine (dats m 0 c).arrAt_eq_of_covers 7 _ (by decide +kernel) fun t _ y => ?_
  blk_simp
  rw [after0_7]
  idx_vars y
  unfold out0_7
  frame_out
  refine (k4 _ _ _ _ _ y0 y1).trans ?_
  refine Eq.trans (b := nv (g0 m c t (ix2 y0 y1)) _) rfl ?_
  rw [g0_at]
  refine (congrArg (nv _) (v_at m c t y0 y1)).trans ?_
  rw [← NV_at]
  refine congrArg _ ?_
  blk_ext [idx t]

end Cert.Ad38Value

end
-- ==== Proof.Ad39Ref.lean ====
module

public import proofs.«01_k».proof.Proof.AdRow
public import proofs.«01_k».proof.Proof.Gen.Reference39Ideal.Run

@[expose] public section

set_option maxRecDepth 16384

noncomputable section

namespace Cert.Ad39Ref

open Idealize.ShloMosaic Idealize.ShloMosaic.TcCoe Idealize.SL.Sem
open Cert.AdRow
open Cert.Reference39Ideal Cert.Reference39Ideal.Gen Cert.Reference39Ideal.Value

/-! The reference's results, and each read at an index. -/

section
variable (P : FVec Ideal S4x1024x1024 .bf16) (W M V : FVec Ideal S1024x1024 .f32)

/-- The gradient. -/
def G : FVec Ideal S1024x1024 .f32 := Host.reduceAdd (extf .f32 P bitsLt_bf16_f32) (constant S_ .f32 0x00000000#32) reducesTo_S4x1024x1024_S1024x1024_d0 h_S_
/-- The first moment. -/
def NM : FVec Ideal S1024x1024 .f32 := addf (mulf (broadcastInDim S1024x1024 ![] bcast_S_S1024x1024 (constant S_ .f32 0x3F666666#32)) M) (mulf (broadcastInDim S1024x1024 ![] bcast_S_S1024x1024 (constant S_ .f32 0x3DCCCCCD#32)) (G P))
/-- The second moment. -/
def NV : FVec Ideal S1024x1024 .f32 := addf (mulf (broadcastInDim S1024x1024 ![] bcast_S_S1024x1024 (constant S_ .f32 0x3F7FBE77#32)) V) (mulf (broadcastInDim S1024x1024 ![] bcast_S_S1024x1024 (constant S_ .f32 0x3A83126F#32)) (mulf (G P) (G P)))
/-- The change of the weight. -/
def D : FVec Ideal S1024x1024 .f32 := mulf (broadcastInDim S1024x1024 ![] bcast_S_S1024x1024 (constant S_ .f32 0xBA83126F#32)) (addf (Host.divf (Host.divf (NM P M) (broadcastInDim S1024x1024 ![] bcast_S_S1024x1024 (constant S_ .f32 0x3F26BD02#32))) (addf (Host.sqrt (Host.divf (NV P V) (broadcastInDim S1024x1024 ![] bcast_S_S1024x1024 (constant S_ .f32 0x3C231ACC#32)))) (broadcastInDim S1024x1024 ![] bcast_S_S1024x1024 (constant S_ .f32 0x322BCC77#32)))) (mulf (broadcastInDim S1024x1024 ![] bcast_S_S1024x1024 (constant S_ .f32 0x3C23D70A#32)) W))

theorem G_at (r : Fin 1024) (k : Fin 1024) : G P (ix2 r k) = gr fun a => P (ix3 a r k) := by
  pointwise [G]
  exact gr_sum _
theorem NM_at (r : Fin 1024) (k : Fin 1024) : NM P M (ix2 r k) = nm (gr fun a => P (ix3 a r k)) (M (ix2 r k)) := by
  pointwise [NM, G_at, nm]
theorem NV_at (r : Fin 1024) (k : Fin 1024) : NV P V (ix2 r k) = nv (gr fun a => P (ix3 a r k)) (V (ix2 r k)) := by
  pointwise [NV, G_at, nv]
theorem D_at (r : Fin 1024) (k : Fin 1024) : D P W M V (ix2 r k) = dl (gr fun a => P (ix3 a r k)) (W (ix2 r k)) (M (ix2 r k)) (V (ix2 r k)) := by
  pointwise [D, NM_at, NV_at, dl]
end

end Cert.Ad39Ref

end
-- ==== Proof.Ad39Value.lean ====
module

public import proofs.«01_k».proof.Proof.Ad39Ref
public import proofs.«01_k».proof.Proof.Gen.Kernel39Ideal.Value
public import Idealize.ShloMosaic.Lib.Pipeline.ValueKit
public import Idealize.ShloMosaic.Lib.Pipeline.ReadBack

@[expose] public section

set_option maxRecDepth 16384

noncomputable section

namespace Cert.Ad39Value

open Idealize.ShloMosaic Idealize.ShloMosaic.TcCoe Idealize.SL.Sem
open Idealize.ShloMosaic.Pipeline (Dat)
open Cert.AdRow Cert.Ad39Ref
open Cert.Kernel39Ideal Cert.Kernel39Ideal.Gen

variable (m : (ℓ : Loc nD τ sig) → Buf (Elt Ideal) ℓ)

/-- The parts of the gradient, as launched. -/
abbrev argP (c : Dev nD) : FVec Ideal S4x1024x1024 .bf16 := m ((c : Thread nD τ).loc main_arg0)
/-- The weight, as launched. -/
abbrev argW (c : Dev nD) : FVec Ideal S1024x1024 .f32 := m ((c : Thread nD τ).loc main_arg1)
/-- The first moment, as launched. -/
abbrev argM (c : Dev nD) : FVec Ideal S1024x1024 .f32 := m ((c : Thread nD τ).loc main_arg2)
/-- The second moment, as launched. -/
abbrev argV (c : Dev nD) : FVec Ideal S1024x1024 .f32 := m ((c : Thread nD τ).loc main_arg3)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ t.val < 4 :=
  (by decide +kernel : ∀ t : Fin grid0.N, _)

/-- The row of the array that row `r` of block `t` is. -/
abbrev rowOf (t : Fin cfg0.N) (r : Fin 256) : Fin 1024 := ⟨t.val * 256 + r.val, by have := (idx t).2.2.2.2.2.2.2.2; omega⟩

theorem p_at (c : Dev nD) (t : Fin cfg0.N) (a : Fin 4) (r : Fin 256) (k : Fin 1024) :
    (show FVec Ideal S4x256x1024 .bf16 from iblk m c 0 t) (ix3 a r k) = argP m c (ix3 a (rowOf t r) k) := by
  blk_ext [iblk, V, idx t]
theorem w_at (c : Dev nD) (t : Fin cfg0.N) (r : Fin 256) (k : Fin 1024) :
    (show FVec Ideal S256x1024 .f32 from iblk m c 1 t) (ix2 r k) = argW m c (ix2 (rowOf t r) k) := by
  blk_ext [iblk, V, idx t]
theorem m_at (c : Dev nD) (t : Fin cfg0.N) (r : Fin 256) (k : Fin 1024) :
    (show FVec Ideal S256x1024 .f32 from iblk m c 2 t) (ix2 r k) = argM m c (ix2 (rowOf t r) k) := by
  blk_ext [iblk, V, idx t]
theorem v_at (c : Dev nD) (t : Fin cfg0.N) (r : Fin 256) (k : Fin 1024) :
    (show FVec Ideal S256x1024 .f32 from iblk m c 3 t) (ix2 r k) = argV m c (ix2 (rowOf t r) k) := by
  blk_ext [iblk, V, idx t]

theorem inb (a : ℕ) (ha : a < 4) : ∀ d : Fin 3, (![a, 0, 0] : Fin 3 → ℕ) d + (![1, 256, 1024] : Fin 3 → ℕ) d ≤ S4x256x1024.size d := by
  intro d
  fin_cases d
  · show a + 1 ≤ 4; omega
  · show 0 + 256 ≤ 256; omega
  · show 0 + 1024 ≤ 1024; omega

theorem ld_p (B : Vec Ideal S4x256x1024 .bf16) (a : ℕ) (ha : a < 4) (u : Fin 1) (r : Fin 256) (k : Fin 1024) :
    View.ld B (Rect.unit ![a, 0, 0] ![1, 256, 1024] (inb a ha)) (ix3 u r k) = B (ix3 ⟨a, ha⟩ r k) := by
  pointwise

/-- The four parts of the gradient in block `t`. -/
abbrev p0 (c : Dev nD) (t : Fin cfg0.N) (a : ℕ) (ha : a < 4) : FVec Ideal S1x256x1024 .bf16 :=
  View.ld (iblk m c 0 t) (Rect.unit ![a, 0, 0] ![1, 256, 1024] (inb a ha))

/-- The gradient's block. -/
def g0 (c : Dev nD) (t : Fin cfg0.N) : FVec Ideal S256x1024 .f32 :=
  k0_pay2 (F := Ideal) (p0 m c t 0 (by decide)) (p0 m c t 1 (by decide)) (p0 m c t 2 (by decide)) (p0 m c t 3 (by decide))

theorem pp (c : Dev nD) (t : Fin cfg0.N) (a : ℕ) (ha : a < 4) (u : Fin 1) (r : Fin 256) (k : Fin 1024) :
    p0 m c t a ha (ix3 u r k) = argP m c (ix3 ⟨a, ha⟩ (rowOf t r) k) :=
  (ld_p _ a ha u r k).trans (p_at m c t _ r k)

theorem g0_at (c : Dev nD) (t : Fin cfg0.N) (r : Fin 256) (k : Fin 1024) : g0 m c t (ix2 r k) = gr fun a => argP m c (ix3 a (rowOf t r) k) := by
  pointwise [g0, k0_pay2, pp, gr]

section
variable (q0 q1 q2 q3 : FVec Ideal S1x256x1024 .bf16) (w mm v : FVec Ideal S256x1024 .f32) (r : Fin 256) (k : Fin 1024)
theorem k3 : k0_pay3 (F := Ideal) q0 q1 q2 q3 mm (ix2 r k) = nm (k0_pay2 (F := Ideal) q0 q1 q2 q3 (ix2 r k)) (mm (ix2 r k)) := by
  pointwise [k0_pay3, nm]
theorem k4 : k0_pay4 (F := Ideal) q0 q1 q2 q3 v (ix2 r k) = nv (k0_pay2 (F := Ideal) q0 q1 q2 q3 (ix2 r k)) (v (ix2 r k)) := by
  pointwise [k0_pay4, nv]
theorem k1 : k0_pay1 (F := Ideal) (k0_pay5 q0 q1 q2 q3 mm) (k0_pay6 q0 q1 q2 q3 v) w (ix2 r k)
    = dl (k0_pay2 (F := Ideal) q0 q1 q2 q3 (ix2 r k)) (w (ix2 r k)) (mm (ix2 r k)) (v (ix2 r k)) := by
  pointwise [k0_pay1, k0_pay5, k0_pay6, k3, k4, dl]
end

theorem final4 (c : Dev nD) : (dats m 0 c).arrAt 4 (cfgs 0).N = G (argP m c) := by
  refine (dats m 0 c).arrAt_eq_of_covers 4 _ (by decide +kernel) fun t _ y => ?_
  blk_simp
  rw [after0_4]
  idx_vars y
  unfold out0_4
  frame_out
  refine (g0_at m c t y0 y1).trans ?_
  rw [← G_at]
  refine congrArg _ ?_
  blk_ext [idx t]

theorem final5 (c : Dev nD) : (dats m 0 c).arrAt 5 (cfgs 0).N = D (argP m c) (argW m c) (argM m c) (argV m c) := by
  refine (dats m 0 c).arrAt_eq_of_covers 5 _ (by decide +kernel) fun t _ y => ?_
  blk_simp
  rw [after0_5]
  idx_vars y
  unfold out0_5
  frame_out
  refine (k1 _ _ _ _ _ _ _ y0 y1).trans ?_
  refine Eq.trans (b := dl (g0 m c t (ix2 y0 y1)) _ _ _) rfl ?_
  rw [g0_at]
  refine (congr (congr (congrArg (dl _) (w_at m c t y0 y1)) (m_at m c t y0 y1)) (v_at m c t y0 y1)).trans ?_
  rw [← D_at]
  refine congrArg _ ?_
  blk_ext [idx t]

theorem final6 (c : Dev nD) : (dats m 0 c).arrAt 6 (cfgs 0).N = NM (argP m c) (argM m c) := by
  refine (dats m 0 c).arrAt_eq_of_covers 6 _ (by decide +kernel) fun t _ y => ?_
  blk_simp
  rw [after0_6]
  idx_vars y
  unfold out0_6
  frame_out
  refine (k3 _ _ _ _ _ y0 y1).trans ?_
  refine Eq.trans (b := nm (g0 m c t (ix2 y0 y1)) _) rfl ?_
  rw [g0_at]
  refine (congrArg (nm _) (m_at m c t y0 y1)).trans ?_
  rw [← NM_at]
  refine congrArg _ ?_
  blk_ext [idx t]

theorem final7 (c : Dev nD) : (dats m 0 c).arrAt 7 (cfgs 0).N = NV (argP m c) (argV m c) := by
  refine (dats m 0 c).arrAt_eq_of_covers 7 _ (by decide +kernel) fun t _ y => ?_
  blk_simp
  rw [after0_7]
  idx_vars y
  unfold out0_7
  frame_out
  refine (k4 _ _ _ _ _ y0 y1).trans ?_
  refine Eq.trans (b := nv (g0 m c t (ix2 y0 y1)) _) rfl ?_
  rw [g0_at]
  refine (congrArg (nv _) (v_at m c t y0 y1)).trans ?_
  rw [← NV_at]
  refine congrArg _ ?_
  blk_ext [idx t]

end Cert.Ad39Value

end
-- ==== Proof.Ad40Ref.lean ====
module

public import proofs.«01_k».proof.Proof.AdRow
public import proofs.«01_k».proof.Proof.Gen.Reference40Ideal.Run

@[expose] public section

set_option maxRecDepth 16384

noncomputable section

namespace Cert.Ad40Ref

open Idealize.ShloMosaic Idealize.ShloMosaic.TcCoe Idealize.SL.Sem
open Cert.AdRow
open Cert.Reference40Ideal Cert.Reference40Ideal.Gen Cert.Reference40Ideal.Value

/-! The reference's results, and each read at an index. -/

section
variable (P : FVec Ideal S4x1024x2048 .bf16) (W M V : FVec Ideal S1024x2048 .f32)

/-- The gradient. -/
def G : FVec Ideal S1024x2048 .f32 := Host.reduceAdd (extf .f32 P bitsLt_bf16_f32) (constant S_ .f32 0x00000000#32) reducesTo_S4x1024x2048_S1024x2048_d0 h_S_
/-- The first moment. -/
def NM : FVec Ideal S1024x2048 .f32 := addf (mulf (broadcastInDim S1024x2048 ![] bcast_S_S1024x2048 (constant S_ .f32 0x3F666666#32)) M) (mulf (broadcastInDim S1024x2048 ![] bcast_S_S1024x2048 (constant S_ .f32 0x3DCCCCCD#32)) (G P))
/-- The second moment. -/
def NV : FVec Ideal S1024x2048 .f32 := addf (mulf (broadcastInDim S1024x2048 ![] bcast_S_S1024x2048 (constant S_ .f32 0x3F7FBE77#32)) V) (mulf (broadcastInDim S1024x2048 ![] bcast_S_S1024x2048 (constant S_ .f32 0x3A83126F#32)) (mulf (G P) (G P)))
/-- The change of the weight. -/
def D : FVec Ideal S1024x2048 .f32 := mulf (broadcastInDim S1024x2048 ![] bcast_S_S1024x2048 (constant S_ .f32 0xBA83126F#32)) (addf (Host.divf (Host.divf (NM P M) (broadcastInDim S1024x2048 ![] bcast_S_S1024x2048 (constant S_ .f32 0x3F26BD02#32))) (addf (Host.sqrt (Host.divf (NV P V) (broadcastInDim S1024x2048 ![] bcast_S_S1024x2048 (constant S_ .f32 0x3C231ACC#32)))) (broadcastInDim S1024x2048 ![] bcast_S_S1024x2048 (constant S_ .f32 0x322BCC77#32)))) (mulf (broadcastInDim S1024x2048 ![] bcast_S_S1024x2048 (constant S_ .f32 0x3C23D70A#32)) W))

theorem G_at (r : Fin 1024) (k : Fin 2048) : G P (ix2 r k) = gr fun a => P (ix3 a r k) := by
  pointwise [G]
  exact gr_sum _
theorem NM_at (r : Fin 1024) (k : Fin 2048) : NM P M (ix2 r k) = nm (gr fun a => P (ix3 a r k)) (M (ix2 r k)) := by
  pointwise [NM, G_at, nm]
theorem NV_at (r : Fin 1024) (k : Fin 2048) : NV P V (ix2 r k) = nv (gr fun a => P (ix3 a r k)) (V (ix2 r k)) := by
  pointwise [NV, G_at, nv]
theorem D_at (r : Fin 1024) (k : Fin 2048) : D P W M V (ix2 r k) = dl (gr fun a => P (ix3 a r k)) (W (ix2 r k)) (M (ix2 r k)) (V (ix2 r k)) := by
  pointwise [D, NM_at, NV_at, dl]
end

end Cert.Ad40Ref

end
-- ==== Proof.Ad40Value.lean ====
module

public import proofs.«01_k».proof.Proof.Ad40Ref
public import proofs.«01_k».proof.Proof.Gen.Kernel40Ideal.Value
public import Idealize.ShloMosaic.Lib.Pipeline.ValueKit
public import Idealize.ShloMosaic.Lib.Pipeline.ReadBack

@[expose] public section

set_option maxRecDepth 16384

noncomputable section

namespace Cert.Ad40Value

open Idealize.ShloMosaic Idealize.ShloMosaic.TcCoe Idealize.SL.Sem
open Idealize.ShloMosaic.Pipeline (Dat)
open Cert.AdRow Cert.Ad40Ref
open Cert.Kernel40Ideal Cert.Kernel40Ideal.Gen

variable (m : (ℓ : Loc nD τ sig) → Buf (Elt Ideal) ℓ)

/-- The parts of the gradient, as launched. -/
abbrev argP (c : Dev nD) : FVec Ideal S4x1024x2048 .bf16 := m ((c : Thread nD τ).loc main_arg0)
/-- The weight, as launched. -/
abbrev argW (c : Dev nD) : FVec Ideal S1024x2048 .f32 := m ((c : Thread nD τ).loc main_arg1)
/-- The first moment, as launched. -/
abbrev argM (c : Dev nD) : FVec Ideal S1024x2048 .f32 := m ((c : Thread nD τ).loc main_arg2)
/-- The second moment, as launched. -/
abbrev argV (c : Dev nD) : FVec Ideal S1024x2048 .f32 := m ((c : Thread nD τ).loc main_arg3)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ t.val < 8 :=
  (by decide +kernel : ∀ t : Fin grid0.N, _)

/-- The row of the array that row `r` of block `t` is. -/
abbrev rowOf (t : Fin cfg0.N) (r : Fin 128) : Fin 1024 := ⟨t.val * 128 + r.val, by have := (idx t).2.2.2.2.2.2.2.2; omega⟩

theorem p_at (c : Dev nD) (t : Fin cfg0.N) (a : Fin 4) (r : Fin 128) (k : Fin 2048) :
    (show FVec Ideal S4x128x2048 .bf16 from iblk m c 0 t) (ix3 a r k) = argP m c (ix3 a (rowOf t r) k) := by
  blk_ext [iblk, V, idx t]
theorem w_at (c : Dev nD) (t : Fin cfg0.N) (r : Fin 128) (k : Fin 2048) :
    (show FVec Ideal S128x2048 .f32 from iblk m c 1 t) (ix2 r k) = argW m c (ix2 (rowOf t r) k) := by
  blk_ext [iblk, V, idx t]
theorem m_at (c : Dev nD) (t : Fin cfg0.N) (r : Fin 128) (k : Fin 2048) :
    (show FVec Ideal S128x2048 .f32 from iblk m c 2 t) (ix2 r k) = argM m c (ix2 (rowOf t r) k) := by
  blk_ext [iblk, V, idx t]
theorem v_at (c : Dev nD) (t : Fin cfg0.N) (r : Fin 128) (k : Fin 2048) :
    (show FVec Ideal S128x2048 .f32 from iblk m c 3 t) (ix2 r k) = argV m c (ix2 (rowOf t r) k) := by
  blk_ext [iblk, V, idx t]

theorem inb (a : ℕ) (ha : a < 4) : ∀ d : Fin 3, (![a, 0, 0] : Fin 3 → ℕ) d + (![1, 128, 2048] : Fin 3 → ℕ) d ≤ S4x128x2048.size d := by
  intro d
  fin_cases d
  · show a + 1 ≤ 4; omega
  · show 0 + 128 ≤ 128; omega
  · show 0 + 2048 ≤ 2048; omega

theorem ld_p (B : Vec Ideal S4x128x2048 .bf16) (a : ℕ) (ha : a < 4) (u : Fin 1) (r : Fin 128) (k : Fin 2048) :
    View.ld B (Rect.unit ![a, 0, 0] ![1, 128, 2048] (inb a ha)) (ix3 u r k) = B (ix3 ⟨a, ha⟩ r k) := by
  pointwise

/-- The four parts of the gradient in block `t`. -/
abbrev p0 (c : Dev nD) (t : Fin cfg0.N) (a : ℕ) (ha : a < 4) : FVec Ideal S1x128x2048 .bf16 :=
  View.ld (iblk m c 0 t) (Rect.unit ![a, 0, 0] ![1, 128, 2048] (inb a ha))

/-- The gradient's block. -/
def g0 (c : Dev nD) (t : Fin cfg0.N) : FVec Ideal S128x2048 .f32 :=
  k0_pay2 (F := Ideal) (p0 m c t 0 (by decide)) (p0 m c t 1 (by decide)) (p0 m c t 2 (by decide)) (p0 m c t 3 (by decide))

theorem pp (c : Dev nD) (t : Fin cfg0.N) (a : ℕ) (ha : a < 4) (u : Fin 1) (r : Fin 128) (k : Fin 2048) :
    p0 m c t a ha (ix3 u r k) = argP m c (ix3 ⟨a, ha⟩ (rowOf t r) k) :=
  (ld_p _ a ha u r k).trans (p_at m c t _ r k)

theorem g0_at (c : Dev nD) (t : Fin cfg0.N) (r : Fin 128) (k : Fin 2048) : g0 m c t (ix2 r k) = gr fun a => argP m c (ix3 a (rowOf t r) k) := by
  pointwise [g0, k0_pay2, pp, gr]

section
variable (q0 q1 q2 q3 : FVec Ideal S1x128x2048 .bf16) (w mm v : FVec Ideal S128x2048 .f32) (r : Fin 128) (k : Fin 2048)
theorem k3 : k0_pay3 (F := Ideal) q0 q1 q2 q3 mm (ix2 r k) = nm (k0_pay2 (F := Ideal) q0 q1 q2 q3 (ix2 r k)) (mm (ix2 r k)) := by
  pointwise [k0_pay3, nm]
theorem k4 : k0_pay4 (F := Ideal) q0 q1 q2 q3 v (ix2 r k) = nv (k0_pay2 (F := Ideal) q0 q1 q2 q3 (ix2 r k)) (v (ix2 r k)) := by
  pointwise [k0_pay4, nv]
theorem k1 : k0_pay1 (F := Ideal) (k0_pay5 q0 q1 q2 q3 mm) (k0_pay6 q0 q1 q2 q3 v) w (ix2 r k)
    = dl (k0_pay2 (F := Ideal) q0 q1 q2 q3 (ix2 r k)) (w (ix2 r k)) (mm (ix2 r k)) (v (ix2 r k)) := by
  pointwise [k0_pay1, k0_pay5, k0_pay6, k3, k4, dl]
end

theorem final4 (c : Dev nD) : (dats m 0 c).arrAt 4 (cfgs 0).N = G (argP m c) := by
  refine (dats m 0 c).arrAt_eq_of_covers 4 _ (by decide +kernel) fun t _ y => ?_
  blk_simp
  rw [after0_4]
  idx_vars y
  unfold out0_4
  frame_out
  refine (g0_at m c t y0 y1).trans ?_
  rw [← G_at]
  refine congrArg _ ?_
  blk_ext [idx t]

theorem final5 (c : Dev nD) : (dats m 0 c).arrAt 5 (cfgs 0).N = D (argP m c) (argW m c) (argM m c) (argV m c) := by
  refine (dats m 0 c).arrAt_eq_of_covers 5 _ (by decide +kernel) fun t _ y => ?_
  blk_simp
  rw [after0_5]
  idx_vars y
  unfold out0_5
  frame_out
  refine (k1 _ _ _ _ _ _ _ y0 y1).trans ?_
  refine Eq.trans (b := dl (g0 m c t (ix2 y0 y1)) _ _ _) rfl ?_
  rw [g0_at]
  refine (congr (congr (congrArg (dl _) (w_at m c t y0 y1)) (m_at m c t y0 y1)) (v_at m c t y0 y1)).trans ?_
  rw [← D_at]
  refine congrArg _ ?_
  blk_ext [idx t]

theorem final6 (c : Dev nD) : (dats m 0 c).arrAt 6 (cfgs 0).N = NM (argP m c) (argM m c) := by
  refine (dats m 0 c).arrAt_eq_of_covers 6 _ (by decide +kernel) fun t _ y => ?_
  blk_simp
  rw [after0_6]
  idx_vars y
  unfold out0_6
  frame_out
  refine (k3 _ _ _ _ _ y0 y1).trans ?_
  refine Eq.trans (b := nm (g0 m c t (ix2 y0 y1)) _) rfl ?_
  rw [g0_at]
  refine (congrArg (nm _) (m_at m c t y0 y1)).trans ?_
  rw [← NM_at]
  refine congrArg _ ?_
  blk_ext [idx t]

theorem final7 (c : Dev nD) : (dats m 0 c).arrAt 7 (cfgs 0).N = NV (argP m c) (argV m c) := by
  refine (dats m 0 c).arrAt_eq_of_covers 7 _ (by decide +kernel) fun t _ y => ?_
  blk_simp
  rw [after0_7]
  idx_vars y
  unfold out0_7
  frame_out
  refine (k4 _ _ _ _ _ y0 y1).trans ?_
  refine Eq.trans (b := nv (g0 m c t (ix2 y0 y1)) _) rfl ?_
  rw [g0_at]
  refine (congrArg (nv _) (v_at m c t y0 y1)).trans ?_
  rw [← NV_at]
  refine congrArg _ ?_
  blk_ext [idx t]

end Cert.Ad40Value

end
-- ==== Proof.Ad41Ref.lean ====
module

public import proofs.«01_k».proof.Proof.AdRow
public import proofs.«01_k».proof.Proof.Gen.Reference41Ideal.Run

@[expose] public section

set_option maxRecDepth 16384

noncomputable section

namespace Cert.Ad41Ref

open Idealize.ShloMosaic Idealize.ShloMosaic.TcCoe Idealize.SL.Sem
open Cert.AdRow
open Cert.Reference41Ideal Cert.Reference41Ideal.Gen Cert.Reference41Ideal.Value

/-! The reference's results, and each read at an index. -/

section
variable (P : FVec Ideal S4x8192x1024 .bf16) (W M V : FVec Ideal S8192x1024 .f32)

/-- The gradient. -/
def G : FVec Ideal S8192x1024 .f32 := Host.reduceAdd (extf .f32 P bitsLt_bf16_f32) (constant S_ .f32 0x00000000#32) reducesTo_S4x8192x1024_S8192x1024_d0 h_S_
/-- The first moment. -/
def NM : FVec Ideal S8192x1024 .f32 := addf (mulf (broadcastInDim S8192x1024 ![] bcast_S_S8192x1024 (constant S_ .f32 0x3F666666#32)) M) (mulf (broadcastInDim S8192x1024 ![] bcast_S_S8192x1024 (constant S_ .f32 0x3DCCCCCD#32)) (G P))
/-- The second moment. -/
def NV : FVec Ideal S8192x1024 .f32 := addf (mulf (broadcastInDim S8192x1024 ![] bcast_S_S8192x1024 (constant S_ .f32 0x3F7FBE77#32)) V) (mulf (broadcastInDim S8192x1024 ![] bcast_S_S8192x1024 (constant S_ .f32 0x3A83126F#32)) (mulf (G P) (G P)))
/-- The change of the weight. -/
def D : FVec Ideal S8192x1024 .f32 := mulf (broadcastInDim S8192x1024 ![] bcast_S_S8192x1024 (constant S_ .f32 0xBA83126F#32)) (addf (Host.divf (Host.divf (NM P M) (broadcastInDim S8192x1024 ![] bcast_S_S8192x1024 (constant S_ .f32 0x3F26BD02#32))) (addf (Host.sqrt (Host.divf (NV P V) (broadcastInDim S8192x1024 ![] bcast_S_S8192x1024 (constant S_ .f32 0x3C231ACC#32)))) (broadcastInDim S8192x1024 ![] bcast_S_S8192x1024 (constant S_ .f32 0x322BCC77#32)))) (mulf (broadcastInDim S8192x1024 ![] bcast_S_S8192x1024 (constant S_ .f32 0x3C23D70A#32)) W))

theorem G_at (r : Fin 8192) (k : Fin 1024) : G P (ix2 r k) = gr fun a => P (ix3 a r k) := by
  pointwise [G]
  exact gr_sum _
theorem NM_at (r : Fin 8192) (k : Fin 1024) : NM P M (ix2 r k) = nm (gr fun a => P (ix3 a r k)) (M (ix2 r k)) := by
  pointwise [NM, G_at, nm]
theorem NV_at (r : Fin 8192) (k : Fin 1024) : NV P V (ix2 r k) = nv (gr fun a => P (ix3 a r k)) (V (ix2 r k)) := by
  pointwise [NV, G_at, nv]
theorem D_at (r : Fin 8192) (k : Fin 1024) : D P W M V (ix2 r k) = dl (gr fun a => P (ix3 a r k)) (W (ix2 r k)) (M (ix2 r k)) (V (ix2 r k)) := by
  pointwise [D, NM_at, NV_at, dl]
end

end Cert.Ad41Ref

end
-- ==== Proof.Ad41Value.lean ====
module

public import proofs.«01_k».proof.Proof.Ad41Ref
public import proofs.«01_k».proof.Proof.Gen.Kernel41Ideal.Value
public import Idealize.ShloMosaic.Lib.Pipeline.ValueKit
public import Idealize.ShloMosaic.Lib.Pipeline.ReadBack

@[expose] public section

set_option maxRecDepth 16384

noncomputable section

namespace Cert.Ad41Value

open Idealize.ShloMosaic Idealize.ShloMosaic.TcCoe Idealize.SL.Sem
open Idealize.ShloMosaic.Pipeline (Dat)
open Cert.AdRow Cert.Ad41Ref
open Cert.Kernel41Ideal Cert.Kernel41Ideal.Gen

variable (m : (ℓ : Loc nD τ sig) → Buf (Elt Ideal) ℓ)

/-- The parts of the gradient, as launched. -/
abbrev argP (c : Dev nD) : FVec Ideal S4x8192x1024 .bf16 := m ((c : Thread nD τ).loc main_arg0)
/-- The weight, as launched. -/
abbrev argW (c : Dev nD) : FVec Ideal S8192x1024 .f32 := m ((c : Thread nD τ).loc main_arg1)
/-- The first moment, as launched. -/
abbrev argM (c : Dev nD) : FVec Ideal S8192x1024 .f32 := m ((c : Thread nD τ).loc main_arg2)
/-- The second moment, as launched. -/
abbrev argV (c : Dev nD) : FVec Ideal S8192x1024 .f32 := m ((c : Thread nD τ).loc main_arg3)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ t.val < 32 :=
  (by decide +kernel : ∀ t : Fin grid0.N, _)

/-- The row of the array that row `r` of block `t` is. -/
abbrev rowOf (t : Fin cfg0.N) (r : Fin 256) : Fin 8192 := ⟨t.val * 256 + r.val, by have := (idx t).2.2.2.2.2.2.2.2; omega⟩

theorem p_at (c : Dev nD) (t : Fin cfg0.N) (a : Fin 4) (r : Fin 256) (k : Fin 1024) :
    (show FVec Ideal S4x256x1024 .bf16 from iblk m c 0 t) (ix3 a r k) = argP m c (ix3 a (rowOf t r) k) := by
  blk_ext [iblk, V, idx t]
theorem w_at (c : Dev nD) (t : Fin cfg0.N) (r : Fin 256) (k : Fin 1024) :
    (show FVec Ideal S256x1024 .f32 from iblk m c 1 t) (ix2 r k) = argW m c (ix2 (rowOf t r) k) := by
  blk_ext [iblk, V, idx t]
theorem m_at (c : Dev nD) (t : Fin cfg0.N) (r : Fin 256) (k : Fin 1024) :
    (show FVec Ideal S256x1024 .f32 from iblk m c 2 t) (ix2 r k) = argM m c (ix2 (rowOf t r) k) := by
  blk_ext [iblk, V, idx t]
theorem v_at (c : Dev nD) (t : Fin cfg0.N) (r : Fin 256) (k : Fin 1024) :
    (show FVec Ideal S256x1024 .f32 from iblk m c 3 t) (ix2 r k) = argV m c (ix2 (rowOf t r) k) := by
  blk_ext [iblk, V, idx t]

theorem inb (a : ℕ) (ha : a < 4) : ∀ d : Fin 3, (![a, 0, 0] : Fin 3 → ℕ) d + (![1, 256, 1024] : Fin 3 → ℕ) d ≤ S4x256x1024.size d := by
  intro d
  fin_cases d
  · show a + 1 ≤ 4; omega
  · show 0 + 256 ≤ 256; omega
  · show 0 + 1024 ≤ 1024; omega

theorem ld_p (B : Vec Ideal S4x256x1024 .bf16) (a : ℕ) (ha : a < 4) (u : Fin 1) (r : Fin 256) (k : Fin 1024) :
    View.ld B (Rect.unit ![a, 0, 0] ![1, 256, 1024] (inb a ha)) (ix3 u r k) = B (ix3 ⟨a, ha⟩ r k) := by
  pointwise

/-- The four parts of the gradient in block `t`. -/
abbrev p0 (c : Dev nD) (t : Fin cfg0.N) (a : ℕ) (ha : a < 4) : FVec Ideal S1x256x1024 .bf16 :=
  View.ld (iblk m c 0 t) (Rect.unit ![a, 0, 0] ![1, 256, 1024] (inb a ha))

/-- The gradient's block. -/
def g0 (c : Dev nD) (t : Fin cfg0.N) : FVec Ideal S256x1024 .f32 :=
  k0_pay2 (F := Ideal) (p0 m c t 0 (by decide)) (p0 m c t 1 (by decide)) (p0 m c t 2 (by decide)) (p0 m c t 3 (by decide))

theorem pp (c : Dev nD) (t : Fin cfg0.N) (a : ℕ) (ha : a < 4) (u : Fin 1) (r : Fin 256) (k : Fin 1024) :
    p0 m c t a ha (ix3 u r k) = argP m c (ix3 ⟨a, ha⟩ (rowOf t r) k) :=
  (ld_p _ a ha u r k).trans (p_at m c t _ r k)

theorem g0_at (c : Dev nD) (t : Fin cfg0.N) (r : Fin 256) (k : Fin 1024) : g0 m c t (ix2 r k) = gr fun a => argP m c (ix3 a (rowOf t r) k) := by
  pointwise [g0, k0_pay2, pp, gr]

section
variable (q0 q1 q2 q3 : FVec Ideal S1x256x1024 .bf16) (w mm v : FVec Ideal S256x1024 .f32) (r : Fin 256) (k : Fin 1024)
theorem k3 : k0_pay3 (F := Ideal) q0 q1 q2 q3 mm (ix2 r k) = nm (k0_pay2 (F := Ideal) q0 q1 q2 q3 (ix2 r k)) (mm (ix2 r k)) := by
  pointwise [k0_pay3, nm]
theorem k4 : k0_pay4 (F := Ideal) q0 q1 q2 q3 v (ix2 r k) = nv (k0_pay2 (F := Ideal) q0 q1 q2 q3 (ix2 r k)) (v (ix2 r k)) := by
  pointwise [k0_pay4, nv]
theorem k1 : k0_pay1 (F := Ideal) (k0_pay5 q0 q1 q2 q3 mm) (k0_pay6 q0 q1 q2 q3 v) w (ix2 r k)
    = dl (k0_pay2 (F := Ideal) q0 q1 q2 q3 (ix2 r k)) (w (ix2 r k)) (mm (ix2 r k)) (v (ix2 r k)) := by
  pointwise [k0_pay1, k0_pay5, k0_pay6, k3, k4, dl]
end

theorem final4 (c : Dev nD) : (dats m 0 c).arrAt 4 (cfgs 0).N = G (argP m c) := by
  refine (dats m 0 c).arrAt_eq_of_covers 4 _ (by decide +kernel) fun t _ y => ?_
  blk_simp
  rw [after0_4]
  idx_vars y
  unfold out0_4
  frame_out
  refine (g0_at m c t y0 y1).trans ?_
  rw [← G_at]
  refine congrArg _ ?_
  blk_ext [idx t]

theorem final5 (c : Dev nD) : (dats m 0 c).arrAt 5 (cfgs 0).N = D (argP m c) (argW m c) (argM m c) (argV m c) := by
  refine (dats m 0 c).arrAt_eq_of_covers 5 _ (by decide +kernel) fun t _ y => ?_
  blk_simp
  rw [after0_5]
  idx_vars y
  unfold out0_5
  frame_out
  refine (k1 _ _ _ _ _ _ _ y0 y1).trans ?_
  refine Eq.trans (b := dl (g0 m c t (ix2 y0 y1)) _ _ _) rfl ?_
  rw [g0_at]
  refine (congr (congr (congrArg (dl _) (w_at m c t y0 y1)) (m_at m c t y0 y1)) (v_at m c t y0 y1)).trans ?_
  rw [← D_at]
  refine congrArg _ ?_
  blk_ext [idx t]

theorem final6 (c : Dev nD) : (dats m 0 c).arrAt 6 (cfgs 0).N = NM (argP m c) (argM m c) := by
  refine (dats m 0 c).arrAt_eq_of_covers 6 _ (by decide +kernel) fun t _ y => ?_
  blk_simp
  rw [after0_6]
  idx_vars y
  unfold out0_6
  frame_out
  refine (k3 _ _ _ _ _ y0 y1).trans ?_
  refine Eq.trans (b := nm (g0 m c t (ix2 y0 y1)) _) rfl ?_
  rw [g0_at]
  refine (congrArg (nm _) (m_at m c t y0 y1)).trans ?_
  rw [← NM_at]
  refine congrArg _ ?_
  blk_ext [idx t]

theorem final7 (c : Dev nD) : (dats m 0 c).arrAt 7 (cfgs 0).N = NV (argP m c) (argV m c) := by
  refine (dats m 0 c).arrAt_eq_of_covers 7 _ (by decide +kernel) fun t _ y => ?_
  blk_simp
  rw [after0_7]
  idx_vars y
  unfold out0_7
  frame_out
  refine (k4 _ _ _ _ _ y0 y1).trans ?_
  refine Eq.trans (b := nv (g0 m c t (ix2 y0 y1)) _) rfl ?_
  rw [g0_at]
  refine (congrArg (nv _) (v_at m c t y0 y1)).trans ?_
  rw [← NV_at]
  refine congrArg _ ?_
  blk_ext [idx t]

end Cert.Ad41Value

end
-- ==== Proof.Ad42Ref.lean ====
module

public import proofs.«01_k».proof.Proof.AdRow
public import proofs.«01_k».proof.Proof.Gen.Reference42Ideal.Run

@[expose] public section

set_option maxRecDepth 16384

noncomputable section

namespace Cert.Ad42Ref

open Idealize.ShloMosaic Idealize.ShloMosaic.TcCoe Idealize.SL.Sem
open Cert.AdRow
open Cert.Reference42Ideal Cert.Reference42Ideal.Gen Cert.Reference42Ideal.Value

/-! The reference's results, and each read at an index. -/

section
variable (P : FVec Ideal S4x4096x2048 .bf16) (W M V : FVec Ideal S4096x2048 .f32)

/-- The gradient. -/
def G : FVec Ideal S4096x2048 .f32 := Host.reduceAdd (extf .f32 P bitsLt_bf16_f32) (constant S_ .f32 0x00000000#32) reducesTo_S4x4096x2048_S4096x2048_d0 h_S_
/-- The first moment. -/
def NM : FVec Ideal S4096x2048 .f32 := addf (mulf (broadcastInDim S4096x2048 ![] bcast_S_S4096x2048 (constant S_ .f32 0x3F666666#32)) M) (mulf (broadcastInDim S4096x2048 ![] bcast_S_S4096x2048 (constant S_ .f32 0x3DCCCCCD#32)) (G P))
/-- The second moment. -/
def NV : FVec Ideal S4096x2048 .f32 := addf (mulf (broadcastInDim S4096x2048 ![] bcast_S_S4096x2048 (constant S_ .f32 0x3F7FBE77#32)) V) (mulf (broadcastInDim S4096x2048 ![] bcast_S_S4096x2048 (constant S_ .f32 0x3A83126F#32)) (mulf (G P) (G P)))
/-- The change of the weight. -/
def D : FVec Ideal S4096x2048 .f32 := mulf (broadcastInDim S4096x2048 ![] bcast_S_S4096x2048 (constant S_ .f32 0xBA83126F#32)) (addf (Host.divf (Host.divf (NM P M) (broadcastInDim S4096x2048 ![] bcast_S_S4096x2048 (constant S_ .f32 0x3F26BD02#32))) (addf (Host.sqrt (Host.divf (NV P V) (broadcastInDim S4096x2048 ![] bcast_S_S4096x2048 (constant S_ .f32 0x3C231ACC#32)))) (broadcastInDim S4096x2048 ![] bcast_S_S4096x2048 (constant S_ .f32 0x322BCC77#32)))) (mulf (broadcastInDim S4096x2048 ![] bcast_S_S4096x2048 (constant S_ .f32 0x3C23D70A#32)) W))

theorem G_at (r : Fin 4096) (k : Fin 2048) : G P (ix2 r k) = gr fun a => P (ix3 a r k) := by
  pointwise [G]
  exact gr_sum _
theorem NM_at (r : Fin 4096) (k : Fin 2048) : NM P M (ix2 r k) = nm (gr fun a => P (ix3 a r k)) (M (ix2 r k)) := by
  pointwise [NM, G_at, nm]
theorem NV_at (r : Fin 4096) (k : Fin 2048) : NV P V (ix2 r k) = nv (gr fun a => P (ix3 a r k)) (V (ix2 r k)) := by
  pointwise [NV, G_at, nv]
theorem D_at (r : Fin 4096) (k : Fin 2048) : D P W M V (ix2 r k) = dl (gr fun a => P (ix3 a r k)) (W (ix2 r k)) (M (ix2 r k)) (V (ix2 r k)) := by
  pointwise [D, NM_at, NV_at, dl]
end

end Cert.Ad42Ref

end
-- ==== Proof.Ad42Value.lean ====
module

public import proofs.«01_k».proof.Proof.Ad42Ref
public import proofs.«01_k».proof.Proof.Gen.Kernel42Ideal.Value
public import Idealize.ShloMosaic.Lib.Pipeline.ValueKit
public import Idealize.ShloMosaic.Lib.Pipeline.ReadBack

@[expose] public section

set_option maxRecDepth 16384

noncomputable section

namespace Cert.Ad42Value

open Idealize.ShloMosaic Idealize.ShloMosaic.TcCoe Idealize.SL.Sem
open Idealize.ShloMosaic.Pipeline (Dat)
open Cert.AdRow Cert.Ad42Ref
open Cert.Kernel42Ideal Cert.Kernel42Ideal.Gen

variable (m : (ℓ : Loc nD τ sig) → Buf (Elt Ideal) ℓ)

/-- The parts of the gradient, as launched. -/
abbrev argP (c : Dev nD) : FVec Ideal S4x4096x2048 .bf16 := m ((c : Thread nD τ).loc main_arg0)
/-- The weight, as launched. -/
abbrev argW (c : Dev nD) : FVec Ideal S4096x2048 .f32 := m ((c : Thread nD τ).loc main_arg1)
/-- The first moment, as launched. -/
abbrev argM (c : Dev nD) : FVec Ideal S4096x2048 .f32 := m ((c : Thread nD τ).loc main_arg2)
/-- The second moment, as launched. -/
abbrev argV (c : Dev nD) : FVec Ideal S4096x2048 .f32 := m ((c : Thread nD τ).loc main_arg3)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ t.val < 32 :=
  (by decide +kernel : ∀ t : Fin grid0.N, _)

/-- The row of the array that row `r` of block `t` is. -/
abbrev rowOf (t : Fin cfg0.N) (r : Fin 128) : Fin 4096 := ⟨t.val * 128 + r.val, by have := (idx t).2.2.2.2.2.2.2.2; omega⟩

theorem p_at (c : Dev nD) (t : Fin cfg0.N) (a : Fin 4) (r : Fin 128) (k : Fin 2048) :
    (show FVec Ideal S4x128x2048 .bf16 from iblk m c 0 t) (ix3 a r k) = argP m c (ix3 a (rowOf t r) k) := by
  blk_ext [iblk, V, idx t]
theorem w_at (c : Dev nD) (t : Fin cfg0.N) (r : Fin 128) (k : Fin 2048) :
    (show FVec Ideal S128x2048 .f32 from iblk m c 1 t) (ix2 r k) = argW m c (ix2 (rowOf t r) k) := by
  blk_ext [iblk, V, idx t]
theorem m_at (c : Dev nD) (t : Fin cfg0.N) (r : Fin 128) (k : Fin 2048) :
    (show FVec Ideal S128x2048 .f32 from iblk m c 2 t) (ix2 r k) = argM m c (ix2 (rowOf t r) k) := by
  blk_ext [iblk, V, idx t]
theorem v_at (c : Dev nD) (t : Fin cfg0.N) (r : Fin 128) (k : Fin 2048) :
    (show FVec Ideal S128x2048 .f32 from iblk m c 3 t) (ix2 r k) = argV m c (ix2 (rowOf t r) k) := by
  blk_ext [iblk, V, idx t]

theorem inb (a : ℕ) (ha : a < 4) : ∀ d : Fin 3, (![a, 0, 0] : Fin 3 → ℕ) d + (![1, 128, 2048] : Fin 3 → ℕ) d ≤ S4x128x2048.size d := by
  intro d
  fin_cases d
  · show a + 1 ≤ 4; omega
  · show 0 + 128 ≤ 128; omega
  · show 0 + 2048 ≤ 2048; omega

theorem ld_p (B : Vec Ideal S4x128x2048 .bf16) (a : ℕ) (ha : a < 4) (u : Fin 1) (r : Fin 128) (k : Fin 2048) :
    View.ld B (Rect.unit ![a, 0, 0] ![1, 128, 2048] (inb a ha)) (ix3 u r k) = B (ix3 ⟨a, ha⟩ r k) := by
  pointwise

/-- The four parts of the gradient in block `t`. -/
abbrev p0 (c : Dev nD) (t : Fin cfg0.N) (a : ℕ) (ha : a < 4) : FVec Ideal S1x128x2048 .bf16 :=
  View.ld (iblk m c 0 t) (Rect.unit ![a, 0, 0] ![1, 128, 2048] (inb a ha))

/-- The gradient's block. -/
def g0 (c : Dev nD) (t : Fin cfg0.N) : FVec Ideal S128x2048 .f32 :=
  k0_pay2 (F := Ideal) (p0 m c t 0 (by decide)) (p0 m c t 1 (by decide)) (p0 m c t 2 (by decide)) (p0 m c t 3 (by decide))

theorem pp (c : Dev nD) (t : Fin cfg0.N) (a : ℕ) (ha : a < 4) (u : Fin 1) (r : Fin 128) (k : Fin 2048) :
    p0 m c t a ha (ix3 u r k) = argP m c (ix3 ⟨a, ha⟩ (rowOf t r) k) :=
  (ld_p _ a ha u r k).trans (p_at m c t _ r k)

theorem g0_at (c : Dev nD) (t : Fin cfg0.N) (r : Fin 128) (k : Fin 2048) : g0 m c t (ix2 r k) = gr fun a => argP m c (ix3 a (rowOf t r) k) := by
  pointwise [g0, k0_pay2, pp, gr]

section
variable (q0 q1 q2 q3 : FVec Ideal S1x128x2048 .bf16) (w mm v : FVec Ideal S128x2048 .f32) (r : Fin 128) (k : Fin 2048)
theorem k3 : k0_pay3 (F := Ideal) q0 q1 q2 q3 mm (ix2 r k) = nm (k0_pay2 (F := Ideal) q0 q1 q2 q3 (ix2 r k)) (mm (ix2 r k)) := by
  pointwise [k0_pay3, nm]
theorem k4 : k0_pay4 (F := Ideal) q0 q1 q2 q3 v (ix2 r k) = nv (k0_pay2 (F := Ideal) q0 q1 q2 q3 (ix2 r k)) (v (ix2 r k)) := by
  pointwise [k0_pay4, nv]
theorem k1 : k0_pay1 (F := Ideal) (k0_pay5 q0 q1 q2 q3 mm) (k0_pay6 q0 q1 q2 q3 v) w (ix2 r k)
    = dl (k0_pay2 (F := Ideal) q0 q1 q2 q3 (ix2 r k)) (w (ix2 r k)) (mm (ix2 r k)) (v (ix2 r k)) := by
  pointwise [k0_pay1, k0_pay5, k0_pay6, k3, k4, dl]
end

theorem final4 (c : Dev nD) : (dats m 0 c).arrAt 4 (cfgs 0).N = G (argP m c) := by
  refine (dats m 0 c).arrAt_eq_of_covers 4 _ (by decide +kernel) fun t _ y => ?_
  blk_simp
  rw [after0_4]
  idx_vars y
  unfold out0_4
  frame_out
  refine (g0_at m c t y0 y1).trans ?_
  rw [← G_at]
  refine congrArg _ ?_
  blk_ext [idx t]

theorem final5 (c : Dev nD) : (dats m 0 c).arrAt 5 (cfgs 0).N = D (argP m c) (argW m c) (argM m c) (argV m c) := by
  refine (dats m 0 c).arrAt_eq_of_covers 5 _ (by decide +kernel) fun t _ y => ?_
  blk_simp
  rw [after0_5]
  idx_vars y
  unfold out0_5
  frame_out
  refine (k1 _ _ _ _ _ _ _ y0 y1).trans ?_
  refine Eq.trans (b := dl (g0 m c t (ix2 y0 y1)) _ _ _) rfl ?_
  rw [g0_at]
  refine (congr (congr (congrArg (dl _) (w_at m c t y0 y1)) (m_at m c t y0 y1)) (v_at m c t y0 y1)).trans ?_
  rw [← D_at]
  refine congrArg _ ?_
  blk_ext [idx t]

theorem final6 (c : Dev nD) : (dats m 0 c).arrAt 6 (cfgs 0).N = NM (argP m c) (argM m c) := by
  refine (dats m 0 c).arrAt_eq_of_covers 6 _ (by decide +kernel) fun t _ y => ?_
  blk_simp
  rw [after0_6]
  idx_vars y
  unfold out0_6
  frame_out
  refine (k3 _ _ _ _ _ y0 y1).trans ?_
  refine Eq.trans (b := nm (g0 m c t (ix2 y0 y1)) _) rfl ?_
  rw [g0_at]
  refine (congrArg (nm _) (m_at m c t y0 y1)).trans ?_
  rw [← NM_at]
  refine congrArg _ ?_
  blk_ext [idx t]

theorem final7 (c : Dev nD) : (dats m 0 c).arrAt 7 (cfgs 0).N = NV (argP m c) (argV m c) := by
  refine (dats m 0 c).arrAt_eq_of_covers 7 _ (by decide +kernel) fun t _ y => ?_
  blk_simp
  rw [after0_7]
  idx_vars y
  unfold out0_7
  frame_out
  refine (k4 _ _ _ _ _ y0 y1).trans ?_
  refine Eq.trans (b := nv (g0 m c t (ix2 y0 y1)) _) rfl ?_
  rw [g0_at]
  refine (congrArg (nv _) (v_at m c t y0 y1)).trans ?_
  rw [← NV_at]
  refine congrArg _ ?_
  blk_ext [idx t]

end Cert.Ad42Value

end
-- ==== Proof.AdRow8.lean ====
module

public import proofs.«01_k».proof.Proof.AdRow

@[expose] public section

noncomputable section

namespace Cert.AdRow

open Idealize.ShloMosaic

/-- The gradient: the sum of its eight parts. -/
def gr8 (p : Fin 8 → EReal) : EReal := p 0 + p 1 + p 2 + p 3 + p 4 + p 5 + p 6 + p 7

theorem gr8_sum (p : Fin 8 → EReal) : ∑ a : Fin 8, p a = gr8 p := Fin.sum_univ_eight p

end Cert.AdRow

end
-- ==== Proof.Ad43Ref.lean ====
module

public import proofs.«01_k».proof.Proof.AdRow8
public import proofs.«01_k».proof.Proof.Gen.Reference43Ideal.Run

@[expose] public section

set_option maxRecDepth 16384

noncomputable section

namespace Cert.Ad43Ref

open Idealize.ShloMosaic Idealize.ShloMosaic.TcCoe Idealize.SL.Sem
open Cert.AdRow
open Cert.Reference43Ideal Cert.Reference43Ideal.Gen Cert.Reference43Ideal.Value

/-! The reference's results, and each read at an index. -/

section
variable (P : FVec Ideal S8x280x128 .f32) (W M V : FVec Ideal S280x128 .f32)

/-- The gradient. -/
def G : FVec Ideal S280x128 .f32 := Host.reduceAdd P (constant S_ .f32 0x00000000#32) reducesTo_S8x280x128_S280x128_d0 h_S_
/-- The first moment. -/
def NM : FVec Ideal S280x128 .f32 := addf (mulf (broadcastInDim S280x128 ![] bcast_S_S280x128 (constant S_ .f32 0x3F666666#32)) M) (mulf (broadcastInDim S280x128 ![] bcast_S_S280x128 (constant S_ .f32 0x3DCCCCCD#32)) (G P))
/-- The second moment. -/
def NV : FVec Ideal S280x128 .f32 := addf (mulf (broadcastInDim S280x128 ![] bcast_S_S280x128 (constant S_ .f32 0x3F7FBE77#32)) V) (mulf (broadcastInDim S280x128 ![] bcast_S_S280x128 (constant S_ .f32 0x3A83126F#32)) (mulf (G P) (G P)))
/-- The change of the weight. -/
def D : FVec Ideal S280x128 .f32 := mulf (broadcastInDim S280x128 ![] bcast_S_S280x128 (constant S_ .f32 0xBA83126F#32)) (addf (Host.divf (Host.divf (NM P M) (broadcastInDim S280x128 ![] bcast_S_S280x128 (constant S_ .f32 0x3F26BD02#32))) (addf (Host.sqrt (Host.divf (NV P V) (broadcastInDim S280x128 ![] bcast_S_S280x128 (constant S_ .f32 0x3C231ACC#32)))) (broadcastInDim S280x128 ![] bcast_S_S280x128 (constant S_ .f32 0x322BCC77#32)))) (mulf (broadcastInDim S280x128 ![] bcast_S_S280x128 (constant S_ .f32 0x3C23D70A#32)) W))

theorem G_at (r : Fin 280) (k : Fin 128) : G P (ix2 r k) = gr8 fun a => P (ix3 a r k) := by
  pointwise [G]
  exact gr8_sum _
theorem NM_at (r : Fin 280) (k : Fin 128) : NM P M (ix2 r k) = nm (gr8 fun a => P (ix3 a r k)) (M (ix2 r k)) := by
  pointwise [NM, G_at, nm]
theorem NV_at (r : Fin 280) (k : Fin 128) : NV P V (ix2 r k) = nv (gr8 fun a => P (ix3 a r k)) (V (ix2 r k)) := by
  pointwise [NV, G_at, nv]
theorem D_at (r : Fin 280) (k : Fin 128) : D P W M V (ix2 r k) = dl (gr8 fun a => P (ix3 a r k)) (W (ix2 r k)) (M (ix2 r k)) (V (ix2 r k)) := by
  pointwise [D, NM_at, NV_at, dl]
end

end Cert.Ad43Ref

end
-- ==== Proof.Ad43Value.lean ====
module

public import proofs.«01_k».proof.Proof.Ad43Ref
public import proofs.«01_k».proof.Proof.Gen.Kernel43Ideal.Value
public import Idealize.ShloMosaic.Lib.Pipeline.ValueKit
public import Idealize.ShloMosaic.Lib.Pipeline.ReadBack

@[expose] public section

set_option maxRecDepth 16384

noncomputable section

namespace Cert.Ad43Value

open Idealize.ShloMosaic Idealize.ShloMosaic.TcCoe Idealize.SL.Sem
open Idealize.ShloMosaic.Pipeline (Dat)
open Cert.AdRow Cert.Ad43Ref
open Cert.Kernel43Ideal Cert.Kernel43Ideal.Gen

variable (m : (ℓ : Loc nD τ sig) → Buf (Elt Ideal) ℓ)

/-- The parts of the gradient, as launched. -/
abbrev argP (c : Dev nD) : FVec Ideal S8x280x128 .f32 := m ((c : Thread nD τ).loc main_arg0)
/-- The weight, as launched. -/
abbrev argW (c : Dev nD) : FVec Ideal S280x128 .f32 := m ((c : Thread nD τ).loc main_arg1)
/-- The first moment, as launched. -/
abbrev argM (c : Dev nD) : FVec Ideal S280x128 .f32 := m ((c : Thread nD τ).loc main_arg2)
/-- The second moment, as launched. -/
abbrev argV (c : Dev nD) : FVec Ideal S280x128 .f32 := m ((c : Thread nD τ).loc main_arg3)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ t.val < 35 :=
  (by decide +kernel : ∀ t : Fin grid0.N, _)

/-- The row of the array that row `r` of block `t` is. -/
abbrev rowOf (t : Fin cfg0.N) (r : Fin 8) : Fin 280 := ⟨t.val * 8 + r.val, by have := (idx t).2.2.2.2.2.2.2.2; omega⟩

theorem p_at (c : Dev nD) (t : Fin cfg0.N) (a : Fin 8) (r : Fin 8) (k : Fin 128) :
    (show FVec Ideal S8x8x128 .f32 from iblk m c 0 t) (ix3 a r k) = argP m c (ix3 a (rowOf t r) k) := by
  blk_ext [iblk, V, idx t]
theorem w_at (c : Dev nD) (t : Fin cfg0.N) (r : Fin 8) (k : Fin 128) :
    (show FVec Ideal S8x128 .f32 from iblk m c 1 t) (ix2 r k) = argW m c (ix2 (rowOf t r) k) := by
  blk_ext [iblk, V, idx t]
theorem m_at (c : Dev nD) (t : Fin cfg0.N) (r : Fin 8) (k : Fin 128) :
    (show FVec Ideal S8x128 .f32 from iblk m c 2 t) (ix2 r k) = argM m c (ix2 (rowOf t r) k) := by
  blk_ext [iblk, V, idx t]
theorem v_at (c : Dev nD) (t : Fin cfg0.N) (r : Fin 8) (k : Fin 128) :
    (show FVec Ideal S8x128 .f32 from iblk m c 3 t) (ix2 r k) = argV m c (ix2 (rowOf t r) k) := by
  blk_ext [iblk, V, idx t]

theorem inb (a : ℕ) (ha : a < 8) : ∀ d : Fin 3, (![a, 0, 0] : Fin 3 → ℕ) d + (![1, 8, 128] : Fin 3 → ℕ) d ≤ S8x8x128.size d := by
  intro d
  fin_cases d
  · show a + 1 ≤ 8; omega
  · show 0 + 8 ≤ 8; omega
  · show 0 + 128 ≤ 128; omega

theorem ld_p (B : Vec Ideal S8x8x128 .f32) (a : ℕ) (ha : a < 8) (u : Fin 1) (r : Fin 8) (k : Fin 128) :
    View.ld B (Rect.unit ![a, 0, 0] ![1, 8, 128] (inb a ha)) (ix3 u r k) = B (ix3 ⟨a, ha⟩ r k) := by
  pointwise

/-- The eight parts of the gradient in block `t`. -/
abbrev p0 (c : Dev nD) (t : Fin cfg0.N) (a : ℕ) (ha : a < 8) : FVec Ideal S1x8x128 .f32 :=
  View.ld (iblk m c 0 t) (Rect.unit ![a, 0, 0] ![1, 8, 128] (inb a ha))

/-- The gradient's block. -/
def g0 (c : Dev nD) (t : Fin cfg0.N) : FVec Ideal S8x128 .f32 :=
  k0_pay3 (F := Ideal) (p0 m c t 0 (by decide)) (p0 m c t 1 (by decide)) (p0 m c t 2 (by decide)) (p0 m c t 3 (by decide)) (p0 m c t 4 (by decide)) (p0 m c t 5 (by decide)) (p0 m c t 6 (by decide)) (p0 m c t 7 (by decide))

theorem pp (c : Dev nD) (t : Fin cfg0.N) (a : ℕ) (ha : a < 8) (u : Fin 1) (r : Fin 8) (k : Fin 128) :
    p0 m c t a ha (ix3 u r k) = argP m c (ix3 ⟨a, ha⟩ (rowOf t r) k) :=
  (ld_p _ a ha u r k).trans (p_at m c t _ r k)

theorem g0_at (c : Dev nD) (t : Fin cfg0.N) (r : Fin 8) (k : Fin 128) : g0 m c t (ix2 r k) = gr8 fun a => argP m c (ix3 a (rowOf t r) k) := by
  pointwise [g0, k0_pay3, pp, gr8]

section
variable (q0 q1 q2 q3 q4 q5 q6 q7 : FVec Ideal S1x8x128 .f32) (w mm v gg m1 : FVec Ideal S8x128 .f32) (r : Fin 8) (k : Fin 128)
theorem k3 : k0_pay4 (F := Ideal) q0 q1 q2 q3 q4 q5 q6 q7 mm (ix2 r k) = nm (k0_pay3 (F := Ideal) q0 q1 q2 q3 q4 q5 q6 q7 (ix2 r k)) (mm (ix2 r k)) := by
  pointwise [k0_pay4, nm]
theorem k4 : k0_pay1 (F := Ideal) gg v (ix2 r k) = nv (gg (ix2 r k)) (v (ix2 r k)) := by
  pointwise [k0_pay1, nv]
theorem k1 : k0_pay2 (F := Ideal) (k0_pay3 q0 q1 q2 q3 q4 q5 q6 q7) (k0_pay4 q0 q1 q2 q3 q4 q5 q6 q7 mm) v w (ix2 r k)
    = dl (k0_pay3 (F := Ideal) q0 q1 q2 q3 q4 q5 q6 q7 (ix2 r k)) (w (ix2 r k)) (mm (ix2 r k)) (v (ix2 r k)) := by
  pointwise [k0_pay2, k3, k4, dl]
end

theorem final4 (c : Dev nD) : (dats m 0 c).arrAt 4 (cfgs 0).N = G (argP m c) := by
  refine (dats m 0 c).arrAt_eq_of_covers 4 _ (by decide +kernel) fun t _ y => ?_
  blk_simp
  rw [after0_4]
  idx_vars y
  unfold out0_4 k0_pay5
  frame_out
  refine (g0_at m c t y0 y1).trans ?_
  rw [← G_at]
  refine congrArg _ ?_
  blk_ext [idx t]

theorem final5 (c : Dev nD) : (dats m 0 c).arrAt 5 (cfgs 0).N = D (argP m c) (argW m c) (argM m c) (argV m c) := by
  refine (dats m 0 c).arrAt_eq_of_covers 5 _ (by decide +kernel) fun t _ y => ?_
  blk_simp
  rw [after0_5]
  idx_vars y
  unfold out0_5 k0_pay6 k0_pay5
  frame_out
  refine (k1 _ _ _ _ _ _ _ _ _ _ _ y0 y1).trans ?_
  refine Eq.trans (b := dl (g0 m c t (ix2 y0 y1)) _ _ _) rfl ?_
  rw [g0_at]
  refine (congr (congr (congrArg (dl _) (w_at m c t y0 y1)) (m_at m c t y0 y1)) (v_at m c t y0 y1)).trans ?_
  rw [← D_at]
  refine congrArg _ ?_
  blk_ext [idx t]

theorem final6 (c : Dev nD) : (dats m 0 c).arrAt 6 (cfgs 0).N = NM (argP m c) (argM m c) := by
  refine (dats m 0 c).arrAt_eq_of_covers 6 _ (by decide +kernel) fun t _ y => ?_
  blk_simp
  rw [after0_6]
  idx_vars y
  unfold out0_6 k0_pay6
  frame_out
  refine (k3 _ _ _ _ _ _ _ _ _ y0 y1).trans ?_
  refine Eq.trans (b := nm (g0 m c t (ix2 y0 y1)) _) rfl ?_
  rw [g0_at]
  refine (congrArg (nm _) (m_at m c t y0 y1)).trans ?_
  rw [← NM_at]
  refine congrArg _ ?_
  blk_ext [idx t]

theorem final7 (c : Dev nD) : (dats m 0 c).arrAt 7 (cfgs 0).N = NV (argP m c) (argV m c) := by
  refine (dats m 0 c).arrAt_eq_of_covers 7 _ (by decide +kernel) fun t _ y => ?_
  blk_simp
  rw [after0_7]
  idx_vars y
  unfold out0_7 k0_pay5
  frame_out
  refine (k4 _ _ y0 y1).trans ?_
  refine Eq.trans (b := nv (g0 m c t (ix2 y0 y1)) _) rfl ?_
  rw [g0_at]
  refine (congrArg (nv _) (v_at m c t y0 y1)).trans ?_
  rw [← NV_at]
  refine congrArg _ ?_
  blk_ext [idx t]

end Cert.Ad43Value

end
-- ==== Proof.LossRef.lean ====
module

public import Idealize.ShloMosaic.Lib.Pipeline.ValueKit
public import proofs.«01_k».proof.Proof.Gen.Reference33Ideal.Run

@[expose] public section

set_option maxRecDepth 16384

noncomputable section

namespace Cert.LossRef

open Idealize.ShloMosaic Idealize.ShloMosaic.TcCoe Idealize.SL.Sem
open Cert.Reference33Ideal Cert.Reference33Ideal.Gen Cert.Reference33Ideal.Value

/-! The loss head: one entry, then the reference's results. -/

/-- One half. -/
def half : EReal := Ideal.ofBits .f32 0x3F000000#32
/-- A row's mean squared error. -/
def rl (y t : Fin 2048 → EReal) : EReal := Ideal.div (∑ k : Fin 2048, (y k - t k) * (y k - t k)) (Ideal.ofBits .f32 0x45000000#32)
/-- One entry of the gradient. -/
def dy (y t : EReal) : EReal := (y - t) * Ideal.ofBits .f32 0x3A000000#32

theorem c_half : Ideal.ofBits .f32 0x3F000000#32 = ((1 / 2 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_len : Ideal.ofBits .f32 0x45000000#32 = ((2048 : ℝ) : EReal) := by
  simp [Ideal.ofBits, Ideal.ieee, -EReal.coe_mul]; norm_num
theorem c_tiny : Ideal.ofBits .f32 0x3A000000#32 = ((1 / 2048 : ℝ) : EReal) := by
  simp [Ideal.ofBits, Ideal.ieee, -EReal.coe_mul]; norm_num
theorem c_div : Ideal.div ((1 / 2 : ℝ) : EReal) ((2048 : ℝ) : EReal) = ((1 / 4096 : ℝ) : EReal) := by
  unfold Ideal.div
  rw [if_neg (by norm_num), ← EReal.coe_inv, ← EReal.coe_mul]
  congr 1
  norm_num

/-- A half of a sum is the sum of the halves. -/
theorem half_sum {n : ℕ} (f : Fin n → EReal) : half * ∑ a : Fin n, f a = ∑ a : Fin n, half * f a := by
  have h0 : (0 : EReal) ≤ half := by rw [half, c_half]; exact EReal.coe_nonneg.mpr (by norm_num)
  have h1 : half ≠ ⊤ := by rw [half, c_half]; exact EReal.coe_ne_top _
  exact map_sum (⟨⟨fun x => half * x, mul_zero _⟩, fun x y => EReal.left_distrib_of_nonneg_of_ne_top h0 h1 x y⟩ : EReal →+ EReal) f Finset.univ

/-- The row mean's constant, the half and the derivative of the square together: two to the power minus eleven. -/
theorem consts (x : EReal) : Ideal.div (Ideal.ofBits .f32 0x3F000000#32) (Ideal.ofBits .f32 0x45000000#32)
    * (Ideal.ofBits .f32 0x40000000#32 * x) = x * Ideal.ofBits .f32 0x3A000000#32 := by
  rw [c_half, c_len, c_two, c_tiny, c_div, ← mul_assoc, ← EReal.coe_mul, mul_comm]
  congr 2
  norm_num

section
variable (Y T : FVec Ideal S8192x2048 .f32)

/-- The rows' mean squared errors. -/
def RL : FVec Ideal S8192 .f32 := Host.divf (Host.reduceAdd (mulf (subf Y T) (subf Y T)) (constant S_ .f32 0x00000000#32) reducesTo_S8192x2048_S8192_d1 h_S_) (broadcastInDim S8192 ![] bcast_S_S8192 (constant S_ .f32 0x45000000#32))
/-- The loss, in every lane. -/
def O0 : FVec Ideal S1x128 .f32 := broadcastInDim S1x128 ![] bcast_S_S1x128 (mulf (constant S_ .f32 0x3F000000#32) (Host.reduceAdd (RL Y T) (constant S_ .f32 0x00000000#32) reducesTo_S8192_S_d0 h_S_))
/-- The gradient. -/
def O1 : FVec Ideal S8192x2048 .f32 := mulf (broadcastInDim S8192x2048 ![0] bcast_S8192_S8192x2048_0 (Host.divf (broadcastInDim S8192 ![] bcast_S_S8192 (mulf (constant S_ .f32 0x3F000000#32) (constant S_ .f32 0x3F800000#32))) (broadcastInDim S8192 ![] bcast_S_S8192 (constant S_ .f32 0x45000000#32)))) (mulf (broadcastInDim S8192x2048 ![] bcast_S_S8192x2048 (constant S_ .f32 0x40000000#32)) (subf Y T))

theorem RL_at (r : Fin 8192) : RL Y T (ix1 r) = rl (fun k => Y (ix2 r k)) (fun k => T (ix2 r k)) := by
  pointwise [RL, rl]
theorem O0_at (u : Fin 1) (l : Fin 128) : O0 Y T (ix2 u l) = half * ∑ r : Fin 8192, rl (fun k => Y (ix2 r k)) (fun k => T (ix2 r k)) := by
  pointwise [O0, RL_at, half]
theorem O1_at (r : Fin 8192) (k : Fin 2048) : O1 Y T (ix2 r k) = dy (Y (ix2 r k)) (T (ix2 r k)) := by
  pointwise [O1, dy]
  exact consts _
end

end Cert.LossRef

end
-- ==== Proof.LossValue.lean ====
module

public import proofs.«01_k».proof.Proof.LossRef
public import proofs.«01_k».proof.Proof.Gen.Kernel33Ideal.Value
public import Idealize.ShloMosaic.Lib.Pipeline.ValueKit
public import Idealize.ShloMosaic.Lib.Pipeline.ReadBack

@[expose] public section

set_option maxRecDepth 16384

noncomputable section

namespace Cert.LossValue

open Idealize.ShloMosaic Idealize.ShloMosaic.TcCoe Idealize.SL.Sem
open Idealize.ShloMosaic.Pipeline (Dat)
open Cert.LossRef
open Cert.Kernel33Ideal Cert.Kernel33Ideal.Gen

variable (m : (ℓ : Loc nD τ sig) → Buf (Elt Ideal) ℓ)

/-- The output of the last layer, as launched. -/
abbrev argY (c : Dev nD) : FVec Ideal S8192x2048 .f32 := m ((c : Thread nD τ).loc main_arg0)
/-- The target, as launched. -/
abbrev argT (c : Dev nD) : FVec Ideal S8192x2048 .f32 := m ((c : Thread nD τ).loc main_arg1)

theorem idx : ∀ t : Fin cfg0.N, win0_0.index t = ![t.val, 0] ∧ win0_1.index t = ![t.val, 0] ∧ win0_2.index t = ![0, 0]
    ∧ win0_3.index t = ![t.val, 0] ∧ t.val < 32 :=
  (by decide +kernel : ∀ t : Fin grid0.N, _)

/-- The row of the array that row `r` of block `t` is. -/
abbrev rowOf (t : Fin cfg0.N) (r : Fin 256) : Fin 8192 := ⟨t.val * 256 + r.val, by have := (idx t).2.2.2.2; omega⟩

theorem y_at (c : Dev nD) (t : Fin cfg0.N) (r : Fin 256) (k : Fin 2048) :
    (show FVec Ideal S256x2048 .f32 from iblk m c 0 t) (ix2 r k) = argY m c (ix2 (rowOf t r) k) := by
  blk_ext [iblk, V, idx t]
theorem t_at (c : Dev nD) (t : Fin cfg0.N) (r : Fin 256) (k : Fin 2048) :
    (show FVec Ideal S256x2048 .f32 from iblk m c 1 t) (ix2 r k) = argT m c (ix2 (rowOf t r) k) := by
  blk_ext [iblk, V, idx t]

section
variable (y t : FVec Ideal S256x2048 .f32) (a : FVec Ideal S1x128 .f32)
theorem q4 (r : Fin 256) (k : Fin 2048) : k0_pay4 (F := Ideal) y t (ix2 r k) = dy (y (ix2 r k)) (t (ix2 r k)) := by
  pointwise [k0_pay4, k0_pay2, dy]
theorem q3 (u : Fin 1) (l : Fin 128) : k0_pay3 (F := Ideal) y t a (ix2 u l)
    = a (ix2 u l) + half * ∑ r : Fin 256, rl (fun k => y (ix2 r k)) (fun k => t (ix2 r k)) := by
  pointwise [k0_pay3, k0_pay2, rl, half]
end

theorem out3 (c : Dev nD) (t : Fin cfg0.N) : (outsAt0 m c t.val t.isLt).2 = k0_pay4 (F := Ideal) (iblk m c 0 t) (iblk m c 1 t) := by
  by_cases h0 : t.val % 32 = 0
  · rw [outsAt0_A m c t h0]
    funext y
    frame_out
  · rw [outsAt0_B m c t h0]
    funext y
    frame_out

theorem final3 (c : Dev nD) : (dats m 0 c).arrAt 3 (cfgs 0).N = O1 (argY m c) (argT m c) := by
  refine (dats m 0 c).arrAt_eq_of_covers 3 _ (by decide +kernel) fun t _ y => ?_
  blk_simp
  rw [after0_3, out3]
  idx_vars y
  rw [q4]
  refine (congr (congrArg dy (y_at m c t y0 y1)) (t_at m c t y0 y1)).trans ?_
  rw [← O1_at]
  refine congrArg _ ?_
  blk_ext [idx t]

/-- A block's part of the rows' errors. -/
def part (c : Dev nD) (t : Fin cfg0.N) : EReal :=
  ∑ r : Fin 256, rl (fun k => argY m c (ix2 (rowOf t r) k)) (fun k => argT m c (ix2 (rowOf t r) k))

theorem step (c : Dev nD) (t : Fin cfg0.N) (a : FVec Ideal S1x128 .f32) (j : S1x128.Idx) :
    k0_pay3 (F := Ideal) (iblk m c 0 t) (iblk m c 1 t) a j = a j + half * part m c t := by
  idx_vars j
  rw [q3]
  refine congrArg _ (congrArg _ (Finset.sum_congr rfl fun r _ => ?_))
  exact congr (congrArg rl (funext fun k => y_at m c t r k)) (funext fun k => t_at m c t r k)

theorem first (c : Dev nD) (t : Fin cfg0.N) (h : t.val % 32 = 0) (y : S1x128.Idx) : (outsAt0 m c t.val t.isLt).1 y = 0 + half * part m c t := by
  have e : (outsAt0 m c t.val t.isLt).1 = k0_pay3 (F := Ideal) (iblk m c 0 t) (iblk m c 1 t) (k0_pay1 (F := Ideal)) := by
    rw [outsAt0_A m c t h]
    funext y
    frame_out
  rw [e, step]
  congr 1
  idx_vars y
  pointwise [k0_pay1]

theorem later (c : Dev nD) (t : Fin cfg0.N) (h : ¬ t.val % 32 = 0) (y : S1x128.Idx) :
    (outsAt0 m c t.val t.isLt).1 y = (outsAt0 m c (t.val - 1) (Nat.lt_of_le_of_lt (Nat.sub_le _ _) t.isLt)).1 y + half * part m c t := by
  refine Eq.trans (congrFun ?_ y) (step m c t _ y)
  rw [outsAt0_B m c t h]
  funext y
  frame_out

/-- The last grid point. -/
abbrev tLast : Fin cfg0.N := ⟨31, by decide⟩

theorem final2 (c : Dev nD) : (dats m 0 c).arrAt 2 (cfgs 0).N = O0 (argY m c) (argT m c) := by
  refine (dats m 0 c).arrAt_eq_of_after_last 2 tLast (by decide +kernel) _ fun j => ?_
  blk_simp
  rw [after0_2, Pipeline.eq_sum_fin_of_reset_step_apply_last (fun n h => (outsAt0 m c n h).1) 32 (fun _ => 0) (fun t _ => half * part m c t)
    (fun t h j => first m c t h j) (fun t h j => later m c t h j) (le_of_eq N_0) tLast rfl j, zero_add]
  idx_vars j
  rw [O0_at, ← half_sum]
  refine congrArg _ ?_
  unfold part
  exact Fin.sum_mul_add_congr fun t r hr => rfl

end Cert.LossValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal.Run
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal.Run
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal.Run
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30Ideal.Run
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Kernel31Ideal.Value
public import proofs.«01_k».proof.Proof.Gen.Reference31Ideal.Run
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Kernel32Ideal.Value
public import proofs.«01_k».proof.Proof.Gen.Reference32Ideal.Run
public import proofs.«01_k».proof.Proof.Gen.Kernel34
public import proofs.«01_k».proof.Proof.Gen.Kernel34.Skeleton
public import proofs.«01_k».proof.Proof.Gen.Kernel34.Launch
public import proofs.«01_k».proof.Proof.Gen.Kernel34.Points
public import proofs.«01_k».proof.Proof.Gen.Kernel34.Frame
public import proofs.«01_k».proof.Proof.Gen.Kernel34Ideal
public import proofs.«01_k».proof.Proof.Gen.Kernel34Ideal.Skeleton
public import proofs.«01_k».proof.Proof.Gen.Kernel34Ideal.Launch
public import proofs.«01_k».proof.Proof.Gen.Kernel34Ideal.Points
public import proofs.«01_k».proof.Proof.Gen.Kernel34Ideal.Frame
public import proofs.«01_k».proof.Proof.Gen.Kernel34Ideal.Value
public import proofs.«01_k».proof.Proof.Gen.Reference34Ideal.Run
public import proofs.«01_k».proof.Proof.Gen.Kernel35
public import proofs.«01_k».proof.Proof.Gen.Kernel35.Skeleton
public import proofs.«01_k».proof.Proof.Gen.Kernel35.Launch
public import proofs.«01_k».proof.Proof.Gen.Kernel35.Points
public import proofs.«01_k».proof.Proof.Gen.Kernel35.Frame
public import proofs.«01_k».proof.Proof.Gen.Kernel35Ideal
public import proofs.«01_k».proof.Proof.Gen.Kernel35Ideal.Skeleton
public import proofs.«01_k».proof.Proof.Gen.Kernel35Ideal.Launch
public import proofs.«01_k».proof.Proof.Gen.Kernel35Ideal.Points
public import proofs.«01_k».proof.Proof.Gen.Kernel35Ideal.Frame
public import proofs.«01_k».proof.Proof.Gen.Kernel35Ideal.Value
public import proofs.«01_k».proof.Proof.Gen.Reference35Ideal.Run
public import proofs.«01_k».proof.Proof.Gen.Kernel36
public import proofs.«01_k».proof.Proof.Gen.Kernel36.Skeleton
public import proofs.«01_k».proof.Proof.Gen.Kernel36.Launch
public import proofs.«01_k».proof.Proof.Gen.Kernel36.Points
public import proofs.«01_k».proof.Proof.Gen.Kernel36.Frame
public import proofs.«01_k».proof.Proof.Gen.Kernel36Ideal
public import proofs.«01_k».proof.Proof.Gen.Kernel36Ideal.Skeleton
public import proofs.«01_k».proof.Proof.Gen.Kernel36Ideal.Launch
public import proofs.«01_k».proof.Proof.Gen.Kernel36Ideal.Points
public import proofs.«01_k».proof.Proof.Gen.Kernel36Ideal.Frame
public import proofs.«01_k».proof.Proof.Gen.Kernel36Ideal.Value
public import proofs.«01_k».proof.Proof.Gen.Reference36Ideal.Run
public import proofs.«01_k».proof.Proof.Gen.Kernel37
public import proofs.«01_k».proof.Proof.Gen.Kernel37.Skeleton
public import proofs.«01_k».proof.Proof.Gen.Kernel37.Launch
public import proofs.«01_k».proof.Proof.Gen.Kernel37.Points
public import proofs.«01_k».proof.Proof.Gen.Kernel37.Frame
public import proofs.«01_k».proof.Proof.Gen.Kernel37Ideal
public import proofs.«01_k».proof.Proof.Gen.Kernel37Ideal.Skeleton
public import proofs.«01_k».proof.Proof.Gen.Kernel37Ideal.Launch
public import proofs.«01_k».proof.Proof.Gen.Kernel37Ideal.Points
public import proofs.«01_k».proof.Proof.Gen.Kernel37Ideal.Frame
public import proofs.«01_k».proof.Proof.Gen.Kernel37Ideal.Value
public import proofs.«01_k».proof.Proof.Gen.Reference37Ideal.Run
public import proofs.«01_k».proof.Proof.Gen.Kernel38
public import proofs.«01_k».proof.Proof.Gen.Kernel38.Skeleton
public import proofs.«01_k».proof.Proof.Gen.Kernel38.Launch
public import proofs.«01_k».proof.Proof.Gen.Kernel38.Points
public import proofs.«01_k».proof.Proof.Gen.Kernel38.Frame
public import proofs.«01_k».proof.Proof.Gen.Kernel38Ideal
public import proofs.«01_k».proof.Proof.Gen.Kernel38Ideal.Skeleton
public import proofs.«01_k».proof.Proof.Gen.Kernel38Ideal.Launch
public import proofs.«01_k».proof.Proof.Gen.Kernel38Ideal.Points
public import proofs.«01_k».proof.Proof.Gen.Kernel38Ideal.Frame
public import proofs.«01_k».proof.Proof.Gen.Kernel38Ideal.Value
public import proofs.«01_k».proof.Proof.Gen.Reference38Ideal.Run
public import proofs.«01_k».proof.Proof.Gen.Kernel39
public import proofs.«01_k».proof.Proof.Gen.Kernel39.Skeleton
public import proofs.«01_k».proof.Proof.Gen.Kernel39.Launch
public import proofs.«01_k».proof.Proof.Gen.Kernel39.Points
public import proofs.«01_k».proof.Proof.Gen.Kernel39.Frame
public import proofs.«01_k».proof.Proof.Gen.Kernel39Ideal
public import proofs.«01_k».proof.Proof.Gen.Kernel39Ideal.Skeleton
public import proofs.«01_k».proof.Proof.Gen.Kernel39Ideal.Launch
public import proofs.«01_k».proof.Proof.Gen.Kernel39Ideal.Points
public import proofs.«01_k».proof.Proof.Gen.Kernel39Ideal.Frame
public import proofs.«01_k».proof.Proof.Gen.Kernel39Ideal.Value
public import proofs.«01_k».proof.Proof.Gen.Reference39Ideal.Run
public import proofs.«01_k».proof.Proof.Gen.Kernel40
public import proofs.«01_k».proof.Proof.Gen.Kernel40.Skeleton
public import proofs.«01_k».proof.Proof.Gen.Kernel40.Launch
public import proofs.«01_k».proof.Proof.Gen.Kernel40.Points
public import proofs.«01_k».proof.Proof.Gen.Kernel40.Frame
public import proofs.«01_k».proof.Proof.Gen.Kernel40Ideal
public import proofs.«01_k».proof.Proof.Gen.Kernel40Ideal.Skeleton
public import proofs.«01_k».proof.Proof.Gen.Kernel40Ideal.Launch
public import proofs.«01_k».proof.Proof.Gen.Kernel40Ideal.Points
public import proofs.«01_k».proof.Proof.Gen.Kernel40Ideal.Frame
public import proofs.«01_k».proof.Proof.Gen.Kernel40Ideal.Value
public import proofs.«01_k».proof.Proof.Gen.Reference40Ideal.Run
public import proofs.«01_k».proof.Proof.Gen.Kernel41
public import proofs.«01_k».proof.Proof.Gen.Kernel41.Skeleton
public import proofs.«01_k».proof.Proof.Gen.Kernel41.Launch
public import proofs.«01_k».proof.Proof.Gen.Kernel41.Points
public import proofs.«01_k».proof.Proof.Gen.Kernel41.Frame
public import proofs.«01_k».proof.Proof.Gen.Kernel41Ideal
public import proofs.«01_k».proof.Proof.Gen.Kernel41Ideal.Skeleton
public import proofs.«01_k».proof.Proof.Gen.Kernel41Ideal.Launch
public import proofs.«01_k».proof.Proof.Gen.Kernel41Ideal.Points
public import proofs.«01_k».proof.Proof.Gen.Kernel41Ideal.Frame
public import proofs.«01_k».proof.Proof.Gen.Kernel41Ideal.Value
public import proofs.«01_k».proof.Proof.Gen.Reference41Ideal.Run
public import proofs.«01_k».proof.Proof.Gen.Kernel42
public import proofs.«01_k».proof.Proof.Gen.Kernel42.Skeleton
public import proofs.«01_k».proof.Proof.Gen.Kernel42.Launch
public import proofs.«01_k».proof.Proof.Gen.Kernel42.Points
public import proofs.«01_k».proof.Proof.Gen.Kernel42.Frame
public import proofs.«01_k».proof.Proof.Gen.Kernel42Ideal
public import proofs.«01_k».proof.Proof.Gen.Kernel42Ideal.Skeleton
public import proofs.«01_k».proof.Proof.Gen.Kernel42Ideal.Launch
public import proofs.«01_k».proof.Proof.Gen.Kernel42Ideal.Points
public import proofs.«01_k».proof.Proof.Gen.Kernel42Ideal.Frame
public import proofs.«01_k».proof.Proof.Gen.Kernel42Ideal.Value
public import proofs.«01_k».proof.Proof.Gen.Reference42Ideal.Run
public import proofs.«01_k».proof.Proof.Gen.Kernel43
public import proofs.«01_k».proof.Proof.Gen.Kernel43.Skeleton
public import proofs.«01_k».proof.Proof.Gen.Kernel43.Launch
public import proofs.«01_k».proof.Proof.Gen.Kernel43.Points
public import proofs.«01_k».proof.Proof.Gen.Kernel43.Frame
public import proofs.«01_k».proof.Proof.Gen.Kernel43Ideal
public import proofs.«01_k».proof.Proof.Gen.Kernel43Ideal.Skeleton
public import proofs.«01_k».proof.Proof.Gen.Kernel43Ideal.Launch
public import proofs.«01_k».proof.Proof.Gen.Kernel43Ideal.Points
public import proofs.«01_k».proof.Proof.Gen.Kernel43Ideal.Frame
public import proofs.«01_k».proof.Proof.Gen.Kernel43Ideal.Value
public import proofs.«01_k».proof.Proof.Gen.Reference43Ideal.Run
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Kernel33Ideal.Value
public import proofs.«01_k».proof.Proof.Gen.Reference33Ideal.Run
public import proofs.«01_k».proof.Proof.MemValue
public import proofs.«01_k».proof.Proof.Dh1Ref
public import proofs.«01_k».proof.Proof.Dw2Ref
public import proofs.«01_k».proof.Proof.Dw1Ref
public import proofs.«01_k».proof.Proof.Dx1Ref
public import proofs.«01_k».proof.Proof.DWoutRef
public import proofs.«01_k».proof.Proof.DCatRef
public import proofs.«01_k».proof.Proof.DWinGdnRef
public import proofs.«01_k».proof.Proof.DxGdnRef
public import proofs.«01_k».proof.Proof.DWinMlaRef
public import proofs.«01_k».proof.Proof.DxMlaRef
public import proofs.«01_k».proof.Proof.DWukvRef
public import proofs.«01_k».proof.Proof.DCkvnRef
public import proofs.«01_k».proof.Proof.DWuqRef
public import proofs.«01_k».proof.Proof.DCqnRef
public import proofs.«01_k».proof.Proof.DWmemRef
public import proofs.«01_k».proof.Proof.FW1Ref
public import proofs.«01_k».proof.Proof.FW2Ref
public import proofs.«01_k».proof.Proof.FOutRef
public import proofs.«01_k».proof.Proof.FInGdnRef
public import proofs.«01_k».proof.Proof.FInMlaRef
public import proofs.«01_k».proof.Proof.FUqRef
public import proofs.«01_k».proof.Proof.FUkvRef
public import proofs.«01_k».proof.Proof.FMemkvRef
public import proofs.«01_k».proof.Proof.LnbValue
public import proofs.«01_k».proof.Proof.MemGValue
public import proofs.«01_k».proof.Proof.GobValue
public import proofs.«01_k».proof.Proof.MfValue
public import proofs.«01_k».proof.Proof.MfGValue
public import proofs.«01_k».proof.Proof.PrpValue
public import proofs.«01_k».proof.Proof.LnfValue
public import proofs.«01_k».proof.Proof.GofValue
public import proofs.«01_k».proof.Proof.Ad34Value
public import proofs.«01_k».proof.Proof.Ad35Value
public import proofs.«01_k».proof.Proof.Ad36Value
public import proofs.«01_k».proof.Proof.Ad37Value
public import proofs.«01_k».proof.Proof.Ad38Value
public import proofs.«01_k».proof.Proof.Ad39Value
public import proofs.«01_k».proof.Proof.Ad40Value
public import proofs.«01_k».proof.Proof.Ad41Value
public import proofs.«01_k».proof.Proof.Ad42Value
public import proofs.«01_k».proof.Proof.Ad43Value
public import proofs.«01_k».proof.Proof.LossValue
public import Idealize.ShloMosaic.Adequacy
public import Idealize.ShloMosaic.Init

@[expose] public section

noncomputable section

namespace Cert.Proof

open Idealize.ShloMosaic Idealize.SL.Sem Cert.Kernel

/-- The reference's frame: its run, which leaves the arguments as they were; it declares no semaphore. -/
theorem frame_reference [hReferenceIdeal : Cert.ReferenceIdeal.Facts] : Cert.quiescent_ReferenceIdeal := by
  intro m ρ _
  exact (θ_run Cert.ReferenceIdeal.defs _ _).mono (fun r h => ⟨fun c => (h c).2.2, sem_eq_zero_of_no_sems (by decide) r.2⟩)
    (Cert.ReferenceIdeal.Value.run (F := Ideal) m ρ)

/-- The memory attention's two gradients are the reference's. -/
theorem algebraic [hKernelIdeal : Cert.KernelIdeal.Facts] [hReferenceIdeal : Cert.ReferenceIdeal.Facts] : Cert.algebraic_KernelIdeal_ReferenceIdeal := by
  intro m g m' g' _ hagree
  refine ⟨fun c => Cert.MemRef.OQ (Cert.MemValue.argX m c) (Cert.MemValue.argM m c) (Cert.MemValue.argG m c),
    fun c => Cert.MemRef.OKV (Cert.MemValue.argX m c) (Cert.MemValue.argM m c) (Cert.MemValue.argG m c), ?_, ?_⟩
  · exact (θ_run Cert.KernelIdeal.defs _ _).mono
      (fun r h c => ⟨(h c).1.trans (Cert.MemValue.final3 m c), (h c).2.1.trans (Cert.MemValue.final4 m c), (h c).2.2⟩)
      (Cert.KernelIdeal.Value.run_blocks (F := Ideal) m g)
  · refine (θ_run Cert.ReferenceIdeal.defs _ _).mono (fun r h c => ⟨(h c).1.trans ?_, (h c).2.1.trans ?_, (h c).2.2⟩)
      (Cert.ReferenceIdeal.Value.run (F := Ideal) m' g')
    · refine (Cert.MemRef.out0_eq m' c).trans ?_
      rw [(hagree c).1, (hagree c).2.1, (hagree c).2.2]
    · refine (Cert.MemRef.out1_eq m' c).trans ?_
      rw [(hagree c).1, (hagree c).2.1, (hagree c).2.2]

/-- The frame of the reference of the cotangent of the hidden values. -/
theorem frame_reference2 [h : Cert.Reference2Ideal.Facts] : Cert.quiescent_Reference2Ideal := by
  intro m ρ _
  exact (θ_run Cert.Reference2Ideal.defs _ _).mono (fun r h => ⟨fun c => (h c).2, sem_eq_zero_of_no_sems (by decide) r.2⟩)
    (Cert.Reference2Ideal.Value.run (F := Ideal) m ρ)

/-- The cotangent of the hidden values is the reference's. -/
theorem algebraic2 [hK : Cert.Kernel2Ideal.Facts] [hR : Cert.Reference2Ideal.Facts] : Cert.algebraic_Kernel2Ideal_Reference2Ideal := by
  intro m g m' g' _ hagree
  refine ⟨fun c => Cert.Dh1Value.Out (Cert.Dh1Value.argA m c) (Cert.Dh1Value.argB m c) (Cert.Dh1Value.argE m c), ?_, ?_⟩
  · exact (θ_run Cert.Kernel2Ideal.defs _ _).mono (fun r h c => ⟨(h c).1.trans (Cert.Dh1Value.final m c), (h c).2⟩)
      (Cert.Kernel2Ideal.Value.run_blocks (F := Ideal) m g)
  · refine (θ_run Cert.Reference2Ideal.defs _ _).mono (fun r h c => ⟨(h c).1.trans ?_, (h c).2⟩) (Cert.Reference2Ideal.Value.run (F := Ideal) m' g')
    refine (Cert.Dh1Value.Ref.ref_eq _ _ _).trans ?_
    rw [(hagree c).1, (hagree c).2.1, (hagree c).2.2]

/-- The frame of the reference of the gradient of the second matrix. -/
theorem frame_reference3 [h : Cert.Reference3Ideal.Facts] : Cert.quiescent_Reference3Ideal := by
  intro m ρ _
  exact (θ_run Cert.Reference3Ideal.defs _ _).mono (fun r h => ⟨fun c => (h c).2, sem_eq_zero_of_no_sems (by decide) r.2⟩)
    (Cert.Reference3Ideal.Value.run (F := Ideal) m ρ)

/-- The gradient of the second matrix is the reference's. -/
theorem algebraic3 [hK : Cert.Kernel3Ideal.Facts] [hR : Cert.Reference3Ideal.Facts] : Cert.algebraic_Kernel3Ideal_Reference3Ideal := by
  intro m g m' g' _ hagree
  refine ⟨fun c => Cert.Dw2Value.Out (Cert.Dw2Value.argA m c) (Cert.Dw2Value.argB m c), ?_, ?_⟩
  · exact (θ_run Cert.Kernel3Ideal.defs _ _).mono (fun r h c => ⟨(h c).1.trans (Cert.Dw2Value.final m c), (h c).2⟩)
      (Cert.Kernel3Ideal.Value.run_blocks (F := Ideal) m g)
  · refine (θ_run Cert.Reference3Ideal.defs _ _).mono (fun r h c => ⟨(h c).1.trans ?_, (h c).2⟩) (Cert.Reference3Ideal.Value.run (F := Ideal) m' g')
    refine (Cert.Dw2Value.Ref.ref_eq _ _).trans ?_
    rw [(hagree c).1, (hagree c).2]

/-- The frame of the reference of the gradient of the first matrix. -/
theorem frame_reference4 [h : Cert.Reference4Ideal.Facts] : Cert.quiescent_Reference4Ideal := by
  intro m ρ _
  exact (θ_run Cert.Reference4Ideal.defs _ _).mono (fun r h => ⟨fun c => (h c).2, sem_eq_zero_of_no_sems (by decide) r.2⟩)
    (Cert.Reference4Ideal.Value.run (F := Ideal) m ρ)

/-- The gradient of the first matrix is the reference's. -/
theorem algebraic4 [hK : Cert.Kernel4Ideal.Facts] [hR : Cert.Reference4Ideal.Facts] : Cert.algebraic_Kernel4Ideal_Reference4Ideal := by
  intro m g m' g' _ hagree
  refine ⟨fun c => Cert.Dw1Value.Out (Cert.Dw1Value.argA m c) (Cert.Dw1Value.argB m c), ?_, ?_⟩
  · exact (θ_run Cert.Kernel4Ideal.defs _ _).mono (fun r h c => ⟨(h c).1.trans (Cert.Dw1Value.final m c), (h c).2⟩)
      (Cert.Kernel4Ideal.Value.run_blocks (F := Ideal) m g)
  · refine (θ_run Cert.Reference4Ideal.defs _ _).mono (fun r h c => ⟨(h c).1.trans ?_, (h c).2⟩) (Cert.Reference4Ideal.Value.run (F := Ideal) m' g')
    refine (Cert.Dw1Value.Ref.ref_eq _ _).trans ?_
    rw [(hagree c).1, (hagree c).2]

/-- The frame of the reference of the cotangent of the layer's input. -/
theorem frame_reference5 [h : Cert.Reference5Ideal.Facts] : Cert.quiescent_Reference5Ideal := by
  intro m ρ _
  exact (θ_run Cert.Reference5Ideal.defs _ _).mono (fun r h => ⟨fun c => (h c).2, sem_eq_zero_of_no_sems (by decide) r.2⟩)
    (Cert.Reference5Ideal.Value.run (F := Ideal) m ρ)

/-- The cotangent of the layer's input is the reference's. -/
theorem algebraic5 [hK : Cert.Kernel5Ideal.Facts] [hR : Cert.Reference5Ideal.Facts] : Cert.algebraic_Kernel5Ideal_Reference5Ideal := by
  intro m g m' g' _ hagree
  refine ⟨fun c => Cert.Dx1Value.Out (Cert.Dx1Value.argA m c) (Cert.Dx1Value.argB m c) (Cert.Dx1Value.argE m c), ?_, ?_⟩
  · exact (θ_run Cert.Kernel5Ideal.defs _ _).mono (fun r h c => ⟨(h c).1.trans (Cert.Dx1Value.final m c), (h c).2⟩)
      (Cert.Kernel5Ideal.Value.run_blocks (F := Ideal) m g)
  · refine (θ_run Cert.Reference5Ideal.defs _ _).mono (fun r h c => ⟨(h c).1.trans ?_, (h c).2⟩) (Cert.Reference5Ideal.Value.run (F := Ideal) m' g')
    refine (Cert.Dx1Value.Ref.ref_eq _ _ _).trans ?_
    rw [(hagree c).1, (hagree c).2.1, (hagree c).2.2]

/-- The frame of the reference of the gradient of the output projection's matrix. -/
theorem frame_reference6 [h : Cert.Reference6Ideal.Facts] : Cert.quiescent_Reference6Ideal := by
  intro m ρ _
  exact (θ_run Cert.Reference6Ideal.defs _ _).mono (fun r h => ⟨fun c => (h c).2, sem_eq_zero_of_no_sems (by decide) r.2⟩)
    (Cert.Reference6Ideal.Value.run (F := Ideal) m ρ)

/-- The gradient of the output projection's matrix is the reference's. -/
theorem algebraic6 [hK : Cert.Kernel6Ideal.Facts] [hR : Cert.Reference6Ideal.Facts] : Cert.algebraic_Kernel6Ideal_Reference6Ideal := by
  intro m g m' g' _ hagree
  refine ⟨fun c => Cert.DWoutValue.Out (Cert.DWoutValue.argA m c) (Cert.DWoutValue.argB m c), ?_, ?_⟩
  · exact (θ_run Cert.Kernel6Ideal.defs _ _).mono (fun r h c => ⟨(h c).1.trans (Cert.DWoutValue.final m c), (h c).2⟩)
      (Cert.Kernel6Ideal.Value.run_blocks (F := Ideal) m g)
  · refine (θ_run Cert.Reference6Ideal.defs _ _).mono (fun r h c => ⟨(h c).1.trans ?_, (h c).2⟩) (Cert.Reference6Ideal.Value.run (F := Ideal) m' g')
    refine (Cert.DWoutValue.Ref.ref_eq _ _).trans ?_
    rw [(hagree c).1, (hagree c).2]

/-- The frame of the reference of the cotangent of the mixed heads. -/
theorem frame_reference7 [h : Cert.Reference7Ideal.Facts] : Cert.quiescent_Reference7Ideal := by
  intro m ρ _
  exact (θ_run Cert.Reference7Ideal.defs _ _).mono (fun r h => ⟨fun c => (h c).2, sem_eq_zero_of_no_sems (by decide) r.2⟩)
    (Cert.Reference7Ideal.Value.run (F := Ideal) m ρ)

/-- The cotangent of the mixed heads is the reference's. -/
theorem algebraic7 [hK : Cert.Kernel7Ideal.Facts] [hR : Cert.Reference7Ideal.Facts] : Cert.algebraic_Kernel7Ideal_Reference7Ideal := by
  intro m g m' g' _ hagree
  refine ⟨fun c => Cert.DCatValue.Out (Cert.DCatValue.argA m c) (Cert.DCatValue.argB m c), ?_, ?_⟩
  · exact (θ_run Cert.Kernel7Ideal.defs _ _).mono (fun r h c => ⟨(h c).1.trans (Cert.DCatValue.final m c), (h c).2⟩)
      (Cert.Kernel7Ideal.Value.run_blocks (F := Ideal) m g)
  · refine (θ_run Cert.Reference7Ideal.defs _ _).mono (fun r h c => ⟨(h c).1.trans ?_, (h c).2⟩) (Cert.Reference7Ideal.Value.run (F := Ideal) m' g')
    refine (Cert.DCatValue.Ref.ref_eq _ _).trans ?_
    rw [(hagree c).1, (hagree c).2]

/-- The frame of the reference of the gradient of the delta layer's input projection. -/
theorem frame_reference8 [h : Cert.Reference8Ideal.Facts] : Cert.quiescent_Reference8Ideal := by
  intro m ρ _
  exact (θ_run Cert.Reference8Ideal.defs _ _).mono (fun r h => ⟨fun c => (h c).2, sem_eq_zero_of_no_sems (by decide) r.2⟩)
    (Cert.Reference8Ideal.Value.run (F := Ideal) m ρ)

/-- The gradient of the delta layer's input projection is the reference's. -/
theorem algebraic8 [hK : Cert.Kernel8Ideal.Facts] [hR : Cert.Reference8Ideal.Facts] : Cert.algebraic_Kernel8Ideal_Reference8Ideal := by
  intro m g m' g' _ hagree
  refine ⟨fun c => Cert.DWinGdnValue.Out (Cert.DWinGdnValue.argA m c) (Cert.DWinGdnValue.argB m c), ?_, ?_⟩
  · exact (θ_run Cert.Kernel8Ideal.defs _ _).mono (fun r h c => ⟨(h c).1.trans (Cert.DWinGdnValue.final m c), (h c).2⟩)
      (Cert.Kernel8Ideal.Value.run_blocks (F := Ideal) m g)
  · refine (θ_run Cert.Reference8Ideal.defs _ _).mono (fun r h c => ⟨(h c).1.trans ?_, (h c).2⟩) (Cert.Reference8Ideal.Value.run (F := Ideal) m' g')
    refine (Cert.DWinGdnValue.Ref.ref_eq _ _).trans ?_
    rw [(hagree c).1, (hagree c).2]

/-- The frame of the reference of the cotangent of the delta layer's input. -/
theorem frame_reference9 [h : Cert.Reference9Ideal.Facts] : Cert.quiescent_Reference9Ideal := by
  intro m ρ _
  exact (θ_run Cert.Reference9Ideal.defs _ _).mono (fun r h => ⟨fun c => (h c).2, sem_eq_zero_of_no_sems (by decide) r.2⟩)
    (Cert.Reference9Ideal.Value.run (F := Ideal) m ρ)

/-- The cotangent of the delta layer's input is the reference's. -/
theorem algebraic9 [hK : Cert.Kernel9Ideal.Facts] [hR : Cert.Reference9Ideal.Facts] : Cert.algebraic_Kernel9Ideal_Reference9Ideal := by
  intro m g m' g' _ hagree
  refine ⟨fun c => Cert.DxGdnValue.Out (Cert.DxGdnValue.argA m c) (Cert.DxGdnValue.argB m c) (Cert.DxGdnValue.argE m c), ?_, ?_⟩
  · exact (θ_run Cert.Kernel9Ideal.defs _ _).mono (fun r h c => ⟨(h c).1.trans (Cert.DxGdnValue.final m c), (h c).2⟩)
      (Cert.Kernel9Ideal.Value.run_blocks (F := Ideal) m g)
  · refine (θ_run Cert.Reference9Ideal.defs _ _).mono (fun r h c => ⟨(h c).1.trans ?_, (h c).2⟩) (Cert.Reference9Ideal.Value.run (F := Ideal) m' g')
    refine (Cert.DxGdnValue.Ref.ref_eq _ _ _).trans ?_
    rw [(hagree c).1, (hagree c).2.1, (hagree c).2.2]

/-- The frame of the reference of the gradient of the latent layer's input projection. -/
theorem frame_reference10 [h : Cert.Reference10Ideal.Facts] : Cert.quiescent_Reference10Ideal := by
  intro m ρ _
  exact (θ_run Cert.Reference10Ideal.defs _ _).mono (fun r h => ⟨fun c => (h c).2, sem_eq_zero_of_no_sems (by decide) r.2⟩)
    (Cert.Reference10Ideal.Value.run (F := Ideal) m ρ)

/-- The gradient of the latent layer's input projection is the reference's. -/
theorem algebraic10 [hK : Cert.Kernel10Ideal.Facts] [hR : Cert.Reference10Ideal.Facts] : Cert.algebraic_Kernel10Ideal_Reference10Ideal := by
  intro m g m' g' _ hagree
  refine ⟨fun c => Cert.DWinMlaValue.Out (Cert.DWinMlaValue.argA m c) (Cert.DWinMlaValue.argB m c), ?_, ?_⟩
  · exact (θ_run Cert.Kernel10Ideal.defs _ _).mono (fun r h c => ⟨(h c).1.trans (Cert.DWinMlaValue.final m c), (h c).2⟩)
      (Cert.Kernel10Ideal.Value.run_blocks (F := Ideal) m g)
  · refine (θ_run Cert.Reference10Ideal.defs _ _).mono (fun r h c => ⟨(h c).1.trans ?_, (h c).2⟩) (Cert.Reference10Ideal.Value.run (F := Ideal) m' g')
    refine (Cert.DWinMlaValue.Ref.ref_eq _ _).trans ?_
    rw [(hagree c).1, (hagree c).2]

/-- The frame of the reference of the cotangent of the latent layer's input. -/
theorem frame_reference11 [h : Cert.Reference11Ideal.Facts] : Cert.quiescent_Reference11Ideal := by
  intro m ρ _
  exact (θ_run Cert.Reference11Ideal.defs _ _).mono (fun r h => ⟨fun c => (h c).2, sem_eq_zero_of_no_sems (by decide) r.2⟩)
    (Cert.Reference11Ideal.Value.run (F := Ideal) m ρ)

/-- The cotangent of the latent layer's input is the reference's. -/
theorem algebraic11 [hK : Cert.Kernel11Ideal.Facts] [hR : Cert.Reference11Ideal.Facts] : Cert.algebraic_Kernel11Ideal_Reference11Ideal := by
  intro m g m' g' _ hagree
  refine ⟨fun c => Cert.DxMlaValue.Out (Cert.DxMlaValue.argA m c) (Cert.DxMlaValue.argB m c) (Cert.DxMlaValue.argE m c), ?_, ?_⟩
  · exact (θ_run Cert.Kernel11Ideal.defs _ _).mono (fun r h c => ⟨(h c).1.trans (Cert.DxMlaValue.final m c), (h c).2⟩)
      (Cert.Kernel11Ideal.Value.run_blocks (F := Ideal) m g)
  · refine (θ_run Cert.Reference11Ideal.defs _ _).mono (fun r h c => ⟨(h c).1.trans ?_, (h c).2⟩) (Cert.Reference11Ideal.Value.run (F := Ideal) m' g')
    refine (Cert.DxMlaValue.Ref.ref_eq _ _ _).trans ?_
    rw [(hagree c).1, (hagree c).2.1, (hagree c).2.2]

/-- The frame of the reference of the gradient of the keys' and values' projection. -/
theorem frame_reference12 [h : Cert.Reference12Ideal.Facts] : Cert.quiescent_Reference12Ideal := by
  intro m ρ _
  exact (θ_run Cert.Reference12Ideal.defs _ _).mono (fun r h => ⟨fun c => (h c).2, sem_eq_zero_of_no_sems (by decide) r.2⟩)
    (Cert.Reference12Ideal.Value.run (F := Ideal) m ρ)

/-- The gradient of the keys' and values' projection is the reference's. -/
theorem algebraic12 [hK : Cert.Kernel12Ideal.Facts] [hR : Cert.Reference12Ideal.Facts] : Cert.algebraic_Kernel12Ideal_Reference12Ideal := by
  intro m g m' g' _ hagree
  refine ⟨fun c => Cert.DWukvValue.Out (Cert.DWukvValue.argA m c) (Cert.DWukvValue.argB m c), ?_, ?_⟩
  · exact (θ_run Cert.Kernel12Ideal.defs _ _).mono (fun r h c => ⟨(h c).1.trans (Cert.DWukvValue.final m c), (h c).2⟩)
      (Cert.Kernel12Ideal.Value.run_blocks (F := Ideal) m g)
  · refine (θ_run Cert.Reference12Ideal.defs _ _).mono (fun r h c => ⟨(h c).1.trans ?_, (h c).2⟩) (Cert.Reference12Ideal.Value.run (F := Ideal) m' g')
    refine (Cert.DWukvValue.Ref.ref_eq _ _).trans ?_
    rw [(hagree c).1, (hagree c).2]

/-- The frame of the reference of the cotangent of the normed latent of the keys and values. -/
theorem frame_reference13 [h : Cert.Reference13Ideal.Facts] : Cert.quiescent_Reference13Ideal := by
  intro m ρ _
  exact (θ_run Cert.Reference13Ideal.defs _ _).mono (fun r h => ⟨fun c => (h c).2, sem_eq_zero_of_no_sems (by decide) r.2⟩)
    (Cert.Reference13Ideal.Value.run (F := Ideal) m ρ)

/-- The cotangent of the normed latent of the keys and values is the reference's. -/
theorem algebraic13 [hK : Cert.Kernel13Ideal.Facts] [hR : Cert.Reference13Ideal.Facts] : Cert.algebraic_Kernel13Ideal_Reference13Ideal := by
  intro m g m' g' _ hagree
  refine ⟨fun c => Cert.DCkvnValue.Out (Cert.DCkvnValue.argA m c) (Cert.DCkvnValue.argB m c), ?_, ?_⟩
  · exact (θ_run Cert.Kernel13Ideal.defs _ _).mono (fun r h c => ⟨(h c).1.trans (Cert.DCkvnValue.final m c), (h c).2⟩)
      (Cert.Kernel13Ideal.Value.run_blocks (F := Ideal) m g)
  · refine (θ_run Cert.Reference13Ideal.defs _ _).mono (fun r h c => ⟨(h c).1.trans ?_, (h c).2⟩) (Cert.Reference13Ideal.Value.run (F := Ideal) m' g')
    refine (Cert.DCkvnValue.Ref.ref_eq _ _).trans ?_
    rw [(hagree c).1, (hagree c).2]

/-- The frame of the reference of the gradient of the queries' projection. -/
theorem frame_reference14 [h : Cert.Reference14Ideal.Facts] : Cert.quiescent_Reference14Ideal := by
  intro m ρ _
  exact (θ_run Cert.Reference14Ideal.defs _ _).mono (fun r h => ⟨fun c => (h c).2, sem_eq_zero_of_no_sems (by decide) r.2⟩)
    (Cert.Reference14Ideal.Value.run (F := Ideal) m ρ)

/-- The gradient of the queries' projection is the reference's. -/
theorem algebraic14 [hK : Cert.Kernel14Ideal.Facts] [hR : Cert.Reference14Ideal.Facts] : Cert.algebraic_Kernel14Ideal_Reference14Ideal := by
  intro m g m' g' _ hagree
  refine ⟨fun c => Cert.DWuqValue.Out (Cert.DWuqValue.argA m c) (Cert.DWuqValue.argB m c), ?_, ?_⟩
  · exact (θ_run Cert.Kernel14Ideal.defs _ _).mono (fun r h c => ⟨(h c).1.trans (Cert.DWuqValue.final m c), (h c).2⟩)
      (Cert.Kernel14Ideal.Value.run_blocks (F := Ideal) m g)
  · refine (θ_run Cert.Reference14Ideal.defs _ _).mono (fun r h c => ⟨(h c).1.trans ?_, (h c).2⟩) (Cert.Reference14Ideal.Value.run (F := Ideal) m' g')
    refine (Cert.DWuqValue.Ref.ref_eq _ _).trans ?_
    rw [(hagree c).1, (hagree c).2]

/-- The frame of the reference of the cotangent of the normed latent of the queries. -/
theorem frame_reference15 [h : Cert.Reference15Ideal.Facts] : Cert.quiescent_Reference15Ideal := by
  intro m ρ _
  exact (θ_run Cert.Reference15Ideal.defs _ _).mono (fun r h => ⟨fun c => (h c).2, sem_eq_zero_of_no_sems (by decide) r.2⟩)
    (Cert.Reference15Ideal.Value.run (F := Ideal) m ρ)

/-- The cotangent of the normed latent of the queries is the reference's. -/
theorem algebraic15 [hK : Cert.Kernel15Ideal.Facts] [hR : Cert.Reference15Ideal.Facts] : Cert.algebraic_Kernel15Ideal_Reference15Ideal := by
  intro m g m' g' _ hagree
  refine ⟨fun c => Cert.DCqnValue.Out (Cert.DCqnValue.argA m c) (Cert.DCqnValue.argB m c), ?_, ?_⟩
  · exact (θ_run Cert.Kernel15Ideal.defs _ _).mono (fun r h c => ⟨(h c).1.trans (Cert.DCqnValue.final m c), (h c).2⟩)
      (Cert.Kernel15Ideal.Value.run_blocks (F := Ideal) m g)
  · refine (θ_run Cert.Reference15Ideal.defs _ _).mono (fun r h c => ⟨(h c).1.trans ?_, (h c).2⟩) (Cert.Reference15Ideal.Value.run (F := Ideal) m' g')
    refine (Cert.DCqnValue.Ref.ref_eq _ _).trans ?_
    rw [(hagree c).1, (hagree c).2]

/-- The frame of the reference of the gradient of the memory's projection. -/
theorem frame_reference16 [h : Cert.Reference16Ideal.Facts] : Cert.quiescent_Reference16Ideal := by
  intro m ρ _
  exact (θ_run Cert.Reference16Ideal.defs _ _).mono (fun r h => ⟨fun c => (h c).2, sem_eq_zero_of_no_sems (by decide) r.2⟩)
    (Cert.Reference16Ideal.Value.run (F := Ideal) m ρ)

/-- The gradient of the memory's projection is the reference's. -/
theorem algebraic16 [hK : Cert.Kernel16Ideal.Facts] [hR : Cert.Reference16Ideal.Facts] : Cert.algebraic_Kernel16Ideal_Reference16Ideal := by
  intro m g m' g' _ hagree
  refine ⟨fun c => Cert.DWmemValue.Out (Cert.DWmemValue.argA m c) (Cert.DWmemValue.argB m c), ?_, ?_⟩
  · exact (θ_run Cert.Kernel16Ideal.defs _ _).mono (fun r h c => ⟨(h c).1.trans (Cert.DWmemValue.final m c), (h c).2⟩)
      (Cert.Kernel16Ideal.Value.run_blocks (F := Ideal) m g)
  · refine (θ_run Cert.Reference16Ideal.defs _ _).mono (fun r h c => ⟨(h c).1.trans ?_, (h c).2⟩) (Cert.Reference16Ideal.Value.run (F := Ideal) m' g')
    refine (Cert.DWmemValue.Ref.ref_eq _ _).trans ?_
    rw [(hagree c).1, (hagree c).2]

/-- The frame of the reference of the hidden values. -/
theorem frame_reference17 [h : Cert.Reference17Ideal.Facts] : Cert.quiescent_Reference17Ideal := by
  intro m ρ _
  exact (θ_run Cert.Reference17Ideal.defs _ _).mono (fun r h => ⟨fun c => (h c).2, sem_eq_zero_of_no_sems (by decide) r.2⟩)
    (Cert.Reference17Ideal.Value.run (F := Ideal) m ρ)

/-- The hidden values is the reference's. -/
theorem algebraic17 [hK : Cert.Kernel17Ideal.Facts] [hR : Cert.Reference17Ideal.Facts] : Cert.algebraic_Kernel17Ideal_Reference17Ideal := by
  intro m g m' g' _ hagree
  refine ⟨fun c => Cert.FW1Value.Out (Cert.FW1Value.argA m c) (Cert.FW1Value.argB m c), ?_, ?_⟩
  · exact (θ_run Cert.Kernel17Ideal.defs _ _).mono (fun r h c => ⟨(h c).1.trans (Cert.FW1Value.final m c), (h c).2⟩)
      (Cert.Kernel17Ideal.Value.run_blocks (F := Ideal) m g)
  · refine (θ_run Cert.Reference17Ideal.defs _ _).mono (fun r h c => ⟨(h c).1.trans ?_, (h c).2⟩) (Cert.Reference17Ideal.Value.run (F := Ideal) m' g')
    refine (Cert.FW1Value.Ref.ref_eq _ _).trans ?_
    rw [(hagree c).1, (hagree c).2]

/-- The frame of the reference of the output of the squared-ReLU layer. -/
theorem frame_reference18 [h : Cert.Reference18Ideal.Facts] : Cert.quiescent_Reference18Ideal := by
  intro m ρ _
  exact (θ_run Cert.Reference18Ideal.defs _ _).mono (fun r h => ⟨fun c => (h c).2, sem_eq_zero_of_no_sems (by decide) r.2⟩)
    (Cert.Reference18Ideal.Value.run (F := Ideal) m ρ)

/-- The output of the squared-ReLU layer is the reference's. -/
theorem algebraic18 [hK : Cert.Kernel18Ideal.Facts] [hR : Cert.Reference18Ideal.Facts] : Cert.algebraic_Kernel18Ideal_Reference18Ideal := by
  intro m g m' g' _ hagree
  refine ⟨fun c => Cert.FW2Value.Out (Cert.FW2Value.argA m c) (Cert.FW2Value.argB m c), ?_, ?_⟩
  · exact (θ_run Cert.Kernel18Ideal.defs _ _).mono (fun r h c => ⟨(h c).1.trans (Cert.FW2Value.final m c), (h c).2⟩)
      (Cert.Kernel18Ideal.Value.run_blocks (F := Ideal) m g)
  · refine (θ_run Cert.Reference18Ideal.defs _ _).mono (fun r h c => ⟨(h c).1.trans ?_, (h c).2⟩) (Cert.Reference18Ideal.Value.run (F := Ideal) m' g')
    refine (Cert.FW2Value.Ref.ref_eq _ _).trans ?_
    rw [(hagree c).1, (hagree c).2]

/-- The frame of the reference of the output projection. -/
theorem frame_reference19 [h : Cert.Reference19Ideal.Facts] : Cert.quiescent_Reference19Ideal := by
  intro m ρ _
  exact (θ_run Cert.Reference19Ideal.defs _ _).mono (fun r h => ⟨fun c => (h c).2, sem_eq_zero_of_no_sems (by decide) r.2⟩)
    (Cert.Reference19Ideal.Value.run (F := Ideal) m ρ)

/-- The output projection is the reference's. -/
theorem algebraic19 [hK : Cert.Kernel19Ideal.Facts] [hR : Cert.Reference19Ideal.Facts] : Cert.algebraic_Kernel19Ideal_Reference19Ideal := by
  intro m g m' g' _ hagree
  refine ⟨fun c => Cert.FOutValue.Out (Cert.FOutValue.argA m c) (Cert.FOutValue.argB m c), ?_, ?_⟩
  · exact (θ_run Cert.Kernel19Ideal.defs _ _).mono (fun r h c => ⟨(h c).1.trans (Cert.FOutValue.final m c), (h c).2⟩)
      (Cert.Kernel19Ideal.Value.run_blocks (F := Ideal) m g)
  · refine (θ_run Cert.Reference19Ideal.defs _ _).mono (fun r h c => ⟨(h c).1.trans ?_, (h c).2⟩) (Cert.Reference19Ideal.Value.run (F := Ideal) m' g')
    refine (Cert.FOutValue.Ref.ref_eq _ _).trans ?_
    rw [(hagree c).1, (hagree c).2]

/-- The frame of the reference of the delta layer's input projection. -/
theorem frame_reference20 [h : Cert.Reference20Ideal.Facts] : Cert.quiescent_Reference20Ideal := by
  intro m ρ _
  exact (θ_run Cert.Reference20Ideal.defs _ _).mono (fun r h => ⟨fun c => (h c).2, sem_eq_zero_of_no_sems (by decide) r.2⟩)
    (Cert.Reference20Ideal.Value.run (F := Ideal) m ρ)

/-- The delta layer's input projection is the reference's. -/
theorem algebraic20 [hK : Cert.Kernel20Ideal.Facts] [hR : Cert.Reference20Ideal.Facts] : Cert.algebraic_Kernel20Ideal_Reference20Ideal := by
  intro m g m' g' _ hagree
  refine ⟨fun c => Cert.FInGdnValue.Out (Cert.FInGdnValue.argA m c) (Cert.FInGdnValue.argB m c), ?_, ?_⟩
  · exact (θ_run Cert.Kernel20Ideal.defs _ _).mono (fun r h c => ⟨(h c).1.trans (Cert.FInGdnValue.final m c), (h c).2⟩)
      (Cert.Kernel20Ideal.Value.run_blocks (F := Ideal) m g)
  · refine (θ_run Cert.Reference20Ideal.defs _ _).mono (fun r h c => ⟨(h c).1.trans ?_, (h c).2⟩) (Cert.Reference20Ideal.Value.run (F := Ideal) m' g')
    refine (Cert.FInGdnValue.Ref.ref_eq _ _).trans ?_
    rw [(hagree c).1, (hagree c).2]

/-- The frame of the reference of the latent layer's input projection. -/
theorem frame_reference21 [h : Cert.Reference21Ideal.Facts] : Cert.quiescent_Reference21Ideal := by
  intro m ρ _
  exact (θ_run Cert.Reference21Ideal.defs _ _).mono (fun r h => ⟨fun c => (h c).2, sem_eq_zero_of_no_sems (by decide) r.2⟩)
    (Cert.Reference21Ideal.Value.run (F := Ideal) m ρ)

/-- The latent layer's input projection is the reference's. -/
theorem algebraic21 [hK : Cert.Kernel21Ideal.Facts] [hR : Cert.Reference21Ideal.Facts] : Cert.algebraic_Kernel21Ideal_Reference21Ideal := by
  intro m g m' g' _ hagree
  refine ⟨fun c => Cert.FInMlaValue.Out (Cert.FInMlaValue.argA m c) (Cert.FInMlaValue.argB m c), ?_, ?_⟩
  · exact (θ_run Cert.Kernel21Ideal.defs _ _).mono (fun r h c => ⟨(h c).1.trans (Cert.FInMlaValue.final m c), (h c).2⟩)
      (Cert.Kernel21Ideal.Value.run_blocks (F := Ideal) m g)
  · refine (θ_run Cert.Reference21Ideal.defs _ _).mono (fun r h c => ⟨(h c).1.trans ?_, (h c).2⟩) (Cert.Reference21Ideal.Value.run (F := Ideal) m' g')
    refine (Cert.FInMlaValue.Ref.ref_eq _ _).trans ?_
    rw [(hagree c).1, (hagree c).2]

/-- The frame of the reference of the queries. -/
theorem frame_reference22 [h : Cert.Reference22Ideal.Facts] : Cert.quiescent_Reference22Ideal := by
  intro m ρ _
  exact (θ_run Cert.Reference22Ideal.defs _ _).mono (fun r h => ⟨fun c => (h c).2, sem_eq_zero_of_no_sems (by decide) r.2⟩)
    (Cert.Reference22Ideal.Value.run (F := Ideal) m ρ)

/-- The queries is the reference's. -/
theorem algebraic22 [hK : Cert.Kernel22Ideal.Facts] [hR : Cert.Reference22Ideal.Facts] : Cert.algebraic_Kernel22Ideal_Reference22Ideal := by
  intro m g m' g' _ hagree
  refine ⟨fun c => Cert.FUqValue.Out (Cert.FUqValue.argA m c) (Cert.FUqValue.argB m c), ?_, ?_⟩
  · exact (θ_run Cert.Kernel22Ideal.defs _ _).mono (fun r h c => ⟨(h c).1.trans (Cert.FUqValue.final m c), (h c).2⟩)
      (Cert.Kernel22Ideal.Value.run_blocks (F := Ideal) m g)
  · refine (θ_run Cert.Reference22Ideal.defs _ _).mono (fun r h c => ⟨(h c).1.trans ?_, (h c).2⟩) (Cert.Reference22Ideal.Value.run (F := Ideal) m' g')
    refine (Cert.FUqValue.Ref.ref_eq _ _).trans ?_
    rw [(hagree c).1, (hagree c).2]

/-- The frame of the reference of the keys and values. -/
theorem frame_reference23 [h : Cert.Reference23Ideal.Facts] : Cert.quiescent_Reference23Ideal := by
  intro m ρ _
  exact (θ_run Cert.Reference23Ideal.defs _ _).mono (fun r h => ⟨fun c => (h c).2, sem_eq_zero_of_no_sems (by decide) r.2⟩)
    (Cert.Reference23Ideal.Value.run (F := Ideal) m ρ)

/-- The keys and values is the reference's. -/
theorem algebraic23 [hK : Cert.Kernel23Ideal.Facts] [hR : Cert.Reference23Ideal.Facts] : Cert.algebraic_Kernel23Ideal_Reference23Ideal := by
  intro m g m' g' _ hagree
  refine ⟨fun c => Cert.FUkvValue.Out (Cert.FUkvValue.argA m c) (Cert.FUkvValue.argB m c), ?_, ?_⟩
  · exact (θ_run Cert.Kernel23Ideal.defs _ _).mono (fun r h c => ⟨(h c).1.trans (Cert.FUkvValue.final m c), (h c).2⟩)
      (Cert.Kernel23Ideal.Value.run_blocks (F := Ideal) m g)
  · refine (θ_run Cert.Reference23Ideal.defs _ _).mono (fun r h c => ⟨(h c).1.trans ?_, (h c).2⟩) (Cert.Reference23Ideal.Value.run (F := Ideal) m' g')
    refine (Cert.FUkvValue.Ref.ref_eq _ _).trans ?_
    rw [(hagree c).1, (hagree c).2]

/-- The frame of the reference of the memory's keys and values. -/
theorem frame_reference24 [h : Cert.Reference24Ideal.Facts] : Cert.quiescent_Reference24Ideal := by
  intro m ρ _
  exact (θ_run Cert.Reference24Ideal.defs _ _).mono (fun r h => ⟨fun c => (h c).2, sem_eq_zero_of_no_sems (by decide) r.2⟩)
    (Cert.Reference24Ideal.Value.run (F := Ideal) m ρ)

/-- The memory's keys and values is the reference's. -/
theorem algebraic24 [hK : Cert.Kernel24Ideal.Facts] [hR : Cert.Reference24Ideal.Facts] : Cert.algebraic_Kernel24Ideal_Reference24Ideal := by
  intro m g m' g' _ hagree
  refine ⟨fun c => Cert.FMemkvValue.Out (Cert.FMemkvValue.argA m c) (Cert.FMemkvValue.argB m c), ?_, ?_⟩
  · exact (θ_run Cert.Kernel24Ideal.defs _ _).mono (fun r h c => ⟨(h c).1.trans (Cert.FMemkvValue.final m c), (h c).2⟩)
      (Cert.Kernel24Ideal.Value.run_blocks (F := Ideal) m g)
  · refine (θ_run Cert.Reference24Ideal.defs _ _).mono (fun r h c => ⟨(h c).1.trans ?_, (h c).2⟩) (Cert.Reference24Ideal.Value.run (F := Ideal) m' g')
    refine (Cert.FMemkvValue.Ref.ref_eq _ _).trans ?_
    rw [(hagree c).1, (hagree c).2]

/-- The frame of the reference of the layer norm's backward pass. -/
theorem frame_reference25 [h : Cert.Reference25Ideal.Facts] : Cert.quiescent_Reference25Ideal := by
  intro m ρ _
  exact (θ_run Cert.Reference25Ideal.defs _ _).mono (fun r h => ⟨fun c => (h c).2.2.2.2, sem_eq_zero_of_no_sems (by decide) r.2⟩)
    (Cert.Reference25Ideal.Value.run (F := Ideal) m ρ)

/-- The layer norm's backward pass: the kernel's results are the reference's. -/
theorem algebraic25 [hK : Cert.Kernel25Ideal.Facts] [hR : Cert.Reference25Ideal.Facts] : Cert.algebraic_Kernel25Ideal_Reference25Ideal := by
  intro m g m' g' _ hagree
  refine ⟨fun c => Cert.LnbRef.O0 (Cert.LnbValue.argX m c) (Cert.LnbValue.argY m c) (Cert.LnbValue.argG m c) (Cert.LnbValue.argD m c),
    fun c => Cert.LnbRef.O1 (Cert.LnbValue.argX m c) (Cert.LnbValue.argY m c) (Cert.LnbValue.argG m c) (Cert.LnbValue.argD m c),
    fun c => Cert.LnbRef.O2 (Cert.LnbValue.argX m c) (Cert.LnbValue.argY m c) (Cert.LnbValue.argD m c),
    fun c => Cert.LnbRef.O3 (Cert.LnbValue.argD m c), ?_, ?_⟩
  · exact (θ_run Cert.Kernel25Ideal.defs _ _).mono (fun r h c => ⟨(h c).1.trans (Cert.LnbValue.final5 m c), (h c).2.1.trans (Cert.LnbValue.final6 m c), (h c).2.2.1.trans (Cert.LnbValue.final7 m c), (h c).2.2.2.1.trans (Cert.LnbValue.final8 m c), (h c).2.2.2.2⟩)
      (Cert.Kernel25Ideal.Value.run_blocks (F := Ideal) m g)
  · refine (θ_run Cert.Reference25Ideal.defs _ _).mono (fun r h c => ⟨(h c).1.trans ?_, (h c).2.1.trans ?_, (h c).2.2.1.trans ?_, (h c).2.2.2.1.trans ?_, (h c).2.2.2.2⟩) (Cert.Reference25Ideal.Value.run (F := Ideal) m' g')
    · refine Eq.trans (b := Cert.LnbRef.O0 (m' ((c.tc : Thread Cert.Reference25Ideal.nD Cert.Reference25Ideal.τ).loc Cert.Reference25Ideal.main_arg0)) (m' ((c.tc : Thread Cert.Reference25Ideal.nD Cert.Reference25Ideal.τ).loc Cert.Reference25Ideal.main_arg1)) (m' ((c.tc : Thread Cert.Reference25Ideal.nD Cert.Reference25Ideal.τ).loc Cert.Reference25Ideal.main_arg2)) (m' ((c.tc : Thread Cert.Reference25Ideal.nD Cert.Reference25Ideal.τ).loc Cert.Reference25Ideal.main_arg4))) rfl ?_
      rw [(hagree c).1, (hagree c).2.1, (hagree c).2.2.1, (hagree c).2.2.2.2]
    · refine Eq.trans (b := Cert.LnbRef.O1 (m' ((c.tc : Thread Cert.Reference25Ideal.nD Cert.Reference25Ideal.τ).loc Cert.Reference25Ideal.main_arg0)) (m' ((c.tc : Thread Cert.Reference25Ideal.nD Cert.Reference25Ideal.τ).loc Cert.Reference25Ideal.main_arg1)) (m' ((c.tc : Thread Cert.Reference25Ideal.nD Cert.Reference25Ideal.τ).loc Cert.Reference25Ideal.main_arg2)) (m' ((c.tc : Thread Cert.Reference25Ideal.nD Cert.Reference25Ideal.τ).loc Cert.Reference25Ideal.main_arg4))) rfl ?_
      rw [(hagree c).1, (hagree c).2.1, (hagree c).2.2.1, (hagree c).2.2.2.2]
    · refine Eq.trans (b := Cert.LnbRef.O2 (m' ((c.tc : Thread Cert.Reference25Ideal.nD Cert.Reference25Ideal.τ).loc Cert.Reference25Ideal.main_arg0)) (m' ((c.tc : Thread Cert.Reference25Ideal.nD Cert.Reference25Ideal.τ).loc Cert.Reference25Ideal.main_arg1)) (m' ((c.tc : Thread Cert.Reference25Ideal.nD Cert.Reference25Ideal.τ).loc Cert.Reference25Ideal.main_arg4))) rfl ?_
      rw [(hagree c).1, (hagree c).2.1, (hagree c).2.2.2.2]
    · refine Eq.trans (b := Cert.LnbRef.O3 (m' ((c.tc : Thread Cert.Reference25Ideal.nD Cert.Reference25Ideal.τ).loc Cert.Reference25Ideal.main_arg4))) rfl ?_
      rw [(hagree c).2.2.2.2]

/-- The frame of the reference of the memory attention's backward pass in a gated delta layer. -/
theorem frame_reference26 [h : Cert.Reference26Ideal.Facts] : Cert.quiescent_Reference26Ideal := by
  intro m ρ _
  exact (θ_run Cert.Reference26Ideal.defs _ _).mono (fun r h => ⟨fun c => (h c).2.2, sem_eq_zero_of_no_sems (by decide) r.2⟩)
    (Cert.Reference26Ideal.Value.run (F := Ideal) m ρ)

/-- The memory attention's backward pass in a gated delta layer: the kernel's results are the reference's. -/
theorem algebraic26 [hK : Cert.Kernel26Ideal.Facts] [hR : Cert.Reference26Ideal.Facts] : Cert.algebraic_Kernel26Ideal_Reference26Ideal := by
  intro m g m' g' _ hagree
  refine ⟨fun c => Cert.MemGRef.OQ (Cert.MemGValue.argX m c) (Cert.MemGValue.argM m c) (Cert.MemGValue.argG m c),
    fun c => Cert.MemGRef.OKV (Cert.MemGValue.argX m c) (Cert.MemGValue.argM m c) (Cert.MemGValue.argG m c), ?_, ?_⟩
  · exact (θ_run Cert.Kernel26Ideal.defs _ _).mono (fun r h c => ⟨(h c).1.trans (Cert.MemGValue.final3 m c), (h c).2.1.trans (Cert.MemGValue.final4 m c), (h c).2.2⟩)
      (Cert.Kernel26Ideal.Value.run_blocks (F := Ideal) m g)
  · refine (θ_run Cert.Reference26Ideal.defs _ _).mono (fun r h c => ⟨(h c).1.trans ?_, (h c).2.1.trans ?_, (h c).2.2⟩) (Cert.Reference26Ideal.Value.run (F := Ideal) m' g')
    · refine Eq.trans (b := Cert.MemGRef.OQ (m' ((c.tc : Thread Cert.Reference26Ideal.nD Cert.Reference26Ideal.τ).loc Cert.Reference26Ideal.main_arg0)) (m' ((c.tc : Thread Cert.Reference26Ideal.nD Cert.Reference26Ideal.τ).loc Cert.Reference26Ideal.main_arg1)) (m' ((c.tc : Thread Cert.Reference26Ideal.nD Cert.Reference26Ideal.τ).loc Cert.Reference26Ideal.main_arg2))) rfl ?_
      rw [(hagree c).1, (hagree c).2.1, (hagree c).2.2]
    · refine Eq.trans (b := Cert.MemGRef.OKV (m' ((c.tc : Thread Cert.Reference26Ideal.nD Cert.Reference26Ideal.τ).loc Cert.Reference26Ideal.main_arg0)) (m' ((c.tc : Thread Cert.Reference26Ideal.nD Cert.Reference26Ideal.τ).loc Cert.Reference26Ideal.main_arg1)) (m' ((c.tc : Thread Cert.Reference26Ideal.nD Cert.Reference26Ideal.τ).loc Cert.Reference26Ideal.main_arg2))) rfl ?_
      rw [(hagree c).1, (hagree c).2.1, (hagree c).2.2]

/-- The frame of the reference of the gated norm's backward pass. -/
theorem frame_reference27 [h : Cert.Reference27Ideal.Facts] : Cert.quiescent_Reference27Ideal := by
  intro m ρ _
  exact (θ_run Cert.Reference27Ideal.defs _ _).mono (fun r h => ⟨fun c => (h c).2.2.2, sem_eq_zero_of_no_sems (by decide) r.2⟩)
    (Cert.Reference27Ideal.Value.run (F := Ideal) m ρ)

/-- The gated norm's backward pass: the kernel's results are the reference's. -/
theorem algebraic27 [hK : Cert.Kernel27Ideal.Facts] [hR : Cert.Reference27Ideal.Facts] : Cert.algebraic_Kernel27Ideal_Reference27Ideal := by
  intro m g m' g' _ hagree
  refine ⟨fun c => Cert.GobRef.O0 (Cert.GobValue.argO m c) (Cert.GobValue.argH m c) (Cert.GobValue.argN m c) (Cert.GobValue.argD m c),
    fun c => Cert.GobRef.O1 (Cert.GobValue.argO m c) (Cert.GobValue.argH m c) (Cert.GobValue.argN m c) (Cert.GobValue.argD m c),
    fun c => Cert.GobRef.O2 (Cert.GobValue.argO m c) (Cert.GobValue.argH m c) (Cert.GobValue.argD m c), ?_, ?_⟩
  · exact (θ_run Cert.Kernel27Ideal.defs _ _).mono (fun r h c => ⟨(h c).1.trans (Cert.GobValue.final4 m c), (h c).2.1.trans (Cert.GobValue.final5 m c), (h c).2.2.1.trans (Cert.GobValue.final6 m c), (h c).2.2.2⟩)
      (Cert.Kernel27Ideal.Value.run_blocks (F := Ideal) m g)
  · refine (θ_run Cert.Reference27Ideal.defs _ _).mono (fun r h c => ⟨(h c).1.trans ?_, (h c).2.1.trans ?_, (h c).2.2.1.trans ?_, (h c).2.2.2⟩) (Cert.Reference27Ideal.Value.run (F := Ideal) m' g')
    · refine Eq.trans (b := Cert.GobRef.O0 (m' ((c.tc : Thread Cert.Reference27Ideal.nD Cert.Reference27Ideal.τ).loc Cert.Reference27Ideal.main_arg0)) (m' ((c.tc : Thread Cert.Reference27Ideal.nD Cert.Reference27Ideal.τ).loc Cert.Reference27Ideal.main_arg1)) (m' ((c.tc : Thread Cert.Reference27Ideal.nD Cert.Reference27Ideal.τ).loc Cert.Reference27Ideal.main_arg2)) (m' ((c.tc : Thread Cert.Reference27Ideal.nD Cert.Reference27Ideal.τ).loc Cert.Reference27Ideal.main_arg3))) rfl ?_
      rw [(hagree c).1, (hagree c).2.1, (hagree c).2.2.1, (hagree c).2.2.2]
    · refine Eq.trans (b := Cert.GobRef.O1 (m' ((c.tc : Thread Cert.Reference27Ideal.nD Cert.Reference27Ideal.τ).loc Cert.Reference27Ideal.main_arg0)) (m' ((c.tc : Thread Cert.Reference27Ideal.nD Cert.Reference27Ideal.τ).loc Cert.Reference27Ideal.main_arg1)) (m' ((c.tc : Thread Cert.Reference27Ideal.nD Cert.Reference27Ideal.τ).loc Cert.Reference27Ideal.main_arg2)) (m' ((c.tc : Thread Cert.Reference27Ideal.nD Cert.Reference27Ideal.τ).loc Cert.Reference27Ideal.main_arg3))) rfl ?_
      rw [(hagree c).1, (hagree c).2.1, (hagree c).2.2.1, (hagree c).2.2.2]
    · refine Eq.trans (b := Cert.GobRef.O2 (m' ((c.tc : Thread Cert.Reference27Ideal.nD Cert.Reference27Ideal.τ).loc Cert.Reference27Ideal.main_arg0)) (m' ((c.tc : Thread Cert.Reference27Ideal.nD Cert.Reference27Ideal.τ).loc Cert.Reference27Ideal.main_arg1)) (m' ((c.tc : Thread Cert.Reference27Ideal.nD Cert.Reference27Ideal.τ).loc Cert.Reference27Ideal.main_arg3))) rfl ?_
      rw [(hagree c).1, (hagree c).2.1, (hagree c).2.2.2]

/-- The frame of the reference of the memory attention. -/
theorem frame_reference28 [h : Cert.Reference28Ideal.Facts] : Cert.quiescent_Reference28Ideal := by
  intro m ρ _
  exact (θ_run Cert.Reference28Ideal.defs _ _).mono (fun r h => ⟨fun c => (h c).2, sem_eq_zero_of_no_sems (by decide) r.2⟩)
    (Cert.Reference28Ideal.Value.run (F := Ideal) m ρ)

/-- The memory attention: the kernel's results are the reference's. -/
theorem algebraic28 [hK : Cert.Kernel28Ideal.Facts] [hR : Cert.Reference28Ideal.Facts] : Cert.algebraic_Kernel28Ideal_Reference28Ideal := by
  intro m g m' g' _ hagree
  refine ⟨fun c => Cert.MfRef.Out (Cert.MfValue.argX m c) (Cert.MfValue.argM m c), ?_, ?_⟩
  · exact (θ_run Cert.Kernel28Ideal.defs _ _).mono (fun r h c => ⟨(h c).1.trans (Cert.MfValue.final m c), (h c).2⟩)
      (Cert.Kernel28Ideal.Value.run_blocks (F := Ideal) m g)
  · refine (θ_run Cert.Reference28Ideal.defs _ _).mono (fun r h c => ⟨(h c).1.trans ?_, (h c).2⟩) (Cert.Reference28Ideal.Value.run (F := Ideal) m' g')
    · refine Eq.trans (b := Cert.MfRef.Out (m' ((c.tc : Thread Cert.Reference28Ideal.nD Cert.Reference28Ideal.τ).loc Cert.Reference28Ideal.main_arg0)) (m' ((c.tc : Thread Cert.Reference28Ideal.nD Cert.Reference28Ideal.τ).loc Cert.Reference28Ideal.main_arg1))) rfl ?_
      rw [(hagree c).1, (hagree c).2]

/-- The frame of the reference of the memory attention in a gated delta layer. -/
theorem frame_reference29 [h : Cert.Reference29Ideal.Facts] : Cert.quiescent_Reference29Ideal := by
  intro m ρ _
  exact (θ_run Cert.Reference29Ideal.defs _ _).mono (fun r h => ⟨fun c => (h c).2, sem_eq_zero_of_no_sems (by decide) r.2⟩)
    (Cert.Reference29Ideal.Value.run (F := Ideal) m ρ)

/-- The memory attention in a gated delta layer: the kernel's results are the reference's. -/
theorem algebraic29 [hK : Cert.Kernel29Ideal.Facts] [hR : Cert.Reference29Ideal.Facts] : Cert.algebraic_Kernel29Ideal_Reference29Ideal := by
  intro m g m' g' _ hagree
  refine ⟨fun c => Cert.MfGRef.Out (Cert.MfGValue.argX m c) (Cert.MfGValue.argM m c), ?_, ?_⟩
  · exact (θ_run Cert.Kernel29Ideal.defs _ _).mono (fun r h c => ⟨(h c).1.trans (Cert.MfGValue.final m c), (h c).2⟩)
      (Cert.Kernel29Ideal.Value.run_blocks (F := Ideal) m g)
  · refine (θ_run Cert.Reference29Ideal.defs _ _).mono (fun r h c => ⟨(h c).1.trans ?_, (h c).2⟩) (Cert.Reference29Ideal.Value.run (F := Ideal) m' g')
    · refine Eq.trans (b := Cert.MfGRef.Out (m' ((c.tc : Thread Cert.Reference29Ideal.nD Cert.Reference29Ideal.τ).loc Cert.Reference29Ideal.main_arg0)) (m' ((c.tc : Thread Cert.Reference29Ideal.nD Cert.Reference29Ideal.τ).loc Cert.Reference29Ideal.main_arg1))) rfl ?_
      rw [(hagree c).1, (hagree c).2]

/-- The frame of the reference of the latent norms' and rotation's backward pass. -/
theorem frame_reference30 [h : Cert.Reference30Ideal.Facts] : Cert.quiescent_Reference30Ideal := by
  intro m ρ _
  exact (θ_run Cert.Reference30Ideal.defs _ _).mono (fun r h => ⟨fun c => (h c).2.2.2.2.2, sem_eq_zero_of_no_sems (by decide) r.2⟩)
    (Cert.Reference30Ideal.Value.run (F := Ideal) m ρ)

/-- The latent norms' and rotation's backward pass: the kernel's results are the reference's. -/
theorem algebraic30 [hK : Cert.Kernel30Ideal.Facts] [hR : Cert.Reference30Ideal.Facts] : Cert.algebraic_Kernel30Ideal_Reference30Ideal := by
  intro m g m' g' _ hagree
  refine ⟨fun c => Cert.PrpRef.O0 (Cert.PrpValue.argH m c) (Cert.PrpValue.argQ m c) (Cert.PrpValue.argDQ m c),
    fun c => Cert.PrpRef.O1 (Cert.PrpValue.argH m c) (Cert.PrpValue.argKV m c) (Cert.PrpValue.argDKV m c),
    fun c => Cert.PrpRef.O2 (Cert.PrpValue.argC m c) (Cert.PrpValue.argS m c) (Cert.PrpValue.argDK m c),
    fun c => Cert.PrpRef.O3 (Cert.PrpValue.argH m c) (Cert.PrpValue.argDQ m c),
    fun c => Cert.PrpRef.O4 (Cert.PrpValue.argH m c) (Cert.PrpValue.argDKV m c), ?_, ?_⟩
  · exact (θ_run Cert.Kernel30Ideal.defs _ _).mono (fun r h c => ⟨(h c).1.trans (Cert.PrpValue.final9 m c), (h c).2.1.trans (Cert.PrpValue.final10 m c), (h c).2.2.1.trans (Cert.PrpValue.final11 m c), (h c).2.2.2.1.trans (Cert.PrpValue.final12 m c), (h c).2.2.2.2.1.trans (Cert.PrpValue.final13 m c), (h c).2.2.2.2.2⟩)
      (Cert.Kernel30Ideal.Value.run_blocks (F := Ideal) m g)
  · refine (θ_run Cert.Reference30Ideal.defs _ _).mono (fun r h c => ⟨(h c).1.trans ?_, (h c).2.1.trans ?_, (h c).2.2.1.trans ?_, (h c).2.2.2.1.trans ?_, (h c).2.2.2.2.1.trans ?_, (h c).2.2.2.2.2⟩) (Cert.Reference30Ideal.Value.run (F := Ideal) m' g')
    · refine Eq.trans (b := Cert.PrpRef.O0 (m' ((c.tc : Thread Cert.Reference30Ideal.nD Cert.Reference30Ideal.τ).loc Cert.Reference30Ideal.main_arg0)) (m' ((c.tc : Thread Cert.Reference30Ideal.nD Cert.Reference30Ideal.τ).loc Cert.Reference30Ideal.main_arg1)) (m' ((c.tc : Thread Cert.Reference30Ideal.nD Cert.Reference30Ideal.τ).loc Cert.Reference30Ideal.main_arg5))) rfl ?_
      rw [(hagree c).1, (hagree c).2.1, (hagree c).2.2.2.2.2.1]
    · refine Eq.trans (b := Cert.PrpRef.O1 (m' ((c.tc : Thread Cert.Reference30Ideal.nD Cert.Reference30Ideal.τ).loc Cert.Reference30Ideal.main_arg0)) (m' ((c.tc : Thread Cert.Reference30Ideal.nD Cert.Reference30Ideal.τ).loc Cert.Reference30Ideal.main_arg2)) (m' ((c.tc : Thread Cert.Reference30Ideal.nD Cert.Reference30Ideal.τ).loc Cert.Reference30Ideal.main_arg6))) rfl ?_
      rw [(hagree c).1, (hagree c).2.2.1, (hagree c).2.2.2.2.2.2.1]
    · refine Eq.trans (b := Cert.PrpRef.O2 (m' ((c.tc : Thread Cert.Reference30Ideal.nD Cert.Reference30Ideal.τ).loc Cert.Reference30Ideal.main_arg3)) (m' ((c.tc : Thread Cert.Reference30Ideal.nD Cert.Reference30Ideal.τ).loc Cert.Reference30Ideal.main_arg4)) (m' ((c.tc : Thread Cert.Reference30Ideal.nD Cert.Reference30Ideal.τ).loc Cert.Reference30Ideal.main_arg7))) rfl ?_
      rw [(hagree c).2.2.2.1, (hagree c).2.2.2.2.1, (hagree c).2.2.2.2.2.2.2]
    · refine Eq.trans (b := Cert.PrpRef.O3 (m' ((c.tc : Thread Cert.Reference30Ideal.nD Cert.Reference30Ideal.τ).loc Cert.Reference30Ideal.main_arg0)) (m' ((c.tc : Thread Cert.Reference30Ideal.nD Cert.Reference30Ideal.τ).loc Cert.Reference30Ideal.main_arg5))) rfl ?_
      rw [(hagree c).1, (hagree c).2.2.2.2.2.1]
    · refine Eq.trans (b := Cert.PrpRef.O4 (m' ((c.tc : Thread Cert.Reference30Ideal.nD Cert.Reference30Ideal.τ).loc Cert.Reference30Ideal.main_arg0)) (m' ((c.tc : Thread Cert.Reference30Ideal.nD Cert.Reference30Ideal.τ).loc Cert.Reference30Ideal.main_arg6))) rfl ?_
      rw [(hagree c).1, (hagree c).2.2.2.2.2.2.1]

/-- The frame of the reference of the layer norm. -/
theorem frame_reference31 [h : Cert.Reference31Ideal.Facts] : Cert.quiescent_Reference31Ideal := by
  intro m ρ _
  exact (θ_run Cert.Reference31Ideal.defs _ _).mono (fun r h => ⟨fun c => (h c).2.2, sem_eq_zero_of_no_sems (by decide) r.2⟩)
    (Cert.Reference31Ideal.Value.run (F := Ideal) m ρ)

/-- The layer norm: the kernel's results are the reference's. -/
theorem algebraic31 [hK : Cert.Kernel31Ideal.Facts] [hR : Cert.Reference31Ideal.Facts] : Cert.algebraic_Kernel31Ideal_Reference31Ideal := by
  intro m g m' g' _ hagree
  refine ⟨fun c => Cert.LnfRef.O0 (Cert.LnfValue.argX m c) (Cert.LnfValue.argY m c) (Cert.LnfValue.argG m c) (Cert.LnfValue.argB m c),
    fun c => Cert.LnfRef.O1 (Cert.LnfValue.argX m c) (Cert.LnfValue.argY m c) (Cert.LnfValue.argG m c) (Cert.LnfValue.argB m c), ?_, ?_⟩
  · exact (θ_run Cert.Kernel31Ideal.defs _ _).mono (fun r h c => ⟨(h c).1.trans (Cert.LnfValue.final4 m c), (h c).2.1.trans (Cert.LnfValue.final5 m c), (h c).2.2⟩)
      (Cert.Kernel31Ideal.Value.run_blocks (F := Ideal) m g)
  · refine (θ_run Cert.Reference31Ideal.defs _ _).mono (fun r h c => ⟨(h c).1.trans ?_, (h c).2.1.trans ?_, (h c).2.2⟩) (Cert.Reference31Ideal.Value.run (F := Ideal) m' g')
    · refine Eq.trans (b := Cert.LnfRef.O0 (m' ((c.tc : Thread Cert.Reference31Ideal.nD Cert.Reference31Ideal.τ).loc Cert.Reference31Ideal.main_arg0)) (m' ((c.tc : Thread Cert.Reference31Ideal.nD Cert.Reference31Ideal.τ).loc Cert.Reference31Ideal.main_arg1)) (m' ((c.tc : Thread Cert.Reference31Ideal.nD Cert.Reference31Ideal.τ).loc Cert.Reference31Ideal.main_arg2)) (m' ((c.tc : Thread Cert.Reference31Ideal.nD Cert.Reference31Ideal.τ).loc Cert.Reference31Ideal.main_arg3))) rfl ?_
      rw [(hagree c).1, (hagree c).2.1, (hagree c).2.2.1, (hagree c).2.2.2]
    · refine Eq.trans (b := Cert.LnfRef.O1 (m' ((c.tc : Thread Cert.Reference31Ideal.nD Cert.Reference31Ideal.τ).loc Cert.Reference31Ideal.main_arg0)) (m' ((c.tc : Thread Cert.Reference31Ideal.nD Cert.Reference31Ideal.τ).loc Cert.Reference31Ideal.main_arg1)) (m' ((c.tc : Thread Cert.Reference31Ideal.nD Cert.Reference31Ideal.τ).loc Cert.Reference31Ideal.main_arg2)) (m' ((c.tc : Thread Cert.Reference31Ideal.nD Cert.Reference31Ideal.τ).loc Cert.Reference31Ideal.main_arg3))) rfl ?_
      rw [(hagree c).1, (hagree c).2.1, (hagree c).2.2.1, (hagree c).2.2.2]

/-- The frame of the reference of the gated norm. -/
theorem frame_reference32 [h : Cert.Reference32Ideal.Facts] : Cert.quiescent_Reference32Ideal := by
  intro m ρ _
  exact (θ_run Cert.Reference32Ideal.defs _ _).mono (fun r h => ⟨fun c => (h c).2, sem_eq_zero_of_no_sems (by decide) r.2⟩)
    (Cert.Reference32Ideal.Value.run (F := Ideal) m ρ)

/-- The gated norm: the kernel's results are the reference's. -/
theorem algebraic32 [hK : Cert.Kernel32Ideal.Facts] [hR : Cert.Reference32Ideal.Facts] : Cert.algebraic_Kernel32Ideal_Reference32Ideal := by
  intro m g m' g' _ hagree
  refine ⟨fun c => Cert.GofRef.G (Cert.GofValue.argO m c) (Cert.GofValue.argH m c) (Cert.GofValue.argN m c), ?_, ?_⟩
  · exact (θ_run Cert.Kernel32Ideal.defs _ _).mono (fun r h c => ⟨(h c).1.trans (Cert.GofValue.final m c), (h c).2⟩)
      (Cert.Kernel32Ideal.Value.run_blocks (F := Ideal) m g)
  · refine (θ_run Cert.Reference32Ideal.defs _ _).mono (fun r h c => ⟨(h c).1.trans ?_, (h c).2⟩) (Cert.Reference32Ideal.Value.run (F := Ideal) m' g')
    · refine Eq.trans (b := Cert.GofRef.G (m' ((c.tc : Thread Cert.Reference32Ideal.nD Cert.Reference32Ideal.τ).loc Cert.Reference32Ideal.main_arg0)) (m' ((c.tc : Thread Cert.Reference32Ideal.nD Cert.Reference32Ideal.τ).loc Cert.Reference32Ideal.main_arg1)) (m' ((c.tc : Thread Cert.Reference32Ideal.nD Cert.Reference32Ideal.τ).loc Cert.Reference32Ideal.main_arg2))) rfl ?_
      rw [(hagree c).1, (hagree c).2.1, (hagree c).2.2]

/-- The frame of the reference of the optimiser's step on mla_w_in. -/
theorem frame_reference34 [h : Cert.Reference34Ideal.Facts] : Cert.quiescent_Reference34Ideal := by
  intro m ρ _
  exact (θ_run Cert.Reference34Ideal.defs _ _).mono (fun r h => ⟨fun c => (h c).2.2.2.2, sem_eq_zero_of_no_sems (by decide) r.2⟩)
    (Cert.Reference34Ideal.Value.run (F := Ideal) m ρ)

/-- The optimiser's step on mla_w_in: the kernel's results are the reference's. -/
theorem algebraic34 [hK : Cert.Kernel34Ideal.Facts] [hR : Cert.Reference34Ideal.Facts] : Cert.algebraic_Kernel34Ideal_Reference34Ideal := by
  intro m g m' g' _ hagree
  refine ⟨fun c => Cert.Ad34Ref.G (Cert.Ad34Value.argP m c),
    fun c => Cert.Ad34Ref.D (Cert.Ad34Value.argP m c) (Cert.Ad34Value.argW m c) (Cert.Ad34Value.argM m c) (Cert.Ad34Value.argV m c),
    fun c => Cert.Ad34Ref.NM (Cert.Ad34Value.argP m c) (Cert.Ad34Value.argM m c),
    fun c => Cert.Ad34Ref.NV (Cert.Ad34Value.argP m c) (Cert.Ad34Value.argV m c), ?_, ?_⟩
  · exact (θ_run Cert.Kernel34Ideal.defs _ _).mono (fun r h c => ⟨(h c).1.trans (Cert.Ad34Value.final4 m c), (h c).2.1.trans (Cert.Ad34Value.final5 m c), (h c).2.2.1.trans (Cert.Ad34Value.final6 m c), (h c).2.2.2.1.trans (Cert.Ad34Value.final7 m c), (h c).2.2.2.2⟩)
      (Cert.Kernel34Ideal.Value.run_blocks (F := Ideal) m g)
  · refine (θ_run Cert.Reference34Ideal.defs _ _).mono (fun r h c => ⟨(h c).1.trans ?_, (h c).2.1.trans ?_, (h c).2.2.1.trans ?_, (h c).2.2.2.1.trans ?_, (h c).2.2.2.2⟩) (Cert.Reference34Ideal.Value.run (F := Ideal) m' g')
    · refine Eq.trans (b := Cert.Ad34Ref.G (m' ((c.tc : Thread Cert.Reference34Ideal.nD Cert.Reference34Ideal.τ).loc Cert.Reference34Ideal.main_arg0))) rfl ?_
      rw [(hagree c).1]
    · refine Eq.trans (b := Cert.Ad34Ref.D (m' ((c.tc : Thread Cert.Reference34Ideal.nD Cert.Reference34Ideal.τ).loc Cert.Reference34Ideal.main_arg0)) (m' ((c.tc : Thread Cert.Reference34Ideal.nD Cert.Reference34Ideal.τ).loc Cert.Reference34Ideal.main_arg1)) (m' ((c.tc : Thread Cert.Reference34Ideal.nD Cert.Reference34Ideal.τ).loc Cert.Reference34Ideal.main_arg2)) (m' ((c.tc : Thread Cert.Reference34Ideal.nD Cert.Reference34Ideal.τ).loc Cert.Reference34Ideal.main_arg3))) rfl ?_
      rw [(hagree c).1, (hagree c).2.1, (hagree c).2.2.1, (hagree c).2.2.2]
    · refine Eq.trans (b := Cert.Ad34Ref.NM (m' ((c.tc : Thread Cert.Reference34Ideal.nD Cert.Reference34Ideal.τ).loc Cert.Reference34Ideal.main_arg0)) (m' ((c.tc : Thread Cert.Reference34Ideal.nD Cert.Reference34Ideal.τ).loc Cert.Reference34Ideal.main_arg2))) rfl ?_
      rw [(hagree c).1, (hagree c).2.2.1]
    · refine Eq.trans (b := Cert.Ad34Ref.NV (m' ((c.tc : Thread Cert.Reference34Ideal.nD Cert.Reference34Ideal.τ).loc Cert.Reference34Ideal.main_arg0)) (m' ((c.tc : Thread Cert.Reference34Ideal.nD Cert.Reference34Ideal.τ).loc Cert.Reference34Ideal.main_arg3))) rfl ?_
      rw [(hagree c).1, (hagree c).2.2.2]

/-- The frame of the reference of the optimiser's step on mla_w_uq. -/
theorem frame_reference35 [h : Cert.Reference35Ideal.Facts] : Cert.quiescent_Reference35Ideal := by
  intro m ρ _
  exact (θ_run Cert.Reference35Ideal.defs _ _).mono (fun r h => ⟨fun c => (h c).2.2.2.2, sem_eq_zero_of_no_sems (by decide) r.2⟩)
    (Cert.Reference35Ideal.Value.run (F := Ideal) m ρ)

/-- The optimiser's step on mla_w_uq: the kernel's results are the reference's. -/
theorem algebraic35 [hK : Cert.Kernel35Ideal.Facts] [hR : Cert.Reference35Ideal.Facts] : Cert.algebraic_Kernel35Ideal_Reference35Ideal := by
  intro m g m' g' _ hagree
  refine ⟨fun c => Cert.Ad35Ref.G (Cert.Ad35Value.argP m c),
    fun c => Cert.Ad35Ref.D (Cert.Ad35Value.argP m c) (Cert.Ad35Value.argW m c) (Cert.Ad35Value.argM m c) (Cert.Ad35Value.argV m c),
    fun c => Cert.Ad35Ref.NM (Cert.Ad35Value.argP m c) (Cert.Ad35Value.argM m c),
    fun c => Cert.Ad35Ref.NV (Cert.Ad35Value.argP m c) (Cert.Ad35Value.argV m c), ?_, ?_⟩
  · exact (θ_run Cert.Kernel35Ideal.defs _ _).mono (fun r h c => ⟨(h c).1.trans (Cert.Ad35Value.final4 m c), (h c).2.1.trans (Cert.Ad35Value.final5 m c), (h c).2.2.1.trans (Cert.Ad35Value.final6 m c), (h c).2.2.2.1.trans (Cert.Ad35Value.final7 m c), (h c).2.2.2.2⟩)
      (Cert.Kernel35Ideal.Value.run_blocks (F := Ideal) m g)
  · refine (θ_run Cert.Reference35Ideal.defs _ _).mono (fun r h c => ⟨(h c).1.trans ?_, (h c).2.1.trans ?_, (h c).2.2.1.trans ?_, (h c).2.2.2.1.trans ?_, (h c).2.2.2.2⟩) (Cert.Reference35Ideal.Value.run (F := Ideal) m' g')
    · refine Eq.trans (b := Cert.Ad35Ref.G (m' ((c.tc : Thread Cert.Reference35Ideal.nD Cert.Reference35Ideal.τ).loc Cert.Reference35Ideal.main_arg0))) rfl ?_
      rw [(hagree c).1]
    · refine Eq.trans (b := Cert.Ad35Ref.D (m' ((c.tc : Thread Cert.Reference35Ideal.nD Cert.Reference35Ideal.τ).loc Cert.Reference35Ideal.main_arg0)) (m' ((c.tc : Thread Cert.Reference35Ideal.nD Cert.Reference35Ideal.τ).loc Cert.Reference35Ideal.main_arg1)) (m' ((c.tc : Thread Cert.Reference35Ideal.nD Cert.Reference35Ideal.τ).loc Cert.Reference35Ideal.main_arg2)) (m' ((c.tc : Thread Cert.Reference35Ideal.nD Cert.Reference35Ideal.τ).loc Cert.Reference35Ideal.main_arg3))) rfl ?_
      rw [(hagree c).1, (hagree c).2.1, (hagree c).2.2.1, (hagree c).2.2.2]
    · refine Eq.trans (b := Cert.Ad35Ref.NM (m' ((c.tc : Thread Cert.Reference35Ideal.nD Cert.Reference35Ideal.τ).loc Cert.Reference35Ideal.main_arg0)) (m' ((c.tc : Thread Cert.Reference35Ideal.nD Cert.Reference35Ideal.τ).loc Cert.Reference35Ideal.main_arg2))) rfl ?_
      rw [(hagree c).1, (hagree c).2.2.1]
    · refine Eq.trans (b := Cert.Ad35Ref.NV (m' ((c.tc : Thread Cert.Reference35Ideal.nD Cert.Reference35Ideal.τ).loc Cert.Reference35Ideal.main_arg0)) (m' ((c.tc : Thread Cert.Reference35Ideal.nD Cert.Reference35Ideal.τ).loc Cert.Reference35Ideal.main_arg3))) rfl ?_
      rw [(hagree c).1, (hagree c).2.2.2]

/-- The frame of the reference of the optimiser's step on mla_w_ukv. -/
theorem frame_reference36 [h : Cert.Reference36Ideal.Facts] : Cert.quiescent_Reference36Ideal := by
  intro m ρ _
  exact (θ_run Cert.Reference36Ideal.defs _ _).mono (fun r h => ⟨fun c => (h c).2.2.2.2, sem_eq_zero_of_no_sems (by decide) r.2⟩)
    (Cert.Reference36Ideal.Value.run (F := Ideal) m ρ)

/-- The optimiser's step on mla_w_ukv: the kernel's results are the reference's. -/
theorem algebraic36 [hK : Cert.Kernel36Ideal.Facts] [hR : Cert.Reference36Ideal.Facts] : Cert.algebraic_Kernel36Ideal_Reference36Ideal := by
  intro m g m' g' _ hagree
  refine ⟨fun c => Cert.Ad36Ref.G (Cert.Ad36Value.argP m c),
    fun c => Cert.Ad36Ref.D (Cert.Ad36Value.argP m c) (Cert.Ad36Value.argW m c) (Cert.Ad36Value.argM m c) (Cert.Ad36Value.argV m c),
    fun c => Cert.Ad36Ref.NM (Cert.Ad36Value.argP m c) (Cert.Ad36Value.argM m c),
    fun c => Cert.Ad36Ref.NV (Cert.Ad36Value.argP m c) (Cert.Ad36Value.argV m c), ?_, ?_⟩
  · exact (θ_run Cert.Kernel36Ideal.defs _ _).mono (fun r h c => ⟨(h c).1.trans (Cert.Ad36Value.final4 m c), (h c).2.1.trans (Cert.Ad36Value.final5 m c), (h c).2.2.1.trans (Cert.Ad36Value.final6 m c), (h c).2.2.2.1.trans (Cert.Ad36Value.final7 m c), (h c).2.2.2.2⟩)
      (Cert.Kernel36Ideal.Value.run_blocks (F := Ideal) m g)
  · refine (θ_run Cert.Reference36Ideal.defs _ _).mono (fun r h c => ⟨(h c).1.trans ?_, (h c).2.1.trans ?_, (h c).2.2.1.trans ?_, (h c).2.2.2.1.trans ?_, (h c).2.2.2.2⟩) (Cert.Reference36Ideal.Value.run (F := Ideal) m' g')
    · refine Eq.trans (b := Cert.Ad36Ref.G (m' ((c.tc : Thread Cert.Reference36Ideal.nD Cert.Reference36Ideal.τ).loc Cert.Reference36Ideal.main_arg0))) rfl ?_
      rw [(hagree c).1]
    · refine Eq.trans (b := Cert.Ad36Ref.D (m' ((c.tc : Thread Cert.Reference36Ideal.nD Cert.Reference36Ideal.τ).loc Cert.Reference36Ideal.main_arg0)) (m' ((c.tc : Thread Cert.Reference36Ideal.nD Cert.Reference36Ideal.τ).loc Cert.Reference36Ideal.main_arg1)) (m' ((c.tc : Thread Cert.Reference36Ideal.nD Cert.Reference36Ideal.τ).loc Cert.Reference36Ideal.main_arg2)) (m' ((c.tc : Thread Cert.Reference36Ideal.nD Cert.Reference36Ideal.τ).loc Cert.Reference36Ideal.main_arg3))) rfl ?_
      rw [(hagree c).1, (hagree c).2.1, (hagree c).2.2.1, (hagree c).2.2.2]
    · refine Eq.trans (b := Cert.Ad36Ref.NM (m' ((c.tc : Thread Cert.Reference36Ideal.nD Cert.Reference36Ideal.τ).loc Cert.Reference36Ideal.main_arg0)) (m' ((c.tc : Thread Cert.Reference36Ideal.nD Cert.Reference36Ideal.τ).loc Cert.Reference36Ideal.main_arg2))) rfl ?_
      rw [(hagree c).1, (hagree c).2.2.1]
    · refine Eq.trans (b := Cert.Ad36Ref.NV (m' ((c.tc : Thread Cert.Reference36Ideal.nD Cert.Reference36Ideal.τ).loc Cert.Reference36Ideal.main_arg0)) (m' ((c.tc : Thread Cert.Reference36Ideal.nD Cert.Reference36Ideal.τ).loc Cert.Reference36Ideal.main_arg3))) rfl ?_
      rw [(hagree c).1, (hagree c).2.2.2]

/-- The frame of the reference of the optimiser's step on gdn_w_in. -/
theorem frame_reference37 [h : Cert.Reference37Ideal.Facts] : Cert.quiescent_Reference37Ideal := by
  intro m ρ _
  exact (θ_run Cert.Reference37Ideal.defs _ _).mono (fun r h => ⟨fun c => (h c).2.2.2.2, sem_eq_zero_of_no_sems (by decide) r.2⟩)
    (Cert.Reference37Ideal.Value.run (F := Ideal) m ρ)

/-- The optimiser's step on gdn_w_in: the kernel's results are the reference's. -/
theorem algebraic37 [hK : Cert.Kernel37Ideal.Facts] [hR : Cert.Reference37Ideal.Facts] : Cert.algebraic_Kernel37Ideal_Reference37Ideal := by
  intro m g m' g' _ hagree
  refine ⟨fun c => Cert.Ad37Ref.G (Cert.Ad37Value.argP m c),
    fun c => Cert.Ad37Ref.D (Cert.Ad37Value.argP m c) (Cert.Ad37Value.argW m c) (Cert.Ad37Value.argM m c) (Cert.Ad37Value.argV m c),
    fun c => Cert.Ad37Ref.NM (Cert.Ad37Value.argP m c) (Cert.Ad37Value.argM m c),
    fun c => Cert.Ad37Ref.NV (Cert.Ad37Value.argP m c) (Cert.Ad37Value.argV m c), ?_, ?_⟩
  · exact (θ_run Cert.Kernel37Ideal.defs _ _).mono (fun r h c => ⟨(h c).1.trans (Cert.Ad37Value.final4 m c), (h c).2.1.trans (Cert.Ad37Value.final5 m c), (h c).2.2.1.trans (Cert.Ad37Value.final6 m c), (h c).2.2.2.1.trans (Cert.Ad37Value.final7 m c), (h c).2.2.2.2⟩)
      (Cert.Kernel37Ideal.Value.run_blocks (F := Ideal) m g)
  · refine (θ_run Cert.Reference37Ideal.defs _ _).mono (fun r h c => ⟨(h c).1.trans ?_, (h c).2.1.trans ?_, (h c).2.2.1.trans ?_, (h c).2.2.2.1.trans ?_, (h c).2.2.2.2⟩) (Cert.Reference37Ideal.Value.run (F := Ideal) m' g')
    · refine Eq.trans (b := Cert.Ad37Ref.G (m' ((c.tc : Thread Cert.Reference37Ideal.nD Cert.Reference37Ideal.τ).loc Cert.Reference37Ideal.main_arg0))) rfl ?_
      rw [(hagree c).1]
    · refine Eq.trans (b := Cert.Ad37Ref.D (m' ((c.tc : Thread Cert.Reference37Ideal.nD Cert.Reference37Ideal.τ).loc Cert.Reference37Ideal.main_arg0)) (m' ((c.tc : Thread Cert.Reference37Ideal.nD Cert.Reference37Ideal.τ).loc Cert.Reference37Ideal.main_arg1)) (m' ((c.tc : Thread Cert.Reference37Ideal.nD Cert.Reference37Ideal.τ).loc Cert.Reference37Ideal.main_arg2)) (m' ((c.tc : Thread Cert.Reference37Ideal.nD Cert.Reference37Ideal.τ).loc Cert.Reference37Ideal.main_arg3))) rfl ?_
      rw [(hagree c).1, (hagree c).2.1, (hagree c).2.2.1, (hagree c).2.2.2]
    · refine Eq.trans (b := Cert.Ad37Ref.NM (m' ((c.tc : Thread Cert.Reference37Ideal.nD Cert.Reference37Ideal.τ).loc Cert.Reference37Ideal.main_arg0)) (m' ((c.tc : Thread Cert.Reference37Ideal.nD Cert.Reference37Ideal.τ).loc Cert.Reference37Ideal.main_arg2))) rfl ?_
      rw [(hagree c).1, (hagree c).2.2.1]
    · refine Eq.trans (b := Cert.Ad37Ref.NV (m' ((c.tc : Thread Cert.Reference37Ideal.nD Cert.Reference37Ideal.τ).loc Cert.Reference37Ideal.main_arg0)) (m' ((c.tc : Thread Cert.Reference37Ideal.nD Cert.Reference37Ideal.τ).loc Cert.Reference37Ideal.main_arg3))) rfl ?_
      rw [(hagree c).1, (hagree c).2.2.2]

/-- The frame of the reference of the optimiser's step on gdn_conv. -/
theorem frame_reference38 [h : Cert.Reference38Ideal.Facts] : Cert.quiescent_Reference38Ideal := by
  intro m ρ _
  exact (θ_run Cert.Reference38Ideal.defs _ _).mono (fun r h => ⟨fun c => (h c).2.2.2.2, sem_eq_zero_of_no_sems (by decide) r.2⟩)
    (Cert.Reference38Ideal.Value.run (F := Ideal) m ρ)

/-- The optimiser's step on gdn_conv: the kernel's results are the reference's. -/
theorem algebraic38 [hK : Cert.Kernel38Ideal.Facts] [hR : Cert.Reference38Ideal.Facts] : Cert.algebraic_Kernel38Ideal_Reference38Ideal := by
  intro m g m' g' _ hagree
  refine ⟨fun c => Cert.Ad38Ref.G (Cert.Ad38Value.argP m c),
    fun c => Cert.Ad38Ref.D (Cert.Ad38Value.argP m c) (Cert.Ad38Value.argW m c) (Cert.Ad38Value.argM m c) (Cert.Ad38Value.argV m c),
    fun c => Cert.Ad38Ref.NM (Cert.Ad38Value.argP m c) (Cert.Ad38Value.argM m c),
    fun c => Cert.Ad38Ref.NV (Cert.Ad38Value.argP m c) (Cert.Ad38Value.argV m c), ?_, ?_⟩
  · exact (θ_run Cert.Kernel38Ideal.defs _ _).mono (fun r h c => ⟨(h c).1.trans (Cert.Ad38Value.final4 m c), (h c).2.1.trans (Cert.Ad38Value.final5 m c), (h c).2.2.1.trans (Cert.Ad38Value.final6 m c), (h c).2.2.2.1.trans (Cert.Ad38Value.final7 m c), (h c).2.2.2.2⟩)
      (Cert.Kernel38Ideal.Value.run_blocks (F := Ideal) m g)
  · refine (θ_run Cert.Reference38Ideal.defs _ _).mono (fun r h c => ⟨(h c).1.trans ?_, (h c).2.1.trans ?_, (h c).2.2.1.trans ?_, (h c).2.2.2.1.trans ?_, (h c).2.2.2.2⟩) (Cert.Reference38Ideal.Value.run (F := Ideal) m' g')
    · refine Eq.trans (b := Cert.Ad38Ref.G (m' ((c.tc : Thread Cert.Reference38Ideal.nD Cert.Reference38Ideal.τ).loc Cert.Reference38Ideal.main_arg0))) rfl ?_
      rw [(hagree c).1]
    · refine Eq.trans (b := Cert.Ad38Ref.D (m' ((c.tc : Thread Cert.Reference38Ideal.nD Cert.Reference38Ideal.τ).loc Cert.Reference38Ideal.main_arg0)) (m' ((c.tc : Thread Cert.Reference38Ideal.nD Cert.Reference38Ideal.τ).loc Cert.Reference38Ideal.main_arg1)) (m' ((c.tc : Thread Cert.Reference38Ideal.nD Cert.Reference38Ideal.τ).loc Cert.Reference38Ideal.main_arg2)) (m' ((c.tc : Thread Cert.Reference38Ideal.nD Cert.Reference38Ideal.τ).loc Cert.Reference38Ideal.main_arg3))) rfl ?_
      rw [(hagree c).1, (hagree c).2.1, (hagree c).2.2.1, (hagree c).2.2.2]
    · refine Eq.trans (b := Cert.Ad38Ref.NM (m' ((c.tc : Thread Cert.Reference38Ideal.nD Cert.Reference38Ideal.τ).loc Cert.Reference38Ideal.main_arg0)) (m' ((c.tc : Thread Cert.Reference38Ideal.nD Cert.Reference38Ideal.τ).loc Cert.Reference38Ideal.main_arg2))) rfl ?_
      rw [(hagree c).1, (hagree c).2.2.1]
    · refine Eq.trans (b := Cert.Ad38Ref.NV (m' ((c.tc : Thread Cert.Reference38Ideal.nD Cert.Reference38Ideal.τ).loc Cert.Reference38Ideal.main_arg0)) (m' ((c.tc : Thread Cert.Reference38Ideal.nD Cert.Reference38Ideal.τ).loc Cert.Reference38Ideal.main_arg3))) rfl ?_
      rw [(hagree c).1, (hagree c).2.2.2]

/-- The frame of the reference of the optimiser's step on mem_w_kv. -/
theorem frame_reference39 [h : Cert.Reference39Ideal.Facts] : Cert.quiescent_Reference39Ideal := by
  intro m ρ _
  exact (θ_run Cert.Reference39Ideal.defs _ _).mono (fun r h => ⟨fun c => (h c).2.2.2.2, sem_eq_zero_of_no_sems (by decide) r.2⟩)
    (Cert.Reference39Ideal.Value.run (F := Ideal) m ρ)

/-- The optimiser's step on mem_w_kv: the kernel's results are the reference's. -/
theorem algebraic39 [hK : Cert.Kernel39Ideal.Facts] [hR : Cert.Reference39Ideal.Facts] : Cert.algebraic_Kernel39Ideal_Reference39Ideal := by
  intro m g m' g' _ hagree
  refine ⟨fun c => Cert.Ad39Ref.G (Cert.Ad39Value.argP m c),
    fun c => Cert.Ad39Ref.D (Cert.Ad39Value.argP m c) (Cert.Ad39Value.argW m c) (Cert.Ad39Value.argM m c) (Cert.Ad39Value.argV m c),
    fun c => Cert.Ad39Ref.NM (Cert.Ad39Value.argP m c) (Cert.Ad39Value.argM m c),
    fun c => Cert.Ad39Ref.NV (Cert.Ad39Value.argP m c) (Cert.Ad39Value.argV m c), ?_, ?_⟩
  · exact (θ_run Cert.Kernel39Ideal.defs _ _).mono (fun r h c => ⟨(h c).1.trans (Cert.Ad39Value.final4 m c), (h c).2.1.trans (Cert.Ad39Value.final5 m c), (h c).2.2.1.trans (Cert.Ad39Value.final6 m c), (h c).2.2.2.1.trans (Cert.Ad39Value.final7 m c), (h c).2.2.2.2⟩)
      (Cert.Kernel39Ideal.Value.run_blocks (F := Ideal) m g)
  · refine (θ_run Cert.Reference39Ideal.defs _ _).mono (fun r h c => ⟨(h c).1.trans ?_, (h c).2.1.trans ?_, (h c).2.2.1.trans ?_, (h c).2.2.2.1.trans ?_, (h c).2.2.2.2⟩) (Cert.Reference39Ideal.Value.run (F := Ideal) m' g')
    · refine Eq.trans (b := Cert.Ad39Ref.G (m' ((c.tc : Thread Cert.Reference39Ideal.nD Cert.Reference39Ideal.τ).loc Cert.Reference39Ideal.main_arg0))) rfl ?_
      rw [(hagree c).1]
    · refine Eq.trans (b := Cert.Ad39Ref.D (m' ((c.tc : Thread Cert.Reference39Ideal.nD Cert.Reference39Ideal.τ).loc Cert.Reference39Ideal.main_arg0)) (m' ((c.tc : Thread Cert.Reference39Ideal.nD Cert.Reference39Ideal.τ).loc Cert.Reference39Ideal.main_arg1)) (m' ((c.tc : Thread Cert.Reference39Ideal.nD Cert.Reference39Ideal.τ).loc Cert.Reference39Ideal.main_arg2)) (m' ((c.tc : Thread Cert.Reference39Ideal.nD Cert.Reference39Ideal.τ).loc Cert.Reference39Ideal.main_arg3))) rfl ?_
      rw [(hagree c).1, (hagree c).2.1, (hagree c).2.2.1, (hagree c).2.2.2]
    · refine Eq.trans (b := Cert.Ad39Ref.NM (m' ((c.tc : Thread Cert.Reference39Ideal.nD Cert.Reference39Ideal.τ).loc Cert.Reference39Ideal.main_arg0)) (m' ((c.tc : Thread Cert.Reference39Ideal.nD Cert.Reference39Ideal.τ).loc Cert.Reference39Ideal.main_arg2))) rfl ?_
      rw [(hagree c).1, (hagree c).2.2.1]
    · refine Eq.trans (b := Cert.Ad39Ref.NV (m' ((c.tc : Thread Cert.Reference39Ideal.nD Cert.Reference39Ideal.τ).loc Cert.Reference39Ideal.main_arg0)) (m' ((c.tc : Thread Cert.Reference39Ideal.nD Cert.Reference39Ideal.τ).loc Cert.Reference39Ideal.main_arg3))) rfl ?_
      rw [(hagree c).1, (hagree c).2.2.2]

/-- The frame of the reference of the optimiser's step on w_out. -/
theorem frame_reference40 [h : Cert.Reference40Ideal.Facts] : Cert.quiescent_Reference40Ideal := by
  intro m ρ _
  exact (θ_run Cert.Reference40Ideal.defs _ _).mono (fun r h => ⟨fun c => (h c).2.2.2.2, sem_eq_zero_of_no_sems (by decide) r.2⟩)
    (Cert.Reference40Ideal.Value.run (F := Ideal) m ρ)

/-- The optimiser's step on w_out: the kernel's results are the reference's. -/
theorem algebraic40 [hK : Cert.Kernel40Ideal.Facts] [hR : Cert.Reference40Ideal.Facts] : Cert.algebraic_Kernel40Ideal_Reference40Ideal := by
  intro m g m' g' _ hagree
  refine ⟨fun c => Cert.Ad40Ref.G (Cert.Ad40Value.argP m c),
    fun c => Cert.Ad40Ref.D (Cert.Ad40Value.argP m c) (Cert.Ad40Value.argW m c) (Cert.Ad40Value.argM m c) (Cert.Ad40Value.argV m c),
    fun c => Cert.Ad40Ref.NM (Cert.Ad40Value.argP m c) (Cert.Ad40Value.argM m c),
    fun c => Cert.Ad40Ref.NV (Cert.Ad40Value.argP m c) (Cert.Ad40Value.argV m c), ?_, ?_⟩
  · exact (θ_run Cert.Kernel40Ideal.defs _ _).mono (fun r h c => ⟨(h c).1.trans (Cert.Ad40Value.final4 m c), (h c).2.1.trans (Cert.Ad40Value.final5 m c), (h c).2.2.1.trans (Cert.Ad40Value.final6 m c), (h c).2.2.2.1.trans (Cert.Ad40Value.final7 m c), (h c).2.2.2.2⟩)
      (Cert.Kernel40Ideal.Value.run_blocks (F := Ideal) m g)
  · refine (θ_run Cert.Reference40Ideal.defs _ _).mono (fun r h c => ⟨(h c).1.trans ?_, (h c).2.1.trans ?_, (h c).2.2.1.trans ?_, (h c).2.2.2.1.trans ?_, (h c).2.2.2.2⟩) (Cert.Reference40Ideal.Value.run (F := Ideal) m' g')
    · refine Eq.trans (b := Cert.Ad40Ref.G (m' ((c.tc : Thread Cert.Reference40Ideal.nD Cert.Reference40Ideal.τ).loc Cert.Reference40Ideal.main_arg0))) rfl ?_
      rw [(hagree c).1]
    · refine Eq.trans (b := Cert.Ad40Ref.D (m' ((c.tc : Thread Cert.Reference40Ideal.nD Cert.Reference40Ideal.τ).loc Cert.Reference40Ideal.main_arg0)) (m' ((c.tc : Thread Cert.Reference40Ideal.nD Cert.Reference40Ideal.τ).loc Cert.Reference40Ideal.main_arg1)) (m' ((c.tc : Thread Cert.Reference40Ideal.nD Cert.Reference40Ideal.τ).loc Cert.Reference40Ideal.main_arg2)) (m' ((c.tc : Thread Cert.Reference40Ideal.nD Cert.Reference40Ideal.τ).loc Cert.Reference40Ideal.main_arg3))) rfl ?_
      rw [(hagree c).1, (hagree c).2.1, (hagree c).2.2.1, (hagree c).2.2.2]
    · refine Eq.trans (b := Cert.Ad40Ref.NM (m' ((c.tc : Thread Cert.Reference40Ideal.nD Cert.Reference40Ideal.τ).loc Cert.Reference40Ideal.main_arg0)) (m' ((c.tc : Thread Cert.Reference40Ideal.nD Cert.Reference40Ideal.τ).loc Cert.Reference40Ideal.main_arg2))) rfl ?_
      rw [(hagree c).1, (hagree c).2.2.1]
    · refine Eq.trans (b := Cert.Ad40Ref.NV (m' ((c.tc : Thread Cert.Reference40Ideal.nD Cert.Reference40Ideal.τ).loc Cert.Reference40Ideal.main_arg0)) (m' ((c.tc : Thread Cert.Reference40Ideal.nD Cert.Reference40Ideal.τ).loc Cert.Reference40Ideal.main_arg3))) rfl ?_
      rw [(hagree c).1, (hagree c).2.2.2]

/-- The frame of the reference of the optimiser's step on mlp_w1. -/
theorem frame_reference41 [h : Cert.Reference41Ideal.Facts] : Cert.quiescent_Reference41Ideal := by
  intro m ρ _
  exact (θ_run Cert.Reference41Ideal.defs _ _).mono (fun r h => ⟨fun c => (h c).2.2.2.2, sem_eq_zero_of_no_sems (by decide) r.2⟩)
    (Cert.Reference41Ideal.Value.run (F := Ideal) m ρ)

/-- The optimiser's step on mlp_w1: the kernel's results are the reference's. -/
theorem algebraic41 [hK : Cert.Kernel41Ideal.Facts] [hR : Cert.Reference41Ideal.Facts] : Cert.algebraic_Kernel41Ideal_Reference41Ideal := by
  intro m g m' g' _ hagree
  refine ⟨fun c => Cert.Ad41Ref.G (Cert.Ad41Value.argP m c),
    fun c => Cert.Ad41Ref.D (Cert.Ad41Value.argP m c) (Cert.Ad41Value.argW m c) (Cert.Ad41Value.argM m c) (Cert.Ad41Value.argV m c),
    fun c => Cert.Ad41Ref.NM (Cert.Ad41Value.argP m c) (Cert.Ad41Value.argM m c),
    fun c => Cert.Ad41Ref.NV (Cert.Ad41Value.argP m c) (Cert.Ad41Value.argV m c), ?_, ?_⟩
  · exact (θ_run Cert.Kernel41Ideal.defs _ _).mono (fun r h c => ⟨(h c).1.trans (Cert.Ad41Value.final4 m c), (h c).2.1.trans (Cert.Ad41Value.final5 m c), (h c).2.2.1.trans (Cert.Ad41Value.final6 m c), (h c).2.2.2.1.trans (Cert.Ad41Value.final7 m c), (h c).2.2.2.2⟩)
      (Cert.Kernel41Ideal.Value.run_blocks (F := Ideal) m g)
  · refine (θ_run Cert.Reference41Ideal.defs _ _).mono (fun r h c => ⟨(h c).1.trans ?_, (h c).2.1.trans ?_, (h c).2.2.1.trans ?_, (h c).2.2.2.1.trans ?_, (h c).2.2.2.2⟩) (Cert.Reference41Ideal.Value.run (F := Ideal) m' g')
    · refine Eq.trans (b := Cert.Ad41Ref.G (m' ((c.tc : Thread Cert.Reference41Ideal.nD Cert.Reference41Ideal.τ).loc Cert.Reference41Ideal.main_arg0))) rfl ?_
      rw [(hagree c).1]
    · refine Eq.trans (b := Cert.Ad41Ref.D (m' ((c.tc : Thread Cert.Reference41Ideal.nD Cert.Reference41Ideal.τ).loc Cert.Reference41Ideal.main_arg0)) (m' ((c.tc : Thread Cert.Reference41Ideal.nD Cert.Reference41Ideal.τ).loc Cert.Reference41Ideal.main_arg1)) (m' ((c.tc : Thread Cert.Reference41Ideal.nD Cert.Reference41Ideal.τ).loc Cert.Reference41Ideal.main_arg2)) (m' ((c.tc : Thread Cert.Reference41Ideal.nD Cert.Reference41Ideal.τ).loc Cert.Reference41Ideal.main_arg3))) rfl ?_
      rw [(hagree c).1, (hagree c).2.1, (hagree c).2.2.1, (hagree c).2.2.2]
    · refine Eq.trans (b := Cert.Ad41Ref.NM (m' ((c.tc : Thread Cert.Reference41Ideal.nD Cert.Reference41Ideal.τ).loc Cert.Reference41Ideal.main_arg0)) (m' ((c.tc : Thread Cert.Reference41Ideal.nD Cert.Reference41Ideal.τ).loc Cert.Reference41Ideal.main_arg2))) rfl ?_
      rw [(hagree c).1, (hagree c).2.2.1]
    · refine Eq.trans (b := Cert.Ad41Ref.NV (m' ((c.tc : Thread Cert.Reference41Ideal.nD Cert.Reference41Ideal.τ).loc Cert.Reference41Ideal.main_arg0)) (m' ((c.tc : Thread Cert.Reference41Ideal.nD Cert.Reference41Ideal.τ).loc Cert.Reference41Ideal.main_arg3))) rfl ?_
      rw [(hagree c).1, (hagree c).2.2.2]

/-- The frame of the reference of the optimiser's step on mlp_w2. -/
theorem frame_reference42 [h : Cert.Reference42Ideal.Facts] : Cert.quiescent_Reference42Ideal := by
  intro m ρ _
  exact (θ_run Cert.Reference42Ideal.defs _ _).mono (fun r h => ⟨fun c => (h c).2.2.2.2, sem_eq_zero_of_no_sems (by decide) r.2⟩)
    (Cert.Reference42Ideal.Value.run (F := Ideal) m ρ)

/-- The optimiser's step on mlp_w2: the kernel's results are the reference's. -/
theorem algebraic42 [hK : Cert.Kernel42Ideal.Facts] [hR : Cert.Reference42Ideal.Facts] : Cert.algebraic_Kernel42Ideal_Reference42Ideal := by
  intro m g m' g' _ hagree
  refine ⟨fun c => Cert.Ad42Ref.G (Cert.Ad42Value.argP m c),
    fun c => Cert.Ad42Ref.D (Cert.Ad42Value.argP m c) (Cert.Ad42Value.argW m c) (Cert.Ad42Value.argM m c) (Cert.Ad42Value.argV m c),
    fun c => Cert.Ad42Ref.NM (Cert.Ad42Value.argP m c) (Cert.Ad42Value.argM m c),
    fun c => Cert.Ad42Ref.NV (Cert.Ad42Value.argP m c) (Cert.Ad42Value.argV m c), ?_, ?_⟩
  · exact (θ_run Cert.Kernel42Ideal.defs _ _).mono (fun r h c => ⟨(h c).1.trans (Cert.Ad42Value.final4 m c), (h c).2.1.trans (Cert.Ad42Value.final5 m c), (h c).2.2.1.trans (Cert.Ad42Value.final6 m c), (h c).2.2.2.1.trans (Cert.Ad42Value.final7 m c), (h c).2.2.2.2⟩)
      (Cert.Kernel42Ideal.Value.run_blocks (F := Ideal) m g)
  · refine (θ_run Cert.Reference42Ideal.defs _ _).mono (fun r h c => ⟨(h c).1.trans ?_, (h c).2.1.trans ?_, (h c).2.2.1.trans ?_, (h c).2.2.2.1.trans ?_, (h c).2.2.2.2⟩) (Cert.Reference42Ideal.Value.run (F := Ideal) m' g')
    · refine Eq.trans (b := Cert.Ad42Ref.G (m' ((c.tc : Thread Cert.Reference42Ideal.nD Cert.Reference42Ideal.τ).loc Cert.Reference42Ideal.main_arg0))) rfl ?_
      rw [(hagree c).1]
    · refine Eq.trans (b := Cert.Ad42Ref.D (m' ((c.tc : Thread Cert.Reference42Ideal.nD Cert.Reference42Ideal.τ).loc Cert.Reference42Ideal.main_arg0)) (m' ((c.tc : Thread Cert.Reference42Ideal.nD Cert.Reference42Ideal.τ).loc Cert.Reference42Ideal.main_arg1)) (m' ((c.tc : Thread Cert.Reference42Ideal.nD Cert.Reference42Ideal.τ).loc Cert.Reference42Ideal.main_arg2)) (m' ((c.tc : Thread Cert.Reference42Ideal.nD Cert.Reference42Ideal.τ).loc Cert.Reference42Ideal.main_arg3))) rfl ?_
      rw [(hagree c).1, (hagree c).2.1, (hagree c).2.2.1, (hagree c).2.2.2]
    · refine Eq.trans (b := Cert.Ad42Ref.NM (m' ((c.tc : Thread Cert.Reference42Ideal.nD Cert.Reference42Ideal.τ).loc Cert.Reference42Ideal.main_arg0)) (m' ((c.tc : Thread Cert.Reference42Ideal.nD Cert.Reference42Ideal.τ).loc Cert.Reference42Ideal.main_arg2))) rfl ?_
      rw [(hagree c).1, (hagree c).2.2.1]
    · refine Eq.trans (b := Cert.Ad42Ref.NV (m' ((c.tc : Thread Cert.Reference42Ideal.nD Cert.Reference42Ideal.τ).loc Cert.Reference42Ideal.main_arg0)) (m' ((c.tc : Thread Cert.Reference42Ideal.nD Cert.Reference42Ideal.τ).loc Cert.Reference42Ideal.main_arg3))) rfl ?_
      rw [(hagree c).1, (hagree c).2.2.2]

/-- The frame of the reference of the optimiser's step on small weights. -/
theorem frame_reference43 [h : Cert.Reference43Ideal.Facts] : Cert.quiescent_Reference43Ideal := by
  intro m ρ _
  exact (θ_run Cert.Reference43Ideal.defs _ _).mono (fun r h => ⟨fun c => (h c).2.2.2.2, sem_eq_zero_of_no_sems (by decide) r.2⟩)
    (Cert.Reference43Ideal.Value.run (F := Ideal) m ρ)

/-- The optimiser's step on small weights: the kernel's results are the reference's. -/
theorem algebraic43 [hK : Cert.Kernel43Ideal.Facts] [hR : Cert.Reference43Ideal.Facts] : Cert.algebraic_Kernel43Ideal_Reference43Ideal := by
  intro m g m' g' _ hagree
  refine ⟨fun c => Cert.Ad43Ref.G (Cert.Ad43Value.argP m c),
    fun c => Cert.Ad43Ref.D (Cert.Ad43Value.argP m c) (Cert.Ad43Value.argW m c) (Cert.Ad43Value.argM m c) (Cert.Ad43Value.argV m c),
    fun c => Cert.Ad43Ref.NM (Cert.Ad43Value.argP m c) (Cert.Ad43Value.argM m c),
    fun c => Cert.Ad43Ref.NV (Cert.Ad43Value.argP m c) (Cert.Ad43Value.argV m c), ?_, ?_⟩
  · exact (θ_run Cert.Kernel43Ideal.defs _ _).mono (fun r h c => ⟨(h c).1.trans (Cert.Ad43Value.final4 m c), (h c).2.1.trans (Cert.Ad43Value.final5 m c), (h c).2.2.1.trans (Cert.Ad43Value.final6 m c), (h c).2.2.2.1.trans (Cert.Ad43Value.final7 m c), (h c).2.2.2.2⟩)
      (Cert.Kernel43Ideal.Value.run_blocks (F := Ideal) m g)
  · refine (θ_run Cert.Reference43Ideal.defs _ _).mono (fun r h c => ⟨(h c).1.trans ?_, (h c).2.1.trans ?_, (h c).2.2.1.trans ?_, (h c).2.2.2.1.trans ?_, (h c).2.2.2.2⟩) (Cert.Reference43Ideal.Value.run (F := Ideal) m' g')
    · refine Eq.trans (b := Cert.Ad43Ref.G (m' ((c.tc : Thread Cert.Reference43Ideal.nD Cert.Reference43Ideal.τ).loc Cert.Reference43Ideal.main_arg0))) rfl ?_
      rw [(hagree c).1]
    · refine Eq.trans (b := Cert.Ad43Ref.D (m' ((c.tc : Thread Cert.Reference43Ideal.nD Cert.Reference43Ideal.τ).loc Cert.Reference43Ideal.main_arg0)) (m' ((c.tc : Thread Cert.Reference43Ideal.nD Cert.Reference43Ideal.τ).loc Cert.Reference43Ideal.main_arg1)) (m' ((c.tc : Thread Cert.Reference43Ideal.nD Cert.Reference43Ideal.τ).loc Cert.Reference43Ideal.main_arg2)) (m' ((c.tc : Thread Cert.Reference43Ideal.nD Cert.Reference43Ideal.τ).loc Cert.Reference43Ideal.main_arg3))) rfl ?_
      rw [(hagree c).1, (hagree c).2.1, (hagree c).2.2.1, (hagree c).2.2.2]
    · refine Eq.trans (b := Cert.Ad43Ref.NM (m' ((c.tc : Thread Cert.Reference43Ideal.nD Cert.Reference43Ideal.τ).loc Cert.Reference43Ideal.main_arg0)) (m' ((c.tc : Thread Cert.Reference43Ideal.nD Cert.Reference43Ideal.τ).loc Cert.Reference43Ideal.main_arg2))) rfl ?_
      rw [(hagree c).1, (hagree c).2.2.1]
    · refine Eq.trans (b := Cert.Ad43Ref.NV (m' ((c.tc : Thread Cert.Reference43Ideal.nD Cert.Reference43Ideal.τ).loc Cert.Reference43Ideal.main_arg0)) (m' ((c.tc : Thread Cert.Reference43Ideal.nD Cert.Reference43Ideal.τ).loc Cert.Reference43Ideal.main_arg3))) rfl ?_
      rw [(hagree c).1, (hagree c).2.2.2]

/-- The frame of the reference of the loss head. -/
theorem frame_reference33 [h : Cert.Reference33Ideal.Facts] : Cert.quiescent_Reference33Ideal := by
  intro m ρ _
  exact (θ_run Cert.Reference33Ideal.defs _ _).mono (fun r h => ⟨fun c => (h c).2.2, sem_eq_zero_of_no_sems (by decide) r.2⟩)
    (Cert.Reference33Ideal.Value.run (F := Ideal) m ρ)

/-- The loss head: the kernel's results are the reference's. -/
theorem algebraic33 [hK : Cert.Kernel33Ideal.Facts] [hR : Cert.Reference33Ideal.Facts] : Cert.algebraic_Kernel33Ideal_Reference33Ideal := by
  intro m g m' g' _ hagree
  refine ⟨fun c => Cert.LossRef.O0 (Cert.LossValue.argY m c) (Cert.LossValue.argT m c),
    fun c => Cert.LossRef.O1 (Cert.LossValue.argY m c) (Cert.LossValue.argT m c), ?_, ?_⟩
  · exact (θ_run Cert.Kernel33Ideal.defs _ _).mono (fun r h c => ⟨(h c).1.trans (Cert.LossValue.final2 m c), (h c).2.1.trans (Cert.LossValue.final3 m c), (h c).2.2⟩)
      (Cert.Kernel33Ideal.Value.run_blocks (F := Ideal) m g)
  · refine (θ_run Cert.Reference33Ideal.defs _ _).mono (fun r h c => ⟨(h c).1.trans ?_, (h c).2.1.trans ?_, (h c).2.2⟩) (Cert.Reference33Ideal.Value.run (F := Ideal) m' g')
    · refine Eq.trans (b := Cert.LossRef.O0 (m' ((c.tc : Thread Cert.Reference33Ideal.nD Cert.Reference33Ideal.τ).loc Cert.Reference33Ideal.main_arg0)) (m' ((c.tc : Thread Cert.Reference33Ideal.nD Cert.Reference33Ideal.τ).loc Cert.Reference33Ideal.main_arg1))) rfl ?_
      rw [(hagree c).1, (hagree c).2]
    · refine Eq.trans (b := Cert.LossRef.O1 (m' ((c.tc : Thread Cert.Reference33Ideal.nD Cert.Reference33Ideal.τ).loc Cert.Reference33Ideal.main_arg0)) (m' ((c.tc : Thread Cert.Reference33Ideal.nD Cert.Reference33Ideal.τ).loc Cert.Reference33Ideal.main_arg1))) rfl ?_
      rw [(hagree c).1, (hagree c).2]

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel34.Gen.facts, Cert.Kernel34Ideal.Gen.facts, Cert.Reference34Ideal.Gen.facts, Cert.Kernel35.Gen.facts, Cert.Kernel35Ideal.Gen.facts, Cert.Reference35Ideal.Gen.facts, Cert.Kernel36.Gen.facts, Cert.Kernel36Ideal.Gen.facts, Cert.Reference36Ideal.Gen.facts, Cert.Kernel37.Gen.facts, Cert.Kernel37Ideal.Gen.facts, Cert.Reference37Ideal.Gen.facts, Cert.Kernel38.Gen.facts, Cert.Kernel38Ideal.Gen.facts, Cert.Reference38Ideal.Gen.facts, Cert.Kernel39.Gen.facts, Cert.Kernel39Ideal.Gen.facts, Cert.Reference39Ideal.Gen.facts, Cert.Kernel40.Gen.facts, Cert.Kernel40Ideal.Gen.facts, Cert.Reference40Ideal.Gen.facts, Cert.Kernel41.Gen.facts, Cert.Kernel41Ideal.Gen.facts, Cert.Reference41Ideal.Gen.facts, Cert.Kernel42.Gen.facts, Cert.Kernel42Ideal.Gen.facts, Cert.Reference42Ideal.Gen.facts, Cert.Kernel43.Gen.facts, Cert.Kernel43Ideal.Gen.facts, Cert.Reference43Ideal.Gen.facts, Cert.Kernel33.Gen.facts, Cert.Kernel33Ideal.Gen.facts, Cert.Reference33Ideal.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, frame_reference15,
  fun m ρ _ => Cert.Kernel16.Gen.frame m ρ, fun m ρ _ => Cert.Kernel16Ideal.Gen.frame m ρ, frame_reference16,
  fun m ρ _ => Cert.Kernel17.Gen.frame m ρ, fun m ρ _ => Cert.Kernel17Ideal.Gen.frame m ρ, frame_reference17,
  fun m ρ _ => Cert.Kernel18.Gen.frame m ρ, fun m ρ _ => Cert.Kernel18Ideal.Gen.frame m ρ, frame_reference18,
  fun m ρ _ => Cert.Kernel19.Gen.frame m ρ, fun m ρ _ => Cert.Kernel19Ideal.Gen.frame m ρ, frame_reference19,
  fun m ρ _ => Cert.Kernel20.Gen.frame m ρ, fun m ρ _ => Cert.Kernel20Ideal.Gen.frame m ρ, frame_reference20,
  fun m ρ _ => Cert.Kernel21.Gen.frame m ρ, fun m ρ _ => Cert.Kernel21Ideal.Gen.frame m ρ, frame_reference21,
  fun m ρ _ => Cert.Kernel22.Gen.frame m ρ, fun m ρ _ => Cert.Kernel22Ideal.Gen.frame m ρ, frame_reference22,
  fun m ρ _ => Cert.Kernel23.Gen.frame m ρ, fun m ρ _ => Cert.Kernel23Ideal.Gen.frame m ρ, frame_reference23,
  fun m ρ _ => Cert.Kernel24.Gen.frame m ρ, fun m ρ _ => Cert.Kernel24Ideal.Gen.frame m ρ, frame_reference24,
  fun m ρ _ => Cert.Kernel25.Gen.frame m ρ, fun m ρ _ => Cert.Kernel25Ideal.Gen.frame m ρ, frame_reference25,
  fun m ρ _ => Cert.Kernel26.Gen.frame m ρ, fun m ρ _ => Cert.Kernel26Ideal.Gen.frame m ρ, frame_reference26,
  fun m ρ _ => Cert.Kernel27.Gen.frame m ρ, fun m ρ _ => Cert.Kernel27Ideal.Gen.frame m ρ, frame_reference27,
  fun m ρ _ => Cert.Kernel28.Gen.frame m ρ, fun m ρ _ => Cert.Kernel28Ideal.Gen.frame m ρ, frame_reference28,
  fun m ρ _ => Cert.Kernel29.Gen.frame m ρ, fun m ρ _ => Cert.Kernel29Ideal.Gen.frame m ρ, frame_reference29,
  fun m ρ _ => Cert.Kernel30.Gen.frame m ρ, fun m ρ _ => Cert.Kernel30Ideal.Gen.frame m ρ, frame_reference30,
  fun m ρ _ => Cert.Kernel31.Gen.frame m ρ, fun m ρ _ => Cert.Kernel31Ideal.Gen.frame m ρ, frame_reference31,
  fun m ρ _ => Cert.Kernel32.Gen.frame m ρ, fun m ρ _ => Cert.Kernel32Ideal.Gen.frame m ρ, frame_reference32,
  fun m ρ _ => Cert.Kernel34.Gen.frame m ρ, fun m ρ _ => Cert.Kernel34Ideal.Gen.frame m ρ, frame_reference34,
  fun m ρ _ => Cert.Kernel35.Gen.frame m ρ, fun m ρ _ => Cert.Kernel35Ideal.Gen.frame m ρ, frame_reference35,
  fun m ρ _ => Cert.Kernel36.Gen.frame m ρ, fun m ρ _ => Cert.Kernel36Ideal.Gen.frame m ρ, frame_reference36,
  fun m ρ _ => Cert.Kernel37.Gen.frame m ρ, fun m ρ _ => Cert.Kernel37Ideal.Gen.frame m ρ, frame_reference37,
  fun m ρ _ => Cert.Kernel38.Gen.frame m ρ, fun m ρ _ => Cert.Kernel38Ideal.Gen.frame m ρ, frame_reference38,
  fun m ρ _ => Cert.Kernel39.Gen.frame m ρ, fun m ρ _ => Cert.Kernel39Ideal.Gen.frame m ρ, frame_reference39,
  fun m ρ _ => Cert.Kernel40.Gen.frame m ρ, fun m ρ _ => Cert.Kernel40Ideal.Gen.frame m ρ, frame_reference40,
  fun m ρ _ => Cert.Kernel41.Gen.frame m ρ, fun m ρ _ => Cert.Kernel41Ideal.Gen.frame m ρ, frame_reference41,
  fun m ρ _ => Cert.Kernel42.Gen.frame m ρ, fun m ρ _ => Cert.Kernel42Ideal.Gen.frame m ρ, frame_reference42,
  fun m ρ _ => Cert.Kernel43.Gen.frame m ρ, fun m ρ _ => Cert.Kernel43Ideal.Gen.frame m ρ, frame_reference43,
  fun m ρ _ => Cert.Kernel33.Gen.frame m ρ, fun m ρ _ => Cert.Kernel33Ideal.Gen.frame m ρ, frame_reference33,
  trivial, algebraic, trivial, algebraic2, trivial, algebraic3, trivial, algebraic4, trivial, algebraic5, trivial, algebraic6, trivial, algebraic7, trivial, algebraic8, trivial, algebraic9, trivial, algebraic10, trivial, algebraic11, trivial, algebraic12, trivial, algebraic13, trivial, algebraic14, trivial, algebraic15, trivial, algebraic16, trivial, algebraic17, trivial, algebraic18, trivial, algebraic19, trivial, algebraic20, trivial, algebraic21, trivial, algebraic22, trivial, algebraic23, trivial, algebraic24, trivial, algebraic25, trivial, algebraic26, trivial, algebraic27, trivial, algebraic28, trivial, algebraic29, trivial, algebraic30, trivial, algebraic31, trivial, algebraic32, trivial, algebraic34, trivial, algebraic35, trivial, algebraic36, trivial, algebraic37, trivial, algebraic38, trivial, algebraic39, trivial, algebraic40, trivial, algebraic41, trivial, algebraic42, trivial, algebraic43, trivial, algebraic33⟩

end Cert.Proof
